-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_SguInDw (m : (ℓ : Loc Cert.SguInDw.nD Cert.SguInDw.τ Cert.SguInDw.sig) → Buf (Elt Bits) ℓ) : Prop :=
  True

def Pre_SguInDwIdeal (m : (ℓ : Loc Cert.SguInDwIdeal.nD Cert.SguInDwIdeal.τ Cert.SguInDwIdeal.sig) → Buf (Elt Ideal) ℓ) : Prop :=
  True

def Pre_SguInDwRefIdeal (m : (ℓ : Loc Cert.SguInDwRefIdeal.nD Cert.SguInDwRefIdeal.τ Cert.SguInDwRefIdeal.sig) → Buf (Elt Ideal) ℓ) : Prop :=
  True

def Pre_SguInDx (m : (ℓ : Loc Cert.SguInDx.nD Cert.SguInDx.τ Cert.SguInDx.sig) → Buf (Elt Bits) ℓ) : Prop :=
  True

def Pre_SguInDxIdeal (m : (ℓ : Loc Cert.SguInDxIdeal.nD Cert.SguInDxIdeal.τ Cert.SguInDxIdeal.sig) → Buf (Elt Ideal) ℓ) : Prop :=
  True

def Pre_SguInDxRefIdeal (m : (ℓ : Loc Cert.SguInDxRefIdeal.nD Cert.SguInDxRefIdeal.τ Cert.SguInDxRefIdeal.sig) → Buf (Elt Ideal) ℓ) : Prop :=
  True

def Pre_SguOutDw (m : (ℓ : Loc Cert.SguOutDw.nD Cert.SguOutDw.τ Cert.SguOutDw.sig) → Buf (Elt Bits) ℓ) : Prop :=
  True

def Pre_SguOutDwIdeal (m : (ℓ : Loc Cert.SguOutDwIdeal.nD Cert.SguOutDwIdeal.τ Cert.SguOutDwIdeal.sig) → Buf (Elt Ideal) ℓ) : Prop :=
  True

def Pre_SguOutDwRefIdeal (m : (ℓ : Loc Cert.SguOutDwRefIdeal.nD Cert.SguOutDwRefIdeal.τ Cert.SguOutDwRefIdeal.sig) → Buf (Elt Ideal) ℓ) : Prop :=
  True

def Pre_SguOutDx (m : (ℓ : Loc Cert.SguOutDx.nD Cert.SguOutDx.τ Cert.SguOutDx.sig) → Buf (Elt Bits) ℓ) : Prop :=
  True

def Pre_SguOutDxIdeal (m : (ℓ : Loc Cert.SguOutDxIdeal.nD Cert.SguOutDxIdeal.τ Cert.SguOutDxIdeal.sig) → Buf (Elt Ideal) ℓ) : Prop :=
  True

def Pre_SguOutDxRefIdeal (m : (ℓ : Loc Cert.SguOutDxRefIdeal.nD Cert.SguOutDxRefIdeal.τ Cert.SguOutDxRefIdeal.sig) → Buf (Elt Ideal) ℓ) : Prop :=
  True

def Pre_ConvInDx (m : (ℓ : Loc Cert.ConvInDx.nD Cert.ConvInDx.τ Cert.ConvInDx.sig) → Buf (Elt Bits) ℓ) : Prop :=
  True

def Pre_ConvInDxIdeal (m : (ℓ : Loc Cert.ConvInDxIdeal.nD Cert.ConvInDxIdeal.τ Cert.ConvInDxIdeal.sig) → Buf (Elt Ideal) ℓ) : Prop :=
  True

def Pre_ConvInDxRefIdeal (m : (ℓ : Loc Cert.ConvInDxRefIdeal.nD Cert.ConvInDxRefIdeal.τ Cert.ConvInDxRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxRefIdeal (m : (ℓ : Loc Cert.QkvDxRefIdeal.nD Cert.QkvDxRefIdeal.τ Cert.QkvDxRefIdeal.sig) → Buf (Elt Ideal) ℓ) : Prop :=
  True

def Pre_SguIn (m : (ℓ : Loc Cert.SguIn.nD Cert.SguIn.τ Cert.SguIn.sig) → Buf (Elt Bits) ℓ) : Prop :=
  True

def Pre_SguInIdeal (m : (ℓ : Loc Cert.SguInIdeal.nD Cert.SguInIdeal.τ Cert.SguInIdeal.sig) → Buf (Elt Ideal) ℓ) : Prop :=
  True

def Pre_SguInRefIdeal (m : (ℓ : Loc Cert.SguInRefIdeal.nD Cert.SguInRefIdeal.τ Cert.SguInRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_QkvIn (m : (ℓ : Loc Cert.QkvIn.nD Cert.QkvIn.τ Cert.QkvIn.sig) → Buf (Elt Bits) ℓ) : Prop :=
  True

def Pre_QkvInIdeal (m : (ℓ : Loc Cert.QkvInIdeal.nD Cert.QkvInIdeal.τ Cert.QkvInIdeal.sig) → Buf (Elt Ideal) ℓ) : Prop :=
  True

def Pre_QkvInRefIdeal (m : (ℓ : Loc Cert.QkvInRefIdeal.nD Cert.QkvInRefIdeal.τ Cert.QkvInRefIdeal.sig) → Buf (Elt Ideal) ℓ) : Prop :=
  True

def Pre_SguOut (m : (ℓ : Loc Cert.SguOut.nD Cert.SguOut.τ Cert.SguOut.sig) → Buf (Elt Bits) ℓ) : Prop :=
  True

def Pre_SguOutIdeal (m : (ℓ : Loc Cert.SguOutIdeal.nD Cert.SguOutIdeal.τ Cert.SguOutIdeal.sig) → Buf (Elt Ideal) ℓ) : Prop :=
  True

def Pre_SguOutRefIdeal (m : (ℓ : Loc Cert.SguOutRefIdeal.nD Cert.SguOutRefIdeal.τ Cert.SguOutRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_FirstNormBwd (m : (ℓ : Loc Cert.FirstNormBwd.nD Cert.FirstNormBwd.τ Cert.FirstNormBwd.sig) → Buf (Elt Bits) ℓ) : Prop :=
  True

def Pre_FirstNormBwdIdeal (m : (ℓ : Loc Cert.FirstNormBwdIdeal.nD Cert.FirstNormBwdIdeal.τ Cert.FirstNormBwdIdeal.sig) → Buf (Elt Ideal) ℓ) : Prop :=
  True

def Pre_FirstNormBwdRefIdeal (m : (ℓ : Loc Cert.FirstNormBwdRefIdeal.nD Cert.FirstNormBwdRefIdeal.τ Cert.FirstNormBwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_FirstNormFwd (m : (ℓ : Loc Cert.FirstNormFwd.nD Cert.FirstNormFwd.τ Cert.FirstNormFwd.sig) → Buf (Elt Bits) ℓ) : Prop :=
  True

def Pre_FirstNormFwdIdeal (m : (ℓ : Loc Cert.FirstNormFwdIdeal.nD Cert.FirstNormFwdIdeal.τ Cert.FirstNormFwdIdeal.sig) → Buf (Elt Ideal) ℓ) : Prop :=
  True

def Pre_FirstNormFwdRefIdeal (m : (ℓ : Loc Cert.FirstNormFwdRefIdeal.nD Cert.FirstNormFwdRefIdeal.τ Cert.FirstNormFwdRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossRefIdeal (m : (ℓ : Loc Cert.FinalLossRefIdeal.nD Cert.FinalLossRefIdeal.τ Cert.FinalLossRefIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamQkv (m : (ℓ : Loc Cert.AdamQkv.nD Cert.AdamQkv.τ Cert.AdamQkv.sig) → Buf (Elt Bits) ℓ) : Prop :=
  True

def Pre_AdamQkvIdeal (m : (ℓ : Loc Cert.AdamQkvIdeal.nD Cert.AdamQkvIdeal.τ Cert.AdamQkvIdeal.sig) → Buf (Elt Ideal) ℓ) : Prop :=
  True

def Pre_AdamQkvRefIdeal (m : (ℓ : Loc Cert.AdamQkvRefIdeal.nD Cert.AdamQkvRefIdeal.τ Cert.AdamQkvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamConvIn (m : (ℓ : Loc Cert.AdamConvIn.nD Cert.AdamConvIn.τ Cert.AdamConvIn.sig) → Buf (Elt Bits) ℓ) : Prop :=
  True

def Pre_AdamConvInIdeal (m : (ℓ : Loc Cert.AdamConvInIdeal.nD Cert.AdamConvInIdeal.τ Cert.AdamConvInIdeal.sig) → Buf (Elt Ideal) ℓ) : Prop :=
  True

def Pre_AdamConvInRefIdeal (m : (ℓ : Loc Cert.AdamConvInRefIdeal.nD Cert.AdamConvInRefIdeal.τ Cert.AdamConvInRefIdeal.sig) → Buf (Elt Ideal) ℓ) : Prop :=
  True

def Pre_AdamConvOut (m : (ℓ : Loc Cert.AdamConvOut.nD Cert.AdamConvOut.τ Cert.AdamConvOut.sig) → Buf (Elt Bits) ℓ) : Prop :=
  True

def Pre_AdamConvOutIdeal (m : (ℓ : Loc Cert.AdamConvOutIdeal.nD Cert.AdamConvOutIdeal.τ Cert.AdamConvOutIdeal.sig) → Buf (Elt Ideal) ℓ) : Prop :=
  True

def Pre_AdamConvOutRefIdeal (m : (ℓ : Loc Cert.AdamConvOutRefIdeal.nD Cert.AdamConvOutRefIdeal.τ Cert.AdamConvOutRefIdeal.sig) → Buf (Elt Ideal) ℓ) : Prop :=
  True

def Pre_AdamSguIn (m : (ℓ : Loc Cert.AdamSguIn.nD Cert.AdamSguIn.τ Cert.AdamSguIn.sig) → Buf (Elt Bits) ℓ) : Prop :=
  True

def Pre_AdamSguInIdeal (m : (ℓ : Loc Cert.AdamSguInIdeal.nD Cert.AdamSguInIdeal.τ Cert.AdamSguInIdeal.sig) → Buf (Elt Ideal) ℓ) : Prop :=
  True

def Pre_AdamSguInRefIdeal (m : (ℓ : Loc Cert.AdamSguInRefIdeal.nD Cert.AdamSguInRefIdeal.τ Cert.AdamSguInRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumQkv (m : (ℓ : Loc Cert.SumQkv.nD Cert.SumQkv.τ Cert.SumQkv.sig) → Buf (Elt Bits) ℓ) : Prop :=
  True

def Pre_SumQkvIdeal (m : (ℓ : Loc Cert.SumQkvIdeal.nD Cert.SumQkvIdeal.τ Cert.SumQkvIdeal.sig) → Buf (Elt Ideal) ℓ) : Prop :=
  True

def Pre_SumQkvRefIdeal (m : (ℓ : Loc Cert.SumQkvRefIdeal.nD Cert.SumQkvRefIdeal.τ Cert.SumQkvRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumSguOut (m : (ℓ : Loc Cert.SumSguOut.nD Cert.SumSguOut.τ Cert.SumSguOut.sig) → Buf (Elt Bits) ℓ) : Prop :=
  True

def Pre_SumSguOutIdeal (m : (ℓ : Loc Cert.SumSguOutIdeal.nD Cert.SumSguOutIdeal.τ Cert.SumSguOutIdeal.sig) → Buf (Elt Ideal) ℓ) : Prop :=
  True

def Pre_SumSguOutRefIdeal (m : (ℓ : Loc Cert.SumSguOutRefIdeal.nD Cert.SumSguOutRefIdeal.τ Cert.SumSguOutRefIdeal.sig) → Buf (Elt Ideal) ℓ) : Prop :=
  True

def Pre_SumSguIn (m : (ℓ : Loc Cert.SumSguIn.nD Cert.SumSguIn.τ Cert.SumSguIn.sig) → Buf (Elt Bits) ℓ) : Prop :=
  True

def Pre_SumSguInIdeal (m : (ℓ : Loc Cert.SumSguInIdeal.nD Cert.SumSguInIdeal.τ Cert.SumSguInIdeal.sig) → Buf (Elt Ideal) ℓ) : Prop :=
  True

def Pre_SumSguInRefIdeal (m : (ℓ : Loc Cert.SumSguInRefIdeal.nD Cert.SumSguInRefIdeal.τ Cert.SumSguInRefIdeal.sig) → Buf (Elt Ideal) ℓ) : Prop :=
  True

def Pre_SumFfnIn (m : (ℓ : Loc Cert.SumFfnIn.nD Cert.SumFfnIn.τ Cert.SumFfnIn.sig) → Buf (Elt Bits) ℓ) : Prop :=
  True

def Pre_SumFfnInIdeal (m : (ℓ : Loc Cert.SumFfnInIdeal.nD Cert.SumFfnInIdeal.τ Cert.SumFfnInIdeal.sig) → Buf (Elt Ideal) ℓ) : Prop :=
  True

def Pre_SumFfnInRefIdeal (m : (ℓ : Loc Cert.SumFfnInRefIdeal.nD Cert.SumFfnInRefIdeal.τ Cert.SumFfnInRefIdeal.sig) → Buf (Elt Ideal) ℓ) : Prop :=
  True

def Pre_SumFfnOut (m : (ℓ : Loc Cert.SumFfnOut.nD Cert.SumFfnOut.τ Cert.SumFfnOut.sig) → Buf (Elt Bits) ℓ) : Prop :=
  True

def Pre_SumFfnOutIdeal (m : (ℓ : Loc Cert.SumFfnOutIdeal.nD Cert.SumFfnOutIdeal.τ Cert.SumFfnOutIdeal.sig) → Buf (Elt Ideal) ℓ) : Prop :=
  True

def Pre_SumFfnOutRefIdeal (m : (ℓ : Loc Cert.SumFfnOutRefIdeal.nD Cert.SumFfnOutRefIdeal.τ Cert.SumFfnOutRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumSmallHalf (m : (ℓ : Loc Cert.SumSmallHalf.nD Cert.SumSmallHalf.τ Cert.SumSmallHalf.sig) → Buf (Elt Bits) ℓ) : Prop :=
  True

def Pre_SumSmallHalfIdeal (m : (ℓ : Loc Cert.SumSmallHalfIdeal.nD Cert.SumSmallHalfIdeal.τ Cert.SumSmallHalfIdeal.sig) → Buf (Elt Ideal) ℓ) : Prop :=
  True

def Pre_SumSmallHalfRefIdeal (m : (ℓ : Loc Cert.SumSmallHalfRefIdeal.nD Cert.SumSmallHalfRefIdeal.τ Cert.SumSmallHalfRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1)
      ∧ r.2.mem ((c.tc : Thread Cert.FfnInDw.nD Cert.FfnInDw.τ).loc Cert.FfnInDw.main_arg2) = m ((c.tc : Thread Cert.FfnInDw.nD Cert.FfnInDw.τ).loc Cert.FfnInDw.main_arg2))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1)
      ∧ r.2.mem ((c.tc : Thread Cert.FfnInDwIdeal.nD Cert.FfnInDwIdeal.τ).loc Cert.FfnInDwIdeal.main_arg2) = m ((c.tc : Thread Cert.FfnInDwIdeal.nD Cert.FfnInDwIdeal.τ).loc Cert.FfnInDwIdeal.main_arg2))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1)
      ∧ r.2.mem ((c.tc : Thread Cert.FfnInDwRefIdeal.nD Cert.FfnInDwRefIdeal.τ).loc Cert.FfnInDwRefIdeal.main_arg2) = m ((c.tc : Thread Cert.FfnInDwRefIdeal.nD Cert.FfnInDwRefIdeal.τ).loc Cert.FfnInDwRefIdeal.main_arg2))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1))
      ∧ r.2.sem = fun _ => 0)

def quiescent_SguInDw [hSguInDw : Cert.SguInDw.Facts] : Prop :=
  ∀ (m : (ℓ : Loc Cert.SguInDw.nD Cert.SguInDw.τ Cert.SguInDw.sig) → Buf (Elt Bits) ℓ) (g : Dev Cert.SguInDw.nD → PrngReg), Pre_SguInDw m →
    θ_run (Cert.SguInDw.defs (F := Bits)) (onTc (τ := Cert.SguInDw.τ) (Cert.SguInDw.main (F := Bits))) ⟨m, fun _ => 0, g⟩ (fun r => (∀ c : Dev Cert.SguInDw.nD,
      r.2.mem ((c.tc : Thread Cert.SguInDw.nD Cert.SguInDw.τ).loc Cert.SguInDw.main_arg0) = m ((c.tc : Thread Cert.SguInDw.nD Cert.SguInDw.τ).loc Cert.SguInDw.main_arg0)
      ∧ r.2.mem ((c.tc : Thread Cert.SguInDw.nD Cert.SguInDw.τ).loc Cert.SguInDw.main_arg1) = m ((c.tc : Thread Cert.SguInDw.nD Cert.SguInDw.τ).loc Cert.SguInDw.main_arg1))
      ∧ r.2.sem = fun _ => 0)

def quiescent_SguInDwIdeal [hSguInDwIdeal : Cert.SguInDwIdeal.Facts] : Prop :=
  ∀ (m : (ℓ : Loc Cert.SguInDwIdeal.nD Cert.SguInDwIdeal.τ Cert.SguInDwIdeal.sig) → Buf (Elt Ideal) ℓ) (g : Dev Cert.SguInDwIdeal.nD → PrngReg), Pre_SguInDwIdeal m →
    θ_run (Cert.SguInDwIdeal.defs (F := Ideal)) (onTc (τ := Cert.SguInDwIdeal.τ) (Cert.SguInDwIdeal.main (F := Ideal))) ⟨m, fun _ => 0, g⟩ (fun r => (∀ c : Dev Cert.SguInDwIdeal.nD,
      r.2.mem ((c.tc : Thread Cert.SguInDwIdeal.nD Cert.SguInDwIdeal.τ).loc Cert.SguInDwIdeal.main_arg0) = m ((c.tc : Thread Cert.SguInDwIdeal.nD Cert.SguInDwIdeal.τ).loc Cert.SguInDwIdeal.main_arg0)
      ∧ r.2.mem ((c.tc : Thread Cert.SguInDwIdeal.nD Cert.SguInDwIdeal.τ).loc Cert.SguInDwIdeal.main_arg1) = m ((c.tc : Thread Cert.SguInDwIdeal.nD Cert.SguInDwIdeal.τ).loc Cert.SguInDwIdeal.main_arg1))
      ∧ r.2.sem = fun _ => 0)

def quiescent_SguInDwRefIdeal [hSguInDwRefIdeal : Cert.SguInDwRefIdeal.Facts] : Prop :=
  ∀ (m : (ℓ : Loc Cert.SguInDwRefIdeal.nD Cert.SguInDwRefIdeal.τ Cert.SguInDwRefIdeal.sig) → Buf (Elt Ideal) ℓ) (g : Dev Cert.SguInDwRefIdeal.nD → PrngReg), Pre_SguInDwRefIdeal m →
    θ_run (Cert.SguInDwRefIdeal.defs (F := Ideal)) (onTc (τ := Cert.SguInDwRefIdeal.τ) (Cert.SguInDwRefIdeal.main (F := Ideal))) ⟨m, fun _ => 0, g⟩ (fun r => (∀ c : Dev Cert.SguInDwRefIdeal.nD,
      r.2.mem ((c.tc : Thread Cert.SguInDwRefIdeal.nD Cert.SguInDwRefIdeal.τ).loc Cert.SguInDwRefIdeal.main_arg0) = m ((c.tc : Thread Cert.SguInDwRefIdeal.nD Cert.SguInDwRefIdeal.τ).loc Cert.SguInDwRefIdeal.main_arg0)
      ∧ r.2.mem ((c.tc : Thread Cert.SguInDwRefIdeal.nD Cert.SguInDwRefIdeal.τ).loc Cert.SguInDwRefIdeal.main_arg1) = m ((c.tc : Thread Cert.SguInDwRefIdeal.nD Cert.SguInDwRefIdeal.τ).loc Cert.SguInDwRefIdeal.main_arg1))
      ∧ r.2.sem = fun _ => 0)

def quiescent_SguInDx [hSguInDx : Cert.SguInDx.Facts] : Prop :=
  ∀ (m : (ℓ : Loc Cert.SguInDx.nD Cert.SguInDx.τ Cert.SguInDx.sig) → Buf (Elt Bits) ℓ) (g : Dev Cert.SguInDx.nD → PrngReg), Pre_SguInDx m →
    θ_run (Cert.SguInDx.defs (F := Bits)) (onTc (τ := Cert.SguInDx.τ) (Cert.SguInDx.main (F := Bits))) ⟨m, fun _ => 0, g⟩ (fun r => (∀ c : Dev Cert.SguInDx.nD,
      r.2.mem ((c.tc : Thread Cert.SguInDx.nD Cert.SguInDx.τ).loc Cert.SguInDx.main_arg0) = m ((c.tc : Thread Cert.SguInDx.nD Cert.SguInDx.τ).loc Cert.SguInDx.main_arg0)
      ∧ r.2.mem ((c.tc : Thread Cert.SguInDx.nD Cert.SguInDx.τ).loc Cert.SguInDx.main_arg1) = m ((c.tc : Thread Cert.SguInDx.nD Cert.SguInDx.τ).loc Cert.SguInDx.main_arg1))
      ∧ r.2.sem = fun _ => 0)

def quiescent_SguInDxIdeal [hSguInDxIdeal : Cert.SguInDxIdeal.Facts] : Prop :=
  ∀ (m : (ℓ : Loc Cert.SguInDxIdeal.nD Cert.SguInDxIdeal.τ Cert.SguInDxIdeal.sig) → Buf (Elt Ideal) ℓ) (g : Dev Cert.SguInDxIdeal.nD → PrngReg), Pre_SguInDxIdeal m →
    θ_run (Cert.SguInDxIdeal.defs (F := Ideal)) (onTc (τ := Cert.SguInDxIdeal.τ) (Cert.SguInDxIdeal.main (F := Ideal))) ⟨m, fun _ => 0, g⟩ (fun r => (∀ c : Dev Cert.SguInDxIdeal.nD,
      r.2.mem ((c.tc : Thread Cert.SguInDxIdeal.nD Cert.SguInDxIdeal.τ).loc Cert.SguInDxIdeal.main_arg0) = m ((c.tc : Thread Cert.SguInDxIdeal.nD Cert.SguInDxIdeal.τ).loc Cert.SguInDxIdeal.main_arg0)
      ∧ r.2.mem ((c.tc : Thread Cert.SguInDxIdeal.nD Cert.SguInDxIdeal.τ).loc Cert.SguInDxIdeal.main_arg1) = m ((c.tc : Thread Cert.SguInDxIdeal.nD Cert.SguInDxIdeal.τ).loc Cert.SguInDxIdeal.main_arg1))
      ∧ r.2.sem = fun _ => 0)

def quiescent_SguInDxRefIdeal [hSguInDxRefIdeal : Cert.SguInDxRefIdeal.Facts] : Prop :=
  ∀ (m : (ℓ : Loc Cert.SguInDxRefIdeal.nD Cert.SguInDxRefIdeal.τ Cert.SguInDxRefIdeal.sig) → Buf (Elt Ideal) ℓ) (g : Dev Cert.SguInDxRefIdeal.nD → PrngReg), Pre_SguInDxRefIdeal m →
    θ_run (Cert.SguInDxRefIdeal.defs (F := Ideal)) (onTc (τ := Cert.SguInDxRefIdeal.τ) (Cert.SguInDxRefIdeal.main (F := Ideal))) ⟨m, fun _ => 0, g⟩ (fun r => (∀ c : Dev Cert.SguInDxRefIdeal.nD,
      r.2.mem ((c.tc : Thread Cert.SguInDxRefIdeal.nD Cert.SguInDxRefIdeal.τ).loc Cert.SguInDxRefIdeal.main_arg0) = m ((c.tc : Thread Cert.SguInDxRefIdeal.nD Cert.SguInDxRefIdeal.τ).loc Cert.SguInDxRefIdeal.main_arg0)
      ∧ r.2.mem ((c.tc : Thread Cert.SguInDxRefIdeal.nD Cert.SguInDxRefIdeal.τ).loc Cert.SguInDxRefIdeal.main_arg1) = m ((c.tc : Thread Cert.SguInDxRefIdeal.nD Cert.SguInDxRefIdeal.τ).loc Cert.SguInDxRefIdeal.main_arg1))
      ∧ r.2.sem = fun _ => 0)

def quiescent_SguOutDw [hSguOutDw : Cert.SguOutDw.Facts] : Prop :=
  ∀ (m : (ℓ : Loc Cert.SguOutDw.nD Cert.SguOutDw.τ Cert.SguOutDw.sig) → Buf (Elt Bits) ℓ) (g : Dev Cert.SguOutDw.nD → PrngReg), Pre_SguOutDw m →
    θ_run (Cert.SguOutDw.defs (F := Bits)) (onTc (τ := Cert.SguOutDw.τ) (Cert.SguOutDw.main (F := Bits))) ⟨m, fun _ => 0, g⟩ (fun r => (∀ c : Dev Cert.SguOutDw.nD,
      r.2.mem ((c.tc : Thread Cert.SguOutDw.nD Cert.SguOutDw.τ).loc Cert.SguOutDw.main_arg0) = m ((c.tc : Thread Cert.SguOutDw.nD Cert.SguOutDw.τ).loc Cert.SguOutDw.main_arg0)
      ∧ r.2.mem ((c.tc : Thread Cert.SguOutDw.nD Cert.SguOutDw.τ).loc Cert.SguOutDw.main_arg1) = m ((c.tc : Thread Cert.SguOutDw.nD Cert.SguOutDw.τ).loc Cert.SguOutDw.main_arg1))
      ∧ r.2.sem = fun _ => 0)

def quiescent_SguOutDwIdeal [hSguOutDwIdeal : Cert.SguOutDwIdeal.Facts] : Prop :=
  ∀ (m : (ℓ : Loc Cert.SguOutDwIdeal.nD Cert.SguOutDwIdeal.τ Cert.SguOutDwIdeal.sig) → Buf (Elt Ideal) ℓ) (g : Dev Cert.SguOutDwIdeal.nD → PrngReg), Pre_SguOutDwIdeal m →
    θ_run (Cert.SguOutDwIdeal.defs (F := Ideal)) (onTc (τ := Cert.SguOutDwIdeal.τ) (Cert.SguOutDwIdeal.main (F := Ideal))) ⟨m, fun _ => 0, g⟩ (fun r => (∀ c : Dev Cert.SguOutDwIdeal.nD,
      r.2.mem ((c.tc : Thread Cert.SguOutDwIdeal.nD Cert.SguOutDwIdeal.τ).loc Cert.SguOutDwIdeal.main_arg0) = m ((c.tc : Thread Cert.SguOutDwIdeal.nD Cert.SguOutDwIdeal.τ).loc Cert.SguOutDwIdeal.main_arg0)
      ∧ r.2.mem ((c.tc : Thread Cert.SguOutDwIdeal.nD Cert.SguOutDwIdeal.τ).loc Cert.SguOutDwIdeal.main_arg1) = m ((c.tc : Thread Cert.SguOutDwIdeal.nD Cert.SguOutDwIdeal.τ).loc Cert.SguOutDwIdeal.main_arg1))
      ∧ r.2.sem = fun _ => 0)

def quiescent_SguOutDwRefIdeal [hSguOutDwRefIdeal : Cert.SguOutDwRefIdeal.Facts] : Prop :=
  ∀ (m : (ℓ : Loc Cert.SguOutDwRefIdeal.nD Cert.SguOutDwRefIdeal.τ Cert.SguOutDwRefIdeal.sig) → Buf (Elt Ideal) ℓ) (g : Dev Cert.SguOutDwRefIdeal.nD → PrngReg), Pre_SguOutDwRefIdeal m →
    θ_run (Cert.SguOutDwRefIdeal.defs (F := Ideal)) (onTc (τ := Cert.SguOutDwRefIdeal.τ) (Cert.SguOutDwRefIdeal.main (F := Ideal))) ⟨m, fun _ => 0, g⟩ (fun r => (∀ c : Dev Cert.SguOutDwRefIdeal.nD,
      r.2.mem ((c.tc : Thread Cert.SguOutDwRefIdeal.nD Cert.SguOutDwRefIdeal.τ).loc Cert.SguOutDwRefIdeal.main_arg0) = m ((c.tc : Thread Cert.SguOutDwRefIdeal.nD Cert.SguOutDwRefIdeal.τ).loc Cert.SguOutDwRefIdeal.main_arg0)
      ∧ r.2.mem ((c.tc : Thread Cert.SguOutDwRefIdeal.nD Cert.SguOutDwRefIdeal.τ).loc Cert.SguOutDwRefIdeal.main_arg1) = m ((c.tc : Thread Cert.SguOutDwRefIdeal.nD Cert.SguOutDwRefIdeal.τ).loc Cert.SguOutDwRefIdeal.main_arg1))
      ∧ r.2.sem = fun _ => 0)

def quiescent_SguOutDx [hSguOutDx : Cert.SguOutDx.Facts] : Prop :=
  ∀ (m : (ℓ : Loc Cert.SguOutDx.nD Cert.SguOutDx.τ Cert.SguOutDx.sig) → Buf (Elt Bits) ℓ) (g : Dev Cert.SguOutDx.nD → PrngReg), Pre_SguOutDx m →
    θ_run (Cert.SguOutDx.defs (F := Bits)) (onTc (τ := Cert.SguOutDx.τ) (Cert.SguOutDx.main (F := Bits))) ⟨m, fun _ => 0, g⟩ (fun r => (∀ c : Dev Cert.SguOutDx.nD,
      r.2.mem ((c.tc : Thread Cert.SguOutDx.nD Cert.SguOutDx.τ).loc Cert.SguOutDx.main_arg0) = m ((c.tc : Thread Cert.SguOutDx.nD Cert.SguOutDx.τ).loc Cert.SguOutDx.main_arg0)
      ∧ r.2.mem ((c.tc : Thread Cert.SguOutDx.nD Cert.SguOutDx.τ).loc Cert.SguOutDx.main_arg1) = m ((c.tc : Thread Cert.SguOutDx.nD Cert.SguOutDx.τ).loc Cert.SguOutDx.main_arg1))
      ∧ r.2.sem = fun _ => 0)

def quiescent_SguOutDxIdeal [hSguOutDxIdeal : Cert.SguOutDxIdeal.Facts] : Prop :=
  ∀ (m : (ℓ : Loc Cert.SguOutDxIdeal.nD Cert.SguOutDxIdeal.τ Cert.SguOutDxIdeal.sig) → Buf (Elt Ideal) ℓ) (g : Dev Cert.SguOutDxIdeal.nD → PrngReg), Pre_SguOutDxIdeal m →
    θ_run (Cert.SguOutDxIdeal.defs (F := Ideal)) (onTc (τ := Cert.SguOutDxIdeal.τ) (Cert.SguOutDxIdeal.main (F := Ideal))) ⟨m, fun _ => 0, g⟩ (fun r => (∀ c : Dev Cert.SguOutDxIdeal.nD,
      r.2.mem ((c.tc : Thread Cert.SguOutDxIdeal.nD Cert.SguOutDxIdeal.τ).loc Cert.SguOutDxIdeal.main_arg0) = m ((c.tc : Thread Cert.SguOutDxIdeal.nD Cert.SguOutDxIdeal.τ).loc Cert.SguOutDxIdeal.main_arg0)
      ∧ r.2.mem ((c.tc : Thread Cert.SguOutDxIdeal.nD Cert.SguOutDxIdeal.τ).loc Cert.SguOutDxIdeal.main_arg1) = m ((c.tc : Thread Cert.SguOutDxIdeal.nD Cert.SguOutDxIdeal.τ).loc Cert.SguOutDxIdeal.main_arg1))
      ∧ r.2.sem = fun _ => 0)

def quiescent_SguOutDxRefIdeal [hSguOutDxRefIdeal : Cert.SguOutDxRefIdeal.Facts] : Prop :=
  ∀ (m : (ℓ : Loc Cert.SguOutDxRefIdeal.nD Cert.SguOutDxRefIdeal.τ Cert.SguOutDxRefIdeal.sig) → Buf (Elt Ideal) ℓ) (g : Dev Cert.SguOutDxRefIdeal.nD → PrngReg), Pre_SguOutDxRefIdeal m →
    θ_run (Cert.SguOutDxRefIdeal.defs (F := Ideal)) (onTc (τ := Cert.SguOutDxRefIdeal.τ) (Cert.SguOutDxRefIdeal.main (F := Ideal))) ⟨m, fun _ => 0, g⟩ (fun r => (∀ c : Dev Cert.SguOutDxRefIdeal.nD,
      r.2.mem ((c.tc : Thread Cert.SguOutDxRefIdeal.nD Cert.SguOutDxRefIdeal.τ).loc Cert.SguOutDxRefIdeal.main_arg0) = m ((c.tc : Thread Cert.SguOutDxRefIdeal.nD Cert.SguOutDxRefIdeal.τ).loc Cert.SguOutDxRefIdeal.main_arg0)
      ∧ r.2.mem ((c.tc : Thread Cert.SguOutDxRefIdeal.nD Cert.SguOutDxRefIdeal.τ).loc Cert.SguOutDxRefIdeal.main_arg1) = m ((c.tc : Thread Cert.SguOutDxRefIdeal.nD Cert.SguOutDxRefIdeal.τ).loc Cert.SguOutDxRefIdeal.main_arg1))
      ∧ r.2.sem = fun _ => 0)

def quiescent_ConvInDx [hConvInDx : Cert.ConvInDx.Facts] : Prop :=
  ∀ (m : (ℓ : Loc Cert.ConvInDx.nD Cert.ConvInDx.τ Cert.ConvInDx.sig) → Buf (Elt Bits) ℓ) (g : Dev Cert.ConvInDx.nD → PrngReg), Pre_ConvInDx m →
    θ_run (Cert.ConvInDx.defs (F := Bits)) (onTc (τ := Cert.ConvInDx.τ) (Cert.ConvInDx.main (F := Bits))) ⟨m, fun _ => 0, g⟩ (fun r => (∀ c : Dev Cert.ConvInDx.nD,
      r.2.mem ((c.tc : Thread Cert.ConvInDx.nD Cert.ConvInDx.τ).loc Cert.ConvInDx.main_arg0) = m ((c.tc : Thread Cert.ConvInDx.nD Cert.ConvInDx.τ).loc Cert.ConvInDx.main_arg0)
      ∧ r.2.mem ((c.tc : Thread Cert.ConvInDx.nD Cert.ConvInDx.τ).loc Cert.ConvInDx.main_arg1) = m ((c.tc : Thread Cert.ConvInDx.nD Cert.ConvInDx.τ).loc Cert.ConvInDx.main_arg1))
      ∧ r.2.sem = fun _ => 0)

def quiescent_ConvInDxIdeal [hConvInDxIdeal : Cert.ConvInDxIdeal.Facts] : Prop :=
  ∀ (m : (ℓ : Loc Cert.ConvInDxIdeal.nD Cert.ConvInDxIdeal.τ Cert.ConvInDxIdeal.sig) → Buf (Elt Ideal) ℓ) (g : Dev Cert.ConvInDxIdeal.nD → PrngReg), Pre_ConvInDxIdeal m →
    θ_run (Cert.ConvInDxIdeal.defs (F := Ideal)) (onTc (τ := Cert.ConvInDxIdeal.τ) (Cert.ConvInDxIdeal.main (F := Ideal))) ⟨m, fun _ => 0, g⟩ (fun r => (∀ c : Dev Cert.ConvInDxIdeal.nD,
      r.2.mem ((c.tc : Thread Cert.ConvInDxIdeal.nD Cert.ConvInDxIdeal.τ).loc Cert.ConvInDxIdeal.main_arg0) = m ((c.tc : Thread Cert.ConvInDxIdeal.nD Cert.ConvInDxIdeal.τ).loc Cert.ConvInDxIdeal.main_arg0)
      ∧ r.2.mem ((c.tc : Thread Cert.ConvInDxIdeal.nD Cert.ConvInDxIdeal.τ).loc Cert.ConvInDxIdeal.main_arg1) = m ((c.tc : Thread Cert.ConvInDxIdeal.nD Cert.ConvInDxIdeal.τ).loc Cert.ConvInDxIdeal.main_arg1))
      ∧ r.2.sem = fun _ => 0)

def quiescent_ConvInDxRefIdeal [hConvInDxRefIdeal : Cert.ConvInDxRefIdeal.Facts] : Prop :=
  ∀ (m : (ℓ : Loc Cert.ConvInDxRefIdeal.nD Cert.ConvInDxRefIdeal.τ Cert.ConvInDxRefIdeal.sig) → Buf (Elt Ideal) ℓ) (g : Dev Cert.ConvInDxRefIdeal.nD → PrngReg), Pre_ConvInDxRefIdeal m →
    θ_run (Cert.ConvInDxRefIdeal.defs (F := Ideal)) (onTc (τ := Cert.ConvInDxRefIdeal.τ) (Cert.ConvInDxRefIdeal.main (F := Ideal))) ⟨m, fun _ => 0, g⟩ (fun r => (∀ c : Dev Cert.ConvInDxRefIdeal.nD,
      r.2.mem ((c.tc : Thread Cert.ConvInDxRefIdeal.nD Cert.ConvInDxRefIdeal.τ).loc Cert.ConvInDxRefIdeal.main_arg0) = m ((c.tc : Thread Cert.ConvInDxRefIdeal.nD Cert.ConvInDxRefIdeal.τ).loc Cert.ConvInDxRefIdeal.main_arg0)
      ∧ r.2.mem ((c.tc : Thread Cert.ConvInDxRefIdeal.nD Cert.ConvInDxRefIdeal.τ).loc Cert.ConvInDxRefIdeal.main_arg1) = m ((c.tc : Thread Cert.ConvInDxRefIdeal.nD Cert.ConvInDxRefIdeal.τ).loc Cert.ConvInDxRefIdeal.main_arg1))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ r.2.sem = fun _ => 0)

def quiescent_QkvDxRefIdeal [hQkvDxRefIdeal : Cert.QkvDxRefIdeal.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1))
      ∧ r.2.sem = fun _ => 0)

def quiescent_SguIn [hSguIn : Cert.SguIn.Facts] : Prop :=
  ∀ (m : (ℓ : Loc Cert.SguIn.nD Cert.SguIn.τ Cert.SguIn.sig) → Buf (Elt Bits) ℓ) (g : Dev Cert.SguIn.nD → PrngReg), Pre_SguIn m →
    θ_run (Cert.SguIn.defs (F := Bits)) (onTc (τ := Cert.SguIn.τ) (Cert.SguIn.main (F := Bits))) ⟨m, fun _ => 0, g⟩ (fun r => (∀ c : Dev Cert.SguIn.nD,
      r.2.mem ((c.tc : Thread Cert.SguIn.nD Cert.SguIn.τ).loc Cert.SguIn.main_arg0) = m ((c.tc : Thread Cert.SguIn.nD Cert.SguIn.τ).loc Cert.SguIn.main_arg0)
      ∧ r.2.mem ((c.tc : Thread Cert.SguIn.nD Cert.SguIn.τ).loc Cert.SguIn.main_arg1) = m ((c.tc : Thread Cert.SguIn.nD Cert.SguIn.τ).loc Cert.SguIn.main_arg1)
      ∧ r.2.mem ((c.tc : Thread Cert.SguIn.nD Cert.SguIn.τ).loc Cert.SguIn.main_arg2) = m ((c.tc : Thread Cert.SguIn.nD Cert.SguIn.τ).loc Cert.SguIn.main_arg2))
      ∧ r.2.sem = fun _ => 0)

def quiescent_SguInIdeal [hSguInIdeal : Cert.SguInIdeal.Facts] : Prop :=
  ∀ (m : (ℓ : Loc Cert.SguInIdeal.nD Cert.SguInIdeal.τ Cert.SguInIdeal.sig) → Buf (Elt Ideal) ℓ) (g : Dev Cert.SguInIdeal.nD → PrngReg), Pre_SguInIdeal m →
    θ_run (Cert.SguInIdeal.defs (F := Ideal)) (onTc (τ := Cert.SguInIdeal.τ) (Cert.SguInIdeal.main (F := Ideal))) ⟨m, fun _ => 0, g⟩ (fun r => (∀ c : Dev Cert.SguInIdeal.nD,
      r.2.mem ((c.tc : Thread Cert.SguInIdeal.nD Cert.SguInIdeal.τ).loc Cert.SguInIdeal.main_arg0) = m ((c.tc : Thread Cert.SguInIdeal.nD Cert.SguInIdeal.τ).loc Cert.SguInIdeal.main_arg0)
      ∧ r.2.mem ((c.tc : Thread Cert.SguInIdeal.nD Cert.SguInIdeal.τ).loc Cert.SguInIdeal.main_arg1) = m ((c.tc : Thread Cert.SguInIdeal.nD Cert.SguInIdeal.τ).loc Cert.SguInIdeal.main_arg1)
      ∧ r.2.mem ((c.tc : Thread Cert.SguInIdeal.nD Cert.SguInIdeal.τ).loc Cert.SguInIdeal.main_arg2) = m ((c.tc : Thread Cert.SguInIdeal.nD Cert.SguInIdeal.τ).loc Cert.SguInIdeal.main_arg2))
      ∧ r.2.sem = fun _ => 0)

def quiescent_SguInRefIdeal [hSguInRefIdeal : Cert.SguInRefIdeal.Facts] : Prop :=
  ∀ (m : (ℓ : Loc Cert.SguInRefIdeal.nD Cert.SguInRefIdeal.τ Cert.SguInRefIdeal.sig) → Buf (Elt Ideal) ℓ) (g : Dev Cert.SguInRefIdeal.nD → PrngReg), Pre_SguInRefIdeal m →
    θ_run (Cert.SguInRefIdeal.defs (F := Ideal)) (onTc (τ := Cert.SguInRefIdeal.τ) (Cert.SguInRefIdeal.main (F := Ideal))) ⟨m, fun _ => 0, g⟩ (fun r => (∀ c : Dev Cert.SguInRefIdeal.nD,
      r.2.mem ((c.tc : Thread Cert.SguInRefIdeal.nD Cert.SguInRefIdeal.τ).loc Cert.SguInRefIdeal.main_arg0) = m ((c.tc : Thread Cert.SguInRefIdeal.nD Cert.SguInRefIdeal.τ).loc Cert.SguInRefIdeal.main_arg0)
      ∧ r.2.mem ((c.tc : Thread Cert.SguInRefIdeal.nD Cert.SguInRefIdeal.τ).loc Cert.SguInRefIdeal.main_arg1) = m ((c.tc : Thread Cert.SguInRefIdeal.nD Cert.SguInRefIdeal.τ).loc Cert.SguInRefIdeal.main_arg1)
      ∧ r.2.mem ((c.tc : Thread Cert.SguInRefIdeal.nD Cert.SguInRefIdeal.τ).loc Cert.SguInRefIdeal.main_arg2) = m ((c.tc : Thread Cert.SguInRefIdeal.nD Cert.SguInRefIdeal.τ).loc Cert.SguInRefIdeal.main_arg2))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2))
      ∧ r.2.sem = fun _ => 0)

def quiescent_QkvIn [hQkvIn : Cert.QkvIn.Facts] : Prop :=
  ∀ (m : (ℓ : Loc Cert.QkvIn.nD Cert.QkvIn.τ Cert.QkvIn.sig) → Buf (Elt Bits) ℓ) (g : Dev Cert.QkvIn.nD → PrngReg), Pre_QkvIn m →
    θ_run (Cert.QkvIn.defs (F := Bits)) (onTc (τ := Cert.QkvIn.τ) (Cert.QkvIn.main (F := Bits))) ⟨m, fun _ => 0, g⟩ (fun r => (∀ c : Dev Cert.QkvIn.nD,
      r.2.mem ((c.tc : Thread Cert.QkvIn.nD Cert.QkvIn.τ).loc Cert.QkvIn.main_arg0) = m ((c.tc : Thread Cert.QkvIn.nD Cert.QkvIn.τ).loc Cert.QkvIn.main_arg0)
      ∧ r.2.mem ((c.tc : Thread Cert.QkvIn.nD Cert.QkvIn.τ).loc Cert.QkvIn.main_arg1) = m ((c.tc : Thread Cert.QkvIn.nD Cert.QkvIn.τ).loc Cert.QkvIn.main_arg1)
      ∧ r.2.mem ((c.tc : Thread Cert.QkvIn.nD Cert.QkvIn.τ).loc Cert.QkvIn.main_arg2) = m ((c.tc : Thread Cert.QkvIn.nD Cert.QkvIn.τ).loc Cert.QkvIn.main_arg2))
      ∧ r.2.sem = fun _ => 0)

def quiescent_QkvInIdeal [hQkvInIdeal : Cert.QkvInIdeal.Facts] : Prop :=
  ∀ (m : (ℓ : Loc Cert.QkvInIdeal.nD Cert.QkvInIdeal.τ Cert.QkvInIdeal.sig) → Buf (Elt Ideal) ℓ) (g : Dev Cert.QkvInIdeal.nD → PrngReg), Pre_QkvInIdeal m →
    θ_run (Cert.QkvInIdeal.defs (F := Ideal)) (onTc (τ := Cert.QkvInIdeal.τ) (Cert.QkvInIdeal.main (F := Ideal))) ⟨m, fun _ => 0, g⟩ (fun r => (∀ c : Dev Cert.QkvInIdeal.nD,
      r.2.mem ((c.tc : Thread Cert.QkvInIdeal.nD Cert.QkvInIdeal.τ).loc Cert.QkvInIdeal.main_arg0) = m ((c.tc : Thread Cert.QkvInIdeal.nD Cert.QkvInIdeal.τ).loc Cert.QkvInIdeal.main_arg0)
      ∧ r.2.mem ((c.tc : Thread Cert.QkvInIdeal.nD Cert.QkvInIdeal.τ).loc Cert.QkvInIdeal.main_arg1) = m ((c.tc : Thread Cert.QkvInIdeal.nD Cert.QkvInIdeal.τ).loc Cert.QkvInIdeal.main_arg1)
      ∧ r.2.mem ((c.tc : Thread Cert.QkvInIdeal.nD Cert.QkvInIdeal.τ).loc Cert.QkvInIdeal.main_arg2) = m ((c.tc : Thread Cert.QkvInIdeal.nD Cert.QkvInIdeal.τ).loc Cert.QkvInIdeal.main_arg2))
      ∧ r.2.sem = fun _ => 0)

def quiescent_QkvInRefIdeal [hQkvInRefIdeal : Cert.QkvInRefIdeal.Facts] : Prop :=
  ∀ (m : (ℓ : Loc Cert.QkvInRefIdeal.nD Cert.QkvInRefIdeal.τ Cert.QkvInRefIdeal.sig) → Buf (Elt Ideal) ℓ) (g : Dev Cert.QkvInRefIdeal.nD → PrngReg), Pre_QkvInRefIdeal m →
    θ_run (Cert.QkvInRefIdeal.defs (F := Ideal)) (onTc (τ := Cert.QkvInRefIdeal.τ) (Cert.QkvInRefIdeal.main (F := Ideal))) ⟨m, fun _ => 0, g⟩ (fun r => (∀ c : Dev Cert.QkvInRefIdeal.nD,
      r.2.mem ((c.tc : Thread Cert.QkvInRefIdeal.nD Cert.QkvInRefIdeal.τ).loc Cert.QkvInRefIdeal.main_arg0) = m ((c.tc : Thread Cert.QkvInRefIdeal.nD Cert.QkvInRefIdeal.τ).loc Cert.QkvInRefIdeal.main_arg0)
      ∧ r.2.mem ((c.tc : Thread Cert.QkvInRefIdeal.nD Cert.QkvInRefIdeal.τ).loc Cert.QkvInRefIdeal.main_arg1) = m ((c.tc : Thread Cert.QkvInRefIdeal.nD Cert.QkvInRefIdeal.τ).loc Cert.QkvInRefIdeal.main_arg1)
      ∧ r.2.mem ((c.tc : Thread Cert.QkvInRefIdeal.nD Cert.QkvInRefIdeal.τ).loc Cert.QkvInRefIdeal.main_arg2) = m ((c.tc : Thread Cert.QkvInRefIdeal.nD Cert.QkvInRefIdeal.τ).loc Cert.QkvInRefIdeal.main_arg2))
      ∧ r.2.sem = fun _ => 0)

def quiescent_SguOut [hSguOut : Cert.SguOut.Facts] : Prop :=
  ∀ (m : (ℓ : Loc Cert.SguOut.nD Cert.SguOut.τ Cert.SguOut.sig) → Buf (Elt Bits) ℓ) (g : Dev Cert.SguOut.nD → PrngReg), Pre_SguOut m →
    θ_run (Cert.SguOut.defs (F := Bits)) (onTc (τ := Cert.SguOut.τ) (Cert.SguOut.main (F := Bits))) ⟨m, fun _ => 0, g⟩ (fun r => (∀ c : Dev Cert.SguOut.nD,
      r.2.mem ((c.tc : Thread Cert.SguOut.nD Cert.SguOut.τ).loc Cert.SguOut.main_arg0) = m ((c.tc : Thread Cert.SguOut.nD Cert.SguOut.τ).loc Cert.SguOut.main_arg0)
      ∧ r.2.mem ((c.tc : Thread Cert.SguOut.nD Cert.SguOut.τ).loc Cert.SguOut.main_arg1) = m ((c.tc : Thread Cert.SguOut.nD Cert.SguOut.τ).loc Cert.SguOut.main_arg1)
      ∧ r.2.mem ((c.tc : Thread Cert.SguOut.nD Cert.SguOut.τ).loc Cert.SguOut.main_arg2) = m ((c.tc : Thread Cert.SguOut.nD Cert.SguOut.τ).loc Cert.SguOut.main_arg2))
      ∧ r.2.sem = fun _ => 0)

def quiescent_SguOutIdeal [hSguOutIdeal : Cert.SguOutIdeal.Facts] : Prop :=
  ∀ (m : (ℓ : Loc Cert.SguOutIdeal.nD Cert.SguOutIdeal.τ Cert.SguOutIdeal.sig) → Buf (Elt Ideal) ℓ) (g : Dev Cert.SguOutIdeal.nD → PrngReg), Pre_SguOutIdeal m →
    θ_run (Cert.SguOutIdeal.defs (F := Ideal)) (onTc (τ := Cert.SguOutIdeal.τ) (Cert.SguOutIdeal.main (F := Ideal))) ⟨m, fun _ => 0, g⟩ (fun r => (∀ c : Dev Cert.SguOutIdeal.nD,
      r.2.mem ((c.tc : Thread Cert.SguOutIdeal.nD Cert.SguOutIdeal.τ).loc Cert.SguOutIdeal.main_arg0) = m ((c.tc : Thread Cert.SguOutIdeal.nD Cert.SguOutIdeal.τ).loc Cert.SguOutIdeal.main_arg0)
      ∧ r.2.mem ((c.tc : Thread Cert.SguOutIdeal.nD Cert.SguOutIdeal.τ).loc Cert.SguOutIdeal.main_arg1) = m ((c.tc : Thread Cert.SguOutIdeal.nD Cert.SguOutIdeal.τ).loc Cert.SguOutIdeal.main_arg1)
      ∧ r.2.mem ((c.tc : Thread Cert.SguOutIdeal.nD Cert.SguOutIdeal.τ).loc Cert.SguOutIdeal.main_arg2) = m ((c.tc : Thread Cert.SguOutIdeal.nD Cert.SguOutIdeal.τ).loc Cert.SguOutIdeal.main_arg2))
      ∧ r.2.sem = fun _ => 0)

def quiescent_SguOutRefIdeal [hSguOutRefIdeal : Cert.SguOutRefIdeal.Facts] : Prop :=
  ∀ (m : (ℓ : Loc Cert.SguOutRefIdeal.nD Cert.SguOutRefIdeal.τ Cert.SguOutRefIdeal.sig) → Buf (Elt Ideal) ℓ) (g : Dev Cert.SguOutRefIdeal.nD → PrngReg), Pre_SguOutRefIdeal m →
    θ_run (Cert.SguOutRefIdeal.defs (F := Ideal)) (onTc (τ := Cert.SguOutRefIdeal.τ) (Cert.SguOutRefIdeal.main (F := Ideal))) ⟨m, fun _ => 0, g⟩ (fun r => (∀ c : Dev Cert.SguOutRefIdeal.nD,
      r.2.mem ((c.tc : Thread Cert.SguOutRefIdeal.nD Cert.SguOutRefIdeal.τ).loc Cert.SguOutRefIdeal.main_arg0) = m ((c.tc : Thread Cert.SguOutRefIdeal.nD Cert.SguOutRefIdeal.τ).loc Cert.SguOutRefIdeal.main_arg0)
      ∧ r.2.mem ((c.tc : Thread Cert.SguOutRefIdeal.nD Cert.SguOutRefIdeal.τ).loc Cert.SguOutRefIdeal.main_arg1) = m ((c.tc : Thread Cert.SguOutRefIdeal.nD Cert.SguOutRefIdeal.τ).loc Cert.SguOutRefIdeal.main_arg1)
      ∧ r.2.mem ((c.tc : Thread Cert.SguOutRefIdeal.nD Cert.SguOutRefIdeal.τ).loc Cert.SguOutRefIdeal.main_arg2) = m ((c.tc : Thread Cert.SguOutRefIdeal.nD Cert.SguOutRefIdeal.τ).loc Cert.SguOutRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5)
      ∧ r.2.mem ((c.tc : Thread Cert.NormBwd.nD Cert.NormBwd.τ).loc Cert.NormBwd.main_arg6) = m ((c.tc : Thread Cert.NormBwd.nD Cert.NormBwd.τ).loc Cert.NormBwd.main_arg6)
      ∧ r.2.mem ((c.tc : Thread Cert.NormBwd.nD Cert.NormBwd.τ).loc Cert.NormBwd.main_arg7) = m ((c.tc : Thread Cert.NormBwd.nD Cert.NormBwd.τ).loc Cert.NormBwd.main_arg7))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
      ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5)
      ∧ r.2.mem ((c.tc : Thread Cert.NormBwdRefIdeal.nD Cert.NormBwdRefIdeal.τ).loc Cert.NormBwdRefIdeal.main_arg6) = m ((c.tc : Thread Cert.NormBwdRefIdeal.nD Cert.NormBwdRefIdeal.τ).loc Cert.NormBwdRefIdeal.main_arg6)
      ∧ r.2.mem ((c.tc : Thread Cert.NormBwdRefIdeal.nD Cert.NormBwdRefIdeal.τ).loc Cert.NormBwdRefIdeal.main_arg7) = m ((c.tc : Thread Cert.NormBwdRefIdeal.nD Cert.NormBwdRefIdeal.τ).loc Cert.NormBwdRefIdeal.main_arg7))
      ∧ r.2.sem = fun _ => 0)

def quiescent_FirstNormBwd [hFirstNormBwd : Cert.FirstNormBwd.Facts] : Prop :=
  ∀ (m : (ℓ : Loc Cert.FirstNormBwd.nD Cert.FirstNormBwd.τ Cert.FirstNormBwd.sig) → Buf (Elt Bits) ℓ) (g : Dev Cert.FirstNormBwd.nD → PrngReg), Pre_FirstNormBwd m →
    θ_run (Cert.FirstNormBwd.defs (F := Bits)) (onTc (τ := Cert.FirstNormBwd.τ) (Cert.FirstNormBwd.main (F := Bits))) ⟨m, fun _ => 0, g⟩ (fun r => (∀ c : Dev Cert.FirstNormBwd.nD,
      r.2.mem ((c.tc : Thread Cert.FirstNormBwd.nD Cert.FirstNormBwd.τ).loc Cert.FirstNormBwd.main_arg0) = m ((c.tc : Thread Cert.FirstNormBwd.nD Cert.FirstNormBwd.τ).loc Cert.FirstNormBwd.main_arg0)
      ∧ r.2.mem ((c.tc : Thread Cert.FirstNormBwd.nD Cert.FirstNormBwd.τ).loc Cert.FirstNormBwd.main_arg1) = m ((c.tc : Thread Cert.FirstNormBwd.nD Cert.FirstNormBwd.τ).loc Cert.FirstNormBwd.main_arg1)
      ∧ r.2.mem ((c.tc : Thread Cert.FirstNormBwd.nD Cert.FirstNormBwd.τ).loc Cert.FirstNormBwd.main_arg2) = m ((c.tc : Thread Cert.FirstNormBwd.nD Cert.FirstNormBwd.τ).loc Cert.FirstNormBwd.main_arg2)
      ∧ r.2.mem ((c.tc : Thread Cert.FirstNormBwd.nD Cert.FirstNormBwd.τ).loc Cert.FirstNormBwd.main_arg3) = m ((c.tc : Thread Cert.FirstNormBwd.nD Cert.FirstNormBwd.τ).loc Cert.FirstNormBwd.main_arg3)
      ∧ r.2.mem ((c.tc : Thread Cert.FirstNormBwd.nD Cert.FirstNormBwd.τ).loc Cert.FirstNormBwd.main_arg4) = m ((c.tc : Thread Cert.FirstNormBwd.nD Cert.FirstNormBwd.τ).loc Cert.FirstNormBwd.main_arg4)
      ∧ r.2.mem ((c.tc : Thread Cert.FirstNormBwd.nD Cert.FirstNormBwd.τ).loc Cert.FirstNormBwd.main_arg5) = m ((c.tc : Thread Cert.FirstNormBwd.nD Cert.FirstNormBwd.τ).loc Cert.FirstNormBwd.main_arg5))
      ∧ r.2.sem = fun _ => 0)

def quiescent_FirstNormBwdIdeal [hFirstNormBwdIdeal : Cert.FirstNormBwdIdeal.Facts] : Prop :=
  ∀ (m : (ℓ : Loc Cert.FirstNormBwdIdeal.nD Cert.FirstNormBwdIdeal.τ Cert.FirstNormBwdIdeal.sig) → Buf (Elt Ideal) ℓ) (g : Dev Cert.FirstNormBwdIdeal.nD → PrngReg), Pre_FirstNormBwdIdeal m →
    θ_run (Cert.FirstNormBwdIdeal.defs (F := Ideal)) (onTc (τ := Cert.FirstNormBwdIdeal.τ) (Cert.FirstNormBwdIdeal.main (F := Ideal))) ⟨m, fun _ => 0, g⟩ (fun r => (∀ c : Dev Cert.FirstNormBwdIdeal.nD,
      r.2.mem ((c.tc : Thread Cert.FirstNormBwdIdeal.nD Cert.FirstNormBwdIdeal.τ).loc Cert.FirstNormBwdIdeal.main_arg0) = m ((c.tc : Thread Cert.FirstNormBwdIdeal.nD Cert.FirstNormBwdIdeal.τ).loc Cert.FirstNormBwdIdeal.main_arg0)
      ∧ r.2.mem ((c.tc : Thread Cert.FirstNormBwdIdeal.nD Cert.FirstNormBwdIdeal.τ).loc Cert.FirstNormBwdIdeal.main_arg1) = m ((c.tc : Thread Cert.FirstNormBwdIdeal.nD Cert.FirstNormBwdIdeal.τ).loc Cert.FirstNormBwdIdeal.main_arg1)
      ∧ r.2.mem ((c.tc : Thread Cert.FirstNormBwdIdeal.nD Cert.FirstNormBwdIdeal.τ).loc Cert.FirstNormBwdIdeal.main_arg2) = m ((c.tc : Thread Cert.FirstNormBwdIdeal.nD Cert.FirstNormBwdIdeal.τ).loc Cert.FirstNormBwdIdeal.main_arg2)
      ∧ r.2.mem ((c.tc : Thread Cert.FirstNormBwdIdeal.nD Cert.FirstNormBwdIdeal.τ).loc Cert.FirstNormBwdIdeal.main_arg3) = m ((c.tc : Thread Cert.FirstNormBwdIdeal.nD Cert.FirstNormBwdIdeal.τ).loc Cert.FirstNormBwdIdeal.main_arg3)
      ∧ r.2.mem ((c.tc : Thread Cert.FirstNormBwdIdeal.nD Cert.FirstNormBwdIdeal.τ).loc Cert.FirstNormBwdIdeal.main_arg4) = m ((c.tc : Thread Cert.FirstNormBwdIdeal.nD Cert.FirstNormBwdIdeal.τ).loc Cert.FirstNormBwdIdeal.main_arg4)
      ∧ r.2.mem ((c.tc : Thread Cert.FirstNormBwdIdeal.nD Cert.FirstNormBwdIdeal.τ).loc Cert.FirstNormBwdIdeal.main_arg5) = m ((c.tc : Thread Cert.FirstNormBwdIdeal.nD Cert.FirstNormBwdIdeal.τ).loc Cert.FirstNormBwdIdeal.main_arg5))
      ∧ r.2.sem = fun _ => 0)

def quiescent_FirstNormBwdRefIdeal [hFirstNormBwdRefIdeal : Cert.FirstNormBwdRefIdeal.Facts] : Prop :=
  ∀ (m : (ℓ : Loc Cert.FirstNormBwdRefIdeal.nD Cert.FirstNormBwdRefIdeal.τ Cert.FirstNormBwdRefIdeal.sig) → Buf (Elt Ideal) ℓ) (g : Dev Cert.FirstNormBwdRefIdeal.nD → PrngReg), Pre_FirstNormBwdRefIdeal m →
    θ_run (Cert.FirstNormBwdRefIdeal.defs (F := Ideal)) (onTc (τ := Cert.FirstNormBwdRefIdeal.τ) (Cert.FirstNormBwdRefIdeal.main (F := Ideal))) ⟨m, fun _ => 0, g⟩ (fun r => (∀ c : Dev Cert.FirstNormBwdRefIdeal.nD,
      r.2.mem ((c.tc : Thread Cert.FirstNormBwdRefIdeal.nD Cert.FirstNormBwdRefIdeal.τ).loc Cert.FirstNormBwdRefIdeal.main_arg0) = m ((c.tc : Thread Cert.FirstNormBwdRefIdeal.nD Cert.FirstNormBwdRefIdeal.τ).loc Cert.FirstNormBwdRefIdeal.main_arg0)
      ∧ r.2.mem ((c.tc : Thread Cert.FirstNormBwdRefIdeal.nD Cert.FirstNormBwdRefIdeal.τ).loc Cert.FirstNormBwdRefIdeal.main_arg1) = m ((c.tc : Thread Cert.FirstNormBwdRefIdeal.nD Cert.FirstNormBwdRefIdeal.τ).loc Cert.FirstNormBwdRefIdeal.main_arg1)
      ∧ r.2.mem ((c.tc : Thread Cert.FirstNormBwdRefIdeal.nD Cert.FirstNormBwdRefIdeal.τ).loc Cert.FirstNormBwdRefIdeal.main_arg2) = m ((c.tc : Thread Cert.FirstNormBwdRefIdeal.nD Cert.FirstNormBwdRefIdeal.τ).loc Cert.FirstNormBwdRefIdeal.main_arg2)
      ∧ r.2.mem ((c.tc : Thread Cert.FirstNormBwdRefIdeal.nD Cert.FirstNormBwdRefIdeal.τ).loc Cert.FirstNormBwdRefIdeal.main_arg3) = m ((c.tc : Thread Cert.FirstNormBwdRefIdeal.nD Cert.FirstNormBwdRefIdeal.τ).loc Cert.FirstNormBwdRefIdeal.main_arg3)
      ∧ r.2.mem ((c.tc : Thread Cert.FirstNormBwdRefIdeal.nD Cert.FirstNormBwdRefIdeal.τ).loc Cert.FirstNormBwdRefIdeal.main_arg4) = m ((c.tc : Thread Cert.FirstNormBwdRefIdeal.nD Cert.FirstNormBwdRefIdeal.τ).loc Cert.FirstNormBwdRefIdeal.main_arg4)
      ∧ r.2.mem ((c.tc : Thread Cert.FirstNormBwdRefIdeal.nD Cert.FirstNormBwdRefIdeal.τ).loc Cert.FirstNormBwdRefIdeal.main_arg5) = m ((c.tc : Thread Cert.FirstNormBwdRefIdeal.nD Cert.FirstNormBwdRefIdeal.τ).loc Cert.FirstNormBwdRefIdeal.main_arg5))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3)
      ∧ r.2.mem ((c.tc : Thread Cert.NormFwd.nD Cert.NormFwd.τ).loc Cert.NormFwd.main_arg4) = m ((c.tc : Thread Cert.NormFwd.nD Cert.NormFwd.τ).loc Cert.NormFwd.main_arg4)
      ∧ r.2.mem ((c.tc : Thread Cert.NormFwd.nD Cert.NormFwd.τ).loc Cert.NormFwd.main_arg5) = m ((c.tc : Thread Cert.NormFwd.nD Cert.NormFwd.τ).loc Cert.NormFwd.main_arg5))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3)
      ∧ r.2.mem ((c.tc : Thread Cert.NormFwdIdeal.nD Cert.NormFwdIdeal.τ).loc Cert.NormFwdIdeal.main_arg4) = m ((c.tc : Thread Cert.NormFwdIdeal.nD Cert.NormFwdIdeal.τ).loc Cert.NormFwdIdeal.main_arg4)
      ∧ r.2.mem ((c.tc : Thread Cert.NormFwdIdeal.nD Cert.NormFwdIdeal.τ).loc Cert.NormFwdIdeal.main_arg5) = m ((c.tc : Thread Cert.NormFwdIdeal.nD Cert.NormFwdIdeal.τ).loc Cert.NormFwdIdeal.main_arg5))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3)
      ∧ r.2.mem ((c.tc : Thread Cert.NormFwdRefIdeal.nD Cert.NormFwdRefIdeal.τ).loc Cert.NormFwdRefIdeal.main_arg4) = m ((c.tc : Thread Cert.NormFwdRefIdeal.nD Cert.NormFwdRefIdeal.τ).loc Cert.NormFwdRefIdeal.main_arg4)
      ∧ r.2.mem ((c.tc : Thread Cert.NormFwdRefIdeal.nD Cert.NormFwdRefIdeal.τ).loc Cert.NormFwdRefIdeal.main_arg5) = m ((c.tc : Thread Cert.NormFwdRefIdeal.nD Cert.NormFwdRefIdeal.τ).loc Cert.NormFwdRefIdeal.main_arg5))
      ∧ r.2.sem = fun _ => 0)

def quiescent_FirstNormFwd [hFirstNormFwd : Cert.FirstNormFwd.Facts] : Prop :=
  ∀ (m : (ℓ : Loc Cert.FirstNormFwd.nD Cert.FirstNormFwd.τ Cert.FirstNormFwd.sig) → Buf (Elt Bits) ℓ) (g : Dev Cert.FirstNormFwd.nD → PrngReg), Pre_FirstNormFwd m →
    θ_run (Cert.FirstNormFwd.defs (F := Bits)) (onTc (τ := Cert.FirstNormFwd.τ) (Cert.FirstNormFwd.main (F := Bits))) ⟨m, fun _ => 0, g⟩ (fun r => (∀ c : Dev Cert.FirstNormFwd.nD,
      r.2.mem ((c.tc : Thread Cert.FirstNormFwd.nD Cert.FirstNormFwd.τ).loc Cert.FirstNormFwd.main_arg0) = m ((c.tc : Thread Cert.FirstNormFwd.nD Cert.FirstNormFwd.τ).loc Cert.FirstNormFwd.main_arg0)
      ∧ r.2.mem ((c.tc : Thread Cert.FirstNormFwd.nD Cert.FirstNormFwd.τ).loc Cert.FirstNormFwd.main_arg1) = m ((c.tc : Thread Cert.FirstNormFwd.nD Cert.FirstNormFwd.τ).loc Cert.FirstNormFwd.main_arg1)
      ∧ r.2.mem ((c.tc : Thread Cert.FirstNormFwd.nD Cert.FirstNormFwd.τ).loc Cert.FirstNormFwd.main_arg2) = m ((c.tc : Thread Cert.FirstNormFwd.nD Cert.FirstNormFwd.τ).loc Cert.FirstNormFwd.main_arg2)
      ∧ r.2.mem ((c.tc : Thread Cert.FirstNormFwd.nD Cert.FirstNormFwd.τ).loc Cert.FirstNormFwd.main_arg3) = m ((c.tc : Thread Cert.FirstNormFwd.nD Cert.FirstNormFwd.τ).loc Cert.FirstNormFwd.main_arg3))
      ∧ r.2.sem = fun _ => 0)

def quiescent_FirstNormFwdIdeal [hFirstNormFwdIdeal : Cert.FirstNormFwdIdeal.Facts] : Prop :=
  ∀ (m : (ℓ : Loc Cert.FirstNormFwdIdeal.nD Cert.FirstNormFwdIdeal.τ Cert.FirstNormFwdIdeal.sig) → Buf (Elt Ideal) ℓ) (g : Dev Cert.FirstNormFwdIdeal.nD → PrngReg), Pre_FirstNormFwdIdeal m →
    θ_run (Cert.FirstNormFwdIdeal.defs (F := Ideal)) (onTc (τ := Cert.FirstNormFwdIdeal.τ) (Cert.FirstNormFwdIdeal.main (F := Ideal))) ⟨m, fun _ => 0, g⟩ (fun r => (∀ c : Dev Cert.FirstNormFwdIdeal.nD,
      r.2.mem ((c.tc : Thread Cert.FirstNormFwdIdeal.nD Cert.FirstNormFwdIdeal.τ).loc Cert.FirstNormFwdIdeal.main_arg0) = m ((c.tc : Thread Cert.FirstNormFwdIdeal.nD Cert.FirstNormFwdIdeal.τ).loc Cert.FirstNormFwdIdeal.main_arg0)
      ∧ r.2.mem ((c.tc : Thread Cert.FirstNormFwdIdeal.nD Cert.FirstNormFwdIdeal.τ).loc Cert.FirstNormFwdIdeal.main_arg1) = m ((c.tc : Thread Cert.FirstNormFwdIdeal.nD Cert.FirstNormFwdIdeal.τ).loc Cert.FirstNormFwdIdeal.main_arg1)
      ∧ r.2.mem ((c.tc : Thread Cert.FirstNormFwdIdeal.nD Cert.FirstNormFwdIdeal.τ).loc Cert.FirstNormFwdIdeal.main_arg2) = m ((c.tc : Thread Cert.FirstNormFwdIdeal.nD Cert.FirstNormFwdIdeal.τ).loc Cert.FirstNormFwdIdeal.main_arg2)
      ∧ r.2.mem ((c.tc : Thread Cert.FirstNormFwdIdeal.nD Cert.FirstNormFwdIdeal.τ).loc Cert.FirstNormFwdIdeal.main_arg3) = m ((c.tc : Thread Cert.FirstNormFwdIdeal.nD Cert.FirstNormFwdIdeal.τ).loc Cert.FirstNormFwdIdeal.main_arg3))
      ∧ r.2.sem = fun _ => 0)

def quiescent_FirstNormFwdRefIdeal [hFirstNormFwdRefIdeal : Cert.FirstNormFwdRefIdeal.Facts] : Prop :=
  ∀ (m : (ℓ : Loc Cert.FirstNormFwdRefIdeal.nD Cert.FirstNormFwdRefIdeal.τ Cert.FirstNormFwdRefIdeal.sig) → Buf (Elt Ideal) ℓ) (g : Dev Cert.FirstNormFwdRefIdeal.nD → PrngReg), Pre_FirstNormFwdRefIdeal m →
    θ_run (Cert.FirstNormFwdRefIdeal.defs (F := Ideal)) (onTc (τ := Cert.FirstNormFwdRefIdeal.τ) (Cert.FirstNormFwdRefIdeal.main (F := Ideal))) ⟨m, fun _ => 0, g⟩ (fun r => (∀ c : Dev Cert.FirstNormFwdRefIdeal.nD,
      r.2.mem ((c.tc : Thread Cert.FirstNormFwdRefIdeal.nD Cert.FirstNormFwdRefIdeal.τ).loc Cert.FirstNormFwdRefIdeal.main_arg0) = m ((c.tc : Thread Cert.FirstNormFwdRefIdeal.nD Cert.FirstNormFwdRefIdeal.τ).loc Cert.FirstNormFwdRefIdeal.main_arg0)
      ∧ r.2.mem ((c.tc : Thread Cert.FirstNormFwdRefIdeal.nD Cert.FirstNormFwdRefIdeal.τ).loc Cert.FirstNormFwdRefIdeal.main_arg1) = m ((c.tc : Thread Cert.FirstNormFwdRefIdeal.nD Cert.FirstNormFwdRefIdeal.τ).loc Cert.FirstNormFwdRefIdeal.main_arg1)
      ∧ r.2.mem ((c.tc : Thread Cert.FirstNormFwdRefIdeal.nD Cert.FirstNormFwdRefIdeal.τ).loc Cert.FirstNormFwdRefIdeal.main_arg2) = m ((c.tc : Thread Cert.FirstNormFwdRefIdeal.nD Cert.FirstNormFwdRefIdeal.τ).loc Cert.FirstNormFwdRefIdeal.main_arg2)
      ∧ r.2.mem ((c.tc : Thread Cert.FirstNormFwdRefIdeal.nD Cert.FirstNormFwdRefIdeal.τ).loc Cert.FirstNormFwdRefIdeal.main_arg3) = m ((c.tc : Thread Cert.FirstNormFwdRefIdeal.nD Cert.FirstNormFwdRefIdeal.τ).loc Cert.FirstNormFwdRefIdeal.main_arg3))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2)
      ∧ r.2.mem ((c.tc : Thread Cert.FinalLoss.nD Cert.FinalLoss.τ).loc Cert.FinalLoss.main_arg3) = m ((c.tc : Thread Cert.FinalLoss.nD Cert.FinalLoss.τ).loc Cert.FinalLoss.main_arg3)
      ∧ r.2.mem ((c.tc : Thread Cert.FinalLoss.nD Cert.FinalLoss.τ).loc Cert.FinalLoss.main_arg4) = m ((c.tc : Thread Cert.FinalLoss.nD Cert.FinalLoss.τ).loc Cert.FinalLoss.main_arg4))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
      ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
      ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2)
      ∧ r.2.mem ((c.tc : Thread Cert.FinalLossRefIdeal.nD Cert.FinalLossRefIdeal.τ).loc Cert.FinalLossRefIdeal.main_arg3) = m ((c.tc : Thread Cert.FinalLossRefIdeal.nD Cert.FinalLossRefIdeal.τ).loc Cert.FinalLossRefIdeal.main_arg3)
      ∧ r.2.mem ((c.tc : Thread Cert.FinalLossRefIdeal.nD Cert.FinalLossRefIdeal.τ).loc Cert.FinalLossRefIdeal.main_arg4) = m ((c.tc : Thread Cert.FinalLossRefIdeal.nD Cert.FinalLossRefIdeal.τ).loc Cert.FinalLossRefIdeal.main_arg4))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamQkv [hAdamQkv : Cert.AdamQkv.Facts] : Prop :=
  ∀ (m : (ℓ : Loc Cert.AdamQkv.nD Cert.AdamQkv.τ Cert.AdamQkv.sig) → Buf (Elt Bits) ℓ) (g : Dev Cert.AdamQkv.nD → PrngReg), Pre_AdamQkv m →
    θ_run (Cert.AdamQkv.defs (F := Bits)) (onTc (τ := Cert.AdamQkv.τ) (Cert.AdamQkv.main (F := Bits))) ⟨m, fun _ => 0, g⟩ (fun r => (∀ c : Dev Cert.AdamQkv.nD,
      r.2.mem ((c.tc : Thread Cert.AdamQkv.nD Cert.AdamQkv.τ).loc Cert.AdamQkv.main_arg0) = m ((c.tc : Thread Cert.AdamQkv.nD Cert.AdamQkv.τ).loc Cert.AdamQkv.main_arg0)
      ∧ r.2.mem ((c.tc : Thread Cert.AdamQkv.nD Cert.AdamQkv.τ).loc Cert.AdamQkv.main_arg1) = m ((c.tc : Thread Cert.AdamQkv.nD Cert.AdamQkv.τ).loc Cert.AdamQkv.main_arg1)
      ∧ r.2.mem ((c.tc : Thread Cert.AdamQkv.nD Cert.AdamQkv.τ).loc Cert.AdamQkv.main_arg2) = m ((c.tc : Thread Cert.AdamQkv.nD Cert.AdamQkv.τ).loc Cert.AdamQkv.main_arg2)
      ∧ r.2.mem ((c.tc : Thread Cert.AdamQkv.nD Cert.AdamQkv.τ).loc Cert.AdamQkv.main_arg3) = m ((c.tc : Thread Cert.AdamQkv.nD Cert.AdamQkv.τ).loc Cert.AdamQkv.main_arg3))
      ∧ r.2.sem = fun _ => 0)

def quiescent_AdamQkvIdeal [hAdamQkvIdeal : Cert.AdamQkvIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg), Pre_AdamQkvIdeal m →
    θ_run (Cert.AdamQkvIdeal.defs (F := Ideal)) (onTc (τ := Cert.AdamQkvIdeal.τ) (Cert.AdamQkvIdeal.main (F := Ideal))) ⟨m, fun _ => 0, g⟩ (fun r => (∀ c : Dev Cert.AdamQkvIdeal.nD,
      r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
      ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
      ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
      ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ r.2.sem = fun _ => 0)

def quiescent_AdamQkvRefIdeal [hAdamQkvRefIdeal : Cert.AdamQkvRefIdeal.Facts] : Prop :=
  ∀ (m : (ℓ : Loc Cert.AdamQkvRefIdeal.nD Cert.AdamQkvRefIdeal.τ Cert.AdamQkvRefIdeal.sig) → Buf (Elt Ideal) ℓ) (g : Dev Cert.AdamQkvRefIdeal.nD → PrngReg), Pre_AdamQkvRefIdeal m →
    θ_run (Cert.AdamQkvRefIdeal.defs (F := Ideal)) (onTc (τ := Cert.AdamQkvRefIdeal.τ) (Cert.AdamQkvRefIdeal.main (F := Ideal))) ⟨m, fun _ => 0, g⟩ (fun r => (∀ c : Dev Cert.AdamQkvRefIdeal.nD,
      r.2.mem ((c.tc : Thread Cert.AdamQkvRefIdeal.nD Cert.AdamQkvRefIdeal.τ).loc Cert.AdamQkvRefIdeal.main_arg0) = m ((c.tc : Thread Cert.AdamQkvRefIdeal.nD Cert.AdamQkvRefIdeal.τ).loc Cert.AdamQkvRefIdeal.main_arg0)
      ∧ r.2.mem ((c.tc : Thread Cert.AdamQkvRefIdeal.nD Cert.AdamQkvRefIdeal.τ).loc Cert.AdamQkvRefIdeal.main_arg1) = m ((c.tc : Thread Cert.AdamQkvRefIdeal.nD Cert.AdamQkvRefIdeal.τ).loc Cert.AdamQkvRefIdeal.main_arg1)
      ∧ r.2.mem ((c.tc : Thread Cert.AdamQkvRefIdeal.nD Cert.AdamQkvRefIdeal.τ).loc Cert.AdamQkvRefIdeal.main_arg2) = m ((c.tc : Thread Cert.AdamQkvRefIdeal.nD Cert.AdamQkvRefIdeal.τ).loc Cert.AdamQkvRefIdeal.main_arg2)
      ∧ r.2.mem ((c.tc : Thread Cert.AdamQkvRefIdeal.nD Cert.AdamQkvRefIdeal.τ).loc Cert.AdamQkvRefIdeal.main_arg3) = m ((c.tc : Thread Cert.AdamQkvRefIdeal.nD Cert.AdamQkvRefIdeal.τ).loc Cert.AdamQkvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamConvIn [hAdamConvIn : Cert.AdamConvIn.Facts] : Prop :=
  ∀ (m : (ℓ : Loc Cert.AdamConvIn.nD Cert.AdamConvIn.τ Cert.AdamConvIn.sig) → Buf (Elt Bits) ℓ) (g : Dev Cert.AdamConvIn.nD → PrngReg), Pre_AdamConvIn m →
    θ_run (Cert.AdamConvIn.defs (F := Bits)) (onTc (τ := Cert.AdamConvIn.τ) (Cert.AdamConvIn.main (F := Bits))) ⟨m, fun _ => 0, g⟩ (fun r => (∀ c : Dev Cert.AdamConvIn.nD,
      r.2.mem ((c.tc : Thread Cert.AdamConvIn.nD Cert.AdamConvIn.τ).loc Cert.AdamConvIn.main_arg0) = m ((c.tc : Thread Cert.AdamConvIn.nD Cert.AdamConvIn.τ).loc Cert.AdamConvIn.main_arg0)
      ∧ r.2.mem ((c.tc : Thread Cert.AdamConvIn.nD Cert.AdamConvIn.τ).loc Cert.AdamConvIn.main_arg1) = m ((c.tc : Thread Cert.AdamConvIn.nD Cert.AdamConvIn.τ).loc Cert.AdamConvIn.main_arg1)
      ∧ r.2.mem ((c.tc : Thread Cert.AdamConvIn.nD Cert.AdamConvIn.τ).loc Cert.AdamConvIn.main_arg2) = m ((c.tc : Thread Cert.AdamConvIn.nD Cert.AdamConvIn.τ).loc Cert.AdamConvIn.main_arg2)
      ∧ r.2.mem ((c.tc : Thread Cert.AdamConvIn.nD Cert.AdamConvIn.τ).loc Cert.AdamConvIn.main_arg3) = m ((c.tc : Thread Cert.AdamConvIn.nD Cert.AdamConvIn.τ).loc Cert.AdamConvIn.main_arg3))
      ∧ r.2.sem = fun _ => 0)

def quiescent_AdamConvInIdeal [hAdamConvInIdeal : Cert.AdamConvInIdeal.Facts] : Prop :=
  ∀ (m : (ℓ : Loc Cert.AdamConvInIdeal.nD Cert.AdamConvInIdeal.τ Cert.AdamConvInIdeal.sig) → Buf (Elt Ideal) ℓ) (g : Dev Cert.AdamConvInIdeal.nD → PrngReg), Pre_AdamConvInIdeal m →
    θ_run (Cert.AdamConvInIdeal.defs (F := Ideal)) (onTc (τ := Cert.AdamConvInIdeal.τ) (Cert.AdamConvInIdeal.main (F := Ideal))) ⟨m, fun _ => 0, g⟩ (fun r => (∀ c : Dev Cert.AdamConvInIdeal.nD,
      r.2.mem ((c.tc : Thread Cert.AdamConvInIdeal.nD Cert.AdamConvInIdeal.τ).loc Cert.AdamConvInIdeal.main_arg0) = m ((c.tc : Thread Cert.AdamConvInIdeal.nD Cert.AdamConvInIdeal.τ).loc Cert.AdamConvInIdeal.main_arg0)
      ∧ r.2.mem ((c.tc : Thread Cert.AdamConvInIdeal.nD Cert.AdamConvInIdeal.τ).loc Cert.AdamConvInIdeal.main_arg1) = m ((c.tc : Thread Cert.AdamConvInIdeal.nD Cert.AdamConvInIdeal.τ).loc Cert.AdamConvInIdeal.main_arg1)
      ∧ r.2.mem ((c.tc : Thread Cert.AdamConvInIdeal.nD Cert.AdamConvInIdeal.τ).loc Cert.AdamConvInIdeal.main_arg2) = m ((c.tc : Thread Cert.AdamConvInIdeal.nD Cert.AdamConvInIdeal.τ).loc Cert.AdamConvInIdeal.main_arg2)
      ∧ r.2.mem ((c.tc : Thread Cert.AdamConvInIdeal.nD Cert.AdamConvInIdeal.τ).loc Cert.AdamConvInIdeal.main_arg3) = m ((c.tc : Thread Cert.AdamConvInIdeal.nD Cert.AdamConvInIdeal.τ).loc Cert.AdamConvInIdeal.main_arg3))
      ∧ r.2.sem = fun _ => 0)

def quiescent_AdamConvInRefIdeal [hAdamConvInRefIdeal : Cert.AdamConvInRefIdeal.Facts] : Prop :=
  ∀ (m : (ℓ : Loc Cert.AdamConvInRefIdeal.nD Cert.AdamConvInRefIdeal.τ Cert.AdamConvInRefIdeal.sig) → Buf (Elt Ideal) ℓ) (g : Dev Cert.AdamConvInRefIdeal.nD → PrngReg), Pre_AdamConvInRefIdeal m →
    θ_run (Cert.AdamConvInRefIdeal.defs (F := Ideal)) (onTc (τ := Cert.AdamConvInRefIdeal.τ) (Cert.AdamConvInRefIdeal.main (F := Ideal))) ⟨m, fun _ => 0, g⟩ (fun r => (∀ c : Dev Cert.AdamConvInRefIdeal.nD,
      r.2.mem ((c.tc : Thread Cert.AdamConvInRefIdeal.nD Cert.AdamConvInRefIdeal.τ).loc Cert.AdamConvInRefIdeal.main_arg0) = m ((c.tc : Thread Cert.AdamConvInRefIdeal.nD Cert.AdamConvInRefIdeal.τ).loc Cert.AdamConvInRefIdeal.main_arg0)
      ∧ r.2.mem ((c.tc : Thread Cert.AdamConvInRefIdeal.nD Cert.AdamConvInRefIdeal.τ).loc Cert.AdamConvInRefIdeal.main_arg1) = m ((c.tc : Thread Cert.AdamConvInRefIdeal.nD Cert.AdamConvInRefIdeal.τ).loc Cert.AdamConvInRefIdeal.main_arg1)
      ∧ r.2.mem ((c.tc : Thread Cert.AdamConvInRefIdeal.nD Cert.AdamConvInRefIdeal.τ).loc Cert.AdamConvInRefIdeal.main_arg2) = m ((c.tc : Thread Cert.AdamConvInRefIdeal.nD Cert.AdamConvInRefIdeal.τ).loc Cert.AdamConvInRefIdeal.main_arg2)
      ∧ r.2.mem ((c.tc : Thread Cert.AdamConvInRefIdeal.nD Cert.AdamConvInRefIdeal.τ).loc Cert.AdamConvInRefIdeal.main_arg3) = m ((c.tc : Thread Cert.AdamConvInRefIdeal.nD Cert.AdamConvInRefIdeal.τ).loc Cert.AdamConvInRefIdeal.main_arg3))
      ∧ r.2.sem = fun _ => 0)

def quiescent_AdamConvOut [hAdamConvOut : Cert.AdamConvOut.Facts] : Prop :=
  ∀ (m : (ℓ : Loc Cert.AdamConvOut.nD Cert.AdamConvOut.τ Cert.AdamConvOut.sig) → Buf (Elt Bits) ℓ) (g : Dev Cert.AdamConvOut.nD → PrngReg), Pre_AdamConvOut m →
    θ_run (Cert.AdamConvOut.defs (F := Bits)) (onTc (τ := Cert.AdamConvOut.τ) (Cert.AdamConvOut.main (F := Bits))) ⟨m, fun _ => 0, g⟩ (fun r => (∀ c : Dev Cert.AdamConvOut.nD,
      r.2.mem ((c.tc : Thread Cert.AdamConvOut.nD Cert.AdamConvOut.τ).loc Cert.AdamConvOut.main_arg0) = m ((c.tc : Thread Cert.AdamConvOut.nD Cert.AdamConvOut.τ).loc Cert.AdamConvOut.main_arg0)
      ∧ r.2.mem ((c.tc : Thread Cert.AdamConvOut.nD Cert.AdamConvOut.τ).loc Cert.AdamConvOut.main_arg1) = m ((c.tc : Thread Cert.AdamConvOut.nD Cert.AdamConvOut.τ).loc Cert.AdamConvOut.main_arg1)
      ∧ r.2.mem ((c.tc : Thread Cert.AdamConvOut.nD Cert.AdamConvOut.τ).loc Cert.AdamConvOut.main_arg2) = m ((c.tc : Thread Cert.AdamConvOut.nD Cert.AdamConvOut.τ).loc Cert.AdamConvOut.main_arg2)
      ∧ r.2.mem ((c.tc : Thread Cert.AdamConvOut.nD Cert.AdamConvOut.τ).loc Cert.AdamConvOut.main_arg3) = m ((c.tc : Thread Cert.AdamConvOut.nD Cert.AdamConvOut.τ).loc Cert.AdamConvOut.main_arg3))
      ∧ r.2.sem = fun _ => 0)

def quiescent_AdamConvOutIdeal [hAdamConvOutIdeal : Cert.AdamConvOutIdeal.Facts] : Prop :=
  ∀ (m : (ℓ : Loc Cert.AdamConvOutIdeal.nD Cert.AdamConvOutIdeal.τ Cert.AdamConvOutIdeal.sig) → Buf (Elt Ideal) ℓ) (g : Dev Cert.AdamConvOutIdeal.nD → PrngReg), Pre_AdamConvOutIdeal m →
    θ_run (Cert.AdamConvOutIdeal.defs (F := Ideal)) (onTc (τ := Cert.AdamConvOutIdeal.τ) (Cert.AdamConvOutIdeal.main (F := Ideal))) ⟨m, fun _ => 0, g⟩ (fun r => (∀ c : Dev Cert.AdamConvOutIdeal.nD,
      r.2.mem ((c.tc : Thread Cert.AdamConvOutIdeal.nD Cert.AdamConvOutIdeal.τ).loc Cert.AdamConvOutIdeal.main_arg0) = m ((c.tc : Thread Cert.AdamConvOutIdeal.nD Cert.AdamConvOutIdeal.τ).loc Cert.AdamConvOutIdeal.main_arg0)
      ∧ r.2.mem ((c.tc : Thread Cert.AdamConvOutIdeal.nD Cert.AdamConvOutIdeal.τ).loc Cert.AdamConvOutIdeal.main_arg1) = m ((c.tc : Thread Cert.AdamConvOutIdeal.nD Cert.AdamConvOutIdeal.τ).loc Cert.AdamConvOutIdeal.main_arg1)
      ∧ r.2.mem ((c.tc : Thread Cert.AdamConvOutIdeal.nD Cert.AdamConvOutIdeal.τ).loc Cert.AdamConvOutIdeal.main_arg2) = m ((c.tc : Thread Cert.AdamConvOutIdeal.nD Cert.AdamConvOutIdeal.τ).loc Cert.AdamConvOutIdeal.main_arg2)
      ∧ r.2.mem ((c.tc : Thread Cert.AdamConvOutIdeal.nD Cert.AdamConvOutIdeal.τ).loc Cert.AdamConvOutIdeal.main_arg3) = m ((c.tc : Thread Cert.AdamConvOutIdeal.nD Cert.AdamConvOutIdeal.τ).loc Cert.AdamConvOutIdeal.main_arg3))
      ∧ r.2.sem = fun _ => 0)

def quiescent_AdamConvOutRefIdeal [hAdamConvOutRefIdeal : Cert.AdamConvOutRefIdeal.Facts] : Prop :=
  ∀ (m : (ℓ : Loc Cert.AdamConvOutRefIdeal.nD Cert.AdamConvOutRefIdeal.τ Cert.AdamConvOutRefIdeal.sig) → Buf (Elt Ideal) ℓ) (g : Dev Cert.AdamConvOutRefIdeal.nD → PrngReg), Pre_AdamConvOutRefIdeal m →
    θ_run (Cert.AdamConvOutRefIdeal.defs (F := Ideal)) (onTc (τ := Cert.AdamConvOutRefIdeal.τ) (Cert.AdamConvOutRefIdeal.main (F := Ideal))) ⟨m, fun _ => 0, g⟩ (fun r => (∀ c : Dev Cert.AdamConvOutRefIdeal.nD,
      r.2.mem ((c.tc : Thread Cert.AdamConvOutRefIdeal.nD Cert.AdamConvOutRefIdeal.τ).loc Cert.AdamConvOutRefIdeal.main_arg0) = m ((c.tc : Thread Cert.AdamConvOutRefIdeal.nD Cert.AdamConvOutRefIdeal.τ).loc Cert.AdamConvOutRefIdeal.main_arg0)
      ∧ r.2.mem ((c.tc : Thread Cert.AdamConvOutRefIdeal.nD Cert.AdamConvOutRefIdeal.τ).loc Cert.AdamConvOutRefIdeal.main_arg1) = m ((c.tc : Thread Cert.AdamConvOutRefIdeal.nD Cert.AdamConvOutRefIdeal.τ).loc Cert.AdamConvOutRefIdeal.main_arg1)
      ∧ r.2.mem ((c.tc : Thread Cert.AdamConvOutRefIdeal.nD Cert.AdamConvOutRefIdeal.τ).loc Cert.AdamConvOutRefIdeal.main_arg2) = m ((c.tc : Thread Cert.AdamConvOutRefIdeal.nD Cert.AdamConvOutRefIdeal.τ).loc Cert.AdamConvOutRefIdeal.main_arg2)
      ∧ r.2.mem ((c.tc : Thread Cert.AdamConvOutRefIdeal.nD Cert.AdamConvOutRefIdeal.τ).loc Cert.AdamConvOutRefIdeal.main_arg3) = m ((c.tc : Thread Cert.AdamConvOutRefIdeal.nD Cert.AdamConvOutRefIdeal.τ).loc Cert.AdamConvOutRefIdeal.main_arg3))
      ∧ r.2.sem = fun _ => 0)

def quiescent_AdamSguIn [hAdamSguIn : Cert.AdamSguIn.Facts] : Prop :=
  ∀ (m : (ℓ : Loc Cert.AdamSguIn.nD Cert.AdamSguIn.τ Cert.AdamSguIn.sig) → Buf (Elt Bits) ℓ) (g : Dev Cert.AdamSguIn.nD → PrngReg), Pre_AdamSguIn m →
    θ_run (Cert.AdamSguIn.defs (F := Bits)) (onTc (τ := Cert.AdamSguIn.τ) (Cert.AdamSguIn.main (F := Bits))) ⟨m, fun _ => 0, g⟩ (fun r => (∀ c : Dev Cert.AdamSguIn.nD,
      r.2.mem ((c.tc : Thread Cert.AdamSguIn.nD Cert.AdamSguIn.τ).loc Cert.AdamSguIn.main_arg0) = m ((c.tc : Thread Cert.AdamSguIn.nD Cert.AdamSguIn.τ).loc Cert.AdamSguIn.main_arg0)
      ∧ r.2.mem ((c.tc : Thread Cert.AdamSguIn.nD Cert.AdamSguIn.τ).loc Cert.AdamSguIn.main_arg1) = m ((c.tc : Thread Cert.AdamSguIn.nD Cert.AdamSguIn.τ).loc Cert.AdamSguIn.main_arg1)
      ∧ r.2.mem ((c.tc : Thread Cert.AdamSguIn.nD Cert.AdamSguIn.τ).loc Cert.AdamSguIn.main_arg2) = m ((c.tc : Thread Cert.AdamSguIn.nD Cert.AdamSguIn.τ).loc Cert.AdamSguIn.main_arg2)
      ∧ r.2.mem ((c.tc : Thread Cert.AdamSguIn.nD Cert.AdamSguIn.τ).loc Cert.AdamSguIn.main_arg3) = m ((c.tc : Thread Cert.AdamSguIn.nD Cert.AdamSguIn.τ).loc Cert.AdamSguIn.main_arg3))
      ∧ r.2.sem = fun _ => 0)

def quiescent_AdamSguInIdeal [hAdamSguInIdeal : Cert.AdamSguInIdeal.Facts] : Prop :=
  ∀ (m : (ℓ : Loc Cert.AdamSguInIdeal.nD Cert.AdamSguInIdeal.τ Cert.AdamSguInIdeal.sig) → Buf (Elt Ideal) ℓ) (g : Dev Cert.AdamSguInIdeal.nD → PrngReg), Pre_AdamSguInIdeal m →
    θ_run (Cert.AdamSguInIdeal.defs (F := Ideal)) (onTc (τ := Cert.AdamSguInIdeal.τ) (Cert.AdamSguInIdeal.main (F := Ideal))) ⟨m, fun _ => 0, g⟩ (fun r => (∀ c : Dev Cert.AdamSguInIdeal.nD,
      r.2.mem ((c.tc : Thread Cert.AdamSguInIdeal.nD Cert.AdamSguInIdeal.τ).loc Cert.AdamSguInIdeal.main_arg0) = m ((c.tc : Thread Cert.AdamSguInIdeal.nD Cert.AdamSguInIdeal.τ).loc Cert.AdamSguInIdeal.main_arg0)
      ∧ r.2.mem ((c.tc : Thread Cert.AdamSguInIdeal.nD Cert.AdamSguInIdeal.τ).loc Cert.AdamSguInIdeal.main_arg1) = m ((c.tc : Thread Cert.AdamSguInIdeal.nD Cert.AdamSguInIdeal.τ).loc Cert.AdamSguInIdeal.main_arg1)
      ∧ r.2.mem ((c.tc : Thread Cert.AdamSguInIdeal.nD Cert.AdamSguInIdeal.τ).loc Cert.AdamSguInIdeal.main_arg2) = m ((c.tc : Thread Cert.AdamSguInIdeal.nD Cert.AdamSguInIdeal.τ).loc Cert.AdamSguInIdeal.main_arg2)
      ∧ r.2.mem ((c.tc : Thread Cert.AdamSguInIdeal.nD Cert.AdamSguInIdeal.τ).loc Cert.AdamSguInIdeal.main_arg3) = m ((c.tc : Thread Cert.AdamSguInIdeal.nD Cert.AdamSguInIdeal.τ).loc Cert.AdamSguInIdeal.main_arg3))
      ∧ r.2.sem = fun _ => 0)

def quiescent_AdamSguInRefIdeal [hAdamSguInRefIdeal : Cert.AdamSguInRefIdeal.Facts] : Prop :=
  ∀ (m : (ℓ : Loc Cert.AdamSguInRefIdeal.nD Cert.AdamSguInRefIdeal.τ Cert.AdamSguInRefIdeal.sig) → Buf (Elt Ideal) ℓ) (g : Dev Cert.AdamSguInRefIdeal.nD → PrngReg), Pre_AdamSguInRefIdeal m →
    θ_run (Cert.AdamSguInRefIdeal.defs (F := Ideal)) (onTc (τ := Cert.AdamSguInRefIdeal.τ) (Cert.AdamSguInRefIdeal.main (F := Ideal))) ⟨m, fun _ => 0, g⟩ (fun r => (∀ c : Dev Cert.AdamSguInRefIdeal.nD,
      r.2.mem ((c.tc : Thread Cert.AdamSguInRefIdeal.nD Cert.AdamSguInRefIdeal.τ).loc Cert.AdamSguInRefIdeal.main_arg0) = m ((c.tc : Thread Cert.AdamSguInRefIdeal.nD Cert.AdamSguInRefIdeal.τ).loc Cert.AdamSguInRefIdeal.main_arg0)
      ∧ r.2.mem ((c.tc : Thread Cert.AdamSguInRefIdeal.nD Cert.AdamSguInRefIdeal.τ).loc Cert.AdamSguInRefIdeal.main_arg1) = m ((c.tc : Thread Cert.AdamSguInRefIdeal.nD Cert.AdamSguInRefIdeal.τ).loc Cert.AdamSguInRefIdeal.main_arg1)
      ∧ r.2.mem ((c.tc : Thread Cert.AdamSguInRefIdeal.nD Cert.AdamSguInRefIdeal.τ).loc Cert.AdamSguInRefIdeal.main_arg2) = m ((c.tc : Thread Cert.AdamSguInRefIdeal.nD Cert.AdamSguInRefIdeal.τ).loc Cert.AdamSguInRefIdeal.main_arg2)
      ∧ r.2.mem ((c.tc : Thread Cert.AdamSguInRefIdeal.nD Cert.AdamSguInRefIdeal.τ).loc Cert.AdamSguInRefIdeal.main_arg3) = m ((c.tc : Thread Cert.AdamSguInRefIdeal.nD Cert.AdamSguInRefIdeal.τ).loc Cert.AdamSguInRefIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumQkv [hSumQkv : Cert.SumQkv.Facts] : Prop :=
  ∀ (m : (ℓ : Loc Cert.SumQkv.nD Cert.SumQkv.τ Cert.SumQkv.sig) → Buf (Elt Bits) ℓ) (g : Dev Cert.SumQkv.nD → PrngReg), Pre_SumQkv m →
    θ_run (Cert.SumQkv.defs (F := Bits)) (onTc (τ := Cert.SumQkv.τ) (Cert.SumQkv.main (F := Bits))) ⟨m, fun _ => 0, g⟩ (fun r => (∀ c : Dev Cert.SumQkv.nD,
      r.2.mem ((c.tc : Thread Cert.SumQkv.nD Cert.SumQkv.τ).loc Cert.SumQkv.main_arg0) = m ((c.tc : Thread Cert.SumQkv.nD Cert.SumQkv.τ).loc Cert.SumQkv.main_arg0))
      ∧ r.2.sem = fun _ => 0)

def quiescent_SumQkvIdeal [hSumQkvIdeal : Cert.SumQkvIdeal.Facts] : Prop :=
  ∀ (m : (ℓ : Loc Cert.SumQkvIdeal.nD Cert.SumQkvIdeal.τ Cert.SumQkvIdeal.sig) → Buf (Elt Ideal) ℓ) (g : Dev Cert.SumQkvIdeal.nD → PrngReg), Pre_SumQkvIdeal m →
    θ_run (Cert.SumQkvIdeal.defs (F := Ideal)) (onTc (τ := Cert.SumQkvIdeal.τ) (Cert.SumQkvIdeal.main (F := Ideal))) ⟨m, fun _ => 0, g⟩ (fun r => (∀ c : Dev Cert.SumQkvIdeal.nD,
      r.2.mem ((c.tc : Thread Cert.SumQkvIdeal.nD Cert.SumQkvIdeal.τ).loc Cert.SumQkvIdeal.main_arg0) = m ((c.tc : Thread Cert.SumQkvIdeal.nD Cert.SumQkvIdeal.τ).loc Cert.SumQkvIdeal.main_arg0))
      ∧ r.2.sem = fun _ => 0)

def quiescent_SumQkvRefIdeal [hSumQkvRefIdeal : Cert.SumQkvRefIdeal.Facts] : Prop :=
  ∀ (m : (ℓ : Loc Cert.SumQkvRefIdeal.nD Cert.SumQkvRefIdeal.τ Cert.SumQkvRefIdeal.sig) → Buf (Elt Ideal) ℓ) (g : Dev Cert.SumQkvRefIdeal.nD → PrngReg), Pre_SumQkvRefIdeal m →
    θ_run (Cert.SumQkvRefIdeal.defs (F := Ideal)) (onTc (τ := Cert.SumQkvRefIdeal.τ) (Cert.SumQkvRefIdeal.main (F := Ideal))) ⟨m, fun _ => 0, g⟩ (fun r => (∀ c : Dev Cert.SumQkvRefIdeal.nD,
      r.2.mem ((c.tc : Thread Cert.SumQkvRefIdeal.nD Cert.SumQkvRefIdeal.τ).loc Cert.SumQkvRefIdeal.main_arg0) = m ((c.tc : Thread Cert.SumQkvRefIdeal.nD Cert.SumQkvRefIdeal.τ).loc Cert.SumQkvRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumSguOut [hSumSguOut : Cert.SumSguOut.Facts] : Prop :=
  ∀ (m : (ℓ : Loc Cert.SumSguOut.nD Cert.SumSguOut.τ Cert.SumSguOut.sig) → Buf (Elt Bits) ℓ) (g : Dev Cert.SumSguOut.nD → PrngReg), Pre_SumSguOut m →
    θ_run (Cert.SumSguOut.defs (F := Bits)) (onTc (τ := Cert.SumSguOut.τ) (Cert.SumSguOut.main (F := Bits))) ⟨m, fun _ => 0, g⟩ (fun r => (∀ c : Dev Cert.SumSguOut.nD,
      r.2.mem ((c.tc : Thread Cert.SumSguOut.nD Cert.SumSguOut.τ).loc Cert.SumSguOut.main_arg0) = m ((c.tc : Thread Cert.SumSguOut.nD Cert.SumSguOut.τ).loc Cert.SumSguOut.main_arg0))
      ∧ r.2.sem = fun _ => 0)

def quiescent_SumSguOutIdeal [hSumSguOutIdeal : Cert.SumSguOutIdeal.Facts] : Prop :=
  ∀ (m : (ℓ : Loc Cert.SumSguOutIdeal.nD Cert.SumSguOutIdeal.τ Cert.SumSguOutIdeal.sig) → Buf (Elt Ideal) ℓ) (g : Dev Cert.SumSguOutIdeal.nD → PrngReg), Pre_SumSguOutIdeal m →
    θ_run (Cert.SumSguOutIdeal.defs (F := Ideal)) (onTc (τ := Cert.SumSguOutIdeal.τ) (Cert.SumSguOutIdeal.main (F := Ideal))) ⟨m, fun _ => 0, g⟩ (fun r => (∀ c : Dev Cert.SumSguOutIdeal.nD,
      r.2.mem ((c.tc : Thread Cert.SumSguOutIdeal.nD Cert.SumSguOutIdeal.τ).loc Cert.SumSguOutIdeal.main_arg0) = m ((c.tc : Thread Cert.SumSguOutIdeal.nD Cert.SumSguOutIdeal.τ).loc Cert.SumSguOutIdeal.main_arg0))
      ∧ r.2.sem = fun _ => 0)

def quiescent_SumSguOutRefIdeal [hSumSguOutRefIdeal : Cert.SumSguOutRefIdeal.Facts] : Prop :=
  ∀ (m : (ℓ : Loc Cert.SumSguOutRefIdeal.nD Cert.SumSguOutRefIdeal.τ Cert.SumSguOutRefIdeal.sig) → Buf (Elt Ideal) ℓ) (g : Dev Cert.SumSguOutRefIdeal.nD → PrngReg), Pre_SumSguOutRefIdeal m →
    θ_run (Cert.SumSguOutRefIdeal.defs (F := Ideal)) (onTc (τ := Cert.SumSguOutRefIdeal.τ) (Cert.SumSguOutRefIdeal.main (F := Ideal))) ⟨m, fun _ => 0, g⟩ (fun r => (∀ c : Dev Cert.SumSguOutRefIdeal.nD,
      r.2.mem ((c.tc : Thread Cert.SumSguOutRefIdeal.nD Cert.SumSguOutRefIdeal.τ).loc Cert.SumSguOutRefIdeal.main_arg0) = m ((c.tc : Thread Cert.SumSguOutRefIdeal.nD Cert.SumSguOutRefIdeal.τ).loc Cert.SumSguOutRefIdeal.main_arg0))
      ∧ r.2.sem = fun _ => 0)

def quiescent_SumSguIn [hSumSguIn : Cert.SumSguIn.Facts] : Prop :=
  ∀ (m : (ℓ : Loc Cert.SumSguIn.nD Cert.SumSguIn.τ Cert.SumSguIn.sig) → Buf (Elt Bits) ℓ) (g : Dev Cert.SumSguIn.nD → PrngReg), Pre_SumSguIn m →
    θ_run (Cert.SumSguIn.defs (F := Bits)) (onTc (τ := Cert.SumSguIn.τ) (Cert.SumSguIn.main (F := Bits))) ⟨m, fun _ => 0, g⟩ (fun r => (∀ c : Dev Cert.SumSguIn.nD,
      r.2.mem ((c.tc : Thread Cert.SumSguIn.nD Cert.SumSguIn.τ).loc Cert.SumSguIn.main_arg0) = m ((c.tc : Thread Cert.SumSguIn.nD Cert.SumSguIn.τ).loc Cert.SumSguIn.main_arg0))
      ∧ r.2.sem = fun _ => 0)

def quiescent_SumSguInIdeal [hSumSguInIdeal : Cert.SumSguInIdeal.Facts] : Prop :=
  ∀ (m : (ℓ : Loc Cert.SumSguInIdeal.nD Cert.SumSguInIdeal.τ Cert.SumSguInIdeal.sig) → Buf (Elt Ideal) ℓ) (g : Dev Cert.SumSguInIdeal.nD → PrngReg), Pre_SumSguInIdeal m →
    θ_run (Cert.SumSguInIdeal.defs (F := Ideal)) (onTc (τ := Cert.SumSguInIdeal.τ) (Cert.SumSguInIdeal.main (F := Ideal))) ⟨m, fun _ => 0, g⟩ (fun r => (∀ c : Dev Cert.SumSguInIdeal.nD,
      r.2.mem ((c.tc : Thread Cert.SumSguInIdeal.nD Cert.SumSguInIdeal.τ).loc Cert.SumSguInIdeal.main_arg0) = m ((c.tc : Thread Cert.SumSguInIdeal.nD Cert.SumSguInIdeal.τ).loc Cert.SumSguInIdeal.main_arg0))
      ∧ r.2.sem = fun _ => 0)

def quiescent_SumSguInRefIdeal [hSumSguInRefIdeal : Cert.SumSguInRefIdeal.Facts] : Prop :=
  ∀ (m : (ℓ : Loc Cert.SumSguInRefIdeal.nD Cert.SumSguInRefIdeal.τ Cert.SumSguInRefIdeal.sig) → Buf (Elt Ideal) ℓ) (g : Dev Cert.SumSguInRefIdeal.nD → PrngReg), Pre_SumSguInRefIdeal m →
    θ_run (Cert.SumSguInRefIdeal.defs (F := Ideal)) (onTc (τ := Cert.SumSguInRefIdeal.τ) (Cert.SumSguInRefIdeal.main (F := Ideal))) ⟨m, fun _ => 0, g⟩ (fun r => (∀ c : Dev Cert.SumSguInRefIdeal.nD,
      r.2.mem ((c.tc : Thread Cert.SumSguInRefIdeal.nD Cert.SumSguInRefIdeal.τ).loc Cert.SumSguInRefIdeal.main_arg0) = m ((c.tc : Thread Cert.SumSguInRefIdeal.nD Cert.SumSguInRefIdeal.τ).loc Cert.SumSguInRefIdeal.main_arg0))
      ∧ r.2.sem = fun _ => 0)

def quiescent_SumFfnIn [hSumFfnIn : Cert.SumFfnIn.Facts] : Prop :=
  ∀ (m : (ℓ : Loc Cert.SumFfnIn.nD Cert.SumFfnIn.τ Cert.SumFfnIn.sig) → Buf (Elt Bits) ℓ) (g : Dev Cert.SumFfnIn.nD → PrngReg), Pre_SumFfnIn m →
    θ_run (Cert.SumFfnIn.defs (F := Bits)) (onTc (τ := Cert.SumFfnIn.τ) (Cert.SumFfnIn.main (F := Bits))) ⟨m, fun _ => 0, g⟩ (fun r => (∀ c : Dev Cert.SumFfnIn.nD,
      r.2.mem ((c.tc : Thread Cert.SumFfnIn.nD Cert.SumFfnIn.τ).loc Cert.SumFfnIn.main_arg0) = m ((c.tc : Thread Cert.SumFfnIn.nD Cert.SumFfnIn.τ).loc Cert.SumFfnIn.main_arg0))
      ∧ r.2.sem = fun _ => 0)

def quiescent_SumFfnInIdeal [hSumFfnInIdeal : Cert.SumFfnInIdeal.Facts] : Prop :=
  ∀ (m : (ℓ : Loc Cert.SumFfnInIdeal.nD Cert.SumFfnInIdeal.τ Cert.SumFfnInIdeal.sig) → Buf (Elt Ideal) ℓ) (g : Dev Cert.SumFfnInIdeal.nD → PrngReg), Pre_SumFfnInIdeal m →
    θ_run (Cert.SumFfnInIdeal.defs (F := Ideal)) (onTc (τ := Cert.SumFfnInIdeal.τ) (Cert.SumFfnInIdeal.main (F := Ideal))) ⟨m, fun _ => 0, g⟩ (fun r => (∀ c : Dev Cert.SumFfnInIdeal.nD,
      r.2.mem ((c.tc : Thread Cert.SumFfnInIdeal.nD Cert.SumFfnInIdeal.τ).loc Cert.SumFfnInIdeal.main_arg0) = m ((c.tc : Thread Cert.SumFfnInIdeal.nD Cert.SumFfnInIdeal.τ).loc Cert.SumFfnInIdeal.main_arg0))
      ∧ r.2.sem = fun _ => 0)

def quiescent_SumFfnInRefIdeal [hSumFfnInRefIdeal : Cert.SumFfnInRefIdeal.Facts] : Prop :=
  ∀ (m : (ℓ : Loc Cert.SumFfnInRefIdeal.nD Cert.SumFfnInRefIdeal.τ Cert.SumFfnInRefIdeal.sig) → Buf (Elt Ideal) ℓ) (g : Dev Cert.SumFfnInRefIdeal.nD → PrngReg), Pre_SumFfnInRefIdeal m →
    θ_run (Cert.SumFfnInRefIdeal.defs (F := Ideal)) (onTc (τ := Cert.SumFfnInRefIdeal.τ) (Cert.SumFfnInRefIdeal.main (F := Ideal))) ⟨m, fun _ => 0, g⟩ (fun r => (∀ c : Dev Cert.SumFfnInRefIdeal.nD,
      r.2.mem ((c.tc : Thread Cert.SumFfnInRefIdeal.nD Cert.SumFfnInRefIdeal.τ).loc Cert.SumFfnInRefIdeal.main_arg0) = m ((c.tc : Thread Cert.SumFfnInRefIdeal.nD Cert.SumFfnInRefIdeal.τ).loc Cert.SumFfnInRefIdeal.main_arg0))
      ∧ r.2.sem = fun _ => 0)

def quiescent_SumFfnOut [hSumFfnOut : Cert.SumFfnOut.Facts] : Prop :=
  ∀ (m : (ℓ : Loc Cert.SumFfnOut.nD Cert.SumFfnOut.τ Cert.SumFfnOut.sig) → Buf (Elt Bits) ℓ) (g : Dev Cert.SumFfnOut.nD → PrngReg), Pre_SumFfnOut m →
    θ_run (Cert.SumFfnOut.defs (F := Bits)) (onTc (τ := Cert.SumFfnOut.τ) (Cert.SumFfnOut.main (F := Bits))) ⟨m, fun _ => 0, g⟩ (fun r => (∀ c : Dev Cert.SumFfnOut.nD,
      r.2.mem ((c.tc : Thread Cert.SumFfnOut.nD Cert.SumFfnOut.τ).loc Cert.SumFfnOut.main_arg0) = m ((c.tc : Thread Cert.SumFfnOut.nD Cert.SumFfnOut.τ).loc Cert.SumFfnOut.main_arg0))
      ∧ r.2.sem = fun _ => 0)

def quiescent_SumFfnOutIdeal [hSumFfnOutIdeal : Cert.SumFfnOutIdeal.Facts] : Prop :=
  ∀ (m : (ℓ : Loc Cert.SumFfnOutIdeal.nD Cert.SumFfnOutIdeal.τ Cert.SumFfnOutIdeal.sig) → Buf (Elt Ideal) ℓ) (g : Dev Cert.SumFfnOutIdeal.nD → PrngReg), Pre_SumFfnOutIdeal m →
    θ_run (Cert.SumFfnOutIdeal.defs (F := Ideal)) (onTc (τ := Cert.SumFfnOutIdeal.τ) (Cert.SumFfnOutIdeal.main (F := Ideal))) ⟨m, fun _ => 0, g⟩ (fun r => (∀ c : Dev Cert.SumFfnOutIdeal.nD,
      r.2.mem ((c.tc : Thread Cert.SumFfnOutIdeal.nD Cert.SumFfnOutIdeal.τ).loc Cert.SumFfnOutIdeal.main_arg0) = m ((c.tc : Thread Cert.SumFfnOutIdeal.nD Cert.SumFfnOutIdeal.τ).loc Cert.SumFfnOutIdeal.main_arg0))
      ∧ r.2.sem = fun _ => 0)

def quiescent_SumFfnOutRefIdeal [hSumFfnOutRefIdeal : Cert.SumFfnOutRefIdeal.Facts] : Prop :=
  ∀ (m : (ℓ : Loc Cert.SumFfnOutRefIdeal.nD Cert.SumFfnOutRefIdeal.τ Cert.SumFfnOutRefIdeal.sig) → Buf (Elt Ideal) ℓ) (g : Dev Cert.SumFfnOutRefIdeal.nD → PrngReg), Pre_SumFfnOutRefIdeal m →
    θ_run (Cert.SumFfnOutRefIdeal.defs (F := Ideal)) (onTc (τ := Cert.SumFfnOutRefIdeal.τ) (Cert.SumFfnOutRefIdeal.main (F := Ideal))) ⟨m, fun _ => 0, g⟩ (fun r => (∀ c : Dev Cert.SumFfnOutRefIdeal.nD,
      r.2.mem ((c.tc : Thread Cert.SumFfnOutRefIdeal.nD Cert.SumFfnOutRefIdeal.τ).loc Cert.SumFfnOutRefIdeal.main_arg0) = m ((c.tc : Thread Cert.SumFfnOutRefIdeal.nD Cert.SumFfnOutRefIdeal.τ).loc Cert.SumFfnOutRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumSmallHalf [hSumSmallHalf : Cert.SumSmallHalf.Facts] : Prop :=
  ∀ (m : (ℓ : Loc Cert.SumSmallHalf.nD Cert.SumSmallHalf.τ Cert.SumSmallHalf.sig) → Buf (Elt Bits) ℓ) (g : Dev Cert.SumSmallHalf.nD → PrngReg), Pre_SumSmallHalf m →
    θ_run (Cert.SumSmallHalf.defs (F := Bits)) (onTc (τ := Cert.SumSmallHalf.τ) (Cert.SumSmallHalf.main (F := Bits))) ⟨m, fun _ => 0, g⟩ (fun r => (∀ c : Dev Cert.SumSmallHalf.nD,
      r.2.mem ((c.tc : Thread Cert.SumSmallHalf.nD Cert.SumSmallHalf.τ).loc Cert.SumSmallHalf.main_arg0) = m ((c.tc : Thread Cert.SumSmallHalf.nD Cert.SumSmallHalf.τ).loc Cert.SumSmallHalf.main_arg0))
      ∧ r.2.sem = fun _ => 0)

def quiescent_SumSmallHalfIdeal [hSumSmallHalfIdeal : Cert.SumSmallHalfIdeal.Facts] : Prop :=
  ∀ (m : (ℓ : Loc Cert.SumSmallHalfIdeal.nD Cert.SumSmallHalfIdeal.τ Cert.SumSmallHalfIdeal.sig) → Buf (Elt Ideal) ℓ) (g : Dev Cert.SumSmallHalfIdeal.nD → PrngReg), Pre_SumSmallHalfIdeal m →
    θ_run (Cert.SumSmallHalfIdeal.defs (F := Ideal)) (onTc (τ := Cert.SumSmallHalfIdeal.τ) (Cert.SumSmallHalfIdeal.main (F := Ideal))) ⟨m, fun _ => 0, g⟩ (fun r => (∀ c : Dev Cert.SumSmallHalfIdeal.nD,
      r.2.mem ((c.tc : Thread Cert.SumSmallHalfIdeal.nD Cert.SumSmallHalfIdeal.τ).loc Cert.SumSmallHalfIdeal.main_arg0) = m ((c.tc : Thread Cert.SumSmallHalfIdeal.nD Cert.SumSmallHalfIdeal.τ).loc Cert.SumSmallHalfIdeal.main_arg0))
      ∧ r.2.sem = fun _ => 0)

def quiescent_SumSmallHalfRefIdeal [hSumSmallHalfRefIdeal : Cert.SumSmallHalfRefIdeal.Facts] : Prop :=
  ∀ (m : (ℓ : Loc Cert.SumSmallHalfRefIdeal.nD Cert.SumSmallHalfRefIdeal.τ Cert.SumSmallHalfRefIdeal.sig) → Buf (Elt Ideal) ℓ) (g : Dev Cert.SumSmallHalfRefIdeal.nD → PrngReg), Pre_SumSmallHalfRefIdeal m →
    θ_run (Cert.SumSmallHalfRefIdeal.defs (F := Ideal)) (onTc (τ := Cert.SumSmallHalfRefIdeal.τ) (Cert.SumSmallHalfRefIdeal.main (F := Ideal))) ⟨m, fun _ => 0, g⟩ (fun r => (∀ c : Dev Cert.SumSmallHalfRefIdeal.nD,
      r.2.mem ((c.tc : Thread Cert.SumSmallHalfRefIdeal.nD Cert.SumSmallHalfRefIdeal.τ).loc Cert.SumSmallHalfRefIdeal.main_arg0) = m ((c.tc : Thread Cert.SumSmallHalfRefIdeal.nD Cert.SumSmallHalfRefIdeal.τ).loc Cert.SumSmallHalfRefIdeal.main_arg0))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1)
      ∧ r.2.mem ((c.tc : Thread Cert.AdaMod.nD Cert.AdaMod.τ).loc Cert.AdaMod.main_arg2) = m ((c.tc : Thread Cert.AdaMod.nD Cert.AdaMod.τ).loc Cert.AdaMod.main_arg2))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1)
      ∧ r.2.mem ((c.tc : Thread Cert.AdaModRefIdeal.nD Cert.AdaModRefIdeal.τ).loc Cert.AdaModRefIdeal.main_arg2) = m ((c.tc : Thread Cert.AdaModRefIdeal.nD Cert.AdaModRefIdeal.τ).loc Cert.AdaModRefIdeal.main_arg2))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_v124) = v2 c
          ∧ r.2.mem ((c.tc : Thread Cert.ReferenceIdeal.nD Cert.ReferenceIdeal.τ).loc Cert.ReferenceIdeal.main_v125) = v3 c
          ∧ r.2.mem ((c.tc : Thread Cert.ReferenceIdeal.nD Cert.ReferenceIdeal.τ).loc Cert.ReferenceIdeal.main_v77) = v4 c
          ∧ r.2.mem ((c.tc : Thread Cert.ReferenceIdeal.nD Cert.ReferenceIdeal.τ).loc Cert.ReferenceIdeal.main_v126) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)
      ∧ m' ((c.tc : Thread Cert.FfnInDwRefIdeal.nD Cert.FfnInDwRefIdeal.τ).loc Cert.FfnInDwRefIdeal.main_arg2) = m ((c.tc : Thread Cert.FfnInDwIdeal.nD Cert.FfnInDwIdeal.τ).loc Cert.FfnInDwIdeal.main_arg2)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1)
          ∧ r.2.mem ((c.tc : Thread Cert.FfnInDwIdeal.nD Cert.FfnInDwIdeal.τ).loc Cert.FfnInDwIdeal.main_arg2) = m ((c.tc : Thread Cert.FfnInDwIdeal.nD Cert.FfnInDwIdeal.τ).loc Cert.FfnInDwIdeal.main_arg2))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v9) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1)
          ∧ r.2.mem ((c.tc : Thread Cert.FfnInDwRefIdeal.nD Cert.FfnInDwRefIdeal.τ).loc Cert.FfnInDwRefIdeal.main_arg2) = m' ((c.tc : Thread Cert.FfnInDwRefIdeal.nD Cert.FfnInDwRefIdeal.τ).loc Cert.FfnInDwRefIdeal.main_arg2))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v6) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)) →
    ∃ (v0 : (c : Dev Cert.FfnOutDxIdeal.nD) → Buf (Elt Ideal) ((c.tc : Thread Cert.FfnOutDxIdeal.nD Cert.FfnOutDxIdeal.τ).loc Cert.FfnOutDxIdeal.main_v0)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v0) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v5) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1))

def preserves_SguInDw_SguInDwIdeal : Prop :=
  True

def algebraic_SguInDwIdeal_SguInDwRefIdeal [hSguInDwIdeal : Cert.SguInDwIdeal.Facts] [hSguInDwRefIdeal : Cert.SguInDwRefIdeal.Facts] : Prop :=
  ∀ (m : (ℓ : Loc Cert.SguInDwIdeal.nD Cert.SguInDwIdeal.τ Cert.SguInDwIdeal.sig) → Buf (Elt Ideal) ℓ) (g : Dev Cert.SguInDwIdeal.nD → PrngReg)
    (m' : (ℓ : Loc Cert.SguInDwRefIdeal.nD Cert.SguInDwRefIdeal.τ Cert.SguInDwRefIdeal.sig) → Buf (Elt Ideal) ℓ) (g' : Dev Cert.SguInDwRefIdeal.nD → PrngReg), Pre_SguInDwIdeal m →
    (∀ c : Dev Cert.SguInDwIdeal.nD,
      m' ((c.tc : Thread Cert.SguInDwRefIdeal.nD Cert.SguInDwRefIdeal.τ).loc Cert.SguInDwRefIdeal.main_arg0) = m ((c.tc : Thread Cert.SguInDwIdeal.nD Cert.SguInDwIdeal.τ).loc Cert.SguInDwIdeal.main_arg0)
      ∧ m' ((c.tc : Thread Cert.SguInDwRefIdeal.nD Cert.SguInDwRefIdeal.τ).loc Cert.SguInDwRefIdeal.main_arg1) = m ((c.tc : Thread Cert.SguInDwIdeal.nD Cert.SguInDwIdeal.τ).loc Cert.SguInDwIdeal.main_arg1)) →
    ∃ (v0 : (c : Dev Cert.SguInDwIdeal.nD) → Buf (Elt Ideal) ((c.tc : Thread Cert.SguInDwIdeal.nD Cert.SguInDwIdeal.τ).loc Cert.SguInDwIdeal.main_v0)),
      θ_run (Cert.SguInDwIdeal.defs (F := Ideal)) (onTc (τ := Cert.SguInDwIdeal.τ) (Cert.SguInDwIdeal.main (F := Ideal))) ⟨m, fun _ => 0, g⟩ (fun r => ∀ c : Dev Cert.SguInDwIdeal.nD,
          r.2.mem ((c.tc : Thread Cert.SguInDwIdeal.nD Cert.SguInDwIdeal.τ).loc Cert.SguInDwIdeal.main_v0) = v0 c
          ∧ r.2.mem ((c.tc : Thread Cert.SguInDwIdeal.nD Cert.SguInDwIdeal.τ).loc Cert.SguInDwIdeal.main_arg0) = m ((c.tc : Thread Cert.SguInDwIdeal.nD Cert.SguInDwIdeal.τ).loc Cert.SguInDwIdeal.main_arg0)
          ∧ r.2.mem ((c.tc : Thread Cert.SguInDwIdeal.nD Cert.SguInDwIdeal.τ).loc Cert.SguInDwIdeal.main_arg1) = m ((c.tc : Thread Cert.SguInDwIdeal.nD Cert.SguInDwIdeal.τ).loc Cert.SguInDwIdeal.main_arg1))
      ∧ θ_run (Cert.SguInDwRefIdeal.defs (F := Ideal)) (onTc (τ := Cert.SguInDwRefIdeal.τ) (Cert.SguInDwRefIdeal.main (F := Ideal))) ⟨m', fun _ => 0, g'⟩ (fun r => ∀ c : Dev Cert.SguInDwRefIdeal.nD,
          r.2.mem ((c.tc : Thread Cert.SguInDwRefIdeal.nD Cert.SguInDwRefIdeal.τ).loc Cert.SguInDwRefIdeal.main_v8) = v0 c
          ∧ r.2.mem ((c.tc : Thread Cert.SguInDwRefIdeal.nD Cert.SguInDwRefIdeal.τ).loc Cert.SguInDwRefIdeal.main_arg0) = m' ((c.tc : Thread Cert.SguInDwRefIdeal.nD Cert.SguInDwRefIdeal.τ).loc Cert.SguInDwRefIdeal.main_arg0)
          ∧ r.2.mem ((c.tc : Thread Cert.SguInDwRefIdeal.nD Cert.SguInDwRefIdeal.τ).loc Cert.SguInDwRefIdeal.main_arg1) = m' ((c.tc : Thread Cert.SguInDwRefIdeal.nD Cert.SguInDwRefIdeal.τ).loc Cert.SguInDwRefIdeal.main_arg1))

def preserves_SguInDx_SguInDxIdeal : Prop :=
  True

def algebraic_SguInDxIdeal_SguInDxRefIdeal [hSguInDxIdeal : Cert.SguInDxIdeal.Facts] [hSguInDxRefIdeal : Cert.SguInDxRefIdeal.Facts] : Prop :=
  ∀ (m : (ℓ : Loc Cert.SguInDxIdeal.nD Cert.SguInDxIdeal.τ Cert.SguInDxIdeal.sig) → Buf (Elt Ideal) ℓ) (g : Dev Cert.SguInDxIdeal.nD → PrngReg)
    (m' : (ℓ : Loc Cert.SguInDxRefIdeal.nD Cert.SguInDxRefIdeal.τ Cert.SguInDxRefIdeal.sig) → Buf (Elt Ideal) ℓ) (g' : Dev Cert.SguInDxRefIdeal.nD → PrngReg), Pre_SguInDxIdeal m →
    (∀ c : Dev Cert.SguInDxIdeal.nD,
      m' ((c.tc : Thread Cert.SguInDxRefIdeal.nD Cert.SguInDxRefIdeal.τ).loc Cert.SguInDxRefIdeal.main_arg0) = m ((c.tc : Thread Cert.SguInDxIdeal.nD Cert.SguInDxIdeal.τ).loc Cert.SguInDxIdeal.main_arg0)
      ∧ m' ((c.tc : Thread Cert.SguInDxRefIdeal.nD Cert.SguInDxRefIdeal.τ).loc Cert.SguInDxRefIdeal.main_arg1) = m ((c.tc : Thread Cert.SguInDxIdeal.nD Cert.SguInDxIdeal.τ).loc Cert.SguInDxIdeal.main_arg1)) →
    ∃ (v0 : (c : Dev Cert.SguInDxIdeal.nD) → Buf (Elt Ideal) ((c.tc : Thread Cert.SguInDxIdeal.nD Cert.SguInDxIdeal.τ).loc Cert.SguInDxIdeal.main_v0)),
      θ_run (Cert.SguInDxIdeal.defs (F := Ideal)) (onTc (τ := Cert.SguInDxIdeal.τ) (Cert.SguInDxIdeal.main (F := Ideal))) ⟨m, fun _ => 0, g⟩ (fun r => ∀ c : Dev Cert.SguInDxIdeal.nD,
          r.2.mem ((c.tc : Thread Cert.SguInDxIdeal.nD Cert.SguInDxIdeal.τ).loc Cert.SguInDxIdeal.main_v0) = v0 c
          ∧ r.2.mem ((c.tc : Thread Cert.SguInDxIdeal.nD Cert.SguInDxIdeal.τ).loc Cert.SguInDxIdeal.main_arg0) = m ((c.tc : Thread Cert.SguInDxIdeal.nD Cert.SguInDxIdeal.τ).loc Cert.SguInDxIdeal.main_arg0)
          ∧ r.2.mem ((c.tc : Thread Cert.SguInDxIdeal.nD Cert.SguInDxIdeal.τ).loc Cert.SguInDxIdeal.main_arg1) = m ((c.tc : Thread Cert.SguInDxIdeal.nD Cert.SguInDxIdeal.τ).loc Cert.SguInDxIdeal.main_arg1))
      ∧ θ_run (Cert.SguInDxRefIdeal.defs (F := Ideal)) (onTc (τ := Cert.SguInDxRefIdeal.τ) (Cert.SguInDxRefIdeal.main (F := Ideal))) ⟨m', fun _ => 0, g'⟩ (fun r => ∀ c : Dev Cert.SguInDxRefIdeal.nD,
          r.2.mem ((c.tc : Thread Cert.SguInDxRefIdeal.nD Cert.SguInDxRefIdeal.τ).loc Cert.SguInDxRefIdeal.main_v6) = v0 c
          ∧ r.2.mem ((c.tc : Thread Cert.SguInDxRefIdeal.nD Cert.SguInDxRefIdeal.τ).loc Cert.SguInDxRefIdeal.main_arg0) = m' ((c.tc : Thread Cert.SguInDxRefIdeal.nD Cert.SguInDxRefIdeal.τ).loc Cert.SguInDxRefIdeal.main_arg0)
          ∧ r.2.mem ((c.tc : Thread Cert.SguInDxRefIdeal.nD Cert.SguInDxRefIdeal.τ).loc Cert.SguInDxRefIdeal.main_arg1) = m' ((c.tc : Thread Cert.SguInDxRefIdeal.nD Cert.SguInDxRefIdeal.τ).loc Cert.SguInDxRefIdeal.main_arg1))

def preserves_SguOutDw_SguOutDwIdeal : Prop :=
  True

def algebraic_SguOutDwIdeal_SguOutDwRefIdeal [hSguOutDwIdeal : Cert.SguOutDwIdeal.Facts] [hSguOutDwRefIdeal : Cert.SguOutDwRefIdeal.Facts] : Prop :=
  ∀ (m : (ℓ : Loc Cert.SguOutDwIdeal.nD Cert.SguOutDwIdeal.τ Cert.SguOutDwIdeal.sig) → Buf (Elt Ideal) ℓ) (g : Dev Cert.SguOutDwIdeal.nD → PrngReg)
    (m' : (ℓ : Loc Cert.SguOutDwRefIdeal.nD Cert.SguOutDwRefIdeal.τ Cert.SguOutDwRefIdeal.sig) → Buf (Elt Ideal) ℓ) (g' : Dev Cert.SguOutDwRefIdeal.nD → PrngReg), Pre_SguOutDwIdeal m →
    (∀ c : Dev Cert.SguOutDwIdeal.nD,
      m' ((c.tc : Thread Cert.SguOutDwRefIdeal.nD Cert.SguOutDwRefIdeal.τ).loc Cert.SguOutDwRefIdeal.main_arg0) = m ((c.tc : Thread Cert.SguOutDwIdeal.nD Cert.SguOutDwIdeal.τ).loc Cert.SguOutDwIdeal.main_arg0)
      ∧ m' ((c.tc : Thread Cert.SguOutDwRefIdeal.nD Cert.SguOutDwRefIdeal.τ).loc Cert.SguOutDwRefIdeal.main_arg1) = m ((c.tc : Thread Cert.SguOutDwIdeal.nD Cert.SguOutDwIdeal.τ).loc Cert.SguOutDwIdeal.main_arg1)) →
    ∃ (v0 : (c : Dev Cert.SguOutDwIdeal.nD) → Buf (Elt Ideal) ((c.tc : Thread Cert.SguOutDwIdeal.nD Cert.SguOutDwIdeal.τ).loc Cert.SguOutDwIdeal.main_v0)),
      θ_run (Cert.SguOutDwIdeal.defs (F := Ideal)) (onTc (τ := Cert.SguOutDwIdeal.τ) (Cert.SguOutDwIdeal.main (F := Ideal))) ⟨m, fun _ => 0, g⟩ (fun r => ∀ c : Dev Cert.SguOutDwIdeal.nD,
          r.2.mem ((c.tc : Thread Cert.SguOutDwIdeal.nD Cert.SguOutDwIdeal.τ).loc Cert.SguOutDwIdeal.main_v0) = v0 c
          ∧ r.2.mem ((c.tc : Thread Cert.SguOutDwIdeal.nD Cert.SguOutDwIdeal.τ).loc Cert.SguOutDwIdeal.main_arg0) = m ((c.tc : Thread Cert.SguOutDwIdeal.nD Cert.SguOutDwIdeal.τ).loc Cert.SguOutDwIdeal.main_arg0)
          ∧ r.2.mem ((c.tc : Thread Cert.SguOutDwIdeal.nD Cert.SguOutDwIdeal.τ).loc Cert.SguOutDwIdeal.main_arg1) = m ((c.tc : Thread Cert.SguOutDwIdeal.nD Cert.SguOutDwIdeal.τ).loc Cert.SguOutDwIdeal.main_arg1))
      ∧ θ_run (Cert.SguOutDwRefIdeal.defs (F := Ideal)) (onTc (τ := Cert.SguOutDwRefIdeal.τ) (Cert.SguOutDwRefIdeal.main (F := Ideal))) ⟨m', fun _ => 0, g'⟩ (fun r => ∀ c : Dev Cert.SguOutDwRefIdeal.nD,
          r.2.mem ((c.tc : Thread Cert.SguOutDwRefIdeal.nD Cert.SguOutDwRefIdeal.τ).loc Cert.SguOutDwRefIdeal.main_v6) = v0 c
          ∧ r.2.mem ((c.tc : Thread Cert.SguOutDwRefIdeal.nD Cert.SguOutDwRefIdeal.τ).loc Cert.SguOutDwRefIdeal.main_arg0) = m' ((c.tc : Thread Cert.SguOutDwRefIdeal.nD Cert.SguOutDwRefIdeal.τ).loc Cert.SguOutDwRefIdeal.main_arg0)
          ∧ r.2.mem ((c.tc : Thread Cert.SguOutDwRefIdeal.nD Cert.SguOutDwRefIdeal.τ).loc Cert.SguOutDwRefIdeal.main_arg1) = m' ((c.tc : Thread Cert.SguOutDwRefIdeal.nD Cert.SguOutDwRefIdeal.τ).loc Cert.SguOutDwRefIdeal.main_arg1))

def preserves_SguOutDx_SguOutDxIdeal : Prop :=
  True

def algebraic_SguOutDxIdeal_SguOutDxRefIdeal [hSguOutDxIdeal : Cert.SguOutDxIdeal.Facts] [hSguOutDxRefIdeal : Cert.SguOutDxRefIdeal.Facts] : Prop :=
  ∀ (m : (ℓ : Loc Cert.SguOutDxIdeal.nD Cert.SguOutDxIdeal.τ Cert.SguOutDxIdeal.sig) → Buf (Elt Ideal) ℓ) (g : Dev Cert.SguOutDxIdeal.nD → PrngReg)
    (m' : (ℓ : Loc Cert.SguOutDxRefIdeal.nD Cert.SguOutDxRefIdeal.τ Cert.SguOutDxRefIdeal.sig) → Buf (Elt Ideal) ℓ) (g' : Dev Cert.SguOutDxRefIdeal.nD → PrngReg), Pre_SguOutDxIdeal m →
    (∀ c : Dev Cert.SguOutDxIdeal.nD,
      m' ((c.tc : Thread Cert.SguOutDxRefIdeal.nD Cert.SguOutDxRefIdeal.τ).loc Cert.SguOutDxRefIdeal.main_arg0) = m ((c.tc : Thread Cert.SguOutDxIdeal.nD Cert.SguOutDxIdeal.τ).loc Cert.SguOutDxIdeal.main_arg0)
      ∧ m' ((c.tc : Thread Cert.SguOutDxRefIdeal.nD Cert.SguOutDxRefIdeal.τ).loc Cert.SguOutDxRefIdeal.main_arg1) = m ((c.tc : Thread Cert.SguOutDxIdeal.nD Cert.SguOutDxIdeal.τ).loc Cert.SguOutDxIdeal.main_arg1)) →
    ∃ (v0 : (c : Dev Cert.SguOutDxIdeal.nD) → Buf (Elt Ideal) ((c.tc : Thread Cert.SguOutDxIdeal.nD Cert.SguOutDxIdeal.τ).loc Cert.SguOutDxIdeal.main_v0)),
      θ_run (Cert.SguOutDxIdeal.defs (F := Ideal)) (onTc (τ := Cert.SguOutDxIdeal.τ) (Cert.SguOutDxIdeal.main (F := Ideal))) ⟨m, fun _ => 0, g⟩ (fun r => ∀ c : Dev Cert.SguOutDxIdeal.nD,
          r.2.mem ((c.tc : Thread Cert.SguOutDxIdeal.nD Cert.SguOutDxIdeal.τ).loc Cert.SguOutDxIdeal.main_v0) = v0 c
          ∧ r.2.mem ((c.tc : Thread Cert.SguOutDxIdeal.nD Cert.SguOutDxIdeal.τ).loc Cert.SguOutDxIdeal.main_arg0) = m ((c.tc : Thread Cert.SguOutDxIdeal.nD Cert.SguOutDxIdeal.τ).loc Cert.SguOutDxIdeal.main_arg0)
          ∧ r.2.mem ((c.tc : Thread Cert.SguOutDxIdeal.nD Cert.SguOutDxIdeal.τ).loc Cert.SguOutDxIdeal.main_arg1) = m ((c.tc : Thread Cert.SguOutDxIdeal.nD Cert.SguOutDxIdeal.τ).loc Cert.SguOutDxIdeal.main_arg1))
      ∧ θ_run (Cert.SguOutDxRefIdeal.defs (F := Ideal)) (onTc (τ := Cert.SguOutDxRefIdeal.τ) (Cert.SguOutDxRefIdeal.main (F := Ideal))) ⟨m', fun _ => 0, g'⟩ (fun r => ∀ c : Dev Cert.SguOutDxRefIdeal.nD,
          r.2.mem ((c.tc : Thread Cert.SguOutDxRefIdeal.nD Cert.SguOutDxRefIdeal.τ).loc Cert.SguOutDxRefIdeal.main_v5) = v0 c
          ∧ r.2.mem ((c.tc : Thread Cert.SguOutDxRefIdeal.nD Cert.SguOutDxRefIdeal.τ).loc Cert.SguOutDxRefIdeal.main_arg0) = m' ((c.tc : Thread Cert.SguOutDxRefIdeal.nD Cert.SguOutDxRefIdeal.τ).loc Cert.SguOutDxRefIdeal.main_arg0)
          ∧ r.2.mem ((c.tc : Thread Cert.SguOutDxRefIdeal.nD Cert.SguOutDxRefIdeal.τ).loc Cert.SguOutDxRefIdeal.main_arg1) = m' ((c.tc : Thread Cert.SguOutDxRefIdeal.nD Cert.SguOutDxRefIdeal.τ).loc Cert.SguOutDxRefIdeal.main_arg1))

def preserves_ConvInDx_ConvInDxIdeal : Prop :=
  True

def algebraic_ConvInDxIdeal_ConvInDxRefIdeal [hConvInDxIdeal : Cert.ConvInDxIdeal.Facts] [hConvInDxRefIdeal : Cert.ConvInDxRefIdeal.Facts] : Prop :=
  ∀ (m : (ℓ : Loc Cert.ConvInDxIdeal.nD Cert.ConvInDxIdeal.τ Cert.ConvInDxIdeal.sig) → Buf (Elt Ideal) ℓ) (g : Dev Cert.ConvInDxIdeal.nD → PrngReg)
    (m' : (ℓ : Loc Cert.ConvInDxRefIdeal.nD Cert.ConvInDxRefIdeal.τ Cert.ConvInDxRefIdeal.sig) → Buf (Elt Ideal) ℓ) (g' : Dev Cert.ConvInDxRefIdeal.nD → PrngReg), Pre_ConvInDxIdeal m →
    (∀ c : Dev Cert.ConvInDxIdeal.nD,
      m' ((c.tc : Thread Cert.ConvInDxRefIdeal.nD Cert.ConvInDxRefIdeal.τ).loc Cert.ConvInDxRefIdeal.main_arg0) = m ((c.tc : Thread Cert.ConvInDxIdeal.nD Cert.ConvInDxIdeal.τ).loc Cert.ConvInDxIdeal.main_arg0)
      ∧ m' ((c.tc : Thread Cert.ConvInDxRefIdeal.nD Cert.ConvInDxRefIdeal.τ).loc Cert.ConvInDxRefIdeal.main_arg1) = m ((c.tc : Thread Cert.ConvInDxIdeal.nD Cert.ConvInDxIdeal.τ).loc Cert.ConvInDxIdeal.main_arg1)) →
    ∃ (v0 : (c : Dev Cert.ConvInDxIdeal.nD) → Buf (Elt Ideal) ((c.tc : Thread Cert.ConvInDxIdeal.nD Cert.ConvInDxIdeal.τ).loc Cert.ConvInDxIdeal.main_v0)),
      θ_run (Cert.ConvInDxIdeal.defs (F := Ideal)) (onTc (τ := Cert.ConvInDxIdeal.τ) (Cert.ConvInDxIdeal.main (F := Ideal))) ⟨m, fun _ => 0, g⟩ (fun r => ∀ c : Dev Cert.ConvInDxIdeal.nD,
          r.2.mem ((c.tc : Thread Cert.ConvInDxIdeal.nD Cert.ConvInDxIdeal.τ).loc Cert.ConvInDxIdeal.main_v0) = v0 c
          ∧ r.2.mem ((c.tc : Thread Cert.ConvInDxIdeal.nD Cert.ConvInDxIdeal.τ).loc Cert.ConvInDxIdeal.main_arg0) = m ((c.tc : Thread Cert.ConvInDxIdeal.nD Cert.ConvInDxIdeal.τ).loc Cert.ConvInDxIdeal.main_arg0)
          ∧ r.2.mem ((c.tc : Thread Cert.ConvInDxIdeal.nD Cert.ConvInDxIdeal.τ).loc Cert.ConvInDxIdeal.main_arg1) = m ((c.tc : Thread Cert.ConvInDxIdeal.nD Cert.ConvInDxIdeal.τ).loc Cert.ConvInDxIdeal.main_arg1))
      ∧ θ_run (Cert.ConvInDxRefIdeal.defs (F := Ideal)) (onTc (τ := Cert.ConvInDxRefIdeal.τ) (Cert.ConvInDxRefIdeal.main (F := Ideal))) ⟨m', fun _ => 0, g'⟩ (fun r => ∀ c : Dev Cert.ConvInDxRefIdeal.nD,
          r.2.mem ((c.tc : Thread Cert.ConvInDxRefIdeal.nD Cert.ConvInDxRefIdeal.τ).loc Cert.ConvInDxRefIdeal.main_v6) = v0 c
          ∧ r.2.mem ((c.tc : Thread Cert.ConvInDxRefIdeal.nD Cert.ConvInDxRefIdeal.τ).loc Cert.ConvInDxRefIdeal.main_arg0) = m' ((c.tc : Thread Cert.ConvInDxRefIdeal.nD Cert.ConvInDxRefIdeal.τ).loc Cert.ConvInDxRefIdeal.main_arg0)
          ∧ r.2.mem ((c.tc : Thread Cert.ConvInDxRefIdeal.nD Cert.ConvInDxRefIdeal.τ).loc Cert.ConvInDxRefIdeal.main_arg1) = m' ((c.tc : Thread Cert.ConvInDxRefIdeal.nD Cert.ConvInDxRefIdeal.τ).loc Cert.ConvInDxRefIdeal.main_arg1))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v0)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v0) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v6) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v0)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v0) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v5) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v0)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v0) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v8) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1))

def preserves_QkvDx_QkvDxIdeal : Prop :=
  True

def algebraic_QkvDxIdeal_QkvDxRefIdeal [hQkvDxIdeal : Cert.QkvDxIdeal.Facts] [hQkvDxRefIdeal : Cert.QkvDxRefIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxRefIdeal.nD Cert.QkvDxRefIdeal.τ Cert.QkvDxRefIdeal.sig) → Buf (Elt Ideal) ℓ) (g' : Dev Cert.QkvDxRefIdeal.nD → PrngReg), Pre_QkvDxIdeal m →
    (∀ c : Dev Cert.QkvDxIdeal.nD,
      m' ((c.tc : Thread Cert.QkvDxRefIdeal.nD Cert.QkvDxRefIdeal.τ).loc Cert.QkvDxRefIdeal.main_arg0) = m ((c.tc : Thread Cert.QkvDxIdeal.nD Cert.QkvDxIdeal.τ).loc Cert.QkvDxIdeal.main_arg0)
      ∧ m' ((c.tc : Thread Cert.QkvDxRefIdeal.nD Cert.QkvDxRefIdeal.τ).loc Cert.QkvDxRefIdeal.main_arg1) = m ((c.tc : Thread Cert.QkvDxIdeal.nD Cert.QkvDxIdeal.τ).loc Cert.QkvDxIdeal.main_arg1)) →
    ∃ (v0 : (c : Dev Cert.QkvDxIdeal.nD) → Buf (Elt Ideal) ((c.tc : Thread Cert.QkvDxIdeal.nD Cert.QkvDxIdeal.τ).loc Cert.QkvDxIdeal.main_v0)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v0) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ θ_run (Cert.QkvDxRefIdeal.defs (F := Ideal)) (onTc (τ := Cert.QkvDxRefIdeal.τ) (Cert.QkvDxRefIdeal.main (F := Ideal))) ⟨m', fun _ => 0, g'⟩ (fun r => ∀ c : Dev Cert.QkvDxRefIdeal.nD,
          r.2.mem ((c.tc : Thread Cert.QkvDxRefIdeal.nD Cert.QkvDxRefIdeal.τ).loc Cert.QkvDxRefIdeal.main_v6) = v0 c
          ∧ r.2.mem ((c.tc : Thread Cert.QkvDxRefIdeal.nD Cert.QkvDxRefIdeal.τ).loc Cert.QkvDxRefIdeal.main_arg0) = m' ((c.tc : Thread Cert.QkvDxRefIdeal.nD Cert.QkvDxRefIdeal.τ).loc Cert.QkvDxRefIdeal.main_arg0)
          ∧ r.2.mem ((c.tc : Thread Cert.QkvDxRefIdeal.nD Cert.QkvDxRefIdeal.τ).loc Cert.QkvDxRefIdeal.main_arg1) = m' ((c.tc : Thread Cert.QkvDxRefIdeal.nD Cert.QkvDxRefIdeal.τ).loc Cert.QkvDxRefIdeal.main_arg1))

def preserves_SguIn_SguInIdeal : Prop :=
  True

def algebraic_SguInIdeal_SguInRefIdeal [hSguInIdeal : Cert.SguInIdeal.Facts] [hSguInRefIdeal : Cert.SguInRefIdeal.Facts] : Prop :=
  ∀ (m : (ℓ : Loc Cert.SguInIdeal.nD Cert.SguInIdeal.τ Cert.SguInIdeal.sig) → Buf (Elt Ideal) ℓ) (g : Dev Cert.SguInIdeal.nD → PrngReg)
    (m' : (ℓ : Loc Cert.SguInRefIdeal.nD Cert.SguInRefIdeal.τ Cert.SguInRefIdeal.sig) → Buf (Elt Ideal) ℓ) (g' : Dev Cert.SguInRefIdeal.nD → PrngReg), Pre_SguInIdeal m →
    (∀ c : Dev Cert.SguInIdeal.nD,
      m' ((c.tc : Thread Cert.SguInRefIdeal.nD Cert.SguInRefIdeal.τ).loc Cert.SguInRefIdeal.main_arg0) = m ((c.tc : Thread Cert.SguInIdeal.nD Cert.SguInIdeal.τ).loc Cert.SguInIdeal.main_arg0)
      ∧ m' ((c.tc : Thread Cert.SguInRefIdeal.nD Cert.SguInRefIdeal.τ).loc Cert.SguInRefIdeal.main_arg1) = m ((c.tc : Thread Cert.SguInIdeal.nD Cert.SguInIdeal.τ).loc Cert.SguInIdeal.main_arg1)
      ∧ m' ((c.tc : Thread Cert.SguInRefIdeal.nD Cert.SguInRefIdeal.τ).loc Cert.SguInRefIdeal.main_arg2) = m ((c.tc : Thread Cert.SguInIdeal.nD Cert.SguInIdeal.τ).loc Cert.SguInIdeal.main_arg2)) →
    ∃ (v0 : (c : Dev Cert.SguInIdeal.nD) → Buf (Elt Ideal) ((c.tc : Thread Cert.SguInIdeal.nD Cert.SguInIdeal.τ).loc Cert.SguInIdeal.main_v1)),
      θ_run (Cert.SguInIdeal.defs (F := Ideal)) (onTc (τ := Cert.SguInIdeal.τ) (Cert.SguInIdeal.main (F := Ideal))) ⟨m, fun _ => 0, g⟩ (fun r => ∀ c : Dev Cert.SguInIdeal.nD,
          r.2.mem ((c.tc : Thread Cert.SguInIdeal.nD Cert.SguInIdeal.τ).loc Cert.SguInIdeal.main_v1) = v0 c
          ∧ r.2.mem ((c.tc : Thread Cert.SguInIdeal.nD Cert.SguInIdeal.τ).loc Cert.SguInIdeal.main_arg0) = m ((c.tc : Thread Cert.SguInIdeal.nD Cert.SguInIdeal.τ).loc Cert.SguInIdeal.main_arg0)
          ∧ r.2.mem ((c.tc : Thread Cert.SguInIdeal.nD Cert.SguInIdeal.τ).loc Cert.SguInIdeal.main_arg1) = m ((c.tc : Thread Cert.SguInIdeal.nD Cert.SguInIdeal.τ).loc Cert.SguInIdeal.main_arg1)
          ∧ r.2.mem ((c.tc : Thread Cert.SguInIdeal.nD Cert.SguInIdeal.τ).loc Cert.SguInIdeal.main_arg2) = m ((c.tc : Thread Cert.SguInIdeal.nD Cert.SguInIdeal.τ).loc Cert.SguInIdeal.main_arg2))
      ∧ θ_run (Cert.SguInRefIdeal.defs (F := Ideal)) (onTc (τ := Cert.SguInRefIdeal.τ) (Cert.SguInRefIdeal.main (F := Ideal))) ⟨m', fun _ => 0, g'⟩ (fun r => ∀ c : Dev Cert.SguInRefIdeal.nD,
          r.2.mem ((c.tc : Thread Cert.SguInRefIdeal.nD Cert.SguInRefIdeal.τ).loc Cert.SguInRefIdeal.main_v7) = v0 c
          ∧ r.2.mem ((c.tc : Thread Cert.SguInRefIdeal.nD Cert.SguInRefIdeal.τ).loc Cert.SguInRefIdeal.main_arg0) = m' ((c.tc : Thread Cert.SguInRefIdeal.nD Cert.SguInRefIdeal.τ).loc Cert.SguInRefIdeal.main_arg0)
          ∧ r.2.mem ((c.tc : Thread Cert.SguInRefIdeal.nD Cert.SguInRefIdeal.τ).loc Cert.SguInRefIdeal.main_arg1) = m' ((c.tc : Thread Cert.SguInRefIdeal.nD Cert.SguInRefIdeal.τ).loc Cert.SguInRefIdeal.main_arg1)
          ∧ r.2.mem ((c.tc : Thread Cert.SguInRefIdeal.nD Cert.SguInRefIdeal.τ).loc Cert.SguInRefIdeal.main_arg2) = m' ((c.tc : Thread Cert.SguInRefIdeal.nD Cert.SguInRefIdeal.τ).loc Cert.SguInRefIdeal.main_arg2))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)) →
    ∃ (v0 : (c : Dev Cert.ConvInIdeal.nD) → Buf (Elt Ideal) ((c.tc : Thread Cert.ConvInIdeal.nD Cert.ConvInIdeal.τ).loc Cert.ConvInIdeal.main_v1)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v1) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v7) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2))

def preserves_QkvIn_QkvInIdeal : Prop :=
  True

def algebraic_QkvInIdeal_QkvInRefIdeal [hQkvInIdeal : Cert.QkvInIdeal.Facts] [hQkvInRefIdeal : Cert.QkvInRefIdeal.Facts] : Prop :=
  ∀ (m : (ℓ : Loc Cert.QkvInIdeal.nD Cert.QkvInIdeal.τ Cert.QkvInIdeal.sig) → Buf (Elt Ideal) ℓ) (g : Dev Cert.QkvInIdeal.nD → PrngReg)
    (m' : (ℓ : Loc Cert.QkvInRefIdeal.nD Cert.QkvInRefIdeal.τ Cert.QkvInRefIdeal.sig) → Buf (Elt Ideal) ℓ) (g' : Dev Cert.QkvInRefIdeal.nD → PrngReg), Pre_QkvInIdeal m →
    (∀ c : Dev Cert.QkvInIdeal.nD,
      m' ((c.tc : Thread Cert.QkvInRefIdeal.nD Cert.QkvInRefIdeal.τ).loc Cert.QkvInRefIdeal.main_arg0) = m ((c.tc : Thread Cert.QkvInIdeal.nD Cert.QkvInIdeal.τ).loc Cert.QkvInIdeal.main_arg0)
      ∧ m' ((c.tc : Thread Cert.QkvInRefIdeal.nD Cert.QkvInRefIdeal.τ).loc Cert.QkvInRefIdeal.main_arg1) = m ((c.tc : Thread Cert.QkvInIdeal.nD Cert.QkvInIdeal.τ).loc Cert.QkvInIdeal.main_arg1)
      ∧ m' ((c.tc : Thread Cert.QkvInRefIdeal.nD Cert.QkvInRefIdeal.τ).loc Cert.QkvInRefIdeal.main_arg2) = m ((c.tc : Thread Cert.QkvInIdeal.nD Cert.QkvInIdeal.τ).loc Cert.QkvInIdeal.main_arg2)) →
    ∃ (v0 : (c : Dev Cert.QkvInIdeal.nD) → Buf (Elt Ideal) ((c.tc : Thread Cert.QkvInIdeal.nD Cert.QkvInIdeal.τ).loc Cert.QkvInIdeal.main_v1)),
      θ_run (Cert.QkvInIdeal.defs (F := Ideal)) (onTc (τ := Cert.QkvInIdeal.τ) (Cert.QkvInIdeal.main (F := Ideal))) ⟨m, fun _ => 0, g⟩ (fun r => ∀ c : Dev Cert.QkvInIdeal.nD,
          r.2.mem ((c.tc : Thread Cert.QkvInIdeal.nD Cert.QkvInIdeal.τ).loc Cert.QkvInIdeal.main_v1) = v0 c
          ∧ r.2.mem ((c.tc : Thread Cert.QkvInIdeal.nD Cert.QkvInIdeal.τ).loc Cert.QkvInIdeal.main_arg0) = m ((c.tc : Thread Cert.QkvInIdeal.nD Cert.QkvInIdeal.τ).loc Cert.QkvInIdeal.main_arg0)
          ∧ r.2.mem ((c.tc : Thread Cert.QkvInIdeal.nD Cert.QkvInIdeal.τ).loc Cert.QkvInIdeal.main_arg1) = m ((c.tc : Thread Cert.QkvInIdeal.nD Cert.QkvInIdeal.τ).loc Cert.QkvInIdeal.main_arg1)
          ∧ r.2.mem ((c.tc : Thread Cert.QkvInIdeal.nD Cert.QkvInIdeal.τ).loc Cert.QkvInIdeal.main_arg2) = m ((c.tc : Thread Cert.QkvInIdeal.nD Cert.QkvInIdeal.τ).loc Cert.QkvInIdeal.main_arg2))
      ∧ θ_run (Cert.QkvInRefIdeal.defs (F := Ideal)) (onTc (τ := Cert.QkvInRefIdeal.τ) (Cert.QkvInRefIdeal.main (F := Ideal))) ⟨m', fun _ => 0, g'⟩ (fun r => ∀ c : Dev Cert.QkvInRefIdeal.nD,
          r.2.mem ((c.tc : Thread Cert.QkvInRefIdeal.nD Cert.QkvInRefIdeal.τ).loc Cert.QkvInRefIdeal.main_v7) = v0 c
          ∧ r.2.mem ((c.tc : Thread Cert.QkvInRefIdeal.nD Cert.QkvInRefIdeal.τ).loc Cert.QkvInRefIdeal.main_arg0) = m' ((c.tc : Thread Cert.QkvInRefIdeal.nD Cert.QkvInRefIdeal.τ).loc Cert.QkvInRefIdeal.main_arg0)
          ∧ r.2.mem ((c.tc : Thread Cert.QkvInRefIdeal.nD Cert.QkvInRefIdeal.τ).loc Cert.QkvInRefIdeal.main_arg1) = m' ((c.tc : Thread Cert.QkvInRefIdeal.nD Cert.QkvInRefIdeal.τ).loc Cert.QkvInRefIdeal.main_arg1)
          ∧ r.2.mem ((c.tc : Thread Cert.QkvInRefIdeal.nD Cert.QkvInRefIdeal.τ).loc Cert.QkvInRefIdeal.main_arg2) = m' ((c.tc : Thread Cert.QkvInRefIdeal.nD Cert.QkvInRefIdeal.τ).loc Cert.QkvInRefIdeal.main_arg2))

def preserves_SguOut_SguOutIdeal : Prop :=
  True

def algebraic_SguOutIdeal_SguOutRefIdeal [hSguOutIdeal : Cert.SguOutIdeal.Facts] [hSguOutRefIdeal : Cert.SguOutRefIdeal.Facts] : Prop :=
  ∀ (m : (ℓ : Loc Cert.SguOutIdeal.nD Cert.SguOutIdeal.τ Cert.SguOutIdeal.sig) → Buf (Elt Ideal) ℓ) (g : Dev Cert.SguOutIdeal.nD → PrngReg)
    (m' : (ℓ : Loc Cert.SguOutRefIdeal.nD Cert.SguOutRefIdeal.τ Cert.SguOutRefIdeal.sig) → Buf (Elt Ideal) ℓ) (g' : Dev Cert.SguOutRefIdeal.nD → PrngReg), Pre_SguOutIdeal m →
    (∀ c : Dev Cert.SguOutIdeal.nD,
      m' ((c.tc : Thread Cert.SguOutRefIdeal.nD Cert.SguOutRefIdeal.τ).loc Cert.SguOutRefIdeal.main_arg0) = m ((c.tc : Thread Cert.SguOutIdeal.nD Cert.SguOutIdeal.τ).loc Cert.SguOutIdeal.main_arg0)
      ∧ m' ((c.tc : Thread Cert.SguOutRefIdeal.nD Cert.SguOutRefIdeal.τ).loc Cert.SguOutRefIdeal.main_arg1) = m ((c.tc : Thread Cert.SguOutIdeal.nD Cert.SguOutIdeal.τ).loc Cert.SguOutIdeal.main_arg1)
      ∧ m' ((c.tc : Thread Cert.SguOutRefIdeal.nD Cert.SguOutRefIdeal.τ).loc Cert.SguOutRefIdeal.main_arg2) = m ((c.tc : Thread Cert.SguOutIdeal.nD Cert.SguOutIdeal.τ).loc Cert.SguOutIdeal.main_arg2)) →
    ∃ (v0 : (c : Dev Cert.SguOutIdeal.nD) → Buf (Elt Ideal) ((c.tc : Thread Cert.SguOutIdeal.nD Cert.SguOutIdeal.τ).loc Cert.SguOutIdeal.main_v1)),
      θ_run (Cert.SguOutIdeal.defs (F := Ideal)) (onTc (τ := Cert.SguOutIdeal.τ) (Cert.SguOutIdeal.main (F := Ideal))) ⟨m, fun _ => 0, g⟩ (fun r => ∀ c : Dev Cert.SguOutIdeal.nD,
          r.2.mem ((c.tc : Thread Cert.SguOutIdeal.nD Cert.SguOutIdeal.τ).loc Cert.SguOutIdeal.main_v1) = v0 c
          ∧ r.2.mem ((c.tc : Thread Cert.SguOutIdeal.nD Cert.SguOutIdeal.τ).loc Cert.SguOutIdeal.main_arg0) = m ((c.tc : Thread Cert.SguOutIdeal.nD Cert.SguOutIdeal.τ).loc Cert.SguOutIdeal.main_arg0)
          ∧ r.2.mem ((c.tc : Thread Cert.SguOutIdeal.nD Cert.SguOutIdeal.τ).loc Cert.SguOutIdeal.main_arg1) = m ((c.tc : Thread Cert.SguOutIdeal.nD Cert.SguOutIdeal.τ).loc Cert.SguOutIdeal.main_arg1)
          ∧ r.2.mem ((c.tc : Thread Cert.SguOutIdeal.nD Cert.SguOutIdeal.τ).loc Cert.SguOutIdeal.main_arg2) = m ((c.tc : Thread Cert.SguOutIdeal.nD Cert.SguOutIdeal.τ).loc Cert.SguOutIdeal.main_arg2))
      ∧ θ_run (Cert.SguOutRefIdeal.defs (F := Ideal)) (onTc (τ := Cert.SguOutRefIdeal.τ) (Cert.SguOutRefIdeal.main (F := Ideal))) ⟨m', fun _ => 0, g'⟩ (fun r => ∀ c : Dev Cert.SguOutRefIdeal.nD,
          r.2.mem ((c.tc : Thread Cert.SguOutRefIdeal.nD Cert.SguOutRefIdeal.τ).loc Cert.SguOutRefIdeal.main_v6) = v0 c
          ∧ r.2.mem ((c.tc : Thread Cert.SguOutRefIdeal.nD Cert.SguOutRefIdeal.τ).loc Cert.SguOutRefIdeal.main_arg0) = m' ((c.tc : Thread Cert.SguOutRefIdeal.nD Cert.SguOutRefIdeal.τ).loc Cert.SguOutRefIdeal.main_arg0)
          ∧ r.2.mem ((c.tc : Thread Cert.SguOutRefIdeal.nD Cert.SguOutRefIdeal.τ).loc Cert.SguOutRefIdeal.main_arg1) = m' ((c.tc : Thread Cert.SguOutRefIdeal.nD Cert.SguOutRefIdeal.τ).loc Cert.SguOutRefIdeal.main_arg1)
          ∧ r.2.mem ((c.tc : Thread Cert.SguOutRefIdeal.nD Cert.SguOutRefIdeal.τ).loc Cert.SguOutRefIdeal.main_arg2) = m' ((c.tc : Thread Cert.SguOutRefIdeal.nD Cert.SguOutRefIdeal.τ).loc Cert.SguOutRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v6) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v4) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)
      ∧ m' ((c.tc : Thread Cert.NormBwdRefIdeal.nD Cert.NormBwdRefIdeal.τ).loc Cert.NormBwdRefIdeal.main_arg6) = m ((c.tc : Thread Cert.NormBwdIdeal.nD Cert.NormBwdIdeal.τ).loc Cert.NormBwdIdeal.main_arg6)
      ∧ m' ((c.tc : Thread Cert.NormBwdRefIdeal.nD Cert.NormBwdRefIdeal.τ).loc Cert.NormBwdRefIdeal.main_arg7) = m ((c.tc : Thread Cert.NormBwdIdeal.nD Cert.NormBwdIdeal.τ).loc Cert.NormBwdIdeal.main_arg7)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)) (v2 : (c : Dev Cert.NormBwdIdeal.nD) → Buf (Elt Ideal) ((c.tc : Thread Cert.NormBwdIdeal.nD Cert.NormBwdIdeal.τ).loc Cert.NormBwdIdeal.main_v1_2)) (v3 : (c : Dev Cert.NormBwdIdeal.nD) → Buf (Elt Ideal) ((c.tc : Thread Cert.NormBwdIdeal.nD Cert.NormBwdIdeal.τ).loc Cert.NormBwdIdeal.main_v1_3)) (v4 : (c : Dev Cert.NormBwdIdeal.nD) → Buf (Elt Ideal) ((c.tc : Thread Cert.NormBwdIdeal.nD Cert.NormBwdIdeal.τ).loc Cert.NormBwdIdeal.main_v1_4)) (v5 : (c : Dev Cert.NormBwdIdeal.nD) → Buf (Elt Ideal) ((c.tc : Thread Cert.NormBwdIdeal.nD Cert.NormBwdIdeal.τ).loc Cert.NormBwdIdeal.main_v1_5)) (v6 : (c : Dev Cert.NormBwdIdeal.nD) → Buf (Elt Ideal) ((c.tc : Thread Cert.NormBwdIdeal.nD Cert.NormBwdIdeal.τ).loc Cert.NormBwdIdeal.main_v1_6)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_v1_2) = v2 c
          ∧ r.2.mem ((c.tc : Thread Cert.NormBwdIdeal.nD Cert.NormBwdIdeal.τ).loc Cert.NormBwdIdeal.main_v1_3) = v3 c
          ∧ r.2.mem ((c.tc : Thread Cert.NormBwdIdeal.nD Cert.NormBwdIdeal.τ).loc Cert.NormBwdIdeal.main_v1_4) = v4 c
          ∧ r.2.mem ((c.tc : Thread Cert.NormBwdIdeal.nD Cert.NormBwdIdeal.τ).loc Cert.NormBwdIdeal.main_v1_5) = v5 c
          ∧ r.2.mem ((c.tc : Thread Cert.NormBwdIdeal.nD Cert.NormBwdIdeal.τ).loc Cert.NormBwdIdeal.main_v1_6) = v6 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
          ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
          ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v50) = v0 c
          ∧ r.2.mem ((c.tc : Thread Cert.NormBwdRefIdeal.nD Cert.NormBwdRefIdeal.τ).loc Cert.NormBwdRefIdeal.main_v66) = v1 c
          ∧ r.2.mem ((c.tc : Thread Cert.NormBwdRefIdeal.nD Cert.NormBwdRefIdeal.τ).loc Cert.NormBwdRefIdeal.main_v27) = v2 c
          ∧ r.2.mem ((c.tc : Thread Cert.NormBwdRefIdeal.nD Cert.NormBwdRefIdeal.τ).loc Cert.NormBwdRefIdeal.main_v24) = v3 c
          ∧ r.2.mem ((c.tc : Thread Cert.NormBwdRefIdeal.nD Cert.NormBwdRefIdeal.τ).loc Cert.NormBwdRefIdeal.main_v67) = v4 c
          ∧ r.2.mem ((c.tc : Thread Cert.NormBwdRefIdeal.nD Cert.NormBwdRefIdeal.τ).loc Cert.NormBwdRefIdeal.main_v62) = v5 c
          ∧ r.2.mem ((c.tc : Thread Cert.NormBwdRefIdeal.nD Cert.NormBwdRefIdeal.τ).loc Cert.NormBwdRefIdeal.main_v68) = v6 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5)
          ∧ r.2.mem ((c.tc : Thread Cert.NormBwdRefIdeal.nD Cert.NormBwdRefIdeal.τ).loc Cert.NormBwdRefIdeal.main_arg6) = m' ((c.tc : Thread Cert.NormBwdRefIdeal.nD Cert.NormBwdRefIdeal.τ).loc Cert.NormBwdRefIdeal.main_arg6)
          ∧ r.2.mem ((c.tc : Thread Cert.NormBwdRefIdeal.nD Cert.NormBwdRefIdeal.τ).loc Cert.NormBwdRefIdeal.main_arg7) = m' ((c.tc : Thread Cert.NormBwdRefIdeal.nD Cert.NormBwdRefIdeal.τ).loc Cert.NormBwdRefIdeal.main_arg7))

def preserves_FirstNormBwd_FirstNormBwdIdeal : Prop :=
  True

def algebraic_FirstNormBwdIdeal_FirstNormBwdRefIdeal [hFirstNormBwdIdeal : Cert.FirstNormBwdIdeal.Facts] [hFirstNormBwdRefIdeal : Cert.FirstNormBwdRefIdeal.Facts] : Prop :=
  ∀ (m : (ℓ : Loc Cert.FirstNormBwdIdeal.nD Cert.FirstNormBwdIdeal.τ Cert.FirstNormBwdIdeal.sig) → Buf (Elt Ideal) ℓ) (g : Dev Cert.FirstNormBwdIdeal.nD → PrngReg)
    (m' : (ℓ : Loc Cert.FirstNormBwdRefIdeal.nD Cert.FirstNormBwdRefIdeal.τ Cert.FirstNormBwdRefIdeal.sig) → Buf (Elt Ideal) ℓ) (g' : Dev Cert.FirstNormBwdRefIdeal.nD → PrngReg), Pre_FirstNormBwdIdeal m →
    (∀ c : Dev Cert.FirstNormBwdIdeal.nD,
      m' ((c.tc : Thread Cert.FirstNormBwdRefIdeal.nD Cert.FirstNormBwdRefIdeal.τ).loc Cert.FirstNormBwdRefIdeal.main_arg0) = m ((c.tc : Thread Cert.FirstNormBwdIdeal.nD Cert.FirstNormBwdIdeal.τ).loc Cert.FirstNormBwdIdeal.main_arg0)
      ∧ m' ((c.tc : Thread Cert.FirstNormBwdRefIdeal.nD Cert.FirstNormBwdRefIdeal.τ).loc Cert.FirstNormBwdRefIdeal.main_arg1) = m ((c.tc : Thread Cert.FirstNormBwdIdeal.nD Cert.FirstNormBwdIdeal.τ).loc Cert.FirstNormBwdIdeal.main_arg1)
      ∧ m' ((c.tc : Thread Cert.FirstNormBwdRefIdeal.nD Cert.FirstNormBwdRefIdeal.τ).loc Cert.FirstNormBwdRefIdeal.main_arg2) = m ((c.tc : Thread Cert.FirstNormBwdIdeal.nD Cert.FirstNormBwdIdeal.τ).loc Cert.FirstNormBwdIdeal.main_arg2)
      ∧ m' ((c.tc : Thread Cert.FirstNormBwdRefIdeal.nD Cert.FirstNormBwdRefIdeal.τ).loc Cert.FirstNormBwdRefIdeal.main_arg3) = m ((c.tc : Thread Cert.FirstNormBwdIdeal.nD Cert.FirstNormBwdIdeal.τ).loc Cert.FirstNormBwdIdeal.main_arg3)
      ∧ m' ((c.tc : Thread Cert.FirstNormBwdRefIdeal.nD Cert.FirstNormBwdRefIdeal.τ).loc Cert.FirstNormBwdRefIdeal.main_arg4) = m ((c.tc : Thread Cert.FirstNormBwdIdeal.nD Cert.FirstNormBwdIdeal.τ).loc Cert.FirstNormBwdIdeal.main_arg4)
      ∧ m' ((c.tc : Thread Cert.FirstNormBwdRefIdeal.nD Cert.FirstNormBwdRefIdeal.τ).loc Cert.FirstNormBwdRefIdeal.main_arg5) = m ((c.tc : Thread Cert.FirstNormBwdIdeal.nD Cert.FirstNormBwdIdeal.τ).loc Cert.FirstNormBwdIdeal.main_arg5)) →
    ∃ (v0 : (c : Dev Cert.FirstNormBwdIdeal.nD) → Buf (Elt Ideal) ((c.tc : Thread Cert.FirstNormBwdIdeal.nD Cert.FirstNormBwdIdeal.τ).loc Cert.FirstNormBwdIdeal.main_v1_0)) (v1 : (c : Dev Cert.FirstNormBwdIdeal.nD) → Buf (Elt Ideal) ((c.tc : Thread Cert.FirstNormBwdIdeal.nD Cert.FirstNormBwdIdeal.τ).loc Cert.FirstNormBwdIdeal.main_v1_1)) (v2 : (c : Dev Cert.FirstNormBwdIdeal.nD) → Buf (Elt Ideal) ((c.tc : Thread Cert.FirstNormBwdIdeal.nD Cert.FirstNormBwdIdeal.τ).loc Cert.FirstNormBwdIdeal.main_v1_2)) (v3 : (c : Dev Cert.FirstNormBwdIdeal.nD) → Buf (Elt Ideal) ((c.tc : Thread Cert.FirstNormBwdIdeal.nD Cert.FirstNormBwdIdeal.τ).loc Cert.FirstNormBwdIdeal.main_v1_3)),
      θ_run (Cert.FirstNormBwdIdeal.defs (F := Ideal)) (onTc (τ := Cert.FirstNormBwdIdeal.τ) (Cert.FirstNormBwdIdeal.main (F := Ideal))) ⟨m, fun _ => 0, g⟩ (fun r => ∀ c : Dev Cert.FirstNormBwdIdeal.nD,
          r.2.mem ((c.tc : Thread Cert.FirstNormBwdIdeal.nD Cert.FirstNormBwdIdeal.τ).loc Cert.FirstNormBwdIdeal.main_v1_0) = v0 c
          ∧ r.2.mem ((c.tc : Thread Cert.FirstNormBwdIdeal.nD Cert.FirstNormBwdIdeal.τ).loc Cert.FirstNormBwdIdeal.main_v1_1) = v1 c
          ∧ r.2.mem ((c.tc : Thread Cert.FirstNormBwdIdeal.nD Cert.FirstNormBwdIdeal.τ).loc Cert.FirstNormBwdIdeal.main_v1_2) = v2 c
          ∧ r.2.mem ((c.tc : Thread Cert.FirstNormBwdIdeal.nD Cert.FirstNormBwdIdeal.τ).loc Cert.FirstNormBwdIdeal.main_v1_3) = v3 c
          ∧ r.2.mem ((c.tc : Thread Cert.FirstNormBwdIdeal.nD Cert.FirstNormBwdIdeal.τ).loc Cert.FirstNormBwdIdeal.main_arg0) = m ((c.tc : Thread Cert.FirstNormBwdIdeal.nD Cert.FirstNormBwdIdeal.τ).loc Cert.FirstNormBwdIdeal.main_arg0)
          ∧ r.2.mem ((c.tc : Thread Cert.FirstNormBwdIdeal.nD Cert.FirstNormBwdIdeal.τ).loc Cert.FirstNormBwdIdeal.main_arg1) = m ((c.tc : Thread Cert.FirstNormBwdIdeal.nD Cert.FirstNormBwdIdeal.τ).loc Cert.FirstNormBwdIdeal.main_arg1)
          ∧ r.2.mem ((c.tc : Thread Cert.FirstNormBwdIdeal.nD Cert.FirstNormBwdIdeal.τ).loc Cert.FirstNormBwdIdeal.main_arg2) = m ((c.tc : Thread Cert.FirstNormBwdIdeal.nD Cert.FirstNormBwdIdeal.τ).loc Cert.FirstNormBwdIdeal.main_arg2)
          ∧ r.2.mem ((c.tc : Thread Cert.FirstNormBwdIdeal.nD Cert.FirstNormBwdIdeal.τ).loc Cert.FirstNormBwdIdeal.main_arg3) = m ((c.tc : Thread Cert.FirstNormBwdIdeal.nD Cert.FirstNormBwdIdeal.τ).loc Cert.FirstNormBwdIdeal.main_arg3)
          ∧ r.2.mem ((c.tc : Thread Cert.FirstNormBwdIdeal.nD Cert.FirstNormBwdIdeal.τ).loc Cert.FirstNormBwdIdeal.main_arg4) = m ((c.tc : Thread Cert.FirstNormBwdIdeal.nD Cert.FirstNormBwdIdeal.τ).loc Cert.FirstNormBwdIdeal.main_arg4)
          ∧ r.2.mem ((c.tc : Thread Cert.FirstNormBwdIdeal.nD Cert.FirstNormBwdIdeal.τ).loc Cert.FirstNormBwdIdeal.main_arg5) = m ((c.tc : Thread Cert.FirstNormBwdIdeal.nD Cert.FirstNormBwdIdeal.τ).loc Cert.FirstNormBwdIdeal.main_arg5))
      ∧ θ_run (Cert.FirstNormBwdRefIdeal.defs (F := Ideal)) (onTc (τ := Cert.FirstNormBwdRefIdeal.τ) (Cert.FirstNormBwdRefIdeal.main (F := Ideal))) ⟨m', fun _ => 0, g'⟩ (fun r => ∀ c : Dev Cert.FirstNormBwdRefIdeal.nD,
          r.2.mem ((c.tc : Thread Cert.FirstNormBwdRefIdeal.nD Cert.FirstNormBwdRefIdeal.τ).loc Cert.FirstNormBwdRefIdeal.main_v50) = v0 c
          ∧ r.2.mem ((c.tc : Thread Cert.FirstNormBwdRefIdeal.nD Cert.FirstNormBwdRefIdeal.τ).loc Cert.FirstNormBwdRefIdeal.main_v51) = v1 c
          ∧ r.2.mem ((c.tc : Thread Cert.FirstNormBwdRefIdeal.nD Cert.FirstNormBwdRefIdeal.τ).loc Cert.FirstNormBwdRefIdeal.main_v27) = v2 c
          ∧ r.2.mem ((c.tc : Thread Cert.FirstNormBwdRefIdeal.nD Cert.FirstNormBwdRefIdeal.τ).loc Cert.FirstNormBwdRefIdeal.main_v24) = v3 c
          ∧ r.2.mem ((c.tc : Thread Cert.FirstNormBwdRefIdeal.nD Cert.FirstNormBwdRefIdeal.τ).loc Cert.FirstNormBwdRefIdeal.main_arg0) = m' ((c.tc : Thread Cert.FirstNormBwdRefIdeal.nD Cert.FirstNormBwdRefIdeal.τ).loc Cert.FirstNormBwdRefIdeal.main_arg0)
          ∧ r.2.mem ((c.tc : Thread Cert.FirstNormBwdRefIdeal.nD Cert.FirstNormBwdRefIdeal.τ).loc Cert.FirstNormBwdRefIdeal.main_arg1) = m' ((c.tc : Thread Cert.FirstNormBwdRefIdeal.nD Cert.FirstNormBwdRefIdeal.τ).loc Cert.FirstNormBwdRefIdeal.main_arg1)
          ∧ r.2.mem ((c.tc : Thread Cert.FirstNormBwdRefIdeal.nD Cert.FirstNormBwdRefIdeal.τ).loc Cert.FirstNormBwdRefIdeal.main_arg2) = m' ((c.tc : Thread Cert.FirstNormBwdRefIdeal.nD Cert.FirstNormBwdRefIdeal.τ).loc Cert.FirstNormBwdRefIdeal.main_arg2)
          ∧ r.2.mem ((c.tc : Thread Cert.FirstNormBwdRefIdeal.nD Cert.FirstNormBwdRefIdeal.τ).loc Cert.FirstNormBwdRefIdeal.main_arg3) = m' ((c.tc : Thread Cert.FirstNormBwdRefIdeal.nD Cert.FirstNormBwdRefIdeal.τ).loc Cert.FirstNormBwdRefIdeal.main_arg3)
          ∧ r.2.mem ((c.tc : Thread Cert.FirstNormBwdRefIdeal.nD Cert.FirstNormBwdRefIdeal.τ).loc Cert.FirstNormBwdRefIdeal.main_arg4) = m' ((c.tc : Thread Cert.FirstNormBwdRefIdeal.nD Cert.FirstNormBwdRefIdeal.τ).loc Cert.FirstNormBwdRefIdeal.main_arg4)
          ∧ r.2.mem ((c.tc : Thread Cert.FirstNormBwdRefIdeal.nD Cert.FirstNormBwdRefIdeal.τ).loc Cert.FirstNormBwdRefIdeal.main_arg5) = m' ((c.tc : Thread Cert.FirstNormBwdRefIdeal.nD Cert.FirstNormBwdRefIdeal.τ).loc Cert.FirstNormBwdRefIdeal.main_arg5))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)
      ∧ m' ((c.tc : Thread Cert.NormFwdRefIdeal.nD Cert.NormFwdRefIdeal.τ).loc Cert.NormFwdRefIdeal.main_arg4) = m ((c.tc : Thread Cert.NormFwdIdeal.nD Cert.NormFwdIdeal.τ).loc Cert.NormFwdIdeal.main_arg4)
      ∧ m' ((c.tc : Thread Cert.NormFwdRefIdeal.nD Cert.NormFwdRefIdeal.τ).loc Cert.NormFwdRefIdeal.main_arg5) = m ((c.tc : Thread Cert.NormFwdIdeal.nD Cert.NormFwdIdeal.τ).loc Cert.NormFwdIdeal.main_arg5)) →
    ∃ (v0 : (c : Dev Cert.NormFwdIdeal.nD) → Buf (Elt Ideal) ((c.tc : Thread Cert.NormFwdIdeal.nD Cert.NormFwdIdeal.τ).loc Cert.NormFwdIdeal.main_v1_0)) (v1 : (c : Dev Cert.NormFwdIdeal.nD) → Buf (Elt Ideal) ((c.tc : Thread Cert.NormFwdIdeal.nD Cert.NormFwdIdeal.τ).loc Cert.NormFwdIdeal.main_v1_1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1_0) = v0 c
          ∧ r.2.mem ((c.tc : Thread Cert.NormFwdIdeal.nD Cert.NormFwdIdeal.τ).loc Cert.NormFwdIdeal.main_v1_1) = v1 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3)
          ∧ r.2.mem ((c.tc : Thread Cert.NormFwdIdeal.nD Cert.NormFwdIdeal.τ).loc Cert.NormFwdIdeal.main_arg4) = m ((c.tc : Thread Cert.NormFwdIdeal.nD Cert.NormFwdIdeal.τ).loc Cert.NormFwdIdeal.main_arg4)
          ∧ r.2.mem ((c.tc : Thread Cert.NormFwdIdeal.nD Cert.NormFwdIdeal.τ).loc Cert.NormFwdIdeal.main_arg5) = m ((c.tc : Thread Cert.NormFwdIdeal.nD Cert.NormFwdIdeal.τ).loc Cert.NormFwdIdeal.main_arg5))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v3) = v0 c
          ∧ r.2.mem ((c.tc : Thread Cert.NormFwdRefIdeal.nD Cert.NormFwdRefIdeal.τ).loc Cert.NormFwdRefIdeal.main_v23) = v1 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3)
          ∧ r.2.mem ((c.tc : Thread Cert.NormFwdRefIdeal.nD Cert.NormFwdRefIdeal.τ).loc Cert.NormFwdRefIdeal.main_arg4) = m' ((c.tc : Thread Cert.NormFwdRefIdeal.nD Cert.NormFwdRefIdeal.τ).loc Cert.NormFwdRefIdeal.main_arg4)
          ∧ r.2.mem ((c.tc : Thread Cert.NormFwdRefIdeal.nD Cert.NormFwdRefIdeal.τ).loc Cert.NormFwdRefIdeal.main_arg5) = m' ((c.tc : Thread Cert.NormFwdRefIdeal.nD Cert.NormFwdRefIdeal.τ).loc Cert.NormFwdRefIdeal.main_arg5))

def preserves_FirstNormFwd_FirstNormFwdIdeal : Prop :=
  True

def algebraic_FirstNormFwdIdeal_FirstNormFwdRefIdeal [hFirstNormFwdIdeal : Cert.FirstNormFwdIdeal.Facts] [hFirstNormFwdRefIdeal : Cert.FirstNormFwdRefIdeal.Facts] : Prop :=
  ∀ (m : (ℓ : Loc Cert.FirstNormFwdIdeal.nD Cert.FirstNormFwdIdeal.τ Cert.FirstNormFwdIdeal.sig) → Buf (Elt Ideal) ℓ) (g : Dev Cert.FirstNormFwdIdeal.nD → PrngReg)
    (m' : (ℓ : Loc Cert.FirstNormFwdRefIdeal.nD Cert.FirstNormFwdRefIdeal.τ Cert.FirstNormFwdRefIdeal.sig) → Buf (Elt Ideal) ℓ) (g' : Dev Cert.FirstNormFwdRefIdeal.nD → PrngReg), Pre_FirstNormFwdIdeal m →
    (∀ c : Dev Cert.FirstNormFwdIdeal.nD,
      m' ((c.tc : Thread Cert.FirstNormFwdRefIdeal.nD Cert.FirstNormFwdRefIdeal.τ).loc Cert.FirstNormFwdRefIdeal.main_arg0) = m ((c.tc : Thread Cert.FirstNormFwdIdeal.nD Cert.FirstNormFwdIdeal.τ).loc Cert.FirstNormFwdIdeal.main_arg0)
      ∧ m' ((c.tc : Thread Cert.FirstNormFwdRefIdeal.nD Cert.FirstNormFwdRefIdeal.τ).loc Cert.FirstNormFwdRefIdeal.main_arg1) = m ((c.tc : Thread Cert.FirstNormFwdIdeal.nD Cert.FirstNormFwdIdeal.τ).loc Cert.FirstNormFwdIdeal.main_arg1)
      ∧ m' ((c.tc : Thread Cert.FirstNormFwdRefIdeal.nD Cert.FirstNormFwdRefIdeal.τ).loc Cert.FirstNormFwdRefIdeal.main_arg2) = m ((c.tc : Thread Cert.FirstNormFwdIdeal.nD Cert.FirstNormFwdIdeal.τ).loc Cert.FirstNormFwdIdeal.main_arg2)
      ∧ m' ((c.tc : Thread Cert.FirstNormFwdRefIdeal.nD Cert.FirstNormFwdRefIdeal.τ).loc Cert.FirstNormFwdRefIdeal.main_arg3) = m ((c.tc : Thread Cert.FirstNormFwdIdeal.nD Cert.FirstNormFwdIdeal.τ).loc Cert.FirstNormFwdIdeal.main_arg3)) →
    ∃ (v0 : (c : Dev Cert.FirstNormFwdIdeal.nD) → Buf (Elt Ideal) ((c.tc : Thread Cert.FirstNormFwdIdeal.nD Cert.FirstNormFwdIdeal.τ).loc Cert.FirstNormFwdIdeal.main_v1)),
      θ_run (Cert.FirstNormFwdIdeal.defs (F := Ideal)) (onTc (τ := Cert.FirstNormFwdIdeal.τ) (Cert.FirstNormFwdIdeal.main (F := Ideal))) ⟨m, fun _ => 0, g⟩ (fun r => ∀ c : Dev Cert.FirstNormFwdIdeal.nD,
          r.2.mem ((c.tc : Thread Cert.FirstNormFwdIdeal.nD Cert.FirstNormFwdIdeal.τ).loc Cert.FirstNormFwdIdeal.main_v1) = v0 c
          ∧ r.2.mem ((c.tc : Thread Cert.FirstNormFwdIdeal.nD Cert.FirstNormFwdIdeal.τ).loc Cert.FirstNormFwdIdeal.main_arg0) = m ((c.tc : Thread Cert.FirstNormFwdIdeal.nD Cert.FirstNormFwdIdeal.τ).loc Cert.FirstNormFwdIdeal.main_arg0)
          ∧ r.2.mem ((c.tc : Thread Cert.FirstNormFwdIdeal.nD Cert.FirstNormFwdIdeal.τ).loc Cert.FirstNormFwdIdeal.main_arg1) = m ((c.tc : Thread Cert.FirstNormFwdIdeal.nD Cert.FirstNormFwdIdeal.τ).loc Cert.FirstNormFwdIdeal.main_arg1)
          ∧ r.2.mem ((c.tc : Thread Cert.FirstNormFwdIdeal.nD Cert.FirstNormFwdIdeal.τ).loc Cert.FirstNormFwdIdeal.main_arg2) = m ((c.tc : Thread Cert.FirstNormFwdIdeal.nD Cert.FirstNormFwdIdeal.τ).loc Cert.FirstNormFwdIdeal.main_arg2)
          ∧ r.2.mem ((c.tc : Thread Cert.FirstNormFwdIdeal.nD Cert.FirstNormFwdIdeal.τ).loc Cert.FirstNormFwdIdeal.main_arg3) = m ((c.tc : Thread Cert.FirstNormFwdIdeal.nD Cert.FirstNormFwdIdeal.τ).loc Cert.FirstNormFwdIdeal.main_arg3))
      ∧ θ_run (Cert.FirstNormFwdRefIdeal.defs (F := Ideal)) (onTc (τ := Cert.FirstNormFwdRefIdeal.τ) (Cert.FirstNormFwdRefIdeal.main (F := Ideal))) ⟨m', fun _ => 0, g'⟩ (fun r => ∀ c : Dev Cert.FirstNormFwdRefIdeal.nD,
          r.2.mem ((c.tc : Thread Cert.FirstNormFwdRefIdeal.nD Cert.FirstNormFwdRefIdeal.τ).loc Cert.FirstNormFwdRefIdeal.main_v19) = v0 c
          ∧ r.2.mem ((c.tc : Thread Cert.FirstNormFwdRefIdeal.nD Cert.FirstNormFwdRefIdeal.τ).loc Cert.FirstNormFwdRefIdeal.main_arg0) = m' ((c.tc : Thread Cert.FirstNormFwdRefIdeal.nD Cert.FirstNormFwdRefIdeal.τ).loc Cert.FirstNormFwdRefIdeal.main_arg0)
          ∧ r.2.mem ((c.tc : Thread Cert.FirstNormFwdRefIdeal.nD Cert.FirstNormFwdRefIdeal.τ).loc Cert.FirstNormFwdRefIdeal.main_arg1) = m' ((c.tc : Thread Cert.FirstNormFwdRefIdeal.nD Cert.FirstNormFwdRefIdeal.τ).loc Cert.FirstNormFwdRefIdeal.main_arg1)
          ∧ r.2.mem ((c.tc : Thread Cert.FirstNormFwdRefIdeal.nD Cert.FirstNormFwdRefIdeal.τ).loc Cert.FirstNormFwdRefIdeal.main_arg2) = m' ((c.tc : Thread Cert.FirstNormFwdRefIdeal.nD Cert.FirstNormFwdRefIdeal.τ).loc Cert.FirstNormFwdRefIdeal.main_arg2)
          ∧ r.2.mem ((c.tc : Thread Cert.FirstNormFwdRefIdeal.nD Cert.FirstNormFwdRefIdeal.τ).loc Cert.FirstNormFwdRefIdeal.main_arg3) = m' ((c.tc : Thread Cert.FirstNormFwdRefIdeal.nD Cert.FirstNormFwdRefIdeal.τ).loc Cert.FirstNormFwdRefIdeal.main_arg3))

def preserves_FinalLoss_FinalLossIdeal : Prop :=
  True

def algebraic_FinalLossIdeal_FinalLossRefIdeal [hFinalLossIdeal : Cert.FinalLossIdeal.Facts] [hFinalLossRefIdeal : Cert.FinalLossRefIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)
      ∧ m' ((c.tc : Thread Cert.FinalLossRefIdeal.nD Cert.FinalLossRefIdeal.τ).loc Cert.FinalLossRefIdeal.main_arg3) = m ((c.tc : Thread Cert.FinalLossIdeal.nD Cert.FinalLossIdeal.τ).loc Cert.FinalLossIdeal.main_arg3)
      ∧ m' ((c.tc : Thread Cert.FinalLossRefIdeal.nD Cert.FinalLossRefIdeal.τ).loc Cert.FinalLossRefIdeal.main_arg4) = m ((c.tc : Thread Cert.FinalLossIdeal.nD Cert.FinalLossIdeal.τ).loc Cert.FinalLossIdeal.main_arg4)) →
    ∃ (v0 : (c : Dev Cert.FinalLossIdeal.nD) → Buf (Elt Ideal) ((c.tc : Thread Cert.FinalLossIdeal.nD Cert.FinalLossIdeal.τ).loc Cert.FinalLossIdeal.main_v1_0)) (v1 : (c : Dev Cert.FinalLossIdeal.nD) → Buf (Elt Ideal) ((c.tc : Thread Cert.FinalLossIdeal.nD Cert.FinalLossIdeal.τ).loc Cert.FinalLossIdeal.main_v1_1)) (v2 : (c : Dev Cert.FinalLossIdeal.nD) → Buf (Elt Ideal) ((c.tc : Thread Cert.FinalLossIdeal.nD Cert.FinalLossIdeal.τ).loc Cert.FinalLossIdeal.main_v1_2)) (v3 : (c : Dev Cert.FinalLossIdeal.nD) → Buf (Elt Ideal) ((c.tc : Thread Cert.FinalLossIdeal.nD Cert.FinalLossIdeal.τ).loc Cert.FinalLossIdeal.main_v1_3)) (v4 : (c : Dev Cert.FinalLossIdeal.nD) → Buf (Elt Ideal) ((c.tc : Thread Cert.FinalLossIdeal.nD Cert.FinalLossIdeal.τ).loc Cert.FinalLossIdeal.main_v1_4)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v1_0) = v0 c
          ∧ r.2.mem ((c.tc : Thread Cert.FinalLossIdeal.nD Cert.FinalLossIdeal.τ).loc Cert.FinalLossIdeal.main_v1_1) = v1 c
          ∧ r.2.mem ((c.tc : Thread Cert.FinalLossIdeal.nD Cert.FinalLossIdeal.τ).loc Cert.FinalLossIdeal.main_v1_2) = v2 c
          ∧ r.2.mem ((c.tc : Thread Cert.FinalLossIdeal.nD Cert.FinalLossIdeal.τ).loc Cert.FinalLossIdeal.main_v1_3) = v3 c
          ∧ r.2.mem ((c.tc : Thread Cert.FinalLossIdeal.nD Cert.FinalLossIdeal.τ).loc Cert.FinalLossIdeal.main_v1_4) = v4 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
          ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
          ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v54) = v0 c
          ∧ r.2.mem ((c.tc : Thread Cert.FinalLossRefIdeal.nD Cert.FinalLossRefIdeal.τ).loc Cert.FinalLossRefIdeal.main_v60) = v1 c
          ∧ r.2.mem ((c.tc : Thread Cert.FinalLossRefIdeal.nD Cert.FinalLossRefIdeal.τ).loc Cert.FinalLossRefIdeal.main_v61) = v2 c
          ∧ r.2.mem ((c.tc : Thread Cert.FinalLossRefIdeal.nD Cert.FinalLossRefIdeal.τ).loc Cert.FinalLossRefIdeal.main_v62) = v3 c
          ∧ r.2.mem ((c.tc : Thread Cert.FinalLossRefIdeal.nD Cert.FinalLossRefIdeal.τ).loc Cert.FinalLossRefIdeal.main_v59) = v4 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2)
          ∧ r.2.mem ((c.tc : Thread Cert.FinalLossRefIdeal.nD Cert.FinalLossRefIdeal.τ).loc Cert.FinalLossRefIdeal.main_arg3) = m' ((c.tc : Thread Cert.FinalLossRefIdeal.nD Cert.FinalLossRefIdeal.τ).loc Cert.FinalLossRefIdeal.main_arg3)
          ∧ r.2.mem ((c.tc : Thread Cert.FinalLossRefIdeal.nD Cert.FinalLossRefIdeal.τ).loc Cert.FinalLossRefIdeal.main_arg4) = m' ((c.tc : Thread Cert.FinalLossRefIdeal.nD Cert.FinalLossRefIdeal.τ).loc Cert.FinalLossRefIdeal.main_arg4))

def preserves_SguFwd_SguFwdIdeal : Prop :=
  IdealRules.named_const.Statement Cert.SguFwdIdeal.κ "inv_sqrt2" .f32 0x3F3504F3#32 (((Real.sqrt 2)⁻¹ : ℝ) : EReal)

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v3)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v3) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v53) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v23) = v0 c
          ∧ r.2.mem ((c.tc : Thread Cert.AdamAdaRefIdeal.nD Cert.AdamAdaRefIdeal.τ).loc Cert.AdamAdaRefIdeal.main_v4) = v1 c
          ∧ r.2.mem ((c.tc : Thread Cert.AdamAdaRefIdeal.nD Cert.AdamAdaRefIdeal.τ).loc Cert.AdamAdaRefIdeal.main_v10) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamQkv_AdamQkvIdeal : Prop :=
  True

def algebraic_AdamQkvIdeal_AdamQkvRefIdeal [hAdamQkvIdeal : Cert.AdamQkvIdeal.Facts] [hAdamQkvRefIdeal : Cert.AdamQkvRefIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg)
    (m' : (ℓ : Loc Cert.AdamQkvRefIdeal.nD Cert.AdamQkvRefIdeal.τ Cert.AdamQkvRefIdeal.sig) → Buf (Elt Ideal) ℓ) (g' : Dev Cert.AdamQkvRefIdeal.nD → PrngReg), Pre_AdamQkvIdeal m →
    (∀ c : Dev Cert.AdamQkvIdeal.nD,
      m' ((c.tc : Thread Cert.AdamQkvRefIdeal.nD Cert.AdamQkvRefIdeal.τ).loc Cert.AdamQkvRefIdeal.main_arg0) = m ((c.tc : Thread Cert.AdamQkvIdeal.nD Cert.AdamQkvIdeal.τ).loc Cert.AdamQkvIdeal.main_arg0)
      ∧ m' ((c.tc : Thread Cert.AdamQkvRefIdeal.nD Cert.AdamQkvRefIdeal.τ).loc Cert.AdamQkvRefIdeal.main_arg1) = m ((c.tc : Thread Cert.AdamQkvIdeal.nD Cert.AdamQkvIdeal.τ).loc Cert.AdamQkvIdeal.main_arg1)
      ∧ m' ((c.tc : Thread Cert.AdamQkvRefIdeal.nD Cert.AdamQkvRefIdeal.τ).loc Cert.AdamQkvRefIdeal.main_arg2) = m ((c.tc : Thread Cert.AdamQkvIdeal.nD Cert.AdamQkvIdeal.τ).loc Cert.AdamQkvIdeal.main_arg2)
      ∧ m' ((c.tc : Thread Cert.AdamQkvRefIdeal.nD Cert.AdamQkvRefIdeal.τ).loc Cert.AdamQkvRefIdeal.main_arg3) = m ((c.tc : Thread Cert.AdamQkvIdeal.nD Cert.AdamQkvIdeal.τ).loc Cert.AdamQkvIdeal.main_arg3)) →
    ∃ (v0 : (c : Dev Cert.AdamQkvIdeal.nD) → Buf (Elt Ideal) ((c.tc : Thread Cert.AdamQkvIdeal.nD Cert.AdamQkvIdeal.τ).loc Cert.AdamQkvIdeal.main_v0_0)) (v1 : (c : Dev Cert.AdamQkvIdeal.nD) → Buf (Elt Ideal) ((c.tc : Thread Cert.AdamQkvIdeal.nD Cert.AdamQkvIdeal.τ).loc Cert.AdamQkvIdeal.main_v0_1)) (v2 : (c : Dev Cert.AdamQkvIdeal.nD) → Buf (Elt Ideal) ((c.tc : Thread Cert.AdamQkvIdeal.nD Cert.AdamQkvIdeal.τ).loc Cert.AdamQkvIdeal.main_v0_2)),
      θ_run (Cert.AdamQkvIdeal.defs (F := Ideal)) (onTc (τ := Cert.AdamQkvIdeal.τ) (Cert.AdamQkvIdeal.main (F := Ideal))) ⟨m, fun _ => 0, g⟩ (fun r => ∀ c : Dev Cert.AdamQkvIdeal.nD,
          r.2.mem ((c.tc : Thread Cert.AdamQkvIdeal.nD Cert.AdamQkvIdeal.τ).loc Cert.AdamQkvIdeal.main_v0_0) = v0 c
          ∧ r.2.mem ((c.tc : Thread Cert.AdamQkvIdeal.nD Cert.AdamQkvIdeal.τ).loc Cert.AdamQkvIdeal.main_v0_1) = v1 c
          ∧ r.2.mem ((c.tc : Thread Cert.AdamQkvIdeal.nD Cert.AdamQkvIdeal.τ).loc Cert.AdamQkvIdeal.main_v0_2) = v2 c
          ∧ r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
          ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
          ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
          ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ θ_run (Cert.AdamQkvRefIdeal.defs (F := Ideal)) (onTc (τ := Cert.AdamQkvRefIdeal.τ) (Cert.AdamQkvRefIdeal.main (F := Ideal))) ⟨m', fun _ => 0, g'⟩ (fun r => ∀ c : Dev Cert.AdamQkvRefIdeal.nD,
          r.2.mem ((c.tc : Thread Cert.AdamQkvRefIdeal.nD Cert.AdamQkvRefIdeal.τ).loc Cert.AdamQkvRefIdeal.main_v23) = v0 c
          ∧ r.2.mem ((c.tc : Thread Cert.AdamQkvRefIdeal.nD Cert.AdamQkvRefIdeal.τ).loc Cert.AdamQkvRefIdeal.main_v4) = v1 c
          ∧ r.2.mem ((c.tc : Thread Cert.AdamQkvRefIdeal.nD Cert.AdamQkvRefIdeal.τ).loc Cert.AdamQkvRefIdeal.main_v10) = v2 c
          ∧ r.2.mem ((c.tc : Thread Cert.AdamQkvRefIdeal.nD Cert.AdamQkvRefIdeal.τ).loc Cert.AdamQkvRefIdeal.main_arg0) = m' ((c.tc : Thread Cert.AdamQkvRefIdeal.nD Cert.AdamQkvRefIdeal.τ).loc Cert.AdamQkvRefIdeal.main_arg0)
          ∧ r.2.mem ((c.tc : Thread Cert.AdamQkvRefIdeal.nD Cert.AdamQkvRefIdeal.τ).loc Cert.AdamQkvRefIdeal.main_arg1) = m' ((c.tc : Thread Cert.AdamQkvRefIdeal.nD Cert.AdamQkvRefIdeal.τ).loc Cert.AdamQkvRefIdeal.main_arg1)
          ∧ r.2.mem ((c.tc : Thread Cert.AdamQkvRefIdeal.nD Cert.AdamQkvRefIdeal.τ).loc Cert.AdamQkvRefIdeal.main_arg2) = m' ((c.tc : Thread Cert.AdamQkvRefIdeal.nD Cert.AdamQkvRefIdeal.τ).loc Cert.AdamQkvRefIdeal.main_arg2)
          ∧ r.2.mem ((c.tc : Thread Cert.AdamQkvRefIdeal.nD Cert.AdamQkvRefIdeal.τ).loc Cert.AdamQkvRefIdeal.main_arg3) = m' ((c.tc : Thread Cert.AdamQkvRefIdeal.nD Cert.AdamQkvRefIdeal.τ).loc Cert.AdamQkvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamConvIn_AdamConvInIdeal : Prop :=
  True

def algebraic_AdamConvInIdeal_AdamConvInRefIdeal [hAdamConvInIdeal : Cert.AdamConvInIdeal.Facts] [hAdamConvInRefIdeal : Cert.AdamConvInRefIdeal.Facts] : Prop :=
  ∀ (m : (ℓ : Loc Cert.AdamConvInIdeal.nD Cert.AdamConvInIdeal.τ Cert.AdamConvInIdeal.sig) → Buf (Elt Ideal) ℓ) (g : Dev Cert.AdamConvInIdeal.nD → PrngReg)
    (m' : (ℓ : Loc Cert.AdamConvInRefIdeal.nD Cert.AdamConvInRefIdeal.τ Cert.AdamConvInRefIdeal.sig) → Buf (Elt Ideal) ℓ) (g' : Dev Cert.AdamConvInRefIdeal.nD → PrngReg), Pre_AdamConvInIdeal m →
    (∀ c : Dev Cert.AdamConvInIdeal.nD,
      m' ((c.tc : Thread Cert.AdamConvInRefIdeal.nD Cert.AdamConvInRefIdeal.τ).loc Cert.AdamConvInRefIdeal.main_arg0) = m ((c.tc : Thread Cert.AdamConvInIdeal.nD Cert.AdamConvInIdeal.τ).loc Cert.AdamConvInIdeal.main_arg0)
      ∧ m' ((c.tc : Thread Cert.AdamConvInRefIdeal.nD Cert.AdamConvInRefIdeal.τ).loc Cert.AdamConvInRefIdeal.main_arg1) = m ((c.tc : Thread Cert.AdamConvInIdeal.nD Cert.AdamConvInIdeal.τ).loc Cert.AdamConvInIdeal.main_arg1)
      ∧ m' ((c.tc : Thread Cert.AdamConvInRefIdeal.nD Cert.AdamConvInRefIdeal.τ).loc Cert.AdamConvInRefIdeal.main_arg2) = m ((c.tc : Thread Cert.AdamConvInIdeal.nD Cert.AdamConvInIdeal.τ).loc Cert.AdamConvInIdeal.main_arg2)
      ∧ m' ((c.tc : Thread Cert.AdamConvInRefIdeal.nD Cert.AdamConvInRefIdeal.τ).loc Cert.AdamConvInRefIdeal.main_arg3) = m ((c.tc : Thread Cert.AdamConvInIdeal.nD Cert.AdamConvInIdeal.τ).loc Cert.AdamConvInIdeal.main_arg3)) →
    ∃ (v0 : (c : Dev Cert.AdamConvInIdeal.nD) → Buf (Elt Ideal) ((c.tc : Thread Cert.AdamConvInIdeal.nD Cert.AdamConvInIdeal.τ).loc Cert.AdamConvInIdeal.main_v0_0)) (v1 : (c : Dev Cert.AdamConvInIdeal.nD) → Buf (Elt Ideal) ((c.tc : Thread Cert.AdamConvInIdeal.nD Cert.AdamConvInIdeal.τ).loc Cert.AdamConvInIdeal.main_v0_1)) (v2 : (c : Dev Cert.AdamConvInIdeal.nD) → Buf (Elt Ideal) ((c.tc : Thread Cert.AdamConvInIdeal.nD Cert.AdamConvInIdeal.τ).loc Cert.AdamConvInIdeal.main_v0_2)),
      θ_run (Cert.AdamConvInIdeal.defs (F := Ideal)) (onTc (τ := Cert.AdamConvInIdeal.τ) (Cert.AdamConvInIdeal.main (F := Ideal))) ⟨m, fun _ => 0, g⟩ (fun r => ∀ c : Dev Cert.AdamConvInIdeal.nD,
          r.2.mem ((c.tc : Thread Cert.AdamConvInIdeal.nD Cert.AdamConvInIdeal.τ).loc Cert.AdamConvInIdeal.main_v0_0) = v0 c
          ∧ r.2.mem ((c.tc : Thread Cert.AdamConvInIdeal.nD Cert.AdamConvInIdeal.τ).loc Cert.AdamConvInIdeal.main_v0_1) = v1 c
          ∧ r.2.mem ((c.tc : Thread Cert.AdamConvInIdeal.nD Cert.AdamConvInIdeal.τ).loc Cert.AdamConvInIdeal.main_v0_2) = v2 c
          ∧ r.2.mem ((c.tc : Thread Cert.AdamConvInIdeal.nD Cert.AdamConvInIdeal.τ).loc Cert.AdamConvInIdeal.main_arg0) = m ((c.tc : Thread Cert.AdamConvInIdeal.nD Cert.AdamConvInIdeal.τ).loc Cert.AdamConvInIdeal.main_arg0)
          ∧ r.2.mem ((c.tc : Thread Cert.AdamConvInIdeal.nD Cert.AdamConvInIdeal.τ).loc Cert.AdamConvInIdeal.main_arg1) = m ((c.tc : Thread Cert.AdamConvInIdeal.nD Cert.AdamConvInIdeal.τ).loc Cert.AdamConvInIdeal.main_arg1)
          ∧ r.2.mem ((c.tc : Thread Cert.AdamConvInIdeal.nD Cert.AdamConvInIdeal.τ).loc Cert.AdamConvInIdeal.main_arg2) = m ((c.tc : Thread Cert.AdamConvInIdeal.nD Cert.AdamConvInIdeal.τ).loc Cert.AdamConvInIdeal.main_arg2)
          ∧ r.2.mem ((c.tc : Thread Cert.AdamConvInIdeal.nD Cert.AdamConvInIdeal.τ).loc Cert.AdamConvInIdeal.main_arg3) = m ((c.tc : Thread Cert.AdamConvInIdeal.nD Cert.AdamConvInIdeal.τ).loc Cert.AdamConvInIdeal.main_arg3))
      ∧ θ_run (Cert.AdamConvInRefIdeal.defs (F := Ideal)) (onTc (τ := Cert.AdamConvInRefIdeal.τ) (Cert.AdamConvInRefIdeal.main (F := Ideal))) ⟨m', fun _ => 0, g'⟩ (fun r => ∀ c : Dev Cert.AdamConvInRefIdeal.nD,
          r.2.mem ((c.tc : Thread Cert.AdamConvInRefIdeal.nD Cert.AdamConvInRefIdeal.τ).loc Cert.AdamConvInRefIdeal.main_v23) = v0 c
          ∧ r.2.mem ((c.tc : Thread Cert.AdamConvInRefIdeal.nD Cert.AdamConvInRefIdeal.τ).loc Cert.AdamConvInRefIdeal.main_v4) = v1 c
          ∧ r.2.mem ((c.tc : Thread Cert.AdamConvInRefIdeal.nD Cert.AdamConvInRefIdeal.τ).loc Cert.AdamConvInRefIdeal.main_v10) = v2 c
          ∧ r.2.mem ((c.tc : Thread Cert.AdamConvInRefIdeal.nD Cert.AdamConvInRefIdeal.τ).loc Cert.AdamConvInRefIdeal.main_arg0) = m' ((c.tc : Thread Cert.AdamConvInRefIdeal.nD Cert.AdamConvInRefIdeal.τ).loc Cert.AdamConvInRefIdeal.main_arg0)
          ∧ r.2.mem ((c.tc : Thread Cert.AdamConvInRefIdeal.nD Cert.AdamConvInRefIdeal.τ).loc Cert.AdamConvInRefIdeal.main_arg1) = m' ((c.tc : Thread Cert.AdamConvInRefIdeal.nD Cert.AdamConvInRefIdeal.τ).loc Cert.AdamConvInRefIdeal.main_arg1)
          ∧ r.2.mem ((c.tc : Thread Cert.AdamConvInRefIdeal.nD Cert.AdamConvInRefIdeal.τ).loc Cert.AdamConvInRefIdeal.main_arg2) = m' ((c.tc : Thread Cert.AdamConvInRefIdeal.nD Cert.AdamConvInRefIdeal.τ).loc Cert.AdamConvInRefIdeal.main_arg2)
          ∧ r.2.mem ((c.tc : Thread Cert.AdamConvInRefIdeal.nD Cert.AdamConvInRefIdeal.τ).loc Cert.AdamConvInRefIdeal.main_arg3) = m' ((c.tc : Thread Cert.AdamConvInRefIdeal.nD Cert.AdamConvInRefIdeal.τ).loc Cert.AdamConvInRefIdeal.main_arg3))

def preserves_AdamConvOut_AdamConvOutIdeal : Prop :=
  True

def algebraic_AdamConvOutIdeal_AdamConvOutRefIdeal [hAdamConvOutIdeal : Cert.AdamConvOutIdeal.Facts] [hAdamConvOutRefIdeal : Cert.AdamConvOutRefIdeal.Facts] : Prop :=
  ∀ (m : (ℓ : Loc Cert.AdamConvOutIdeal.nD Cert.AdamConvOutIdeal.τ Cert.AdamConvOutIdeal.sig) → Buf (Elt Ideal) ℓ) (g : Dev Cert.AdamConvOutIdeal.nD → PrngReg)
    (m' : (ℓ : Loc Cert.AdamConvOutRefIdeal.nD Cert.AdamConvOutRefIdeal.τ Cert.AdamConvOutRefIdeal.sig) → Buf (Elt Ideal) ℓ) (g' : Dev Cert.AdamConvOutRefIdeal.nD → PrngReg), Pre_AdamConvOutIdeal m →
    (∀ c : Dev Cert.AdamConvOutIdeal.nD,
      m' ((c.tc : Thread Cert.AdamConvOutRefIdeal.nD Cert.AdamConvOutRefIdeal.τ).loc Cert.AdamConvOutRefIdeal.main_arg0) = m ((c.tc : Thread Cert.AdamConvOutIdeal.nD Cert.AdamConvOutIdeal.τ).loc Cert.AdamConvOutIdeal.main_arg0)
      ∧ m' ((c.tc : Thread Cert.AdamConvOutRefIdeal.nD Cert.AdamConvOutRefIdeal.τ).loc Cert.AdamConvOutRefIdeal.main_arg1) = m ((c.tc : Thread Cert.AdamConvOutIdeal.nD Cert.AdamConvOutIdeal.τ).loc Cert.AdamConvOutIdeal.main_arg1)
      ∧ m' ((c.tc : Thread Cert.AdamConvOutRefIdeal.nD Cert.AdamConvOutRefIdeal.τ).loc Cert.AdamConvOutRefIdeal.main_arg2) = m ((c.tc : Thread Cert.AdamConvOutIdeal.nD Cert.AdamConvOutIdeal.τ).loc Cert.AdamConvOutIdeal.main_arg2)
      ∧ m' ((c.tc : Thread Cert.AdamConvOutRefIdeal.nD Cert.AdamConvOutRefIdeal.τ).loc Cert.AdamConvOutRefIdeal.main_arg3) = m ((c.tc : Thread Cert.AdamConvOutIdeal.nD Cert.AdamConvOutIdeal.τ).loc Cert.AdamConvOutIdeal.main_arg3)) →
    ∃ (v0 : (c : Dev Cert.AdamConvOutIdeal.nD) → Buf (Elt Ideal) ((c.tc : Thread Cert.AdamConvOutIdeal.nD Cert.AdamConvOutIdeal.τ).loc Cert.AdamConvOutIdeal.main_v0_0)) (v1 : (c : Dev Cert.AdamConvOutIdeal.nD) → Buf (Elt Ideal) ((c.tc : Thread Cert.AdamConvOutIdeal.nD Cert.AdamConvOutIdeal.τ).loc Cert.AdamConvOutIdeal.main_v0_1)) (v2 : (c : Dev Cert.AdamConvOutIdeal.nD) → Buf (Elt Ideal) ((c.tc : Thread Cert.AdamConvOutIdeal.nD Cert.AdamConvOutIdeal.τ).loc Cert.AdamConvOutIdeal.main_v0_2)),
      θ_run (Cert.AdamConvOutIdeal.defs (F := Ideal)) (onTc (τ := Cert.AdamConvOutIdeal.τ) (Cert.AdamConvOutIdeal.main (F := Ideal))) ⟨m, fun _ => 0, g⟩ (fun r => ∀ c : Dev Cert.AdamConvOutIdeal.nD,
          r.2.mem ((c.tc : Thread Cert.AdamConvOutIdeal.nD Cert.AdamConvOutIdeal.τ).loc Cert.AdamConvOutIdeal.main_v0_0) = v0 c
          ∧ r.2.mem ((c.tc : Thread Cert.AdamConvOutIdeal.nD Cert.AdamConvOutIdeal.τ).loc Cert.AdamConvOutIdeal.main_v0_1) = v1 c
          ∧ r.2.mem ((c.tc : Thread Cert.AdamConvOutIdeal.nD Cert.AdamConvOutIdeal.τ).loc Cert.AdamConvOutIdeal.main_v0_2) = v2 c
          ∧ r.2.mem ((c.tc : Thread Cert.AdamConvOutIdeal.nD Cert.AdamConvOutIdeal.τ).loc Cert.AdamConvOutIdeal.main_arg0) = m ((c.tc : Thread Cert.AdamConvOutIdeal.nD Cert.AdamConvOutIdeal.τ).loc Cert.AdamConvOutIdeal.main_arg0)
          ∧ r.2.mem ((c.tc : Thread Cert.AdamConvOutIdeal.nD Cert.AdamConvOutIdeal.τ).loc Cert.AdamConvOutIdeal.main_arg1) = m ((c.tc : Thread Cert.AdamConvOutIdeal.nD Cert.AdamConvOutIdeal.τ).loc Cert.AdamConvOutIdeal.main_arg1)
          ∧ r.2.mem ((c.tc : Thread Cert.AdamConvOutIdeal.nD Cert.AdamConvOutIdeal.τ).loc Cert.AdamConvOutIdeal.main_arg2) = m ((c.tc : Thread Cert.AdamConvOutIdeal.nD Cert.AdamConvOutIdeal.τ).loc Cert.AdamConvOutIdeal.main_arg2)
          ∧ r.2.mem ((c.tc : Thread Cert.AdamConvOutIdeal.nD Cert.AdamConvOutIdeal.τ).loc Cert.AdamConvOutIdeal.main_arg3) = m ((c.tc : Thread Cert.AdamConvOutIdeal.nD Cert.AdamConvOutIdeal.τ).loc Cert.AdamConvOutIdeal.main_arg3))
      ∧ θ_run (Cert.AdamConvOutRefIdeal.defs (F := Ideal)) (onTc (τ := Cert.AdamConvOutRefIdeal.τ) (Cert.AdamConvOutRefIdeal.main (F := Ideal))) ⟨m', fun _ => 0, g'⟩ (fun r => ∀ c : Dev Cert.AdamConvOutRefIdeal.nD,
          r.2.mem ((c.tc : Thread Cert.AdamConvOutRefIdeal.nD Cert.AdamConvOutRefIdeal.τ).loc Cert.AdamConvOutRefIdeal.main_v23) = v0 c
          ∧ r.2.mem ((c.tc : Thread Cert.AdamConvOutRefIdeal.nD Cert.AdamConvOutRefIdeal.τ).loc Cert.AdamConvOutRefIdeal.main_v4) = v1 c
          ∧ r.2.mem ((c.tc : Thread Cert.AdamConvOutRefIdeal.nD Cert.AdamConvOutRefIdeal.τ).loc Cert.AdamConvOutRefIdeal.main_v10) = v2 c
          ∧ r.2.mem ((c.tc : Thread Cert.AdamConvOutRefIdeal.nD Cert.AdamConvOutRefIdeal.τ).loc Cert.AdamConvOutRefIdeal.main_arg0) = m' ((c.tc : Thread Cert.AdamConvOutRefIdeal.nD Cert.AdamConvOutRefIdeal.τ).loc Cert.AdamConvOutRefIdeal.main_arg0)
          ∧ r.2.mem ((c.tc : Thread Cert.AdamConvOutRefIdeal.nD Cert.AdamConvOutRefIdeal.τ).loc Cert.AdamConvOutRefIdeal.main_arg1) = m' ((c.tc : Thread Cert.AdamConvOutRefIdeal.nD Cert.AdamConvOutRefIdeal.τ).loc Cert.AdamConvOutRefIdeal.main_arg1)
          ∧ r.2.mem ((c.tc : Thread Cert.AdamConvOutRefIdeal.nD Cert.AdamConvOutRefIdeal.τ).loc Cert.AdamConvOutRefIdeal.main_arg2) = m' ((c.tc : Thread Cert.AdamConvOutRefIdeal.nD Cert.AdamConvOutRefIdeal.τ).loc Cert.AdamConvOutRefIdeal.main_arg2)
          ∧ r.2.mem ((c.tc : Thread Cert.AdamConvOutRefIdeal.nD Cert.AdamConvOutRefIdeal.τ).loc Cert.AdamConvOutRefIdeal.main_arg3) = m' ((c.tc : Thread Cert.AdamConvOutRefIdeal.nD Cert.AdamConvOutRefIdeal.τ).loc Cert.AdamConvOutRefIdeal.main_arg3))

def preserves_AdamSguIn_AdamSguInIdeal : Prop :=
  True

def algebraic_AdamSguInIdeal_AdamSguInRefIdeal [hAdamSguInIdeal : Cert.AdamSguInIdeal.Facts] [hAdamSguInRefIdeal : Cert.AdamSguInRefIdeal.Facts] : Prop :=
  ∀ (m : (ℓ : Loc Cert.AdamSguInIdeal.nD Cert.AdamSguInIdeal.τ Cert.AdamSguInIdeal.sig) → Buf (Elt Ideal) ℓ) (g : Dev Cert.AdamSguInIdeal.nD → PrngReg)
    (m' : (ℓ : Loc Cert.AdamSguInRefIdeal.nD Cert.AdamSguInRefIdeal.τ Cert.AdamSguInRefIdeal.sig) → Buf (Elt Ideal) ℓ) (g' : Dev Cert.AdamSguInRefIdeal.nD → PrngReg), Pre_AdamSguInIdeal m →
    (∀ c : Dev Cert.AdamSguInIdeal.nD,
      m' ((c.tc : Thread Cert.AdamSguInRefIdeal.nD Cert.AdamSguInRefIdeal.τ).loc Cert.AdamSguInRefIdeal.main_arg0) = m ((c.tc : Thread Cert.AdamSguInIdeal.nD Cert.AdamSguInIdeal.τ).loc Cert.AdamSguInIdeal.main_arg0)
      ∧ m' ((c.tc : Thread Cert.AdamSguInRefIdeal.nD Cert.AdamSguInRefIdeal.τ).loc Cert.AdamSguInRefIdeal.main_arg1) = m ((c.tc : Thread Cert.AdamSguInIdeal.nD Cert.AdamSguInIdeal.τ).loc Cert.AdamSguInIdeal.main_arg1)
      ∧ m' ((c.tc : Thread Cert.AdamSguInRefIdeal.nD Cert.AdamSguInRefIdeal.τ).loc Cert.AdamSguInRefIdeal.main_arg2) = m ((c.tc : Thread Cert.AdamSguInIdeal.nD Cert.AdamSguInIdeal.τ).loc Cert.AdamSguInIdeal.main_arg2)
      ∧ m' ((c.tc : Thread Cert.AdamSguInRefIdeal.nD Cert.AdamSguInRefIdeal.τ).loc Cert.AdamSguInRefIdeal.main_arg3) = m ((c.tc : Thread Cert.AdamSguInIdeal.nD Cert.AdamSguInIdeal.τ).loc Cert.AdamSguInIdeal.main_arg3)) →
    ∃ (v0 : (c : Dev Cert.AdamSguInIdeal.nD) → Buf (Elt Ideal) ((c.tc : Thread Cert.AdamSguInIdeal.nD Cert.AdamSguInIdeal.τ).loc Cert.AdamSguInIdeal.main_v0_0)) (v1 : (c : Dev Cert.AdamSguInIdeal.nD) → Buf (Elt Ideal) ((c.tc : Thread Cert.AdamSguInIdeal.nD Cert.AdamSguInIdeal.τ).loc Cert.AdamSguInIdeal.main_v0_1)) (v2 : (c : Dev Cert.AdamSguInIdeal.nD) → Buf (Elt Ideal) ((c.tc : Thread Cert.AdamSguInIdeal.nD Cert.AdamSguInIdeal.τ).loc Cert.AdamSguInIdeal.main_v0_2)),
      θ_run (Cert.AdamSguInIdeal.defs (F := Ideal)) (onTc (τ := Cert.AdamSguInIdeal.τ) (Cert.AdamSguInIdeal.main (F := Ideal))) ⟨m, fun _ => 0, g⟩ (fun r => ∀ c : Dev Cert.AdamSguInIdeal.nD,
          r.2.mem ((c.tc : Thread Cert.AdamSguInIdeal.nD Cert.AdamSguInIdeal.τ).loc Cert.AdamSguInIdeal.main_v0_0) = v0 c
          ∧ r.2.mem ((c.tc : Thread Cert.AdamSguInIdeal.nD Cert.AdamSguInIdeal.τ).loc Cert.AdamSguInIdeal.main_v0_1) = v1 c
          ∧ r.2.mem ((c.tc : Thread Cert.AdamSguInIdeal.nD Cert.AdamSguInIdeal.τ).loc Cert.AdamSguInIdeal.main_v0_2) = v2 c
          ∧ r.2.mem ((c.tc : Thread Cert.AdamSguInIdeal.nD Cert.AdamSguInIdeal.τ).loc Cert.AdamSguInIdeal.main_arg0) = m ((c.tc : Thread Cert.AdamSguInIdeal.nD Cert.AdamSguInIdeal.τ).loc Cert.AdamSguInIdeal.main_arg0)
          ∧ r.2.mem ((c.tc : Thread Cert.AdamSguInIdeal.nD Cert.AdamSguInIdeal.τ).loc Cert.AdamSguInIdeal.main_arg1) = m ((c.tc : Thread Cert.AdamSguInIdeal.nD Cert.AdamSguInIdeal.τ).loc Cert.AdamSguInIdeal.main_arg1)
          ∧ r.2.mem ((c.tc : Thread Cert.AdamSguInIdeal.nD Cert.AdamSguInIdeal.τ).loc Cert.AdamSguInIdeal.main_arg2) = m ((c.tc : Thread Cert.AdamSguInIdeal.nD Cert.AdamSguInIdeal.τ).loc Cert.AdamSguInIdeal.main_arg2)
          ∧ r.2.mem ((c.tc : Thread Cert.AdamSguInIdeal.nD Cert.AdamSguInIdeal.τ).loc Cert.AdamSguInIdeal.main_arg3) = m ((c.tc : Thread Cert.AdamSguInIdeal.nD Cert.AdamSguInIdeal.τ).loc Cert.AdamSguInIdeal.main_arg3))
      ∧ θ_run (Cert.AdamSguInRefIdeal.defs (F := Ideal)) (onTc (τ := Cert.AdamSguInRefIdeal.τ) (Cert.AdamSguInRefIdeal.main (F := Ideal))) ⟨m', fun _ => 0, g'⟩ (fun r => ∀ c : Dev Cert.AdamSguInRefIdeal.nD,
          r.2.mem ((c.tc : Thread Cert.AdamSguInRefIdeal.nD Cert.AdamSguInRefIdeal.τ).loc Cert.AdamSguInRefIdeal.main_v23) = v0 c
          ∧ r.2.mem ((c.tc : Thread Cert.AdamSguInRefIdeal.nD Cert.AdamSguInRefIdeal.τ).loc Cert.AdamSguInRefIdeal.main_v4) = v1 c
          ∧ r.2.mem ((c.tc : Thread Cert.AdamSguInRefIdeal.nD Cert.AdamSguInRefIdeal.τ).loc Cert.AdamSguInRefIdeal.main_v10) = v2 c
          ∧ r.2.mem ((c.tc : Thread Cert.AdamSguInRefIdeal.nD Cert.AdamSguInRefIdeal.τ).loc Cert.AdamSguInRefIdeal.main_arg0) = m' ((c.tc : Thread Cert.AdamSguInRefIdeal.nD Cert.AdamSguInRefIdeal.τ).loc Cert.AdamSguInRefIdeal.main_arg0)
          ∧ r.2.mem ((c.tc : Thread Cert.AdamSguInRefIdeal.nD Cert.AdamSguInRefIdeal.τ).loc Cert.AdamSguInRefIdeal.main_arg1) = m' ((c.tc : Thread Cert.AdamSguInRefIdeal.nD Cert.AdamSguInRefIdeal.τ).loc Cert.AdamSguInRefIdeal.main_arg1)
          ∧ r.2.mem ((c.tc : Thread Cert.AdamSguInRefIdeal.nD Cert.AdamSguInRefIdeal.τ).loc Cert.AdamSguInRefIdeal.main_arg2) = m' ((c.tc : Thread Cert.AdamSguInRefIdeal.nD Cert.AdamSguInRefIdeal.τ).loc Cert.AdamSguInRefIdeal.main_arg2)
          ∧ r.2.mem ((c.tc : Thread Cert.AdamSguInRefIdeal.nD Cert.AdamSguInRefIdeal.τ).loc Cert.AdamSguInRefIdeal.main_arg3) = m' ((c.tc : Thread Cert.AdamSguInRefIdeal.nD Cert.AdamSguInRefIdeal.τ).loc Cert.AdamSguInRefIdeal.main_arg3))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v23) = v0 c
          ∧ r.2.mem ((c.tc : Thread Cert.AdamFfnInRefIdeal.nD Cert.AdamFfnInRefIdeal.τ).loc Cert.AdamFfnInRefIdeal.main_v4) = v1 c
          ∧ r.2.mem ((c.tc : Thread Cert.AdamFfnInRefIdeal.nD Cert.AdamFfnInRefIdeal.τ).loc Cert.AdamFfnInRefIdeal.main_v10) = v2 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v23) = v0 c
          ∧ r.2.mem ((c.tc : Thread Cert.AdamFfnOutRefIdeal.nD Cert.AdamFfnOutRefIdeal.τ).loc Cert.AdamFfnOutRefIdeal.main_v4) = v1 c
          ∧ r.2.mem ((c.tc : Thread Cert.AdamFfnOutRefIdeal.nD Cert.AdamFfnOutRefIdeal.τ).loc Cert.AdamFfnOutRefIdeal.main_v10) = v2 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumQkv_SumQkvIdeal : Prop :=
  True

def algebraic_SumQkvIdeal_SumQkvRefIdeal [hSumQkvIdeal : Cert.SumQkvIdeal.Facts] [hSumQkvRefIdeal : Cert.SumQkvRefIdeal.Facts] : Prop :=
  ∀ (m : (ℓ : Loc Cert.SumQkvIdeal.nD Cert.SumQkvIdeal.τ Cert.SumQkvIdeal.sig) → Buf (Elt Ideal) ℓ) (g : Dev Cert.SumQkvIdeal.nD → PrngReg)
    (m' : (ℓ : Loc Cert.SumQkvRefIdeal.nD Cert.SumQkvRefIdeal.τ Cert.SumQkvRefIdeal.sig) → Buf (Elt Ideal) ℓ) (g' : Dev Cert.SumQkvRefIdeal.nD → PrngReg), Pre_SumQkvIdeal m →
    (∀ c : Dev Cert.SumQkvIdeal.nD,
      m' ((c.tc : Thread Cert.SumQkvRefIdeal.nD Cert.SumQkvRefIdeal.τ).loc Cert.SumQkvRefIdeal.main_arg0) = m ((c.tc : Thread Cert.SumQkvIdeal.nD Cert.SumQkvIdeal.τ).loc Cert.SumQkvIdeal.main_arg0)) →
    ∃ (v0 : (c : Dev Cert.SumQkvIdeal.nD) → Buf (Elt Ideal) ((c.tc : Thread Cert.SumQkvIdeal.nD Cert.SumQkvIdeal.τ).loc Cert.SumQkvIdeal.main_v0)),
      θ_run (Cert.SumQkvIdeal.defs (F := Ideal)) (onTc (τ := Cert.SumQkvIdeal.τ) (Cert.SumQkvIdeal.main (F := Ideal))) ⟨m, fun _ => 0, g⟩ (fun r => ∀ c : Dev Cert.SumQkvIdeal.nD,
          r.2.mem ((c.tc : Thread Cert.SumQkvIdeal.nD Cert.SumQkvIdeal.τ).loc Cert.SumQkvIdeal.main_v0) = v0 c
          ∧ r.2.mem ((c.tc : Thread Cert.SumQkvIdeal.nD Cert.SumQkvIdeal.τ).loc Cert.SumQkvIdeal.main_arg0) = m ((c.tc : Thread Cert.SumQkvIdeal.nD Cert.SumQkvIdeal.τ).loc Cert.SumQkvIdeal.main_arg0))
      ∧ θ_run (Cert.SumQkvRefIdeal.defs (F := Ideal)) (onTc (τ := Cert.SumQkvRefIdeal.τ) (Cert.SumQkvRefIdeal.main (F := Ideal))) ⟨m', fun _ => 0, g'⟩ (fun r => ∀ c : Dev Cert.SumQkvRefIdeal.nD,
          r.2.mem ((c.tc : Thread Cert.SumQkvRefIdeal.nD Cert.SumQkvRefIdeal.τ).loc Cert.SumQkvRefIdeal.main_v1) = v0 c
          ∧ r.2.mem ((c.tc : Thread Cert.SumQkvRefIdeal.nD Cert.SumQkvRefIdeal.τ).loc Cert.SumQkvRefIdeal.main_arg0) = m' ((c.tc : Thread Cert.SumQkvRefIdeal.nD Cert.SumQkvRefIdeal.τ).loc Cert.SumQkvRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v1) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumSguOut_SumSguOutIdeal : Prop :=
  True

def algebraic_SumSguOutIdeal_SumSguOutRefIdeal [hSumSguOutIdeal : Cert.SumSguOutIdeal.Facts] [hSumSguOutRefIdeal : Cert.SumSguOutRefIdeal.Facts] : Prop :=
  ∀ (m : (ℓ : Loc Cert.SumSguOutIdeal.nD Cert.SumSguOutIdeal.τ Cert.SumSguOutIdeal.sig) → Buf (Elt Ideal) ℓ) (g : Dev Cert.SumSguOutIdeal.nD → PrngReg)
    (m' : (ℓ : Loc Cert.SumSguOutRefIdeal.nD Cert.SumSguOutRefIdeal.τ Cert.SumSguOutRefIdeal.sig) → Buf (Elt Ideal) ℓ) (g' : Dev Cert.SumSguOutRefIdeal.nD → PrngReg), Pre_SumSguOutIdeal m →
    (∀ c : Dev Cert.SumSguOutIdeal.nD,
      m' ((c.tc : Thread Cert.SumSguOutRefIdeal.nD Cert.SumSguOutRefIdeal.τ).loc Cert.SumSguOutRefIdeal.main_arg0) = m ((c.tc : Thread Cert.SumSguOutIdeal.nD Cert.SumSguOutIdeal.τ).loc Cert.SumSguOutIdeal.main_arg0)) →
    ∃ (v0 : (c : Dev Cert.SumSguOutIdeal.nD) → Buf (Elt Ideal) ((c.tc : Thread Cert.SumSguOutIdeal.nD Cert.SumSguOutIdeal.τ).loc Cert.SumSguOutIdeal.main_v0)),
      θ_run (Cert.SumSguOutIdeal.defs (F := Ideal)) (onTc (τ := Cert.SumSguOutIdeal.τ) (Cert.SumSguOutIdeal.main (F := Ideal))) ⟨m, fun _ => 0, g⟩ (fun r => ∀ c : Dev Cert.SumSguOutIdeal.nD,
          r.2.mem ((c.tc : Thread Cert.SumSguOutIdeal.nD Cert.SumSguOutIdeal.τ).loc Cert.SumSguOutIdeal.main_v0) = v0 c
          ∧ r.2.mem ((c.tc : Thread Cert.SumSguOutIdeal.nD Cert.SumSguOutIdeal.τ).loc Cert.SumSguOutIdeal.main_arg0) = m ((c.tc : Thread Cert.SumSguOutIdeal.nD Cert.SumSguOutIdeal.τ).loc Cert.SumSguOutIdeal.main_arg0))
      ∧ θ_run (Cert.SumSguOutRefIdeal.defs (F := Ideal)) (onTc (τ := Cert.SumSguOutRefIdeal.τ) (Cert.SumSguOutRefIdeal.main (F := Ideal))) ⟨m', fun _ => 0, g'⟩ (fun r => ∀ c : Dev Cert.SumSguOutRefIdeal.nD,
          r.2.mem ((c.tc : Thread Cert.SumSguOutRefIdeal.nD Cert.SumSguOutRefIdeal.τ).loc Cert.SumSguOutRefIdeal.main_v1) = v0 c
          ∧ r.2.mem ((c.tc : Thread Cert.SumSguOutRefIdeal.nD Cert.SumSguOutRefIdeal.τ).loc Cert.SumSguOutRefIdeal.main_arg0) = m' ((c.tc : Thread Cert.SumSguOutRefIdeal.nD Cert.SumSguOutRefIdeal.τ).loc Cert.SumSguOutRefIdeal.main_arg0))

def preserves_SumSguIn_SumSguInIdeal : Prop :=
  True

def algebraic_SumSguInIdeal_SumSguInRefIdeal [hSumSguInIdeal : Cert.SumSguInIdeal.Facts] [hSumSguInRefIdeal : Cert.SumSguInRefIdeal.Facts] : Prop :=
  ∀ (m : (ℓ : Loc Cert.SumSguInIdeal.nD Cert.SumSguInIdeal.τ Cert.SumSguInIdeal.sig) → Buf (Elt Ideal) ℓ) (g : Dev Cert.SumSguInIdeal.nD → PrngReg)
    (m' : (ℓ : Loc Cert.SumSguInRefIdeal.nD Cert.SumSguInRefIdeal.τ Cert.SumSguInRefIdeal.sig) → Buf (Elt Ideal) ℓ) (g' : Dev Cert.SumSguInRefIdeal.nD → PrngReg), Pre_SumSguInIdeal m →
    (∀ c : Dev Cert.SumSguInIdeal.nD,
      m' ((c.tc : Thread Cert.SumSguInRefIdeal.nD Cert.SumSguInRefIdeal.τ).loc Cert.SumSguInRefIdeal.main_arg0) = m ((c.tc : Thread Cert.SumSguInIdeal.nD Cert.SumSguInIdeal.τ).loc Cert.SumSguInIdeal.main_arg0)) →
    ∃ (v0 : (c : Dev Cert.SumSguInIdeal.nD) → Buf (Elt Ideal) ((c.tc : Thread Cert.SumSguInIdeal.nD Cert.SumSguInIdeal.τ).loc Cert.SumSguInIdeal.main_v0)),
      θ_run (Cert.SumSguInIdeal.defs (F := Ideal)) (onTc (τ := Cert.SumSguInIdeal.τ) (Cert.SumSguInIdeal.main (F := Ideal))) ⟨m, fun _ => 0, g⟩ (fun r => ∀ c : Dev Cert.SumSguInIdeal.nD,
          r.2.mem ((c.tc : Thread Cert.SumSguInIdeal.nD Cert.SumSguInIdeal.τ).loc Cert.SumSguInIdeal.main_v0) = v0 c
          ∧ r.2.mem ((c.tc : Thread Cert.SumSguInIdeal.nD Cert.SumSguInIdeal.τ).loc Cert.SumSguInIdeal.main_arg0) = m ((c.tc : Thread Cert.SumSguInIdeal.nD Cert.SumSguInIdeal.τ).loc Cert.SumSguInIdeal.main_arg0))
      ∧ θ_run (Cert.SumSguInRefIdeal.defs (F := Ideal)) (onTc (τ := Cert.SumSguInRefIdeal.τ) (Cert.SumSguInRefIdeal.main (F := Ideal))) ⟨m', fun _ => 0, g'⟩ (fun r => ∀ c : Dev Cert.SumSguInRefIdeal.nD,
          r.2.mem ((c.tc : Thread Cert.SumSguInRefIdeal.nD Cert.SumSguInRefIdeal.τ).loc Cert.SumSguInRefIdeal.main_v1) = v0 c
          ∧ r.2.mem ((c.tc : Thread Cert.SumSguInRefIdeal.nD Cert.SumSguInRefIdeal.τ).loc Cert.SumSguInRefIdeal.main_arg0) = m' ((c.tc : Thread Cert.SumSguInRefIdeal.nD Cert.SumSguInRefIdeal.τ).loc Cert.SumSguInRefIdeal.main_arg0))

def preserves_SumFfnIn_SumFfnInIdeal : Prop :=
  True

def algebraic_SumFfnInIdeal_SumFfnInRefIdeal [hSumFfnInIdeal : Cert.SumFfnInIdeal.Facts] [hSumFfnInRefIdeal : Cert.SumFfnInRefIdeal.Facts] : Prop :=
  ∀ (m : (ℓ : Loc Cert.SumFfnInIdeal.nD Cert.SumFfnInIdeal.τ Cert.SumFfnInIdeal.sig) → Buf (Elt Ideal) ℓ) (g : Dev Cert.SumFfnInIdeal.nD → PrngReg)
    (m' : (ℓ : Loc Cert.SumFfnInRefIdeal.nD Cert.SumFfnInRefIdeal.τ Cert.SumFfnInRefIdeal.sig) → Buf (Elt Ideal) ℓ) (g' : Dev Cert.SumFfnInRefIdeal.nD → PrngReg), Pre_SumFfnInIdeal m →
    (∀ c : Dev Cert.SumFfnInIdeal.nD,
      m' ((c.tc : Thread Cert.SumFfnInRefIdeal.nD Cert.SumFfnInRefIdeal.τ).loc Cert.SumFfnInRefIdeal.main_arg0) = m ((c.tc : Thread Cert.SumFfnInIdeal.nD Cert.SumFfnInIdeal.τ).loc Cert.SumFfnInIdeal.main_arg0)) →
    ∃ (v0 : (c : Dev Cert.SumFfnInIdeal.nD) → Buf (Elt Ideal) ((c.tc : Thread Cert.SumFfnInIdeal.nD Cert.SumFfnInIdeal.τ).loc Cert.SumFfnInIdeal.main_v0)),
      θ_run (Cert.SumFfnInIdeal.defs (F := Ideal)) (onTc (τ := Cert.SumFfnInIdeal.τ) (Cert.SumFfnInIdeal.main (F := Ideal))) ⟨m, fun _ => 0, g⟩ (fun r => ∀ c : Dev Cert.SumFfnInIdeal.nD,
          r.2.mem ((c.tc : Thread Cert.SumFfnInIdeal.nD Cert.SumFfnInIdeal.τ).loc Cert.SumFfnInIdeal.main_v0) = v0 c
          ∧ r.2.mem ((c.tc : Thread Cert.SumFfnInIdeal.nD Cert.SumFfnInIdeal.τ).loc Cert.SumFfnInIdeal.main_arg0) = m ((c.tc : Thread Cert.SumFfnInIdeal.nD Cert.SumFfnInIdeal.τ).loc Cert.SumFfnInIdeal.main_arg0))
      ∧ θ_run (Cert.SumFfnInRefIdeal.defs (F := Ideal)) (onTc (τ := Cert.SumFfnInRefIdeal.τ) (Cert.SumFfnInRefIdeal.main (F := Ideal))) ⟨m', fun _ => 0, g'⟩ (fun r => ∀ c : Dev Cert.SumFfnInRefIdeal.nD,
          r.2.mem ((c.tc : Thread Cert.SumFfnInRefIdeal.nD Cert.SumFfnInRefIdeal.τ).loc Cert.SumFfnInRefIdeal.main_v1) = v0 c
          ∧ r.2.mem ((c.tc : Thread Cert.SumFfnInRefIdeal.nD Cert.SumFfnInRefIdeal.τ).loc Cert.SumFfnInRefIdeal.main_arg0) = m' ((c.tc : Thread Cert.SumFfnInRefIdeal.nD Cert.SumFfnInRefIdeal.τ).loc Cert.SumFfnInRefIdeal.main_arg0))

def preserves_SumFfnOut_SumFfnOutIdeal : Prop :=
  True

def algebraic_SumFfnOutIdeal_SumFfnOutRefIdeal [hSumFfnOutIdeal : Cert.SumFfnOutIdeal.Facts] [hSumFfnOutRefIdeal : Cert.SumFfnOutRefIdeal.Facts] : Prop :=
  ∀ (m : (ℓ : Loc Cert.SumFfnOutIdeal.nD Cert.SumFfnOutIdeal.τ Cert.SumFfnOutIdeal.sig) → Buf (Elt Ideal) ℓ) (g : Dev Cert.SumFfnOutIdeal.nD → PrngReg)
    (m' : (ℓ : Loc Cert.SumFfnOutRefIdeal.nD Cert.SumFfnOutRefIdeal.τ Cert.SumFfnOutRefIdeal.sig) → Buf (Elt Ideal) ℓ) (g' : Dev Cert.SumFfnOutRefIdeal.nD → PrngReg), Pre_SumFfnOutIdeal m →
    (∀ c : Dev Cert.SumFfnOutIdeal.nD,
      m' ((c.tc : Thread Cert.SumFfnOutRefIdeal.nD Cert.SumFfnOutRefIdeal.τ).loc Cert.SumFfnOutRefIdeal.main_arg0) = m ((c.tc : Thread Cert.SumFfnOutIdeal.nD Cert.SumFfnOutIdeal.τ).loc Cert.SumFfnOutIdeal.main_arg0)) →
    ∃ (v0 : (c : Dev Cert.SumFfnOutIdeal.nD) → Buf (Elt Ideal) ((c.tc : Thread Cert.SumFfnOutIdeal.nD Cert.SumFfnOutIdeal.τ).loc Cert.SumFfnOutIdeal.main_v0)),
      θ_run (Cert.SumFfnOutIdeal.defs (F := Ideal)) (onTc (τ := Cert.SumFfnOutIdeal.τ) (Cert.SumFfnOutIdeal.main (F := Ideal))) ⟨m, fun _ => 0, g⟩ (fun r => ∀ c : Dev Cert.SumFfnOutIdeal.nD,
          r.2.mem ((c.tc : Thread Cert.SumFfnOutIdeal.nD Cert.SumFfnOutIdeal.τ).loc Cert.SumFfnOutIdeal.main_v0) = v0 c
          ∧ r.2.mem ((c.tc : Thread Cert.SumFfnOutIdeal.nD Cert.SumFfnOutIdeal.τ).loc Cert.SumFfnOutIdeal.main_arg0) = m ((c.tc : Thread Cert.SumFfnOutIdeal.nD Cert.SumFfnOutIdeal.τ).loc Cert.SumFfnOutIdeal.main_arg0))
      ∧ θ_run (Cert.SumFfnOutRefIdeal.defs (F := Ideal)) (onTc (τ := Cert.SumFfnOutRefIdeal.τ) (Cert.SumFfnOutRefIdeal.main (F := Ideal))) ⟨m', fun _ => 0, g'⟩ (fun r => ∀ c : Dev Cert.SumFfnOutRefIdeal.nD,
          r.2.mem ((c.tc : Thread Cert.SumFfnOutRefIdeal.nD Cert.SumFfnOutRefIdeal.τ).loc Cert.SumFfnOutRefIdeal.main_v1) = v0 c
          ∧ r.2.mem ((c.tc : Thread Cert.SumFfnOutRefIdeal.nD Cert.SumFfnOutRefIdeal.τ).loc Cert.SumFfnOutRefIdeal.main_arg0) = m' ((c.tc : Thread Cert.SumFfnOutRefIdeal.nD Cert.SumFfnOutRefIdeal.τ).loc Cert.SumFfnOutRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumSmallHalf_SumSmallHalfIdeal : Prop :=
  True

def algebraic_SumSmallHalfIdeal_SumSmallHalfRefIdeal [hSumSmallHalfIdeal : Cert.SumSmallHalfIdeal.Facts] [hSumSmallHalfRefIdeal : Cert.SumSmallHalfRefIdeal.Facts] : Prop :=
  ∀ (m : (ℓ : Loc Cert.SumSmallHalfIdeal.nD Cert.SumSmallHalfIdeal.τ Cert.SumSmallHalfIdeal.sig) → Buf (Elt Ideal) ℓ) (g : Dev Cert.SumSmallHalfIdeal.nD → PrngReg)
    (m' : (ℓ : Loc Cert.SumSmallHalfRefIdeal.nD Cert.SumSmallHalfRefIdeal.τ Cert.SumSmallHalfRefIdeal.sig) → Buf (Elt Ideal) ℓ) (g' : Dev Cert.SumSmallHalfRefIdeal.nD → PrngReg), Pre_SumSmallHalfIdeal m →
    (∀ c : Dev Cert.SumSmallHalfIdeal.nD,
      m' ((c.tc : Thread Cert.SumSmallHalfRefIdeal.nD Cert.SumSmallHalfRefIdeal.τ).loc Cert.SumSmallHalfRefIdeal.main_arg0) = m ((c.tc : Thread Cert.SumSmallHalfIdeal.nD Cert.SumSmallHalfIdeal.τ).loc Cert.SumSmallHalfIdeal.main_arg0)) →
    ∃ (v0 : (c : Dev Cert.SumSmallHalfIdeal.nD) → Buf (Elt Ideal) ((c.tc : Thread Cert.SumSmallHalfIdeal.nD Cert.SumSmallHalfIdeal.τ).loc Cert.SumSmallHalfIdeal.main_v0)),
      θ_run (Cert.SumSmallHalfIdeal.defs (F := Ideal)) (onTc (τ := Cert.SumSmallHalfIdeal.τ) (Cert.SumSmallHalfIdeal.main (F := Ideal))) ⟨m, fun _ => 0, g⟩ (fun r => ∀ c : Dev Cert.SumSmallHalfIdeal.nD,
          r.2.mem ((c.tc : Thread Cert.SumSmallHalfIdeal.nD Cert.SumSmallHalfIdeal.τ).loc Cert.SumSmallHalfIdeal.main_v0) = v0 c
          ∧ r.2.mem ((c.tc : Thread Cert.SumSmallHalfIdeal.nD Cert.SumSmallHalfIdeal.τ).loc Cert.SumSmallHalfIdeal.main_arg0) = m ((c.tc : Thread Cert.SumSmallHalfIdeal.nD Cert.SumSmallHalfIdeal.τ).loc Cert.SumSmallHalfIdeal.main_arg0))
      ∧ θ_run (Cert.SumSmallHalfRefIdeal.defs (F := Ideal)) (onTc (τ := Cert.SumSmallHalfRefIdeal.τ) (Cert.SumSmallHalfRefIdeal.main (F := Ideal))) ⟨m', fun _ => 0, g'⟩ (fun r => ∀ c : Dev Cert.SumSmallHalfRefIdeal.nD,
          r.2.mem ((c.tc : Thread Cert.SumSmallHalfRefIdeal.nD Cert.SumSmallHalfRefIdeal.τ).loc Cert.SumSmallHalfRefIdeal.main_v1) = v0 c
          ∧ r.2.mem ((c.tc : Thread Cert.SumSmallHalfRefIdeal.nD Cert.SumSmallHalfRefIdeal.τ).loc Cert.SumSmallHalfRefIdeal.main_arg0) = m' ((c.tc : Thread Cert.SumSmallHalfRefIdeal.nD Cert.SumSmallHalfRefIdeal.τ).loc Cert.SumSmallHalfRefIdeal.main_arg0))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)
      ∧ m' ((c.tc : Thread Cert.AdaModRefIdeal.nD Cert.AdaModRefIdeal.τ).loc Cert.AdaModRefIdeal.main_arg2) = m ((c.tc : Thread Cert.AdaModIdeal.nD Cert.AdaModIdeal.τ).loc Cert.AdaModIdeal.main_arg2)) →
    ∃ (v0 : (c : Dev Cert.AdaModIdeal.nD) → Buf (Elt Ideal) ((c.tc : Thread Cert.AdaModIdeal.nD Cert.AdaModIdeal.τ).loc Cert.AdaModIdeal.main_v10)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v10) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
          ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v5) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1)
          ∧ r.2.mem ((c.tc : Thread Cert.AdaModRefIdeal.nD Cert.AdaModRefIdeal.τ).loc Cert.AdaModRefIdeal.main_arg2) = m' ((c.tc : Thread Cert.AdaModRefIdeal.nD Cert.AdaModRefIdeal.τ).loc Cert.AdaModRefIdeal.main_arg2))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v10)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v10) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v5) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def Claim : Prop :=
  ∃ (hKernel : Cert.Kernel.Facts) (hKernelIdeal : Cert.KernelIdeal.Facts) (hReferenceIdeal : Cert.ReferenceIdeal.Facts) (hFfnInDw : Cert.FfnInDw.Facts) (hFfnInDwIdeal : Cert.FfnInDwIdeal.Facts) (hFfnInDwRefIdeal : Cert.FfnInDwRefIdeal.Facts) (hFfnOutDw : Cert.FfnOutDw.Facts) (hFfnOutDwIdeal : Cert.FfnOutDwIdeal.Facts) (hFfnOutDwRefIdeal : Cert.FfnOutDwRefIdeal.Facts) (hFfnOutDx : Cert.FfnOutDx.Facts) (hFfnOutDxIdeal : Cert.FfnOutDxIdeal.Facts) (hFfnOutDxRefIdeal : Cert.FfnOutDxRefIdeal.Facts) (hSguInDw : Cert.SguInDw.Facts) (hSguInDwIdeal : Cert.SguInDwIdeal.Facts) (hSguInDwRefIdeal : Cert.SguInDwRefIdeal.Facts) (hSguInDx : Cert.SguInDx.Facts) (hSguInDxIdeal : Cert.SguInDxIdeal.Facts) (hSguInDxRefIdeal : Cert.SguInDxRefIdeal.Facts) (hSguOutDw : Cert.SguOutDw.Facts) (hSguOutDwIdeal : Cert.SguOutDwIdeal.Facts) (hSguOutDwRefIdeal : Cert.SguOutDwRefIdeal.Facts) (hSguOutDx : Cert.SguOutDx.Facts) (hSguOutDxIdeal : Cert.SguOutDxIdeal.Facts) (hSguOutDxRefIdeal : Cert.SguOutDxRefIdeal.Facts) (hConvInDx : Cert.ConvInDx.Facts) (hConvInDxIdeal : Cert.ConvInDxIdeal.Facts) (hConvInDxRefIdeal : Cert.ConvInDxRefIdeal.Facts) (hMixOutDw : Cert.MixOutDw.Facts) (hMixOutDwIdeal : Cert.MixOutDwIdeal.Facts) (hMixOutDwRefIdeal : Cert.MixOutDwRefIdeal.Facts) (hMixOutDx : Cert.MixOutDx.Facts) (hMixOutDxIdeal : Cert.MixOutDxIdeal.Facts) (hMixOutDxRefIdeal : Cert.MixOutDxRefIdeal.Facts) (hQkvDw : Cert.QkvDw.Facts) (hQkvDwIdeal : Cert.QkvDwIdeal.Facts) (hQkvDwRefIdeal : Cert.QkvDwRefIdeal.Facts) (hQkvDx : Cert.QkvDx.Facts) (hQkvDxIdeal : Cert.QkvDxIdeal.Facts) (hQkvDxRefIdeal : Cert.QkvDxRefIdeal.Facts) (hSguIn : Cert.SguIn.Facts) (hSguInIdeal : Cert.SguInIdeal.Facts) (hSguInRefIdeal : Cert.SguInRefIdeal.Facts) (hConvIn : Cert.ConvIn.Facts) (hConvInIdeal : Cert.ConvInIdeal.Facts) (hConvInRefIdeal : Cert.ConvInRefIdeal.Facts) (hQkvIn : Cert.QkvIn.Facts) (hQkvInIdeal : Cert.QkvInIdeal.Facts) (hQkvInRefIdeal : Cert.QkvInRefIdeal.Facts) (hSguOut : Cert.SguOut.Facts) (hSguOutIdeal : Cert.SguOutIdeal.Facts) (hSguOutRefIdeal : Cert.SguOutRefIdeal.Facts) (hMixOut : Cert.MixOut.Facts) (hMixOutIdeal : Cert.MixOutIdeal.Facts) (hMixOutRefIdeal : Cert.MixOutRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hNormBwd : Cert.NormBwd.Facts) (hNormBwdIdeal : Cert.NormBwdIdeal.Facts) (hNormBwdRefIdeal : Cert.NormBwdRefIdeal.Facts) (hFirstNormBwd : Cert.FirstNormBwd.Facts) (hFirstNormBwdIdeal : Cert.FirstNormBwdIdeal.Facts) (hFirstNormBwdRefIdeal : Cert.FirstNormBwdRefIdeal.Facts) (hNormFwd : Cert.NormFwd.Facts) (hNormFwdIdeal : Cert.NormFwdIdeal.Facts) (hNormFwdRefIdeal : Cert.NormFwdRefIdeal.Facts) (hFirstNormFwd : Cert.FirstNormFwd.Facts) (hFirstNormFwdIdeal : Cert.FirstNormFwdIdeal.Facts) (hFirstNormFwdRefIdeal : Cert.FirstNormFwdRefIdeal.Facts) (hFinalLoss : Cert.FinalLoss.Facts) (hFinalLossIdeal : Cert.FinalLossIdeal.Facts) (hFinalLossRefIdeal : Cert.FinalLossRefIdeal.Facts) (hSguFwd : Cert.SguFwd.Facts) (hSguFwdIdeal : Cert.SguFwdIdeal.Facts) (hSguFwdRefIdeal : Cert.SguFwdRefIdeal.Facts) (hAdamAda : Cert.AdamAda.Facts) (hAdamAdaIdeal : Cert.AdamAdaIdeal.Facts) (hAdamAdaRefIdeal : Cert.AdamAdaRefIdeal.Facts) (hAdamQkv : Cert.AdamQkv.Facts) (hAdamQkvIdeal : Cert.AdamQkvIdeal.Facts) (hAdamQkvRefIdeal : Cert.AdamQkvRefIdeal.Facts) (hAdamOut : Cert.AdamOut.Facts) (hAdamOutIdeal : Cert.AdamOutIdeal.Facts) (hAdamOutRefIdeal : Cert.AdamOutRefIdeal.Facts) (hAdamConvIn : Cert.AdamConvIn.Facts) (hAdamConvInIdeal : Cert.AdamConvInIdeal.Facts) (hAdamConvInRefIdeal : Cert.AdamConvInRefIdeal.Facts) (hAdamConvOut : Cert.AdamConvOut.Facts) (hAdamConvOutIdeal : Cert.AdamConvOutIdeal.Facts) (hAdamConvOutRefIdeal : Cert.AdamConvOutRefIdeal.Facts) (hAdamSguIn : Cert.AdamSguIn.Facts) (hAdamSguInIdeal : Cert.AdamSguInIdeal.Facts) (hAdamSguInRefIdeal : Cert.AdamSguInRefIdeal.Facts) (hAdamFfnIn : Cert.AdamFfnIn.Facts) (hAdamFfnInIdeal : Cert.AdamFfnInIdeal.Facts) (hAdamFfnInRefIdeal : Cert.AdamFfnInRefIdeal.Facts) (hAdamFfnOut : Cert.AdamFfnOut.Facts) (hAdamFfnOutIdeal : Cert.AdamFfnOutIdeal.Facts) (hAdamFfnOutRefIdeal : Cert.AdamFfnOutRefIdeal.Facts) (hAdamSmall : Cert.AdamSmall.Facts) (hAdamSmallIdeal : Cert.AdamSmallIdeal.Facts) (hAdamSmallRefIdeal : Cert.AdamSmallRefIdeal.Facts) (hSumQkv : Cert.SumQkv.Facts) (hSumQkvIdeal : Cert.SumQkvIdeal.Facts) (hSumQkvRefIdeal : Cert.SumQkvRefIdeal.Facts) (hSumOut : Cert.SumOut.Facts) (hSumOutIdeal : Cert.SumOutIdeal.Facts) (hSumOutRefIdeal : Cert.SumOutRefIdeal.Facts) (hSumSguOut : Cert.SumSguOut.Facts) (hSumSguOutIdeal : Cert.SumSguOutIdeal.Facts) (hSumSguOutRefIdeal : Cert.SumSguOutRefIdeal.Facts) (hSumSguIn : Cert.SumSguIn.Facts) (hSumSguInIdeal : Cert.SumSguInIdeal.Facts) (hSumSguInRefIdeal : Cert.SumSguInRefIdeal.Facts) (hSumFfnIn : Cert.SumFfnIn.Facts) (hSumFfnInIdeal : Cert.SumFfnInIdeal.Facts) (hSumFfnInRefIdeal : Cert.SumFfnInRefIdeal.Facts) (hSumFfnOut : Cert.SumFfnOut.Facts) (hSumFfnOutIdeal : Cert.SumFfnOutIdeal.Facts) (hSumFfnOutRefIdeal : Cert.SumFfnOutRefIdeal.Facts) (hSumSmall : Cert.SumSmall.Facts) (hSumSmallIdeal : Cert.SumSmallIdeal.Facts) (hSumSmallRefIdeal : Cert.SumSmallRefIdeal.Facts) (hSumSmallHalf : Cert.SumSmallHalf.Facts) (hSumSmallHalfIdeal : Cert.SumSmallHalfIdeal.Facts) (hSumSmallHalfRefIdeal : Cert.SumSmallHalfRefIdeal.Facts) (hAdaMod : Cert.AdaMod.Facts) (hAdaModIdeal : Cert.AdaModIdeal.Facts) (hAdaModRefIdeal : Cert.AdaModRefIdeal.Facts) (hAdaDw : Cert.AdaDw.Facts) (hAdaDwIdeal : Cert.AdaDwIdeal.Facts) (hAdaDwRefIdeal : Cert.AdaDwRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnOutDx (hFfnOutDx := hFfnOutDx)
    ∧ quiescent_FfnOutDxIdeal (hFfnOutDxIdeal := hFfnOutDxIdeal)
    ∧ quiescent_FfnOutDxRefIdeal (hFfnOutDxRefIdeal := hFfnOutDxRefIdeal)
    ∧ quiescent_SguInDw (hSguInDw := hSguInDw)
    ∧ quiescent_SguInDwIdeal (hSguInDwIdeal := hSguInDwIdeal)
    ∧ quiescent_SguInDwRefIdeal (hSguInDwRefIdeal := hSguInDwRefIdeal)
    ∧ quiescent_SguInDx (hSguInDx := hSguInDx)
    ∧ quiescent_SguInDxIdeal (hSguInDxIdeal := hSguInDxIdeal)
    ∧ quiescent_SguInDxRefIdeal (hSguInDxRefIdeal := hSguInDxRefIdeal)
    ∧ quiescent_SguOutDw (hSguOutDw := hSguOutDw)
    ∧ quiescent_SguOutDwIdeal (hSguOutDwIdeal := hSguOutDwIdeal)
    ∧ quiescent_SguOutDwRefIdeal (hSguOutDwRefIdeal := hSguOutDwRefIdeal)
    ∧ quiescent_SguOutDx (hSguOutDx := hSguOutDx)
    ∧ quiescent_SguOutDxIdeal (hSguOutDxIdeal := hSguOutDxIdeal)
    ∧ quiescent_SguOutDxRefIdeal (hSguOutDxRefIdeal := hSguOutDxRefIdeal)
    ∧ quiescent_ConvInDx (hConvInDx := hConvInDx)
    ∧ quiescent_ConvInDxIdeal (hConvInDxIdeal := hConvInDxIdeal)
    ∧ quiescent_ConvInDxRefIdeal (hConvInDxRefIdeal := hConvInDxRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_QkvDx (hQkvDx := hQkvDx)
    ∧ quiescent_QkvDxIdeal (hQkvDxIdeal := hQkvDxIdeal)
    ∧ quiescent_QkvDxRefIdeal (hQkvDxRefIdeal := hQkvDxRefIdeal)
    ∧ quiescent_SguIn (hSguIn := hSguIn)
    ∧ quiescent_SguInIdeal (hSguInIdeal := hSguInIdeal)
    ∧ quiescent_SguInRefIdeal (hSguInRefIdeal := hSguInRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_QkvIn (hQkvIn := hQkvIn)
    ∧ quiescent_QkvInIdeal (hQkvInIdeal := hQkvInIdeal)
    ∧ quiescent_QkvInRefIdeal (hQkvInRefIdeal := hQkvInRefIdeal)
    ∧ quiescent_SguOut (hSguOut := hSguOut)
    ∧ quiescent_SguOutIdeal (hSguOutIdeal := hSguOutIdeal)
    ∧ quiescent_SguOutRefIdeal (hSguOutRefIdeal := hSguOutRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_FirstNormBwd (hFirstNormBwd := hFirstNormBwd)
    ∧ quiescent_FirstNormBwdIdeal (hFirstNormBwdIdeal := hFirstNormBwdIdeal)
    ∧ quiescent_FirstNormBwdRefIdeal (hFirstNormBwdRefIdeal := hFirstNormBwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_FirstNormFwd (hFirstNormFwd := hFirstNormFwd)
    ∧ quiescent_FirstNormFwdIdeal (hFirstNormFwdIdeal := hFirstNormFwdIdeal)
    ∧ quiescent_FirstNormFwdRefIdeal (hFirstNormFwdRefIdeal := hFirstNormFwdRefIdeal)
    ∧ quiescent_FinalLoss (hFinalLoss := hFinalLoss)
    ∧ quiescent_FinalLossIdeal (hFinalLossIdeal := hFinalLossIdeal)
    ∧ quiescent_FinalLossRefIdeal (hFinalLossRefIdeal := hFinalLossRefIdeal)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamQkv (hAdamQkv := hAdamQkv)
    ∧ quiescent_AdamQkvIdeal (hAdamQkvIdeal := hAdamQkvIdeal)
    ∧ quiescent_AdamQkvRefIdeal (hAdamQkvRefIdeal := hAdamQkvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamConvIn (hAdamConvIn := hAdamConvIn)
    ∧ quiescent_AdamConvInIdeal (hAdamConvInIdeal := hAdamConvInIdeal)
    ∧ quiescent_AdamConvInRefIdeal (hAdamConvInRefIdeal := hAdamConvInRefIdeal)
    ∧ quiescent_AdamConvOut (hAdamConvOut := hAdamConvOut)
    ∧ quiescent_AdamConvOutIdeal (hAdamConvOutIdeal := hAdamConvOutIdeal)
    ∧ quiescent_AdamConvOutRefIdeal (hAdamConvOutRefIdeal := hAdamConvOutRefIdeal)
    ∧ quiescent_AdamSguIn (hAdamSguIn := hAdamSguIn)
    ∧ quiescent_AdamSguInIdeal (hAdamSguInIdeal := hAdamSguInIdeal)
    ∧ quiescent_AdamSguInRefIdeal (hAdamSguInRefIdeal := hAdamSguInRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumQkv (hSumQkv := hSumQkv)
    ∧ quiescent_SumQkvIdeal (hSumQkvIdeal := hSumQkvIdeal)
    ∧ quiescent_SumQkvRefIdeal (hSumQkvRefIdeal := hSumQkvRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumSguOut (hSumSguOut := hSumSguOut)
    ∧ quiescent_SumSguOutIdeal (hSumSguOutIdeal := hSumSguOutIdeal)
    ∧ quiescent_SumSguOutRefIdeal (hSumSguOutRefIdeal := hSumSguOutRefIdeal)
    ∧ quiescent_SumSguIn (hSumSguIn := hSumSguIn)
    ∧ quiescent_SumSguInIdeal (hSumSguInIdeal := hSumSguInIdeal)
    ∧ quiescent_SumSguInRefIdeal (hSumSguInRefIdeal := hSumSguInRefIdeal)
    ∧ quiescent_SumFfnIn (hSumFfnIn := hSumFfnIn)
    ∧ quiescent_SumFfnInIdeal (hSumFfnInIdeal := hSumFfnInIdeal)
    ∧ quiescent_SumFfnInRefIdeal (hSumFfnInRefIdeal := hSumFfnInRefIdeal)
    ∧ quiescent_SumFfnOut (hSumFfnOut := hSumFfnOut)
    ∧ quiescent_SumFfnOutIdeal (hSumFfnOutIdeal := hSumFfnOutIdeal)
    ∧ quiescent_SumFfnOutRefIdeal (hSumFfnOutRefIdeal := hSumFfnOutRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumSmallHalf (hSumSmallHalf := hSumSmallHalf)
    ∧ quiescent_SumSmallHalfIdeal (hSumSmallHalfIdeal := hSumSmallHalfIdeal)
    ∧ quiescent_SumSmallHalfRefIdeal (hSumSmallHalfRefIdeal := hSumSmallHalfRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnOutDx_FfnOutDxIdeal
    ∧ algebraic_FfnOutDxIdeal_FfnOutDxRefIdeal (hFfnOutDxIdeal := hFfnOutDxIdeal) (hFfnOutDxRefIdeal := hFfnOutDxRefIdeal)
    ∧ preserves_SguInDw_SguInDwIdeal
    ∧ algebraic_SguInDwIdeal_SguInDwRefIdeal (hSguInDwIdeal := hSguInDwIdeal) (hSguInDwRefIdeal := hSguInDwRefIdeal)
    ∧ preserves_SguInDx_SguInDxIdeal
    ∧ algebraic_SguInDxIdeal_SguInDxRefIdeal (hSguInDxIdeal := hSguInDxIdeal) (hSguInDxRefIdeal := hSguInDxRefIdeal)
    ∧ preserves_SguOutDw_SguOutDwIdeal
    ∧ algebraic_SguOutDwIdeal_SguOutDwRefIdeal (hSguOutDwIdeal := hSguOutDwIdeal) (hSguOutDwRefIdeal := hSguOutDwRefIdeal)
    ∧ preserves_SguOutDx_SguOutDxIdeal
    ∧ algebraic_SguOutDxIdeal_SguOutDxRefIdeal (hSguOutDxIdeal := hSguOutDxIdeal) (hSguOutDxRefIdeal := hSguOutDxRefIdeal)
    ∧ preserves_ConvInDx_ConvInDxIdeal
    ∧ algebraic_ConvInDxIdeal_ConvInDxRefIdeal (hConvInDxIdeal := hConvInDxIdeal) (hConvInDxRefIdeal := hConvInDxRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_QkvDw_QkvDwIdeal
    ∧ algebraic_QkvDwIdeal_QkvDwRefIdeal (hQkvDwIdeal := hQkvDwIdeal) (hQkvDwRefIdeal := hQkvDwRefIdeal)
    ∧ preserves_QkvDx_QkvDxIdeal
    ∧ algebraic_QkvDxIdeal_QkvDxRefIdeal (hQkvDxIdeal := hQkvDxIdeal) (hQkvDxRefIdeal := hQkvDxRefIdeal)
    ∧ preserves_SguIn_SguInIdeal
    ∧ algebraic_SguInIdeal_SguInRefIdeal (hSguInIdeal := hSguInIdeal) (hSguInRefIdeal := hSguInRefIdeal)
    ∧ preserves_ConvIn_ConvInIdeal
    ∧ algebraic_ConvInIdeal_ConvInRefIdeal (hConvInIdeal := hConvInIdeal) (hConvInRefIdeal := hConvInRefIdeal)
    ∧ preserves_QkvIn_QkvInIdeal
    ∧ algebraic_QkvInIdeal_QkvInRefIdeal (hQkvInIdeal := hQkvInIdeal) (hQkvInRefIdeal := hQkvInRefIdeal)
    ∧ preserves_SguOut_SguOutIdeal
    ∧ algebraic_SguOutIdeal_SguOutRefIdeal (hSguOutIdeal := hSguOutIdeal) (hSguOutRefIdeal := hSguOutRefIdeal)
    ∧ preserves_MixOut_MixOutIdeal
    ∧ algebraic_MixOutIdeal_MixOutRefIdeal (hMixOutIdeal := hMixOutIdeal) (hMixOutRefIdeal := hMixOutRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_NormBwd_NormBwdIdeal
    ∧ algebraic_NormBwdIdeal_NormBwdRefIdeal (hNormBwdIdeal := hNormBwdIdeal) (hNormBwdRefIdeal := hNormBwdRefIdeal)
    ∧ preserves_FirstNormBwd_FirstNormBwdIdeal
    ∧ algebraic_FirstNormBwdIdeal_FirstNormBwdRefIdeal (hFirstNormBwdIdeal := hFirstNormBwdIdeal) (hFirstNormBwdRefIdeal := hFirstNormBwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_FirstNormFwd_FirstNormFwdIdeal
    ∧ algebraic_FirstNormFwdIdeal_FirstNormFwdRefIdeal (hFirstNormFwdIdeal := hFirstNormFwdIdeal) (hFirstNormFwdRefIdeal := hFirstNormFwdRefIdeal)
    ∧ preserves_FinalLoss_FinalLossIdeal
    ∧ algebraic_FinalLossIdeal_FinalLossRefIdeal (hFinalLossIdeal := hFinalLossIdeal) (hFinalLossRefIdeal := hFinalLossRefIdeal)
    ∧ preserves_SguFwd_SguFwdIdeal
    ∧ algebraic_SguFwdIdeal_SguFwdRefIdeal (hSguFwdIdeal := hSguFwdIdeal) (hSguFwdRefIdeal := hSguFwdRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamQkv_AdamQkvIdeal
    ∧ algebraic_AdamQkvIdeal_AdamQkvRefIdeal (hAdamQkvIdeal := hAdamQkvIdeal) (hAdamQkvRefIdeal := hAdamQkvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamConvIn_AdamConvInIdeal
    ∧ algebraic_AdamConvInIdeal_AdamConvInRefIdeal (hAdamConvInIdeal := hAdamConvInIdeal) (hAdamConvInRefIdeal := hAdamConvInRefIdeal)
    ∧ preserves_AdamConvOut_AdamConvOutIdeal
    ∧ algebraic_AdamConvOutIdeal_AdamConvOutRefIdeal (hAdamConvOutIdeal := hAdamConvOutIdeal) (hAdamConvOutRefIdeal := hAdamConvOutRefIdeal)
    ∧ preserves_AdamSguIn_AdamSguInIdeal
    ∧ algebraic_AdamSguInIdeal_AdamSguInRefIdeal (hAdamSguInIdeal := hAdamSguInIdeal) (hAdamSguInRefIdeal := hAdamSguInRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumQkv_SumQkvIdeal
    ∧ algebraic_SumQkvIdeal_SumQkvRefIdeal (hSumQkvIdeal := hSumQkvIdeal) (hSumQkvRefIdeal := hSumQkvRefIdeal)
    ∧ preserves_SumOut_SumOutIdeal
    ∧ algebraic_SumOutIdeal_SumOutRefIdeal (hSumOutIdeal := hSumOutIdeal) (hSumOutRefIdeal := hSumOutRefIdeal)
    ∧ preserves_SumSguOut_SumSguOutIdeal
    ∧ algebraic_SumSguOutIdeal_SumSguOutRefIdeal (hSumSguOutIdeal := hSumSguOutIdeal) (hSumSguOutRefIdeal := hSumSguOutRefIdeal)
    ∧ preserves_SumSguIn_SumSguInIdeal
    ∧ algebraic_SumSguInIdeal_SumSguInRefIdeal (hSumSguInIdeal := hSumSguInIdeal) (hSumSguInRefIdeal := hSumSguInRefIdeal)
    ∧ preserves_SumFfnIn_SumFfnInIdeal
    ∧ algebraic_SumFfnInIdeal_SumFfnInRefIdeal (hSumFfnInIdeal := hSumFfnInIdeal) (hSumFfnInRefIdeal := hSumFfnInRefIdeal)
    ∧ preserves_SumFfnOut_SumFfnOutIdeal
    ∧ algebraic_SumFfnOutIdeal_SumFfnOutRefIdeal (hSumFfnOutIdeal := hSumFfnOutIdeal) (hSumFfnOutRefIdeal := hSumFfnOutRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumSmallHalf_SumSmallHalfIdeal
    ∧ algebraic_SumSmallHalfIdeal_SumSmallHalfRefIdeal (hSumSmallHalfIdeal := hSumSmallHalfIdeal) (hSumSmallHalfRefIdeal := hSumSmallHalfRefIdeal)
    ∧ preserves_AdaMod_AdaModIdeal
    ∧ algebraic_AdaModIdeal_AdaModRefIdeal (hAdaModIdeal := hAdaModIdeal) (hAdaModRefIdeal := hAdaModRefIdeal)
    ∧ preserves_AdaDw_AdaDwIdeal
    ∧ algebraic_AdaDwIdeal_AdaDwRefIdeal (hAdaDwIdeal := hAdaDwIdeal) (hAdaDwRefIdeal := hAdaDwRefIdeal)
-- ==== Pre_finite.lean ====
abbrev S8192x4096 : Shape := ⟨2, ![8192, 4096]⟩
abbrev S8192x2048 : Shape := ⟨2, ![8192, 2048]⟩
abbrev S2048 : Shape := ⟨1, ![2048]⟩
abbrev S8x128x128 : Shape := ⟨3, ![8, 128, 128]⟩
abbrev S8x128 : Shape := ⟨2, ![8, 128]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048 : S_.BroadcastsInDim S2048 (![] : Fin 0 → Fin S2048.rank)
  reducesTo_S2048_S_d0 : S2048.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128x128 .f32) (main_arg5 : FVec F S8x128 .f32) (main_v15 : IVec S_ 1) (main_v16 : FVec F S2048 .f32) (main_cst_4 : FVec F S_ .f32) : IVec S_ 1 :=
  let main_v17 : FVec F S2048 .f32 := broadcastInDim S2048 ![] bcast_S_S2048 main_cst_4
  let main_v18 : IVec S2048 1 := cmpf .olt main_v16 main_v17
  let main_c_5 : IVec S_ 1 := constantI S_ 1 1#1
  let main_v19 : IVec S_ 1 := (fun x v => Host.reduce IntOp.andi x v reducesTo_S2048_S_d0 h_S_) main_v18 main_c_5
  let main_v20 : IVec S_ 1 := andi main_v15 main_v19
  let main_v21 : FVec F S8x128x128 .f32 := Host.absf main_arg4
  let main_cst_6 : FVec F S_ .f32 := constant S_ .f32 0x7F800000#32
  let main_v22 : FVec F S8x128x128 .f32 := broadcastInDim S8x128x128 ![] bcast_S_S8x128x128 main_cst_6
  let main_v23 : IVec S8x128x128 1 := cmpf .olt main_v21 main_v22
  let main_c_7 : IVec S_ 1 := constantI S_ 1 1#1
  let main_v24 : IVec S_ 1 := (fun x v => Host.reduce IntOp.andi x v reducesTo_S8x128x128_S_d0_1_2 h_S_) main_v23 main_c_7
  let main_v25 : IVec S_ 1 := andi main_v20 main_v24
  let main_v26 : FVec F S8x128 .f32 := Host.absf main_arg5
  let main_cst_8 : FVec F S_ .f32 := constant S_ .f32 0x7F800000#32
  let main_v27 : FVec F S8x128 .f32 := broadcastInDim S8x128 ![] bcast_S_S8x128 main_cst_8
  let main_v28 : IVec S8x128 1 := cmpf .olt main_v26 main_v27
  let main_c_9 : IVec S_ 1 := constantI S_ 1 1#1
  let main_v29 : IVec S_ 1 := (fun x v => Host.reduce IntOp.andi x v reducesTo_S8x128_S_d0_1 h_S_) main_v28 main_c_9
  let main_v30 : IVec S_ 1 := andi main_v25 main_v29
  main_v30

def fn {F : FTy → Type} [FloatOps F] (main_arg0 : FVec F S8192x4096 .bf16) (main_arg1 : FVec F S8192x2048 .bf16) (main_arg2 : FVec F S2048 .f32) (main_arg3 : FVec F S2048 .f32) (main_arg4 : FVec F S8x128x128 .f32) (main_arg5 : FVec F S8x128 .f32) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v4 main_v9
  let main_v11 : FVec F S2048 .f32 := Host.absf main_arg2
  let main_cst_2 : FVec F S_ .f32 := constant S_ .f32 0x7F800000#32
  let main_v12 : FVec F S2048 .f32 := broadcastInDim S2048 ![] bcast_S_S2048 main_cst_2
  let main_v13 : IVec S2048 1 := cmpf .olt main_v11 main_v12
  let main_c_3 : IVec S_ 1 := constantI S_ 1 1#1
  let main_v14 : IVec S_ 1 := (fun x v => Host.reduce IntOp.andi x v reducesTo_S2048_S_d0 h_S_) main_v13 main_c_3
  let main_v15 : IVec S_ 1 := andi main_v10 main_v14
  let main_v16 : FVec F S2048 .f32 := Host.absf main_arg3
  let main_cst_4 : FVec F S_ .f32 := constant S_ .f32 0x7F800000#32
  fn_part1 (F := F) main_arg4 main_arg5 main_v15 main_v16 main_cst_4
-- ==== Kernel.lean ====
abbrev S8192x4096 : Shape := ⟨2, ![8192, 4096]⟩
abbrev S8192x2048 : Shape := ⟨2, ![8192, 2048]⟩
abbrev S2048 : Shape := ⟨1, ![2048]⟩
abbrev S8x128x128 : Shape := ⟨3, ![8, 128, 128]⟩
abbrev S8x128 : Shape := ⟨2, ![8, 128]⟩
abbrev S1x2048 : Shape := ⟨2, ![1, 2048]⟩
abbrev S128x8 : Shape := ⟨2, ![128, 8]⟩
abbrev S1x4096 : Shape := ⟨2, ![1, 4096]⟩
abbrev S128x4096 : Shape := ⟨2, ![128, 4096]⟩
abbrev S128x2048 : Shape := ⟨2, ![128, 2048]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩
abbrev S128x256 : Shape := ⟨2, ![128, 256]⟩
abbrev S4096 : Shape := ⟨1, ![4096]⟩

abbrev nBuf : Space → Nat
  | .hbm => 15
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S1x2048, .f32⟩
  | .hbm, ⟨7, _⟩ => ⟨S1x2048, .f32⟩
  | .hbm, ⟨8, _⟩ => ⟨S128x8, .f32⟩
  | .hbm, ⟨9, _⟩ => ⟨S8192x4096, .bf16⟩
  | .hbm, ⟨10, _⟩ => ⟨S1x4096, .f32⟩
  | .hbm, ⟨11, _⟩ => ⟨S1x2048, .f32⟩
  | .hbm, ⟨12, _⟩ => ⟨S1x2048, .f32⟩
  | .hbm, ⟨13, _⟩ => ⟨S8x128x128, .f32⟩
  | .hbm, ⟨14, _⟩ => ⟨S128x8, .f32⟩
  | .local _ .vmem, ⟨0, _⟩ => ⟨S128x4096, .bf16⟩
  | .local _ .vmem, ⟨1, _⟩ => ⟨S128x4096, .bf16⟩
  | .local _ .vmem, ⟨2, _⟩ => ⟨S128x2048, .bf16⟩
  | .local _ .vmem, ⟨3, _⟩ => ⟨S128x2048, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x8, .f32⟩
  | .local _ .vmem, ⟨8, _⟩ => ⟨S128x4096, .bf16⟩
  | .local _ .vmem, ⟨9, _⟩ => ⟨S128x4096, .bf16⟩
  | .local _ .vmem, ⟨10, _⟩ => ⟨S1x4096, .f32⟩
  | .local _ .vmem, ⟨11, _⟩ => ⟨S1x2048, .f32⟩
  | .local _ .vmem, ⟨12, _⟩ => ⟨S1x2048, .f32⟩
  | .local _ .vmem, ⟨13, _⟩ => ⟨S8x128x128, .f32⟩
  | .local _ .vmem, ⟨14, _⟩ => ⟨S128x8, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt2pi" => some (((Real.sqrt (2 * Real.pi))⁻¹ : ℝ) : EReal)
  | _ => none
-- ==== ReferenceIdeal.lean ====
abbrev S8192x4096 : Shape := ⟨2, ![8192, 4096]⟩
abbrev S8192x2048 : Shape := ⟨2, ![8192, 2048]⟩
abbrev S2048 : Shape := ⟨1, ![2048]⟩
abbrev S8x128x128 : Shape := ⟨3, ![8, 128, 128]⟩
abbrev S8x128 : Shape := ⟨2, ![8, 128]⟩
abbrev S_ : Shape := ⟨0, ![]⟩
abbrev S4096 : Shape := ⟨1, ![4096]⟩
abbrev S1x4096 : Shape := ⟨2, ![1, 4096]⟩
abbrev S8192 : Shape := ⟨1, ![8192]⟩
abbrev S8192x1 : Shape := ⟨2, ![8192, 1]⟩
abbrev S1x2048 : Shape := ⟨2, ![1, 2048]⟩
abbrev S64x128x8x256 : Shape := ⟨4, ![64, 128, 8, 256]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S1x128x8x1 : Shape := ⟨4, ![1, 128, 8, 1]⟩

abbrev nBuf : Space → Nat
  | .hbm => 176
  | .vmem => 0
  | .smem => 0
  | _ => 0

abbrev hbmTy0_0 (i : Nat) : BufTy := match i % 128 with
  | 0 => ⟨S8192x4096, .bf16⟩
  | 1 => ⟨S8192x2048, .bf16⟩
  | 2 => ⟨S2048, .f32⟩
  | 3 => ⟨S2048, .f32⟩
  | 4 => ⟨S8x128x128, .f32⟩
  | 5 => ⟨S8x128, .f32⟩
  | 6 => ⟨S8192x4096, .f32⟩
  | 7 => ⟨S_, .f32⟩
  | 8 => ⟨S4096, .f32⟩
  | 9 => ⟨S1x4096, .f32⟩
  | 10 => ⟨S8192x4096, .f32⟩
  | 11 => ⟨S8192x4096, .f32⟩
  | 12 => ⟨S_, .f32⟩
  | 13 => ⟨S8192x4096, .f32⟩
  | 14 => ⟨S8192x4096, .f32⟩
  | 15 => ⟨S_, .f32⟩
  | 16 => ⟨S_, .f32⟩
  | 17 => ⟨S_, .f32⟩
  | 18 => ⟨S_, .f32⟩
  | 19 => ⟨S8192x4096, .f32⟩
  | 20 => ⟨S8192x4096, .f32⟩
  | 21 => ⟨S8192x4096, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S8192x4096, .f32⟩
  | 29 => ⟨S8192x4096, .f32⟩
  | 30 => ⟨S8192x4096, .f32⟩
  | 31 => ⟨S8192x4096, .f32⟩
  | 32 => ⟨S8192x4096, .f32⟩
  | 33 => ⟨S_, .f32⟩
  | 34 => ⟨S8192x4096, .f32⟩
  | 35 => ⟨S8192x4096, .f32⟩
  | 36 => ⟨S8192x4096, .f32⟩
  | 37 => ⟨S8192x2048, .f32⟩
  | 38 => ⟨S8192x2048, .f32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S8192x2048, .f32⟩
  | 46 => ⟨S8192x2048, .f32⟩
  | 47 => ⟨S8192x2048, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x2048, .f32⟩
  | 63 => ⟨S8192x2048, .f32⟩
  | 64 => ⟨S1x2048, .f32⟩
  | 65 => ⟨S8192x2048, .f32⟩
  | 66 => ⟨S8192x2048, .f32⟩
  | 67 => ⟨S1x2048, .f32⟩
  | 68 => ⟨S8192x2048, .f32⟩
  | 69 => ⟨S8192x2048, .f32⟩
  | 70 => ⟨S64x128x8x256, .f32⟩
  | 71 => ⟨S_, .i1⟩
  | 72 => ⟨S128x128, .i1⟩
  | 73 => ⟨S128x128, .i32⟩
  | 74 => ⟨S_, .i32⟩
  | 75 => ⟨S128x128, .i32⟩
  | 76 => ⟨S128x128, .i32⟩
  | 77 => ⟨S128x128, .i32⟩
  | 78 => ⟨S128x128, .i1⟩
  | 79 => ⟨S_, .i1⟩
  | 80 => ⟨S128x128, .i1⟩
  | 81 => ⟨S128x128, .i1⟩
  | 82 => ⟨S1x128x128, .i1⟩
  | 83 => ⟨S_, .f32⟩
  | 84 => ⟨S8x128x128, .f32⟩
  | 85 => ⟨S8x128x128, .i1⟩
  | 86 => ⟨S8x128x128, .f32⟩
  | 87 => ⟨S_, .f32⟩
  | 88 => ⟨S8x128x128, .f32⟩
  | 89 => ⟨S8x64x256x128, .f32⟩
  | 90 => ⟨S64x128x8x256, .f32⟩
  | 91 => ⟨S128x8, .f32⟩
  | 92 => ⟨S1x128x8x1, .f32⟩
  | 93 => ⟨S64x128x8x256, .f32⟩
  | 94 => ⟨S64x128x8x256, .f32⟩
  | 95 => ⟨S8192x2048, .f32⟩
  | 96 => ⟨S8192x2048, .f32⟩
  | 97 => ⟨S8192x2048, .f32⟩
  | 98 => ⟨S8192x2048, .f32⟩
  | 99 => ⟨S8192x2048, .f32⟩
  | 100 => ⟨S64x128x8x256, .f32⟩
  | 101 => ⟨S_, .f32⟩
  | 102 => ⟨S128x8, .f32⟩
  | 103 => ⟨S1x128x8x1, .f32⟩
  | 104 => ⟨S_, .f32⟩
  | 105 => ⟨S128x8, .f32⟩
  | 106 => ⟨S8x128, .f32⟩
  | 107 => ⟨S8x64x256x128, .f32⟩
  | 108 => ⟨S8x128x128, .f32⟩
  | 109 => ⟨S8x64x256x128, .f32⟩
  | 110 => ⟨S64x128x8x256, .f32⟩
  | 111 => ⟨S_, .f32⟩
  | 112 => ⟨S8x128x128, .f32⟩
  | 113 => ⟨S8x128x128, .f32⟩
  | 114 => ⟨S8192x2048, .f32⟩
  | 115 => ⟨S_, .f32⟩
  | 116 => ⟨S2048, .f32⟩
  | 117 => ⟨S1x2048, .f32⟩
  | 118 => ⟨S_, .f32⟩
  | 119 => ⟨S2048, .f32⟩
  | 120 => ⟨S8192x2048, .f32⟩
  | 121 => ⟨S_, .f32⟩
  | 122 => ⟨S2048, .f32⟩
  | 123 => ⟨S1x2048, .f32⟩
  | 124 => ⟨S8192x2048, .f32⟩
  | 125 => ⟨S8192x2048, .f32⟩
  | 126 => ⟨S_, .f32⟩
  | 127 => ⟨S2048, .f32⟩
  | _ => ⟨S8192x4096, .bf16⟩

abbrev hbmTy0_1 (i : Nat) : BufTy := match i % 128 with
  | 0 => ⟨S8192x2048, .f32⟩
  | 1 => ⟨S_, .f32⟩
  | 2 => ⟨S8192, .f32⟩
  | 3 => ⟨S8192x1, .f32⟩
  | 4 => ⟨S8192x2048, .f32⟩
  | 5 => ⟨S8192x2048, .f32⟩
  | 6 => ⟨S8192x1, .f32⟩
  | 7 => ⟨S_, .f32⟩
  | 8 => ⟨S8192x1, .f32⟩
  | 9 => ⟨S8192x1, .f32⟩
  | 10 => ⟨S_, .f32⟩
  | 11 => ⟨S8192, .f32⟩
  | 12 => ⟨S8192x2048, .f32⟩
  | 13 => ⟨S8192x2048, .f32⟩
  | 14 => ⟨S8192x2048, .f32⟩
  | 15 => ⟨S8192x2048, .f32⟩
  | 16 => ⟨S8192x2048, .f32⟩
  | 17 => ⟨S8192x2048, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192, .f32⟩
  | 26 => ⟨S8192x2048, .f32⟩
  | 27 => ⟨S8192x2048, .f32⟩
  | 28 => ⟨S8192x4096, .f32⟩
  | 29 => ⟨S8192x4096, .f32⟩
  | 30 => ⟨S8192x4096, .f32⟩
  | 31 => ⟨S8192x4096, .f32⟩
  | 32 => ⟨S8192x4096, .f32⟩
  | 33 => ⟨S8192x4096, .f32⟩
  | 34 => ⟨S_, .f32⟩
  | 35 => ⟨S8192x4096, .f32⟩
  | 36 => ⟨S8192x4096, .f32⟩
  | 37 => ⟨S8192x4096, .f32⟩
  | 38 => ⟨S_, .f32⟩
  | 39 => ⟨S4096, .f32⟩
  | 40 => ⟨S1x4096, .f32⟩
  | 41 => ⟨S_, .f32⟩
  | 42 => ⟨S4096, .f32⟩
  | 43 => ⟨S8192x4096, .bf16⟩
  | 44 => ⟨S1x4096, .f32⟩
  | 45 => ⟨S1x2048, .f32⟩
  | 46 => ⟨S1x2048, .f32⟩
  | 47 => ⟨S128x8, .f32⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c : Ref sig .tc := ⟨.hbm, 71, rfl⟩
abbrev main_v52 : Ref sig .tc := ⟨.hbm, 72, rfl⟩
abbrev main_call0_v0 : Ref sig .tc := ⟨.hbm, 73, rfl⟩
abbrev main_call0_c : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_c_0 : Ref sig .tc := ⟨.hbm, 79, rfl⟩
abbrev main_call0_v5 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56_1 : Ref sig .tc := ⟨.hbm, 85, rfl⟩
abbrev main_v56_0 : Ref sig .tc := ⟨.hbm, 86, rfl⟩
abbrev main_call1_cst : Ref sig .tc := ⟨.hbm, 87, rfl⟩
abbrev main_v56_2 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_call2_cst : Ref sig .tc := ⟨.hbm, 111, rfl⟩
abbrev main_call2_v0 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_cst_16 : Ref sig .tc := ⟨.hbm, 118, rfl⟩
abbrev main_v81 : Ref sig .tc := ⟨.hbm, 119, rfl⟩
abbrev main_v82 : Ref sig .tc := ⟨.hbm, 120, rfl⟩
abbrev main_cst_17 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_18 : Ref sig .tc := ⟨.hbm, 126, rfl⟩
abbrev main_v87 : Ref sig .tc := ⟨.hbm, 127, rfl⟩
abbrev main_v88 : Ref sig .tc := ⟨.hbm, 128, rfl⟩
abbrev main_cst_19 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_20 : Ref sig .tc := ⟨.hbm, 135, rfl⟩
abbrev main_v94 : Ref sig .tc := ⟨.hbm, 136, rfl⟩
abbrev main_v95 : Ref sig .tc := ⟨.hbm, 137, rfl⟩
abbrev main_cst_21 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_22 : Ref sig .tc := ⟨.hbm, 146, rfl⟩
abbrev main_v103 : Ref sig .tc := ⟨.hbm, 147, rfl⟩
abbrev main_v104 : Ref sig .tc := ⟨.hbm, 148, rfl⟩
abbrev main_cst_23 : Ref sig .tc := ⟨.hbm, 149, rfl⟩
abbrev main_v105 : Ref sig .tc := ⟨.hbm, 150, rfl⟩
abbrev main_v106 : Ref sig .tc := ⟨.hbm, 151, rfl⟩
abbrev main_cst_24 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_25 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_26 : Ref sig .tc := ⟨.hbm, 166, rfl⟩
abbrev main_v119 : Ref sig .tc := ⟨.hbm, 167, rfl⟩
abbrev main_v120 : Ref sig .tc := ⟨.hbm, 168, rfl⟩
abbrev main_cst_27 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩

abbrev nD : Nat := 1
abbrev τ : Topo := Topo.v7x

variable {F : FTy → Type} [FloatOps F]
-- ==== FfnInDw.lean ====
abbrev S8192x2816 : Shape := ⟨2, ![8192, 2816]⟩
abbrev S8192x1024 : Shape := ⟨2, ![8192, 1024]⟩
abbrev S5632x1024 : Shape := ⟨2, ![5632, 1024]⟩
abbrev S8192x256 : Shape := ⟨2, ![8192, 256]⟩
abbrev S256x1024 : Shape := ⟨2, ![256, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S5632x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S8192x1024, .bf16⟩
  | .local _ .vmem, ⟨5, _⟩ => ⟨S256x1024, .bf16⟩
  | .local _ .vmem, ⟨6, _⟩ => ⟨S256x1024, .bf16⟩
  | .local _ .vmem, ⟨7, _⟩ => ⟨S8x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![22, 1, 1], ![false, false, false]⟩

def k0_cond1 (i : grid0.Coords) : BitVec 1 :=
  let arg0 : BitVec 32 := BitVec.ofNat 32 (i 0).val
  let c11_i32 : BitVec 32 := 11#32
  let v0 : BitVec 1 := Scalar.cmpi .slt arg0 c11_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c11_i32_0 : BitVec 32 := 11#32
  let v3 : BitVec 1 := Scalar.cmpi .sge arg0 c11_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.minsi arg0 c10_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S8192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnInDwRefIdeal.lean ====
abbrev S8192x2816 : Shape := ⟨2, ![8192, 2816]⟩
abbrev S8192x1024 : Shape := ⟨2, ![8192, 1024]⟩
abbrev S8192x5632 : Shape := ⟨2, ![8192, 5632]⟩
abbrev S_ : Shape := ⟨0, ![]⟩
abbrev S5632x1024 : Shape := ⟨2, ![5632, 1024]⟩
abbrev S1024x5632 : Shape := ⟨2, ![1024, 5632]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S8192x1024, .f32⟩
  | .hbm, ⟨4, _⟩ => ⟨S8192x5632, .bf16⟩
  | .hbm, ⟨5, _⟩ => ⟨S8192x5632, .f32⟩
  | .hbm, ⟨6, _⟩ => ⟨S_, .f32⟩
  | .hbm, ⟨7, _⟩ => ⟨S5632x1024, .f32⟩
  | .hbm, ⟨8, _⟩ => ⟨S1024x5632, .f32⟩
  | .hbm, ⟨9, _⟩ => ⟨S8192x5632, .f32⟩
  | .hbm, ⟨10, _⟩ => ⟨S5632x1024, .f32⟩
  | .hbm, ⟨11, _⟩ => ⟨S1024x5632, .f32⟩
  | .hbm, ⟨12, _⟩ => ⟨S5632x1024, .f32⟩
  | .hbm, ⟨13, _⟩ => ⟨S5632x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== FfnOutDw.lean ====
abbrev S8192x2816 : Shape := ⟨2, ![8192, 2816]⟩
abbrev S8192x1024 : Shape := ⟨2, ![8192, 1024]⟩
abbrev S2816x1024 : Shape := ⟨2, ![2816, 1024]⟩
abbrev S8192x256 : Shape := ⟨2, ![8192, 256]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.minsi arg0 c10_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwIdeal.lean ====
abbrev S8192x2816 : Shape := ⟨2, ![8192, 2816]⟩
abbrev S8192x1024 : Shape := ⟨2, ![8192, 1024]⟩
abbrev S2816x1024 : Shape := ⟨2, ![2816, 1024]⟩
abbrev S8192x256 : Shape := ⟨2, ![8192, 256]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.minsi arg0 c10_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnOutDx.lean ====
abbrev S8192x1024 : Shape := ⟨2, ![8192, 1024]⟩
abbrev S2816x1024 : Shape := ⟨2, ![2816, 1024]⟩
abbrev S8192x2816 : Shape := ⟨2, ![8192, 2816]⟩
abbrev S2048x1024 : Shape := ⟨2, ![2048, 1024]⟩
abbrev S1408x1024 : Shape := ⟨2, ![1408, 1024]⟩
abbrev S2048x1408 : Shape := ⟨2, ![2048, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxIdeal.lean ====
abbrev S8192x1024 : Shape := ⟨2, ![8192, 1024]⟩
abbrev S2816x1024 : Shape := ⟨2, ![2816, 1024]⟩
abbrev S8192x2816 : Shape := ⟨2, ![8192, 2816]⟩
abbrev S2048x1024 : Shape := ⟨2, ![2048, 1024]⟩
abbrev S1408x1024 : Shape := ⟨2, ![1408, 1024]⟩
abbrev S2048x1408 : Shape := ⟨2, ![2048, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SguInDw.lean ====
abbrev S8192x4096 : Shape := ⟨2, ![8192, 4096]⟩
abbrev S8192x1024 : Shape := ⟨2, ![8192, 1024]⟩
abbrev S4096x1024 : Shape := ⟨2, ![4096, 1024]⟩
abbrev S8192x256 : Shape := ⟨2, ![8192, 256]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg0 c15_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SguInDwIdeal.lean ====
abbrev S8192x4096 : Shape := ⟨2, ![8192, 4096]⟩
abbrev S8192x1024 : Shape := ⟨2, ![8192, 1024]⟩
abbrev S4096x1024 : Shape := ⟨2, ![4096, 1024]⟩
abbrev S8192x256 : Shape := ⟨2, ![8192, 256]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg0 c15_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SguInDwRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S4096x1024, .f32⟩
  | .hbm, ⟨5, _⟩ => ⟨S1024x4096, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SguInDx.lean ====
abbrev S8192x4096 : Shape := ⟨2, ![8192, 4096]⟩
abbrev S4096x1024 : Shape := ⟨2, ![4096, 1024]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SguInDxIdeal.lean ====
abbrev S8192x4096 : Shape := ⟨2, ![8192, 4096]⟩
abbrev S4096x1024 : Shape := ⟨2, ![4096, 1024]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SguInDxRefIdeal.lean ====
abbrev S8192x4096 : Shape := ⟨2, ![8192, 4096]⟩
abbrev S4096x1024 : Shape := ⟨2, ![4096, 1024]⟩
abbrev S_ : Shape := ⟨0, ![]⟩
abbrev S8192x1024 : Shape := ⟨2, ![8192, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S8192x1024, .f32⟩
  | .hbm, ⟨5, _⟩ => ⟨S1024x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SguOutDw.lean ====
abbrev S8192x2048 : Shape := ⟨2, ![8192, 2048]⟩
abbrev S8192x1024 : Shape := ⟨2, ![8192, 1024]⟩
abbrev S2048x1024 : Shape := ⟨2, ![2048, 1024]⟩
abbrev S8192x256 : Shape := ⟨2, ![8192, 256]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg0 c7_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SguOutDwIdeal.lean ====
abbrev S8192x2048 : Shape := ⟨2, ![8192, 2048]⟩
abbrev S8192x1024 : Shape := ⟨2, ![8192, 1024]⟩
abbrev S2048x1024 : Shape := ⟨2, ![2048, 1024]⟩
abbrev S8192x256 : Shape := ⟨2, ![8192, 256]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg0 c7_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SguOutDwRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S_, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SguOutDx.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SguOutDxIdeal.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SguOutDxRefIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvInDx.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInDxIdeal.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInDxRefIdeal.lean ====
abbrev S8192x2048 : Shape := ⟨2, ![8192, 2048]⟩
abbrev S2048x1024 : Shape := ⟨2, ![2048, 1024]⟩
abbrev S_ : Shape := ⟨0, ![]⟩
abbrev S8192x1024 : Shape := ⟨2, ![8192, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S8192x1024, .f32⟩
  | .hbm, ⟨5, _⟩ => ⟨S1024x2048, .f32⟩
  | .hbm, ⟨6, _⟩ => ⟨S8192x2048, .f32⟩
  | .hbm, ⟨7, _⟩ => ⟨S8192x2048, .f32⟩
  | .hbm, ⟨8, _⟩ => ⟨S8192x1024, .f32⟩
  | .hbm, ⟨9, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOutDw.lean ====
abbrev S8192x1024 : Shape := ⟨2, ![8192, 1024]⟩
abbrev S1024x1024 : Shape := ⟨2, ![1024, 1024]⟩
abbrev S8192x256 : Shape := ⟨2, ![8192, 256]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg0 c3_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOutDx.lean ====
abbrev S8192x1024 : Shape := ⟨2, ![8192, 1024]⟩
abbrev S1024x1024 : Shape := ⟨2, ![1024, 1024]⟩
abbrev S2048x1024 : Shape := ⟨2, ![2048, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QkvDw.lean ====
abbrev S8192x1536 : Shape := ⟨2, ![8192, 1536]⟩
abbrev S8192x1024 : Shape := ⟨2, ![8192, 1024]⟩
abbrev S1536x1024 : Shape := ⟨2, ![1536, 1024]⟩
abbrev S8192x256 : Shape := ⟨2, ![8192, 256]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S1536x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.minsi arg0 c5_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwRefIdeal.lean ====
abbrev S8192x1536 : Shape := ⟨2, ![8192, 1536]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1536x1024, .f32⟩
  | .hbm, ⟨5, _⟩ => ⟨S1024x1536, .f32⟩
  | .hbm, ⟨6, _⟩ => ⟨S8192x1536, .f32⟩
  | .hbm, ⟨7, _⟩ => ⟨S8192x1536, .f32⟩
  | .hbm, ⟨8, _⟩ => ⟨S1536x1024, .f32⟩
  | .hbm, ⟨9, _⟩ => ⟨S1024x1536, .f32⟩
  | .hbm, ⟨10, _⟩ => ⟨S1536x1024, .f32⟩
  | .hbm, ⟨11, _⟩ => ⟨S1536x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== QkvDx.lean ====
abbrev S8192x1536 : Shape := ⟨2, ![8192, 1536]⟩
abbrev S1536x1024 : Shape := ⟨2, ![1536, 1024]⟩
abbrev S8192x1024 : Shape := ⟨2, ![8192, 1024]⟩
abbrev S1024x1536 : Shape := ⟨2, ![1024, 1536]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S8192x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDxRefIdeal.lean ====
abbrev S8192x1536 : Shape := ⟨2, ![8192, 1536]⟩
abbrev S1536x1024 : Shape := ⟨2, ![1536, 1024]⟩
abbrev S_ : Shape := ⟨0, ![]⟩
abbrev S8192x1024 : Shape := ⟨2, ![8192, 1024]⟩
abbrev S1024x1536 : Shape := ⟨2, ![1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S1536x1024, .f32⟩
  | .hbm, ⟨3, _⟩ => ⟨S_, .f32⟩
  | .hbm, ⟨4, _⟩ => ⟨S8192x1024, .f32⟩
  | .hbm, ⟨5, _⟩ => ⟨S1024x1536, .f32⟩
  | .hbm, ⟨6, _⟩ => ⟨S8192x1536, .f32⟩
  | .hbm, ⟨7, _⟩ => ⟨S8192x1536, .f32⟩
  | .hbm, ⟨8, _⟩ => ⟨S8192x1024, .f32⟩
  | .hbm, ⟨9, _⟩ => ⟨S8192x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SguIn.lean ====
abbrev S8192x1024 : Shape := ⟨2, ![8192, 1024]⟩
abbrev S4096x1024 : Shape := ⟨2, ![4096, 1024]⟩
abbrev S4096 : Shape := ⟨1, ![4096]⟩
abbrev S1x4096 : Shape := ⟨2, ![1, 4096]⟩
abbrev S8192x4096 : Shape := ⟨2, ![8192, 4096]⟩
abbrev S2048x1024 : Shape := ⟨2, ![2048, 1024]⟩
abbrev S1024x1024 : Shape := ⟨2, ![1024, 1024]⟩
abbrev S1x1024 : Shape := ⟨2, ![1, 1024]⟩
abbrev S8x128 : Shape := ⟨2, ![8, 128]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S4096, .f32⟩
  | .hbm, ⟨3, _⟩ => ⟨S1x4096, .f32⟩
  | .hbm, ⟨4, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SguInIdeal.lean ====
abbrev S8192x1024 : Shape := ⟨2, ![8192, 1024]⟩
abbrev S4096x1024 : Shape := ⟨2, ![4096, 1024]⟩
abbrev S4096 : Shape := ⟨1, ![4096]⟩
abbrev S1x4096 : Shape := ⟨2, ![1, 4096]⟩
abbrev S8192x4096 : Shape := ⟨2, ![8192, 4096]⟩
abbrev S2048x1024 : Shape := ⟨2, ![2048, 1024]⟩
abbrev S1024x1024 : Shape := ⟨2, ![1024, 1024]⟩
abbrev S1x1024 : Shape := ⟨2, ![1, 1024]⟩
abbrev S8x128 : Shape := ⟨2, ![8, 128]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S4096, .f32⟩
  | .hbm, ⟨3, _⟩ => ⟨S1x4096, .f32⟩
  | .hbm, ⟨4, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SguInRefIdeal.lean ====
abbrev S8192x1024 : Shape := ⟨2, ![8192, 1024]⟩
abbrev S4096x1024 : Shape := ⟨2, ![4096, 1024]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S4096, .f32⟩
  | .hbm, ⟨3, _⟩ => ⟨S8192x1024, .f32⟩
  | .hbm, ⟨4, _⟩ => ⟨S4096x1024, .f32⟩
  | .hbm, ⟨5, _⟩ => ⟨S1024x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ConvIn.lean ====
abbrev S8192x1024 : Shape := ⟨2, ![8192, 1024]⟩
abbrev S2048x1024 : Shape := ⟨2, ![2048, 1024]⟩
abbrev S2048 : Shape := ⟨1, ![2048]⟩
abbrev S1x2048 : Shape := ⟨2, ![1, 2048]⟩
abbrev S8192x2048 : Shape := ⟨2, ![8192, 2048]⟩
abbrev S1024x1024 : Shape := ⟨2, ![1024, 1024]⟩
abbrev S1x1024 : Shape := ⟨2, ![1, 1024]⟩
abbrev S8x128 : Shape := ⟨2, ![8, 128]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S2048, .f32⟩
  | .hbm, ⟨3, _⟩ => ⟨S1x2048, .f32⟩
  | .hbm, ⟨4, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ConvInIdeal.lean ====
abbrev S8192x1024 : Shape := ⟨2, ![8192, 1024]⟩
abbrev S2048x1024 : Shape := ⟨2, ![2048, 1024]⟩
abbrev S2048 : Shape := ⟨1, ![2048]⟩
abbrev S1x2048 : Shape := ⟨2, ![1, 2048]⟩
abbrev S8192x2048 : Shape := ⟨2, ![8192, 2048]⟩
abbrev S1024x1024 : Shape := ⟨2, ![1024, 1024]⟩
abbrev S1x1024 : Shape := ⟨2, ![1, 1024]⟩
abbrev S8x128 : Shape := ⟨2, ![8, 128]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S2048, .f32⟩
  | .hbm, ⟨3, _⟩ => ⟨S1x2048, .f32⟩
  | .hbm, ⟨4, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ConvInRefIdeal.lean ====
abbrev S8192x1024 : Shape := ⟨2, ![8192, 1024]⟩
abbrev S2048x1024 : Shape := ⟨2, ![2048, 1024]⟩
abbrev S2048 : Shape := ⟨1, ![2048]⟩
abbrev S1024x2048 : Shape := ⟨2, ![1024, 2048]⟩
abbrev S8192x2048 : Shape := ⟨2, ![8192, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S2048, .f32⟩
  | .hbm, ⟨3, _⟩ => ⟨S8192x1024, .f32⟩
  | .hbm, ⟨4, _⟩ => ⟨S2048x1024, .f32⟩
  | .hbm, ⟨5, _⟩ => ⟨S1024x2048, .f32⟩
  | .hbm, ⟨6, _⟩ => ⟨S8192x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== QkvIn.lean ====
abbrev S8192x1024 : Shape := ⟨2, ![8192, 1024]⟩
abbrev S1536x1024 : Shape := ⟨2, ![1536, 1024]⟩
abbrev S1536 : Shape := ⟨1, ![1536]⟩
abbrev S1x1536 : Shape := ⟨2, ![1, 1536]⟩
abbrev S8192x1536 : Shape := ⟨2, ![8192, 1536]⟩
abbrev S2048x1024 : Shape := ⟨2, ![2048, 1024]⟩
abbrev S768x1024 : Shape := ⟨2, ![768, 1024]⟩
abbrev S1x768 : Shape := ⟨2, ![1, 768]⟩
abbrev S2048x768 : Shape := ⟨2, ![2048, 768]⟩
abbrev S8x128 : Shape := ⟨2, ![8, 128]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S1536, .f32⟩
  | .hbm, ⟨3, _⟩ => ⟨S1x1536, .f32⟩
  | .hbm, ⟨4, _⟩ => ⟨S8192x1536, .bf16⟩
  | .local _ .vmem, ⟨0, _⟩ => ⟨S2048x1024, .bf16⟩
  | .local _ .vmem, ⟨1, _⟩ => ⟨S2048x1024, .bf16⟩
  | .local _ .vmem, ⟨2, _⟩ => ⟨S768x1024, .bf16⟩
  | .local _ .vmem, ⟨3, _⟩ => ⟨S768x1024, .bf16⟩
  | .local _ .vmem, ⟨4, _⟩ => ⟨S1x768, .f32⟩
  | .local _ .vmem, ⟨5, _⟩ => ⟨S1x768, .f32⟩
  | .local _ .vmem, ⟨6, _⟩ => ⟨S2048x768, .bf16⟩
  | .local _ .vmem, ⟨7, _⟩ => ⟨S2048x768, .bf16⟩
  | .local _ .vmem, ⟨8, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QkvInRefIdeal.lean ====
abbrev S8192x1024 : Shape := ⟨2, ![8192, 1024]⟩
abbrev S1536x1024 : Shape := ⟨2, ![1536, 1024]⟩
abbrev S1536 : Shape := ⟨1, ![1536]⟩
abbrev S1024x1536 : Shape := ⟨2, ![1024, 1536]⟩
abbrev S8192x1536 : Shape := ⟨2, ![8192, 1536]⟩
abbrev S1x1536 : Shape := ⟨2, ![1, 1536]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S1536, .f32⟩
  | .hbm, ⟨3, _⟩ => ⟨S8192x1024, .f32⟩
  | .hbm, ⟨4, _⟩ => ⟨S1536x1024, .f32⟩
  | .hbm, ⟨5, _⟩ => ⟨S1024x1536, .f32⟩
  | .hbm, ⟨6, _⟩ => ⟨S8192x1536, .f32⟩
  | .hbm, ⟨7, _⟩ => ⟨S1x1536, .f32⟩
  | .hbm, ⟨8, _⟩ => ⟨S8192x1536, .f32⟩
  | .hbm, ⟨9, _⟩ => ⟨S8192x1536, .f32⟩
  | .hbm, ⟨10, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== SguOut.lean ====
abbrev S8192x2048 : Shape := ⟨2, ![8192, 2048]⟩
abbrev S2048x1024 : Shape := ⟨2, ![2048, 1024]⟩
abbrev S1024 : Shape := ⟨1, ![1024]⟩
abbrev S1x1024 : Shape := ⟨2, ![1, 1024]⟩
abbrev S8192x1024 : Shape := ⟨2, ![8192, 1024]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S1024, .f32⟩
  | .hbm, ⟨3, _⟩ => ⟨S1x1024, .f32⟩
  | .hbm, ⟨4, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SguOutIdeal.lean ====
abbrev S8192x2048 : Shape := ⟨2, ![8192, 2048]⟩
abbrev S2048x1024 : Shape := ⟨2, ![2048, 1024]⟩
abbrev S1024 : Shape := ⟨1, ![1024]⟩
abbrev S1x1024 : Shape := ⟨2, ![1, 1024]⟩
abbrev S8192x1024 : Shape := ⟨2, ![8192, 1024]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S1024, .f32⟩
  | .hbm, ⟨3, _⟩ => ⟨S1x1024, .f32⟩
  | .hbm, ⟨4, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SguOutRefIdeal.lean ====
abbrev S8192x2048 : Shape := ⟨2, ![8192, 2048]⟩
abbrev S2048x1024 : Shape := ⟨2, ![2048, 1024]⟩
abbrev S1024 : Shape := ⟨1, ![1024]⟩
abbrev S8192x1024 : Shape := ⟨2, ![8192, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S1024, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024, .f32⟩
  | .hbm, ⟨3, _⟩ => ⟨S1x1024, .f32⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutRefIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnIn.lean ====
abbrev S8192x1024 : Shape := ⟨2, ![8192, 1024]⟩
abbrev S5632x1024 : Shape := ⟨2, ![5632, 1024]⟩
abbrev S8192x5632 : Shape := ⟨2, ![8192, 5632]⟩
abbrev S2048x1024 : Shape := ⟨2, ![2048, 1024]⟩
abbrev S1408x1024 : Shape := ⟨2, ![1408, 1024]⟩
abbrev S2048x1408 : Shape := ⟨2, ![2048, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | .hbm, ⟨6, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnOut.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | .hbm, ⟨5, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NormBwd.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 16
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8192x1024, .bf16⟩
  | .hbm, ⟨14, _⟩ => ⟨S1x1024, .f32⟩
  | .hbm, ⟨15, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== NormBwdRefIdeal.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S8192x1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S8192x1024, .bf16⟩
  | .hbm, ⟨92, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_cst_14 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== FirstNormBwd.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FirstNormBwdRefIdeal.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== NormFwd.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S8192x1024, .bf16⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormFwdRefIdeal.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S8192x1024, .bf16⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== FirstNormFwd.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FirstNormFwdRefIdeal.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== FinalLoss.lean ====
abbrev S8192x1024 : Shape := ⟨2, ![8192, 1024]⟩
abbrev S1x1024 : Shape := ⟨2, ![1, 1024]⟩
abbrev S1024 : Shape := ⟨1, ![1024]⟩
abbrev S1x128 : Shape := ⟨2, ![1, 128]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S1x128, .f32⟩
  | .hbm, ⟨9, _⟩ => ⟨S8192x1024, .bf16⟩
  | .hbm, ⟨10, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x128, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FinalLossRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S1x1024, .f32⟩
  | .hbm, ⟨84, _⟩ => ⟨S1x128, .f32⟩
  | .hbm, ⟨85, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== SguFwd.lean ====
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S1x2048 : Shape := ⟨2, ![1, 2048]⟩
abbrev S128x8 : Shape := ⟨2, ![128, 8]⟩
abbrev S8192x2048 : Shape := ⟨2, ![8192, 2048]⟩
abbrev S256x4096 : Shape := ⟨2, ![256, 4096]⟩
abbrev S256x2048 : Shape := ⟨2, ![256, 2048]⟩
abbrev S128x128 : Shape := ⟨2, ![128, 128]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S128x256 : Shape := ⟨2, ![128, 256]⟩

abbrev nBuf : Space → Nat
  | .hbm => 9
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S1x2048, .f32⟩
  | .hbm, ⟨6, _⟩ => ⟨S1x2048, .f32⟩
  | .hbm, ⟨7, _⟩ => ⟨S128x8, .f32⟩
  | .hbm, ⟨8, _⟩ => ⟨S8192x2048, .bf16⟩
  | .local _ .vmem, ⟨0, _⟩ => ⟨S256x4096, .bf16⟩
  | .local _ .vmem, ⟨1, _⟩ => ⟨S256x4096, .bf16⟩
  | .local _ .vmem, ⟨2, _⟩ => ⟨S1x2048, .f32⟩
  | .local _ .vmem, ⟨3, _⟩ => ⟨S1x2048, .f32⟩
  | .local _ .vmem, ⟨4, _⟩ => ⟨S8x128x128, .f32⟩
  | .local _ .vmem, ⟨5, _⟩ => ⟨S128x8, .f32⟩
  | .local _ .vmem, ⟨6, _⟩ => ⟨S256x2048, .bf16⟩
  | .local _ .vmem, ⟨7, _⟩ => ⟨S256x2048, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguFwdIdeal.lean ====
variable {F : FTy → Type} [FloatOps F] [Named F]
def κ : String → Option EReal := fun
  | "inv_sqrt2" => some (((Real.sqrt 2)⁻¹ : ℝ) : EReal)
  | _ => none
-- ==== SguFwdRefIdeal.lean ====
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S_ : Shape := ⟨0, ![]⟩
abbrev S4096 : Shape := ⟨1, ![4096]⟩
abbrev S1x4096 : Shape := ⟨2, ![1, 4096]⟩
abbrev S8192x2048 : Shape := ⟨2, ![8192, 2048]⟩
abbrev S8192 : Shape := ⟨1, ![8192]⟩
abbrev S8192x1 : Shape := ⟨2, ![8192, 1]⟩
abbrev S1x2048 : Shape := ⟨2, ![1, 2048]⟩
abbrev S64x128x8x256 : Shape := ⟨4, ![64, 128, 8, 256]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S1x128x8x1 : Shape := ⟨4, ![1, 128, 8, 1]⟩

abbrev nBuf : Space → Nat
  | .hbm => 80
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S_, .f32⟩
  | .hbm, ⟨6, _⟩ => ⟨S4096, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S1x2048, .f32⟩
  | .hbm, ⟨52, _⟩ => ⟨S8192x2048, .f32⟩
  | .hbm, ⟨53, _⟩ => ⟨S8192x2048, .f32⟩
  | .hbm, ⟨54, _⟩ => ⟨S64x128x8x256, .f32⟩
  | .hbm, ⟨55, _⟩ => ⟨S_, .i1⟩
  | .hbm, ⟨56, _⟩ => ⟨S128x128, .i1⟩
  | .hbm, ⟨57, _⟩ => ⟨S128x128, .i32⟩
  | .hbm, ⟨58, _⟩ => ⟨S_, .i32⟩
  | .hbm, ⟨59, _⟩ => ⟨S128x128, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S_, .i1⟩
  | .hbm, ⟨64, _⟩ => ⟨S128x128, .i1⟩
  | .hbm, ⟨65, _⟩ => ⟨S128x128, .i1⟩
  | .hbm, ⟨66, _⟩ => ⟨S1x128x128, .i1⟩
  | .hbm, ⟨67, _⟩ => ⟨S_, .f32⟩
  | .hbm, ⟨68, _⟩ => ⟨S8x128x128, .f32⟩
  | .hbm, ⟨69, _⟩ => ⟨S8x128x128, .i1⟩
  | .hbm, ⟨70, _⟩ => ⟨S8x128x128, .f32⟩
  | .hbm, ⟨71, _⟩ => ⟨S8x64x256x128, .f32⟩
  | .hbm, ⟨72, _⟩ => ⟨S64x128x8x256, .f32⟩
  | .hbm, ⟨73, _⟩ => ⟨S128x8, .f32⟩
  | .hbm, ⟨74, _⟩ => ⟨S1x128x8x1, .f32⟩
  | .hbm, ⟨75, _⟩ => ⟨S64x128x8x256, .f32⟩
  | .hbm, ⟨76, _⟩ => ⟨S64x128x8x256, .f32⟩
  | .hbm, ⟨77, _⟩ => ⟨S8192x2048, .f32⟩
  | .hbm, ⟨78, _⟩ => ⟨S8192x2048, .f32⟩
  | .hbm, ⟨79, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c : Ref sig .tc := ⟨.hbm, 55, rfl⟩
abbrev main_v40 : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_c_0 : Ref sig .tc := ⟨.hbm, 63, rfl⟩
abbrev main_call0_v5 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_call1_v0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]
-- ==== AdamAda.lean ====
abbrev S4096x768 : Shape := ⟨2, ![4096, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaIdeal.lean ====
abbrev S4096x768 : Shape := ⟨2, ![4096, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaRefIdeal.lean ====
abbrev S4096x768 : Shape := ⟨2, ![4096, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S_, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x768, .f32⟩
  | .hbm, ⟨36, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQkv.lean ====
abbrev S2048x192 : Shape := ⟨2, ![2048, 192]⟩
abbrev S512x192 : Shape := ⟨2, ![512, 192]⟩

abbrev nBuf : Space → Nat
  | .hbm => 7
  | .vmem => 14
  | .smem => 0
  | _ => 0

abbrev bufTy : (tb : Table) → Fin (tcTables nBuf tb) → BufTy
  | .hbm, ⟨0, _⟩ => ⟨S2048x192, .f32⟩
  | .hbm, ⟨1, _⟩ => ⟨S2048x192, .f32⟩
  | .hbm, ⟨2, _⟩ => ⟨S2048x192, .f32⟩
  | .hbm, ⟨3, _⟩ => ⟨S2048x192, .f32⟩
  | .hbm, ⟨4, _⟩ => ⟨S2048x192, .f32⟩
  | .hbm, ⟨5, _⟩ => ⟨S2048x192, .f32⟩
  | .hbm, ⟨6, _⟩ => ⟨S2048x192, .f32⟩
  | .local _ .vmem, ⟨0, _⟩ => ⟨S512x192, .f32⟩
  | .local _ .vmem, ⟨1, _⟩ => ⟨S512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | _, _ => ⟨S2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQkvIdeal.lean ====
abbrev S2048x192 : Shape := ⟨2, ![2048, 192]⟩
abbrev S512x192 : Shape := ⟨2, ![512, 192]⟩

abbrev nBuf : Space → Nat
  | .hbm => 7
  | .vmem => 14
  | .smem => 0
  | _ => 0

abbrev bufTy : (tb : Table) → Fin (tcTables nBuf tb) → BufTy
  | .hbm, ⟨0, _⟩ => ⟨S2048x192, .f32⟩
  | .hbm, ⟨1, _⟩ => ⟨S2048x192, .f32⟩
  | .hbm, ⟨2, _⟩ => ⟨S2048x192, .f32⟩
  | .hbm, ⟨3, _⟩ => ⟨S2048x192, .f32⟩
  | .hbm, ⟨4, _⟩ => ⟨S2048x192, .f32⟩
  | .hbm, ⟨5, _⟩ => ⟨S2048x192, .f32⟩
  | .hbm, ⟨6, _⟩ => ⟨S2048x192, .f32⟩
  | .local _ .vmem, ⟨0, _⟩ => ⟨S512x192, .f32⟩
  | .local _ .vmem, ⟨1, _⟩ => ⟨S512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | _, _ => ⟨S2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQkvRefIdeal.lean ====
abbrev S2048x192 : Shape := ⟨2, ![2048, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x192, .f32⟩
  | .hbm, ⟨1, _⟩ => ⟨S2048x192, .f32⟩
  | .hbm, ⟨2, _⟩ => ⟨S2048x192, .f32⟩
  | .hbm, ⟨3, _⟩ => ⟨S2048x192, .f32⟩
  | .hbm, ⟨4, _⟩ => ⟨S_, .f32⟩
  | .hbm, ⟨5, _⟩ => ⟨S2048x192, .f32⟩
  | .hbm, ⟨6, _⟩ => ⟨S2048x192, .f32⟩
  | .hbm, ⟨7, _⟩ => ⟨S_, .f32⟩
  | .hbm, ⟨8, _⟩ => ⟨S2048x192, .f32⟩
  | .hbm, ⟨9, _⟩ => ⟨S2048x192, .f32⟩
  | .hbm, ⟨10, _⟩ => ⟨S2048x192, .f32⟩
  | .hbm, ⟨11, _⟩ => ⟨S_, .f32⟩
  | .hbm, ⟨12, _⟩ => ⟨S2048x192, .f32⟩
  | .hbm, ⟨13, _⟩ => ⟨S2048x192, .f32⟩
  | .hbm, ⟨14, _⟩ => ⟨S2048x192, .f32⟩
  | .hbm, ⟨15, _⟩ => ⟨S_, .f32⟩
  | .hbm, ⟨16, _⟩ => ⟨S2048x192, .f32⟩
  | .hbm, ⟨17, _⟩ => ⟨S2048x192, .f32⟩
  | .hbm, ⟨18, _⟩ => ⟨S2048x192, .f32⟩
  | .hbm, ⟨19, _⟩ => ⟨S_, .f32⟩
  | .hbm, ⟨20, _⟩ => ⟨S2048x192, .f32⟩
  | .hbm, ⟨21, _⟩ => ⟨S2048x192, .f32⟩
  | .hbm, ⟨22, _⟩ => ⟨S_, .f32⟩
  | .hbm, ⟨23, _⟩ => ⟨S2048x192, .f32⟩
  | .hbm, ⟨24, _⟩ => ⟨S2048x192, .f32⟩
  | .hbm, ⟨25, _⟩ => ⟨S2048x192, .f32⟩
  | .hbm, ⟨26, _⟩ => ⟨S_, .f32⟩
  | .hbm, ⟨27, _⟩ => ⟨S2048x192, .f32⟩
  | .hbm, ⟨28, _⟩ => ⟨S2048x192, .f32⟩
  | .hbm, ⟨29, _⟩ => ⟨S2048x192, .f32⟩
  | .hbm, ⟨30, _⟩ => ⟨S_, .f32⟩
  | .hbm, ⟨31, _⟩ => ⟨S2048x192, .f32⟩
  | .hbm, ⟨32, _⟩ => ⟨S2048x192, .f32⟩
  | .hbm, ⟨33, _⟩ => ⟨S2048x192, .f32⟩
  | .hbm, ⟨34, _⟩ => ⟨S_, .f32⟩
  | .hbm, ⟨35, _⟩ => ⟨S2048x192, .f32⟩
  | .hbm, ⟨36, _⟩ => ⟨S2048x192, .f32⟩
  | _, _ => ⟨S2048x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvIn.lean ====
abbrev S1024x256 : Shape := ⟨2, ![1024, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamConvInIdeal.lean ====
abbrev S1024x256 : Shape := ⟨2, ![1024, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamConvInRefIdeal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvOut.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvOutIdeal.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvOutRefIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSguIn.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSguInIdeal.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSguInRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnIn.lean ====
abbrev S4096x704 : Shape := ⟨2, ![4096, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnInIdeal.lean ====
abbrev S4096x704 : Shape := ⟨2, ![4096, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnInRefIdeal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnOut.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnOutIdeal.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnOutRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1632x128 : Shape := ⟨2, ![1632, 128]⟩
abbrev S408x128 : Shape := ⟨2, ![408, 128]⟩

abbrev nBuf : Space → Nat
  | .hbm => 7
  | .vmem => 14
  | .smem => 0
  | _ => 0

abbrev bufTy : (tb : Table) → Fin (tcTables nBuf tb) → BufTy
  | .hbm, ⟨0, _⟩ => ⟨S1632x128, .f32⟩
  | .hbm, ⟨1, _⟩ => ⟨S1632x128, .f32⟩
  | .hbm, ⟨2, _⟩ => ⟨S1632x128, .f32⟩
  | .hbm, ⟨3, _⟩ => ⟨S1632x128, .f32⟩
  | .hbm, ⟨4, _⟩ => ⟨S1632x128, .f32⟩
  | .hbm, ⟨5, _⟩ => ⟨S1632x128, .f32⟩
  | .hbm, ⟨6, _⟩ => ⟨S1632x128, .f32⟩
  | .local _ .vmem, ⟨0, _⟩ => ⟨S408x128, .f32⟩
  | .local _ .vmem, ⟨1, _⟩ => ⟨S408x128, .f32⟩
  | .local _ .vmem, ⟨2, _⟩ => ⟨S408x128, .f32⟩
  | .local _ .vmem, ⟨3, _⟩ => ⟨S408x128, .f32⟩
  | .local _ .vmem, ⟨4, _⟩ => ⟨S408x128, .f32⟩
  | .local _ .vmem, ⟨5, _⟩ => ⟨S408x128, .f32⟩
  | .local _ .vmem, ⟨6, _⟩ => ⟨S408x128, .f32⟩
  | .local _ .vmem, ⟨7, _⟩ => ⟨S408x128, .f32⟩
  | .local _ .vmem, ⟨8, _⟩ => ⟨S408x128, .f32⟩
  | .local _ .vmem, ⟨9, _⟩ => ⟨S408x128, .f32⟩
  | .local _ .vmem, ⟨10, _⟩ => ⟨S408x128, .f32⟩
  | .local _ .vmem, ⟨11, _⟩ => ⟨S408x128, .f32⟩
  | .local _ .vmem, ⟨12, _⟩ => ⟨S408x128, .f32⟩
  | .local _ .vmem, ⟨13, _⟩ => ⟨S408x128, .f32⟩
  | _, _ => ⟨S1632x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S408x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S408x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S408x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S408x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S408x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S408x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S408x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S1632x128 : Shape := ⟨2, ![1632, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1632x128, .f32⟩
  | .hbm, ⟨1, _⟩ => ⟨S1632x128, .f32⟩
  | .hbm, ⟨2, _⟩ => ⟨S1632x128, .f32⟩
  | .hbm, ⟨3, _⟩ => ⟨S1632x128, .f32⟩
  | .hbm, ⟨4, _⟩ => ⟨S_, .f32⟩
  | .hbm, ⟨5, _⟩ => ⟨S1632x128, .f32⟩
  | .hbm, ⟨6, _⟩ => ⟨S1632x128, .f32⟩
  | .hbm, ⟨7, _⟩ => ⟨S_, .f32⟩
  | .hbm, ⟨8, _⟩ => ⟨S1632x128, .f32⟩
  | .hbm, ⟨9, _⟩ => ⟨S1632x128, .f32⟩
  | .hbm, ⟨10, _⟩ => ⟨S1632x128, .f32⟩
  | .hbm, ⟨11, _⟩ => ⟨S_, .f32⟩
  | .hbm, ⟨12, _⟩ => ⟨S1632x128, .f32⟩
  | .hbm, ⟨13, _⟩ => ⟨S1632x128, .f32⟩
  | .hbm, ⟨14, _⟩ => ⟨S1632x128, .f32⟩
  | .hbm, ⟨15, _⟩ => ⟨S_, .f32⟩
  | .hbm, ⟨16, _⟩ => ⟨S1632x128, .f32⟩
  | .hbm, ⟨17, _⟩ => ⟨S1632x128, .f32⟩
  | .hbm, ⟨18, _⟩ => ⟨S1632x128, .f32⟩
  | .hbm, ⟨19, _⟩ => ⟨S_, .f32⟩
  | .hbm, ⟨20, _⟩ => ⟨S1632x128, .f32⟩
  | .hbm, ⟨21, _⟩ => ⟨S1632x128, .f32⟩
  | .hbm, ⟨22, _⟩ => ⟨S_, .f32⟩
  | .hbm, ⟨23, _⟩ => ⟨S1632x128, .f32⟩
  | .hbm, ⟨24, _⟩ => ⟨S1632x128, .f32⟩
  | .hbm, ⟨25, _⟩ => ⟨S1632x128, .f32⟩
  | .hbm, ⟨26, _⟩ => ⟨S_, .f32⟩
  | .hbm, ⟨27, _⟩ => ⟨S1632x128, .f32⟩
  | .hbm, ⟨28, _⟩ => ⟨S1632x128, .f32⟩
  | .hbm, ⟨29, _⟩ => ⟨S1632x128, .f32⟩
  | .hbm, ⟨30, _⟩ => ⟨S_, .f32⟩
  | .hbm, ⟨31, _⟩ => ⟨S1632x128, .f32⟩
  | .hbm, ⟨32, _⟩ => ⟨S1632x128, .f32⟩
  | .hbm, ⟨33, _⟩ => ⟨S1632x128, .f32⟩
  | .hbm, ⟨34, _⟩ => ⟨S_, .f32⟩
  | .hbm, ⟨35, _⟩ => ⟨S1632x128, .f32⟩
  | .hbm, ⟨36, _⟩ => ⟨S1632x128, .f32⟩
  | _, _ => ⟨S1632x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumQkv.lean ====
abbrev S8x192x1024 : Shape := ⟨3, ![8, 192, 1024]⟩
abbrev S192x1024 : Shape := ⟨2, ![192, 1024]⟩
abbrev S1x192x1024 : Shape := ⟨3, ![1, 192, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x192x1024, .bf16⟩
  | .hbm, ⟨1, _⟩ => ⟨S192x1024, .f32⟩
  | .local _ .vmem, ⟨0, _⟩ => ⟨S8x192x1024, .bf16⟩
  | .local _ .vmem, ⟨1, _⟩ => ⟨S192x1024, .f32⟩
  | _, _ => ⟨S8x192x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumQkvIdeal.lean ====
abbrev S8x192x1024 : Shape := ⟨3, ![8, 192, 1024]⟩
abbrev S192x1024 : Shape := ⟨2, ![192, 1024]⟩
abbrev S1x192x1024 : Shape := ⟨3, ![1, 192, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x192x1024, .bf16⟩
  | .hbm, ⟨1, _⟩ => ⟨S192x1024, .f32⟩
  | .local _ .vmem, ⟨0, _⟩ => ⟨S8x192x1024, .bf16⟩
  | .local _ .vmem, ⟨1, _⟩ => ⟨S192x1024, .f32⟩
  | _, _ => ⟨S8x192x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumQkvRefIdeal.lean ====
abbrev S8x192x1024 : Shape := ⟨3, ![8, 192, 1024]⟩
abbrev S_ : Shape := ⟨0, ![]⟩
abbrev S192x1024 : Shape := ⟨2, ![192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x192x1024, .bf16⟩
  | .hbm, ⟨1, _⟩ => ⟨S8x192x1024, .f32⟩
  | .hbm, ⟨2, _⟩ => ⟨S_, .f32⟩
  | .hbm, ⟨3, _⟩ => ⟨S192x1024, .f32⟩
  | _, _ => ⟨S8x192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutRefIdeal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .f32⟩
  | .hbm, ⟨2, _⟩ => ⟨S_, .f32⟩
  | .hbm, ⟨3, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSguOut.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .local _ .vmem, ⟨0, _⟩ => ⟨S8x256x1024, .bf16⟩
  | .local _ .vmem, ⟨1, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSguOutIdeal.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .local _ .vmem, ⟨0, _⟩ => ⟨S8x256x1024, .bf16⟩
  | .local _ .vmem, ⟨1, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSguOutRefIdeal.lean ====
abbrev S8x256x1024 : Shape := ⟨3, ![8, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .f32⟩
  | .hbm, ⟨2, _⟩ => ⟨S_, .f32⟩
  | .hbm, ⟨3, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSguIn.lean ====
abbrev S8x512x1024 : Shape := ⟨3, ![8, 512, 1024]⟩
abbrev S512x1024 : Shape := ⟨2, ![512, 1024]⟩
abbrev S1x512x1024 : Shape := ⟨3, ![1, 512, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .local _ .vmem, ⟨0, _⟩ => ⟨S8x512x1024, .bf16⟩
  | .local _ .vmem, ⟨1, _⟩ => ⟨S512x1024, .f32⟩
  | _, _ => ⟨S8x512x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSguInIdeal.lean ====
abbrev S8x512x1024 : Shape := ⟨3, ![8, 512, 1024]⟩
abbrev S512x1024 : Shape := ⟨2, ![512, 1024]⟩
abbrev S1x512x1024 : Shape := ⟨3, ![1, 512, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .local _ .vmem, ⟨0, _⟩ => ⟨S8x512x1024, .bf16⟩
  | .local _ .vmem, ⟨1, _⟩ => ⟨S512x1024, .f32⟩
  | _, _ => ⟨S8x512x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSguInRefIdeal.lean ====
abbrev S8x512x1024 : Shape := ⟨3, ![8, 512, 1024]⟩
abbrev S_ : Shape := ⟨0, ![]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .f32⟩
  | .hbm, ⟨2, _⟩ => ⟨S_, .f32⟩
  | .hbm, ⟨3, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumFfnIn.lean ====
abbrev S8x704x1024 : Shape := ⟨3, ![8, 704, 1024]⟩
abbrev S704x1024 : Shape := ⟨2, ![704, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumFfnInIdeal.lean ====
abbrev S8x704x1024 : Shape := ⟨3, ![8, 704, 1024]⟩
abbrev S704x1024 : Shape := ⟨2, ![704, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumFfnInRefIdeal.lean ====
abbrev S8x704x1024 : Shape := ⟨3, ![8, 704, 1024]⟩
abbrev S_ : Shape := ⟨0, ![]⟩
abbrev S704x1024 : Shape := ⟨2, ![704, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .f32⟩
  | .hbm, ⟨2, _⟩ => ⟨S_, .f32⟩
  | .hbm, ⟨3, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumFfnOut.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x352x1024, .bf16⟩
  | .local _ .vmem, ⟨1, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumFfnOutIdeal.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x352x1024, .bf16⟩
  | .local _ .vmem, ⟨1, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumFfnOutRefIdeal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .f32⟩
  | .hbm, ⟨2, _⟩ => ⟨S_, .f32⟩
  | .hbm, ⟨3, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x32x1024, .f32⟩
  | .hbm, ⟨1, _⟩ => ⟨S32x1024, .f32⟩
  | .local _ .vmem, ⟨0, _⟩ => ⟨S8x32x1024, .f32⟩
  | .local _ .vmem, ⟨1, _⟩ => ⟨S32x1024, .f32⟩
  | _, _ => ⟨S8x32x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallIdeal.lean ====
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x32x1024, .f32⟩
  | .hbm, ⟨1, _⟩ => ⟨S32x1024, .f32⟩
  | .local _ .vmem, ⟨0, _⟩ => ⟨S8x32x1024, .f32⟩
  | .local _ .vmem, ⟨1, _⟩ => ⟨S32x1024, .f32⟩
  | _, _ => ⟨S8x32x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x32x1024 : Shape := ⟨3, ![8, 32, 1024]⟩
abbrev S_ : Shape := ⟨0, ![]⟩
abbrev S32x1024 : Shape := ⟨2, ![32, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S_, .f32⟩
  | .hbm, ⟨2, _⟩ => ⟨S32x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumSmallHalf.lean ====
abbrev S8x272x1024 : Shape := ⟨3, ![8, 272, 1024]⟩
abbrev S272x1024 : Shape := ⟨2, ![272, 1024]⟩
abbrev S1x272x1024 : Shape := ⟨3, ![1, 272, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x272x1024, .bf16⟩
  | .hbm, ⟨1, _⟩ => ⟨S272x1024, .f32⟩
  | .local _ .vmem, ⟨0, _⟩ => ⟨S8x272x1024, .bf16⟩
  | .local _ .vmem, ⟨1, _⟩ => ⟨S272x1024, .f32⟩
  | _, _ => ⟨S8x272x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x272x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S272x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallHalfRefIdeal.lean ====
abbrev S8x272x1024 : Shape := ⟨3, ![8, 272, 1024]⟩
abbrev S_ : Shape := ⟨0, ![]⟩
abbrev S272x1024 : Shape := ⟨2, ![272, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x272x1024, .bf16⟩
  | .hbm, ⟨1, _⟩ => ⟨S8x272x1024, .f32⟩
  | .hbm, ⟨2, _⟩ => ⟨S_, .f32⟩
  | .hbm, ⟨3, _⟩ => ⟨S272x1024, .f32⟩
  | _, _ => ⟨S8x272x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdaMod.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩
abbrev S16x1024 : Shape := ⟨2, ![16, 1024]⟩
abbrev S16x768 : Shape := ⟨2, ![16, 768]⟩
abbrev S8x128 : Shape := ⟨2, ![8, 128]⟩

abbrev nBuf : Space → Nat
  | .hbm => 18
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S_, .i32⟩
  | .hbm, ⟨13, _⟩ => ⟨S_, .f32⟩
  | .hbm, ⟨14, _⟩ => ⟨S16x1024, .f32⟩
  | .hbm, ⟨15, _⟩ => ⟨S16x1024, .bf16⟩
  | .hbm, ⟨16, _⟩ => ⟨S1024x768, .bf16⟩
  | .hbm, ⟨17, _⟩ => ⟨S16x768, .f32⟩
  | .local _ .vmem, ⟨0, _⟩ => ⟨S16x1024, .bf16⟩
  | .local _ .vmem, ⟨1, _⟩ => ⟨S1024x768, .bf16⟩
  | .local _ .vmem, ⟨2, _⟩ => ⟨S1x768, .f32⟩
  | .local _ .vmem, ⟨3, _⟩ => ⟨S16x768, .f32⟩
  | .local _ .vmem, ⟨4, _⟩ => ⟨S8x128, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== AdaModRefIdeal.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩
abbrev S8x768 : Shape := ⟨2, ![8, 768]⟩
abbrev S16x768 : Shape := ⟨2, ![16, 768]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S8x768, .f32⟩
  | .hbm, ⟨14, _⟩ => ⟨S8x768, .f32⟩
  | .hbm, ⟨15, _⟩ => ⟨S8x768, .f32⟩
  | .hbm, ⟨16, _⟩ => ⟨S16x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== AdaDw.lean ====
abbrev S8x1024 : Shape := ⟨2, ![8, 1024]⟩
abbrev S8x768 : Shape := ⟨2, ![8, 768]⟩
abbrev S_ : Shape := ⟨0, ![]⟩
abbrev S16x1024 : Shape := ⟨2, ![16, 1024]⟩
abbrev S16x768 : Shape := ⟨2, ![16, 768]⟩
abbrev S1024x768 : Shape := ⟨2, ![1024, 768]⟩
abbrev S16x256 : Shape := ⟨2, ![16, 256]⟩
abbrev S256x768 : Shape := ⟨2, ![256, 768]⟩
abbrev S8x128 : Shape := ⟨2, ![8, 128]⟩

abbrev nBuf : Space → Nat
  | .hbm => 19
  | .vmem => 6
  | .smem => 0
  | _ => 0

abbrev bufTy : (tb : Table) → Fin (tcTables nBuf tb) → BufTy
  | .hbm, ⟨0, _⟩ => ⟨S8x1024, .f32⟩
  | .hbm, ⟨1, _⟩ => ⟨S8x768, .bf16⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .i32⟩
  | .hbm, ⟨12, _⟩ => ⟨S_, .f32⟩
  | .hbm, ⟨13, _⟩ => ⟨S16x1024, .f32⟩
  | .hbm, ⟨14, _⟩ => ⟨S16x1024, .bf16⟩
  | .hbm, ⟨15, _⟩ => ⟨S_, .i32⟩
  | .hbm, ⟨16, _⟩ => ⟨S_, .bf16⟩
  | .hbm, ⟨17, _⟩ => ⟨S16x768, .bf16⟩
  | .hbm, ⟨18, _⟩ => ⟨S1024x768, .f32⟩
  | .local _ .vmem, ⟨0, _⟩ => ⟨S16x256, .bf16⟩
  | .local _ .vmem, ⟨1, _⟩ => ⟨S16x256, .bf16⟩
  | .local _ .vmem, ⟨2, _⟩ => ⟨S16x768, .bf16⟩
  | .local _ .vmem, ⟨3, _⟩ => ⟨S256x768, .f32⟩
  | .local _ .vmem, ⟨4, _⟩ => ⟨S256x768, .f32⟩
  | .local _ .vmem, ⟨5, _⟩ => ⟨S8x128, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg0 c3_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S16x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaDwRefIdeal.lean ====
abbrev S8x1024 : Shape := ⟨2, ![8, 1024]⟩
abbrev S8x768 : Shape := ⟨2, ![8, 768]⟩
abbrev S_ : Shape := ⟨0, ![]⟩
abbrev S1024x768 : Shape := ⟨2, ![1024, 768]⟩
abbrev S768x1024 : Shape := ⟨2, ![768, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .bf16⟩
  | .hbm, ⟨2, _⟩ => ⟨S_, .f32⟩
  | .hbm, ⟨3, _⟩ => ⟨S1024x768, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x768, .f32⟩
  | .hbm, ⟨14, _⟩ => ⟨S8x768, .f32⟩
  | .hbm, ⟨15, _⟩ => ⟨S768x1024, .f32⟩
  | .hbm, ⟨16, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Sgu.Real.lean ====
/-
The real functions of the gated unit and of its gradient.

One chunk is 128 rows of the pre-activation `p` (4096 lanes: 2048 of the gate's `u`, 2048 of its `v`) with the
cotangent `dm` of the unit's output (2048 lanes).  `u = gelu` of the lower lanes, `v` the layer norm of `gelu` of the
upper ones; in each of the 8 groups of 256 lanes the rows of `v` are mixed by a lower triangular 128 by 128 matrix.
Everything here is over the real numbers.
-/
module

public import Idealize.ShloMosaic.Lib.Pointwise

@[expose] public section

noncomputable section

namespace Cert.Sgu

open Idealize.ShloMosaic

/-- The error function. -/
def erfR (r : ℝ) : ℝ := 2 / Real.sqrt Real.pi * ∫ t in (0 : ℝ)..r, Real.exp (-(t ^ 2))

/-- The exact gelu. -/
def gelu (x : ℝ) : ℝ := 1 / 2 * x * (1 + erfR (x * (Real.sqrt 2)⁻¹))

/-- The derivative of the exact gelu. -/
def geluD (x : ℝ) : ℝ :=
  1 / 2 * (1 + erfR (x * (Real.sqrt 2)⁻¹)) + x * Real.exp (-(1 / 2) * x * x) * (Real.sqrt (2 * Real.pi))⁻¹

/-- The number that the layer norm adds to the variance: the single-precision number nearest to 10⁻⁶. -/
def eps : ℝ := 8796093 / 8796093022208

/-- The lane `k` of the gate's `u` as a lane of the pre-activation. -/
def lo (k : Fin 2048) : Fin 4096 := ⟨k, by omega⟩

/-- The lane `k` of the gate's `v` as a lane of the pre-activation. -/
def hi (k : Fin 2048) : Fin 4096 := ⟨2048 + k, by omega⟩

/-- The group of a lane. -/
def grp (k : Fin 2048) : Fin 8 := ⟨k / 256, by omega⟩

/-- Lane `d` of group `g`. -/
def lane (g : Fin 8) (d : Fin 256) : Fin 2048 := ⟨256 * g + d, by omega⟩

/-- A lane is the lane of its group at its remainder. -/
theorem lane_grp (k : Fin 2048) : lane (grp k) ⟨k % 256, by omega⟩ = k := by
  apply Fin.ext; simp only [lane, grp]; omega

/-- The group of lane `d` of group `g` is `g`. -/
theorem grp_lane (g : Fin 8) (d : Fin 256) : grp (lane g d) = g := by
  apply Fin.ext; simp only [lane, grp]; omega

/-- The parameters of the unit: the gain and bias of its layer norm, the mixing matrices and the mixing biases. -/
structure Params where
  lg : Fin 2048 → ℝ
  lb : Fin 2048 → ℝ
  w : Fin 8 → Fin 128 → Fin 128 → ℝ
  bs : Fin 128 → Fin 8 → ℝ

/-! ## One row -/

section Row
variable (x : Fin 4096 → ℝ)

/-- The gate of a row. -/
def U (k : Fin 2048) : ℝ := gelu (x (lo k))

/-- The activation of a row that the layer norm takes. -/
def V (k : Fin 2048) : ℝ := gelu (x (hi k))

/-- The mean of a row. -/
def mu : ℝ := (∑ k, V x k) / 2048

/-- A row less its mean. -/
def xc (k : Fin 2048) : ℝ := V x k - mu x

/-- The variance of a row. -/
def var : ℝ := (∑ k, xc x k * xc x k) / 2048

/-- One over the standard deviation of a row. -/
def rstd : ℝ := (Real.sqrt (var x + eps))⁻¹

/-- A normalised row. -/
def vh (k : Fin 2048) : ℝ := xc x k * rstd x

/-- A row of the layer norm. -/
def vn (a : Params) (k : Fin 2048) : ℝ := vh x k * a.lg k + a.lb k

end Row

theorem var_nonneg (x : Fin 4096 → ℝ) : 0 ≤ var x :=
  div_nonneg (Finset.sum_nonneg fun k _ => mul_self_nonneg _) (by norm_num)

theorem eps_pos : 0 < eps := by norm_num [eps]

theorem var_eps_pos (x : Fin 4096 → ℝ) : 0 < var x + eps := add_pos_of_nonneg_of_pos (var_nonneg x) eps_pos

/-! ## One chunk -/

section Chunk
variable (a : Params) (p : Fin 128 → Fin 4096 → ℝ) (dm : Fin 128 → Fin 2048 → ℝ)

/-- The lower triangle of a mixing matrix. -/
def wm (g : Fin 8) (t s : Fin 128) : ℝ := if s ≤ t then a.w g t s else 0

/-- The mixed rows. -/
def vs (t : Fin 128) (k : Fin 2048) : ℝ := (∑ s, wm a (grp k) t s * vn (p s) a k) + a.bs t (grp k)

/-- The cotangent of the gate. -/
def du (t : Fin 128) (k : Fin 2048) : ℝ := dm t k * vs a p t k

/-- The cotangent of the mixed rows. -/
def dvs (t : Fin 128) (k : Fin 2048) : ℝ := dm t k * U (p t) k

/-- The cotangent of the layer norm's output. -/
def dvn (s : Fin 128) (k : Fin 2048) : ℝ := ∑ t, wm a (grp k) t s * dvs p dm t k

/-- The cotangent of the normalised rows. -/
def dvh (s : Fin 128) (k : Fin 2048) : ℝ := dvn a p dm s k * a.lg k

/-- The cotangent of the layer norm's input. -/
def dv (s : Fin 128) (k : Fin 2048) : ℝ :=
  rstd (p s) * (dvh a p dm s k - (∑ l, dvh a p dm s l) / 2048
    - vh (p s) k * ((∑ l, dvh a p dm s l * vh (p s) l) / 2048))

/-- The cotangent of the activations: the gate's lanes, then the layer norm's. -/
def dz (t : Fin 128) (k : Fin 4096) : ℝ :=
  if h : k.val < 2048 then du a p dm t ⟨k, h⟩ else dv a p dm t ⟨k - 2048, by omega⟩

/-- The gradient of the pre-activation. -/
def dp (t : Fin 128) (k : Fin 4096) : ℝ := dz a p dm t k * geluD (p t k)

/-- What a chunk adds to the gradient of the projection's bias. -/
def dbinB (k : Fin 4096) : ℝ := ∑ t, dp a p dm t k

/-- What a chunk adds to the gradient of the layer norm's gain. -/
def dlgB (k : Fin 2048) : ℝ := ∑ s, dvn a p dm s k * vh (p s) k

/-- What a chunk adds to the gradient of the layer norm's bias. -/
def dlbB (k : Fin 2048) : ℝ := ∑ s, dvn a p dm s k

/-- What a chunk adds to the gradient of the mixing matrices. -/
def dwsB (g : Fin 8) (t s : Fin 128) : ℝ :=
  if s ≤ t then ∑ d, dvs p dm t (lane g d) * vn (p s) a (lane g d) else 0

/-- What a chunk adds to the gradient of the mixing biases. -/
def dbsB (t : Fin 128) (g : Fin 8) : ℝ := ∑ d, dvs p dm t (lane g d)

end Chunk

/-! ## Real numbers among the extended reals -/

/-- A sum of real numbers is their sum among the extended reals. -/
theorem coe_sum {ι : Type} (s : Finset ι) (f : ι → ℝ) :
    ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem erf_coe (r : ℝ) : Ideal.erf (r : EReal) = (erfR r : EReal) := rfl

end Cert.Sgu
-- ==== Proof.Sgu.Rows.lean ====
/-
What the body computes row by row in a block: the activations, the layer norm.  Each theorem reads one vector of the
body at an index, as a real number, given that the block of the pre-activation holds real numbers.
-/
module

public import proofs.«01_k».proof.Proof.Sgu.Real
public import proofs.«01_k».proof.Proof.Gen.KernelIdeal.Skeleton

@[expose] public section

set_option maxRecDepth 16384

noncomputable section

namespace Cert.Sgu

open Cert.KernelIdeal Cert.KernelIdeal.Gen Idealize.ShloMosaic

theorem c_half : Ideal.ofBits .f32 0x3F000000#32 = ((1 / 2 : ℝ) : EReal) := by
  simp [Ideal.ofBits, Ideal.ieee, -EReal.coe_mul]; norm_num

theorem c_neg_half : Ideal.ofBits .f32 0xBF000000#32 = ((-(1 / 2) : ℝ) : EReal) := by
  simp [Ideal.ofBits, Ideal.ieee, -EReal.coe_mul]; norm_num

theorem c_2048 : Ideal.ofBits .f32 0x45000000#32 = ((2048 : ℝ) : EReal) := by
  simp [Ideal.ofBits, Ideal.ieee, -EReal.coe_mul]; norm_num

theorem c_eps : Ideal.ofBits .f32 0x358637BD#32 = ((eps : ℝ) : EReal) := by
  simp [Ideal.ofBits, Ideal.ieee, -EReal.coe_mul, eps]; norm_num

theorem c_inv_sqrt2 : Named.named (F := Ideal) (φ := .f32) κ "inv_sqrt2" 0x3F3504F3#32 = (((Real.sqrt 2)⁻¹ : ℝ) : EReal) :=
  IdealRules.named_const.ideal_named_scalar _ _ _ _ rfl

theorem c_inv_sqrt2pi :
    Named.named (F := Ideal) (φ := .f32) κ "inv_sqrt2pi" 0x3ECC422A#32 = (((Real.sqrt (2 * Real.pi))⁻¹ : ℝ) : EReal) :=
  IdealRules.named_const.ideal_named_scalar _ _ _ _ rfl

/-- The quotient of two real numbers, the divisor not zero. -/
theorem div_real (x y : ℝ) (h : y ≠ 0) : Ideal.div (x : EReal) (y : EReal) = ((x / y : ℝ) : EReal) := by
  rw [Ideal.div_coe h, ← EReal.coe_mul]; congr 1; ring

/-- One over the root of a positive real number. -/
theorem rsqrt_real (x : ℝ) (h : 0 < x) : Ideal.rsqrt (x : EReal) = (((Real.sqrt x)⁻¹ : ℝ) : EReal) := by
  rw [Ideal.rsqrt_coe, if_neg (not_lt.mpr h.le), if_neg h.ne']

section
variable {x0 : Vec Ideal S128x4096 .bf16} {p : Fin 128 → Fin 4096 → ℝ}

/-- The activations. -/
theorem pay15_apply (hp : ∀ r k, x0 (ix2 r k) = (p r k : EReal)) (r : Fin 128) (k : Fin 4096) :
    k0_pay15 (F := Ideal) x0 (ix2 r k) = (gelu (p r k) : EReal) := by
  pointwise [k0_pay15, k0_pay13]
  rw [hp, c_inv_sqrt2]
  simp only [Ideal.erf_def, c_half, ← EReal.coe_mul, erf_coe, ← EReal.coe_one, ← EReal.coe_add]
  rfl

/-- The gate. -/
theorem pay16_apply (hp : ∀ r k, x0 (ix2 r k) = (p r k : EReal)) (r : Fin 128) (k : Fin 2048) :
    k0_pay16 (F := Ideal) x0 (ix2 r k) = (U (p r) k : EReal) := by
  pointwise [k0_pay16]
  rw [pay15_apply hp]
  rfl

/-- The rows that the layer norm takes, less their means. -/
theorem pay17_apply (hp : ∀ r k, x0 (ix2 r k) = (p r k : EReal)) (r : Fin 128) (k : Fin 2048) :
    k0_pay17 (F := Ideal) x0 (ix2 r k) = (xc (p r) k : EReal) := by
  pointwise [k0_pay17]
  simp only [pay15_apply hp, c_2048]
  rw [← coe_sum, div_real _ _ (by norm_num), ← EReal.coe_sub]
  rfl

/-- The variances. -/
theorem pay18_apply (hp : ∀ r k, x0 (ix2 r k) = (p r k : EReal)) (r : Fin 128) (k : Fin 1) :
    k0_pay18 (F := Ideal) x0 (ix2 r k) = (var (p r) : EReal) := by
  pointwise [k0_pay18]
  simp only [pay17_apply hp, c_2048, ← EReal.coe_mul]
  rw [← coe_sum, div_real _ _ (by norm_num)]
  rfl

/-- One over the standard deviations. -/
theorem pay20_apply (hp : ∀ r k, x0 (ix2 r k) = (p r k : EReal)) (r : Fin 128) (k : Fin 1) :
    k0_pay20 (F := Ideal) (k0_pay18 x0) k0_pay19 (ix2 r k) = (rstd (p r) : EReal) := by
  pointwise [k0_pay20, k0_pay19]
  simp only [pay18_apply hp, c_eps, ← EReal.coe_add, Ideal.rsqrt_def]
  rw [rsqrt_real _ (var_eps_pos _)]
  rfl

/-- The normalised rows. -/
theorem pay21_apply (hp : ∀ r k, x0 (ix2 r k) = (p r k : EReal)) (r : Fin 128) (k : Fin 2048) :
    k0_pay21 (F := Ideal) (k0_pay17 x0) (k0_pay18 x0) k0_pay19 (ix2 r k) = (vh (p r) k : EReal) := by
  pointwise [k0_pay21]
  simp only [pay17_apply hp, pay20_apply hp, ← EReal.coe_mul]
  rfl

/-- The layer norm. -/
theorem pay22_apply (a : Params) {x2 x3 : Vec Ideal S1x2048 .f32} (hp : ∀ r k, x0 (ix2 r k) = (p r k : EReal))
    (h2 : ∀ k, x2 (ix2 0 k) = (a.lg k : EReal)) (h3 : ∀ k, x3 (ix2 0 k) = (a.lb k : EReal)) (r : Fin 128) (k : Fin 2048) :
    k0_pay22 (F := Ideal) (k0_pay10 x2) (k0_pay11 x3) (k0_pay17 x0) (k0_pay18 x0) k0_pay19 (ix2 r k)
      = (vn (p r) a k : EReal) := by
  pointwise [k0_pay22, k0_pay10, k0_pay11]
  simp only [pay21_apply hp, h2, h3, ← EReal.coe_mul, ← EReal.coe_add]
  rfl

/-- The gradient of the activation on a row of lanes, times a cotangent. -/
theorem pay1_apply (hp : ∀ r k, x0 (ix2 r k) = (p r k : EReal)) {yv yu : FVec Ideal S128x2048 .f32}
    {dv du : Fin 128 → Fin 2048 → ℝ} (hv : ∀ r k, yv (ix2 r k) = (dv r k : EReal))
    (hu : ∀ r k, yu (ix2 r k) = (du r k : EReal)) (r : Fin 128) (k : Fin 4096) :
    k0_pay1 (F := Ideal) (k0_pay13 x0) yv yu (ix2 r k)
      = (((if h : k.val < 2048 then du r ⟨k, h⟩ else dv r ⟨k - 2048, by omega⟩) * geluD (p r k) : ℝ) : EReal) := by
  pointwise [k0_pay1, k0_pay13]
  simp only [hp, hv, hu, c_inv_sqrt2, c_inv_sqrt2pi, c_half, c_neg_half, Ideal.erf_def, Ideal.exp_def, Ideal.exp_coe, ← EReal.coe_mul, erf_coe,
    ← EReal.coe_one, ← EReal.coe_add]
  split <;> rw [← EReal.coe_mul] <;> rfl

end

end Cert.Sgu
-- ==== Proof.Sgu.Groups.lean ====
/-
What the body computes in one of its eight groups of 256 lanes.  The body writes the groups out one after another; here
the computation is written once, at a group's first lane `o` and its number `g`.
-/
module

public import proofs.«01_k».proof.Proof.Sgu.Rows

@[expose] public section

set_option maxRecDepth 16384

noncomputable section

namespace Cert.Sgu

open Cert.KernelIdeal Cert.KernelIdeal.Gen Idealize.ShloMosaic

section Defs
variable (o g : Nat) (ho : S128x2048.Slices ![0, o] S128x256) (hg : S128x8.Slices ![0, g] S128x1)
  (l : Vec Ideal S1x128x128 .f32) (dm u : FVec Ideal S128x2048 .f32) (y : FVec Ideal S128x2048 .bf16)
  (b : FVec Ideal S128x8 .f32) (acc : Vec Ideal S1x128x128 .f32)

/-- A group's mixing matrix, its upper triangle zeroed. -/
def wmG : FVec Ideal S128x128 .bf16 :=
  truncf .bf16 (select k0_pay9 (shapeCast S128x128 l shapeCasts_S1x128x128_S128x128)
    (broadcast S128x128 (Scalar.ofBits .f32 0x00000000#32))) bitsLt_bf16_f32

/-- A group's cotangent of the mixed rows. -/
def dvsG : FVec Ideal S128x256 .f32 :=
  mulf (extractStridedSlice S128x256 ![0, o] dm ho) (extractStridedSlice S128x256 ![0, o] u ho)

/-- A group's cotangent of the gate. -/
def duG : FVec Ideal S128x256 .f32 :=
  mulf (extractStridedSlice S128x256 ![0, o] dm ho)
    (addf (matmul dot_S128x128_S128x256_S128x256_1_0_0_1_n_n none (wmG l)
        (extractStridedSlice S128x256 ![0, o] y ho) (constant S128x256 .f32 0x00000000#32))
      (broadcastTo S128x256 (extractStridedSlice S128x1 ![0, g] b hg) broadcasts_S128x1_S128x256))

/-- A group's column of the gradient of the mixing biases. -/
def dbG : FVec Ideal S128x1 .f32 :=
  shapeCast S128x1 (multiReduction .add [1] S128 (dvsG o ho dm u) 0x00000000#32 reduces_S128x256_S128 (.inl rfl) rfl)
    shapeCasts_S128_S128x1

/-- A group's gradient of its mixing matrix, added to what is held. -/
def dwsG : FVec Ideal S1x128x128 .f32 :=
  shapeCast S1x128x128 (addf (shapeCast S128x128 acc shapeCasts_S1x128x128_S128x128)
    (select k0_pay9 (matmul dot_S128x256_S128x256_S128x128_1_1_0_0_n_n none
        (truncf .bf16 (dvsG o ho dm u) bitsLt_bf16_f32) (extractStridedSlice S128x256 ![0, o] y ho)
        (constant S128x128 .f32 0x00000000#32))
      (broadcast S128x128 (Scalar.ofBits .f32 0x00000000#32)))) shapeCasts_S128x128_S1x128x128

/-- A group's cotangent of the layer norm's output. -/
def dvnG : FVec Ideal S128x256 .f32 :=
  matmul dot_S128x128_S128x256_S128x256_0_0_1_1_n_n none (wmG l)
    (truncf .bf16 (dvsG o ho dm u) bitsLt_bf16_f32) (constant S128x256 .f32 0x00000000#32)

end Defs

section
variable {a : Params} {p : Fin 128 → Fin 4096 → ℝ} {dm : Fin 128 → Fin 2048 → ℝ}
  {o n : Nat} {ho : S128x2048.Slices ![0, o] S128x256} {hg : S128x8.Slices ![0, n] S128x1}
  {l acc : Vec Ideal S1x128x128 .f32} {xm xu : FVec Ideal S128x2048 .f32} {y : FVec Ideal S128x2048 .bf16}
  {b : FVec Ideal S128x8 .f32} (g : Fin 8)

/-- The mask of the lower triangle at an index. -/
theorem pay9_apply (t s : Fin 128) : k0_pay9 (ix2 t s) = BitVec.ofBool (decide (s ≤ t)) := by
  pointwise [k0_pay9]
  revert t s; decide +kernel

/-- A mixing matrix with its upper triangle zeroed, at an index. -/
theorem wmG_apply (hl : ∀ t s, l (ix3 0 t s) = (a.w g t s : EReal)) (t s : Fin 128) :
    wmG l (ix2 t s) = (wm a g t s : EReal) := by
  pointwise [wmG, pay9_apply]
  rw [hl]
  unfold wm
  by_cases h : s ≤ t <;> simp [h]

/-- The cotangent of the mixed rows on a group. -/
theorem dvsG_apply (hm : ∀ r k, xm (ix2 r k) = (dm r k : EReal)) (hu : ∀ r k, xu (ix2 r k) = (U (p r) k : EReal))
    (e : o = 256 * g.val) (t : Fin 128) (d : Fin 256) :
    dvsG o ho xm xu (ix2 t d) = (dvs p dm t (lane g d) : EReal) := by
  subst e
  pointwise [dvsG]
  rw [hm, hu, ← EReal.coe_mul]
  rfl

/-- A group's column of the gradient of the mixing biases. -/
theorem dbG_apply (hm : ∀ r k, xm (ix2 r k) = (dm r k : EReal)) (hu : ∀ r k, xu (ix2 r k) = (U (p r) k : EReal))
    (e : o = 256 * g.val) (t : Fin 128) (d : Fin 1) :
    dbG o ho xm xu (ix2 t d) = (dbsB p dm t g : EReal) := by
  pointwise [dbG]
  simp only [dvsG_apply g hm hu e]
  rw [← coe_sum]
  rfl

/-- The cotangent of the layer norm's output on a group. -/
theorem dvnG_apply (hl : ∀ t s, l (ix3 0 t s) = (a.w g t s : EReal)) (hm : ∀ r k, xm (ix2 r k) = (dm r k : EReal)) (hu : ∀ r k, xu (ix2 r k) = (U (p r) k : EReal))
    (e : o = 256 * g.val) (t : Fin 128) (d : Fin 256) :
    dvnG o ho l xm xu (ix2 t d) = (dvn a p dm t (lane g d) : EReal) := by
  pointwise [dvnG]
  simp only [dvsG_apply g hm hu e, wmG_apply g hl, ← EReal.coe_mul]
  rw [← coe_sum]
  unfold dvn
  rw [grp_lane]

/-- The cotangent of the gate on a group. -/
theorem duG_apply (hl : ∀ t s, l (ix3 0 t s) = (a.w g t s : EReal)) (hm : ∀ r k, xm (ix2 r k) = (dm r k : EReal))
    (hy : ∀ r k, y (ix2 r k) = (vn (p r) a k : EReal)) (hb : ∀ t g, b (ix2 t g) = (a.bs t g : EReal))
    (e : o = 256 * g.val) (e' : n = g.val) (t : Fin 128) (d : Fin 256) :
    duG o n ho hg l xm y b (ix2 t d) = (du a p dm t (lane g d) : EReal) := by
  subst e e'
  pointwise [duG]
  simp only [wmG_apply g hl, hm, hy, hb, ← EReal.coe_mul]
  rw [← coe_sum, ← EReal.coe_add, ← EReal.coe_mul]
  unfold du vs
  rw [grp_lane]
  rfl

/-- What is held plus the gradient of the mixing matrix of a group. -/
theorem dwsG_apply {f : Fin 128 → Fin 128 → ℝ} (hm : ∀ r k, xm (ix2 r k) = (dm r k : EReal)) (hu : ∀ r k, xu (ix2 r k) = (U (p r) k : EReal))
    (hy : ∀ r k, y (ix2 r k) = (vn (p r) a k : EReal)) (hacc : ∀ t s, acc (ix3 0 t s) = (f t s : EReal))
    (e : o = 256 * g.val) (i : Fin 1) (t s : Fin 128) :
    dwsG o ho xm xu y acc (ix3 i t s) = ((f t s + dwsB a p dm g t s : ℝ) : EReal) := by
  pointwise [dwsG, pay9_apply]
  simp only [dvsG_apply g hm hu e]
  subst e
  simp only [hy, hacc, ← EReal.coe_mul, ← coe_sum]
  unfold dwsB
  by_cases h : s ≤ t
  · simp [h]; rfl
  · simp [h]

end

end Cert.Sgu
-- ==== Proof.Sgu.Block.lean ====
/-
What the body computes of a whole block: the eight groups put together, the gradient of the layer norm, and what is
stored and added to the accumulators.
-/
module

public import proofs.«01_k».proof.Proof.Sgu.Groups

@[expose] public section

set_option maxRecDepth 16384

noncomputable section

namespace Cert.Sgu

open Cert.KernelIdeal Cert.KernelIdeal.Gen Idealize.ShloMosaic

/-! ## The vectors of a block -/

section Defs
variable (x0 : Vec Ideal S128x4096 .bf16) (x1 : Vec Ideal S128x2048 .bf16) (x2 x3 : Vec Ideal S1x2048 .f32)
  (x4 : Vec Ideal S8x128x128 .f32) (x5 : Vec Ideal S128x8 .f32)

/-- The cotangent of the gate on a block. -/
def duV : FVec Ideal S128x2048 .f32 :=
  k0_pay95
    (k0_pay25 k0_pay9 (k0_pay10 x2) (k0_pay11 x3) (k0_pay12 x5) (k0_pay14 x1) (k0_pay17 x0) (k0_pay18 x0) k0_pay19 (View.ld x4 (Rect.unit ![0, 0, 0] ![1, 128, 128] inb_S8x128x128_S1x128x128_0_0_0)))
    (k0_pay35 k0_pay9 (k0_pay12 x5) (k0_pay14 x1) (k0_pay22 (k0_pay10 x2) (k0_pay11 x3) (k0_pay17 x0) (k0_pay18 x0) k0_pay19) (k0_pay31 (View.ld x4 (Rect.unit ![1, 0, 0] ![1, 128, 128] inb_S8x128x128_S1x128x128_1_0_0))) k0_pay32)
    (k0_pay43 k0_pay9 (k0_pay12 x5) (k0_pay14 x1) (k0_pay22 (k0_pay10 x2) (k0_pay11 x3) (k0_pay17 x0) (k0_pay18 x0) k0_pay19) (View.ld x4 (Rect.unit ![2, 0, 0] ![1, 128, 128] inb_S8x128x128_S1x128x128_2_0_0)))
    (k0_pay51 k0_pay9 (k0_pay12 x5) (k0_pay14 x1) (k0_pay22 (k0_pay10 x2) (k0_pay11 x3) (k0_pay17 x0) (k0_pay18 x0) k0_pay19) (View.ld x4 (Rect.unit ![3, 0, 0] ![1, 128, 128] inb_S8x128x128_S1x128x128_3_0_0)))
    (k0_pay60 k0_pay9 (k0_pay12 x5) (k0_pay14 x1) (k0_pay22 (k0_pay10 x2) (k0_pay11 x3) (k0_pay17 x0) (k0_pay18 x0) k0_pay19) (View.ld x4 (Rect.unit ![4, 0, 0] ![1, 128, 128] inb_S8x128x128_S1x128x128_4_0_0)))
    (k0_pay69 (k0_pay12 x5) (k0_pay14 x1) (k0_pay66 k0_pay9 (View.ld x4 (Rect.unit ![5, 0, 0] ![1, 128, 128] inb_S8x128x128_S1x128x128_5_0_0))) (k0_pay67 (k0_pay22 (k0_pay10 x2) (k0_pay11 x3) (k0_pay17 x0) (k0_pay18 x0) k0_pay19)) (constant S128x256 .f32 0#32))
    (k0_pay77 k0_pay9 (k0_pay12 x5) (k0_pay14 x1) (k0_pay22 (k0_pay10 x2) (k0_pay11 x3) (k0_pay17 x0) (k0_pay18 x0) k0_pay19) (View.ld x4 (Rect.unit ![6, 0, 0] ![1, 128, 128] inb_S8x128x128_S1x128x128_6_0_0)))
    (k0_pay85 k0_pay9 (k0_pay12 x5) (k0_pay14 x1) (k0_pay22 (k0_pay10 x2) (k0_pay11 x3) (k0_pay17 x0) (k0_pay18 x0) k0_pay19) (View.ld x4 (Rect.unit ![7, 0, 0] ![1, 128, 128] inb_S8x128x128_S1x128x128_7_0_0)))

/-- The cotangent of the layer norm's output on a block. -/
def dvnV : FVec Ideal S128x2048 .f32 :=
  k0_pay91
    (k0_pay30 k0_pay9 (k0_pay14 x1) (k0_pay16 x0) (View.ld x4 (Rect.unit ![0, 0, 0] ![1, 128, 128] inb_S8x128x128_S1x128x128_0_0_0)))
    (k0_pay40 k0_pay9 (k0_pay14 x1) (k0_pay16 x0) (k0_pay31 (View.ld x4 (Rect.unit ![1, 0, 0] ![1, 128, 128] inb_S8x128x128_S1x128x128_1_0_0))) k0_pay32)
    (k0_pay48 (k0_pay41 k0_pay9 (View.ld x4 (Rect.unit ![2, 0, 0] ![1, 128, 128] inb_S8x128x128_S1x128x128_2_0_0))) (k0_pay46 (k0_pay14 x1) (k0_pay16 x0)))
    (k0_pay57 (k0_pay49 k0_pay9 (View.ld x4 (Rect.unit ![3, 0, 0] ![1, 128, 128] inb_S8x128x128_S1x128x128_3_0_0))) (k0_pay54 (k0_pay14 x1) (k0_pay16 x0)))
    (k0_pay65 k0_pay9 (k0_pay14 x1) (k0_pay16 x0) (View.ld x4 (Rect.unit ![4, 0, 0] ![1, 128, 128] inb_S8x128x128_S1x128x128_4_0_0)))
    (k0_pay74 (k0_pay14 x1) (k0_pay16 x0) (k0_pay66 k0_pay9 (View.ld x4 (Rect.unit ![5, 0, 0] ![1, 128, 128] inb_S8x128x128_S1x128x128_5_0_0))))
    (k0_pay82 (k0_pay75 k0_pay9 (View.ld x4 (Rect.unit ![6, 0, 0] ![1, 128, 128] inb_S8x128x128_S1x128x128_6_0_0))) (k0_pay80 (k0_pay14 x1) (k0_pay16 x0)))
    (k0_pay83 k0_pay9 (View.ld x4 (Rect.unit ![7, 0, 0] ![1, 128, 128] inb_S8x128x128_S1x128x128_7_0_0))) (k0_pay88 (k0_pay14 x1) (k0_pay16 x0)) (constant S128x256 .f32 0#32)

/-- The cotangent of the layer norm's input on a block. -/
def dvV : FVec Ideal S128x2048 .f32 :=
  k0_pay94 (k0_pay10 x2) (k0_pay20 (k0_pay18 x0) k0_pay19) (k0_pay21 (k0_pay17 x0) (k0_pay18 x0) k0_pay19)
    (k0_pay30 k0_pay9 (k0_pay14 x1) (k0_pay16 x0) (View.ld x4 (Rect.unit ![0, 0, 0] ![1, 128, 128] inb_S8x128x128_S1x128x128_0_0_0)))
    (k0_pay40 k0_pay9 (k0_pay14 x1) (k0_pay16 x0) (k0_pay31 (View.ld x4 (Rect.unit ![1, 0, 0] ![1, 128, 128] inb_S8x128x128_S1x128x128_1_0_0))) k0_pay32)
    (k0_pay48 (k0_pay41 k0_pay9 (View.ld x4 (Rect.unit ![2, 0, 0] ![1, 128, 128] inb_S8x128x128_S1x128x128_2_0_0))) (k0_pay46 (k0_pay14 x1) (k0_pay16 x0)))
    (k0_pay57 (k0_pay49 k0_pay9 (View.ld x4 (Rect.unit ![3, 0, 0] ![1, 128, 128] inb_S8x128x128_S1x128x128_3_0_0))) (k0_pay54 (k0_pay14 x1) (k0_pay16 x0)))
    (k0_pay65 k0_pay9 (k0_pay14 x1) (k0_pay16 x0) (View.ld x4 (Rect.unit ![4, 0, 0] ![1, 128, 128] inb_S8x128x128_S1x128x128_4_0_0)))
    (k0_pay74 (k0_pay14 x1) (k0_pay16 x0) (k0_pay66 k0_pay9 (View.ld x4 (Rect.unit ![5, 0, 0] ![1, 128, 128] inb_S8x128x128_S1x128x128_5_0_0))))
    (k0_pay82 (k0_pay75 k0_pay9 (View.ld x4 (Rect.unit ![6, 0, 0] ![1, 128, 128] inb_S8x128x128_S1x128x128_6_0_0))) (k0_pay80 (k0_pay14 x1) (k0_pay16 x0)))
    (k0_pay83 k0_pay9 (View.ld x4 (Rect.unit ![7, 0, 0] ![1, 128, 128] inb_S8x128x128_S1x128x128_7_0_0))) (k0_pay88 (k0_pay14 x1) (k0_pay16 x0)) (constant S128x256 .f32 0#32)

/-- What is stored as the gradient of the pre-activation. -/
def dpV : FVec Ideal S128x4096 .bf16 := k0_pay2 (k0_pay13 x0) (dvV x0 x1 x2 x4) (duV x0 x1 x2 x3 x4 x5)

/-- What is stored as the gradient of the projection's bias, over what was held. -/
def dbinV (acc : Vec Ideal S1x4096 .f32) : FVec Ideal S1x4096 .f32 :=
  k0_pay3 (k0_pay13 x0) (dvV x0 x1 x2 x4) (duV x0 x1 x2 x3 x4 x5) acc

/-- What is stored as the gradient of the layer norm's gain, over what was held. -/
def dlgV (acc : Vec Ideal S1x2048 .f32) : FVec Ideal S1x2048 .f32 :=
  k0_pay93 (k0_pay21 (k0_pay17 x0) (k0_pay18 x0) k0_pay19)
    (k0_pay30 k0_pay9 (k0_pay14 x1) (k0_pay16 x0) (View.ld x4 (Rect.unit ![0, 0, 0] ![1, 128, 128] inb_S8x128x128_S1x128x128_0_0_0)))
    (k0_pay40 k0_pay9 (k0_pay14 x1) (k0_pay16 x0) (k0_pay31 (View.ld x4 (Rect.unit ![1, 0, 0] ![1, 128, 128] inb_S8x128x128_S1x128x128_1_0_0))) k0_pay32)
    (k0_pay48 (k0_pay41 k0_pay9 (View.ld x4 (Rect.unit ![2, 0, 0] ![1, 128, 128] inb_S8x128x128_S1x128x128_2_0_0))) (k0_pay46 (k0_pay14 x1) (k0_pay16 x0)))
    (k0_pay57 (k0_pay49 k0_pay9 (View.ld x4 (Rect.unit ![3, 0, 0] ![1, 128, 128] inb_S8x128x128_S1x128x128_3_0_0))) (k0_pay54 (k0_pay14 x1) (k0_pay16 x0)))
    (k0_pay65 k0_pay9 (k0_pay14 x1) (k0_pay16 x0) (View.ld x4 (Rect.unit ![4, 0, 0] ![1, 128, 128] inb_S8x128x128_S1x128x128_4_0_0)))
    (k0_pay74 (k0_pay14 x1) (k0_pay16 x0) (k0_pay66 k0_pay9 (View.ld x4 (Rect.unit ![5, 0, 0] ![1, 128, 128] inb_S8x128x128_S1x128x128_5_0_0))))
    (k0_pay82 (k0_pay75 k0_pay9 (View.ld x4 (Rect.unit ![6, 0, 0] ![1, 128, 128] inb_S8x128x128_S1x128x128_6_0_0))) (k0_pay80 (k0_pay14 x1) (k0_pay16 x0)))
    (k0_pay83 k0_pay9 (View.ld x4 (Rect.unit ![7, 0, 0] ![1, 128, 128] inb_S8x128x128_S1x128x128_7_0_0))) (k0_pay88 (k0_pay14 x1) (k0_pay16 x0)) (constant S128x256 .f32 0#32) acc

/-- What is stored as the gradient of the layer norm's bias, over what was held. -/
def dlbV (acc : Vec Ideal S1x2048 .f32) : FVec Ideal S1x2048 .f32 :=
  k0_pay92
    (k0_pay30 k0_pay9 (k0_pay14 x1) (k0_pay16 x0) (View.ld x4 (Rect.unit ![0, 0, 0] ![1, 128, 128] inb_S8x128x128_S1x128x128_0_0_0)))
    (k0_pay40 k0_pay9 (k0_pay14 x1) (k0_pay16 x0) (k0_pay31 (View.ld x4 (Rect.unit ![1, 0, 0] ![1, 128, 128] inb_S8x128x128_S1x128x128_1_0_0))) k0_pay32)
    (k0_pay48 (k0_pay41 k0_pay9 (View.ld x4 (Rect.unit ![2, 0, 0] ![1, 128, 128] inb_S8x128x128_S1x128x128_2_0_0))) (k0_pay46 (k0_pay14 x1) (k0_pay16 x0)))
    (k0_pay57 (k0_pay49 k0_pay9 (View.ld x4 (Rect.unit ![3, 0, 0] ![1, 128, 128] inb_S8x128x128_S1x128x128_3_0_0))) (k0_pay54 (k0_pay14 x1) (k0_pay16 x0)))
    (k0_pay65 k0_pay9 (k0_pay14 x1) (k0_pay16 x0) (View.ld x4 (Rect.unit ![4, 0, 0] ![1, 128, 128] inb_S8x128x128_S1x128x128_4_0_0)))
    (k0_pay74 (k0_pay14 x1) (k0_pay16 x0) (k0_pay66 k0_pay9 (View.ld x4 (Rect.unit ![5, 0, 0] ![1, 128, 128] inb_S8x128x128_S1x128x128_5_0_0))))
    (k0_pay82 (k0_pay75 k0_pay9 (View.ld x4 (Rect.unit ![6, 0, 0] ![1, 128, 128] inb_S8x128x128_S1x128x128_6_0_0))) (k0_pay80 (k0_pay14 x1) (k0_pay16 x0)))
    (k0_pay83 k0_pay9 (View.ld x4 (Rect.unit ![7, 0, 0] ![1, 128, 128] inb_S8x128x128_S1x128x128_7_0_0))) (k0_pay88 (k0_pay14 x1) (k0_pay16 x0)) (constant S128x256 .f32 0#32) acc

/-- What is stored as the gradient of the mixing biases, over what was held. -/
def dbsV (acc : Vec Ideal S128x8 .f32) : FVec Ideal S128x8 .f32 :=
  k0_pay90
    (k0_pay27 (k0_pay14 x1) (k0_pay16 x0))
    (k0_pay37 (k0_pay14 x1) (k0_pay16 x0))
    (k0_pay45 (k0_pay14 x1) (k0_pay16 x0))
    (k0_pay53 (k0_pay14 x1) (k0_pay16 x0))
    (k0_pay62 (k0_pay14 x1) (k0_pay16 x0))
    (k0_pay71 (k0_pay14 x1) (k0_pay16 x0))
    (k0_pay79 (k0_pay14 x1) (k0_pay16 x0))
    (k0_pay87 (k0_pay14 x1) (k0_pay16 x0)) acc

end Defs

/-! ## The groups side by side -/

/-- Eight groups of lanes side by side, at an index. -/
theorem cat_apply (v : Fin 8 → FVec Ideal S128x256 .f32) (f : Fin 128 → Fin 2048 → ℝ)
    (h : ∀ g t d, v g (ix2 t d) = (f t (lane g d) : EReal)) (t : Fin 128) (k : Fin 2048) :
    k0_pay95 (F := Ideal) (v 0) (v 1) (v 2) (v 3) (v 4) (v 5) (v 6) (v 7) (ix2 t k) = (f t k : EReal) := by
  obtain ⟨g, d, rfl⟩ : ∃ g d, k = lane g d := ⟨grp k, _, (lane_grp k).symm⟩
  rw [← h]
  pointwise [k0_pay95]
  have hd := d.isLt
  fin_vals g with hg
  all_goals
    have hl : (lane g d).val = 256 * g.val + d.val := rfl
    simp only [hl, hg]
    repeat (first | rw [dif_pos (by omega)] | rw [dif_neg (by omega)])
    congr 1
    · apply Fin.ext; rw [hg]; rfl
    · congr 1; apply Fin.ext; simp only []; omega

/-- Eight columns side by side, at an index. -/
theorem col_apply (v : Fin 8 → FVec Ideal S128x1 .f32) (acc : Vec Ideal S128x8 .f32) (f e : Fin 128 → Fin 8 → ℝ)
    (h : ∀ g t, v g (ix2 t 0) = (f t g : EReal)) (ha : ∀ t g, acc (ix2 t g) = (e t g : EReal)) (t : Fin 128) (g : Fin 8) :
    k0_pay90 (F := Ideal) (v 0) (v 1) (v 2) (v 3) (v 4) (v 5) (v 6) (v 7) acc (ix2 t g)
      = ((e t g + f t g : ℝ) : EReal) := by
  rw [EReal.coe_add, ← h, ← ha]
  pointwise [k0_pay90]
  congr 1
  fin_vals g with hg
  all_goals
    simp only [hg]
    repeat (first | rw [dif_pos (by omega)] | rw [dif_neg (by omega)])
    congr 1
    apply Fin.ext; rw [hg]; rfl

section
variable {x0 : Vec Ideal S128x4096 .bf16} {x1 : Vec Ideal S128x2048 .bf16} {x2 x3 : Vec Ideal S1x2048 .f32}
  {x4 : Vec Ideal S8x128x128 .f32} {x5 : Vec Ideal S128x8 .f32} {a : Params} {p : Fin 128 → Fin 4096 → ℝ} {dm : Fin 128 → Fin 2048 → ℝ}

/-- The cotangent of the unit's output. -/
theorem pay14_apply (hm : ∀ r k, x1 (ix2 r k) = (dm r k : EReal)) (r : Fin 128) (k : Fin 2048) :
    k0_pay14 (F := Ideal) x1 (ix2 r k) = (dm r k : EReal) := by
  pointwise [k0_pay14]
  exact hm r k

/-- The mixing biases. -/
theorem pay12_apply (h5 : ∀ t g, x5 (ix2 t g) = (a.bs t g : EReal)) (t : Fin 128) (g : Fin 8) :
    k0_pay12 (F := Ideal) x5 (ix2 t g) = (a.bs t g : EReal) := by
  pointwise [k0_pay12]
  exact h5 t g

/-- One of eight matrices, as the body loads it. -/
theorem ld_apply {x : Vec Ideal S8x128x128 .f32} {f : Fin 8 → Fin 128 → Fin 128 → ℝ}
    (h : ∀ g t s, x (ix3 g t s) = (f g t s : EReal)) (g : Fin 8)
    (inb : ∀ a, (![g.val, 0, 0] : Fin 3 → Nat) a + S1x128x128.size a ≤ S8x128x128.size a) (t s : Fin 128) :
    (View.ld x (Rect.unit ![g.val, 0, 0] ![1, 128, 128] inb) : Vec Ideal S1x128x128 .f32) (ix3 0 t s)
      = (f g t s : EReal) := by
  pointwise []
  rw [← h g t s]

/-- The cotangent of the gate, group by group. -/
theorem duV_apply (hp : ∀ r k, x0 (ix2 r k) = (p r k : EReal)) (hm : ∀ r k, x1 (ix2 r k) = (dm r k : EReal))
    (h2 : ∀ k, x2 (ix2 0 k) = (a.lg k : EReal)) (h3 : ∀ k, x3 (ix2 0 k) = (a.lb k : EReal))
    (h4 : ∀ g t s, x4 (ix3 g t s) = (a.w g t s : EReal)) (h5 : ∀ t g, x5 (ix2 t g) = (a.bs t g : EReal))
    (t : Fin 128) (k : Fin 2048) : duV x0 x1 x2 x3 x4 x5 (ix2 t k) = (du a p dm t k : EReal) := by
  refine cat_apply ![
    duG 0 0 slices_S128x2048_o0_0_S128x256 slices_S128x8_o0_0_S128x1 (View.ld x4 (Rect.unit ![0, 0, 0] ![1, 128, 128] inb_S8x128x128_S1x128x128_0_0_0)) (k0_pay14 x1) (k0_pay22 (k0_pay10 x2) (k0_pay11 x3) (k0_pay17 x0) (k0_pay18 x0) k0_pay19) (k0_pay12 x5),
    duG 256 1 slices_S128x2048_o0_256_S128x256 slices_S128x8_o0_1_S128x1 (View.ld x4 (Rect.unit ![1, 0, 0] ![1, 128, 128] inb_S8x128x128_S1x128x128_1_0_0)) (k0_pay14 x1) (k0_pay22 (k0_pay10 x2) (k0_pay11 x3) (k0_pay17 x0) (k0_pay18 x0) k0_pay19) (k0_pay12 x5),
    duG 512 2 slices_S128x2048_o0_512_S128x256 slices_S128x8_o0_2_S128x1 (View.ld x4 (Rect.unit ![2, 0, 0] ![1, 128, 128] inb_S8x128x128_S1x128x128_2_0_0)) (k0_pay14 x1) (k0_pay22 (k0_pay10 x2) (k0_pay11 x3) (k0_pay17 x0) (k0_pay18 x0) k0_pay19) (k0_pay12 x5),
    duG 768 3 slices_S128x2048_o0_768_S128x256 slices_S128x8_o0_3_S128x1 (View.ld x4 (Rect.unit ![3, 0, 0] ![1, 128, 128] inb_S8x128x128_S1x128x128_3_0_0)) (k0_pay14 x1) (k0_pay22 (k0_pay10 x2) (k0_pay11 x3) (k0_pay17 x0) (k0_pay18 x0) k0_pay19) (k0_pay12 x5),
    duG 1024 4 slices_S128x2048_o0_1024_S128x256 slices_S128x8_o0_4_S128x1 (View.ld x4 (Rect.unit ![4, 0, 0] ![1, 128, 128] inb_S8x128x128_S1x128x128_4_0_0)) (k0_pay14 x1) (k0_pay22 (k0_pay10 x2) (k0_pay11 x3) (k0_pay17 x0) (k0_pay18 x0) k0_pay19) (k0_pay12 x5),
    duG 1280 5 slices_S128x2048_o0_1280_S128x256 slices_S128x8_o0_5_S128x1 (View.ld x4 (Rect.unit ![5, 0, 0] ![1, 128, 128] inb_S8x128x128_S1x128x128_5_0_0)) (k0_pay14 x1) (k0_pay22 (k0_pay10 x2) (k0_pay11 x3) (k0_pay17 x0) (k0_pay18 x0) k0_pay19) (k0_pay12 x5),
    duG 1536 6 slices_S128x2048_o0_1536_S128x256 slices_S128x8_o0_6_S128x1 (View.ld x4 (Rect.unit ![6, 0, 0] ![1, 128, 128] inb_S8x128x128_S1x128x128_6_0_0)) (k0_pay14 x1) (k0_pay22 (k0_pay10 x2) (k0_pay11 x3) (k0_pay17 x0) (k0_pay18 x0) k0_pay19) (k0_pay12 x5),
    duG 1792 7 slices_S128x2048_o0_1792_S128x256 slices_S128x8_o0_7_S128x1 (View.ld x4 (Rect.unit ![7, 0, 0] ![1, 128, 128] inb_S8x128x128_S1x128x128_7_0_0)) (k0_pay14 x1) (k0_pay22 (k0_pay10 x2) (k0_pay11 x3) (k0_pay17 x0) (k0_pay18 x0) k0_pay19) (k0_pay12 x5)] _ ?_ t k
  intro g
  fin_cases g <;> intro t d
  · exact duG_apply 0 (ld_apply h4 0 _) (pay14_apply hm) (pay22_apply a hp h2 h3) (pay12_apply h5) rfl rfl t d
  · exact duG_apply 1 (ld_apply h4 1 _) (pay14_apply hm) (pay22_apply a hp h2 h3) (pay12_apply h5) rfl rfl t d
  · exact duG_apply 2 (ld_apply h4 2 _) (pay14_apply hm) (pay22_apply a hp h2 h3) (pay12_apply h5) rfl rfl t d
  · exact duG_apply 3 (ld_apply h4 3 _) (pay14_apply hm) (pay22_apply a hp h2 h3) (pay12_apply h5) rfl rfl t d
  · exact duG_apply 4 (ld_apply h4 4 _) (pay14_apply hm) (pay22_apply a hp h2 h3) (pay12_apply h5) rfl rfl t d
  · exact duG_apply 5 (ld_apply h4 5 _) (pay14_apply hm) (pay22_apply a hp h2 h3) (pay12_apply h5) rfl rfl t d
  · exact duG_apply 6 (ld_apply h4 6 _) (pay14_apply hm) (pay22_apply a hp h2 h3) (pay12_apply h5) rfl rfl t d
  · exact duG_apply 7 (ld_apply h4 7 _) (pay14_apply hm) (pay22_apply a hp h2 h3) (pay12_apply h5) rfl rfl t d

/-- The cotangent of the layer norm's output, group by group. -/
theorem dvnV_apply (hp : ∀ r k, x0 (ix2 r k) = (p r k : EReal)) (hm : ∀ r k, x1 (ix2 r k) = (dm r k : EReal))
    (h4 : ∀ g t s, x4 (ix3 g t s) = (a.w g t s : EReal))
    (t : Fin 128) (k : Fin 2048) : dvnV x0 x1 x4 (ix2 t k) = (dvn a p dm t k : EReal) := by
  refine cat_apply ![
    dvnG 0 slices_S128x2048_o0_0_S128x256 (View.ld x4 (Rect.unit ![0, 0, 0] ![1, 128, 128] inb_S8x128x128_S1x128x128_0_0_0)) (k0_pay14 x1) (k0_pay16 x0),
    dvnG 256 slices_S128x2048_o0_256_S128x256 (View.ld x4 (Rect.unit ![1, 0, 0] ![1, 128, 128] inb_S8x128x128_S1x128x128_1_0_0)) (k0_pay14 x1) (k0_pay16 x0),
    dvnG 512 slices_S128x2048_o0_512_S128x256 (View.ld x4 (Rect.unit ![2, 0, 0] ![1, 128, 128] inb_S8x128x128_S1x128x128_2_0_0)) (k0_pay14 x1) (k0_pay16 x0),
    dvnG 768 slices_S128x2048_o0_768_S128x256 (View.ld x4 (Rect.unit ![3, 0, 0] ![1, 128, 128] inb_S8x128x128_S1x128x128_3_0_0)) (k0_pay14 x1) (k0_pay16 x0),
    dvnG 1024 slices_S128x2048_o0_1024_S128x256 (View.ld x4 (Rect.unit ![4, 0, 0] ![1, 128, 128] inb_S8x128x128_S1x128x128_4_0_0)) (k0_pay14 x1) (k0_pay16 x0),
    dvnG 1280 slices_S128x2048_o0_1280_S128x256 (View.ld x4 (Rect.unit ![5, 0, 0] ![1, 128, 128] inb_S8x128x128_S1x128x128_5_0_0)) (k0_pay14 x1) (k0_pay16 x0),
    dvnG 1536 slices_S128x2048_o0_1536_S128x256 (View.ld x4 (Rect.unit ![6, 0, 0] ![1, 128, 128] inb_S8x128x128_S1x128x128_6_0_0)) (k0_pay14 x1) (k0_pay16 x0),
    dvnG 1792 slices_S128x2048_o0_1792_S128x256 (View.ld x4 (Rect.unit ![7, 0, 0] ![1, 128, 128] inb_S8x128x128_S1x128x128_7_0_0)) (k0_pay14 x1) (k0_pay16 x0)] _ ?_ t k
  intro g
  fin_cases g <;> intro t d
  · exact dvnG_apply 0 (ld_apply h4 0 _) (pay14_apply hm) (pay16_apply hp) rfl t d
  · exact dvnG_apply 1 (ld_apply h4 1 _) (pay14_apply hm) (pay16_apply hp) rfl t d
  · exact dvnG_apply 2 (ld_apply h4 2 _) (pay14_apply hm) (pay16_apply hp) rfl t d
  · exact dvnG_apply 3 (ld_apply h4 3 _) (pay14_apply hm) (pay16_apply hp) rfl t d
  · exact dvnG_apply 4 (ld_apply h4 4 _) (pay14_apply hm) (pay16_apply hp) rfl t d
  · exact dvnG_apply 5 (ld_apply h4 5 _) (pay14_apply hm) (pay16_apply hp) rfl t d
  · exact dvnG_apply 6 (ld_apply h4 6 _) (pay14_apply hm) (pay16_apply hp) rfl t d
  · exact dvnG_apply 7 (ld_apply h4 7 _) (pay14_apply hm) (pay16_apply hp) rfl t d

/-- What is stored as the gradient of the mixing biases. -/
theorem dbsV_apply {acc : Vec Ideal S128x8 .f32} {e : Fin 128 → Fin 8 → ℝ} (hp : ∀ r k, x0 (ix2 r k) = (p r k : EReal))
    (hm : ∀ r k, x1 (ix2 r k) = (dm r k : EReal)) (ha : ∀ t g, acc (ix2 t g) = (e t g : EReal))
    (t : Fin 128) (g : Fin 8) : dbsV x0 x1 acc (ix2 t g) = ((e t g + dbsB p dm t g : ℝ) : EReal) := by
  refine col_apply ![
    dbG 0 slices_S128x2048_o0_0_S128x256 (k0_pay14 x1) (k0_pay16 x0),
    dbG 256 slices_S128x2048_o0_256_S128x256 (k0_pay14 x1) (k0_pay16 x0),
    dbG 512 slices_S128x2048_o0_512_S128x256 (k0_pay14 x1) (k0_pay16 x0),
    dbG 768 slices_S128x2048_o0_768_S128x256 (k0_pay14 x1) (k0_pay16 x0),
    dbG 1024 slices_S128x2048_o0_1024_S128x256 (k0_pay14 x1) (k0_pay16 x0),
    dbG 1280 slices_S128x2048_o0_1280_S128x256 (k0_pay14 x1) (k0_pay16 x0),
    dbG 1536 slices_S128x2048_o0_1536_S128x256 (k0_pay14 x1) (k0_pay16 x0),
    dbG 1792 slices_S128x2048_o0_1792_S128x256 (k0_pay14 x1) (k0_pay16 x0)] _ _ _ ?_ ha t g
  intro g
  fin_cases g <;> intro t
  · exact dbG_apply 0 (pay14_apply hm) (pay16_apply hp) rfl t 0
  · exact dbG_apply 1 (pay14_apply hm) (pay16_apply hp) rfl t 0
  · exact dbG_apply 2 (pay14_apply hm) (pay16_apply hp) rfl t 0
  · exact dbG_apply 3 (pay14_apply hm) (pay16_apply hp) rfl t 0
  · exact dbG_apply 4 (pay14_apply hm) (pay16_apply hp) rfl t 0
  · exact dbG_apply 5 (pay14_apply hm) (pay16_apply hp) rfl t 0
  · exact dbG_apply 6 (pay14_apply hm) (pay16_apply hp) rfl t 0
  · exact dbG_apply 7 (pay14_apply hm) (pay16_apply hp) rfl t 0

/-- The cotangent of the layer norm's input. -/
theorem dvV_apply (hp : ∀ r k, x0 (ix2 r k) = (p r k : EReal)) (hm : ∀ r k, x1 (ix2 r k) = (dm r k : EReal))
    (h2 : ∀ k, x2 (ix2 0 k) = (a.lg k : EReal)) (h4 : ∀ g t s, x4 (ix3 g t s) = (a.w g t s : EReal))
    (t : Fin 128) (k : Fin 2048) : dvV x0 x1 x2 x4 (ix2 t k) = (dv a p dm t k : EReal) := by
  have hn := dvnV_apply (a := a) hp hm h4
  unfold dvnV at hn
  unfold dvV
  pointwise [k0_pay94, k0_pay10]
  simp only [hn, h2, pay20_apply hp, pay21_apply hp, c_2048, ← EReal.coe_mul]
  rw [← coe_sum, ← coe_sum, div_real _ _ (by norm_num), div_real _ _ (by norm_num), ← EReal.coe_sub, ← EReal.coe_mul,
    ← EReal.coe_sub, ← EReal.coe_mul]
  rfl

/-- What is stored as the gradient of the pre-activation. -/
theorem dpV_apply (hp : ∀ r k, x0 (ix2 r k) = (p r k : EReal)) (hm : ∀ r k, x1 (ix2 r k) = (dm r k : EReal))
    (h2 : ∀ k, x2 (ix2 0 k) = (a.lg k : EReal)) (h3 : ∀ k, x3 (ix2 0 k) = (a.lb k : EReal))
    (h4 : ∀ g t s, x4 (ix3 g t s) = (a.w g t s : EReal)) (h5 : ∀ t g, x5 (ix2 t g) = (a.bs t g : EReal))
    (t : Fin 128) (k : Fin 4096) : dpV x0 x1 x2 x3 x4 x5 (ix2 t k) = (dp a p dm t k : EReal) := by
  unfold dpV
  pointwise [k0_pay2]
  rw [pay1_apply hp (dvV_apply hp hm h2 h4) (duV_apply hp hm h2 h3 h4 h5)]
  rfl

/-- What is stored as the gradient of the projection's bias. -/
theorem dbinV_apply {acc : Vec Ideal S1x4096 .f32} {e : Fin 4096 → ℝ} (hp : ∀ r k, x0 (ix2 r k) = (p r k : EReal))
    (hm : ∀ r k, x1 (ix2 r k) = (dm r k : EReal))
    (h2 : ∀ k, x2 (ix2 0 k) = (a.lg k : EReal)) (h3 : ∀ k, x3 (ix2 0 k) = (a.lb k : EReal))
    (h4 : ∀ g t s, x4 (ix3 g t s) = (a.w g t s : EReal)) (h5 : ∀ t g, x5 (ix2 t g) = (a.bs t g : EReal))
    (ha : ∀ k, acc (ix2 0 k) = (e k : EReal)) (k : Fin 4096) :
    dbinV x0 x1 x2 x3 x4 x5 acc (ix2 0 k) = ((e k + dbinB a p dm k : ℝ) : EReal) := by
  unfold dbinV
  pointwise [k0_pay3]
  simp only [pay1_apply hp (dvV_apply hp hm h2 h4) (duV_apply hp hm h2 h3 h4 h5), ha]
  rw [← coe_sum, ← EReal.coe_add]
  rfl

/-- What is stored as the gradient of the layer norm's gain. -/
theorem dlgV_apply {acc : Vec Ideal S1x2048 .f32} {e : Fin 2048 → ℝ} (hp : ∀ r k, x0 (ix2 r k) = (p r k : EReal))
    (hm : ∀ r k, x1 (ix2 r k) = (dm r k : EReal)) (h4 : ∀ g t s, x4 (ix3 g t s) = (a.w g t s : EReal))
    (ha : ∀ k, acc (ix2 0 k) = (e k : EReal)) (k : Fin 2048) :
    dlgV x0 x1 x4 acc (ix2 0 k) = ((e k + dlgB a p dm k : ℝ) : EReal) := by
  have hn := dvnV_apply (a := a) hp hm h4
  unfold dvnV at hn
  unfold dlgV
  pointwise [k0_pay93]
  simp only [hn, pay21_apply hp, ha, ← EReal.coe_mul]
  rw [← coe_sum, ← EReal.coe_add]
  rfl

/-- What is stored as the gradient of the layer norm's bias. -/
theorem dlbV_apply {acc : Vec Ideal S1x2048 .f32} {e : Fin 2048 → ℝ} (hp : ∀ r k, x0 (ix2 r k) = (p r k : EReal))
    (hm : ∀ r k, x1 (ix2 r k) = (dm r k : EReal)) (h4 : ∀ g t s, x4 (ix3 g t s) = (a.w g t s : EReal))
    (ha : ∀ k, acc (ix2 0 k) = (e k : EReal)) (k : Fin 2048) :
    dlbV x0 x1 x4 acc (ix2 0 k) = ((e k + dlbB a p dm k : ℝ) : EReal) := by
  have hn := dvnV_apply (a := a) hp hm h4
  unfold dvnV at hn
  unfold dlbV
  pointwise [k0_pay92]
  simp only [hn, ha]
  rw [← coe_sum, ← EReal.coe_add]
  rfl

end

end Cert.Sgu
-- ==== Proof.Sgu.Mats.lean ====
/-
The gradient of the mixing matrices, which the body adds matrix by matrix to one accumulator.
-/
module

public import proofs.«01_k».proof.Proof.Sgu.Block
public import Idealize.ShloMosaic.Lib.Pipeline.Value
public import Idealize.ShloMosaic.Lib.Pipeline.ReadBack

@[expose] public section

set_option maxRecDepth 16384

noncomputable section

namespace Cert.Sgu

open Cert.KernelIdeal Cert.KernelIdeal.Gen Idealize.ShloMosaic

section
variable {Val : EltTy → Type} [∀ e, Nonempty (Val e)] {e : EltTy}

/-- A write of matrix `g`, read in that matrix. -/
theorem canon_hit (g : Fin 8) (inb : ∀ a, (![g.val, 0, 0] : Fin 3 → Nat) a + S1x128x128.size a ≤ S8x128x128.size a)
    (w : S1x128x128.Idx → Val e) (L : List (View.Piece Val S8x128x128 e)) (t s : Fin 128) :
    View.canon (⟨Rect.unit (s := S8x128x128) ![g.val, 0, 0] ![1, 128, 128] inb, w⟩ :: L) (ix3 g t s) = w (ix3 0 t s) := by
  have h : (Rect.unit (s := S8x128x128) ![g.val, 0, 0] ![1, 128, 128] inb).emb (ix3 0 t s) = ix3 g t s := by
    funext a
    apply Fin.ext
    match a with
    | 0 => show g.val + 1 * 0 = g.val; omega
    | 1 => show 0 + 1 * t.val = t.val; omega
    | 2 => show 0 + 1 * s.val = s.val; omega
  rw [← h]
  exact View.canon_cons_emb (Rect.unit (s := S8x128x128) ![g.val, 0, 0] ![1, 128, 128] inb) w L _

/-- A write of another matrix is passed over. -/
theorem canon_miss (g : Fin 8) (n : Nat) (inb : ∀ a, (![n, 0, 0] : Fin 3 → Nat) a + S1x128x128.size a ≤ S8x128x128.size a)
    (w : S1x128x128.Idx → Val e) (L : List (View.Piece Val S8x128x128 e)) (t s : Fin 128) (h : n ≠ g.val) :
    View.canon (⟨Rect.unit (s := S8x128x128) ![n, 0, 0] ![1, 128, 128] inb, w⟩ :: L) (ix3 g t s)
      = View.canon L (ix3 g t s) := by
  refine View.canon_cons_of_not_mem _ _ fun hm => h ?_
  have h0 := (Rect.mem_set_unit (s := S8x128x128) (inb := inb)).mp hm 0
  have h1 : n ≤ g.val := h0.1
  have h2 : g.val < n + 1 := h0.2
  omega

/-- A load of one matrix passes over the write of another. -/
theorem read_miss {sig : RefSig} {κ : Kind} {sp : Space} (v : View sig κ sp S8x128x128 e) (n m : Nat)
    (inb : ∀ a, (![n, 0, 0] : Fin 3 → Nat) a + S1x128x128.size a ≤ S8x128x128.size a)
    (inb' : ∀ a, (![m, 0, 0] : Fin 3 → Nat) a + S1x128x128.size a ≤ S8x128x128.size a)
    (w : S1x128x128.Idx → Val e) (L : List (View.Piece Val S8x128x128 e)) (h : n ≠ m) :
    v.readCov (⟨Rect.unit (s := S8x128x128) ![n, 0, 0] ![1, 128, 128] inb, w⟩ :: L)
        (Rect.unit (s := S8x128x128) ![m, 0, 0] ![1, 128, 128] inb').toLoadRect
      = v.readCov L (Rect.unit (s := S8x128x128) ![m, 0, 0] ![1, 128, 128] inb').toLoadRect := by
  have hd : Disjoint (Rect.unit (s := S8x128x128) ![n, 0, 0] ![1, 128, 128] inb).set
      (Rect.unit (s := S8x128x128) ![m, 0, 0] ![1, 128, 128] inb').set :=
    Rect.unit_disjoint (s := S8x128x128) (off := ![n, 0, 0]) (size := ![1, 128, 128]) (off' := ![m, 0, 0])
      (size' := ![1, 128, 128]) 0 (by
        show n + 1 ≤ m ∨ m + 1 ≤ n
        omega)
  exact View.readCov_cons_of_disjoint v ⟨Rect.unit (s := S8x128x128) ![n, 0, 0] ![1, 128, 128] inb, w⟩ L
    (Rect.unit (s := S8x128x128) ![m, 0, 0] ![1, 128, 128] inb').toLoadRect hd

end

/-- The writes of the eight matrices, the last first: each adds to the matrix `lg` that was read. -/
def dwsL (x0 : Vec Ideal S128x4096 .bf16) (x1 : Vec Ideal S128x2048 .bf16) (x2 x3 : Vec Ideal S1x2048 .f32)
    (l0 l1 l2 l3 l4 l5 l6 l7 : Vec Ideal S1x128x128 .f32) (L : List (View.Piece (Elt Ideal) S8x128x128 .f32)) :
    List (View.Piece (Elt Ideal) S8x128x128 .f32) :=
  ⟨Rect.unit ![7, 0, 0] ![1, 128, 128] inb_S8x128x128_S1x128x128_7_0_0,
    k0_pay89 k0_pay9 (k0_pay14 x1) (k0_pay16 x0) (k0_pay22 (k0_pay10 x2) (k0_pay11 x3) (k0_pay17 x0) (k0_pay18 x0) k0_pay19) l7⟩ ::
  ⟨Rect.unit ![6, 0, 0] ![1, 128, 128] inb_S8x128x128_S1x128x128_6_0_0,
    k0_pay81 k0_pay9 (k0_pay22 (k0_pay10 x2) (k0_pay11 x3) (k0_pay17 x0) (k0_pay18 x0) k0_pay19) (k0_pay80 (k0_pay14 x1) (k0_pay16 x0)) l6⟩ ::
  ⟨Rect.unit ![5, 0, 0] ![1, 128, 128] inb_S8x128x128_S1x128x128_5_0_0,
    k0_pay73 k0_pay9 (k0_pay14 x1) (k0_pay16 x0) (k0_pay22 (k0_pay10 x2) (k0_pay11 x3) (k0_pay17 x0) (k0_pay18 x0) k0_pay19) l5⟩ ::
  ⟨Rect.unit ![4, 0, 0] ![1, 128, 128] inb_S8x128x128_S1x128x128_4_0_0,
    k0_pay64 k0_pay9 (k0_pay14 x1) (k0_pay16 x0) (k0_pay22 (k0_pay10 x2) (k0_pay11 x3) (k0_pay17 x0) (k0_pay18 x0) k0_pay19) l4⟩ ::
  ⟨Rect.unit ![3, 0, 0] ![1, 128, 128] inb_S8x128x128_S1x128x128_3_0_0,
    k0_pay56 (k0_pay55 k0_pay9 (k0_pay14 x1) (k0_pay16 x0) (k0_pay22 (k0_pay10 x2) (k0_pay11 x3) (k0_pay17 x0) (k0_pay18 x0) k0_pay19) l3)⟩ ::
  ⟨Rect.unit ![2, 0, 0] ![1, 128, 128] inb_S8x128x128_S1x128x128_2_0_0,
    k0_pay47 k0_pay9 (k0_pay22 (k0_pay10 x2) (k0_pay11 x3) (k0_pay17 x0) (k0_pay18 x0) k0_pay19) (k0_pay46 (k0_pay14 x1) (k0_pay16 x0)) l2⟩ ::
  ⟨Rect.unit ![1, 0, 0] ![1, 128, 128] inb_S8x128x128_S1x128x128_1_0_0,
    k0_pay39 k0_pay9 (k0_pay14 x1) (k0_pay16 x0) (k0_pay22 (k0_pay10 x2) (k0_pay11 x3) (k0_pay17 x0) (k0_pay18 x0) k0_pay19) l1⟩ ::
  ⟨Rect.unit ![0, 0, 0] ![1, 128, 128] inb_S8x128x128_S1x128x128_0_0_0,
    k0_pay29 k0_pay9 (k0_pay10 x2) (k0_pay11 x3) (k0_pay14 x1) (k0_pay16 x0) (k0_pay17 x0) (k0_pay18 x0) k0_pay19 l0⟩ :: L

/-- What is stored as the gradient of the mixing matrices. -/
theorem dwsL_apply {x0 : Vec Ideal S128x4096 .bf16} {x1 : Vec Ideal S128x2048 .bf16} {x2 x3 : Vec Ideal S1x2048 .f32}
    {a : Params} {p : Fin 128 → Fin 4096 → ℝ} {dm : Fin 128 → Fin 2048 → ℝ}
    {l0 l1 l2 l3 l4 l5 l6 l7 : Vec Ideal S1x128x128 .f32} {L : List (View.Piece (Elt Ideal) S8x128x128 .f32)}
    {f : Fin 8 → Fin 128 → Fin 128 → ℝ}
    (hp : ∀ r k, x0 (ix2 r k) = (p r k : EReal)) (hm : ∀ r k, x1 (ix2 r k) = (dm r k : EReal))
    (h2 : ∀ k, x2 (ix2 0 k) = (a.lg k : EReal)) (h3 : ∀ k, x3 (ix2 0 k) = (a.lb k : EReal))
    (hl0 : ∀ t s, l0 (ix3 0 t s) = (f 0 t s : EReal))
    (hl1 : ∀ t s, l1 (ix3 0 t s) = (f 1 t s : EReal))
    (hl2 : ∀ t s, l2 (ix3 0 t s) = (f 2 t s : EReal))
    (hl3 : ∀ t s, l3 (ix3 0 t s) = (f 3 t s : EReal))
    (hl4 : ∀ t s, l4 (ix3 0 t s) = (f 4 t s : EReal))
    (hl5 : ∀ t s, l5 (ix3 0 t s) = (f 5 t s : EReal))
    (hl6 : ∀ t s, l6 (ix3 0 t s) = (f 6 t s : EReal))
    (hl7 : ∀ t s, l7 (ix3 0 t s) = (f 7 t s : EReal))
    (g : Fin 8) (t s : Fin 128) :
    View.canon (dwsL x0 x1 x2 x3 l0 l1 l2 l3 l4 l5 l6 l7 L) (ix3 g t s) = ((f g t s + dwsB a p dm g t s : ℝ) : EReal) := by
  unfold dwsL
  fin_cases g
  · refine (canon_miss 0 7 _ _ _ t s (by decide)).trans ?_; refine (canon_miss 0 6 _ _ _ t s (by decide)).trans ?_; refine (canon_miss 0 5 _ _ _ t s (by decide)).trans ?_; refine (canon_miss 0 4 _ _ _ t s (by decide)).trans ?_; refine (canon_miss 0 3 _ _ _ t s (by decide)).trans ?_; refine (canon_miss 0 2 _ _ _ t s (by decide)).trans ?_; refine (canon_miss 0 1 _ _ _ t s (by decide)).trans ?_; refine (canon_hit 0 _ _ _ t s).trans ?_
    exact dwsG_apply 0 (pay14_apply hm) (pay16_apply hp) (pay22_apply a hp h2 h3) hl0 rfl 0 t s
  · refine (canon_miss 1 7 _ _ _ t s (by decide)).trans ?_; refine (canon_miss 1 6 _ _ _ t s (by decide)).trans ?_; refine (canon_miss 1 5 _ _ _ t s (by decide)).trans ?_; refine (canon_miss 1 4 _ _ _ t s (by decide)).trans ?_; refine (canon_miss 1 3 _ _ _ t s (by decide)).trans ?_; refine (canon_miss 1 2 _ _ _ t s (by decide)).trans ?_; refine (canon_hit 1 _ _ _ t s).trans ?_
    exact dwsG_apply 1 (pay14_apply hm) (pay16_apply hp) (pay22_apply a hp h2 h3) hl1 rfl 0 t s
  · refine (canon_miss 2 7 _ _ _ t s (by decide)).trans ?_; refine (canon_miss 2 6 _ _ _ t s (by decide)).trans ?_; refine (canon_miss 2 5 _ _ _ t s (by decide)).trans ?_; refine (canon_miss 2 4 _ _ _ t s (by decide)).trans ?_; refine (canon_miss 2 3 _ _ _ t s (by decide)).trans ?_; refine (canon_hit 2 _ _ _ t s).trans ?_
    exact dwsG_apply 2 (pay14_apply hm) (pay16_apply hp) (pay22_apply a hp h2 h3) hl2 rfl 0 t s
  · refine (canon_miss 3 7 _ _ _ t s (by decide)).trans ?_; refine (canon_miss 3 6 _ _ _ t s (by decide)).trans ?_; refine (canon_miss 3 5 _ _ _ t s (by decide)).trans ?_; refine (canon_miss 3 4 _ _ _ t s (by decide)).trans ?_; refine (canon_hit 3 _ _ _ t s).trans ?_
    exact dwsG_apply 3 (pay14_apply hm) (pay16_apply hp) (pay22_apply a hp h2 h3) hl3 rfl 0 t s
  · refine (canon_miss 4 7 _ _ _ t s (by decide)).trans ?_; refine (canon_miss 4 6 _ _ _ t s (by decide)).trans ?_; refine (canon_miss 4 5 _ _ _ t s (by decide)).trans ?_; refine (canon_hit 4 _ _ _ t s).trans ?_
    exact dwsG_apply 4 (pay14_apply hm) (pay16_apply hp) (pay22_apply a hp h2 h3) hl4 rfl 0 t s
  · refine (canon_miss 5 7 _ _ _ t s (by decide)).trans ?_; refine (canon_miss 5 6 _ _ _ t s (by decide)).trans ?_; refine (canon_hit 5 _ _ _ t s).trans ?_
    exact dwsG_apply 5 (pay14_apply hm) (pay16_apply hp) (pay22_apply a hp h2 h3) hl5 rfl 0 t s
  · refine (canon_miss 6 7 _ _ _ t s (by decide)).trans ?_; refine (canon_hit 6 _ _ _ t s).trans ?_
    exact dwsG_apply 6 (pay14_apply hm) (pay16_apply hp) (pay22_apply a hp h2 h3) hl6 rfl 0 t s
  · refine (canon_hit 7 _ _ _ t s).trans ?_
    exact dwsG_apply 7 (pay14_apply hm) (pay16_apply hp) (pay22_apply a hp h2 h3) hl7 rfl 0 t s

end Cert.Sgu
-- ==== Proof.Sgu.Out.lean ====
/-
What the body leaves in the blocks of its six outputs: at the first point of the grid (the accumulators are zeroed
first), and at the others (over what the point before left).
-/
module

public import proofs.«01_k».proof.Proof.Sgu.Mats
public import proofs.«01_k».proof.Proof.Gen.KernelIdeal.Value

@[expose] public section

set_option maxRecDepth 16384

noncomputable section

namespace Cert.Sgu

open Cert.KernelIdeal Cert.KernelIdeal.Gen Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-- The zeroed accumulator of the mixing matrices. -/
abbrev zero8 : Vec Ideal S8x128x128 .f32 := k0_pay7 (F := Ideal)

section
variable (c : Dev nD) (i : grid0.Coords) (arg1 : Memref sig .tc .vmem S128x4096 .bf16) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S128x8 .f32) (harg6 : arg6.IsWhole) (arg7 : Memref sig .tc .vmem S128x4096 .bf16) (harg7 : arg7.IsWhole) (arg8 : Memref sig .tc .vmem S1x4096 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S8x128x128 .f32) (harg11 : arg11.IsWhole) (arg12 : Memref sig .tc .vmem S128x8 .f32) (harg12 : arg12.IsWhole)
  (x0 : Vec Ideal S128x4096 .bf16) (x1 : Vec Ideal S128x2048 .bf16) (x2 : Vec Ideal S1x2048 .f32) (x3 : Vec Ideal S1x2048 .f32) (x4 : Vec Ideal S8x128x128 .f32) (x5 : Vec Ideal S128x8 .f32)
  (xo7 : Vec Ideal S1x4096 .f32) (xo8 : Vec Ideal S1x2048 .f32) (xo9 : Vec Ideal S1x2048 .f32) (xo10 : Vec Ideal S8x128x128 .f32) (xo11 : Vec Ideal S128x8 .f32)

/-- At the first point: the gradient of the pre-activation. -/
theorem out_A_6 (hc0 : cond0_0 i) :
    out0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5 = dpV x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  simp only [View.canon_unit_zero (S := S128x4096) hz, View.canon_cons_unit_zero (S := S128x4096) hz, View.readCov_unit_zero (S := S128x4096) _ hz, View.ld_unit_zero (S := S128x4096) hz, View.canon_unit_zero (S := S128x2048) hz, View.canon_cons_unit_zero (S := S128x2048) hz, View.readCov_unit_zero (S := S128x2048) _ hz, View.ld_unit_zero (S := S128x2048) hz, View.canon_unit_zero (S := S1x4096) hz, View.canon_cons_unit_zero (S := S1x4096) hz, View.readCov_unit_zero (S := S1x4096) _ hz, View.ld_unit_zero (S := S1x4096) hz, View.canon_unit_zero (S := S1x2048) hz, View.canon_cons_unit_zero (S := S1x2048) hz, View.readCov_unit_zero (S := S1x2048) _ hz, View.ld_unit_zero (S := S1x2048) hz, View.canon_unit_zero (S := S128x8) hz, View.canon_cons_unit_zero (S := S128x8) hz, View.readCov_unit_zero (S := S128x8) _ hz, View.ld_unit_zero (S := S128x8) hz, View.ld_unit_zero (S := S8x128x128) hz3, View.readAt_eq_ld, harg1.read_unread, harg2.read_unread, harg3.read_unread, harg4.read_unread, harg5.read_unread, harg6.read_unread, harg7.read_unread, harg8.read_unread, harg9.read_unread, harg10.read_unread, harg11.read_unread, harg12.read_unread]
  rfl

/-- At the first point: the gradient of the projection's bias. -/
theorem out_A_7 (hc0 : cond0_0 i) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 = dbinV x0 x1 x2 x3 x4 x5 (k0_pay4 (F := Ideal)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  simp only [View.canon_unit_zero (S := S128x4096) hz, View.canon_cons_unit_zero (S := S128x4096) hz, View.readCov_unit_zero (S := S128x4096) _ hz, View.ld_unit_zero (S := S128x4096) hz, View.canon_unit_zero (S := S128x2048) hz, View.canon_cons_unit_zero (S := S128x2048) hz, View.readCov_unit_zero (S := S128x2048) _ hz, View.ld_unit_zero (S := S128x2048) hz, View.canon_unit_zero (S := S1x4096) hz, View.canon_cons_unit_zero (S := S1x4096) hz, View.readCov_unit_zero (S := S1x4096) _ hz, View.ld_unit_zero (S := S1x4096) hz, View.canon_unit_zero (S := S1x2048) hz, View.canon_cons_unit_zero (S := S1x2048) hz, View.readCov_unit_zero (S := S1x2048) _ hz, View.ld_unit_zero (S := S1x2048) hz, View.canon_unit_zero (S := S128x8) hz, View.canon_cons_unit_zero (S := S128x8) hz, View.readCov_unit_zero (S := S128x8) _ hz, View.ld_unit_zero (S := S128x8) hz, View.ld_unit_zero (S := S8x128x128) hz3, View.readAt_eq_ld, harg1.read_unread, harg2.read_unread, harg3.read_unread, harg4.read_unread, harg5.read_unread, harg6.read_unread, harg7.read_unread, harg8.read_unread, harg9.read_unread, harg10.read_unread, harg11.read_unread, harg12.read_unread]
  rfl

/-- At the first point: the gradient of the layer norm's gain. -/
theorem out_A_8 (hc0 : cond0_0 i) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 = dlgV x0 x1 x4 (k0_pay5 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  simp only [View.canon_unit_zero (S := S128x4096) hz, View.canon_cons_unit_zero (S := S128x4096) hz, View.readCov_unit_zero (S := S128x4096) _ hz, View.ld_unit_zero (S := S128x4096) hz, View.canon_unit_zero (S := S128x2048) hz, View.canon_cons_unit_zero (S := S128x2048) hz, View.readCov_unit_zero (S := S128x2048) _ hz, View.ld_unit_zero (S := S128x2048) hz, View.canon_unit_zero (S := S1x4096) hz, View.canon_cons_unit_zero (S := S1x4096) hz, View.readCov_unit_zero (S := S1x4096) _ hz, View.ld_unit_zero (S := S1x4096) hz, View.canon_unit_zero (S := S1x2048) hz, View.canon_cons_unit_zero (S := S1x2048) hz, View.readCov_unit_zero (S := S1x2048) _ hz, View.ld_unit_zero (S := S1x2048) hz, View.canon_unit_zero (S := S128x8) hz, View.canon_cons_unit_zero (S := S128x8) hz, View.readCov_unit_zero (S := S128x8) _ hz, View.ld_unit_zero (S := S128x8) hz, View.ld_unit_zero (S := S8x128x128) hz3, View.readAt_eq_ld, harg1.read_unread, harg2.read_unread, harg3.read_unread, harg4.read_unread, harg5.read_unread, harg6.read_unread, harg7.read_unread, harg8.read_unread, harg9.read_unread, harg10.read_unread, harg11.read_unread, harg12.read_unread]
  rfl

/-- At the first point: the gradient of the layer norm's bias. -/
theorem out_A_9 (hc0 : cond0_0 i) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 = dlbV x0 x1 x4 (k0_pay6 (F := Ideal)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  simp only [View.canon_unit_zero (S := S128x4096) hz, View.canon_cons_unit_zero (S := S128x4096) hz, View.readCov_unit_zero (S := S128x4096) _ hz, View.ld_unit_zero (S := S128x4096) hz, View.canon_unit_zero (S := S128x2048) hz, View.canon_cons_unit_zero (S := S128x2048) hz, View.readCov_unit_zero (S := S128x2048) _ hz, View.ld_unit_zero (S := S128x2048) hz, View.canon_unit_zero (S := S1x4096) hz, View.canon_cons_unit_zero (S := S1x4096) hz, View.readCov_unit_zero (S := S1x4096) _ hz, View.ld_unit_zero (S := S1x4096) hz, View.canon_unit_zero (S := S1x2048) hz, View.canon_cons_unit_zero (S := S1x2048) hz, View.readCov_unit_zero (S := S1x2048) _ hz, View.ld_unit_zero (S := S1x2048) hz, View.canon_unit_zero (S := S128x8) hz, View.canon_cons_unit_zero (S := S128x8) hz, View.readCov_unit_zero (S := S128x8) _ hz, View.ld_unit_zero (S := S128x8) hz, View.ld_unit_zero (S := S8x128x128) hz3, View.readAt_eq_ld, harg1.read_unread, harg2.read_unread, harg3.read_unread, harg4.read_unread, harg5.read_unread, harg6.read_unread, harg7.read_unread, harg8.read_unread, harg9.read_unread, harg10.read_unread, harg11.read_unread, harg12.read_unread]
  rfl

/-- At the first point: the gradient of the mixing matrices. -/
theorem out_A_10 (hc0 : cond0_0 i) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 = View.canon (dwsL x0 x1 x2 x3 (View.ld zero8 (Rect.unit ![0, 0, 0] ![1, 128, 128] inb_S8x128x128_S1x128x128_0_0_0)) (View.ld zero8 (Rect.unit ![1, 0, 0] ![1, 128, 128] inb_S8x128x128_S1x128x128_1_0_0)) (View.ld zero8 (Rect.unit ![2, 0, 0] ![1, 128, 128] inb_S8x128x128_S1x128x128_2_0_0)) (View.ld zero8 (Rect.unit ![3, 0, 0] ![1, 128, 128] inb_S8x128x128_S1x128x128_3_0_0)) (View.ld zero8 (Rect.unit ![4, 0, 0] ![1, 128, 128] inb_S8x128x128_S1x128x128_4_0_0)) (View.ld zero8 (Rect.unit ![5, 0, 0] ![1, 128, 128] inb_S8x128x128_S1x128x128_5_0_0)) (View.ld zero8 (Rect.unit ![6, 0, 0] ![1, 128, 128] inb_S8x128x128_S1x128x128_6_0_0)) (View.ld zero8 (Rect.unit ![7, 0, 0] ![1, 128, 128] inb_S8x128x128_S1x128x128_7_0_0)) [⟨Rect.unit ![0, 0, 0] ![8, 128, 128] inb_S8x128x128_S8x128x128_0_0_0, k0_pay7 (F := Ideal)⟩]) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  simp only [View.canon_unit_zero (S := S128x4096) hz, View.canon_cons_unit_zero (S := S128x4096) hz, View.readCov_unit_zero (S := S128x4096) _ hz, View.ld_unit_zero (S := S128x4096) hz, View.canon_unit_zero (S := S128x2048) hz, View.canon_cons_unit_zero (S := S128x2048) hz, View.readCov_unit_zero (S := S128x2048) _ hz, View.ld_unit_zero (S := S128x2048) hz, View.canon_unit_zero (S := S1x4096) hz, View.canon_cons_unit_zero (S := S1x4096) hz, View.readCov_unit_zero (S := S1x4096) _ hz, View.ld_unit_zero (S := S1x4096) hz, View.canon_unit_zero (S := S1x2048) hz, View.canon_cons_unit_zero (S := S1x2048) hz, View.readCov_unit_zero (S := S1x2048) _ hz, View.ld_unit_zero (S := S1x2048) hz, View.canon_unit_zero (S := S128x8) hz, View.canon_cons_unit_zero (S := S128x8) hz, View.readCov_unit_zero (S := S128x8) _ hz, View.ld_unit_zero (S := S128x8) hz, View.ld_unit_zero (S := S8x128x128) hz3, View.readAt_eq_ld, harg1.read_unread, harg2.read_unread, harg3.read_unread, harg4.read_unread, harg5.read_unread, harg6.read_unread, harg7.read_unread, harg8.read_unread, harg9.read_unread, harg10.read_unread, harg11.read_unread, harg12.read_unread, read_miss _ 0 1 _ _ _ _ (by decide), read_miss _ 0 2 _ _ _ _ (by decide), read_miss _ 1 2 _ _ _ _ (by decide), read_miss _ 0 3 _ _ _ _ (by decide), read_miss _ 1 3 _ _ _ _ (by decide), read_miss _ 2 3 _ _ _ _ (by decide), read_miss _ 0 4 _ _ _ _ (by decide), read_miss _ 1 4 _ _ _ _ (by decide), read_miss _ 2 4 _ _ _ _ (by decide), read_miss _ 3 4 _ _ _ _ (by decide), read_miss _ 0 5 _ _ _ _ (by decide), read_miss _ 1 5 _ _ _ _ (by decide), read_miss _ 2 5 _ _ _ _ (by decide), read_miss _ 3 5 _ _ _ _ (by decide), read_miss _ 4 5 _ _ _ _ (by decide), read_miss _ 0 6 _ _ _ _ (by decide), read_miss _ 1 6 _ _ _ _ (by decide), read_miss _ 2 6 _ _ _ _ (by decide), read_miss _ 3 6 _ _ _ _ (by decide), read_miss _ 4 6 _ _ _ _ (by decide), read_miss _ 5 6 _ _ _ _ (by decide), read_miss _ 0 7 _ _ _ _ (by decide), read_miss _ 1 7 _ _ _ _ (by decide), read_miss _ 2 7 _ _ _ _ (by decide), read_miss _ 3 7 _ _ _ _ (by decide), read_miss _ 4 7 _ _ _ _ (by decide), read_miss _ 5 7 _ _ _ _ (by decide), read_miss _ 6 7 _ _ _ _ (by decide), View.readCov_fill (s := S8x128x128) _ inb_S8x128x128_S8x128x128_0_0_0 _ _ _ (fun a => congrFun hz3 a)]
  rfl

/-- At the first point: the gradient of the mixing biases. -/
theorem out_A_11 (hc0 : cond0_0 i) :
    out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 = dbsV x0 x1 (k0_pay8 (F := Ideal)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  simp only [View.canon_unit_zero (S := S128x4096) hz, View.canon_cons_unit_zero (S := S128x4096) hz, View.readCov_unit_zero (S := S128x4096) _ hz, View.ld_unit_zero (S := S128x4096) hz, View.canon_unit_zero (S := S128x2048) hz, View.canon_cons_unit_zero (S := S128x2048) hz, View.readCov_unit_zero (S := S128x2048) _ hz, View.ld_unit_zero (S := S128x2048) hz, View.canon_unit_zero (S := S1x4096) hz, View.canon_cons_unit_zero (S := S1x4096) hz, View.readCov_unit_zero (S := S1x4096) _ hz, View.ld_unit_zero (S := S1x4096) hz, View.canon_unit_zero (S := S1x2048) hz, View.canon_cons_unit_zero (S := S1x2048) hz, View.readCov_unit_zero (S := S1x2048) _ hz, View.ld_unit_zero (S := S1x2048) hz, View.canon_unit_zero (S := S128x8) hz, View.canon_cons_unit_zero (S := S128x8) hz, View.readCov_unit_zero (S := S128x8) _ hz, View.ld_unit_zero (S := S128x8) hz, View.ld_unit_zero (S := S8x128x128) hz3, View.readAt_eq_ld, harg1.read_unread, harg2.read_unread, harg3.read_unread, harg4.read_unread, harg5.read_unread, harg6.read_unread, harg7.read_unread, harg8.read_unread, harg9.read_unread, harg10.read_unread, harg11.read_unread, harg12.read_unread]
  rfl

/-- At a later point: the gradient of the pre-activation. -/
theorem out_B_6 (hc0 : ¬cond0_0 i) :
    out0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10 xo11 = dpV x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10 xo11)]
  unfold kernelRun0_B
  dsimp only
  sl_unfold_words
  simp only [View.canon_unit_zero (S := S128x4096) hz, View.canon_cons_unit_zero (S := S128x4096) hz, View.readCov_unit_zero (S := S128x4096) _ hz, View.ld_unit_zero (S := S128x4096) hz, View.canon_unit_zero (S := S128x2048) hz, View.canon_cons_unit_zero (S := S128x2048) hz, View.readCov_unit_zero (S := S128x2048) _ hz, View.ld_unit_zero (S := S128x2048) hz, View.canon_unit_zero (S := S1x4096) hz, View.canon_cons_unit_zero (S := S1x4096) hz, View.readCov_unit_zero (S := S1x4096) _ hz, View.ld_unit_zero (S := S1x4096) hz, View.canon_unit_zero (S := S1x2048) hz, View.canon_cons_unit_zero (S := S1x2048) hz, View.readCov_unit_zero (S := S1x2048) _ hz, View.ld_unit_zero (S := S1x2048) hz, View.canon_unit_zero (S := S128x8) hz, View.canon_cons_unit_zero (S := S128x8) hz, View.readCov_unit_zero (S := S128x8) _ hz, View.ld_unit_zero (S := S128x8) hz, View.ld_unit_zero (S := S8x128x128) hz3, View.readAt_eq_ld, harg1.read_unread, harg2.read_unread, harg3.read_unread, harg4.read_unread, harg5.read_unread, harg6.read_unread, harg7.read_unread, harg8.read_unread, harg9.read_unread, harg10.read_unread, harg11.read_unread, harg12.read_unread]
  rfl

/-- At a later point: the gradient of the projection's bias. -/
theorem out_B_7 (hc0 : ¬cond0_0 i) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10 xo11 = dbinV x0 x1 x2 x3 x4 x5 xo7 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10 xo11)]
  unfold kernelRun0_B
  dsimp only
  sl_unfold_words
  simp only [View.canon_unit_zero (S := S128x4096) hz, View.canon_cons_unit_zero (S := S128x4096) hz, View.readCov_unit_zero (S := S128x4096) _ hz, View.ld_unit_zero (S := S128x4096) hz, View.canon_unit_zero (S := S128x2048) hz, View.canon_cons_unit_zero (S := S128x2048) hz, View.readCov_unit_zero (S := S128x2048) _ hz, View.ld_unit_zero (S := S128x2048) hz, View.canon_unit_zero (S := S1x4096) hz, View.canon_cons_unit_zero (S := S1x4096) hz, View.readCov_unit_zero (S := S1x4096) _ hz, View.ld_unit_zero (S := S1x4096) hz, View.canon_unit_zero (S := S1x2048) hz, View.canon_cons_unit_zero (S := S1x2048) hz, View.readCov_unit_zero (S := S1x2048) _ hz, View.ld_unit_zero (S := S1x2048) hz, View.canon_unit_zero (S := S128x8) hz, View.canon_cons_unit_zero (S := S128x8) hz, View.readCov_unit_zero (S := S128x8) _ hz, View.ld_unit_zero (S := S128x8) hz, View.ld_unit_zero (S := S8x128x128) hz3, View.readAt_eq_ld, harg1.read_unread, harg2.read_unread, harg3.read_unread, harg4.read_unread, harg5.read_unread, harg6.read_unread, harg7.read_unread, harg8.read_unread, harg9.read_unread, harg10.read_unread, harg11.read_unread, harg12.read_unread]
  rfl

/-- At a later point: the gradient of the layer norm's gain. -/
theorem out_B_8 (hc0 : ¬cond0_0 i) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10 xo11 = dlgV x0 x1 x4 xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10 xo11)]
  unfold kernelRun0_B
  dsimp only
  sl_unfold_words
  simp only [View.canon_unit_zero (S := S128x4096) hz, View.canon_cons_unit_zero (S := S128x4096) hz, View.readCov_unit_zero (S := S128x4096) _ hz, View.ld_unit_zero (S := S128x4096) hz, View.canon_unit_zero (S := S128x2048) hz, View.canon_cons_unit_zero (S := S128x2048) hz, View.readCov_unit_zero (S := S128x2048) _ hz, View.ld_unit_zero (S := S128x2048) hz, View.canon_unit_zero (S := S1x4096) hz, View.canon_cons_unit_zero (S := S1x4096) hz, View.readCov_unit_zero (S := S1x4096) _ hz, View.ld_unit_zero (S := S1x4096) hz, View.canon_unit_zero (S := S1x2048) hz, View.canon_cons_unit_zero (S := S1x2048) hz, View.readCov_unit_zero (S := S1x2048) _ hz, View.ld_unit_zero (S := S1x2048) hz, View.canon_unit_zero (S := S128x8) hz, View.canon_cons_unit_zero (S := S128x8) hz, View.readCov_unit_zero (S := S128x8) _ hz, View.ld_unit_zero (S := S128x8) hz, View.ld_unit_zero (S := S8x128x128) hz3, View.readAt_eq_ld, harg1.read_unread, harg2.read_unread, harg3.read_unread, harg4.read_unread, harg5.read_unread, harg6.read_unread, harg7.read_unread, harg8.read_unread, harg9.read_unread, harg10.read_unread, harg11.read_unread, harg12.read_unread]
  rfl

/-- At a later point: the gradient of the layer norm's bias. -/
theorem out_B_9 (hc0 : ¬cond0_0 i) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10 xo11 = dlbV x0 x1 x4 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10 xo11)]
  unfold kernelRun0_B
  dsimp only
  sl_unfold_words
  simp only [View.canon_unit_zero (S := S128x4096) hz, View.canon_cons_unit_zero (S := S128x4096) hz, View.readCov_unit_zero (S := S128x4096) _ hz, View.ld_unit_zero (S := S128x4096) hz, View.canon_unit_zero (S := S128x2048) hz, View.canon_cons_unit_zero (S := S128x2048) hz, View.readCov_unit_zero (S := S128x2048) _ hz, View.ld_unit_zero (S := S128x2048) hz, View.canon_unit_zero (S := S1x4096) hz, View.canon_cons_unit_zero (S := S1x4096) hz, View.readCov_unit_zero (S := S1x4096) _ hz, View.ld_unit_zero (S := S1x4096) hz, View.canon_unit_zero (S := S1x2048) hz, View.canon_cons_unit_zero (S := S1x2048) hz, View.readCov_unit_zero (S := S1x2048) _ hz, View.ld_unit_zero (S := S1x2048) hz, View.canon_unit_zero (S := S128x8) hz, View.canon_cons_unit_zero (S := S128x8) hz, View.readCov_unit_zero (S := S128x8) _ hz, View.ld_unit_zero (S := S128x8) hz, View.ld_unit_zero (S := S8x128x128) hz3, View.readAt_eq_ld, harg1.read_unread, harg2.read_unread, harg3.read_unread, harg4.read_unread, harg5.read_unread, harg6.read_unread, harg7.read_unread, harg8.read_unread, harg9.read_unread, harg10.read_unread, harg11.read_unread, harg12.read_unread]
  rfl

/-- At a later point: the gradient of the mixing matrices. -/
theorem out_B_10 (hc0 : ¬cond0_0 i) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10 xo11 = View.canon (dwsL x0 x1 x2 x3 (View.ld xo10 (Rect.unit ![0, 0, 0] ![1, 128, 128] inb_S8x128x128_S1x128x128_0_0_0)) (View.ld xo10 (Rect.unit ![1, 0, 0] ![1, 128, 128] inb_S8x128x128_S1x128x128_1_0_0)) (View.ld xo10 (Rect.unit ![2, 0, 0] ![1, 128, 128] inb_S8x128x128_S1x128x128_2_0_0)) (View.ld xo10 (Rect.unit ![3, 0, 0] ![1, 128, 128] inb_S8x128x128_S1x128x128_3_0_0)) (View.ld xo10 (Rect.unit ![4, 0, 0] ![1, 128, 128] inb_S8x128x128_S1x128x128_4_0_0)) (View.ld xo10 (Rect.unit ![5, 0, 0] ![1, 128, 128] inb_S8x128x128_S1x128x128_5_0_0)) (View.ld xo10 (Rect.unit ![6, 0, 0] ![1, 128, 128] inb_S8x128x128_S1x128x128_6_0_0)) (View.ld xo10 (Rect.unit ![7, 0, 0] ![1, 128, 128] inb_S8x128x128_S1x128x128_7_0_0)) []) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10 xo11)]
  unfold kernelRun0_B
  dsimp only
  sl_unfold_words
  simp only [View.canon_unit_zero (S := S128x4096) hz, View.canon_cons_unit_zero (S := S128x4096) hz, View.readCov_unit_zero (S := S128x4096) _ hz, View.ld_unit_zero (S := S128x4096) hz, View.canon_unit_zero (S := S128x2048) hz, View.canon_cons_unit_zero (S := S128x2048) hz, View.readCov_unit_zero (S := S128x2048) _ hz, View.ld_unit_zero (S := S128x2048) hz, View.canon_unit_zero (S := S1x4096) hz, View.canon_cons_unit_zero (S := S1x4096) hz, View.readCov_unit_zero (S := S1x4096) _ hz, View.ld_unit_zero (S := S1x4096) hz, View.canon_unit_zero (S := S1x2048) hz, View.canon_cons_unit_zero (S := S1x2048) hz, View.readCov_unit_zero (S := S1x2048) _ hz, View.ld_unit_zero (S := S1x2048) hz, View.canon_unit_zero (S := S128x8) hz, View.canon_cons_unit_zero (S := S128x8) hz, View.readCov_unit_zero (S := S128x8) _ hz, View.ld_unit_zero (S := S128x8) hz, View.ld_unit_zero (S := S8x128x128) hz3, View.readAt_eq_ld, harg1.read_unread, harg2.read_unread, harg3.read_unread, harg4.read_unread, harg5.read_unread, harg6.read_unread, harg7.read_unread, harg8.read_unread, harg9.read_unread, harg10.read_unread, harg11.read_unread, harg12.read_unread]
  rfl

/-- At a later point: the gradient of the mixing biases. -/
theorem out_B_11 (hc0 : ¬cond0_0 i) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10 xo11 = dbsV x0 x1 xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 xo10 xo11)]
  unfold kernelRun0_B
  dsimp only
  sl_unfold_words
  simp only [View.canon_unit_zero (S := S128x4096) hz, View.canon_cons_unit_zero (S := S128x4096) hz, View.readCov_unit_zero (S := S128x4096) _ hz, View.ld_unit_zero (S := S128x4096) hz, View.canon_unit_zero (S := S128x2048) hz, View.canon_cons_unit_zero (S := S128x2048) hz, View.readCov_unit_zero (S := S128x2048) _ hz, View.ld_unit_zero (S := S128x2048) hz, View.canon_unit_zero (S := S1x4096) hz, View.canon_cons_unit_zero (S := S1x4096) hz, View.readCov_unit_zero (S := S1x4096) _ hz, View.ld_unit_zero (S := S1x4096) hz, View.canon_unit_zero (S := S1x2048) hz, View.canon_cons_unit_zero (S := S1x2048) hz, View.readCov_unit_zero (S := S1x2048) _ hz, View.ld_unit_zero (S := S1x2048) hz, View.canon_unit_zero (S := S128x8) hz, View.canon_cons_unit_zero (S := S128x8) hz, View.readCov_unit_zero (S := S128x8) _ hz, View.ld_unit_zero (S := S128x8) hz, View.ld_unit_zero (S := S8x128x128) hz3, View.readAt_eq_ld, harg1.read_unread, harg2.read_unread, harg3.read_unread, harg4.read_unread, harg5.read_unread, harg6.read_unread, harg7.read_unread, harg8.read_unread, harg9.read_unread, harg10.read_unread, harg11.read_unread, harg12.read_unread]
  rfl

end

end Cert.Sgu
-- ==== Proof.Sgu.Fetch.lean ====
/-
What the body's six input windows hold at a point of the grid: 128 rows of the pre-activation and of the incoming
gradient, and the parameters whole.
-/
module

public import proofs.«01_k».proof.Proof.Sgu.Out
public import Idealize.ShloMosaic.Lib.ValueLayout

@[expose] public section

set_option maxRecDepth 16384

noncomputable section

namespace Cert.Sgu

open Cert.KernelIdeal Cert.KernelIdeal.Gen Idealize.ShloMosaic Idealize.ShloMosaic.TcCoe Idealize.SL.Sem

/-- Row `r` of chunk `t`. -/
def row (t : Fin 64) (r : Fin 128) : Fin 8192 := ⟨128 * t.val + r.val, by omega⟩

/-- The six arguments hold real numbers: the pre-activation `P` and the incoming gradient `D` by chunks of 128 rows, the
    parameters `a`. -/
structure Holds (x0 : Vec Ideal S8192x4096 .bf16) (x1 : Vec Ideal S8192x2048 .bf16) (x2 x3 : Vec Ideal S2048 .f32)
    (x4 : Vec Ideal S8x128x128 .f32) (x5 : Vec Ideal S8x128 .f32)
    (a : Params) (P : Fin 64 → Fin 128 → Fin 4096 → ℝ) (D : Fin 64 → Fin 128 → Fin 2048 → ℝ) : Prop where
  hp : ∀ t r k, x0 (ix2 (row t r) k) = ((P t r k : ℝ) : EReal)
  hm : ∀ t r k, x1 (ix2 (row t r) k) = ((D t r k : ℝ) : EReal)
  hg : ∀ k, x2 (ix1 k) = ((a.lg k : ℝ) : EReal)
  hb : ∀ k, x3 (ix1 k) = ((a.lb k : ℝ) : EReal)
  hw : ∀ g t s, x4 (ix3 g t s) = ((a.w g t s : ℝ) : EReal)
  hs : ∀ t g, x5 (ix2 g t) = ((a.bs t g : ℝ) : EReal)

variable (m : (ℓ : Loc nD τ sig) → Buf (Elt Ideal) ℓ) (c : Dev nD)

/-- The device's arguments hold real numbers. -/
abbrev HoldsK (a : Params) (P : Fin 64 → Fin 128 → Fin 4096 → ℝ) (D : Fin 64 → Fin 128 → Fin 2048 → ℝ) : Prop :=
  Holds (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) a P D

theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 ∧ win0_4.index t 2 = 0 :=
  (by decide +kernel : ∀ t : Fin grid0.N, _)
theorem idx5 : ∀ t : Fin cfg0.N, win0_5.index t 0 = 0 ∧ win0_5.index t 1 = 0 :=
  (by decide +kernel : ∀ t : Fin grid0.N, _)
theorem idx6 : ∀ t : Fin cfg0.N, win0_6.index t 0 = t.val ∧ win0_6.index t 1 = 0 :=
  (by decide +kernel : ∀ t : Fin grid0.N, _)

/-- The chunk a point of the grid works on. -/
abbrev pt (t : Fin cfg0.N) : Fin 64 := ⟨t.val, t.isLt.trans_eq N_0⟩

/-- The block of the pre-activation at a point is that chunk's rows. -/
theorem iblk0_apply (t : Fin cfg0.N) (r : Fin 128) (k : Fin 4096) :
    (iblk m c 0 t : Vec Ideal S128x4096 .bf16) (ix2 r k) = (m ((c : Thread nD τ).loc main_arg0) : Vec Ideal S8192x4096 .bf16) (ix2 (row (pt t) r) k) := by
  rw [← V_main_arg0 m c]
  unfold iblk
  rw [View.read_apply]
  show Gen.V m c main_arg0 _ = Gen.V m c main_arg0 _
  congr 1; funext b; apply Fin.ext
  have h := idx0 t
  match b with
  | ⟨0, _⟩ => show win0_0.index t 0 * 128 + 1 * r.val = 128 * t.val + r.val; omega
  | ⟨1, _⟩ => show win0_0.index t 1 * 4096 + 1 * k.val = k.val; omega

/-- The block of the incoming gradient at a point is that chunk's rows. -/
theorem iblk1_apply (t : Fin cfg0.N) (r : Fin 128) (k : Fin 2048) :
    (iblk m c 1 t : Vec Ideal S128x2048 .bf16) (ix2 r k) = (m ((c : Thread nD τ).loc main_arg1) : Vec Ideal S8192x2048 .bf16) (ix2 (row (pt t) r) k) := by
  rw [← V_main_arg1 m c]
  unfold iblk
  rw [View.read_apply]
  show Gen.V m c main_arg1 _ = Gen.V m c main_arg1 _
  congr 1; funext b; apply Fin.ext
  have h := idx1 t
  match b with
  | ⟨0, _⟩ => show win0_1.index t 0 * 128 + 1 * r.val = 128 * t.val + r.val; omega
  | ⟨1, _⟩ => show win0_1.index t 1 * 2048 + 1 * k.val = k.val; omega

/-- The scale of the normalisation as the call receives it: the vector laid in one row. -/
theorem V_v0 (k : Fin 2048) : (Gen.V m c main_v0 : Vec Ideal S1x2048 .f32) (ix2 0 k) = (m ((c : Thread nD τ).loc main_arg2) : Vec Ideal S2048 .f32) (ix1 k) := by
  show (shapeCast S1x2048 (m ((c : Thread nD τ).loc main_arg2) : Vec Ideal S2048 .f32) shapeCasts_S2048_S1x2048) (ix2 0 k) = _
  exact ValueIdx.shapeCast_a_1a_apply ..

/-- The offset of the normalisation as the call receives it. -/
theorem V_v1 (k : Fin 2048) : (Gen.V m c main_v1 : Vec Ideal S1x2048 .f32) (ix2 0 k) = (m ((c : Thread nD τ).loc main_arg3) : Vec Ideal S2048 .f32) (ix1 k) := by
  show (shapeCast S1x2048 (m ((c : Thread nD τ).loc main_arg3) : Vec Ideal S2048 .f32) shapeCasts_S2048_S1x2048) (ix2 0 k) = _
  exact ValueIdx.shapeCast_a_1a_apply ..

/-- The offsets of the mixing as the call receives them: transposed. -/
theorem V_v2 (t : Fin 128) (g : Fin 8) : (Gen.V m c main_v2 : Vec Ideal S128x8 .f32) (ix2 t g) = (m ((c : Thread nD τ).loc main_arg5) : Vec Ideal S8x128 .f32) (ix2 g t) := by
  show (transpose S128x8 [1, 0] (m ((c : Thread nD τ).loc main_arg5) : Vec Ideal S8x128 .f32) transposes_S8x128_S128x8_1_0) (ix2 t g) = _
  exact ValueIdx.transpose_ix2_apply ..

theorem iblk2_apply (t : Fin cfg0.N) (k : Fin 2048) :
    (iblk m c 2 t : Vec Ideal S1x2048 .f32) (ix2 0 k) = (m ((c : Thread nD τ).loc main_arg2) : Vec Ideal S2048 .f32) (ix1 k) := by
  rw [← V_v0 m c]
  unfold iblk
  rw [View.read_apply]
  show Gen.V m c main_v0 _ = Gen.V m c main_v0 _
  congr 1; funext b; apply Fin.ext
  have h := idx2 t
  match b with
  | ⟨0, _⟩ => show win0_2.index t 0 * 1 + 1 * 0 = 0; omega
  | ⟨1, _⟩ => show win0_2.index t 1 * 2048 + 1 * k.val = k.val; omega

theorem iblk3_apply (t : Fin cfg0.N) (k : Fin 2048) :
    (iblk m c 3 t : Vec Ideal S1x2048 .f32) (ix2 0 k) = (m ((c : Thread nD τ).loc main_arg3) : Vec Ideal S2048 .f32) (ix1 k) := by
  rw [← V_v1 m c]
  unfold iblk
  rw [View.read_apply]
  show Gen.V m c main_v1 _ = Gen.V m c main_v1 _
  congr 1; funext b; apply Fin.ext
  have h := idx3 t
  match b with
  | ⟨0, _⟩ => show win0_3.index t 0 * 1 + 1 * 0 = 0; omega
  | ⟨1, _⟩ => show win0_3.index t 1 * 2048 + 1 * k.val = k.val; omega

theorem iblk4_apply (t : Fin cfg0.N) (g : Fin 8) (r s : Fin 128) :
    (iblk m c 4 t : Vec Ideal S8x128x128 .f32) (ix3 g r s) = (m ((c : Thread nD τ).loc main_arg4) : Vec Ideal S8x128x128 .f32) (ix3 g r s) := by
  rw [← V_main_arg4 m c]
  unfold iblk
  rw [View.read_apply]
  show Gen.V m c main_arg4 _ = Gen.V m c main_arg4 _
  congr 1; funext b; apply Fin.ext
  have h := idx4 t
  match b with
  | ⟨0, _⟩ => show win0_4.index t 0 * 8 + 1 * g.val = g.val; omega
  | ⟨1, _⟩ => show win0_4.index t 1 * 128 + 1 * r.val = r.val; omega
  | ⟨2, _⟩ => show win0_4.index t 2 * 128 + 1 * s.val = s.val; omega

theorem iblk5_apply (t : Fin cfg0.N) (r : Fin 128) (g : Fin 8) :
    (iblk m c 5 t : Vec Ideal S128x8 .f32) (ix2 r g) = (m ((c : Thread nD τ).loc main_arg5) : Vec Ideal S8x128 .f32) (ix2 g r) := by
  rw [← V_v2 m c]
  unfold iblk
  rw [View.read_apply]
  show Gen.V m c main_v2 _ = Gen.V m c main_v2 _
  congr 1; funext b; apply Fin.ext
  have h := idx5 t
  match b with
  | ⟨0, _⟩ => show win0_5.index t 0 * 128 + 1 * r.val = r.val; omega
  | ⟨1, _⟩ => show win0_5.index t 1 * 8 + 1 * g.val = g.val; omega

end Cert.Sgu

end
-- ==== Proof.Sgu.Fold.lean ====
/-
The running contents of the outputs' blocks along the grid: after point `n` the five accumulators hold the sums over
the chunks up to `n`, the block of the gradient of the pre-activation holds chunk `n`'s.
-/
module

public import proofs.«01_k».proof.Proof.Sgu.Fetch

@[expose] public section

set_option maxRecDepth 16384

noncomputable section

namespace Cert.Sgu

open Cert.KernelIdeal Cert.KernelIdeal.Gen Idealize.ShloMosaic Idealize.ShloMosaic.TcCoe Idealize.SL.Sem

/-- The sum of the values of `f` at the chunks up to `n`. -/
def upTo (f : Fin 64 → ℝ) (n : ℕ) : ℝ := ∑ i : Fin 64, if i.val ≤ n then f i else 0

/-- Up to chunk 0 there is one summand. -/
theorem upTo_zero (f : Fin 64 → ℝ) (h : 0 < 64) : upTo f 0 = f ⟨0, h⟩ := by
  unfold upTo
  rw [Finset.sum_eq_single (⟨0, h⟩ : Fin 64)]
  · simp
  · intro b _ hb
    rw [if_neg]
    intro h0
    exact hb (Fin.ext (Nat.le_zero.mp h0))
  · simp

/-- One chunk more adds its summand. -/
theorem upTo_succ (f : Fin 64 → ℝ) (n : ℕ) (h : n + 1 < 64) : upTo f (n + 1) = upTo f n + f ⟨n + 1, h⟩ := by
  unfold upTo
  have : f ⟨n + 1, h⟩ = ∑ i : Fin 64, if i.val = n + 1 then f i else 0 := by
    rw [Finset.sum_eq_single (⟨n + 1, h⟩ : Fin 64)]
    · simp
    · intro b _ hb
      rw [if_neg]
      intro h0
      exact hb (Fin.ext h0)
    · simp
  rw [this, ← Finset.sum_add_distrib]
  refine Finset.sum_congr rfl fun i _ => ?_
  by_cases h1 : i.val ≤ n
  · rw [if_pos (by omega), if_pos h1, if_neg (by omega), add_zero]
  · by_cases h2 : i.val = n + 1
    · rw [if_pos (by omega), if_neg h1, if_pos h2, zero_add]
    · rw [if_neg (by omega), if_neg h1, if_neg h2, add_zero]

/-- Up to the last chunk it is the sum over all. -/
theorem upTo_last (f : Fin 64 → ℝ) : upTo f 63 = ∑ i, f i :=
  Finset.sum_congr rfl fun i _ => if_pos (by omega)

theorem zero7 (k : Fin 4096) : (k0_pay4 (F := Ideal)) (ix2 0 k) = ((0 : ℝ) : EReal) := by
  pointwise [k0_pay4]
  simp
theorem zero8' (k : Fin 2048) : (k0_pay5 (F := Ideal)) (ix2 0 k) = ((0 : ℝ) : EReal) := by
  pointwise [k0_pay5]
  simp
theorem zero9 (k : Fin 2048) : (k0_pay6 (F := Ideal)) (ix2 0 k) = ((0 : ℝ) : EReal) := by
  pointwise [k0_pay6]
  simp
theorem zero10 (g : Fin 8) (t s : Fin 128) : zero8 (ix3 g t s) = ((0 : ℝ) : EReal) := by
  pointwise [zero8, k0_pay7]
  simp
theorem zero11 (t : Fin 128) (g : Fin 8) : (k0_pay8 (F := Ideal)) (ix2 t g) = ((0 : ℝ) : EReal) := by
  pointwise [k0_pay8]
  simp

variable (m : (ℓ : Loc nD τ sig) → Buf (Elt Ideal) ℓ) (c : Dev nD)
  {a : Params} {P : Fin 64 → Fin 128 → Fin 4096 → ℝ} {D : Fin 64 → Fin 128 → Fin 2048 → ℝ}

/-- What the six outputs' blocks hold after point `n`. -/
structure After (a : Params) (P : Fin 64 → Fin 128 → Fin 4096 → ℝ) (D : Fin 64 → Fin 128 → Fin 2048 → ℝ) (n : ℕ) (hn : n < 64)
    (o : Vec Ideal S128x4096 .bf16 × Vec Ideal S1x4096 .f32 × Vec Ideal S1x2048 .f32 × Vec Ideal S1x2048 .f32 × Vec Ideal S8x128x128 .f32 × Vec Ideal S128x8 .f32) : Prop where
  o6 : ∀ r k, o.1 (ix2 r k) = ((dp a (P ⟨n, hn⟩) (D ⟨n, hn⟩) r k : ℝ) : EReal)
  o7 : ∀ k, o.2.1 (ix2 0 k) = ((upTo (fun t => dbinB a (P t) (D t) k) n : ℝ) : EReal)
  o8 : ∀ k, o.2.2.1 (ix2 0 k) = ((upTo (fun t => dlgB a (P t) (D t) k) n : ℝ) : EReal)
  o9 : ∀ k, o.2.2.2.1 (ix2 0 k) = ((upTo (fun t => dlbB a (P t) (D t) k) n : ℝ) : EReal)
  o10 : ∀ g t s, o.2.2.2.2.1 (ix3 g t s) = ((upTo (fun i => dwsB a (P i) (D i) g t s) n : ℝ) : EReal)
  o11 : ∀ t g, o.2.2.2.2.2 (ix2 t g) = ((upTo (fun i => dbsB (P i) (D i) t g) n : ℝ) : EReal)

/-- The running contents, by induction on the point. -/
theorem outs_after (h : HoldsK m c a P D) : ∀ (n : ℕ) (hn : n < cfg0.N),
    After a P D n (hn.trans_eq N_0) (outsAt0 m c n hn)
  | 0, hn => by
    have hp : ∀ r k, (iblk m c 0 ⟨0, hn⟩ : Vec Ideal S128x4096 .bf16) (ix2 r k) = ((P ⟨0, hn.trans_eq N_0⟩ r k : ℝ) : EReal) := fun r k => (iblk0_apply m c _ r k).trans (h.hp _ r k)
    have hm : ∀ r k, (iblk m c 1 ⟨0, hn⟩ : Vec Ideal S128x2048 .bf16) (ix2 r k) = ((D ⟨0, hn.trans_eq N_0⟩ r k : ℝ) : EReal) := fun r k => (iblk1_apply m c _ r k).trans (h.hm _ r k)
    have h2 : ∀ k, (iblk m c 2 ⟨0, hn⟩ : Vec Ideal S1x2048 .f32) (ix2 0 k) = ((a.lg k : ℝ) : EReal) := fun k => (iblk2_apply m c _ k).trans (h.hg k)
    have h3 : ∀ k, (iblk m c 3 ⟨0, hn⟩ : Vec Ideal S1x2048 .f32) (ix2 0 k) = ((a.lb k : ℝ) : EReal) := fun k => (iblk3_apply m c _ k).trans (h.hb k)
    have h4 : ∀ g t s, (iblk m c 4 ⟨0, hn⟩ : Vec Ideal S8x128x128 .f32) (ix3 g t s) = ((a.w g t s : ℝ) : EReal) := fun g t s => (iblk4_apply m c _ g t s).trans (h.hw g t s)
    have h5 : ∀ t g, (iblk m c 5 ⟨0, hn⟩ : Vec Ideal S128x8 .f32) (ix2 t g) = ((a.bs t g : ℝ) : EReal) := fun t g => (iblk5_apply m c _ t g).trans (h.hs t g)
    rw [outsAt0_A m c ⟨0, hn⟩ rfl]
    constructor
    · intro r k
      dsimp only
      rw [out_A_6]
      exact dpV_apply hp hm h2 h3 h4 h5 r k
    · intro k
      dsimp only
      rw [out_A_7, upTo_zero _ (by norm_num), ← zero_add (dbinB _ _ _ _)]
      exact dbinV_apply (e := fun _ => 0) hp hm h2 h3 h4 h5 zero7 k
    · intro k
      dsimp only
      rw [out_A_8, upTo_zero _ (by norm_num), ← zero_add (dlgB _ _ _ _)]
      exact dlgV_apply (e := fun _ => 0) hp hm h4 zero8' k
    · intro k
      dsimp only
      rw [out_A_9, upTo_zero _ (by norm_num), ← zero_add (dlbB _ _ _ _)]
      exact dlbV_apply (e := fun _ => 0) hp hm h4 zero9 k
    · intro g t s
      dsimp only
      rw [out_A_10, upTo_zero _ (by norm_num), ← zero_add (dwsB _ _ _ _ _ _)]
      exact dwsL_apply (f := fun _ _ _ => 0) hp hm h2 h3 (ld_apply zero10 0 _) (ld_apply zero10 1 _) (ld_apply zero10 2 _) (ld_apply zero10 3 _)
        (ld_apply zero10 4 _) (ld_apply zero10 5 _) (ld_apply zero10 6 _) (ld_apply zero10 7 _) g t s
    · intro t g
      dsimp only
      rw [out_A_11, upTo_zero _ (by norm_num), ← zero_add (dbsB _ _ _ _)]
      exact dbsV_apply (e := fun _ _ => 0) hp hm zero11 t g
  | n + 1, hn => by
    have hn64 : n + 1 < 64 := hn.trans_eq N_0
    have ih := outs_after h n (Nat.lt_of_succ_lt hn)
    have hp : ∀ r k, (iblk m c 0 ⟨n + 1, hn⟩ : Vec Ideal S128x4096 .bf16) (ix2 r k) = ((P ⟨n + 1, hn64⟩ r k : ℝ) : EReal) := fun r k => (iblk0_apply m c _ r k).trans (h.hp _ r k)
    have hm : ∀ r k, (iblk m c 1 ⟨n + 1, hn⟩ : Vec Ideal S128x2048 .bf16) (ix2 r k) = ((D ⟨n + 1, hn64⟩ r k : ℝ) : EReal) := fun r k => (iblk1_apply m c _ r k).trans (h.hm _ r k)
    have h2 : ∀ k, (iblk m c 2 ⟨n + 1, hn⟩ : Vec Ideal S1x2048 .f32) (ix2 0 k) = ((a.lg k : ℝ) : EReal) := fun k => (iblk2_apply m c _ k).trans (h.hg k)
    have h3 : ∀ k, (iblk m c 3 ⟨n + 1, hn⟩ : Vec Ideal S1x2048 .f32) (ix2 0 k) = ((a.lb k : ℝ) : EReal) := fun k => (iblk3_apply m c _ k).trans (h.hb k)
    have h4 : ∀ g t s, (iblk m c 4 ⟨n + 1, hn⟩ : Vec Ideal S8x128x128 .f32) (ix3 g t s) = ((a.w g t s : ℝ) : EReal) := fun g t s => (iblk4_apply m c _ g t s).trans (h.hw g t s)
    have h5 : ∀ t g, (iblk m c 5 ⟨n + 1, hn⟩ : Vec Ideal S128x8 .f32) (ix2 t g) = ((a.bs t g : ℝ) : EReal) := fun t g => (iblk5_apply m c _ t g).trans (h.hs t g)
    have hB : ¬ (⟨n + 1, hn⟩ : Fin cfg0.N).val % 64 = 0 := by
      show ¬ (n + 1) % 64 = 0
      omega
    rw [outsAt0_B m c ⟨n + 1, hn⟩ hB]
    constructor
    · intro r k
      dsimp only
      rw [out_B_6]
      exact dpV_apply hp hm h2 h3 h4 h5 r k
    · intro k
      dsimp only
      rw [out_B_7, upTo_succ _ _ hn64]
      exact dbinV_apply (e := fun k => upTo (fun t => dbinB a (P t) (D t) k) n) hp hm h2 h3 h4 h5 ih.o7 k
    · intro k
      dsimp only
      rw [out_B_8, upTo_succ _ _ hn64]
      exact dlgV_apply (e := fun k => upTo (fun t => dlgB a (P t) (D t) k) n) hp hm h4 ih.o8 k
    · intro k
      dsimp only
      rw [out_B_9, upTo_succ _ _ hn64]
      exact dlbV_apply (e := fun k => upTo (fun t => dlbB a (P t) (D t) k) n) hp hm h4 ih.o9 k
    · intro g t s
      dsimp only
      rw [out_B_10, upTo_succ _ _ hn64]
      have hl := ih.o10
      exact dwsL_apply (f := fun g t s => upTo (fun i => dwsB a (P i) (D i) g t s) n) hp hm h2 h3 (ld_apply hl 0 _) (ld_apply hl 1 _) (ld_apply hl 2 _) (ld_apply hl 3 _)
        (ld_apply hl 4 _) (ld_apply hl 5 _) (ld_apply hl 6 _) (ld_apply hl 7 _) g t s
    · intro t g
      dsimp only
      rw [out_B_11, upTo_succ _ _ hn64]
      exact dbsV_apply (e := fun t g => upTo (fun i => dbsB (P i) (D i) t g) n) hp hm ih.o11 t g

end Cert.Sgu

end
-- ==== Proof.Sgu.Arrays.lean ====
/-
The six result arrays after the run: the gradient of the pre-activation row by row, the five accumulated gradients as
sums over the 64 chunks.
-/
module

public import proofs.«01_k».proof.Proof.Sgu.Fold

@[expose] public section

set_option maxRecDepth 16384

noncomputable section

namespace Cert.Sgu

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)
  {a : Params} {P : Fin 64 → Fin 128 → Fin 4096 → ℝ} {D : Fin 64 → Fin 128 → Fin 2048 → ℝ}

theorem at63 : 63 < cfg0.N := lt_of_lt_of_eq (by norm_num) N_0.symm

/-- The last point of the grid. -/
abbrev tLast : Fin cfg0.N := ⟨63, at63⟩

/-- A point of the grid, from its chunk. -/
abbrev ptOf (t : Fin 64) : Fin cfg0.N := ⟨t.val, t.isLt.trans_eq N_0.symm⟩

/-- The gradient of the pre-activation ends with every chunk's rows. -/
theorem final6 (h : HoldsK m c a P D) (t : Fin 64) (r : Fin 128) (k : Fin 4096) :
    ((dats m 0 c).arrAt 6 cfg0.N : Vec Ideal S8192x4096 .bf16) (ix2 (row t r) k) = ((dp a (P t) (D t) r k : ℝ) : EReal) := by
  have hb := blocks6 m c (ptOf t) (flush0_6 _)
  rw [flushed6] at hb
  have hb' := congrFun hb (ix2 r k)
  refine Eq.trans ?_ (hb'.trans ((outs_after m c h t.val (t.isLt.trans_eq N_0.symm)).o6 r k))
  rw [View.read_apply]
  show (dats m 0 c).arrAt 6 cfg0.N _ = (dats m 0 c).arrAt 6 cfg0.N _
  congr 1; funext b; apply Fin.ext
  have hi := idx6 (ptOf t)
  match b with
  | ⟨0, _⟩ => show 128 * t.val + r.val = win0_6.index (ptOf t) 0 * 128 + 1 * r.val; rw [hi.1]; show _ = t.val * 128 + _; omega
  | ⟨1, _⟩ => show k.val = win0_6.index (ptOf t) 1 * 4096 + 1 * k.val; omega

theorem flush_last {n : ℕ} (h : n = 63) : n % 64 = 63 := by omega

/-- The block of the gradient of the bias sits at the origin of its array. -/
theorem hz_7 : (fun b : Fin 2 => win0_7.index tLast b * win0_7.size b) = fun _ => 0 := by decide +kernel

/-- The last point writes back the running contents of the accumulator of the bias. -/
theorem flushedEq7 (X : Vec Ideal S1x4096 .f32) (hX : ∀ (n : ℕ) (hn : n < cfg0.N), n = 63 → (outsAt0 m c n hn).2.1 = X)
    (t : Fin cfg0.N) (hf : (cfg0.win 7).flush t = true) :
    (dats m 0 c).flushed 7 t = ((cfg0.win 7).blk t).view.read (Elt Ideal) X := by
  have h1 := (flush0_7 t).mp hf
  have h2 : t.val < 64 := t.isLt.trans_eq N_0
  have h3 : t.val = 63 := by omega
  rw [flushed7, hX _ _ h3]
  obtain rfl : t = tLast := Fin.ext h3
  exact (Memref.read_access_unit_zero (Elt Ideal) main_v3_1 hz_7 (fun b => by rw [congrFun hz_7 b]; simp) X).symm

/-- The array of the gradient of the bias ends with the sums over the chunks. -/
theorem final7 (h : HoldsK m c a P D) (k : Fin 4096) :
    ((dats m 0 c).arrAt 7 cfg0.N : Vec Ideal S1x4096 .f32) (ix2 0 k) = ((∑ t, dbinB a (P t) (D t) k : ℝ) : EReal) := by
  obtain ⟨n, hn, hn'⟩ : ∃ n, n < cfg0.N ∧ n = 63 := ⟨63, at63, rfl⟩
  obtain ⟨X, hX⟩ : ∃ X, (outsAt0 m c n hn).2.1 = X := ⟨_, rfl⟩
  have hX' : ∀ (k : ℕ) (hk : k < cfg0.N), k = 63 → (outsAt0 m c k hk).2.1 = X := fun k hk e => by
    obtain rfl : k = n := e.trans hn'.symm
    exact hX
  have hv := (outs_after m c h n hn).o7 k
  rw [hX, hn', upTo_last] at hv
  rw [← hv]
  refine congrFun ((dats m 0 c).arrAt_eq_of_cover 7 X (flushedEq7 m c X hX') fun i => ⟨tLast, (flush0_7 tLast).mpr rfl, ?_⟩) _
  show i ∈ ((View.whole main_v3_1).slice (win0_7.rect tLast)).set
  rw [View.set_slice_whole, Rect.mem_set_unit]
  intro b
  match b with
    | ⟨0, _⟩ =>
      show win0_7.index tLast 0 * win0_7.size 0 ≤ (i 0 : Nat) ∧ (i 0 : Nat) < win0_7.index tLast 0 * win0_7.size 0 + win0_7.xsize (grid0.coords tLast) 0
      rw [show win0_7.index tLast 0 * win0_7.size 0 = 0 from by decide +kernel, show win0_7.xsize (grid0.coords tLast) 0 = 1 from by decide +kernel]
      exact ⟨Nat.zero_le _, by have h0 : (i 0 : Nat) < 1 := (i 0).isLt; omega⟩
    | ⟨1, _⟩ =>
      show win0_7.index tLast 1 * win0_7.size 1 ≤ (i 1 : Nat) ∧ (i 1 : Nat) < win0_7.index tLast 1 * win0_7.size 1 + win0_7.xsize (grid0.coords tLast) 1
      rw [show win0_7.index tLast 1 * win0_7.size 1 = 0 from by decide +kernel, show win0_7.xsize (grid0.coords tLast) 1 = 4096 from by decide +kernel]
      exact ⟨Nat.zero_le _, by have h0 : (i 1 : Nat) < 4096 := (i 1).isLt; omega⟩

/-- The block of the gradient of the normalisation's scale sits at the origin of its array. -/
theorem hz_8 : (fun b : Fin 2 => win0_8.index tLast b * win0_8.size b) = fun _ => 0 := by decide +kernel

/-- The last point writes back the running contents of the accumulator of the normalisation's scale. -/
theorem flushedEq8 (X : Vec Ideal S1x2048 .f32) (hX : ∀ (n : ℕ) (hn : n < cfg0.N), n = 63 → (outsAt0 m c n hn).2.2.1 = X)
    (t : Fin cfg0.N) (hf : (cfg0.win 8).flush t = true) :
    (dats m 0 c).flushed 8 t = ((cfg0.win 8).blk t).view.read (Elt Ideal) X := by
  have h1 := (flush0_8 t).mp hf
  have h2 : t.val < 64 := t.isLt.trans_eq N_0
  have h3 : t.val = 63 := by omega
  rw [flushed8, hX _ _ h3]
  obtain rfl : t = tLast := Fin.ext h3
  exact (Memref.read_access_unit_zero (Elt Ideal) main_v3_2 hz_8 (fun b => by rw [congrFun hz_8 b]; simp) X).symm

/-- The array of the gradient of the normalisation's scale ends with the sums over the chunks. -/
theorem final8 (h : HoldsK m c a P D) (k : Fin 2048) :
    ((dats m 0 c).arrAt 8 cfg0.N : Vec Ideal S1x2048 .f32) (ix2 0 k) = ((∑ t, dlgB a (P t) (D t) k : ℝ) : EReal) := by
  obtain ⟨n, hn, hn'⟩ : ∃ n, n < cfg0.N ∧ n = 63 := ⟨63, at63, rfl⟩
  obtain ⟨X, hX⟩ : ∃ X, (outsAt0 m c n hn).2.2.1 = X := ⟨_, rfl⟩
  have hX' : ∀ (k : ℕ) (hk : k < cfg0.N), k = 63 → (outsAt0 m c k hk).2.2.1 = X := fun k hk e => by
    obtain rfl : k = n := e.trans hn'.symm
    exact hX
  have hv := (outs_after m c h n hn).o8 k
  rw [hX, hn', upTo_last] at hv
  rw [← hv]
  refine congrFun ((dats m 0 c).arrAt_eq_of_cover 8 X (flushedEq8 m c X hX') fun i => ⟨tLast, (flush0_8 tLast).mpr rfl, ?_⟩) _
  show i ∈ ((View.whole main_v3_2).slice (win0_8.rect tLast)).set
  rw [View.set_slice_whole, Rect.mem_set_unit]
  intro b
  match b with
    | ⟨0, _⟩ =>
      show win0_8.index tLast 0 * win0_8.size 0 ≤ (i 0 : Nat) ∧ (i 0 : Nat) < win0_8.index tLast 0 * win0_8.size 0 + win0_8.xsize (grid0.coords tLast) 0
      rw [show win0_8.index tLast 0 * win0_8.size 0 = 0 from by decide +kernel, show win0_8.xsize (grid0.coords tLast) 0 = 1 from by decide +kernel]
      exact ⟨Nat.zero_le _, by have h0 : (i 0 : Nat) < 1 := (i 0).isLt; omega⟩
    | ⟨1, _⟩ =>
      show win0_8.index tLast 1 * win0_8.size 1 ≤ (i 1 : Nat) ∧ (i 1 : Nat) < win0_8.index tLast 1 * win0_8.size 1 + win0_8.xsize (grid0.coords tLast) 1
      rw [show win0_8.index tLast 1 * win0_8.size 1 = 0 from by decide +kernel, show win0_8.xsize (grid0.coords tLast) 1 = 2048 from by decide +kernel]
      exact ⟨Nat.zero_le _, by have h0 : (i 1 : Nat) < 2048 := (i 1).isLt; omega⟩

/-- The block of the normalisation's offset' gradient sits at the origin of its array. -/
theorem hz_9 : (fun b : Fin 2 => win0_9.index tLast b * win0_9.size b) = fun _ => 0 := by decide +kernel

/-- The last point writes back the running contents of the accumulator of the normalisation's offset. -/
theorem flushedEq9 (X : Vec Ideal S1x2048 .f32) (hX : ∀ (n : ℕ) (hn : n < cfg0.N), n = 63 → (outsAt0 m c n hn).2.2.2.1 = X)
    (t : Fin cfg0.N) (hf : (cfg0.win 9).flush t = true) :
    (dats m 0 c).flushed 9 t = ((cfg0.win 9).blk t).view.read (Elt Ideal) X := by
  have h1 := (flush0_9 t).mp hf
  have h2 : t.val < 64 := t.isLt.trans_eq N_0
  have h3 : t.val = 63 := by omega
  rw [flushed9, hX _ _ h3]
  obtain rfl : t = tLast := Fin.ext h3
  exact (Memref.read_access_unit_zero (Elt Ideal) main_v3_3 hz_9 (fun b => by rw [congrFun hz_9 b]; simp) X).symm

/-- The array of the normalisation's offset' gradient ends with the sums over the chunks. -/
theorem final9 (h : HoldsK m c a P D) (k : Fin 2048) :
    ((dats m 0 c).arrAt 9 cfg0.N : Vec Ideal S1x2048 .f32) (ix2 0 k) = ((∑ t, dlbB a (P t) (D t) k : ℝ) : EReal) := by
  obtain ⟨n, hn, hn'⟩ : ∃ n, n < cfg0.N ∧ n = 63 := ⟨63, at63, rfl⟩
  obtain ⟨X, hX⟩ : ∃ X, (outsAt0 m c n hn).2.2.2.1 = X := ⟨_, rfl⟩
  have hX' : ∀ (k : ℕ) (hk : k < cfg0.N), k = 63 → (outsAt0 m c k hk).2.2.2.1 = X := fun k hk e => by
    obtain rfl : k = n := e.trans hn'.symm
    exact hX
  have hv := (outs_after m c h n hn).o9 k
  rw [hX, hn', upTo_last] at hv
  rw [← hv]
  refine congrFun ((dats m 0 c).arrAt_eq_of_cover 9 X (flushedEq9 m c X hX') fun i => ⟨tLast, (flush0_9 tLast).mpr rfl, ?_⟩) _
  show i ∈ ((View.whole main_v3_3).slice (win0_9.rect tLast)).set
  rw [View.set_slice_whole, Rect.mem_set_unit]
  intro b
  match b with
    | ⟨0, _⟩ =>
      show win0_9.index tLast 0 * win0_9.size 0 ≤ (i 0 : Nat) ∧ (i 0 : Nat) < win0_9.index tLast 0 * win0_9.size 0 + win0_9.xsize (grid0.coords tLast) 0
      rw [show win0_9.index tLast 0 * win0_9.size 0 = 0 from by decide +kernel, show win0_9.xsize (grid0.coords tLast) 0 = 1 from by decide +kernel]
      exact ⟨Nat.zero_le _, by have h0 : (i 0 : Nat) < 1 := (i 0).isLt; omega⟩
    | ⟨1, _⟩ =>
      show win0_9.index tLast 1 * win0_9.size 1 ≤ (i 1 : Nat) ∧ (i 1 : Nat) < win0_9.index tLast 1 * win0_9.size 1 + win0_9.xsize (grid0.coords tLast) 1
      rw [show win0_9.index tLast 1 * win0_9.size 1 = 0 from by decide +kernel, show win0_9.xsize (grid0.coords tLast) 1 = 2048 from by decide +kernel]
      exact ⟨Nat.zero_le _, by have h0 : (i 1 : Nat) < 2048 := (i 1).isLt; omega⟩

/-- The block of the mixing matrices' gradient sits at the origin of its array. -/
theorem hz_10 : (fun b : Fin 3 => win0_10.index tLast b * win0_10.size b) = fun _ => 0 := by decide +kernel

/-- The last point writes back the running contents of the accumulator of the mixing matrices. -/
theorem flushedEq10 (X : Vec Ideal S8x128x128 .f32) (hX : ∀ (n : ℕ) (hn : n < cfg0.N), n = 63 → (outsAt0 m c n hn).2.2.2.2.1 = X)
    (t : Fin cfg0.N) (hf : (cfg0.win 10).flush t = true) :
    (dats m 0 c).flushed 10 t = ((cfg0.win 10).blk t).view.read (Elt Ideal) X := by
  have h1 := (flush0_10 t).mp hf
  have h2 : t.val < 64 := t.isLt.trans_eq N_0
  have h3 : t.val = 63 := by omega
  rw [flushed10, hX _ _ h3]
  obtain rfl : t = tLast := Fin.ext h3
  exact (Memref.read_access_unit_zero (Elt Ideal) main_v3_4 hz_10 (fun b => by rw [congrFun hz_10 b]; simp) X).symm

/-- The array of the mixing matrices' gradient ends with the sums over the chunks. -/
theorem final10 (h : HoldsK m c a P D) (g : Fin 8) (t s : Fin 128) :
    ((dats m 0 c).arrAt 10 cfg0.N : Vec Ideal S8x128x128 .f32) (ix3 g t s) = ((∑ i, dwsB a (P i) (D i) g t s : ℝ) : EReal) := by
  obtain ⟨n, hn, hn'⟩ : ∃ n, n < cfg0.N ∧ n = 63 := ⟨63, at63, rfl⟩
  obtain ⟨X, hX⟩ : ∃ X, (outsAt0 m c n hn).2.2.2.2.1 = X := ⟨_, rfl⟩
  have hX' : ∀ (k : ℕ) (hk : k < cfg0.N), k = 63 → (outsAt0 m c k hk).2.2.2.2.1 = X := fun k hk e => by
    obtain rfl : k = n := e.trans hn'.symm
    exact hX
  have hv := (outs_after m c h n hn).o10 g t s
  rw [hX, hn', upTo_last] at hv
  rw [← hv]
  refine congrFun ((dats m 0 c).arrAt_eq_of_cover 10 X (flushedEq10 m c X hX') fun i => ⟨tLast, (flush0_10 tLast).mpr rfl, ?_⟩) _
  show i ∈ ((View.whole main_v3_4).slice (win0_10.rect tLast)).set
  rw [View.set_slice_whole, Rect.mem_set_unit]
  intro b
  match b with
    | ⟨0, _⟩ =>
      show win0_10.index tLast 0 * win0_10.size 0 ≤ (i 0 : Nat) ∧ (i 0 : Nat) < win0_10.index tLast 0 * win0_10.size 0 + win0_10.xsize (grid0.coords tLast) 0
      rw [show win0_10.index tLast 0 * win0_10.size 0 = 0 from by decide +kernel, show win0_10.xsize (grid0.coords tLast) 0 = 8 from by decide +kernel]
      exact ⟨Nat.zero_le _, by have h0 : (i 0 : Nat) < 8 := (i 0).isLt; omega⟩
    | ⟨1, _⟩ =>
      show win0_10.index tLast 1 * win0_10.size 1 ≤ (i 1 : Nat) ∧ (i 1 : Nat) < win0_10.index tLast 1 * win0_10.size 1 + win0_10.xsize (grid0.coords tLast) 1
      rw [show win0_10.index tLast 1 * win0_10.size 1 = 0 from by decide +kernel, show win0_10.xsize (grid0.coords tLast) 1 = 128 from by decide +kernel]
      exact ⟨Nat.zero_le _, by have h0 : (i 1 : Nat) < 128 := (i 1).isLt; omega⟩
    | ⟨2, _⟩ =>
      show win0_10.index tLast 2 * win0_10.size 2 ≤ (i 2 : Nat) ∧ (i 2 : Nat) < win0_10.index tLast 2 * win0_10.size 2 + win0_10.xsize (grid0.coords tLast) 2
      rw [show win0_10.index tLast 2 * win0_10.size 2 = 0 from by decide +kernel, show win0_10.xsize (grid0.coords tLast) 2 = 128 from by decide +kernel]
      exact ⟨Nat.zero_le _, by have h0 : (i 2 : Nat) < 128 := (i 2).isLt; omega⟩

/-- The block of the mixing offsets' gradient sits at the origin of its array. -/
theorem hz_11 : (fun b : Fin 2 => win0_11.index tLast b * win0_11.size b) = fun _ => 0 := by decide +kernel

/-- The last point writes back the running contents of the accumulator of the mixing offsets. -/
theorem flushedEq11 (X : Vec Ideal S128x8 .f32) (hX : ∀ (n : ℕ) (hn : n < cfg0.N), n = 63 → (outsAt0 m c n hn).2.2.2.2.2 = X)
    (t : Fin cfg0.N) (hf : (cfg0.win 11).flush t = true) :
    (dats m 0 c).flushed 11 t = ((cfg0.win 11).blk t).view.read (Elt Ideal) X := by
  have h1 := (flush0_11 t).mp hf
  have h2 : t.val < 64 := t.isLt.trans_eq N_0
  have h3 : t.val = 63 := by omega
  rw [flushed11, hX _ _ h3]
  obtain rfl : t = tLast := Fin.ext h3
  exact (Memref.read_access_unit_zero (Elt Ideal) main_v3_5 hz_11 (fun b => by rw [congrFun hz_11 b]; simp) X).symm

/-- The array of the mixing offsets' gradient ends with the sums over the chunks. -/
theorem final11 (h : HoldsK m c a P D) (t : Fin 128) (g : Fin 8) :
    ((dats m 0 c).arrAt 11 cfg0.N : Vec Ideal S128x8 .f32) (ix2 t g) = ((∑ i, dbsB (P i) (D i) t g : ℝ) : EReal) := by
  obtain ⟨n, hn, hn'⟩ : ∃ n, n < cfg0.N ∧ n = 63 := ⟨63, at63, rfl⟩
  obtain ⟨X, hX⟩ : ∃ X, (outsAt0 m c n hn).2.2.2.2.2 = X := ⟨_, rfl⟩
  have hX' : ∀ (k : ℕ) (hk : k < cfg0.N), k = 63 → (outsAt0 m c k hk).2.2.2.2.2 = X := fun k hk e => by
    obtain rfl : k = n := e.trans hn'.symm
    exact hX
  have hv := (outs_after m c h n hn).o11 t g
  rw [hX, hn', upTo_last] at hv
  rw [← hv]
  refine congrFun ((dats m 0 c).arrAt_eq_of_cover 11 X (flushedEq11 m c X hX') fun i => ⟨tLast, (flush0_11 tLast).mpr rfl, ?_⟩) _
  show i ∈ ((View.whole main_v3_5).slice (win0_11.rect tLast)).set
  rw [View.set_slice_whole, Rect.mem_set_unit]
  intro b
  match b with
    | ⟨0, _⟩ =>
      show win0_11.index tLast 0 * win0_11.size 0 ≤ (i 0 : Nat) ∧ (i 0 : Nat) < win0_11.index tLast 0 * win0_11.size 0 + win0_11.xsize (grid0.coords tLast) 0
      rw [show win0_11.index tLast 0 * win0_11.size 0 = 0 from by decide +kernel, show win0_11.xsize (grid0.coords tLast) 0 = 128 from by decide +kernel]
      exact ⟨Nat.zero_le _, by have h0 : (i 0 : Nat) < 128 := (i 0).isLt; omega⟩
    | ⟨1, _⟩ =>
      show win0_11.index tLast 1 * win0_11.size 1 ≤ (i 1 : Nat) ∧ (i 1 : Nat) < win0_11.index tLast 1 * win0_11.size 1 + win0_11.xsize (grid0.coords tLast) 1
      rw [show win0_11.index tLast 1 * win0_11.size 1 = 0 from by decide +kernel, show win0_11.xsize (grid0.coords tLast) 1 = 8 from by decide +kernel]
      exact ⟨Nat.zero_le _, by have h0 : (i 1 : Nat) < 8 := (i 1).isLt; omega⟩

end Cert.Sgu

end
-- ==== Proof.Sgu.RefOps.lean ====
/-
The host's operations on real numbers: each takes casts of real numbers to the cast of the real result.
-/
module

public import proofs.«01_k».proof.Proof.Sgu.Fetch
public import proofs.«01_k».proof.Proof.Gen.ReferenceIdeal.Read

@[expose] public section

noncomputable section

namespace Cert.Sgu

open Idealize.ShloMosaic

/-- An index of rank 2 is given by its two coordinates. -/
theorem at2 {n m : ℕ} (j : (⟨2, ![n, m]⟩ : Shape).Idx) (a : Fin n) (b : Fin m) (h0 : (j 0).val = a.val) (h1 : (j 1).val = b.val) :
    j = ix2 a b := funext fun i => Fin.ext (match i with | ⟨0, _⟩ => h0 | ⟨1, _⟩ => h1)

/-- An index of rank 1 is given by its coordinate. -/
theorem at1 {n : ℕ} (j : (⟨1, ![n]⟩ : Shape).Idx) (a : Fin n) (h0 : (j 0).val = a.val) :
    j = ix1 a := funext fun i => Fin.ext (match i with | ⟨0, _⟩ => h0)

/-- An index of rank 3 is given by its three coordinates. -/
theorem at3 {n m l : ℕ} (j : (⟨3, ![n, m, l]⟩ : Shape).Idx) (a : Fin n) (b : Fin m) (c : Fin l) (h0 : (j 0).val = a.val)
    (h1 : (j 1).val = b.val) (h2 : (j 2).val = c.val) :
    j = ix3 a b c := funext fun i => Fin.ext (match i with | ⟨0, _⟩ => h0 | ⟨1, _⟩ => h1 | ⟨2, _⟩ => h2)

section
variable {φ : FTy} {a b : Ideal φ} {x y : ℝ}

theorem mulT (ha : a = (x : EReal)) (hb : b = (y : EReal)) : FloatOps.mulf (F := Ideal) a b = ((x * y : ℝ) : EReal) := by
  subst ha hb; exact (EReal.coe_mul x y).symm

theorem addT (ha : a = (x : EReal)) (hb : b = (y : EReal)) : FloatOps.addf (F := Ideal) a b = ((x + y : ℝ) : EReal) := by
  subst ha hb; exact (EReal.coe_add x y).symm

theorem subT (ha : a = (x : EReal)) (hb : b = (y : EReal)) : FloatOps.subf (F := Ideal) a b = ((x - y : ℝ) : EReal) := by
  subst ha hb; exact (EReal.coe_sub x y).symm

theorem divT (ha : a = (x : EReal)) (hb : b = (y : EReal)) (hy : y ≠ 0) : FloatOps.hostDivf (F := Ideal) a b = ((x / y : ℝ) : EReal) := by
  subst ha hb; exact div_real x y hy

theorem negT (ha : a = (x : EReal)) : FloatOps.hostNegf (F := Ideal) a = ((-x : ℝ) : EReal) := by
  subst ha; exact (EReal.coe_neg x).symm

theorem expT (ha : a = (x : EReal)) : FloatOps.hostUnary (F := Ideal) .exp a = ((Real.exp x : ℝ) : EReal) := by
  subst ha; exact Ideal.exp_coe x

theorem erfT (ha : a = (x : EReal)) : FloatOps.hostUnary (F := Ideal) .erf a = ((erfR x : ℝ) : EReal) := by
  subst ha; exact erf_coe x

theorem sqrtT (ha : a = (x : EReal)) (hx : 0 ≤ x) : FloatOps.hostUnary (F := Ideal) .sqrt a = ((Real.sqrt x : ℝ) : EReal) := by
  subst ha
  show Ideal.sqrt (x : EReal) = _
  rw [Ideal.sqrt_coe, if_neg (not_lt.mpr hx)]

theorem acosT (ha : a = (x : EReal)) (hx : -1 ≤ x ∧ x ≤ 1) : FloatOps.hostUnary (F := Ideal) .acos a = ((Real.arccos x : ℝ) : EReal) := by
  subst ha
  show Ideal.acos (x : EReal) = _
  rw [Ideal.acos_coe, if_pos hx]

theorem rsqrtT (ha : a = (x : EReal)) (hx : 0 < x) : FloatOps.hostUnary (F := Ideal) .rsqrt a = (((Real.sqrt x)⁻¹ : ℝ) : EReal) := by
  subst ha; exact rsqrt_real x hx

theorem toT {a : EReal} (ha : a = (x : EReal)) (h : x = y) : a = (y : EReal) := by rw [ha, h]

/-- A sum started at zero. -/
theorem sumT {ι : Type} [Fintype ι] {z : EReal} {f : ι → EReal} {g : ι → ℝ} (hz : z = ((0 : ℝ) : EReal)) (h : ∀ k, f k = (g k : EReal)) :
    z + ∑ k, f k = ((∑ k, g k : ℝ) : EReal) := by
  rw [hz, EReal.coe_zero, zero_add, coe_sum]
  exact Finset.sum_congr rfl fun k _ => h k

/-- A sum of real numbers. -/
theorem sumT' {ι : Type} [Fintype ι] {f : ι → EReal} {g : ι → ℝ} (h : ∀ k, f k = (g k : EReal)) :
    ∑ k, f k = ((∑ k, g k : ℝ) : EReal) := by
  rw [coe_sum]
  exact Finset.sum_congr rfl fun k _ => h k
end

/-- A sum over all 8192 rows, by chunks of 128. -/
theorem sum_rows {M : Type} [AddCommMonoid M] (f : Fin 8192 → M) : ∑ i, f i = ∑ c : Fin 64, ∑ t : Fin 128, f (row c t) := by
  rw [← Fintype.sum_prod_type' (f := fun c t => f (row c t)),
    ← Equiv.sum_comp ((finProdFinEquiv (m := 64) (n := 128)).trans (finCongr (by norm_num : 64 * 128 = 8192))) f]
  refine Finset.sum_congr rfl fun x _ => congrArg f (Fin.ext ?_)
  show x.2.val + 128 * x.1.val = 128 * x.1.val + x.2.val
  omega

/-- The host's sum over the first and the last axis of an array of rank 4. -/
theorem sum03 {n0 n1 n2 n3 : ℕ} (h : (⟨4, ![n0, n1, n2, n3]⟩ : Shape).ReducesTo [0, 3] ⟨2, ![n1, n2]⟩)
    (v : (⟨4, ![n0, n1, n2, n3]⟩ : Shape).Idx → EReal) (z : EReal) (t : Fin n1) (g : Fin n2) :
    Ideal.hostReduceAdd h v z (ix2 t g) = z + ∑ c : Fin n0, ∑ d : Fin n3, v (ix4 c t g d) := by
  unfold Ideal.hostReduceAdd
  congr 1
  refine (Finset.sum_filter_eq_sum_of_fiber _ (fun k : Fin n0 × Fin n3 => ix4 k.1 t g k.2)
    (fun _ _ e => Prod.ext (congrFun e 0) (congrFun e 3)) (fun i => ?_) v).trans ?_
  · constructor
    · intro e
      refine ⟨(i 0, i 3), ?_⟩
      funext b; apply Fin.ext
      match b with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext b
      apply Fin.ext
      match b with
      | ⟨0, _⟩ => rfl
      | ⟨1, _⟩ => rfl
  · simp only [Fintype.sum_prod_type]

/-- The bit of the lower triangle. -/
theorem tril_bit : ∀ t s : Fin 128, IntOp.cmpi .sge (IntOp.addi (BitVec.ofNat 32 t.val) 0#32) (BitVec.ofNat 32 s.val) = if s ≤ t then 1#1 else 0#1 := by
  decide +kernel

theorem k_zero : Ideal.ofBits .f32 0x00000000#32 = ((0 : ℝ) : EReal) := by simp [Ideal.ofBits, Ideal.ieee]
theorem k_one : Ideal.ofBits .f32 0x3F800000#32 = ((1 : ℝ) : EReal) := by
  simp [Ideal.ofBits, Ideal.ieee, -EReal.coe_mul]; norm_num
theorem k_two : Ideal.ofBits .f32 0x40000000#32 = ((2 : ℝ) : EReal) := by
  simp [Ideal.ofBits, Ideal.ieee, -EReal.coe_mul]; norm_num

end Cert.Sgu

end
-- ==== Proof.Sgu.RefFwd.lean ====
/-
The reference's forward lines, operation by operation, at real-valued arguments: row `t` of chunk `c` is row `128 c + t`.
-/
module

public import proofs.«01_k».proof.Proof.Sgu.RefOps

@[expose] public section

set_option maxRecDepth 16384

noncomputable section

namespace Cert.Sgu

open Cert.ReferenceIdeal Cert.ReferenceIdeal.Read Cert.ReferenceIdeal.Gen Idealize.ShloMosaic

variable {x0 : Vec Ideal S8192x4096 .bf16} {x1 : Vec Ideal S8192x2048 .bf16} {x2 x3 : Vec Ideal S2048 .f32}
    {x4 : Vec Ideal S8x128x128 .f32} {x5 : Vec Ideal S8x128 .f32}
    {a : Params} {P : Fin 64 → Fin 128 → Fin 4096 → ℝ} {D : Fin 64 → Fin 128 → Fin 2048 → ℝ}
    (H : Holds x0 x1 x2 x3 x4 x5 a P D)

include H

/-! ## The activation -/

theorem z0 (j : S8192x4096.Idx) (c : Fin 64) (t : Fin 128) (k : Fin 4096) (h0 : (j 0).val = 128 * c.val + t.val) (h1 : (j 1).val = k.val) :
    val_main_v0 (F := Ideal) x0 j = ((P c t k : ℝ) : EReal) :=
  (congrArg x0 (at2 j (row c t) k h0 h1)).trans (H.hp c t k)

omit H in
theorem z3 (j : S8192x4096.Idx) : val_main_v3 (F := Ideal) j = ((0 : ℝ) : EReal) :=
  (val_main_v3_apply j).trans ((val_main_v2_apply _).trans ((val_main_v1_apply _).trans k_zero))

theorem z4 (j : S8192x4096.Idx) (c : Fin 64) (t : Fin 128) (k : Fin 4096) (h0 : (j 0).val = 128 * c.val + t.val) (h1 : (j 1).val = k.val) :
    val_main_v4 (F := Ideal) x0 j = ((P c t k : ℝ) : EReal) :=
  toT (addT (z0 H j c t k h0 h1) (z3 j)) (add_zero _)

theorem z6 (j : S8192x4096.Idx) (c : Fin 64) (t : Fin 128) (k : Fin 4096) (h0 : (j 0).val = 128 * c.val + t.val) (h1 : (j 1).val = k.val) :
    val_main_v6 (F := Ideal) x0 j = ((1 / 2 * P c t k : ℝ) : EReal) :=
  mulT ((val_main_v5_apply j).trans c_half) (z4 H j c t k h0 h1)

omit H in
theorem z8 (j : S_.Idx) : val_main_v8 (F := Ideal) j = ((Real.sqrt 2 : ℝ) : EReal) :=
  toT (sqrtT (toT (mulT k_two k_one) (mul_one 2)) (by norm_num)) rfl

theorem z10 (j : S8192x4096.Idx) (c : Fin 64) (t : Fin 128) (k : Fin 4096) (h0 : (j 0).val = 128 * c.val + t.val) (h1 : (j 1).val = k.val) :
    val_main_v10 (F := Ideal) x0 j = ((P c t k * (Real.sqrt 2)⁻¹ : ℝ) : EReal) :=
  toT (divT (z4 H j c t k h0 h1) ((val_main_v9_apply j).trans (z8 _)) (by positivity)) (div_eq_mul_inv _ _)

omit H in
theorem z15 (j : S_.Idx) : val_main_v15 (F := Ideal) j = ((2 / Real.sqrt Real.pi : ℝ) : EReal) :=
  divT k_two (toT (sqrtT (acosT (negT k_one) (by norm_num)) (Real.arccos_nonneg _)) (by rw [Real.arccos_neg_one])) (by positivity)

theorem z20 (j : S8192x4096.Idx) (c : Fin 64) (t : Fin 128) (k : Fin 4096) (h0 : (j 0).val = 128 * c.val + t.val) (h1 : (j 1).val = k.val) :
    val_main_v20 (F := Ideal) x0 j = ((2 / Real.sqrt Real.pi * Real.exp (-(P c t k * (Real.sqrt 2)⁻¹ * (P c t k * (Real.sqrt 2)⁻¹))) : ℝ) : EReal) :=
  mulT ((val_main_v19_apply j).trans (z15 _)) (expT (negT (mulT (z10 H j c t k h0 h1) (z10 H j c t k h0 h1))))

theorem z22 (j : S8192x4096.Idx) (c : Fin 64) (t : Fin 128) (k : Fin 4096) (h0 : (j 0).val = 128 * c.val + t.val) (h1 : (j 1).val = k.val) :
    val_main_v22 (F := Ideal) x0 j = ((1 + erfR (P c t k * (Real.sqrt 2)⁻¹) : ℝ) : EReal) :=
  addT ((val_main_v21_apply j).trans k_one) (erfT (z10 H j c t k h0 h1))

theorem z23 (j : S8192x4096.Idx) (c : Fin 64) (t : Fin 128) (k : Fin 4096) (h0 : (j 0).val = 128 * c.val + t.val) (h1 : (j 1).val = k.val) :
    val_main_v23 (F := Ideal) x0 j = ((gelu (P c t k) : ℝ) : EReal) :=
  mulT (z6 H j c t k h0 h1) (z22 H j c t k h0 h1)

theorem z24 (j : S8192x2048.Idx) (c : Fin 64) (t : Fin 128) (k : Fin 2048) (h0 : (j 0).val = 128 * c.val + t.val) (h1 : (j 1).val = k.val) :
    val_main_v24 (F := Ideal) x0 j = ((U (P c t) k : ℝ) : EReal) :=
  (val_main_v24_apply x0 j).trans (z23 H _ c t (lo k) h0 h1)

theorem z25 (j : S8192x2048.Idx) (c : Fin 64) (t : Fin 128) (k : Fin 2048) (h0 : (j 0).val = 128 * c.val + t.val) (h1 : (j 1).val = k.val) :
    val_main_v25 (F := Ideal) x0 j = ((V (P c t) k : ℝ) : EReal) :=
  (val_main_v25_apply x0 j).trans (z23 H _ c t (hi k) h0 (congrArg (2048 + ·) h1))

/-! ## The normalisation -/

theorem z29 (j : S8192x1.Idx) (c : Fin 64) (t : Fin 128) (h0 : (j 0).val = 128 * c.val + t.val) :
    val_main_v29 (F := Ideal) x0 j = ((mu (P c t) : ℝ) : EReal) :=
  divT ((val_main_v27_apply x0 j).trans ((val_main_v26_apply x0 _).trans (sumT k_zero fun k => z25 H _ c t k h0 rfl)))
    ((val_main_v28_apply j).trans c_2048) (by norm_num)

theorem z31 (j : S8192x2048.Idx) (c : Fin 64) (t : Fin 128) (k : Fin 2048) (h0 : (j 0).val = 128 * c.val + t.val) (h1 : (j 1).val = k.val) :
    val_main_v31 (F := Ideal) x0 j = ((xc (P c t) k : ℝ) : EReal) :=
  subT (z25 H j c t k h0 h1) ((val_main_v30_apply x0 j).trans (z29 H _ c t h0))

theorem z38 (j : S8192x1.Idx) (c : Fin 64) (t : Fin 128) (h0 : (j 0).val = 128 * c.val + t.val) :
    val_main_v38 (F := Ideal) x0 j = ((var (P c t) + eps : ℝ) : EReal) :=
  addT (divT ((val_main_v34_apply x0 j).trans ((val_main_v33_apply x0 _).trans (sumT k_zero fun k =>
      mulT (z31 H _ c t k h0 rfl) (z31 H _ c t k h0 rfl)))) ((val_main_v35_apply j).trans c_2048) (by norm_num))
    ((val_main_v37_apply j).trans c_eps)

theorem z39 (j : S8192x1.Idx) (c : Fin 64) (t : Fin 128) (h0 : (j 0).val = 128 * c.val + t.val) :
    val_main_v39 (F := Ideal) x0 j = ((rstd (P c t) : ℝ) : EReal) :=
  rsqrtT (z38 H j c t h0) (var_eps_pos _)

theorem z42 (j : S8192x1.Idx) (c : Fin 64) (t : Fin 128) (h0 : (j 0).val = 128 * c.val + t.val) :
    val_main_v42 (F := Ideal) x0 j = ((-(1 / 2) * (rstd (P c t) / (var (P c t) + eps)) : ℝ) : EReal) :=
  mulT ((val_main_v41_apply j).trans c_neg_half) (divT (z39 H j c t h0) (z38 H j c t h0) (var_eps_pos _).ne')

theorem z44 (j : S8192x2048.Idx) (c : Fin 64) (t : Fin 128) (k : Fin 2048) (h0 : (j 0).val = 128 * c.val + t.val) (h1 : (j 1).val = k.val) :
    val_main_v44 (F := Ideal) x0 j = ((vh (P c t) k : ℝ) : EReal) :=
  mulT (z31 H j c t k h0 h1) ((val_main_v43_apply x0 j).trans (z39 H _ c t h0))

theorem z45 (j : S1x2048.Idx) (k : Fin 2048) (h1 : (j 1).val = k.val) : val_main_v45 (F := Ideal) x2 j = ((a.lg k : ℝ) : EReal) :=
  (val_main_v45_apply x2 j).trans ((congrArg x2 (at1 _ k h1)).trans (H.hg k))

theorem z48 (j : S1x2048.Idx) (k : Fin 2048) (h1 : (j 1).val = k.val) : val_main_v48 (F := Ideal) x3 j = ((a.lb k : ℝ) : EReal) :=
  (val_main_v48_apply x3 j).trans ((congrArg x3 (at1 _ k h1)).trans (H.hb k))

theorem z50 (j : S8192x2048.Idx) (c : Fin 64) (t : Fin 128) (k : Fin 2048) (h0 : (j 0).val = 128 * c.val + t.val) (h1 : (j 1).val = k.val) :
    val_main_v50 (F := Ideal) x0 x2 x3 j = ((vn (P c t) a k : ℝ) : EReal) :=
  addT (mulT (z44 H j c t k h0 h1) ((val_main_v46_apply x2 j).trans (z45 H _ k h1))) ((val_main_v49_apply x3 j).trans (z48 H _ k h1))

/-! ## The mixing -/

theorem z51 (j : S64x128x8x256.Idx) (c : Fin 64) (t : Fin 128) (g : Fin 8) (d : Fin 256) (h0 : (j 0).val = c.val) (h1 : (j 1).val = t.val)
    (h2 : (j 2).val = g.val) (h3 : (j 3).val = d.val) :
    val_main_v51 (F := Ideal) x0 x2 x3 j = ((vn (P c t) a (lane g d) : ℝ) : EReal) :=
  (val_main_v51_apply x0 x2 x3 j).trans (z50 H _ c t (lane g d)
    (by show ((((j 0).val * 128 + (j 1).val) * 8 + (j 2).val) * 256 + (j 3).val) / 2048 = _; rw [h0, h1, h2, h3]; omega)
    (by show ((((j 0).val * 128 + (j 1).val) * 8 + (j 2).val) * 256 + (j 3).val) % 2048 = 256 * g.val + d.val; rw [h0, h1, h2, h3]; omega))

theorem z56 (j : S8x128x128.Idx) (g : Fin 8) (t s : Fin 128) (h0 : (j 0).val = g.val) (h1 : (j 1).val = t.val) (h2 : (j 2).val = s.val) :
    val_main_v56_0 (F := Ideal) x4 j = ((wm a g t s : ℝ) : EReal) := by
  rw [at3 j g t s h0 h1 h2]
  pointwise [val_main_v56_0, val_main_v56_1, val_main_v54, val_main_v53, val_main_v52, val_main_c, val_main_call0_v0, val_main_call0_v1, val_main_call0_v2, val_main_call0_v3, val_main_call0_v4, val_main_call0_v5, val_main_call0_c, val_main_call0_c_0, val_main_v55, val_main_cst_12]
  rw [tril_bit, H.hw]
  unfold wm
  split <;> simp [Scalar.select]

theorem z62 (j : S64x128x8x256.Idx) (c : Fin 64) (t : Fin 128) (g : Fin 8) (d : Fin 256) (h0 : (j 0).val = c.val) (h1 : (j 1).val = t.val)
    (h2 : (j 2).val = g.val) (h3 : (j 3).val = d.val) :
    val_main_v62 (F := Ideal) x0 x2 x3 x4 x5 j = ((vs a (P c) t (lane g d) : ℝ) : EReal) :=
  toT (addT ((val_main_v58_apply x0 x2 x3 x4 j).trans ((val_main_v57_apply x0 x2 x3 x4 _).trans (sumT' fun s =>
      mulT (φ := .f32) (z51 H _ c s g d h0 rfl h2 h3) (z56 H _ g t s h2 h1 rfl))))
    ((val_main_v61_apply x5 j).trans ((val_main_v60_apply x5 _).trans ((val_main_v59_apply x5 _).trans
      ((congrArg x5 (at2 _ g t h2 h1)).trans (H.hs t g))))))
    (by unfold vs; rw [grp_lane]; congr 1; exact Finset.sum_congr rfl fun s _ => mul_comm _ _)

theorem z63 (j : S8192x2048.Idx) (c : Fin 64) (t : Fin 128) (k : Fin 2048) (h0 : (j 0).val = 128 * c.val + t.val) (h1 : (j 1).val = k.val) :
    val_main_v63 (F := Ideal) x0 x2 x3 x4 x5 j = ((vs a (P c) t k : ℝ) : EReal) :=
  toT ((val_main_v63_apply x0 x2 x3 x4 x5 j).trans (z62 H _ c t (grp k) ⟨k % 256, by omega⟩
      (by show ((j 0).val * 2048 + (j 1).val) / _ = _; rw [h0, h1]; omega)
      (by show ((j 0).val * 2048 + (j 1).val) / _ % _ = _; rw [h0, h1]; omega)
      (by show ((j 0).val * 2048 + (j 1).val) / _ % _ = k.val / 256; rw [h0, h1]; omega)
      (by show ((j 0).val * 2048 + (j 1).val) % _ = k.val % 256; rw [h0, h1]; omega)))
    (by rw [lane_grp])

end Cert.Sgu

end
-- ==== Proof.Sgu.Grad.lean ====
/-
The real identities between the gradients as differentiation of the reference's lines gives them and as the kernel
computes them.
-/
module

public import proofs.«01_k».proof.Proof.Sgu.Real

@[expose] public section

noncomputable section

namespace Cert.Sgu

/-- A row less its mean sums to zero. -/
theorem sum_xc (x : Fin 4096 → ℝ) : ∑ k, xc x k = 0 := by
  have : ∑ k, xc x k = ∑ k, V x k - 2048 * mu x := by
    unfold xc
    rw [Finset.sum_sub_distrib, Finset.sum_const, Finset.card_univ, Fintype.card_fin, nsmul_eq_mul]
    norm_num
  rw [this, mu]
  ring

/-- The cube of the reciprocal standard deviation. -/
theorem rstd_cube (x : Fin 4096 → ℝ) : rstd x * rstd x * rstd x = rstd x / (var x + eps) := by
  have h := var_eps_pos x
  have h2 : rstd x * rstd x = (var x + eps)⁻¹ := by
    unfold rstd
    rw [← mul_inv, Real.mul_self_sqrt h.le]
  rw [h2, div_eq_mul_inv, mul_comm]

/-- The normalisation's backward pass: differentiation through the mean and the variance gives the kernel's form. -/
theorem norm_bwd (x : Fin 4096 → ℝ) (e : Fin 2048 → ℝ) (k : Fin 2048) (q : ℝ)
    (hq : q = (∑ l, xc x l * e l) * (-(1 / 2) * (rstd x / (var x + eps))) / 2048) :
    e k * rstd x + xc x k * q + q * xc x k + (∑ l, -(e l * rstd x + xc x l * q + q * xc x l)) / 2048
      = rstd x * (e k - (∑ l, e l) / 2048 - vh x k * ((∑ l, e l * vh x l) / 2048)) := by
  have h1 : ∑ l, -(e l * rstd x + xc x l * q + q * xc x l) = -((∑ l, e l) * rstd x) := by
    rw [Finset.sum_neg_distrib, Finset.sum_add_distrib, Finset.sum_add_distrib, ← Finset.sum_mul, ← Finset.sum_mul,
      ← Finset.mul_sum, sum_xc]
    ring
  have h2 : ∑ l, e l * vh x l = (∑ l, xc x l * e l) * rstd x := by
    rw [Finset.sum_mul]
    exact Finset.sum_congr rfl fun l _ => by unfold vh; ring
  rw [h1, h2, hq, ← rstd_cube]
  unfold vh
  ring

/-- The activation's derivative by the product rule is the kernel's. -/
theorem gelu_bwd (x z : ℝ) :
    1 / 2 * x * z * (2 / Real.sqrt Real.pi * Real.exp (-(x * (Real.sqrt 2)⁻¹ * (x * (Real.sqrt 2)⁻¹)))) / Real.sqrt 2
      + 1 / 2 * (z * (1 + erfR (x * (Real.sqrt 2)⁻¹))) = z * geluD x := by
  have h2 : (Real.sqrt 2)⁻¹ * (Real.sqrt 2)⁻¹ = 1 / 2 := by
    rw [← mul_inv, Real.mul_self_sqrt (by norm_num)]; norm_num
  have he : -(x * (Real.sqrt 2)⁻¹ * (x * (Real.sqrt 2)⁻¹)) = -(1 / 2) * x * x := by
    have : x * (Real.sqrt 2)⁻¹ * (x * (Real.sqrt 2)⁻¹) = x * x * ((Real.sqrt 2)⁻¹ * (Real.sqrt 2)⁻¹) := by ring
    rw [this, h2]; ring
  have hp : Real.sqrt (2 * Real.pi) = Real.sqrt 2 * Real.sqrt Real.pi := Real.sqrt_mul (by norm_num) _
  rw [he, geluD, hp, mul_inv]
  ring

end Cert.Sgu

end
-- ==== Proof.Sgu.RefBwd.lean ====
/-
The reference's backward lines, operation by operation, at real-valued arguments: row `t` of chunk `c` is row `128 c + t`.
-/
module

public import proofs.«01_k».proof.Proof.Sgu.RefFwd
public import proofs.«01_k».proof.Proof.Sgu.Grad

@[expose] public section

set_option maxRecDepth 16384

noncomputable section

namespace Cert.Sgu

open Cert.ReferenceIdeal Cert.ReferenceIdeal.Read Cert.ReferenceIdeal.Gen Idealize.ShloMosaic

variable {x0 : Vec Ideal S8192x4096 .bf16} {x1 : Vec Ideal S8192x2048 .bf16} {x2 x3 : Vec Ideal S2048 .f32}
    {x4 : Vec Ideal S8x128x128 .f32} {x5 : Vec Ideal S8x128 .f32}
    {a : Params} {P : Fin 64 → Fin 128 → Fin 4096 → ℝ} {D : Fin 64 → Fin 128 → Fin 2048 → ℝ}
    (H : Holds x0 x1 x2 x3 x4 x5 a P D)

include H

/-! ## The gate -/

theorem z65 (j : S8192x2048.Idx) (c : Fin 64) (t : Fin 128) (k : Fin 2048) (h0 : (j 0).val = 128 * c.val + t.val) (h1 : (j 1).val = k.val) :
    val_main_v65 (F := Ideal) x1 j = ((D c t k : ℝ) : EReal) :=
  (congrArg x1 (at2 j (row c t) k h0 h1)).trans (H.hm c t k)

theorem z66 (j : S8192x2048.Idx) (c : Fin 64) (t : Fin 128) (k : Fin 2048) (h0 : (j 0).val = 128 * c.val + t.val) (h1 : (j 1).val = k.val) :
    val_main_v66 (F := Ideal) x0 x1 j = ((dvs (P c) (D c) t k : ℝ) : EReal) :=
  toT (mulT (z24 H j c t k h0 h1) (z65 H j c t k h0 h1)) (mul_comm _ _)

theorem z67 (j : S8192x2048.Idx) (c : Fin 64) (t : Fin 128) (k : Fin 2048) (h0 : (j 0).val = 128 * c.val + t.val) (h1 : (j 1).val = k.val) :
    val_main_v67 (F := Ideal) x0 x1 x2 x3 x4 x5 j = ((du a (P c) (D c) t k : ℝ) : EReal) :=
  mulT (z65 H j c t k h0 h1) (z63 H j c t k h0 h1)

/-! ## The mixing -/

theorem z68 (j : S64x128x8x256.Idx) (c : Fin 64) (t : Fin 128) (g : Fin 8) (d : Fin 256) (h0 : (j 0).val = c.val) (h1 : (j 1).val = t.val)
    (h2 : (j 2).val = g.val) (h3 : (j 3).val = d.val) :
    val_main_v68 (F := Ideal) x0 x1 j = ((dvs (P c) (D c) t (lane g d) : ℝ) : EReal) :=
  (val_main_v68_apply x0 x1 j).trans (z66 H _ c t (lane g d)
    (by show ((((j 0).val * 128 + (j 1).val) * 8 + (j 2).val) * 256 + (j 3).val) / 2048 = _; rw [h0, h1, h2, h3]; omega)
    (by show ((((j 0).val * 128 + (j 1).val) * 8 + (j 2).val) * 256 + (j 3).val) % 2048 = 256 * g.val + d.val; rw [h0, h1, h2, h3]; omega))

/-- The reference's gradient of the mixing offsets before its last two transposes. -/
theorem z69 (t : Fin 128) (g : Fin 8) : val_main_v69 (F := Ideal) x0 x1 (ix2 t g) = ((∑ c, dbsB (P c) (D c) t g : ℝ) : EReal) :=
  (sum03 reducesTo_S64x128x8x256_S128x8_d0_3 (val_main_v68 (F := Ideal) x0 x1) _ t g).trans
    (sumT k_zero fun c => sumT' fun d => z68 H _ c t g d rfl rfl rfl rfl)

theorem z71 (t : Fin 128) (g : Fin 8) : val_main_v71 (F := Ideal) x0 x1 (ix2 t g) = ((∑ c, dbsB (P c) (D c) t g : ℝ) : EReal) := by
  refine (sum03 reducesTo_S1x128x8x1_S128x8_d0_3 (val_main_v70 (F := Ideal) x0 x1) _ t g).trans ?_
  rw [Fin.sum_univ_one, Fin.sum_univ_one]
  refine toT (addT (φ := .f32) k_zero ((val_main_v70_apply x0 x1 _).trans ((congrArg _ (at2 _ t g ?_ ?_)).trans (z69 H t g)))) (zero_add _)
  · show (((0 * 128 + t.val) * 8 + g.val) * 1 + 0) / 8 = t.val; omega
  · show (((0 * 128 + t.val) * 8 + g.val) * 1 + 0) % 8 = g.val; omega

/-- THE GRADIENT OF THE MIXING OFFSETS. -/
theorem z126 (t : Fin 128) (g : Fin 8) : val_main_v126 (F := Ideal) x0 x1 (ix2 t g) = ((∑ c, dbsB (P c) (D c) t g : ℝ) : EReal) :=
  (val_main_v126_apply x0 x1 _).trans ((val_main_v72_apply x0 x1 _).trans ((congrArg _ (at2 _ t g rfl rfl)).trans (z71 H t g)))

theorem z73 (j : S8x64x256x128.Idx) (c : Fin 64) (t : Fin 128) (g : Fin 8) (d : Fin 256) (h0 : (j 0).val = g.val) (h1 : (j 1).val = c.val)
    (h2 : (j 2).val = d.val) (h3 : (j 3).val = t.val) :
    val_main_v73 (F := Ideal) x0 x1 j = ((dvs (P c) (D c) t (lane g d) : ℝ) : EReal) :=
  (val_main_v73_apply x0 x1 j).trans (z68 H _ c t g d h1 h3 h0 h2)

theorem z74 (g : Fin 8) (t s : Fin 128) : val_main_v74 (F := Ideal) x0 x1 x2 x3 (ix3 g t s)
    = ((∑ c, ∑ d, dvs (P c) (D c) t (lane g d) * vn (P c s) a (lane g d) : ℝ) : EReal) := by
  pointwise [val_main_v74]
  exact sumT' fun c => sumT' fun d => mulT (φ := .f32) (z73 H _ c t g d rfl rfl rfl rfl) (z51 H _ c s g d rfl rfl rfl rfl)

/-- THE GRADIENT OF THE MIXING MATRICES. -/
theorem z77 (g : Fin 8) (t s : Fin 128) : val_main_v77 (F := Ideal) x0 x1 x2 x3 (ix3 g t s)
    = ((∑ c, dwsB a (P c) (D c) g t s : ℝ) : EReal) := by
  pointwise [val_main_v77, val_main_v56_1, val_main_v54, val_main_v53, val_main_v52, val_main_c, val_main_call0_v0, val_main_call0_v1, val_main_call0_v2, val_main_call0_v3, val_main_call0_v4, val_main_call0_v5, val_main_call0_c, val_main_call0_c_0, val_main_call2_v0, val_main_call2_cst]
  rw [tril_bit, z74 H]
  unfold dwsB
  split <;> simp [Scalar.select]

theorem z78 (j : S8192x2048.Idx) (c : Fin 64) (s : Fin 128) (k : Fin 2048) (h0 : (j 0).val = 128 * c.val + s.val) (h1 : (j 1).val = k.val) :
    val_main_v78 (F := Ideal) x0 x1 x4 j = ((dvn a (P c) (D c) s k : ℝ) : EReal) :=
  toT ((val_main_v78_apply x0 x1 x4 j).trans ((val_main_v76_apply x0 x1 x4 _).trans ((val_main_v75_apply x0 x1 x4 _).trans (sumT' fun t =>
      mulT (φ := .f32) (z73 H _ c t (grp k) ⟨k % 256, by omega⟩
        (by show ((j 0).val * 2048 + (j 1).val) / _ % _ = k.val / 256; rw [h0, h1]; omega)
        (by show ((j 0).val * 2048 + (j 1).val) / _ = _; rw [h0, h1]; omega)
        (by show ((j 0).val * 2048 + (j 1).val) % _ = k.val % 256; rw [h0, h1]; omega) rfl)
      (z56 H _ (grp k) t s (by show ((j 0).val * 2048 + (j 1).val) / _ % _ = k.val / 256; rw [h0, h1]; omega) rfl
        (by show ((j 0).val * 2048 + (j 1).val) / _ % _ = _; rw [h0, h1]; omega))))))
    (by rw [lane_grp]; exact Finset.sum_congr rfl fun t _ => mul_comm _ _)

/-! ## The normalisation -/

/-- THE GRADIENT OF THE NORMALISATION'S OFFSET. -/
theorem z125 (k : Fin 2048) : val_main_v125 (F := Ideal) x0 x1 x4 (ix2 0 k) = ((∑ c, dlbB a (P c) (D c) k : ℝ) : EReal) := by
  refine (val_main_v125_apply x0 x1 x4 _).trans ((val_main_v81_apply x0 x1 x4 _).trans ?_)
  rw [Fin.sum_univ_one]
  refine toT (addT (φ := .f32) k_zero ((val_main_v80_apply x0 x1 x4 _).trans ((val_main_v79_apply x0 x1 x4 _).trans
    ((congrArg (_ + ·) (sum_rows _)).trans (sumT (g := fun c => ∑ s, dvn a (P c) (D c) s k) k_zero fun c => sumT' fun s => z78 H _ c s k rfl ?_))))) (zero_add _)
  show 0 * 2048 + (0 * 2048 + k.val) = k.val
  omega

theorem z82 (j : S8192x2048.Idx) (c : Fin 64) (s : Fin 128) (k : Fin 2048) (h0 : (j 0).val = 128 * c.val + s.val) (h1 : (j 1).val = k.val) :
    val_main_v82 (F := Ideal) x0 x1 x4 j = ((dvn a (P c) (D c) s k * vh (P c s) k : ℝ) : EReal) :=
  toT (mulT (z44 H j c s k h0 h1) (z78 H j c s k h0 h1)) (mul_comm _ _)

/-- THE GRADIENT OF THE NORMALISATION'S SCALE. -/
theorem z124 (k : Fin 2048) : val_main_v124 (F := Ideal) x0 x1 x4 (ix2 0 k) = ((∑ c, dlgB a (P c) (D c) k : ℝ) : EReal) := by
  refine (val_main_v124_apply x0 x1 x4 _).trans ((val_main_v87_apply x0 x1 x4 _).trans ?_)
  rw [Fin.sum_univ_one]
  refine toT (addT (φ := .f32) k_zero ((val_main_v84_apply x0 x1 x4 _).trans ((val_main_v83_apply x0 x1 x4 _).trans
    ((congrArg (_ + ·) (sum_rows _)).trans (sumT (g := fun c => ∑ s, dvn a (P c) (D c) s k * vh (P c s) k) k_zero fun c => sumT' fun s => z82 H _ c s k rfl ?_))))) (zero_add _)
  show 0 * 2048 + (0 * 2048 + k.val) = k.val
  omega

theorem z86 (j : S8192x2048.Idx) (c : Fin 64) (s : Fin 128) (k : Fin 2048) (h0 : (j 0).val = 128 * c.val + s.val) (h1 : (j 1).val = k.val) :
    val_main_v86 (F := Ideal) x0 x1 x2 x4 j = ((dvh a (P c) (D c) s k : ℝ) : EReal) :=
  mulT (z78 H j c s k h0 h1) ((val_main_v85_apply x2 j).trans (z45 H _ k h1))

/-- The cotangent of the variance, per entry of the row. -/
def qR (x : Fin 4096 → ℝ) (e : Fin 2048 → ℝ) : ℝ := (∑ l, xc x l * e l) * (-(1 / 2) * (rstd x / (var x + eps))) / 2048

theorem z95 (j : S8192x1.Idx) (c : Fin 64) (s : Fin 128) (h0 : (j 0).val = 128 * c.val + s.val) :
    val_main_v95 (F := Ideal) x0 x1 x2 x4 j = ((qR (P c s) (dvh a (P c) (D c) s) : ℝ) : EReal) :=
  divT (mulT ((val_main_v90_apply x0 x1 x2 x4 j).trans ((val_main_v89_apply x0 x1 x2 x4 _).trans (sumT k_zero fun k =>
      mulT (φ := .f32) (z31 H _ c s k (by show ((j 0).val * 1 + (j 1).val) = _; have : (j 1).val < 1 := (j 1).isLt; omega) rfl)
        (z86 H _ c s k (by show ((j 0).val * 1 + (j 1).val) = _; have : (j 1).val < 1 := (j 1).isLt; omega) rfl))))
    (z42 H j c s h0)) ((val_main_v94_apply j).trans c_2048) (by norm_num)

theorem z97 (j : S8192x2048.Idx) (c : Fin 64) (s : Fin 128) (h0 : (j 0).val = 128 * c.val + s.val) :
    val_main_v97 (F := Ideal) x0 x1 x2 x4 j = ((qR (P c s) (dvh a (P c) (D c) s) : ℝ) : EReal) := by
  refine (val_main_v97_apply x0 x1 x2 x4 j).trans ((val_main_v96_apply x0 x1 x2 x4 _).trans ?_)
  rw [Fin.sum_univ_one]
  exact toT (addT (φ := .f32) k_zero (z95 H _ c s h0)) (zero_add _)

theorem z101 (j : S8192x2048.Idx) (c : Fin 64) (s : Fin 128) (k : Fin 2048) (h0 : (j 0).val = 128 * c.val + s.val) (h1 : (j 1).val = k.val) :
    val_main_v101 (F := Ideal) x0 x1 x2 x4 j = ((dvh a (P c) (D c) s k * rstd (P c s) + xc (P c s) k * qR (P c s) (dvh a (P c) (D c) s)
      + qR (P c s) (dvh a (P c) (D c) s) * xc (P c s) k : ℝ) : EReal) :=
  addT (addT (mulT (z86 H j c s k h0 h1) ((val_main_v91_apply x0 j).trans (z39 H _ c s h0))) (mulT (z31 H j c s k h0 h1) (z97 H j c s h0)))
    (mulT (z97 H j c s h0) (z31 H j c s k h0 h1))

theorem z106 (j : S8192x1.Idx) (c : Fin 64) (s : Fin 128) (h0 : (j 0).val = 128 * c.val + s.val) :
    val_main_v106 (F := Ideal) x0 x1 x2 x4 j = (((∑ k, -(dvh a (P c) (D c) s k * rstd (P c s) + xc (P c s) k * qR (P c s) (dvh a (P c) (D c) s)
      + qR (P c s) (dvh a (P c) (D c) s) * xc (P c s) k)) / 2048 : ℝ) : EReal) :=
  divT ((val_main_v104_apply x0 x1 x2 x4 j).trans ((val_main_v103_apply x0 x1 x2 x4 _).trans (sumT k_zero fun k =>
      negT (φ := .f32) (z101 H _ c s k (by show ((j 0).val * 1 + (j 1).val) = _; have : (j 1).val < 1 := (j 1).isLt; omega) rfl))))
    ((val_main_v105_apply j).trans c_2048) (by norm_num)

theorem z109 (j : S8192x2048.Idx) (c : Fin 64) (s : Fin 128) (k : Fin 2048) (h0 : (j 0).val = 128 * c.val + s.val) (h1 : (j 1).val = k.val) :
    val_main_v109 (F := Ideal) x0 x1 x2 x4 j = ((dv a (P c) (D c) s k : ℝ) : EReal) := by
  refine toT (addT (z101 H j c s k h0 h1) ((val_main_v108_apply x0 x1 x2 x4 j).trans ((val_main_v107_apply x0 x1 x2 x4 _).trans ?_)))
    (norm_bwd (P c s) (dvh a (P c) (D c) s) k _ rfl)
  rw [Fin.sum_univ_one]
  exact toT (addT (φ := .f32) k_zero (z106 H _ c s h0)) (zero_add _)

/-! ## The activation -/

theorem z110 (c : Fin 64) (t : Fin 128) (k : Fin 4096) :
    val_main_v110 (F := Ideal) x0 x1 x2 x3 x4 x5 (ix2 (row c t) k) = ((dz a (P c) (D c) t k : ℝ) : EReal) := by
  pointwise [val_main_v110]
  unfold dz
  split
  · exact z67 H _ c t _ rfl rfl
  · exact z109 H _ c t _ rfl rfl

theorem z118 (c : Fin 64) (t : Fin 128) (k : Fin 4096) :
    val_main_v118 (F := Ideal) x0 x1 x2 x3 x4 x5 (ix2 (row c t) k) = ((dp a (P c) (D c) t k : ℝ) : EReal) :=
  toT (addT (divT (mulT (mulT (z6 H _ c t k rfl rfl) (z110 H c t k)) (z20 H _ c t k rfl rfl)) ((val_main_v114_apply _).trans (z8 _)) (by positivity))
    (mulT ((val_main_v116_apply _).trans c_half) (mulT (z110 H c t k) (z22 H _ c t k rfl rfl)))) (gelu_bwd (P c t k) (dz a (P c) (D c) t k))

/-- THE GRADIENT OF THE PRE-ACTIVATION. -/
theorem z122 (c : Fin 64) (t : Fin 128) (k : Fin 4096) :
    val_main_v122 (F := Ideal) x0 x1 x2 x3 x4 x5 (ix2 (row c t) k) = ((dp a (P c) (D c) t k : ℝ) : EReal) :=
  z118 H c t k

/-- THE GRADIENT OF THE PROJECTION'S BIAS. -/
theorem z123 (k : Fin 4096) : val_main_v123 (F := Ideal) x0 x1 x2 x3 x4 x5 (ix2 0 k) = ((∑ c, dbinB a (P c) (D c) k : ℝ) : EReal) := by
  refine (val_main_v123_apply x0 x1 x2 x3 x4 x5 _).trans ((val_main_v121_apply x0 x1 x2 x3 x4 x5 _).trans ?_)
  rw [Fin.sum_univ_one]
  refine toT (addT (φ := .f32) k_zero ((val_main_v120_apply x0 x1 x2 x3 x4 x5 _).trans ((val_main_v119_apply x0 x1 x2 x3 x4 x5 _).trans
    ((congrArg (_ + ·) (sum_rows _)).trans (sumT (g := fun c => ∑ t, dp a (P c) (D c) t k) k_zero fun c => sumT' fun t =>
      (congrArg _ (at2 _ (row c t) k rfl ?_)).trans (z118 H c t k)))))) (zero_add _)
  show 0 * 4096 + (0 * 4096 + k.val) = k.val
  omega

end Cert.Sgu

end
-- ==== Proof.Sgu.Finite.lean ====
/-
The precondition: every entry of the six arguments has an absolute value below infinity, so each is a real number.
-/
module

public import proofs.«01_k».proof.Proof.Sgu.Fetch
public import proofs.«01_k».proof.Proof.Gen.Pre_finite
public import Idealize.ShloMosaic.Lib.ReduceAll

@[expose] public section

noncomputable section

namespace Cert.Sgu

open Idealize.ShloMosaic Cert.Pre_finite Cert.Pre_finite.Gen

/-- The pattern of infinity is `⊤`. -/
theorem inf_top : (FloatOps.ofBits (F := Ideal) (φ := .f32) 0x7F800000#32 : EReal) = ⊤ := by
  show Ideal.ofBits .f32 0x7F800000#32 = ⊤
  simp [Ideal.ofBits, Ideal.ieee]

/-- A value whose absolute value is below infinity is real. -/
theorem real_of_lt (x : EReal) (h : Ideal.cmp .olt (max x (-x)) (FloatOps.ofBits (F := Ideal) (φ := .f32) 0x7F800000#32) = 1#1) :
    x = ((x.toReal : ℝ) : EReal) := by
  rw [inf_top] at h
  have hlt : max x (-x) < (⊤ : EReal) := by
    by_contra hn
    revert h
    simp [Ideal.cmp, hn]
  refine (EReal.coe_toReal ?_ ?_).symm
  · rintro rfl; simp at hlt
  · rintro rfl; simp at hlt

/-- A conjunction of two bits that is set has both set. -/
theorem and_one : ∀ x y : BitVec 1, IntOp.andi x y = 1#1 → x = 1#1 ∧ y = 1#1 := by decide

/-- One argument's conjunct of the precondition, read at an index. -/
theorem real_at {S : Shape} {axes : List (Fin S.rank)} (x : FVec Ideal S .f32) (hb : S_.BroadcastsInDim S (![] : Fin 0 → Fin S.rank)) (hr : S.ReducesTo axes S_) (j : S_.Idx)
    (e : Host.reduce IntOp.andi (cmpf .olt (Host.absf x) (broadcastInDim S ![] hb (constant S_ .f32 0x7F800000#32)))
      (constantI S_ 1 1#1) hr h_S_ j = 1#1) (i : S.Idx) : x i = (((x i).toReal : ℝ) : EReal) :=
  haveI : Subsingleton S_.Idx := ⟨fun a b => funext fun d => d.elim0⟩
  real_of_lt (x i) (Host.reduce_andi_all _ _ hr h_S_ j e i)

/-- Every entry of the six arguments is its own real value. -/
theorem reals (x0 : Vec Ideal S8192x4096 .bf16) (x1 : Vec Ideal S8192x2048 .bf16) (x2 x3 : Vec Ideal S2048 .f32)
    (x4 : Vec Ideal S8x128x128 .f32) (x5 : Vec Ideal S8x128 .f32)
    (h : Cert.Pre_finite.fn (F := Ideal) x0 x1 x2 x3 x4 x5 = fun _ => 1#1) :
    (∀ i, x0 i = (((x0 i : EReal).toReal : ℝ) : EReal)) ∧ (∀ i, x1 i = (((x1 i : EReal).toReal : ℝ) : EReal)) ∧ (∀ i, x2 i = (((x2 i : EReal).toReal : ℝ) : EReal))
    ∧ (∀ i, x3 i = (((x3 i : EReal).toReal : ℝ) : EReal)) ∧ (∀ i, x4 i = (((x4 i : EReal).toReal : ℝ) : EReal)) ∧ ∀ i, x5 i = (((x5 i : EReal).toReal : ℝ) : EReal) := by
  have e := congrFun h (Shape.Idx.first h_S_)
  have f5 := and_one _ _ e
  have f4 := and_one _ _ f5.1
  have f3 := and_one _ _ f4.1
  have f2 := and_one _ _ f3.1
  have f1 := and_one _ _ f2.1
  exact ⟨real_at (S := S8192x4096) x0 bcast_S_S8192x4096 reducesTo_S8192x4096_S_d0_1 (Shape.Idx.first h_S_) f1.1, real_at (S := S8192x2048) x1 bcast_S_S8192x2048 reducesTo_S8192x2048_S_d0_1 (Shape.Idx.first h_S_) f1.2, real_at (S := S2048) x2 bcast_S_S2048 reducesTo_S2048_S_d0 (Shape.Idx.first h_S_) f2.2,
    real_at (S := S2048) x3 bcast_S_S2048 reducesTo_S2048_S_d0 (Shape.Idx.first h_S_) f3.2, real_at (S := S8x128x128) x4 bcast_S_S8x128x128 reducesTo_S8x128x128_S_d0_1_2 (Shape.Idx.first h_S_) f4.2, real_at (S := S8x128) x5 bcast_S_S8x128 reducesTo_S8x128_S_d0_1 (Shape.Idx.first h_S_) f5.2⟩

/-- The precondition makes the six arguments real-valued. -/
theorem holds_of_finite (x0 : Vec Ideal S8192x4096 .bf16) (x1 : Vec Ideal S8192x2048 .bf16) (x2 x3 : Vec Ideal S2048 .f32)
    (x4 : Vec Ideal S8x128x128 .f32) (x5 : Vec Ideal S8x128 .f32)
    (h : Cert.Pre_finite.fn (F := Ideal) x0 x1 x2 x3 x4 x5 = fun _ => 1#1) :
    ∃ a P D, Holds x0 x1 x2 x3 x4 x5 a P D := by
  obtain ⟨r0, r1, r2, r3, r4, r5⟩ := reals x0 x1 x2 x3 x4 x5 h
  exact ⟨⟨fun k => (x2 (ix1 k)).toReal, fun k => (x3 (ix1 k)).toReal, fun g t s => (x4 (ix3 g t s)).toReal, fun t g => (x5 (ix2 g t)).toReal⟩,
    fun c t k => (x0 (ix2 (row c t) k)).toReal, fun c t k => (x1 (ix2 (row c t) k)).toReal,
    fun _ _ _ => r0 _, fun _ _ _ => r1 _, fun _ => r2 _, fun _ => r3 _, fun _ _ _ => r4 _, fun _ _ => r5 _⟩

end Cert.Sgu

end
-- ==== Proof.Sgu.Agree.lean ====
/-
The kernel's six final arrays are the reference's six results.
-/
module

public import proofs.«01_k».proof.Proof.Sgu.Arrays
public import proofs.«01_k».proof.Proof.Sgu.RefBwd
public import proofs.«01_k».proof.Proof.Sgu.Finite
public import proofs.«01_k».proof.Proof.Gen.ReferenceIdeal.Run

@[expose] public section

set_option maxRecDepth 16384

noncomputable section

namespace Cert.Sgu

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (c : Dev nD)

variable {a : Params} {P : Fin 64 → Fin 128 → Fin 4096 → ℝ} {D : Fin 64 → Fin 128 → Fin 2048 → ℝ}

/-- A function of the rows is settled row by row of each chunk. -/
theorem rows_ext {n : ℕ} {α : Type} {f g : (⟨2, ![8192, n]⟩ : Shape).Idx → α} (h : ∀ t r k, f (ix2 (row t r) k) = g (ix2 (row t r) k)) : f = g := by
  funext i
  have e : ix2 (row ⟨(i 0).val / 128, by have : (i 0).val < 8192 := (i 0).isLt; omega⟩ ⟨(i 0).val % 128, by omega⟩) (i 1) = i := by
    funext b
    match b with
    | ⟨0, _⟩ => exact Fin.ext (by show 128 * ((i 0).val / 128) + (i 0).val % 128 = (i 0).val; omega)
    | ⟨1, _⟩ => rfl
  rw [← e]
  exact h _ _ _

/-- A function of one row is settled column by column. -/
theorem one_ext {n : ℕ} {α : Type} {f g : (⟨2, ![1, n]⟩ : Shape).Idx → α} (h : ∀ k, f (ix2 0 k) = g (ix2 0 k)) : f = g := by
  funext i
  have e : ix2 0 (i 1) = i := by
    funext b
    match b with
    | ⟨0, _⟩ => exact Fin.ext (by have : (i 0).val < 1 := (i 0).isLt; show 0 = (i 0).val; omega)
    | ⟨1, _⟩ => rfl
  rw [← e]
  exact h _

/-- Two arrays of two axes are equal if they are so entry by entry. -/
theorem two_ext {n k : ℕ} {α : Type} {f g : (⟨2, ![n, k]⟩ : Shape).Idx → α} (h : ∀ i j, f (ix2 i j) = g (ix2 i j)) : f = g := by
  funext i
  have e : ix2 (i 0) (i 1) = i := by
    funext b
    match b with
    | ⟨0, _⟩ => rfl
    | ⟨1, _⟩ => rfl
  rw [← e]
  exact h _ _

/-- Two arrays of three axes are equal if they are so entry by entry. -/
theorem three_ext {n k l : ℕ} {α : Type} {f g : (⟨3, ![n, k, l]⟩ : Shape).Idx → α} (h : ∀ i j o, f (ix3 i j o) = g (ix3 i j o)) : f = g := by
  funext i
  have e : ix3 (i 0) (i 1) (i 2) = i := by
    funext b
    match b with
    | ⟨0, _⟩ => rfl
    | ⟨1, _⟩ => rfl
    | ⟨2, _⟩ => rfl
  rw [← e]
  exact h _ _ _

/-- What the reference's six results are, of the device's arguments: the kernel's arrays. -/
theorem agree (h : HoldsK m c a P D) :
    val_main_v122 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = (dats m 0 c).arrAt 6 cfg0.N
    ∧ val_main_v123 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = (dats m 0 c).arrAt 7 cfg0.N
    ∧ val_main_v124 (F := Ideal) (m ((c : Thread nD τ).loc main_arg0)) (m ((c : Thread nD τ).loc main_arg1))
      (m ((c : Thread nD τ).loc main_arg4)) = (dats m 0 c).arrAt 8 cfg0.N
    ∧ val_main_v125 (F := Ideal) (m ((c : Thread nD τ).loc main_arg0)) (m ((c : Thread nD τ).loc main_arg1))
      (m ((c : Thread nD τ).loc main_arg4)) = (dats m 0 c).arrAt 9 cfg0.N
    ∧ val_main_v77 (F := Ideal) (m ((c : Thread nD τ).loc main_arg0)) (m ((c : Thread nD τ).loc main_arg1)) (m ((c : Thread nD τ).loc main_arg2))
      (m ((c : Thread nD τ).loc main_arg3)) = (dats m 0 c).arrAt 10 cfg0.N
    ∧ val_main_v126 (F := Ideal) (m ((c : Thread nD τ).loc main_arg0)) (m ((c : Thread nD τ).loc main_arg1)) = (dats m 0 c).arrAt 11 cfg0.N :=
  ⟨rows_ext fun t r k => (z122 h t r k).trans (final6 m c h t r k).symm, one_ext fun k => (z123 h k).trans (final7 m c h k).symm,
    one_ext fun k => (z124 h k).trans (final8 m c h k).symm, one_ext fun k => (z125 h k).trans (final9 m c h k).symm,
    three_ext fun g t s => (z77 h g t s).trans (final10 m c h g t s).symm, two_ext fun t g => (z126 h t g).trans (final11 m c h t g).symm⟩

end Cert.Sgu

end
-- ==== Proof.Products.Blocks.lean ====
/-
Places in an array that is cut into blocks.
-/
module

public import Idealize.ShloMosaic.Lib.Pointwise
public import Idealize.ShloMosaic.Lib.ValueLayout
public import Idealize.ShloMosaic.Lib.Pipeline.ReadBack
public import Idealize.ShloMosaic.Adequacy
public import Idealize.ShloMosaic.Init

@[expose] public section

namespace Cert.Products

open Idealize.ShloMosaic

theorem hz : (![0, 0] : Fin 2 → Nat) = fun _ => 0 := funext fun a => by fin_cases a <;> rfl

/-- Two coordinates make an index. -/
theorem ix2_ext {n k : ℕ} {i : (⟨2, ![n, k]⟩ : Shape).Idx} {r : Fin n} {s : Fin k} (h0 : (i 0).val = r.val) (h1 : (i 1).val = s.val) :
    i = ix2 r s := by
  funext b; apply Fin.ext
  match b with
  | ⟨0, _⟩ => exact h0
  | ⟨1, _⟩ => exact h1

/-- Two arrays are equal if they are so at every pair of coordinates. -/
theorem arr2_ext {n k : ℕ} {α : Type} {f g : (⟨2, ![n, k]⟩ : Shape).Idx → α} (h : ∀ r s, f (ix2 r s) = g (ix2 r s)) : f = g :=
  funext fun i => (ix2_ext (i := i) (r := i 0) (s := i 1) rfl rfl) ▸ h (i 0) (i 1)

/-- Coordinate `r` is place `r % b` of block `r / b`. -/
theorem place {q b r : ℕ} (h : q = r / b) : q * b + 1 * (r % b) = r := by
  rw [h, one_mul, Nat.div_add_mod']

/-- The block that starts at zero holds every coordinate at its own place. -/
theorem whole {q b r : ℕ} (h : q = 0) : q * b + 1 * r = r := by
  rw [h, zero_mul, zero_add, one_mul]

end Cert.Products
-- ==== Proof.Products.FfnInDw.lean ====
/-
The weight gradient of the feed-forward block's input projection: the rows of the gate's half, then those of the other half.
-/
module

public import proofs.«01_k».proof.Defs
public import proofs.«01_k».proof.Proof.Products.Blocks
public import proofs.«01_k».proof.Proof.Gen.FfnInDwIdeal.Value
public import proofs.«01_k».proof.Proof.Gen.FfnInDwRefIdeal.Run
public import proofs.«01_k».proof.Proof.Gen.FfnInDwRefIdeal.Read

@[expose] public section

set_option maxRecDepth 16384

noncomputable section

namespace Cert.Products.FfnInDw

open Cert.FfnInDwIdeal Cert.FfnInDwIdeal.Gen Cert.FfnInDwIdeal.Value Idealize.ShloMosaic Idealize.ShloMosaic.TcCoe Idealize.SL.Sem

/-- What the body makes of its blocks, at an index. -/
theorem pay_apply (x0 : Vec Ideal S8192x256 .bf16) (x1 : Vec Ideal S8192x1024 .bf16) (i : Fin 256) (j : Fin 1024) :
    k0_pay1 x0 x1 (ix2 i j) = ∑ k, x0 (ix2 k i) * x1 (ix2 k j) := by
  unfold k0_pay1
  pointwise

variable (m : (ℓ : Loc nD τ sig) → Buf (Elt Ideal) ℓ) (c : Dev nD)

/-- The first eleven points read the first array. -/
theorem out_first (t : Fin cfg0.N) (h : t.val < 11) : outsAt0 m c t.val t.isLt = k0_pay1 (iblk m c 0 t) (iblk m c 2 t) := by
  rw [outsAt0_A m c t h (by omega)]
  unfold out0_A_3
  rw [View.read_writes_eq_canon _ _ _ fun y => cover0_A_3 (y := y) ..]
  unfold kernelRun0_A
  dsimp only
  sl_unfold_words
  simp only [View.canon_unit_zero (S := S256x1024) hz, View.ld_unit_zero (S := S8192x256) hz, View.ld_unit_zero (S := S8192x1024) hz, View.readAt_eq_ld, (hs0_0 t).read_unread, (hs0_2 t).read_unread]

/-- The others read the second array. -/
theorem out_second (t : Fin cfg0.N) (h : 11 ≤ t.val) : outsAt0 m c t.val t.isLt = k0_pay1 (iblk m c 1 t) (iblk m c 2 t) := by
  rw [outsAt0_B m c t (by omega) h]
  unfold out0_B_3
  rw [View.read_writes_eq_canon _ _ _ fun y => cover0_B_3 (y := y) ..]
  unfold kernelRun0_B
  dsimp only
  sl_unfold_words
  simp only [View.canon_unit_zero (S := S256x1024) hz, View.ld_unit_zero (S := S8192x256) hz, View.ld_unit_zero (S := S8192x1024) hz, View.readAt_eq_ld, (hs0_1 t).read_unread, (hs0_2 t).read_unread]
  rfl

/-- Where the blocks lie. -/
theorem idx : ∀ t : Fin cfg0.N, (win0_0.index t 0 = 0 ∧ win0_0.index t 1 = min t.val 10)
    ∧ (win0_1.index t 0 = 0 ∧ win0_1.index t 1 = t.val - 11)
    ∧ (win0_2.index t 0 = 0 ∧ win0_2.index t 1 = 0)
    ∧ (win0_3.index t 0 = t.val ∧ win0_3.index t 1 = 0) :=
  (by decide +kernel : ∀ t : Fin grid0.N, _)

/-- The point that writes row `r`. -/
abbrev ptOf (r : Fin 5632) : Fin cfg0.N := ⟨r.val / 256, (show r.val / 256 < 22 by omega).trans_eq N_0.symm⟩
abbrev inRow (r : Fin 5632) : Fin 256 := ⟨r.val % 256, by omega⟩

/-- The arguments. -/
abbrev gate : Vec Ideal S8192x2816 .bf16 := m ((c : Thread nD τ).loc main_arg0)
abbrev up : Vec Ideal S8192x2816 .bf16 := m ((c : Thread nD τ).loc main_arg1)
abbrev rhs : Vec Ideal S8192x1024 .bf16 := m ((c : Thread nD τ).loc main_arg2)

theorem blk0 (r : Fin 5632) (h : r.val < 2816) (k : Fin 8192) : (iblk m c 0 (ptOf r) : Vec Ideal S8192x256 .bf16) (ix2 k (inRow r)) = gate m c (ix2 k ⟨r.val, h⟩) :=
  (View.read_apply ..).trans ((congrFun (V_main_arg0 m c) _).trans (congrArg (gate m c) (ix2_ext (whole (idx _).1.1)
    (place ((idx _).1.2.trans (show min (r.val / 256) 10 = r.val / 256 by omega))))))

theorem blk1 (r : Fin 5632) (h : 2816 ≤ r.val) (k : Fin 8192) : (iblk m c 1 (ptOf r) : Vec Ideal S8192x256 .bf16) (ix2 k (inRow r)) = up m c (ix2 k ⟨r.val - 2816, by omega⟩) := by
  refine (View.read_apply ..).trans ((congrFun (V_main_arg1 m c) _).trans (congrArg (up m c) (ix2_ext (whole (idx _).2.1.1) ?_)))
  show win0_1.index (ptOf r) 1 * 256 + 1 * (r.val % 256) = r.val - 2816
  rw [(idx _).2.1.2]
  show (r.val / 256 - 11) * 256 + 1 * (r.val % 256) = r.val - 2816
  omega

theorem blk2 (t : Fin cfg0.N) (j : Fin 1024) (k : Fin 8192) : (iblk m c 2 t : Vec Ideal S8192x1024 .bf16) (ix2 k j) = rhs m c (ix2 k j) :=
  (View.read_apply ..).trans ((congrFun (V_main_arg2 m c) _).trans (congrArg (rhs m c) (ix2_ext (whole (idx _).2.2.1.1) (whole (idx _).2.2.1.2))))

/-- Row `k`, column `r` of the two arrays side by side. -/
def beside (x0 x1 : Vec Ideal S8192x2816 .bf16) (k : Fin 8192) (r : Fin 5632) : EReal :=
  if h : r.val < 2816 then x0 (ix2 k ⟨r.val, h⟩) else x1 (ix2 k ⟨r.val - 2816, by omega⟩)

/-- The result, at every index. -/
theorem final (r : Fin 5632) (j : Fin 1024) : ((dats m 0 c).arrAt 3 cfg0.N : Vec Ideal S5632x1024 .bf16) (ix2 r j)
    = ∑ k, beside (gate m c) (up m c) k r * rhs m c (ix2 k j) := by
  have hb := blocks3 m c (ptOf r) (flush0_3 _)
  have ho : (outsAt0 m c (ptOf r).val (ptOf r).isLt : Vec Ideal S256x1024 .bf16) (ix2 (inRow r) j) = ∑ k, beside (gate m c) (up m c) k r * rhs m c (ix2 k j) := by
    by_cases h : r.val < 2816
    · rw [out_first m c _ (show r.val / 256 < 11 by omega), pay_apply]
      exact Finset.sum_congr rfl fun k _ => by rw [blk0 m c r h, blk2]; unfold beside; rw [dif_pos h]
    · rw [out_second m c _ (show 11 ≤ r.val / 256 by omega), pay_apply]
      exact Finset.sum_congr rfl fun k _ => by rw [blk1 m c r (by omega), blk2]; unfold beside; rw [dif_neg h]
  rw [flushed3] at hb
  refine Eq.trans ?_ ((congrFun hb (ix2 (inRow r) j)).trans ho)
  rw [View.read_apply]
  exact (congrArg ((dats m 0 c).arrAt 3 cfg0.N) (ix2_ext (place (idx _).2.2.2.1) (whole (idx _).2.2.2.2))).symm

/-- The reference, at every index. -/
theorem reference (x0 x1 : Vec Ideal S8192x2816 .bf16) (x2 : Vec Ideal S8192x1024 .bf16) (r : Fin 5632) (j : Fin 1024) :
    Cert.FfnInDwRefIdeal.Read.val_main_v9 (F := Ideal) x0 x1 x2 (ix2 r j) = ∑ k, beside x0 x1 k r * x2 (ix2 k j) := by
  unfold Cert.FfnInDwRefIdeal.Read.val_main_v9 Cert.FfnInDwRefIdeal.Read.val_main_v8 Cert.FfnInDwRefIdeal.Read.val_main_v7 Cert.FfnInDwRefIdeal.Read.val_main_v6 Cert.FfnInDwRefIdeal.Read.val_main_v2 Cert.FfnInDwRefIdeal.Read.val_main_v1 Cert.FfnInDwRefIdeal.Read.val_main_v0 beside
  pointwise

/-- The reference leaves its arguments as they were, and it has no counters. -/
theorem reference_frame : Cert.quiescent_FfnInDwRefIdeal := fun m g _ =>
  (θ_run _ _ _).mono (fun r h => And.intro (fun c : Dev Cert.FfnInDwRefIdeal.nD => (h c).2) (sem_eq_zero_of_no_sems (by decide) r.2))
    (Cert.FfnInDwRefIdeal.Value.run (F := Ideal) m g)

/-- The two programs have the same results. -/
theorem agree : Cert.algebraic_FfnInDwIdeal_FfnInDwRefIdeal := by
  intro m g m' g' _ hargs
  refine ⟨fun c => (dats m 0 c).arrAt 3 cfg0.N, run_blocks m g, (θ_run _ _ _).mono (fun r h c => ⟨?_, (h c).2⟩) (Cert.FfnInDwRefIdeal.Value.run m' g')⟩
  obtain ⟨q0, q1, q2⟩ := hargs c
  refine (h c).1.trans ((Cert.FfnInDwRefIdeal.Read.val_main_v9_eq _ _ _).trans ?_)
  rw [q0, q1, q2]
  exact arr2_ext fun r j => (reference _ _ _ r j).trans (final m c r j).symm

end Cert.Products.FfnInDw

end
-- ==== Proof.Products.FfnOutDw.lean ====
/-
The weight gradient of the feed-forward block's output projection.
-/
module

public import proofs.«01_k».proof.Defs
public import proofs.«01_k».proof.Proof.Products.Blocks
public import proofs.«01_k».proof.Proof.Gen.FfnOutDwIdeal.Value
public import proofs.«01_k».proof.Proof.Gen.FfnOutDwRefIdeal.Run
public import proofs.«01_k».proof.Proof.Gen.FfnOutDwRefIdeal.Read

@[expose] public section

set_option maxRecDepth 16384

noncomputable section

namespace Cert.Products.FfnOutDw

open Cert.FfnOutDwIdeal Cert.FfnOutDwIdeal.Gen Cert.FfnOutDwIdeal.Value Idealize.ShloMosaic Idealize.ShloMosaic.TcCoe Idealize.SL.Sem

/-- What the body makes of its blocks, at an index. -/
theorem pay_apply (x0 : Vec Ideal S8192x256 .bf16) (x1 : Vec Ideal S8192x1024 .bf16) (i : Fin 256) (j : Fin 1024) :
    k0_pay1 x0 x1 (ix2 i j) = ∑ k, x0 (ix2 k i) * x1 (ix2 k j) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) := by
  unfold outsAt0 out0_A_2
  rw [View.read_writes_eq_canon _ _ _ fun y => cover0_A_2 (y := y) ..]
  unfold kernelRun0_A
  dsimp only
  sl_unfold_words
  simp only [View.canon_unit_zero (S := S256x1024) hz, View.ld_unit_zero (S := S8192x256) hz, View.ld_unit_zero (S := S8192x1024) hz, View.readAt_eq_ld, (hs0_0 t).read_unread, (hs0_1 t).read_unread]

/-- Where the blocks lie. -/
theorem idx : ∀ t : Fin cfg0.N, (win0_0.index t 0 = 0 ∧ win0_0.index t 1 = t.val)
    ∧ (win0_1.index t 0 = 0 ∧ win0_1.index t 1 = 0)
    ∧ (win0_2.index t 0 = t.val ∧ win0_2.index t 1 = 0) :=
  (by decide +kernel : ∀ t : Fin grid0.N, _)

/-- The point that writes row `r`. -/
abbrev ptOf (r : Fin 2816) : Fin cfg0.N := ⟨r.val / 256, (show r.val / 256 < 11 by omega).trans_eq N_0.symm⟩
abbrev inRow (r : Fin 2816) : Fin 256 := ⟨r.val % 256, by omega⟩

/-- The arguments. -/
abbrev lhs : Vec Ideal S8192x2816 .bf16 := m ((c : Thread nD τ).loc main_arg0)
abbrev rhs : Vec Ideal S8192x1024 .bf16 := m ((c : Thread nD τ).loc main_arg1)

theorem blk0 (r : Fin 2816) (k : Fin 8192) : (iblk m c 0 (ptOf r) : Vec Ideal S8192x256 .bf16) (ix2 k (inRow r)) = lhs m c (ix2 k r) :=
  (View.read_apply ..).trans ((congrFun (V_main_arg0 m c) _).trans (congrArg (lhs m c) (ix2_ext (whole (idx _).1.1) (place (idx _).1.2))))

theorem blk1 (r : Fin 2816) (j : Fin 1024) (k : Fin 8192) : (iblk m c 1 (ptOf r) : Vec Ideal S8192x1024 .bf16) (ix2 k j) = rhs m c (ix2 k j) :=
  (View.read_apply ..).trans ((congrFun (V_main_arg1 m c) _).trans (congrArg (rhs m c) (ix2_ext (whole (idx _).2.1.1) (whole (idx _).2.1.2))))

/-- The result, at every index. -/
theorem final (r : Fin 2816) (j : Fin 1024) : ((dats m 0 c).arrAt 2 cfg0.N : Vec Ideal S2816x1024 .bf16) (ix2 r j)
    = ∑ k, lhs m c (ix2 k r) * rhs m c (ix2 k j) := by
  have hb := blocks2 m c (ptOf r) (flush0_2 _)
  rw [flushed2, out_eq] at hb
  refine Eq.trans ?_ ((congrFun hb (ix2 (inRow r) j)).trans ((pay_apply ..).trans (Finset.sum_congr rfl fun k _ => by rw [blk0, blk1])))
  rw [View.read_apply]
  exact (congrArg ((dats m 0 c).arrAt 2 cfg0.N) (ix2_ext (place (idx _).2.2.1) (whole (idx _).2.2.2))).symm

/-- The reference, at every index. -/
theorem reference (x0 : Vec Ideal S8192x2816 .bf16) (x1 : Vec Ideal S8192x1024 .bf16) (r : Fin 2816) (j : Fin 1024) :
    Cert.FfnOutDwRefIdeal.Read.val_main_v6 (F := Ideal) x0 x1 (ix2 r j) = ∑ k, x0 (ix2 k r) * x1 (ix2 k j) := by
  unfold Cert.FfnOutDwRefIdeal.Read.val_main_v6 Cert.FfnOutDwRefIdeal.Read.val_main_v5 Cert.FfnOutDwRefIdeal.Read.val_main_v4 Cert.FfnOutDwRefIdeal.Read.val_main_v3 Cert.FfnOutDwRefIdeal.Read.val_main_v0
  pointwise
  exact Finset.sum_congr rfl fun k _ => mul_comm _ _

/-- The reference leaves its arguments as they were, and it has no counters. -/
theorem reference_frame : Cert.quiescent_FfnOutDwRefIdeal := fun m g _ =>
  (θ_run _ _ _).mono (fun r h => And.intro (fun c : Dev Cert.FfnOutDwRefIdeal.nD => (h c).2) (sem_eq_zero_of_no_sems (by decide) r.2))
    (Cert.FfnOutDwRefIdeal.Value.run (F := Ideal) m g)

/-- The two programs have the same results. -/
theorem agree : Cert.algebraic_FfnOutDwIdeal_FfnOutDwRefIdeal := by
  intro m g m' g' _ hargs
  refine ⟨fun c => (dats m 0 c).arrAt 2 cfg0.N, run_blocks m g, (θ_run _ _ _).mono (fun r h c => ⟨?_, (h c).2⟩) (Cert.FfnOutDwRefIdeal.Value.run m' g')⟩
  obtain ⟨q0, q1⟩ := hargs c
  refine (h c).1.trans ((Cert.FfnOutDwRefIdeal.Read.val_main_v6_eq _ _).trans ?_)
  rw [q0, q1]
  exact arr2_ext fun r j => (reference _ _ r j).trans (final m c r j).symm

end Cert.Products.FfnOutDw

end
-- ==== Proof.Products.FfnOutDx.lean ====
/-
The input gradient of the feed-forward block's output projection.
-/
module

public import proofs.«01_k».proof.Defs
public import proofs.«01_k».proof.Proof.Products.Blocks
public import proofs.«01_k».proof.Proof.Gen.FfnOutDxIdeal.Value
public import proofs.«01_k».proof.Proof.Gen.FfnOutDxRefIdeal.Run
public import proofs.«01_k».proof.Proof.Gen.FfnOutDxRefIdeal.Read

@[expose] public section

set_option maxRecDepth 16384

noncomputable section

namespace Cert.Products.FfnOutDx

open Cert.FfnOutDxIdeal Cert.FfnOutDxIdeal.Gen Cert.FfnOutDxIdeal.Value Idealize.ShloMosaic Idealize.ShloMosaic.TcCoe Idealize.SL.Sem

/-- What the body makes of its blocks, at an index. -/
theorem pay_apply (x0 : Vec Ideal S2048x1024 .bf16) (x1 : Vec Ideal S1408x1024 .bf16) (i : Fin 2048) (j : Fin 1408) :
    k0_pay1 x0 x1 (ix2 i j) = ∑ k, x0 (ix2 i k) * x1 (ix2 j k) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) := by
  unfold outsAt0 out0_A_2
  rw [View.read_writes_eq_canon _ _ _ fun y => cover0_A_2 (y := y) ..]
  unfold kernelRun0_A
  dsimp only
  sl_unfold_words
  simp only [View.canon_unit_zero (S := S2048x1408) hz, View.ld_unit_zero (S := S2048x1024) hz, View.ld_unit_zero (S := S1408x1024) hz, View.readAt_eq_ld, (hs0_0 t).read_unread, (hs0_1 t).read_unread]

/-- Where the blocks lie. -/
theorem idx : ∀ t : Fin cfg0.N, (win0_0.index t 0 = t.val / 2 ∧ win0_0.index t 1 = 0)
    ∧ (win0_1.index t 0 = t.val % 2 ∧ win0_1.index t 1 = 0)
    ∧ (win0_2.index t 0 = t.val / 2 ∧ win0_2.index t 1 = t.val % 2) :=
  (by decide +kernel : ∀ t : Fin grid0.N, _)

/-- The point that writes row `r`, column `j`. -/
abbrev ptOf (r : Fin 8192) (j : Fin 2816) : Fin cfg0.N := ⟨r.val / 2048 * 2 + j.val / 1408, (show r.val / 2048 * 2 + j.val / 1408 < 8 by omega).trans_eq N_0.symm⟩
abbrev inRow (r : Fin 8192) : Fin 2048 := ⟨r.val % 2048, by omega⟩
abbrev inCol (j : Fin 2816) : Fin 1408 := ⟨j.val % 1408, by omega⟩

theorem row_eq (r : Fin 8192) (j : Fin 2816) : (ptOf r j).val / 2 = r.val / 2048 := by show (r.val / 2048 * 2 + j.val / 1408) / 2 = _; omega
theorem col_eq (r : Fin 8192) (j : Fin 2816) : (ptOf r j).val % 2 = j.val / 1408 := by show (r.val / 2048 * 2 + j.val / 1408) % 2 = _; omega

/-- The arguments. -/
abbrev lhs : Vec Ideal S8192x1024 .bf16 := m ((c : Thread nD τ).loc main_arg0)
abbrev rhs : Vec Ideal S2816x1024 .bf16 := m ((c : Thread nD τ).loc main_arg1)

theorem blk0 (r : Fin 8192) (j : Fin 2816) (k : Fin 1024) : (iblk m c 0 (ptOf r j) : Vec Ideal S2048x1024 .bf16) (ix2 (inRow r) k) = lhs m c (ix2 r k) :=
  (View.read_apply ..).trans ((congrFun (V_main_arg0 m c) _).trans (congrArg (lhs m c) (ix2_ext (place ((idx _).1.1.trans (row_eq r j))) (whole (idx _).1.2))))

theorem blk1 (r : Fin 8192) (j : Fin 2816) (k : Fin 1024) : (iblk m c 1 (ptOf r j) : Vec Ideal S1408x1024 .bf16) (ix2 (inCol j) k) = rhs m c (ix2 j k) :=
  (View.read_apply ..).trans ((congrFun (V_main_arg1 m c) _).trans (congrArg (rhs m c) (ix2_ext (place ((idx _).2.1.1.trans (col_eq r j))) (whole (idx _).2.1.2))))

/-- The result, at every index. -/
theorem final (r : Fin 8192) (j : Fin 2816) : ((dats m 0 c).arrAt 2 cfg0.N : Vec Ideal S8192x2816 .bf16) (ix2 r j)
    = ∑ k, lhs m c (ix2 r k) * rhs m c (ix2 j k) := by
  have hb := blocks2 m c (ptOf r j) (flush0_2 _)
  rw [flushed2, out_eq] at hb
  refine Eq.trans ?_ ((congrFun hb (ix2 (inRow r) (inCol j))).trans ((pay_apply ..).trans (Finset.sum_congr rfl fun k _ => by rw [blk0, blk1])))
  rw [View.read_apply]
  exact (congrArg ((dats m 0 c).arrAt 2 cfg0.N) (ix2_ext (place ((idx _).2.2.1.trans (row_eq r j))) (place ((idx _).2.2.2.trans (col_eq r j))))).symm

/-- The reference, at every index. -/
theorem reference (x0 : Vec Ideal S8192x1024 .bf16) (x1 : Vec Ideal S2816x1024 .bf16) (r : Fin 8192) (j : Fin 2816) :
    Cert.FfnOutDxRefIdeal.Read.val_main_v5 (F := Ideal) x0 x1 (ix2 r j) = ∑ k, x0 (ix2 r k) * x1 (ix2 j k) := by
  unfold Cert.FfnOutDxRefIdeal.Read.val_main_v5 Cert.FfnOutDxRefIdeal.Read.val_main_v4 Cert.FfnOutDxRefIdeal.Read.val_main_v3 Cert.FfnOutDxRefIdeal.Read.val_main_v0
  pointwise

/-- The reference leaves its arguments as they were, and it has no counters. -/
theorem reference_frame : Cert.quiescent_FfnOutDxRefIdeal := fun m g _ =>
  (θ_run _ _ _).mono (fun r h => And.intro (fun c : Dev Cert.FfnOutDxRefIdeal.nD => (h c).2) (sem_eq_zero_of_no_sems (by decide) r.2))
    (Cert.FfnOutDxRefIdeal.Value.run (F := Ideal) m g)

/-- The two programs have the same results. -/
theorem agree : Cert.algebraic_FfnOutDxIdeal_FfnOutDxRefIdeal := by
  intro m g m' g' _ hargs
  refine ⟨fun c => (dats m 0 c).arrAt 2 cfg0.N, run_blocks m g, (θ_run _ _ _).mono (fun r h c => ⟨?_, (h c).2⟩) (Cert.FfnOutDxRefIdeal.Value.run m' g')⟩
  obtain ⟨q0, q1⟩ := hargs c
  refine (h c).1.trans ((Cert.FfnOutDxRefIdeal.Read.val_main_v5_eq _ _).trans ?_)
  rw [q0, q1]
  exact arr2_ext fun r j => (reference _ _ r j).trans (final m c r j).symm

end Cert.Products.FfnOutDx

end
-- ==== Proof.Products.SguInDw.lean ====
/-
The weight gradient of the gating unit's input projection.
-/
module

public import proofs.«01_k».proof.Defs
public import proofs.«01_k».proof.Proof.Products.Blocks
public import proofs.«01_k».proof.Proof.Gen.SguInDwIdeal.Value
public import proofs.«01_k».proof.Proof.Gen.SguInDwRefIdeal.Run
public import proofs.«01_k».proof.Proof.Gen.SguInDwRefIdeal.Read

@[expose] public section

set_option maxRecDepth 16384

noncomputable section

namespace Cert.Products.SguInDw

open Cert.SguInDwIdeal Cert.SguInDwIdeal.Gen Cert.SguInDwIdeal.Value Idealize.ShloMosaic Idealize.ShloMosaic.TcCoe Idealize.SL.Sem

/-- What the body makes of its blocks, at an index. -/
theorem pay_apply (x0 : Vec Ideal S8192x256 .bf16) (x1 : Vec Ideal S8192x1024 .bf16) (i : Fin 256) (j : Fin 1024) :
    k0_pay1 x0 x1 (ix2 i j) = ∑ k, x0 (ix2 k i) * x1 (ix2 k j) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) := by
  unfold outsAt0 out0_A_2
  rw [View.read_writes_eq_canon _ _ _ fun y => cover0_A_2 (y := y) ..]
  unfold kernelRun0_A
  dsimp only
  sl_unfold_words
  simp only [View.canon_unit_zero (S := S256x1024) hz, View.ld_unit_zero (S := S8192x256) hz, View.ld_unit_zero (S := S8192x1024) hz, View.readAt_eq_ld, (hs0_0 t).read_unread, (hs0_1 t).read_unread]

/-- Where the blocks lie. -/
theorem idx : ∀ t : Fin cfg0.N, (win0_0.index t 0 = 0 ∧ win0_0.index t 1 = t.val)
    ∧ (win0_1.index t 0 = 0 ∧ win0_1.index t 1 = 0)
    ∧ (win0_2.index t 0 = t.val ∧ win0_2.index t 1 = 0) :=
  (by decide +kernel : ∀ t : Fin grid0.N, _)

/-- The point that writes row `r`. -/
abbrev ptOf (r : Fin 4096) : Fin cfg0.N := ⟨r.val / 256, (show r.val / 256 < 16 by omega).trans_eq N_0.symm⟩
abbrev inRow (r : Fin 4096) : Fin 256 := ⟨r.val % 256, by omega⟩

/-- The arguments. -/
abbrev lhs : Vec Ideal S8192x4096 .bf16 := m ((c : Thread nD τ).loc main_arg0)
abbrev rhs : Vec Ideal S8192x1024 .bf16 := m ((c : Thread nD τ).loc main_arg1)

theorem blk0 (r : Fin 4096) (k : Fin 8192) : (iblk m c 0 (ptOf r) : Vec Ideal S8192x256 .bf16) (ix2 k (inRow r)) = lhs m c (ix2 k r) :=
  (View.read_apply ..).trans ((congrFun (V_main_arg0 m c) _).trans (congrArg (lhs m c) (ix2_ext (whole (idx _).1.1) (place (idx _).1.2))))

theorem blk1 (r : Fin 4096) (j : Fin 1024) (k : Fin 8192) : (iblk m c 1 (ptOf r) : Vec Ideal S8192x1024 .bf16) (ix2 k j) = rhs m c (ix2 k j) :=
  (View.read_apply ..).trans ((congrFun (V_main_arg1 m c) _).trans (congrArg (rhs m c) (ix2_ext (whole (idx _).2.1.1) (whole (idx _).2.1.2))))

/-- The result, at every index. -/
theorem final (r : Fin 4096) (j : Fin 1024) : ((dats m 0 c).arrAt 2 cfg0.N : Vec Ideal S4096x1024 .bf16) (ix2 r j)
    = ∑ k, lhs m c (ix2 k r) * rhs m c (ix2 k j) := by
  have hb := blocks2 m c (ptOf r) (flush0_2 _)
  rw [flushed2, out_eq] at hb
  refine Eq.trans ?_ ((congrFun hb (ix2 (inRow r) j)).trans ((pay_apply ..).trans (Finset.sum_congr rfl fun k _ => by rw [blk0, blk1])))
  rw [View.read_apply]
  exact (congrArg ((dats m 0 c).arrAt 2 cfg0.N) (ix2_ext (place (idx _).2.2.1) (whole (idx _).2.2.2))).symm

/-- The reference, at every index. -/
theorem reference (x0 : Vec Ideal S8192x4096 .bf16) (x1 : Vec Ideal S8192x1024 .bf16) (r : Fin 4096) (j : Fin 1024) :
    Cert.SguInDwRefIdeal.Read.val_main_v8 (F := Ideal) x0 x1 (ix2 r j) = ∑ k, x0 (ix2 k r) * x1 (ix2 k j) := by
  unfold Cert.SguInDwRefIdeal.Read.val_main_v8 Cert.SguInDwRefIdeal.Read.val_main_v7 Cert.SguInDwRefIdeal.Read.val_main_v6 Cert.SguInDwRefIdeal.Read.val_main_v5 Cert.SguInDwRefIdeal.Read.val_main_v4 Cert.SguInDwRefIdeal.Read.val_main_v0
  pointwise

/-- The reference leaves its arguments as they were, and it has no counters. -/
theorem reference_frame : Cert.quiescent_SguInDwRefIdeal := fun m g _ =>
  (θ_run _ _ _).mono (fun r h => And.intro (fun c : Dev Cert.SguInDwRefIdeal.nD => (h c).2) (sem_eq_zero_of_no_sems (by decide) r.2))
    (Cert.SguInDwRefIdeal.Value.run (F := Ideal) m g)

/-- The two programs have the same results. -/
theorem agree : Cert.algebraic_SguInDwIdeal_SguInDwRefIdeal := by
  intro m g m' g' _ hargs
  refine ⟨fun c => (dats m 0 c).arrAt 2 cfg0.N, run_blocks m g, (θ_run _ _ _).mono (fun r h c => ⟨?_, (h c).2⟩) (Cert.SguInDwRefIdeal.Value.run m' g')⟩
  obtain ⟨q0, q1⟩ := hargs c
  refine (h c).1.trans ((Cert.SguInDwRefIdeal.Read.val_main_v8_eq _ _).trans ?_)
  rw [q0, q1]
  exact arr2_ext fun r j => (reference _ _ r j).trans (final m c r j).symm

end Cert.Products.SguInDw

end
-- ==== Proof.Products.SguInDx.lean ====
/-
The input gradient of the gating unit's input projection: two products of half the
columns each, the first kept for the second to be added to.
-/
module

public import proofs.«01_k».proof.Defs
public import proofs.«01_k».proof.Proof.Products.Blocks
public import proofs.«01_k».proof.Proof.Gen.SguInDxIdeal.Value
public import proofs.«01_k».proof.Proof.Gen.SguInDxRefIdeal.Run
public import proofs.«01_k».proof.Proof.Gen.SguInDxRefIdeal.Read

@[expose] public section

set_option maxRecDepth 16384

noncomputable section

namespace Cert.Products.SguInDx

open Cert.SguInDxIdeal Cert.SguInDxIdeal.Gen Cert.SguInDxIdeal.Value Idealize.ShloMosaic Idealize.ShloMosaic.TcCoe Idealize.SL.Sem

/-- What the body keeps at an even point. -/
theorem pay2_apply (x0 : Vec Ideal S1024x2048 .bf16) (x1 : Vec Ideal S2048x1024 .bf16) (i : Fin 1024) (j : Fin 1024) :
    k0_pay2 x0 x1 (ix2 i j) = ∑ k, x0 (ix2 i k) * x1 (ix2 k j) := by
  unfold k0_pay2 k0_pay1
  pointwise

/-- What it adds to that at an odd point. -/
theorem pay3_apply (x0 : Vec Ideal S1024x2048 .bf16) (x1 : Vec Ideal S2048x1024 .bf16) (a : Vec Ideal S1024x1024 .f32) (i : Fin 1024) (j : Fin 1024) :
    k0_pay4 (k0_pay3 x0 x1 a) (ix2 i j) = a (ix2 i j) + ∑ k, x0 (ix2 i k) * x1 (ix2 k j) := by
  unfold k0_pay4 k0_pay3 k0_pay1
  pointwise

variable (m : (ℓ : Loc nD τ sig) → Buf (Elt Ideal) ℓ) (c : Dev nD)

theorem kept_eq (t : Fin cfg0.N) (h : t.val % 2 = 0) : (outsAt0 m c t.val t.isLt).2 = k0_pay2 (iblk m c 0 t) (iblk m c 1 t) := by
  rw [outsAt0_A m c t h (by omega) (by omega)]
  dsimp only
  unfold sout0_A_0
  rw [View.read_writes_eq_canon _ _ _ fun y => scover0_A_0 (y := y) ..]
  unfold kernelRun0_A
  dsimp only
  sl_unfold_words
  simp only [View.canon_unit_zero (S := S1024x1024) hz, View.ld_unit_zero (S := S1024x2048) hz, View.ld_unit_zero (S := S2048x1024) hz, View.readAt_eq_ld, (hs0_0 t).read_unread, (hs0_1 t).read_unread]

theorem out_eq (t : Fin cfg0.N) (h : t.val % 2 = 1) :
    (outsAt0 m c t.val t.isLt).1 = k0_pay4 (k0_pay3 (iblk m c 0 t) (iblk m c 1 t) (outsAt0 m c (t.val - 1) (Nat.lt_of_le_of_lt (Nat.sub_le _ _) t.isLt)).2) := by
  rw [outsAt0_B m c t (by omega) h h]
  dsimp only
  unfold out0_B_2
  rw [View.read_writes_eq_canon _ _ _ fun y => cover0_B_2 (y := y) ..]
  unfold kernelRun0_B
  dsimp only
  sl_unfold_words
  simp only [View.canon_unit_zero (S := S1024x1024) hz, View.canon_cons_unit_zero (S := S1024x1024) hz, View.readCov_unit_zero (S := S1024x1024) _ hz, View.ld_unit_zero (S := S1024x1024) hz, View.ld_unit_zero (S := S1024x2048) hz, View.ld_unit_zero (S := S2048x1024) hz, View.readAt_eq_ld, (hs0_0 t).read_unread, (hs0_1 t).read_unread, (Memref.isWhole_whole _).read_unread]

/-- Where the blocks lie. -/
theorem idx : ∀ t : Fin cfg0.N, (win0_0.index t 0 = t.val / 2 ∧ win0_0.index t 1 = t.val % 2)
    ∧ (win0_1.index t 0 = t.val % 2 ∧ win0_1.index t 1 = 0) :=
  (by decide +kernel : ∀ t : Fin grid0.N, _)

/-- The arguments. -/
abbrev lhs : Vec Ideal S8192x4096 .bf16 := m ((c : Thread nD τ).loc main_arg0)
abbrev rhs : Vec Ideal S4096x1024 .bf16 := m ((c : Thread nD τ).loc main_arg1)

/-- Column `k` of half `b`. -/
abbrev half (b : Fin 2) (k : Fin 2048) : Fin 4096 := ⟨b.val * 2048 + k.val, by omega⟩

theorem blk0 (t : Fin cfg0.N) (r : Fin 8192) (b : Fin 2) (hr : t.val / 2 = r.val / 1024) (hb : t.val % 2 = b.val) (k : Fin 2048) :
    (iblk m c 0 t : Vec Ideal S1024x2048 .bf16) (ix2 ⟨r.val % 1024, by omega⟩ k) = lhs m c (ix2 r (half b k)) :=
  (View.read_apply ..).trans ((congrFun (V_main_arg0 m c) _).trans (congrArg (lhs m c) (ix2_ext (place ((idx _).1.1.trans hr))
    (show win0_0.index t 1 * 2048 + 1 * k.val = b.val * 2048 + k.val by rw [(idx _).1.2, hb, one_mul]))))

theorem blk1 (t : Fin cfg0.N) (b : Fin 2) (hb : t.val % 2 = b.val) (k : Fin 2048) (j : Fin 1024) :
    (iblk m c 1 t : Vec Ideal S2048x1024 .bf16) (ix2 k j) = rhs m c (ix2 (half b k) j) :=
  (View.read_apply ..).trans ((congrFun (V_main_arg1 m c) _).trans (congrArg (rhs m c) (ix2_ext
    (show win0_1.index t 0 * 2048 + 1 * k.val = b.val * 2048 + k.val by rw [(idx _).2.1, hb, one_mul]) (whole (idx _).2.2))))

/-- A sum over the columns is one over each half. -/
theorem sum_halves (f : Fin 4096 → EReal) : ∑ k, f k = (∑ k, f (half 0 k)) + ∑ k, f (half 1 k) := by
  rw [Fin.sum_univ_add (a := 2048) (b := 2048) f]
  exact congrArg₂ (· + ·) (Finset.sum_congr rfl fun k _ => congrArg f (Fin.ext (by show k.val = 0 * 2048 + k.val; omega)))
    (Finset.sum_congr rfl fun k _ => congrArg f (Fin.ext (by show 2048 + k.val = 1 * 2048 + k.val; omega)))

/-- What an odd point leaves in its block. -/
theorem out_apply (t : Fin cfg0.N) (r : Fin 8192) (j : Fin 1024) (ht : t.val = 2 * (r.val / 1024) + 1) :
    (outsAt0 m c t.val t.isLt).1 (ix2 ⟨r.val % 1024, by omega⟩ j) = ∑ k, lhs m c (ix2 r k) * rhs m c (ix2 k j) := by
  have hp : t.val - 1 < cfg0.N := Nat.lt_of_le_of_lt (Nat.sub_le _ _) t.isLt
  rw [out_eq m c t (by omega), pay3_apply, kept_eq m c ⟨t.val - 1, hp⟩ (by show (t.val - 1) % 2 = 0; omega), pay2_apply, sum_halves]
  refine congrArg₂ (· + ·) (Finset.sum_congr rfl fun k _ => ?_) (Finset.sum_congr rfl fun k _ => ?_)
  · rw [blk0 m c ⟨t.val - 1, hp⟩ r 0 (by show (t.val - 1) / 2 = _; omega) (by show (t.val - 1) % 2 = 0; omega),
      blk1 m c ⟨t.val - 1, hp⟩ 0 (by show (t.val - 1) % 2 = 0; omega)]
  · rw [blk0 m c t r 1 (by omega) (by show t.val % 2 = 1; omega), blk1 m c t 1 (by show t.val % 2 = 1; omega)]

/-- The result, at every index. -/
theorem final (r : Fin 8192) (j : Fin 1024) : (G2 m c : Vec Ideal S8192x1024 .bf16) (ix2 r j) = ∑ k, lhs m c (ix2 r k) * rhs m c (ix2 k j) := by
  have hr : 2 * run2Of (ix2 r j) + 1 = 2 * (r.val / 1024) + 1 := by
    show 2 * (1 * (r.val / 1024 - 0) + 1 * (j.val / 1024 - 0)) + 1 = _
    omega
  have ht : 2 * run2Of (ix2 r j) + 1 < cfg0.N := by rw [hr]; exact (show _ < 16 by omega).trans_eq N_0.symm
  have hl : loc2Of (ix2 r j) = ix2 ⟨r.val % 1024, by omega⟩ j := ix2_ext rfl (show j.val % 1024 = j.val by omega)
  refine (dif_pos ht).trans ?_
  rw [hl, ← outsAt0_sweep m c _ ht]
  exact out_apply m c ⟨_, ht⟩ r j hr

/-- The reference, at every index. -/
theorem reference (x0 : Vec Ideal S8192x4096 .bf16) (x1 : Vec Ideal S4096x1024 .bf16) (r : Fin 8192) (j : Fin 1024) :
    Cert.SguInDxRefIdeal.Read.val_main_v6 (F := Ideal) x0 x1 (ix2 r j) = ∑ k, x0 (ix2 r k) * x1 (ix2 k j) := by
  unfold Cert.SguInDxRefIdeal.Read.val_main_v6 Cert.SguInDxRefIdeal.Read.val_main_v5 Cert.SguInDxRefIdeal.Read.val_main_v4 Cert.SguInDxRefIdeal.Read.val_main_v2 Cert.SguInDxRefIdeal.Read.val_main_v0
  pointwise

/-- The reference leaves its arguments as they were, and it has no counters. -/
theorem reference_frame : Cert.quiescent_SguInDxRefIdeal := fun m g _ =>
  (θ_run _ _ _).mono (fun r h => And.intro (fun c : Dev Cert.SguInDxRefIdeal.nD => (h c).2) (sem_eq_zero_of_no_sems (by decide) r.2))
    (Cert.SguInDxRefIdeal.Value.run (F := Ideal) m g)

/-- The two programs have the same results. -/
theorem agree : Cert.algebraic_SguInDxIdeal_SguInDxRefIdeal := by
  intro m g m' g' _ hargs
  refine ⟨fun c => G2 m c, Cert.SguInDxIdeal.Value.run m g, (θ_run _ _ _).mono (fun r h c => ⟨?_, (h c).2⟩) (Cert.SguInDxRefIdeal.Value.run m' g')⟩
  obtain ⟨q0, q1⟩ := hargs c
  refine (h c).1.trans ((Cert.SguInDxRefIdeal.Read.val_main_v6_eq _ _).trans ?_)
  rw [q0, q1]
  exact arr2_ext fun r j => (reference _ _ r j).trans (final m c r j).symm

end Cert.Products.SguInDx

end
-- ==== Proof.Products.SguOutDw.lean ====
/-
The weight gradient of the gating unit's output projection.
-/
module

public import proofs.«01_k».proof.Defs
public import proofs.«01_k».proof.Proof.Products.Blocks
public import proofs.«01_k».proof.Proof.Gen.SguOutDwIdeal.Value
public import proofs.«01_k».proof.Proof.Gen.SguOutDwRefIdeal.Run
public import proofs.«01_k».proof.Proof.Gen.SguOutDwRefIdeal.Read

@[expose] public section

set_option maxRecDepth 16384

noncomputable section

namespace Cert.Products.SguOutDw

open Cert.SguOutDwIdeal Cert.SguOutDwIdeal.Gen Cert.SguOutDwIdeal.Value Idealize.ShloMosaic Idealize.ShloMosaic.TcCoe Idealize.SL.Sem

/-- What the body makes of its blocks, at an index. -/
theorem pay_apply (x0 : Vec Ideal S8192x256 .bf16) (x1 : Vec Ideal S8192x1024 .bf16) (i : Fin 256) (j : Fin 1024) :
    k0_pay1 x0 x1 (ix2 i j) = ∑ k, x0 (ix2 k i) * x1 (ix2 k j) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) := by
  unfold outsAt0 out0_A_2
  rw [View.read_writes_eq_canon _ _ _ fun y => cover0_A_2 (y := y) ..]
  unfold kernelRun0_A
  dsimp only
  sl_unfold_words
  simp only [View.canon_unit_zero (S := S256x1024) hz, View.ld_unit_zero (S := S8192x256) hz, View.ld_unit_zero (S := S8192x1024) hz, View.readAt_eq_ld, (hs0_0 t).read_unread, (hs0_1 t).read_unread]

/-- Where the blocks lie. -/
theorem idx : ∀ t : Fin cfg0.N, (win0_0.index t 0 = 0 ∧ win0_0.index t 1 = t.val)
    ∧ (win0_1.index t 0 = 0 ∧ win0_1.index t 1 = 0)
    ∧ (win0_2.index t 0 = t.val ∧ win0_2.index t 1 = 0) :=
  (by decide +kernel : ∀ t : Fin grid0.N, _)

/-- The point that writes row `r`. -/
abbrev ptOf (r : Fin 2048) : Fin cfg0.N := ⟨r.val / 256, (show r.val / 256 < 8 by omega).trans_eq N_0.symm⟩
abbrev inRow (r : Fin 2048) : Fin 256 := ⟨r.val % 256, by omega⟩

/-- The arguments. -/
abbrev lhs : Vec Ideal S8192x2048 .bf16 := m ((c : Thread nD τ).loc main_arg0)
abbrev rhs : Vec Ideal S8192x1024 .bf16 := m ((c : Thread nD τ).loc main_arg1)

theorem blk0 (r : Fin 2048) (k : Fin 8192) : (iblk m c 0 (ptOf r) : Vec Ideal S8192x256 .bf16) (ix2 k (inRow r)) = lhs m c (ix2 k r) :=
  (View.read_apply ..).trans ((congrFun (V_main_arg0 m c) _).trans (congrArg (lhs m c) (ix2_ext (whole (idx _).1.1) (place (idx _).1.2))))

theorem blk1 (r : Fin 2048) (j : Fin 1024) (k : Fin 8192) : (iblk m c 1 (ptOf r) : Vec Ideal S8192x1024 .bf16) (ix2 k j) = rhs m c (ix2 k j) :=
  (View.read_apply ..).trans ((congrFun (V_main_arg1 m c) _).trans (congrArg (rhs m c) (ix2_ext (whole (idx _).2.1.1) (whole (idx _).2.1.2))))

/-- The result, at every index. -/
theorem final (r : Fin 2048) (j : Fin 1024) : ((dats m 0 c).arrAt 2 cfg0.N : Vec Ideal S2048x1024 .bf16) (ix2 r j)
    = ∑ k, lhs m c (ix2 k r) * rhs m c (ix2 k j) := by
  have hb := blocks2 m c (ptOf r) (flush0_2 _)
  rw [flushed2, out_eq] at hb
  refine Eq.trans ?_ ((congrFun hb (ix2 (inRow r) j)).trans ((pay_apply ..).trans (Finset.sum_congr rfl fun k _ => by rw [blk0, blk1])))
  rw [View.read_apply]
  exact (congrArg ((dats m 0 c).arrAt 2 cfg0.N) (ix2_ext (place (idx _).2.2.1) (whole (idx _).2.2.2))).symm

/-- The reference, at every index. -/
theorem reference (x0 : Vec Ideal S8192x2048 .bf16) (x1 : Vec Ideal S8192x1024 .bf16) (r : Fin 2048) (j : Fin 1024) :
    Cert.SguOutDwRefIdeal.Read.val_main_v6 (F := Ideal) x0 x1 (ix2 r j) = ∑ k, x0 (ix2 k r) * x1 (ix2 k j) := by
  unfold Cert.SguOutDwRefIdeal.Read.val_main_v6 Cert.SguOutDwRefIdeal.Read.val_main_v5 Cert.SguOutDwRefIdeal.Read.val_main_v4 Cert.SguOutDwRefIdeal.Read.val_main_v3 Cert.SguOutDwRefIdeal.Read.val_main_v0
  pointwise
  exact Finset.sum_congr rfl fun k _ => mul_comm _ _

/-- The reference leaves its arguments as they were, and it has no counters. -/
theorem reference_frame : Cert.quiescent_SguOutDwRefIdeal := fun m g _ =>
  (θ_run _ _ _).mono (fun r h => And.intro (fun c : Dev Cert.SguOutDwRefIdeal.nD => (h c).2) (sem_eq_zero_of_no_sems (by decide) r.2))
    (Cert.SguOutDwRefIdeal.Value.run (F := Ideal) m g)

/-- The two programs have the same results. -/
theorem agree : Cert.algebraic_SguOutDwIdeal_SguOutDwRefIdeal := by
  intro m g m' g' _ hargs
  refine ⟨fun c => (dats m 0 c).arrAt 2 cfg0.N, run_blocks m g, (θ_run _ _ _).mono (fun r h c => ⟨?_, (h c).2⟩) (Cert.SguOutDwRefIdeal.Value.run m' g')⟩
  obtain ⟨q0, q1⟩ := hargs c
  refine (h c).1.trans ((Cert.SguOutDwRefIdeal.Read.val_main_v6_eq _ _).trans ?_)
  rw [q0, q1]
  exact arr2_ext fun r j => (reference _ _ r j).trans (final m c r j).symm

end Cert.Products.SguOutDw

end
-- ==== Proof.Products.SguOutDx.lean ====
/-
The input gradient of the gating unit's output projection.
-/
module

public import proofs.«01_k».proof.Defs
public import proofs.«01_k».proof.Proof.Products.Blocks
public import proofs.«01_k».proof.Proof.Gen.SguOutDxIdeal.Value
public import proofs.«01_k».proof.Proof.Gen.SguOutDxRefIdeal.Run
public import proofs.«01_k».proof.Proof.Gen.SguOutDxRefIdeal.Read

@[expose] public section

set_option maxRecDepth 16384

noncomputable section

namespace Cert.Products.SguOutDx

open Cert.SguOutDxIdeal Cert.SguOutDxIdeal.Gen Cert.SguOutDxIdeal.Value Idealize.ShloMosaic Idealize.ShloMosaic.TcCoe Idealize.SL.Sem

/-- What the body makes of its blocks, at an index. -/
theorem pay_apply (x0 : Vec Ideal S2048x1024 .bf16) (x1 : Vec Ideal S1024x1024 .bf16) (i : Fin 2048) (j : Fin 1024) :
    k0_pay1 x0 x1 (ix2 i j) = ∑ k, x0 (ix2 i k) * x1 (ix2 j k) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) := by
  unfold outsAt0 out0_A_2
  rw [View.read_writes_eq_canon _ _ _ fun y => cover0_A_2 (y := y) ..]
  unfold kernelRun0_A
  dsimp only
  sl_unfold_words
  simp only [View.canon_unit_zero (S := S2048x1024) hz, View.ld_unit_zero (S := S2048x1024) hz, View.ld_unit_zero (S := S1024x1024) hz, View.readAt_eq_ld, (hs0_0 t).read_unread, (hs0_1 t).read_unread]

/-- Where the blocks lie. -/
theorem idx : ∀ t : Fin cfg0.N, (win0_0.index t 0 = t.val / 2 ∧ win0_0.index t 1 = 0)
    ∧ (win0_1.index t 0 = t.val % 2 ∧ win0_1.index t 1 = 0)
    ∧ (win0_2.index t 0 = t.val / 2 ∧ win0_2.index t 1 = t.val % 2) :=
  (by decide +kernel : ∀ t : Fin grid0.N, _)

/-- The point that writes row `r`, column `j`. -/
abbrev ptOf (r : Fin 8192) (j : Fin 2048) : Fin cfg0.N := ⟨r.val / 2048 * 2 + j.val / 1024, (show r.val / 2048 * 2 + j.val / 1024 < 8 by omega).trans_eq N_0.symm⟩
abbrev inRow (r : Fin 8192) : Fin 2048 := ⟨r.val % 2048, by omega⟩
abbrev inCol (j : Fin 2048) : Fin 1024 := ⟨j.val % 1024, by omega⟩

theorem row_eq (r : Fin 8192) (j : Fin 2048) : (ptOf r j).val / 2 = r.val / 2048 := by show (r.val / 2048 * 2 + j.val / 1024) / 2 = _; omega
theorem col_eq (r : Fin 8192) (j : Fin 2048) : (ptOf r j).val % 2 = j.val / 1024 := by show (r.val / 2048 * 2 + j.val / 1024) % 2 = _; omega

/-- The arguments. -/
abbrev lhs : Vec Ideal S8192x1024 .bf16 := m ((c : Thread nD τ).loc main_arg0)
abbrev rhs : Vec Ideal S2048x1024 .bf16 := m ((c : Thread nD τ).loc main_arg1)

theorem blk0 (r : Fin 8192) (j : Fin 2048) (k : Fin 1024) : (iblk m c 0 (ptOf r j) : Vec Ideal S2048x1024 .bf16) (ix2 (inRow r) k) = lhs m c (ix2 r k) :=
  (View.read_apply ..).trans ((congrFun (V_main_arg0 m c) _).trans (congrArg (lhs m c) (ix2_ext (place ((idx _).1.1.trans (row_eq r j))) (whole (idx _).1.2))))

theorem blk1 (r : Fin 8192) (j : Fin 2048) (k : Fin 1024) : (iblk m c 1 (ptOf r j) : Vec Ideal S1024x1024 .bf16) (ix2 (inCol j) k) = rhs m c (ix2 j k) :=
  (View.read_apply ..).trans ((congrFun (V_main_arg1 m c) _).trans (congrArg (rhs m c) (ix2_ext (place ((idx _).2.1.1.trans (col_eq r j))) (whole (idx _).2.1.2))))

/-- The result, at every index. -/
theorem final (r : Fin 8192) (j : Fin 2048) : ((dats m 0 c).arrAt 2 cfg0.N : Vec Ideal S8192x2048 .bf16) (ix2 r j)
    = ∑ k, lhs m c (ix2 r k) * rhs m c (ix2 j k) := by
  have hb := blocks2 m c (ptOf r j) (flush0_2 _)
  rw [flushed2, out_eq] at hb
  refine Eq.trans ?_ ((congrFun hb (ix2 (inRow r) (inCol j))).trans ((pay_apply ..).trans (Finset.sum_congr rfl fun k _ => by rw [blk0, blk1])))
  rw [View.read_apply]
  exact (congrArg ((dats m 0 c).arrAt 2 cfg0.N) (ix2_ext (place ((idx _).2.2.1.trans (row_eq r j))) (place ((idx _).2.2.2.trans (col_eq r j))))).symm

/-- The reference, at every index. -/
theorem reference (x0 : Vec Ideal S8192x1024 .bf16) (x1 : Vec Ideal S2048x1024 .bf16) (r : Fin 8192) (j : Fin 2048) :
    Cert.SguOutDxRefIdeal.Read.val_main_v5 (F := Ideal) x0 x1 (ix2 r j) = ∑ k, x0 (ix2 r k) * x1 (ix2 j k) := by
  unfold Cert.SguOutDxRefIdeal.Read.val_main_v5 Cert.SguOutDxRefIdeal.Read.val_main_v4 Cert.SguOutDxRefIdeal.Read.val_main_v3 Cert.SguOutDxRefIdeal.Read.val_main_v0
  pointwise

/-- The reference leaves its arguments as they were, and it has no counters. -/
theorem reference_frame : Cert.quiescent_SguOutDxRefIdeal := fun m g _ =>
  (θ_run _ _ _).mono (fun r h => And.intro (fun c : Dev Cert.SguOutDxRefIdeal.nD => (h c).2) (sem_eq_zero_of_no_sems (by decide) r.2))
    (Cert.SguOutDxRefIdeal.Value.run (F := Ideal) m g)

/-- The two programs have the same results. -/
theorem agree : Cert.algebraic_SguOutDxIdeal_SguOutDxRefIdeal := by
  intro m g m' g' _ hargs
  refine ⟨fun c => (dats m 0 c).arrAt 2 cfg0.N, run_blocks m g, (θ_run _ _ _).mono (fun r h c => ⟨?_, (h c).2⟩) (Cert.SguOutDxRefIdeal.Value.run m' g')⟩
  obtain ⟨q0, q1⟩ := hargs c
  refine (h c).1.trans ((Cert.SguOutDxRefIdeal.Read.val_main_v5_eq _ _).trans ?_)
  rw [q0, q1]
  exact arr2_ext fun r j => (reference _ _ r j).trans (final m c r j).symm

end Cert.Products.SguOutDx

end
-- ==== Proof.Products.ConvInDx.lean ====
/-
The input gradient of the convolution mixer's input projection.
-/
module

public import proofs.«01_k».proof.Defs
public import proofs.«01_k».proof.Proof.Products.Blocks
public import proofs.«01_k».proof.Proof.Gen.ConvInDxIdeal.Value
public import proofs.«01_k».proof.Proof.Gen.ConvInDxRefIdeal.Run
public import proofs.«01_k».proof.Proof.Gen.ConvInDxRefIdeal.Read

@[expose] public section

set_option maxRecDepth 16384

noncomputable section

namespace Cert.Products.ConvInDx

open Cert.ConvInDxIdeal Cert.ConvInDxIdeal.Gen Cert.ConvInDxIdeal.Value Idealize.ShloMosaic Idealize.ShloMosaic.TcCoe Idealize.SL.Sem

/-- What the body makes of its blocks, at an index. -/
theorem pay_apply (x0 : Vec Ideal S1024x2048 .bf16) (x1 : Vec Ideal S2048x1024 .bf16) (i : Fin 1024) (j : Fin 1024) :
    k0_pay1 x0 x1 (ix2 i j) = ∑ k, x0 (ix2 i k) * x1 (ix2 k j) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) := by
  unfold outsAt0 out0_A_2
  rw [View.read_writes_eq_canon _ _ _ fun y => cover0_A_2 (y := y) ..]
  unfold kernelRun0_A
  dsimp only
  sl_unfold_words
  simp only [View.canon_unit_zero (S := S1024x1024) hz, View.ld_unit_zero (S := S1024x2048) hz, View.ld_unit_zero (S := S2048x1024) hz, View.readAt_eq_ld, (hs0_0 t).read_unread, (hs0_1 t).read_unread]

/-- Where the blocks lie. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0) :=
  (by decide +kernel : ∀ t : Fin grid0.N, _)

/-- The point that writes row `r`. -/
abbrev ptOf (r : Fin 8192) : Fin cfg0.N := ⟨r.val / 1024, (show r.val / 1024 < 8 by omega).trans_eq N_0.symm⟩
abbrev inRow (r : Fin 8192) : Fin 1024 := ⟨r.val % 1024, by omega⟩

/-- The arguments. -/
abbrev lhs : Vec Ideal S8192x2048 .bf16 := m ((c : Thread nD τ).loc main_arg0)
abbrev rhs : Vec Ideal S2048x1024 .bf16 := m ((c : Thread nD τ).loc main_arg1)

theorem blk0 (r : Fin 8192) (k : Fin 2048) : (iblk m c 0 (ptOf r) : Vec Ideal S1024x2048 .bf16) (ix2 (inRow r) k) = lhs m c (ix2 r k) :=
  (View.read_apply ..).trans ((congrFun (V_main_arg0 m c) _).trans (congrArg (lhs m c) (ix2_ext (place (idx _).1.1) (whole (idx _).1.2))))

theorem blk1 (r : Fin 8192) (j : Fin 1024) (k : Fin 2048) : (iblk m c 1 (ptOf r) : Vec Ideal S2048x1024 .bf16) (ix2 k j) = rhs m c (ix2 k j) :=
  (View.read_apply ..).trans ((congrFun (V_main_arg1 m c) _).trans (congrArg (rhs m c) (ix2_ext (whole (idx _).2.1.1) (whole (idx _).2.1.2))))

/-- The result, at every index. -/
theorem final (r : Fin 8192) (j : Fin 1024) : ((dats m 0 c).arrAt 2 cfg0.N : Vec Ideal S8192x1024 .bf16) (ix2 r j)
    = ∑ k, lhs m c (ix2 r k) * rhs m c (ix2 k j) := by
  have hb := blocks2 m c (ptOf r) (flush0_2 _)
  rw [flushed2, out_eq] at hb
  refine Eq.trans ?_ ((congrFun hb (ix2 (inRow r) j)).trans ((pay_apply ..).trans (Finset.sum_congr rfl fun k _ => by rw [blk0, blk1])))
  rw [View.read_apply]
  exact (congrArg ((dats m 0 c).arrAt 2 cfg0.N) (ix2_ext (place (idx _).2.2.1) (whole (idx _).2.2.2))).symm

/-- The reference, at every index. -/
theorem reference (x0 : Vec Ideal S8192x2048 .bf16) (x1 : Vec Ideal S2048x1024 .bf16) (r : Fin 8192) (j : Fin 1024) :
    Cert.ConvInDxRefIdeal.Read.val_main_v6 (F := Ideal) x0 x1 (ix2 r j) = ∑ k, x0 (ix2 r k) * x1 (ix2 k j) := by
  unfold Cert.ConvInDxRefIdeal.Read.val_main_v6 Cert.ConvInDxRefIdeal.Read.val_main_v5 Cert.ConvInDxRefIdeal.Read.val_main_v4 Cert.ConvInDxRefIdeal.Read.val_main_v2 Cert.ConvInDxRefIdeal.Read.val_main_v0
  pointwise

/-- The reference leaves its arguments as they were, and it has no counters. -/
theorem reference_frame : Cert.quiescent_ConvInDxRefIdeal := fun m g _ =>
  (θ_run _ _ _).mono (fun r h => And.intro (fun c : Dev Cert.ConvInDxRefIdeal.nD => (h c).2) (sem_eq_zero_of_no_sems (by decide) r.2))
    (Cert.ConvInDxRefIdeal.Value.run (F := Ideal) m g)

/-- The two programs have the same results. -/
theorem agree : Cert.algebraic_ConvInDxIdeal_ConvInDxRefIdeal := by
  intro m g m' g' _ hargs
  refine ⟨fun c => (dats m 0 c).arrAt 2 cfg0.N, run_blocks m g, (θ_run _ _ _).mono (fun r h c => ⟨?_, (h c).2⟩) (Cert.ConvInDxRefIdeal.Value.run m' g')⟩
  obtain ⟨q0, q1⟩ := hargs c
  refine (h c).1.trans ((Cert.ConvInDxRefIdeal.Read.val_main_v6_eq _ _).trans ?_)
  rw [q0, q1]
  exact arr2_ext fun r j => (reference _ _ r j).trans (final m c r j).symm

end Cert.Products.ConvInDx

end
-- ==== Proof.Products.MixOutDw.lean ====
/-
The weight gradient of the output projection of the attention and of the convolution mixer.
-/
module

public import proofs.«01_k».proof.Defs
public import proofs.«01_k».proof.Proof.Products.Blocks
public import proofs.«01_k».proof.Proof.Gen.MixOutDwIdeal.Value
public import proofs.«01_k».proof.Proof.Gen.MixOutDwRefIdeal.Run
public import proofs.«01_k».proof.Proof.Gen.MixOutDwRefIdeal.Read

@[expose] public section

set_option maxRecDepth 16384

noncomputable section

namespace Cert.Products.MixOutDw

open Cert.MixOutDwIdeal Cert.MixOutDwIdeal.Gen Cert.MixOutDwIdeal.Value Idealize.ShloMosaic Idealize.ShloMosaic.TcCoe Idealize.SL.Sem

/-- What the body makes of its blocks, at an index. -/
theorem pay_apply (x0 : Vec Ideal S8192x256 .bf16) (x1 : Vec Ideal S8192x1024 .bf16) (i : Fin 256) (j : Fin 1024) :
    k0_pay1 x0 x1 (ix2 i j) = ∑ k, x0 (ix2 k i) * x1 (ix2 k j) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) := by
  unfold outsAt0 out0_A_2
  rw [View.read_writes_eq_canon _ _ _ fun y => cover0_A_2 (y := y) ..]
  unfold kernelRun0_A
  dsimp only
  sl_unfold_words
  simp only [View.canon_unit_zero (S := S256x1024) hz, View.ld_unit_zero (S := S8192x256) hz, View.ld_unit_zero (S := S8192x1024) hz, View.readAt_eq_ld, (hs0_0 t).read_unread, (hs0_1 t).read_unread]

/-- Where the blocks lie. -/
theorem idx : ∀ t : Fin cfg0.N, (win0_0.index t 0 = 0 ∧ win0_0.index t 1 = t.val)
    ∧ (win0_1.index t 0 = 0 ∧ win0_1.index t 1 = 0)
    ∧ (win0_2.index t 0 = t.val ∧ win0_2.index t 1 = 0) :=
  (by decide +kernel : ∀ t : Fin grid0.N, _)

/-- The point that writes row `r`. -/
abbrev ptOf (r : Fin 1024) : Fin cfg0.N := ⟨r.val / 256, (show r.val / 256 < 4 by omega).trans_eq N_0.symm⟩
abbrev inRow (r : Fin 1024) : Fin 256 := ⟨r.val % 256, by omega⟩

/-- The arguments. -/
abbrev lhs : Vec Ideal S8192x1024 .bf16 := m ((c : Thread nD τ).loc main_arg0)
abbrev rhs : Vec Ideal S8192x1024 .bf16 := m ((c : Thread nD τ).loc main_arg1)

theorem blk0 (r : Fin 1024) (k : Fin 8192) : (iblk m c 0 (ptOf r) : Vec Ideal S8192x256 .bf16) (ix2 k (inRow r)) = lhs m c (ix2 k r) :=
  (View.read_apply ..).trans ((congrFun (V_main_arg0 m c) _).trans (congrArg (lhs m c) (ix2_ext (whole (idx _).1.1) (place (idx _).1.2))))

theorem blk1 (r : Fin 1024) (j : Fin 1024) (k : Fin 8192) : (iblk m c 1 (ptOf r) : Vec Ideal S8192x1024 .bf16) (ix2 k j) = rhs m c (ix2 k j) :=
  (View.read_apply ..).trans ((congrFun (V_main_arg1 m c) _).trans (congrArg (rhs m c) (ix2_ext (whole (idx _).2.1.1) (whole (idx _).2.1.2))))

/-- The result, at every index. -/
theorem final (r : Fin 1024) (j : Fin 1024) : ((dats m 0 c).arrAt 2 cfg0.N : Vec Ideal S1024x1024 .bf16) (ix2 r j)
    = ∑ k, lhs m c (ix2 k r) * rhs m c (ix2 k j) := by
  have hb := blocks2 m c (ptOf r) (flush0_2 _)
  rw [flushed2, out_eq] at hb
  refine Eq.trans ?_ ((congrFun hb (ix2 (inRow r) j)).trans ((pay_apply ..).trans (Finset.sum_congr rfl fun k _ => by rw [blk0, blk1])))
  rw [View.read_apply]
  exact (congrArg ((dats m 0 c).arrAt 2 cfg0.N) (ix2_ext (place (idx _).2.2.1) (whole (idx _).2.2.2))).symm

/-- The reference, at every index. -/
theorem reference (x0 : Vec Ideal S8192x1024 .bf16) (x1 : Vec Ideal S8192x1024 .bf16) (r : Fin 1024) (j : Fin 1024) :
    Cert.MixOutDwRefIdeal.Read.val_main_v6 (F := Ideal) x0 x1 (ix2 r j) = ∑ k, x0 (ix2 k r) * x1 (ix2 k j) := by
  unfold Cert.MixOutDwRefIdeal.Read.val_main_v6 Cert.MixOutDwRefIdeal.Read.val_main_v5 Cert.MixOutDwRefIdeal.Read.val_main_v4 Cert.MixOutDwRefIdeal.Read.val_main_v3 Cert.MixOutDwRefIdeal.Read.val_main_v0
  pointwise
  exact Finset.sum_congr rfl fun k _ => mul_comm _ _

/-- The reference leaves its arguments as they were, and it has no counters. -/
theorem reference_frame : Cert.quiescent_MixOutDwRefIdeal := fun m g _ =>
  (θ_run _ _ _).mono (fun r h => And.intro (fun c : Dev Cert.MixOutDwRefIdeal.nD => (h c).2) (sem_eq_zero_of_no_sems (by decide) r.2))
    (Cert.MixOutDwRefIdeal.Value.run (F := Ideal) m g)

/-- The two programs have the same results. -/
theorem agree : Cert.algebraic_MixOutDwIdeal_MixOutDwRefIdeal := by
  intro m g m' g' _ hargs
  refine ⟨fun c => (dats m 0 c).arrAt 2 cfg0.N, run_blocks m g, (θ_run _ _ _).mono (fun r h c => ⟨?_, (h c).2⟩) (Cert.MixOutDwRefIdeal.Value.run m' g')⟩
  obtain ⟨q0, q1⟩ := hargs c
  refine (h c).1.trans ((Cert.MixOutDwRefIdeal.Read.val_main_v6_eq _ _).trans ?_)
  rw [q0, q1]
  exact arr2_ext fun r j => (reference _ _ r j).trans (final m c r j).symm

end Cert.Products.MixOutDw

end
-- ==== Proof.Products.MixOutDx.lean ====
/-
The input gradient of the output projection of the attention and of the convolution mixer.
-/
module

public import proofs.«01_k».proof.Defs
public import proofs.«01_k».proof.Proof.Products.Blocks
public import proofs.«01_k».proof.Proof.Gen.MixOutDxIdeal.Value
public import proofs.«01_k».proof.Proof.Gen.MixOutDxRefIdeal.Run
public import proofs.«01_k».proof.Proof.Gen.MixOutDxRefIdeal.Read

@[expose] public section

set_option maxRecDepth 16384

noncomputable section

namespace Cert.Products.MixOutDx

open Cert.MixOutDxIdeal Cert.MixOutDxIdeal.Gen Cert.MixOutDxIdeal.Value Idealize.ShloMosaic Idealize.ShloMosaic.TcCoe Idealize.SL.Sem

/-- What the body makes of its blocks, at an index. -/
theorem pay_apply (x0 : Vec Ideal S2048x1024 .bf16) (x1 : Vec Ideal S1024x1024 .bf16) (i : Fin 2048) (j : Fin 1024) :
    k0_pay1 x0 x1 (ix2 i j) = ∑ k, x0 (ix2 i k) * x1 (ix2 j k) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) := by
  unfold outsAt0 out0_A_2
  rw [View.read_writes_eq_canon _ _ _ fun y => cover0_A_2 (y := y) ..]
  unfold kernelRun0_A
  dsimp only
  sl_unfold_words
  simp only [View.canon_unit_zero (S := S2048x1024) hz, View.ld_unit_zero (S := S2048x1024) hz, View.ld_unit_zero (S := S1024x1024) hz, View.readAt_eq_ld, (hs0_0 t).read_unread, (hs0_1 t).read_unread]

/-- Where the blocks lie. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0) :=
  (by decide +kernel : ∀ t : Fin grid0.N, _)

/-- The point that writes row `r`. -/
abbrev ptOf (r : Fin 8192) : Fin cfg0.N := ⟨r.val / 2048, (show r.val / 2048 < 4 by omega).trans_eq N_0.symm⟩
abbrev inRow (r : Fin 8192) : Fin 2048 := ⟨r.val % 2048, by omega⟩

/-- The arguments. -/
abbrev lhs : Vec Ideal S8192x1024 .bf16 := m ((c : Thread nD τ).loc main_arg0)
abbrev rhs : Vec Ideal S1024x1024 .bf16 := m ((c : Thread nD τ).loc main_arg1)

theorem blk0 (r : Fin 8192) (k : Fin 1024) : (iblk m c 0 (ptOf r) : Vec Ideal S2048x1024 .bf16) (ix2 (inRow r) k) = lhs m c (ix2 r k) :=
  (View.read_apply ..).trans ((congrFun (V_main_arg0 m c) _).trans (congrArg (lhs m c) (ix2_ext (place (idx _).1.1) (whole (idx _).1.2))))

theorem blk1 (r : Fin 8192) (j : Fin 1024) (k : Fin 1024) : (iblk m c 1 (ptOf r) : Vec Ideal S1024x1024 .bf16) (ix2 j k) = rhs m c (ix2 j k) :=
  (View.read_apply ..).trans ((congrFun (V_main_arg1 m c) _).trans (congrArg (rhs m c) (ix2_ext (whole (idx _).2.1.1) (whole (idx _).2.1.2))))

/-- The result, at every index. -/
theorem final (r : Fin 8192) (j : Fin 1024) : ((dats m 0 c).arrAt 2 cfg0.N : Vec Ideal S8192x1024 .bf16) (ix2 r j)
    = ∑ k, lhs m c (ix2 r k) * rhs m c (ix2 j k) := by
  have hb := blocks2 m c (ptOf r) (flush0_2 _)
  rw [flushed2, out_eq] at hb
  refine Eq.trans ?_ ((congrFun hb (ix2 (inRow r) j)).trans ((pay_apply ..).trans (Finset.sum_congr rfl fun k _ => by rw [blk0, blk1])))
  rw [View.read_apply]
  exact (congrArg ((dats m 0 c).arrAt 2 cfg0.N) (ix2_ext (place (idx _).2.2.1) (whole (idx _).2.2.2))).symm

/-- The reference, at every index. -/
theorem reference (x0 : Vec Ideal S8192x1024 .bf16) (x1 : Vec Ideal S1024x1024 .bf16) (r : Fin 8192) (j : Fin 1024) :
    Cert.MixOutDxRefIdeal.Read.val_main_v5 (F := Ideal) x0 x1 (ix2 r j) = ∑ k, x0 (ix2 r k) * x1 (ix2 j k) := by
  unfold Cert.MixOutDxRefIdeal.Read.val_main_v5 Cert.MixOutDxRefIdeal.Read.val_main_v4 Cert.MixOutDxRefIdeal.Read.val_main_v3 Cert.MixOutDxRefIdeal.Read.val_main_v0
  pointwise

/-- The reference leaves its arguments as they were, and it has no counters. -/
theorem reference_frame : Cert.quiescent_MixOutDxRefIdeal := fun m g _ =>
  (θ_run _ _ _).mono (fun r h => And.intro (fun c : Dev Cert.MixOutDxRefIdeal.nD => (h c).2) (sem_eq_zero_of_no_sems (by decide) r.2))
    (Cert.MixOutDxRefIdeal.Value.run (F := Ideal) m g)

/-- The two programs have the same results. -/
theorem agree : Cert.algebraic_MixOutDxIdeal_MixOutDxRefIdeal := by
  intro m g m' g' _ hargs
  refine ⟨fun c => (dats m 0 c).arrAt 2 cfg0.N, run_blocks m g, (θ_run _ _ _).mono (fun r h c => ⟨?_, (h c).2⟩) (Cert.MixOutDxRefIdeal.Value.run m' g')⟩
  obtain ⟨q0, q1⟩ := hargs c
  refine (h c).1.trans ((Cert.MixOutDxRefIdeal.Read.val_main_v5_eq _ _).trans ?_)
  rw [q0, q1]
  exact arr2_ext fun r j => (reference _ _ r j).trans (final m c r j).symm

end Cert.Products.MixOutDx

end
-- ==== Proof.Products.QkvDw.lean ====
/-
The weight gradient of the attention's input projection.
-/
module

public import proofs.«01_k».proof.Defs
public import proofs.«01_k».proof.Proof.Products.Blocks
public import proofs.«01_k».proof.Proof.Gen.QkvDwIdeal.Value
public import proofs.«01_k».proof.Proof.Gen.QkvDwRefIdeal.Run
public import proofs.«01_k».proof.Proof.Gen.QkvDwRefIdeal.Read

@[expose] public section

set_option maxRecDepth 16384

noncomputable section

namespace Cert.Products.QkvDw

open Cert.QkvDwIdeal Cert.QkvDwIdeal.Gen Cert.QkvDwIdeal.Value Idealize.ShloMosaic Idealize.ShloMosaic.TcCoe Idealize.SL.Sem

/-- What the body makes of its blocks, at an index. -/
theorem pay_apply (x0 : Vec Ideal S8192x256 .bf16) (x1 : Vec Ideal S8192x1024 .bf16) (i : Fin 256) (j : Fin 1024) :
    k0_pay1 x0 x1 (ix2 i j) = ∑ k, x0 (ix2 k i) * x1 (ix2 k j) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) := by
  unfold outsAt0 out0_A_2
  rw [View.read_writes_eq_canon _ _ _ fun y => cover0_A_2 (y := y) ..]
  unfold kernelRun0_A
  dsimp only
  sl_unfold_words
  simp only [View.canon_unit_zero (S := S256x1024) hz, View.ld_unit_zero (S := S8192x256) hz, View.ld_unit_zero (S := S8192x1024) hz, View.readAt_eq_ld, (hs0_0 t).read_unread, (hs0_1 t).read_unread]

/-- Where the blocks lie. -/
theorem idx : ∀ t : Fin cfg0.N, (win0_0.index t 0 = 0 ∧ win0_0.index t 1 = t.val)
    ∧ (win0_1.index t 0 = 0 ∧ win0_1.index t 1 = 0)
    ∧ (win0_2.index t 0 = t.val ∧ win0_2.index t 1 = 0) :=
  (by decide +kernel : ∀ t : Fin grid0.N, _)

/-- The point that writes row `r`. -/
abbrev ptOf (r : Fin 1536) : Fin cfg0.N := ⟨r.val / 256, (show r.val / 256 < 6 by omega).trans_eq N_0.symm⟩
abbrev inRow (r : Fin 1536) : Fin 256 := ⟨r.val % 256, by omega⟩

/-- The arguments. -/
abbrev lhs : Vec Ideal S8192x1536 .bf16 := m ((c : Thread nD τ).loc main_arg0)
abbrev rhs : Vec Ideal S8192x1024 .bf16 := m ((c : Thread nD τ).loc main_arg1)

theorem blk0 (r : Fin 1536) (k : Fin 8192) : (iblk m c 0 (ptOf r) : Vec Ideal S8192x256 .bf16) (ix2 k (inRow r)) = lhs m c (ix2 k r) :=
  (View.read_apply ..).trans ((congrFun (V_main_arg0 m c) _).trans (congrArg (lhs m c) (ix2_ext (whole (idx _).1.1) (place (idx _).1.2))))

theorem blk1 (r : Fin 1536) (j : Fin 1024) (k : Fin 8192) : (iblk m c 1 (ptOf r) : Vec Ideal S8192x1024 .bf16) (ix2 k j) = rhs m c (ix2 k j) :=
  (View.read_apply ..).trans ((congrFun (V_main_arg1 m c) _).trans (congrArg (rhs m c) (ix2_ext (whole (idx _).2.1.1) (whole (idx _).2.1.2))))

/-- The result, at every index. -/
theorem final (r : Fin 1536) (j : Fin 1024) : ((dats m 0 c).arrAt 2 cfg0.N : Vec Ideal S1536x1024 .bf16) (ix2 r j)
    = ∑ k, lhs m c (ix2 k r) * rhs m c (ix2 k j) := by
  have hb := blocks2 m c (ptOf r) (flush0_2 _)
  rw [flushed2, out_eq] at hb
  refine Eq.trans ?_ ((congrFun hb (ix2 (inRow r) j)).trans ((pay_apply ..).trans (Finset.sum_congr rfl fun k _ => by rw [blk0, blk1])))
  rw [View.read_apply]
  exact (congrArg ((dats m 0 c).arrAt 2 cfg0.N) (ix2_ext (place (idx _).2.2.1) (whole (idx _).2.2.2))).symm

/-- The reference, at every index. -/
theorem reference (x0 : Vec Ideal S8192x1536 .bf16) (x1 : Vec Ideal S8192x1024 .bf16) (r : Fin 1536) (j : Fin 1024) :
    Cert.QkvDwRefIdeal.Read.val_main_v8 (F := Ideal) x0 x1 (ix2 r j) = ∑ k, x0 (ix2 k r) * x1 (ix2 k j) := by
  unfold Cert.QkvDwRefIdeal.Read.val_main_v8 Cert.QkvDwRefIdeal.Read.val_main_v7 Cert.QkvDwRefIdeal.Read.val_main_v6 Cert.QkvDwRefIdeal.Read.val_main_v5 Cert.QkvDwRefIdeal.Read.val_main_v4 Cert.QkvDwRefIdeal.Read.val_main_v0
  pointwise

/-- The reference leaves its arguments as they were, and it has no counters. -/
theorem reference_frame : Cert.quiescent_QkvDwRefIdeal := fun m g _ =>
  (θ_run _ _ _).mono (fun r h => And.intro (fun c : Dev Cert.QkvDwRefIdeal.nD => (h c).2) (sem_eq_zero_of_no_sems (by decide) r.2))
    (Cert.QkvDwRefIdeal.Value.run (F := Ideal) m g)

/-- The two programs have the same results. -/
theorem agree : Cert.algebraic_QkvDwIdeal_QkvDwRefIdeal := by
  intro m g m' g' _ hargs
  refine ⟨fun c => (dats m 0 c).arrAt 2 cfg0.N, run_blocks m g, (θ_run _ _ _).mono (fun r h c => ⟨?_, (h c).2⟩) (Cert.QkvDwRefIdeal.Value.run m' g')⟩
  obtain ⟨q0, q1⟩ := hargs c
  refine (h c).1.trans ((Cert.QkvDwRefIdeal.Read.val_main_v8_eq _ _).trans ?_)
  rw [q0, q1]
  exact arr2_ext fun r j => (reference _ _ r j).trans (final m c r j).symm

end Cert.Products.QkvDw

end
-- ==== Proof.Products.QkvDx.lean ====
/-
The input gradient of the attention's input projection.
-/
module

public import proofs.«01_k».proof.Defs
public import proofs.«01_k».proof.Proof.Products.Blocks
public import proofs.«01_k».proof.Proof.Gen.QkvDxIdeal.Value
public import proofs.«01_k».proof.Proof.Gen.QkvDxRefIdeal.Run
public import proofs.«01_k».proof.Proof.Gen.QkvDxRefIdeal.Read

@[expose] public section

set_option maxRecDepth 16384

noncomputable section

namespace Cert.Products.QkvDx

open Cert.QkvDxIdeal Cert.QkvDxIdeal.Gen Cert.QkvDxIdeal.Value Idealize.ShloMosaic Idealize.ShloMosaic.TcCoe Idealize.SL.Sem

/-- What the body makes of its blocks, at an index. -/
theorem pay_apply (x0 : Vec Ideal S1024x1536 .bf16) (x1 : Vec Ideal S1536x1024 .bf16) (i : Fin 1024) (j : Fin 1024) :
    k0_pay1 x0 x1 (ix2 i j) = ∑ k, x0 (ix2 i k) * x1 (ix2 k j) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) := by
  unfold outsAt0 out0_A_2
  rw [View.read_writes_eq_canon _ _ _ fun y => cover0_A_2 (y := y) ..]
  unfold kernelRun0_A
  dsimp only
  sl_unfold_words
  simp only [View.canon_unit_zero (S := S1024x1024) hz, View.ld_unit_zero (S := S1024x1536) hz, View.ld_unit_zero (S := S1536x1024) hz, View.readAt_eq_ld, (hs0_0 t).read_unread, (hs0_1 t).read_unread]

/-- Where the blocks lie. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0) :=
  (by decide +kernel : ∀ t : Fin grid0.N, _)

/-- The point that writes row `r`. -/
abbrev ptOf (r : Fin 8192) : Fin cfg0.N := ⟨r.val / 1024, (show r.val / 1024 < 8 by omega).trans_eq N_0.symm⟩
abbrev inRow (r : Fin 8192) : Fin 1024 := ⟨r.val % 1024, by omega⟩

/-- The arguments. -/
abbrev lhs : Vec Ideal S8192x1536 .bf16 := m ((c : Thread nD τ).loc main_arg0)
abbrev rhs : Vec Ideal S1536x1024 .bf16 := m ((c : Thread nD τ).loc main_arg1)

theorem blk0 (r : Fin 8192) (k : Fin 1536) : (iblk m c 0 (ptOf r) : Vec Ideal S1024x1536 .bf16) (ix2 (inRow r) k) = lhs m c (ix2 r k) :=
  (View.read_apply ..).trans ((congrFun (V_main_arg0 m c) _).trans (congrArg (lhs m c) (ix2_ext (place (idx _).1.1) (whole (idx _).1.2))))

theorem blk1 (r : Fin 8192) (j : Fin 1024) (k : Fin 1536) : (iblk m c 1 (ptOf r) : Vec Ideal S1536x1024 .bf16) (ix2 k j) = rhs m c (ix2 k j) :=
  (View.read_apply ..).trans ((congrFun (V_main_arg1 m c) _).trans (congrArg (rhs m c) (ix2_ext (whole (idx _).2.1.1) (whole (idx _).2.1.2))))

/-- The result, at every index. -/
theorem final (r : Fin 8192) (j : Fin 1024) : ((dats m 0 c).arrAt 2 cfg0.N : Vec Ideal S8192x1024 .bf16) (ix2 r j)
    = ∑ k, lhs m c (ix2 r k) * rhs m c (ix2 k j) := by
  have hb := blocks2 m c (ptOf r) (flush0_2 _)
  rw [flushed2, out_eq] at hb
  refine Eq.trans ?_ ((congrFun hb (ix2 (inRow r) j)).trans ((pay_apply ..).trans (Finset.sum_congr rfl fun k _ => by rw [blk0, blk1])))
  rw [View.read_apply]
  exact (congrArg ((dats m 0 c).arrAt 2 cfg0.N) (ix2_ext (place (idx _).2.2.1) (whole (idx _).2.2.2))).symm

/-- The reference, at every index. -/
theorem reference (x0 : Vec Ideal S8192x1536 .bf16) (x1 : Vec Ideal S1536x1024 .bf16) (r : Fin 8192) (j : Fin 1024) :
    Cert.QkvDxRefIdeal.Read.val_main_v6 (F := Ideal) x0 x1 (ix2 r j) = ∑ k, x0 (ix2 r k) * x1 (ix2 k j) := by
  unfold Cert.QkvDxRefIdeal.Read.val_main_v6 Cert.QkvDxRefIdeal.Read.val_main_v5 Cert.QkvDxRefIdeal.Read.val_main_v4 Cert.QkvDxRefIdeal.Read.val_main_v2 Cert.QkvDxRefIdeal.Read.val_main_v0
  pointwise

/-- The reference leaves its arguments as they were, and it has no counters. -/
theorem reference_frame : Cert.quiescent_QkvDxRefIdeal := fun m g _ =>
  (θ_run _ _ _).mono (fun r h => And.intro (fun c : Dev Cert.QkvDxRefIdeal.nD => (h c).2) (sem_eq_zero_of_no_sems (by decide) r.2))
    (Cert.QkvDxRefIdeal.Value.run (F := Ideal) m g)

/-- The two programs have the same results. -/
theorem agree : Cert.algebraic_QkvDxIdeal_QkvDxRefIdeal := by
  intro m g m' g' _ hargs
  refine ⟨fun c => (dats m 0 c).arrAt 2 cfg0.N, run_blocks m g, (θ_run _ _ _).mono (fun r h c => ⟨?_, (h c).2⟩) (Cert.QkvDxRefIdeal.Value.run m' g')⟩
  obtain ⟨q0, q1⟩ := hargs c
  refine (h c).1.trans ((Cert.QkvDxRefIdeal.Read.val_main_v6_eq _ _).trans ?_)
  rw [q0, q1]
  exact arr2_ext fun r j => (reference _ _ r j).trans (final m c r j).symm

end Cert.Products.QkvDx

end
-- ==== Proof.Products.SguIn.lean ====
/-
The input projection of the gating unit.
-/
module

public import proofs.«01_k».proof.Defs
public import proofs.«01_k».proof.Proof.Products.Blocks
public import proofs.«01_k».proof.Proof.Gen.SguInIdeal.Value
public import proofs.«01_k».proof.Proof.Gen.SguInRefIdeal.Run
public import proofs.«01_k».proof.Proof.Gen.SguInRefIdeal.Read

@[expose] public section

set_option maxRecDepth 16384

noncomputable section

namespace Cert.Products.SguIn

open Cert.SguInIdeal Cert.SguInIdeal.Gen Cert.SguInIdeal.Value Idealize.ShloMosaic Idealize.ShloMosaic.TcCoe Idealize.SL.Sem

/-- What the body makes of its blocks, at an index. -/
theorem pay_apply (x0 : Vec Ideal S2048x1024 .bf16) (x1 : Vec Ideal S1024x1024 .bf16) (x2 : Vec Ideal S1x1024 .f32) (i : Fin 2048) (j : Fin 1024) :
    k0_pay1 x0 x1 x2 (ix2 i j) = (∑ k, x0 (ix2 i k) * x1 (ix2 j k)) + x2 (ix2 0 j) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) (iblk m c 2 t) := by
  unfold outsAt0 out0_A_3
  rw [View.read_writes_eq_canon _ _ _ fun y => cover0_A_3 (y := y) ..]
  unfold kernelRun0_A
  dsimp only
  sl_unfold_words
  simp only [View.canon_unit_zero (S := S2048x1024) hz, View.ld_unit_zero (S := S2048x1024) hz, View.ld_unit_zero (S := S1024x1024) hz, View.ld_unit_zero (S := S1x1024) hz, View.readAt_eq_ld, (hs0_0 t).read_unread, (hs0_1 t).read_unread, (hs0_2 t).read_unread]

/-- Where the blocks lie. -/
theorem idx : ∀ t : Fin cfg0.N, (win0_0.index t 0 = t.val / 4 ∧ win0_0.index t 1 = 0)
    ∧ (win0_1.index t 0 = t.val % 4 ∧ win0_1.index t 1 = 0)
    ∧ (win0_2.index t 0 = 0 ∧ win0_2.index t 1 = t.val % 4)
    ∧ (win0_3.index t 0 = t.val / 4 ∧ win0_3.index t 1 = t.val % 4) :=
  (by decide +kernel : ∀ t : Fin grid0.N, _)

/-- The point that writes row `r`, column `j`. -/
abbrev ptOf (r : Fin 8192) (j : Fin 4096) : Fin cfg0.N := ⟨r.val / 2048 * 4 + j.val / 1024, (show r.val / 2048 * 4 + j.val / 1024 < 16 by omega).trans_eq N_0.symm⟩
abbrev inRow (r : Fin 8192) : Fin 2048 := ⟨r.val % 2048, by omega⟩
abbrev inCol (j : Fin 4096) : Fin 1024 := ⟨j.val % 1024, by omega⟩

theorem row_eq (r : Fin 8192) (j : Fin 4096) : (ptOf r j).val / 4 = r.val / 2048 := by show (r.val / 2048 * 4 + j.val / 1024) / 4 = _; omega
theorem col_eq (r : Fin 8192) (j : Fin 4096) : (ptOf r j).val % 4 = j.val / 1024 := by show (r.val / 2048 * 4 + j.val / 1024) % 4 = _; omega

/-- The arguments. -/
abbrev lhs : Vec Ideal S8192x1024 .bf16 := m ((c : Thread nD τ).loc main_arg0)
abbrev rhs : Vec Ideal S4096x1024 .bf16 := m ((c : Thread nD τ).loc main_arg1)
abbrev off : Vec Ideal S4096 .f32 := m ((c : Thread nD τ).loc main_arg2)

theorem blk0 (r : Fin 8192) (j : Fin 4096) (k : Fin 1024) : (iblk m c 0 (ptOf r j) : Vec Ideal S2048x1024 .bf16) (ix2 (inRow r) k) = lhs m c (ix2 r k) :=
  (View.read_apply ..).trans ((congrFun (V_main_arg0 m c) _).trans (congrArg (lhs m c) (ix2_ext (place ((idx _).1.1.trans (row_eq r j))) (whole (idx _).1.2))))

theorem blk1 (r : Fin 8192) (j : Fin 4096) (k : Fin 1024) : (iblk m c 1 (ptOf r j) : Vec Ideal S1024x1024 .bf16) (ix2 (inCol j) k) = rhs m c (ix2 j k) :=
  (View.read_apply ..).trans ((congrFun (V_main_arg1 m c) _).trans (congrArg (rhs m c) (ix2_ext (place ((idx _).2.1.1.trans (col_eq r j))) (whole (idx _).2.1.2))))

/-- The call receives the bias laid in one row. -/
theorem bias_row (j : Fin 4096) : (Gen.V m c main_v0 : Vec Ideal S1x4096 .f32) (ix2 0 j) = off m c (ix1 j) := by
  show (shapeCast S1x4096 (off m c) shapeCasts_S4096_S1x4096) (ix2 0 j) = _
  exact ValueIdx.shapeCast_a_1a_apply ..

theorem blk2 (r : Fin 8192) (j : Fin 4096) : (iblk m c 2 (ptOf r j) : Vec Ideal S1x1024 .f32) (ix2 0 (inCol j)) = off m c (ix1 j) :=
  (View.read_apply ..).trans ((congrArg (Gen.V m c main_v0) (ix2_ext (s := j) (whole (idx _).2.2.1.1) (place ((idx _).2.2.1.2.trans (col_eq r j))))).trans (bias_row m c j))

/-- The result, at every index. -/
theorem final (r : Fin 8192) (j : Fin 4096) : ((dats m 0 c).arrAt 3 cfg0.N : Vec Ideal S8192x4096 .bf16) (ix2 r j)
    = (∑ k, lhs m c (ix2 r k) * rhs m c (ix2 j k)) + off m c (ix1 j) := by
  have hb := blocks3 m c (ptOf r j) (flush0_3 _)
  rw [flushed3, out_eq] at hb
  refine Eq.trans ?_ ((congrFun hb (ix2 (inRow r) (inCol j))).trans ((pay_apply ..).trans (congrArg₂ (· + ·) (Finset.sum_congr rfl fun k _ => by rw [blk0, blk1]) (blk2 m c r j))))
  rw [View.read_apply]
  exact (congrArg ((dats m 0 c).arrAt 3 cfg0.N) (ix2_ext (place ((idx _).2.2.2.1.trans (row_eq r j))) (place ((idx _).2.2.2.2.trans (col_eq r j))))).symm

/-- The reference, at every index. -/
theorem reference (x0 : Vec Ideal S8192x1024 .bf16) (x1 : Vec Ideal S4096x1024 .bf16) (x2 : Vec Ideal S4096 .f32) (r : Fin 8192) (j : Fin 4096) :
    Cert.SguInRefIdeal.Read.val_main_v7 (F := Ideal) x0 x1 x2 (ix2 r j) = (∑ k, x0 (ix2 r k) * x1 (ix2 j k)) + x2 (ix1 j) := by
  unfold Cert.SguInRefIdeal.Read.val_main_v7 Cert.SguInRefIdeal.Read.val_main_v6 Cert.SguInRefIdeal.Read.val_main_v5 Cert.SguInRefIdeal.Read.val_main_v4 Cert.SguInRefIdeal.Read.val_main_v3 Cert.SguInRefIdeal.Read.val_main_v2 Cert.SguInRefIdeal.Read.val_main_v1 Cert.SguInRefIdeal.Read.val_main_v0
  pointwise

/-- The reference leaves its arguments as they were, and it has no counters. -/
theorem reference_frame : Cert.quiescent_SguInRefIdeal := fun m g _ =>
  (θ_run _ _ _).mono (fun r h => And.intro (fun c : Dev Cert.SguInRefIdeal.nD => (h c).2) (sem_eq_zero_of_no_sems (by decide) r.2))
    (Cert.SguInRefIdeal.Value.run (F := Ideal) m g)

/-- The two programs have the same results. -/
theorem agree : Cert.algebraic_SguInIdeal_SguInRefIdeal := by
  intro m g m' g' _ hargs
  refine ⟨fun c => (dats m 0 c).arrAt 3 cfg0.N, run_blocks m g, (θ_run _ _ _).mono (fun r h c => ⟨?_, (h c).2⟩) (Cert.SguInRefIdeal.Value.run m' g')⟩
  obtain ⟨q0, q1, q2⟩ := hargs c
  refine (h c).1.trans ((Cert.SguInRefIdeal.Read.val_main_v7_eq _ _ _).trans ?_)
  rw [q0, q1, q2]
  exact arr2_ext fun r j => (reference _ _ _ r j).trans (final m c r j).symm

end Cert.Products.SguIn

end
-- ==== Proof.Products.ConvIn.lean ====
/-
The input projection of the convolution mixer.
-/
module

public import proofs.«01_k».proof.Defs
public import proofs.«01_k».proof.Proof.Products.Blocks
public import proofs.«01_k».proof.Proof.Gen.ConvInIdeal.Value
public import proofs.«01_k».proof.Proof.Gen.ConvInRefIdeal.Run
public import proofs.«01_k».proof.Proof.Gen.ConvInRefIdeal.Read

@[expose] public section

set_option maxRecDepth 16384

noncomputable section

namespace Cert.Products.ConvIn

open Cert.ConvInIdeal Cert.ConvInIdeal.Gen Cert.ConvInIdeal.Value Idealize.ShloMosaic Idealize.ShloMosaic.TcCoe Idealize.SL.Sem

/-- What the body makes of its blocks, at an index. -/
theorem pay_apply (x0 : Vec Ideal S2048x1024 .bf16) (x1 : Vec Ideal S1024x1024 .bf16) (x2 : Vec Ideal S1x1024 .f32) (i : Fin 2048) (j : Fin 1024) :
    k0_pay1 x0 x1 x2 (ix2 i j) = (∑ k, x0 (ix2 i k) * x1 (ix2 j k)) + x2 (ix2 0 j) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) (iblk m c 2 t) := by
  unfold outsAt0 out0_A_3
  rw [View.read_writes_eq_canon _ _ _ fun y => cover0_A_3 (y := y) ..]
  unfold kernelRun0_A
  dsimp only
  sl_unfold_words
  simp only [View.canon_unit_zero (S := S2048x1024) hz, View.ld_unit_zero (S := S2048x1024) hz, View.ld_unit_zero (S := S1024x1024) hz, View.ld_unit_zero (S := S1x1024) hz, View.readAt_eq_ld, (hs0_0 t).read_unread, (hs0_1 t).read_unread, (hs0_2 t).read_unread]

/-- Where the blocks lie. -/
theorem idx : ∀ t : Fin cfg0.N, (win0_0.index t 0 = t.val / 2 ∧ win0_0.index t 1 = 0)
    ∧ (win0_1.index t 0 = t.val % 2 ∧ win0_1.index t 1 = 0)
    ∧ (win0_2.index t 0 = 0 ∧ win0_2.index t 1 = t.val % 2)
    ∧ (win0_3.index t 0 = t.val / 2 ∧ win0_3.index t 1 = t.val % 2) :=
  (by decide +kernel : ∀ t : Fin grid0.N, _)

/-- The point that writes row `r`, column `j`. -/
abbrev ptOf (r : Fin 8192) (j : Fin 2048) : Fin cfg0.N := ⟨r.val / 2048 * 2 + j.val / 1024, (show r.val / 2048 * 2 + j.val / 1024 < 8 by omega).trans_eq N_0.symm⟩
abbrev inRow (r : Fin 8192) : Fin 2048 := ⟨r.val % 2048, by omega⟩
abbrev inCol (j : Fin 2048) : Fin 1024 := ⟨j.val % 1024, by omega⟩

theorem row_eq (r : Fin 8192) (j : Fin 2048) : (ptOf r j).val / 2 = r.val / 2048 := by show (r.val / 2048 * 2 + j.val / 1024) / 2 = _; omega
theorem col_eq (r : Fin 8192) (j : Fin 2048) : (ptOf r j).val % 2 = j.val / 1024 := by show (r.val / 2048 * 2 + j.val / 1024) % 2 = _; omega

/-- The arguments. -/
abbrev lhs : Vec Ideal S8192x1024 .bf16 := m ((c : Thread nD τ).loc main_arg0)
abbrev rhs : Vec Ideal S2048x1024 .bf16 := m ((c : Thread nD τ).loc main_arg1)
abbrev off : Vec Ideal S2048 .f32 := m ((c : Thread nD τ).loc main_arg2)

theorem blk0 (r : Fin 8192) (j : Fin 2048) (k : Fin 1024) : (iblk m c 0 (ptOf r j) : Vec Ideal S2048x1024 .bf16) (ix2 (inRow r) k) = lhs m c (ix2 r k) :=
  (View.read_apply ..).trans ((congrFun (V_main_arg0 m c) _).trans (congrArg (lhs m c) (ix2_ext (place ((idx _).1.1.trans (row_eq r j))) (whole (idx _).1.2))))

theorem blk1 (r : Fin 8192) (j : Fin 2048) (k : Fin 1024) : (iblk m c 1 (ptOf r j) : Vec Ideal S1024x1024 .bf16) (ix2 (inCol j) k) = rhs m c (ix2 j k) :=
  (View.read_apply ..).trans ((congrFun (V_main_arg1 m c) _).trans (congrArg (rhs m c) (ix2_ext (place ((idx _).2.1.1.trans (col_eq r j))) (whole (idx _).2.1.2))))

/-- The call receives the bias laid in one row. -/
theorem bias_row (j : Fin 2048) : (Gen.V m c main_v0 : Vec Ideal S1x2048 .f32) (ix2 0 j) = off m c (ix1 j) := by
  show (shapeCast S1x2048 (off m c) shapeCasts_S2048_S1x2048) (ix2 0 j) = _
  exact ValueIdx.shapeCast_a_1a_apply ..

theorem blk2 (r : Fin 8192) (j : Fin 2048) : (iblk m c 2 (ptOf r j) : Vec Ideal S1x1024 .f32) (ix2 0 (inCol j)) = off m c (ix1 j) :=
  (View.read_apply ..).trans ((congrArg (Gen.V m c main_v0) (ix2_ext (s := j) (whole (idx _).2.2.1.1) (place ((idx _).2.2.1.2.trans (col_eq r j))))).trans (bias_row m c j))

/-- The result, at every index. -/
theorem final (r : Fin 8192) (j : Fin 2048) : ((dats m 0 c).arrAt 3 cfg0.N : Vec Ideal S8192x2048 .bf16) (ix2 r j)
    = (∑ k, lhs m c (ix2 r k) * rhs m c (ix2 j k)) + off m c (ix1 j) := by
  have hb := blocks3 m c (ptOf r j) (flush0_3 _)
  rw [flushed3, out_eq] at hb
  refine Eq.trans ?_ ((congrFun hb (ix2 (inRow r) (inCol j))).trans ((pay_apply ..).trans (congrArg₂ (· + ·) (Finset.sum_congr rfl fun k _ => by rw [blk0, blk1]) (blk2 m c r j))))
  rw [View.read_apply]
  exact (congrArg ((dats m 0 c).arrAt 3 cfg0.N) (ix2_ext (place ((idx _).2.2.2.1.trans (row_eq r j))) (place ((idx _).2.2.2.2.trans (col_eq r j))))).symm

/-- The reference, at every index. -/
theorem reference (x0 : Vec Ideal S8192x1024 .bf16) (x1 : Vec Ideal S2048x1024 .bf16) (x2 : Vec Ideal S2048 .f32) (r : Fin 8192) (j : Fin 2048) :
    Cert.ConvInRefIdeal.Read.val_main_v7 (F := Ideal) x0 x1 x2 (ix2 r j) = (∑ k, x0 (ix2 r k) * x1 (ix2 j k)) + x2 (ix1 j) := by
  unfold Cert.ConvInRefIdeal.Read.val_main_v7 Cert.ConvInRefIdeal.Read.val_main_v6 Cert.ConvInRefIdeal.Read.val_main_v5 Cert.ConvInRefIdeal.Read.val_main_v4 Cert.ConvInRefIdeal.Read.val_main_v3 Cert.ConvInRefIdeal.Read.val_main_v2 Cert.ConvInRefIdeal.Read.val_main_v1 Cert.ConvInRefIdeal.Read.val_main_v0
  pointwise

/-- The reference leaves its arguments as they were, and it has no counters. -/
theorem reference_frame : Cert.quiescent_ConvInRefIdeal := fun m g _ =>
  (θ_run _ _ _).mono (fun r h => And.intro (fun c : Dev Cert.ConvInRefIdeal.nD => (h c).2) (sem_eq_zero_of_no_sems (by decide) r.2))
    (Cert.ConvInRefIdeal.Value.run (F := Ideal) m g)

/-- The two programs have the same results. -/
theorem agree : Cert.algebraic_ConvInIdeal_ConvInRefIdeal := by
  intro m g m' g' _ hargs
  refine ⟨fun c => (dats m 0 c).arrAt 3 cfg0.N, run_blocks m g, (θ_run _ _ _).mono (fun r h c => ⟨?_, (h c).2⟩) (Cert.ConvInRefIdeal.Value.run m' g')⟩
  obtain ⟨q0, q1, q2⟩ := hargs c
  refine (h c).1.trans ((Cert.ConvInRefIdeal.Read.val_main_v7_eq _ _ _).trans ?_)
  rw [q0, q1, q2]
  exact arr2_ext fun r j => (reference _ _ _ r j).trans (final m c r j).symm

end Cert.Products.ConvIn

end
-- ==== Proof.Products.QkvIn.lean ====
/-
The input projection of the attention.
-/
module

public import proofs.«01_k».proof.Defs
public import proofs.«01_k».proof.Proof.Products.Blocks
public import proofs.«01_k».proof.Proof.Gen.QkvInIdeal.Value
public import proofs.«01_k».proof.Proof.Gen.QkvInRefIdeal.Run
public import proofs.«01_k».proof.Proof.Gen.QkvInRefIdeal.Read

@[expose] public section

set_option maxRecDepth 16384

noncomputable section

namespace Cert.Products.QkvIn

open Cert.QkvInIdeal Cert.QkvInIdeal.Gen Cert.QkvInIdeal.Value Idealize.ShloMosaic Idealize.ShloMosaic.TcCoe Idealize.SL.Sem

/-- What the body makes of its blocks, at an index. -/
theorem pay_apply (x0 : Vec Ideal S2048x1024 .bf16) (x1 : Vec Ideal S768x1024 .bf16) (x2 : Vec Ideal S1x768 .f32) (i : Fin 2048) (j : Fin 768) :
    k0_pay1 x0 x1 x2 (ix2 i j) = (∑ k, x0 (ix2 i k) * x1 (ix2 j k)) + x2 (ix2 0 j) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) (iblk m c 2 t) := by
  unfold outsAt0 out0_A_3
  rw [View.read_writes_eq_canon _ _ _ fun y => cover0_A_3 (y := y) ..]
  unfold kernelRun0_A
  dsimp only
  sl_unfold_words
  simp only [View.canon_unit_zero (S := S2048x768) hz, View.ld_unit_zero (S := S2048x1024) hz, View.ld_unit_zero (S := S768x1024) hz, View.ld_unit_zero (S := S1x768) hz, View.readAt_eq_ld, (hs0_0 t).read_unread, (hs0_1 t).read_unread, (hs0_2 t).read_unread]

/-- Where the blocks lie. -/
theorem idx : ∀ t : Fin cfg0.N, (win0_0.index t 0 = t.val / 2 ∧ win0_0.index t 1 = 0)
    ∧ (win0_1.index t 0 = t.val % 2 ∧ win0_1.index t 1 = 0)
    ∧ (win0_2.index t 0 = 0 ∧ win0_2.index t 1 = t.val % 2)
    ∧ (win0_3.index t 0 = t.val / 2 ∧ win0_3.index t 1 = t.val % 2) :=
  (by decide +kernel : ∀ t : Fin grid0.N, _)

/-- The point that writes row `r`, column `j`. -/
abbrev ptOf (r : Fin 8192) (j : Fin 1536) : Fin cfg0.N := ⟨r.val / 2048 * 2 + j.val / 768, (show r.val / 2048 * 2 + j.val / 768 < 8 by omega).trans_eq N_0.symm⟩
abbrev inRow (r : Fin 8192) : Fin 2048 := ⟨r.val % 2048, by omega⟩
abbrev inCol (j : Fin 1536) : Fin 768 := ⟨j.val % 768, by omega⟩

theorem row_eq (r : Fin 8192) (j : Fin 1536) : (ptOf r j).val / 2 = r.val / 2048 := by show (r.val / 2048 * 2 + j.val / 768) / 2 = _; omega
theorem col_eq (r : Fin 8192) (j : Fin 1536) : (ptOf r j).val % 2 = j.val / 768 := by show (r.val / 2048 * 2 + j.val / 768) % 2 = _; omega

/-- The arguments. -/
abbrev lhs : Vec Ideal S8192x1024 .bf16 := m ((c : Thread nD τ).loc main_arg0)
abbrev rhs : Vec Ideal S1536x1024 .bf16 := m ((c : Thread nD τ).loc main_arg1)
abbrev off : Vec Ideal S1536 .f32 := m ((c : Thread nD τ).loc main_arg2)

theorem blk0 (r : Fin 8192) (j : Fin 1536) (k : Fin 1024) : (iblk m c 0 (ptOf r j) : Vec Ideal S2048x1024 .bf16) (ix2 (inRow r) k) = lhs m c (ix2 r k) :=
  (View.read_apply ..).trans ((congrFun (V_main_arg0 m c) _).trans (congrArg (lhs m c) (ix2_ext (place ((idx _).1.1.trans (row_eq r j))) (whole (idx _).1.2))))

theorem blk1 (r : Fin 8192) (j : Fin 1536) (k : Fin 1024) : (iblk m c 1 (ptOf r j) : Vec Ideal S768x1024 .bf16) (ix2 (inCol j) k) = rhs m c (ix2 j k) :=
  (View.read_apply ..).trans ((congrFun (V_main_arg1 m c) _).trans (congrArg (rhs m c) (ix2_ext (place ((idx _).2.1.1.trans (col_eq r j))) (whole (idx _).2.1.2))))

/-- The call receives the bias laid in one row. -/
theorem bias_row (j : Fin 1536) : (Gen.V m c main_v0 : Vec Ideal S1x1536 .f32) (ix2 0 j) = off m c (ix1 j) := by
  show (shapeCast S1x1536 (off m c) shapeCasts_S1536_S1x1536) (ix2 0 j) = _
  exact ValueIdx.shapeCast_a_1a_apply ..

theorem blk2 (r : Fin 8192) (j : Fin 1536) : (iblk m c 2 (ptOf r j) : Vec Ideal S1x768 .f32) (ix2 0 (inCol j)) = off m c (ix1 j) :=
  (View.read_apply ..).trans ((congrArg (Gen.V m c main_v0) (ix2_ext (s := j) (whole (idx _).2.2.1.1) (place ((idx _).2.2.1.2.trans (col_eq r j))))).trans (bias_row m c j))

/-- The result, at every index. -/
theorem final (r : Fin 8192) (j : Fin 1536) : ((dats m 0 c).arrAt 3 cfg0.N : Vec Ideal S8192x1536 .bf16) (ix2 r j)
    = (∑ k, lhs m c (ix2 r k) * rhs m c (ix2 j k)) + off m c (ix1 j) := by
  have hb := blocks3 m c (ptOf r j) (flush0_3 _)
  rw [flushed3, out_eq] at hb
  refine Eq.trans ?_ ((congrFun hb (ix2 (inRow r) (inCol j))).trans ((pay_apply ..).trans (congrArg₂ (· + ·) (Finset.sum_congr rfl fun k _ => by rw [blk0, blk1]) (blk2 m c r j))))
  rw [View.read_apply]
  exact (congrArg ((dats m 0 c).arrAt 3 cfg0.N) (ix2_ext (place ((idx _).2.2.2.1.trans (row_eq r j))) (place ((idx _).2.2.2.2.trans (col_eq r j))))).symm

/-- The reference, at every index. -/
theorem reference (x0 : Vec Ideal S8192x1024 .bf16) (x1 : Vec Ideal S1536x1024 .bf16) (x2 : Vec Ideal S1536 .f32) (r : Fin 8192) (j : Fin 1536) :
    Cert.QkvInRefIdeal.Read.val_main_v7 (F := Ideal) x0 x1 x2 (ix2 r j) = (∑ k, x0 (ix2 r k) * x1 (ix2 j k)) + x2 (ix1 j) := by
  unfold Cert.QkvInRefIdeal.Read.val_main_v7 Cert.QkvInRefIdeal.Read.val_main_v6 Cert.QkvInRefIdeal.Read.val_main_v5 Cert.QkvInRefIdeal.Read.val_main_v4 Cert.QkvInRefIdeal.Read.val_main_v3 Cert.QkvInRefIdeal.Read.val_main_v2 Cert.QkvInRefIdeal.Read.val_main_v1 Cert.QkvInRefIdeal.Read.val_main_v0
  pointwise

/-- The reference leaves its arguments as they were, and it has no counters. -/
theorem reference_frame : Cert.quiescent_QkvInRefIdeal := fun m g _ =>
  (θ_run _ _ _).mono (fun r h => And.intro (fun c : Dev Cert.QkvInRefIdeal.nD => (h c).2) (sem_eq_zero_of_no_sems (by decide) r.2))
    (Cert.QkvInRefIdeal.Value.run (F := Ideal) m g)

/-- The two programs have the same results. -/
theorem agree : Cert.algebraic_QkvInIdeal_QkvInRefIdeal := by
  intro m g m' g' _ hargs
  refine ⟨fun c => (dats m 0 c).arrAt 3 cfg0.N, run_blocks m g, (θ_run _ _ _).mono (fun r h c => ⟨?_, (h c).2⟩) (Cert.QkvInRefIdeal.Value.run m' g')⟩
  obtain ⟨q0, q1, q2⟩ := hargs c
  refine (h c).1.trans ((Cert.QkvInRefIdeal.Read.val_main_v7_eq _ _ _).trans ?_)
  rw [q0, q1, q2]
  exact arr2_ext fun r j => (reference _ _ _ r j).trans (final m c r j).symm

end Cert.Products.QkvIn

end
-- ==== Proof.Products.SguOut.lean ====
/-
The output projection of the gating unit.
-/
module

public import proofs.«01_k».proof.Defs
public import proofs.«01_k».proof.Proof.Products.Blocks
public import proofs.«01_k».proof.Proof.Gen.SguOutIdeal.Value
public import proofs.«01_k».proof.Proof.Gen.SguOutRefIdeal.Run
public import proofs.«01_k».proof.Proof.Gen.SguOutRefIdeal.Read

@[expose] public section

set_option maxRecDepth 16384

noncomputable section

namespace Cert.Products.SguOut

open Cert.SguOutIdeal Cert.SguOutIdeal.Gen Cert.SguOutIdeal.Value Idealize.ShloMosaic Idealize.ShloMosaic.TcCoe Idealize.SL.Sem

/-- What the body makes of its blocks, at an index. -/
theorem pay_apply (x0 : Vec Ideal S1024x2048 .bf16) (x1 : Vec Ideal S2048x1024 .bf16) (x2 : Vec Ideal S1x1024 .f32) (i : Fin 1024) (j : Fin 1024) :
    k0_pay1 x0 x1 x2 (ix2 i j) = (∑ k, x0 (ix2 i k) * x1 (ix2 k j)) + x2 (ix2 0 j) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) (iblk m c 2 t) := by
  unfold outsAt0 out0_A_3
  rw [View.read_writes_eq_canon _ _ _ fun y => cover0_A_3 (y := y) ..]
  unfold kernelRun0_A
  dsimp only
  sl_unfold_words
  simp only [View.canon_unit_zero (S := S1024x1024) hz, View.ld_unit_zero (S := S1024x2048) hz, View.ld_unit_zero (S := S2048x1024) hz, View.ld_unit_zero (S := S1x1024) hz, View.readAt_eq_ld, (hs0_0 t).read_unread, (hs0_1 t).read_unread, (hs0_2 t).read_unread]

/-- Where the blocks lie. -/
theorem idx : ∀ t : Fin cfg0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = t.val ∧ win0_3.index t 1 = 0) :=
  (by decide +kernel : ∀ t : Fin grid0.N, _)

/-- The point that writes row `r`. -/
abbrev ptOf (r : Fin 8192) : Fin cfg0.N := ⟨r.val / 1024, (show r.val / 1024 < 8 by omega).trans_eq N_0.symm⟩
abbrev inRow (r : Fin 8192) : Fin 1024 := ⟨r.val % 1024, by omega⟩

/-- The arguments. -/
abbrev lhs : Vec Ideal S8192x2048 .bf16 := m ((c : Thread nD τ).loc main_arg0)
abbrev rhs : Vec Ideal S2048x1024 .bf16 := m ((c : Thread nD τ).loc main_arg1)
abbrev off : Vec Ideal S1024 .f32 := m ((c : Thread nD τ).loc main_arg2)

theorem blk0 (r : Fin 8192) (k : Fin 2048) : (iblk m c 0 (ptOf r) : Vec Ideal S1024x2048 .bf16) (ix2 (inRow r) k) = lhs m c (ix2 r k) :=
  (View.read_apply ..).trans ((congrFun (V_main_arg0 m c) _).trans (congrArg (lhs m c) (ix2_ext (place (idx _).1.1) (whole (idx _).1.2))))

theorem blk1 (r : Fin 8192) (j : Fin 1024) (k : Fin 2048) : (iblk m c 1 (ptOf r) : Vec Ideal S2048x1024 .bf16) (ix2 k j) = rhs m c (ix2 k j) :=
  (View.read_apply ..).trans ((congrFun (V_main_arg1 m c) _).trans (congrArg (rhs m c) (ix2_ext (whole (idx _).2.1.1) (whole (idx _).2.1.2))))

/-- The call receives the bias laid in one row. -/
theorem bias_row (j : Fin 1024) : (Gen.V m c main_v0 : Vec Ideal S1x1024 .f32) (ix2 0 j) = off m c (ix1 j) := by
  show (shapeCast S1x1024 (off m c) shapeCasts_S1024_S1x1024) (ix2 0 j) = _
  exact ValueIdx.shapeCast_a_1a_apply ..

theorem blk2 (r : Fin 8192) (j : Fin 1024) : (iblk m c 2 (ptOf r) : Vec Ideal S1x1024 .f32) (ix2 0 j) = off m c (ix1 j) :=
  (View.read_apply ..).trans ((congrArg (Gen.V m c main_v0) (ix2_ext (s := j) (whole (idx _).2.2.1.1) (whole (idx _).2.2.1.2))).trans (bias_row m c j))

/-- The result, at every index. -/
theorem final (r : Fin 8192) (j : Fin 1024) : ((dats m 0 c).arrAt 3 cfg0.N : Vec Ideal S8192x1024 .bf16) (ix2 r j)
    = (∑ k, lhs m c (ix2 r k) * rhs m c (ix2 k j)) + off m c (ix1 j) := by
  have hb := blocks3 m c (ptOf r) (flush0_3 _)
  rw [flushed3, out_eq] at hb
  refine Eq.trans ?_ ((congrFun hb (ix2 (inRow r) j)).trans ((pay_apply ..).trans (congrArg₂ (· + ·) (Finset.sum_congr rfl fun k _ => by rw [blk0, blk1]) (blk2 m c r j))))
  rw [View.read_apply]
  exact (congrArg ((dats m 0 c).arrAt 3 cfg0.N) (ix2_ext (place (idx _).2.2.2.1) (whole (idx _).2.2.2.2))).symm

/-- The reference, at every index. -/
theorem reference (x0 : Vec Ideal S8192x2048 .bf16) (x1 : Vec Ideal S2048x1024 .bf16) (x2 : Vec Ideal S1024 .f32) (r : Fin 8192) (j : Fin 1024) :
    Cert.SguOutRefIdeal.Read.val_main_v6 (F := Ideal) x0 x1 x2 (ix2 r j) = (∑ k, x0 (ix2 r k) * x1 (ix2 k j)) + x2 (ix1 j) := by
  unfold Cert.SguOutRefIdeal.Read.val_main_v6 Cert.SguOutRefIdeal.Read.val_main_v5 Cert.SguOutRefIdeal.Read.val_main_v4 Cert.SguOutRefIdeal.Read.val_main_v3 Cert.SguOutRefIdeal.Read.val_main_v2 Cert.SguOutRefIdeal.Read.val_main_v1 Cert.SguOutRefIdeal.Read.val_main_v0
  pointwise

/-- The reference leaves its arguments as they were, and it has no counters. -/
theorem reference_frame : Cert.quiescent_SguOutRefIdeal := fun m g _ =>
  (θ_run _ _ _).mono (fun r h => And.intro (fun c : Dev Cert.SguOutRefIdeal.nD => (h c).2) (sem_eq_zero_of_no_sems (by decide) r.2))
    (Cert.SguOutRefIdeal.Value.run (F := Ideal) m g)

/-- The two programs have the same results. -/
theorem agree : Cert.algebraic_SguOutIdeal_SguOutRefIdeal := by
  intro m g m' g' _ hargs
  refine ⟨fun c => (dats m 0 c).arrAt 3 cfg0.N, run_blocks m g, (θ_run _ _ _).mono (fun r h c => ⟨?_, (h c).2⟩) (Cert.SguOutRefIdeal.Value.run m' g')⟩
  obtain ⟨q0, q1, q2⟩ := hargs c
  refine (h c).1.trans ((Cert.SguOutRefIdeal.Read.val_main_v6_eq _ _ _).trans ?_)
  rw [q0, q1, q2]
  exact arr2_ext fun r j => (reference _ _ _ r j).trans (final m c r j).symm

end Cert.Products.SguOut

end
-- ==== Proof.Products.MixOut.lean ====
/-
The output projection of the attention and of the convolution mixer.
-/
module

public import proofs.«01_k».proof.Defs
public import proofs.«01_k».proof.Proof.Products.Blocks
public import proofs.«01_k».proof.Proof.Gen.MixOutIdeal.Value
public import proofs.«01_k».proof.Proof.Gen.MixOutRefIdeal.Run
public import proofs.«01_k».proof.Proof.Gen.MixOutRefIdeal.Read

@[expose] public section

set_option maxRecDepth 16384

noncomputable section

namespace Cert.Products.MixOut

open Cert.MixOutIdeal Cert.MixOutIdeal.Gen Cert.MixOutIdeal.Value Idealize.ShloMosaic Idealize.ShloMosaic.TcCoe Idealize.SL.Sem

/-- What the body makes of its blocks, at an index. -/
theorem pay_apply (x0 : Vec Ideal S1024x1024 .bf16) (x1 : Vec Ideal S1024x1024 .bf16) (x2 : Vec Ideal S1x1024 .f32) (i : Fin 1024) (j : Fin 1024) :
    k0_pay1 x0 x1 x2 (ix2 i j) = (∑ k, x0 (ix2 i k) * x1 (ix2 k j)) + x2 (ix2 0 j) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) (iblk m c 2 t) := by
  unfold outsAt0 out0_A_3
  rw [View.read_writes_eq_canon _ _ _ fun y => cover0_A_3 (y := y) ..]
  unfold kernelRun0_A
  dsimp only
  sl_unfold_words
  simp only [View.canon_unit_zero (S := S1024x1024) hz, View.ld_unit_zero (S := S1024x1024) hz, View.ld_unit_zero (S := S1x1024) hz, View.readAt_eq_ld, (hs0_0 t).read_unread, (hs0_1 t).read_unread, (hs0_2 t).read_unread]

/-- Where the blocks lie. -/
theorem idx : ∀ t : Fin cfg0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = t.val ∧ win0_3.index t 1 = 0) :=
  (by decide +kernel : ∀ t : Fin grid0.N, _)

/-- The point that writes row `r`. -/
abbrev ptOf (r : Fin 8192) : Fin cfg0.N := ⟨r.val / 1024, (show r.val / 1024 < 8 by omega).trans_eq N_0.symm⟩
abbrev inRow (r : Fin 8192) : Fin 1024 := ⟨r.val % 1024, by omega⟩

/-- The arguments. -/
abbrev lhs : Vec Ideal S8192x1024 .bf16 := m ((c : Thread nD τ).loc main_arg0)
abbrev rhs : Vec Ideal S1024x1024 .bf16 := m ((c : Thread nD τ).loc main_arg1)
abbrev off : Vec Ideal S1024 .f32 := m ((c : Thread nD τ).loc main_arg2)

theorem blk0 (r : Fin 8192) (k : Fin 1024) : (iblk m c 0 (ptOf r) : Vec Ideal S1024x1024 .bf16) (ix2 (inRow r) k) = lhs m c (ix2 r k) :=
  (View.read_apply ..).trans ((congrFun (V_main_arg0 m c) _).trans (congrArg (lhs m c) (ix2_ext (place (idx _).1.1) (whole (idx _).1.2))))

theorem blk1 (r : Fin 8192) (j : Fin 1024) (k : Fin 1024) : (iblk m c 1 (ptOf r) : Vec Ideal S1024x1024 .bf16) (ix2 k j) = rhs m c (ix2 k j) :=
  (View.read_apply ..).trans ((congrFun (V_main_arg1 m c) _).trans (congrArg (rhs m c) (ix2_ext (whole (idx _).2.1.1) (whole (idx _).2.1.2))))

/-- The call receives the bias laid in one row. -/
theorem bias_row (j : Fin 1024) : (Gen.V m c main_v0 : Vec Ideal S1x1024 .f32) (ix2 0 j) = off m c (ix1 j) := by
  show (shapeCast S1x1024 (off m c) shapeCasts_S1024_S1x1024) (ix2 0 j) = _
  exact ValueIdx.shapeCast_a_1a_apply ..

theorem blk2 (r : Fin 8192) (j : Fin 1024) : (iblk m c 2 (ptOf r) : Vec Ideal S1x1024 .f32) (ix2 0 j) = off m c (ix1 j) :=
  (View.read_apply ..).trans ((congrArg (Gen.V m c main_v0) (ix2_ext (s := j) (whole (idx _).2.2.1.1) (whole (idx _).2.2.1.2))).trans (bias_row m c j))

/-- The result, at every index. -/
theorem final (r : Fin 8192) (j : Fin 1024) : ((dats m 0 c).arrAt 3 cfg0.N : Vec Ideal S8192x1024 .bf16) (ix2 r j)
    = (∑ k, lhs m c (ix2 r k) * rhs m c (ix2 k j)) + off m c (ix1 j) := by
  have hb := blocks3 m c (ptOf r) (flush0_3 _)
  rw [flushed3, out_eq] at hb
  refine Eq.trans ?_ ((congrFun hb (ix2 (inRow r) j)).trans ((pay_apply ..).trans (congrArg₂ (· + ·) (Finset.sum_congr rfl fun k _ => by rw [blk0, blk1]) (blk2 m c r j))))
  rw [View.read_apply]
  exact (congrArg ((dats m 0 c).arrAt 3 cfg0.N) (ix2_ext (place (idx _).2.2.2.1) (whole (idx _).2.2.2.2))).symm

/-- The reference, at every index. -/
theorem reference (x0 : Vec Ideal S8192x1024 .bf16) (x1 : Vec Ideal S1024x1024 .bf16) (x2 : Vec Ideal S1024 .f32) (r : Fin 8192) (j : Fin 1024) :
    Cert.MixOutRefIdeal.Read.val_main_v6 (F := Ideal) x0 x1 x2 (ix2 r j) = (∑ k, x0 (ix2 r k) * x1 (ix2 k j)) + x2 (ix1 j) := by
  unfold Cert.MixOutRefIdeal.Read.val_main_v6 Cert.MixOutRefIdeal.Read.val_main_v5 Cert.MixOutRefIdeal.Read.val_main_v4 Cert.MixOutRefIdeal.Read.val_main_v3 Cert.MixOutRefIdeal.Read.val_main_v2 Cert.MixOutRefIdeal.Read.val_main_v1 Cert.MixOutRefIdeal.Read.val_main_v0
  pointwise

/-- The reference leaves its arguments as they were, and it has no counters. -/
theorem reference_frame : Cert.quiescent_MixOutRefIdeal := fun m g _ =>
  (θ_run _ _ _).mono (fun r h => And.intro (fun c : Dev Cert.MixOutRefIdeal.nD => (h c).2) (sem_eq_zero_of_no_sems (by decide) r.2))
    (Cert.MixOutRefIdeal.Value.run (F := Ideal) m g)

/-- The two programs have the same results. -/
theorem agree : Cert.algebraic_MixOutIdeal_MixOutRefIdeal := by
  intro m g m' g' _ hargs
  refine ⟨fun c => (dats m 0 c).arrAt 3 cfg0.N, run_blocks m g, (θ_run _ _ _).mono (fun r h c => ⟨?_, (h c).2⟩) (Cert.MixOutRefIdeal.Value.run m' g')⟩
  obtain ⟨q0, q1, q2⟩ := hargs c
  refine (h c).1.trans ((Cert.MixOutRefIdeal.Read.val_main_v6_eq _ _ _).trans ?_)
  rw [q0, q1, q2]
  exact arr2_ext fun r j => (reference _ _ _ r j).trans (final m c r j).symm

end Cert.Products.MixOut

end
-- ==== Proof.Products.FfnIn.lean ====
/-
The input projection of the feed-forward block.
-/
module

public import proofs.«01_k».proof.Defs
public import proofs.«01_k».proof.Proof.Products.Blocks
public import proofs.«01_k».proof.Proof.Gen.FfnInIdeal.Value
public import proofs.«01_k».proof.Proof.Gen.FfnInRefIdeal.Run
public import proofs.«01_k».proof.Proof.Gen.FfnInRefIdeal.Read

@[expose] public section

set_option maxRecDepth 16384

noncomputable section

namespace Cert.Products.FfnIn

open Cert.FfnInIdeal Cert.FfnInIdeal.Gen Cert.FfnInIdeal.Value Idealize.ShloMosaic Idealize.ShloMosaic.TcCoe Idealize.SL.Sem

/-- What the body makes of its blocks, at an index. -/
theorem pay_apply (x0 : Vec Ideal S2048x1024 .bf16) (x1 : Vec Ideal S1408x1024 .bf16) (i : Fin 2048) (j : Fin 1408) :
    k0_pay1 x0 x1 (ix2 i j) = ∑ k, x0 (ix2 i k) * x1 (ix2 j k) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) := by
  unfold outsAt0 out0_A_2
  rw [View.read_writes_eq_canon _ _ _ fun y => cover0_A_2 (y := y) ..]
  unfold kernelRun0_A
  dsimp only
  sl_unfold_words
  simp only [View.canon_unit_zero (S := S2048x1408) hz, View.ld_unit_zero (S := S2048x1024) hz, View.ld_unit_zero (S := S1408x1024) hz, View.readAt_eq_ld, (hs0_0 t).read_unread, (hs0_1 t).read_unread]

/-- Where the blocks lie. -/
theorem idx : ∀ t : Fin cfg0.N, (win0_0.index t 0 = t.val / 4 ∧ win0_0.index t 1 = 0)
    ∧ (win0_1.index t 0 = t.val % 4 ∧ win0_1.index t 1 = 0)
    ∧ (win0_2.index t 0 = t.val / 4 ∧ win0_2.index t 1 = t.val % 4) :=
  (by decide +kernel : ∀ t : Fin grid0.N, _)

/-- The point that writes row `r`, column `j`. -/
abbrev ptOf (r : Fin 8192) (j : Fin 5632) : Fin cfg0.N := ⟨r.val / 2048 * 4 + j.val / 1408, (show r.val / 2048 * 4 + j.val / 1408 < 16 by omega).trans_eq N_0.symm⟩
abbrev inRow (r : Fin 8192) : Fin 2048 := ⟨r.val % 2048, by omega⟩
abbrev inCol (j : Fin 5632) : Fin 1408 := ⟨j.val % 1408, by omega⟩

theorem row_eq (r : Fin 8192) (j : Fin 5632) : (ptOf r j).val / 4 = r.val / 2048 := by show (r.val / 2048 * 4 + j.val / 1408) / 4 = _; omega
theorem col_eq (r : Fin 8192) (j : Fin 5632) : (ptOf r j).val % 4 = j.val / 1408 := by show (r.val / 2048 * 4 + j.val / 1408) % 4 = _; omega

/-- The arguments. -/
abbrev lhs : Vec Ideal S8192x1024 .bf16 := m ((c : Thread nD τ).loc main_arg0)
abbrev rhs : Vec Ideal S5632x1024 .bf16 := m ((c : Thread nD τ).loc main_arg1)

theorem blk0 (r : Fin 8192) (j : Fin 5632) (k : Fin 1024) : (iblk m c 0 (ptOf r j) : Vec Ideal S2048x1024 .bf16) (ix2 (inRow r) k) = lhs m c (ix2 r k) :=
  (View.read_apply ..).trans ((congrFun (V_main_arg0 m c) _).trans (congrArg (lhs m c) (ix2_ext (place ((idx _).1.1.trans (row_eq r j))) (whole (idx _).1.2))))

theorem blk1 (r : Fin 8192) (j : Fin 5632) (k : Fin 1024) : (iblk m c 1 (ptOf r j) : Vec Ideal S1408x1024 .bf16) (ix2 (inCol j) k) = rhs m c (ix2 j k) :=
  (View.read_apply ..).trans ((congrFun (V_main_arg1 m c) _).trans (congrArg (rhs m c) (ix2_ext (place ((idx _).2.1.1.trans (col_eq r j))) (whole (idx _).2.1.2))))

/-- The result, at every index. -/
theorem final (r : Fin 8192) (j : Fin 5632) : ((dats m 0 c).arrAt 2 cfg0.N : Vec Ideal S8192x5632 .bf16) (ix2 r j)
    = ∑ k, lhs m c (ix2 r k) * rhs m c (ix2 j k) := by
  have hb := blocks2 m c (ptOf r j) (flush0_2 _)
  rw [flushed2, out_eq] at hb
  refine Eq.trans ?_ ((congrFun hb (ix2 (inRow r) (inCol j))).trans ((pay_apply ..).trans (Finset.sum_congr rfl fun k _ => by rw [blk0, blk1])))
  rw [View.read_apply]
  exact (congrArg ((dats m 0 c).arrAt 2 cfg0.N) (ix2_ext (place ((idx _).2.2.1.trans (row_eq r j))) (place ((idx _).2.2.2.trans (col_eq r j))))).symm

/-- The reference, at every index. -/
theorem reference (x0 : Vec Ideal S8192x1024 .bf16) (x1 : Vec Ideal S5632x1024 .bf16) (r : Fin 8192) (j : Fin 5632) :
    Cert.FfnInRefIdeal.Read.val_main_v4 (F := Ideal) x0 x1 (ix2 r j) = ∑ k, x0 (ix2 r k) * x1 (ix2 j k) := by
  unfold Cert.FfnInRefIdeal.Read.val_main_v4 Cert.FfnInRefIdeal.Read.val_main_v3 Cert.FfnInRefIdeal.Read.val_main_v2 Cert.FfnInRefIdeal.Read.val_main_v1 Cert.FfnInRefIdeal.Read.val_main_v0
  pointwise

/-- The reference leaves its arguments as they were, and it has no counters. -/
theorem reference_frame : Cert.quiescent_FfnInRefIdeal := fun m g _ =>
  (θ_run _ _ _).mono (fun r h => And.intro (fun c : Dev Cert.FfnInRefIdeal.nD => (h c).2) (sem_eq_zero_of_no_sems (by decide) r.2))
    (Cert.FfnInRefIdeal.Value.run (F := Ideal) m g)

/-- The two programs have the same results. -/
theorem agree : Cert.algebraic_FfnInIdeal_FfnInRefIdeal := by
  intro m g m' g' _ hargs
  refine ⟨fun c => (dats m 0 c).arrAt 2 cfg0.N, run_blocks m g, (θ_run _ _ _).mono (fun r h c => ⟨?_, (h c).2⟩) (Cert.FfnInRefIdeal.Value.run m' g')⟩
  obtain ⟨q0, q1⟩ := hargs c
  refine (h c).1.trans ((Cert.FfnInRefIdeal.Read.val_main_v4_eq _ _).trans ?_)
  rw [q0, q1]
  exact arr2_ext fun r j => (reference _ _ r j).trans (final m c r j).symm

end Cert.Products.FfnIn

end
-- ==== Proof.Products.FfnOut.lean ====
/-
The output projection of the feed-forward block.
-/
module

public import proofs.«01_k».proof.Defs
public import proofs.«01_k».proof.Proof.Products.Blocks
public import proofs.«01_k».proof.Proof.Gen.FfnOutIdeal.Value
public import proofs.«01_k».proof.Proof.Gen.FfnOutRefIdeal.Run
public import proofs.«01_k».proof.Proof.Gen.FfnOutRefIdeal.Read

@[expose] public section

set_option maxRecDepth 16384

noncomputable section

namespace Cert.Products.FfnOut

open Cert.FfnOutIdeal Cert.FfnOutIdeal.Gen Cert.FfnOutIdeal.Value Idealize.ShloMosaic Idealize.ShloMosaic.TcCoe Idealize.SL.Sem

/-- What the body makes of its blocks, at an index. -/
theorem pay_apply (x0 : Vec Ideal S1024x2816 .bf16) (x1 : Vec Ideal S2816x1024 .bf16) (i : Fin 1024) (j : Fin 1024) :
    k0_pay1 x0 x1 (ix2 i j) = ∑ k, x0 (ix2 i k) * x1 (ix2 k j) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) := by
  unfold outsAt0 out0_A_2
  rw [View.read_writes_eq_canon _ _ _ fun y => cover0_A_2 (y := y) ..]
  unfold kernelRun0_A
  dsimp only
  sl_unfold_words
  simp only [View.canon_unit_zero (S := S1024x1024) hz, View.ld_unit_zero (S := S1024x2816) hz, View.ld_unit_zero (S := S2816x1024) hz, View.readAt_eq_ld, (hs0_0 t).read_unread, (hs0_1 t).read_unread]

/-- Where the blocks lie. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0) :=
  (by decide +kernel : ∀ t : Fin grid0.N, _)

/-- The point that writes row `r`. -/
abbrev ptOf (r : Fin 8192) : Fin cfg0.N := ⟨r.val / 1024, (show r.val / 1024 < 8 by omega).trans_eq N_0.symm⟩
abbrev inRow (r : Fin 8192) : Fin 1024 := ⟨r.val % 1024, by omega⟩

/-- The arguments. -/
abbrev lhs : Vec Ideal S8192x2816 .bf16 := m ((c : Thread nD τ).loc main_arg0)
abbrev rhs : Vec Ideal S2816x1024 .bf16 := m ((c : Thread nD τ).loc main_arg1)

theorem blk0 (r : Fin 8192) (k : Fin 2816) : (iblk m c 0 (ptOf r) : Vec Ideal S1024x2816 .bf16) (ix2 (inRow r) k) = lhs m c (ix2 r k) :=
  (View.read_apply ..).trans ((congrFun (V_main_arg0 m c) _).trans (congrArg (lhs m c) (ix2_ext (place (idx _).1.1) (whole (idx _).1.2))))

theorem blk1 (r : Fin 8192) (j : Fin 1024) (k : Fin 2816) : (iblk m c 1 (ptOf r) : Vec Ideal S2816x1024 .bf16) (ix2 k j) = rhs m c (ix2 k j) :=
  (View.read_apply ..).trans ((congrFun (V_main_arg1 m c) _).trans (congrArg (rhs m c) (ix2_ext (whole (idx _).2.1.1) (whole (idx _).2.1.2))))

/-- The result, at every index. -/
theorem final (r : Fin 8192) (j : Fin 1024) : ((dats m 0 c).arrAt 2 cfg0.N : Vec Ideal S8192x1024 .bf16) (ix2 r j)
    = ∑ k, lhs m c (ix2 r k) * rhs m c (ix2 k j) := by
  have hb := blocks2 m c (ptOf r) (flush0_2 _)
  rw [flushed2, out_eq] at hb
  refine Eq.trans ?_ ((congrFun hb (ix2 (inRow r) j)).trans ((pay_apply ..).trans (Finset.sum_congr rfl fun k _ => by rw [blk0, blk1])))
  rw [View.read_apply]
  exact (congrArg ((dats m 0 c).arrAt 2 cfg0.N) (ix2_ext (place (idx _).2.2.1) (whole (idx _).2.2.2))).symm

/-- The reference, at every index. -/
theorem reference (x0 : Vec Ideal S8192x2816 .bf16) (x1 : Vec Ideal S2816x1024 .bf16) (r : Fin 8192) (j : Fin 1024) :
    Cert.FfnOutRefIdeal.Read.val_main_v3 (F := Ideal) x0 x1 (ix2 r j) = ∑ k, x0 (ix2 r k) * x1 (ix2 k j) := by
  unfold Cert.FfnOutRefIdeal.Read.val_main_v3 Cert.FfnOutRefIdeal.Read.val_main_v2 Cert.FfnOutRefIdeal.Read.val_main_v1 Cert.FfnOutRefIdeal.Read.val_main_v0
  pointwise

/-- The reference leaves its arguments as they were, and it has no counters. -/
theorem reference_frame : Cert.quiescent_FfnOutRefIdeal := fun m g _ =>
  (θ_run _ _ _).mono (fun r h => And.intro (fun c : Dev Cert.FfnOutRefIdeal.nD => (h c).2) (sem_eq_zero_of_no_sems (by decide) r.2))
    (Cert.FfnOutRefIdeal.Value.run (F := Ideal) m g)

/-- The two programs have the same results. -/
theorem agree : Cert.algebraic_FfnOutIdeal_FfnOutRefIdeal := by
  intro m g m' g' _ hargs
  refine ⟨fun c => (dats m 0 c).arrAt 2 cfg0.N, run_blocks m g, (θ_run _ _ _).mono (fun r h c => ⟨?_, (h c).2⟩) (Cert.FfnOutRefIdeal.Value.run m' g')⟩
  obtain ⟨q0, q1⟩ := hargs c
  refine (h c).1.trans ((Cert.FfnOutRefIdeal.Read.val_main_v3_eq _ _).trans ?_)
  rw [q0, q1]
  exact arr2_ext fun r j => (reference _ _ r j).trans (final m c r j).symm

end Cert.Products.FfnOut

end
-- ==== Proof.Norm.Row.lean ====
/-
The root mean square norm of one row and its gradient, over the extended reals: the gradient in the closed form that the
kernel computes, and in the form that the derivative of the norm's lines takes.  They are equal for all entries, the
infinite ones included.
-/
module

public import Idealize.ShloMosaic.Lib.Pointwise

@[expose] public section

set_option maxRecDepth 16384

noncomputable section

namespace Cert.Norm

open Idealize.ShloMosaic

/-- The number that the norm adds to the mean square: the single-precision number nearest to 10⁻⁶. -/
def eps : ℝ := 8796093 / 8796093022208

theorem c_eps : Ideal.ofBits .f32 0x358637BD#32 = ((eps : ℝ) : EReal) := by
  simp [Ideal.ofBits, Ideal.ieee, -EReal.coe_mul, eps]; norm_num

theorem c_1024 : Ideal.ofBits .f32 0x44800000#32 = ((1024 : ℝ) : EReal) := by
  simp [Ideal.ofBits, Ideal.ieee, -EReal.coe_mul]; norm_num

theorem c_neg_half : Ideal.ofBits .f32 0xBF000000#32 = ((-(1 / 2) : ℝ) : EReal) := by
  simp [Ideal.ofBits, Ideal.ieee, -EReal.coe_mul]; norm_num

theorem eps_pos : 0 < eps := by norm_num [eps]

/-! ## Sums over the extended reals -/

/-- A nonnegative real factor goes into a sum of two. -/
theorem mul_add_real {a : ℝ} (ha : 0 ≤ a) (y z : EReal) : (a : EReal) * (y + z) = a * y + a * z :=
  EReal.left_distrib_of_nonneg_of_ne_top (EReal.coe_nonneg.mpr ha) (EReal.coe_ne_top a) y z

/-- A nonnegative real factor goes out of a sum. -/
theorem sum_mul_real {ι : Type} [Fintype ι] {a : ℝ} (ha : 0 ≤ a) (f : ι → EReal) : ∑ i, f i * (a : EReal) = (∑ i, f i) * a := by
  classical
  have h : ∀ s : Finset ι, ∑ i ∈ s, f i * (a : EReal) = (∑ i ∈ s, f i) * a := by
    intro s
    induction s using Finset.induction_on with
    | empty => simp
    | insert b s hb ih => rw [Finset.sum_insert hb, Finset.sum_insert hb, ih, mul_comm _ (a : EReal), mul_comm _ (a : EReal), mul_comm _ (a : EReal), mul_add_real ha]
  exact h _

/-- Twice a product with a real factor is the product with twice the factor. -/
theorem add_self_mul_real (w : EReal) (a : ℝ) : w * (a : EReal) + w * a = w * ((2 * a : ℝ) : EReal) := by
  have h : (((1 : ℝ) : EReal) + ((1 : ℝ) : EReal)) * (w * a) = ((1 : ℝ) : EReal) * (w * a) + ((1 : ℝ) : EReal) * (w * a) :=
    EReal.right_distrib_of_nonneg (by simp) (by simp)
  rw [EReal.coe_one, one_mul] at h
  rw [← h, ← EReal.coe_one, ← EReal.coe_add, mul_left_comm, ← EReal.coe_mul]
  norm_num

/-- A square is not negative. -/
theorem sq_nonneg (x : EReal) : 0 ≤ x * x := by
  rcases le_total 0 x with h | h
  · exact mul_nonneg h h
  · have h' : 0 ≤ -x := EReal.neg_nonneg.mpr h
    have := mul_nonneg h' h'
    rwa [EReal.neg_mul, mul_comm, EReal.neg_mul, neg_neg] at this

/-! ## One row -/

section
variable (x e : Fin 1024 → EReal)

/-- The mean square of a row, a little enlarged. -/
def ms : EReal := Ideal.div (∑ k, x k * x k) ((1024 : ℝ) : EReal) + (eps : EReal)

/-- One over the root mean square. -/
def rstd : EReal := Ideal.rsqrt (ms x)

/-- The gradient of the norm's input, `e` being the gradient of the normalised row: the kernel's form. -/
def dxn (k : Fin 1024) : EReal :=
  rstd x * (e k - x k * rstd x * Ideal.div (∑ l, e l * (x l * rstd x)) ((1024 : ℝ) : EReal))

/-- The gradient of the mean square: what each of the two factors of the square receives, but for the other factor. -/
def dms : EReal :=
  Ideal.div ((∑ l, x l * e l) * (((-(1 / 2) : ℝ) : EReal) * Ideal.div (rstd x) (ms x))) ((1024 : ℝ) : EReal)

theorem ms_pos : 0 < ms x := by
  have h0 : 0 ≤ Ideal.div (∑ k, x k * x k) ((1024 : ℝ) : EReal) := by
    rw [Ideal.div_coe (by norm_num)]
    exact mul_nonneg (Finset.sum_nonneg fun k _ => sq_nonneg _) (EReal.coe_nonneg.mpr (by norm_num))
  calc (0 : EReal) < (eps : EReal) := EReal.coe_pos.mpr eps_pos
    _ = 0 + (eps : EReal) := (zero_add _).symm
    _ ≤ ms x := add_le_add_left h0 _

/-- The two forms of the gradient agree. -/
theorem dxn_eq (k : Fin 1024) : dxn x e k = e k * rstd x + (x k * dms x e + dms x e * x k) := by
  have hpos := ms_pos x
  unfold dxn dms rstd
  generalize ms x = s at hpos ⊢
  induction s with
  | bot => exact absurd hpos (by simp)
  | top =>
    have h : Ideal.rsqrt ⊤ = 0 := rfl
    have h' : Ideal.div 0 (⊤ : EReal) = 0 := by simp [Ideal.div]
    simp [h, h', Ideal.div_coe (show (1024 : ℝ) ≠ 0 by norm_num)]
  | coe s =>
    have hs : 0 < s := EReal.coe_pos.mp hpos
    have hr : Ideal.rsqrt (s : EReal) = (((Real.sqrt s)⁻¹ : ℝ) : EReal) := by
      rw [Ideal.rsqrt_coe, if_neg (not_lt.mpr hs.le), if_neg hs.ne']
    rw [hr, Ideal.div_coe hs.ne', Ideal.div_coe (by norm_num), Ideal.div_coe (by norm_num)]
    have hq : 0 < Real.sqrt s := Real.sqrt_pos.mpr hs
    have hsq : Real.sqrt s * Real.sqrt s = s := Real.mul_self_sqrt hs.le
    generalize Real.sqrt s = q at hq hsq
    have hr0 : 0 ≤ q⁻¹ := (inv_pos.mpr hq).le
    have hsum : ∑ l, e l * (x l * ((q⁻¹ : ℝ) : EReal)) = (∑ l, x l * e l) * ((q⁻¹ : ℝ) : EReal) := by
      rw [← sum_mul_real hr0]
      exact Finset.sum_congr rfl fun l _ => by rw [← mul_assoc, mul_comm (e l)]
    rw [hsum]
    generalize ∑ l, x l * e l = S
    rw [sub_eq_add_neg, mul_add_real hr0, mul_comm _ (e k)]
    congr 1
    have h1 : ((q⁻¹ : ℝ) : EReal) * -(x k * ((q⁻¹ : ℝ) : EReal) * (S * ((q⁻¹ : ℝ) : EReal) * ((1 / 1024 : ℝ) : EReal)))
        = x k * S * ((2 * (-(1 / 2) * (q⁻¹ * (1 / s)) * (1 / 1024)) : ℝ) : EReal) := by
      have : (2 * (-(1 / 2) * (q⁻¹ * (1 / s)) * (1 / 1024)) : ℝ) = -(q⁻¹ * q⁻¹ * (q⁻¹ * (1 / 1024))) := by
        rw [← hsq]; field_simp
      rw [this, EReal.coe_neg, mul_comm _ (-_ : EReal), EReal.neg_mul, mul_comm (x k * S) (-_ : EReal), EReal.neg_mul]
      congr 1
      simp only [EReal.coe_mul]
      ac_rfl
    have h2 : S * (((-(1 / 2) : ℝ) : EReal) * (((q⁻¹ : ℝ) : EReal) * ((1 / s : ℝ) : EReal))) * ((1 / 1024 : ℝ) : EReal)
        = S * ((-(1 / 2) * (q⁻¹ * (1 / s)) * (1 / 1024) : ℝ) : EReal) := by
      rw [← EReal.coe_mul, ← EReal.coe_mul, mul_assoc, ← EReal.coe_mul]
    rw [h1, h2, mul_comm (S * _) (x k), ← mul_assoc (x k) S, add_self_mul_real]

end

end Cert.Norm

end
-- ==== Proof.Norm.Columns.lean ====
/-
The gradients that flow through a root mean square norm with a modulation, row by row, and their sums over the rows: the
kernel adds up the rows block by block.
-/
module

public import proofs.«01_k».proof.Proof.Norm.Row
public import proofs.«01_k».proof.Proof.Products.Blocks

@[expose] public section

set_option maxRecDepth 16384

noncomputable section

namespace Cert.Norm

open Idealize.ShloMosaic

/-! ## One row -/

section
variable (x g sc sh d u : Fin 1024 → EReal)

/-- The modulated norm of a row. -/
def out (k : Fin 1024) : EReal := x k * rstd x * g k * (1 + sc k) + sh k

/-- The gradient of the norm, `d` being that of the modulated norm. -/
def dn (k : Fin 1024) : EReal := d k * (1 + sc k)

/-- The gradient of the normalised row. -/
def dy (k : Fin 1024) : EReal := dn sc d k * g k

/-- The row's part of the gradient of the gain. -/
def colG (k : Fin 1024) : EReal := dn sc d k * (x k * rstd x)

/-- The row's part of the gradient of the modulation's scale. -/
def colSc (k : Fin 1024) : EReal := d k * (x k * rstd x * g k)

/-- The gradient of the row, `u` being what it receives besides. -/
def dx (k : Fin 1024) : EReal := u k + dxn x (dy g sc d) k

end

/-! ## Blocks of rows -/

/-- Row `r` of an array of 1024 columns. -/
abbrev rowOf {n : ℕ} (x : (⟨2, ![n, 1024]⟩ : Shape).Idx → EReal) (r : Fin n) (k : Fin 1024) : EReal := x (ix2 r k)

/-- Row `i` of block `t`. -/
def row (t : Fin 8) (i : Fin 1024) : Fin 8192 := ⟨t.val * 1024 + i.val, by omega⟩

/-- Where the block lies that starts at row `1024 t`. -/
theorem at_row {q : ℕ} {t : Fin 8} {i : Fin 1024} (h : q = t.val) : q * 1024 + 1 * i.val = (row t i).val := by
  rw [h, one_mul]; rfl

/-- A sum over the rows is one over the blocks. -/
theorem sum_rows (f : Fin 8192 → EReal) : ∑ r, f r = ∑ t, ∑ i, f (row t i) := by
  rw [← Finset.sum_product', Finset.univ_product_univ]
  refine (Fintype.sum_equiv (finProdFinEquiv (m := 8) (n := 1024)) (fun p => f (row p.1 p.2)) f fun p => congrArg f (Fin.ext ?_)).symm
  show p.1.val * 1024 + p.2.val = p.2.val + 1024 * p.1.val
  omega

/-- The sum of the values of `f` at the blocks up to `n`. -/
def upTo (f : Fin 8 → EReal) (n : ℕ) : EReal := ∑ i : Fin 8, if i.val ≤ n then f i else 0

/-- Up to block 0 there is one summand. -/
theorem upTo_zero (f : Fin 8 → EReal) (h : 0 < 8) : upTo f 0 = f ⟨0, h⟩ := by
  unfold upTo
  rw [Finset.sum_eq_single (⟨0, h⟩ : Fin 8)]
  · simp
  · intro b _ hb
    rw [if_neg]
    intro h0
    exact hb (Fin.ext (Nat.le_zero.mp h0))
  · simp

/-- One block more adds its summand. -/
theorem upTo_succ (f : Fin 8 → EReal) (n : ℕ) (h : n + 1 < 8) : upTo f (n + 1) = upTo f n + f ⟨n + 1, h⟩ := by
  have e : f ⟨n + 1, h⟩ = ∑ i : Fin 8, if i.val = n + 1 then f i else 0 := by
    rw [Finset.sum_eq_single (⟨n + 1, h⟩ : Fin 8)]
    · simp
    · intro b _ hb
      rw [if_neg]
      intro h0
      exact hb (Fin.ext h0)
    · simp
  unfold upTo
  rw [e, ← Finset.sum_add_distrib]
  refine Finset.sum_congr rfl fun i _ => ?_
  by_cases h1 : i.val ≤ n
  · rw [if_pos (by omega), if_pos h1, if_neg (by omega), add_zero]
  · by_cases h2 : i.val = n + 1
    · rw [if_pos (by omega), if_neg h1, if_pos h2, zero_add]
    · rw [if_neg (by omega), if_neg h1, if_neg h2, add_zero]

/-- What grows by `f` from block to block is the sum of `f` so far. -/
theorem eq_upTo {N : ℕ} (hN : N = 8) {f : Fin 8 → EReal} {a : (n : ℕ) → n < N → EReal} (h0 : ∀ h, a 0 h = f 0)
    (hs : ∀ n h, a (n + 1) h = a n (Nat.lt_of_succ_lt h) + f ⟨n + 1, h.trans_eq hN⟩) : ∀ n h, a n h = upTo f n
  | 0, h => (h0 h).trans (upTo_zero f (by omega)).symm
  | n + 1, h => by rw [hs, eq_upTo hN h0 hs n, upTo_succ]

/-- Up to the last block it is the sum over all rows. -/
theorem upTo_last (f : Fin 8192 → EReal) : upTo (fun t => ∑ i, f (row t i)) 7 = ∑ r, f r := by
  rw [sum_rows]
  exact Finset.sum_congr rfl fun i _ => if_pos (by omega)

/-- Two arrays of one row are equal if they are so column by column. -/
theorem one_ext {n : ℕ} {α : Type} {f g : (⟨2, ![1, n]⟩ : Shape).Idx → α} (h : ∀ k, f (ix2 0 k) = g (ix2 0 k)) : f = g :=
  Cert.Products.arr2_ext fun r k => by rw [Subsingleton.elim r 0]; exact h k

/-- Two arrays of all rows are equal if they are so in the rows of each block. -/
theorem rows_ext {n : ℕ} {α : Type} {f g : (⟨2, ![8192, n]⟩ : Shape).Idx → α} (h : ∀ t i k, f (ix2 (row t i) k) = g (ix2 (row t i) k)) : f = g :=
  Cert.Products.arr2_ext fun r k => by
    have e : row ⟨r.val / 1024, by omega⟩ ⟨r.val % 1024, by omega⟩ = r := Fin.ext (Nat.div_add_mod' _ _)
    rw [← e]
    exact h _ _ k

end Cert.Norm

end
-- ==== Proof.Norm.BwdBlock.lean ====
/-
What the body of the norm's backward pass computes of its blocks, at an index.
-/
module

public import proofs.«01_k».proof.Proof.Norm.Columns
public import proofs.«01_k».proof.Proof.Gen.NormBwdIdeal.Skeleton

@[expose] public section

set_option maxRecDepth 16384

noncomputable section

namespace Cert.Norm

open Cert.NormBwdIdeal Cert.NormBwdIdeal.Gen Idealize.ShloMosaic

section
variable (x0 : Vec Ideal S1024x1024 .bf16) (x1 : Vec Ideal S1024x1024 .f32) (x2 x3 : Vec Ideal S1x1024 .f32)
  (x5 : Vec Ideal S1024x1024 .f32) (x6 : Vec Ideal S1024x1024 .bf16) (x7 a : Vec Ideal S1x1024 .f32)

/-- One over the root mean square. -/
theorem pay10_apply (r : Fin 1024) : k0_pay10 (F := Ideal) x1 (ix2 r 0) = rstd (rowOf x1 r) := by
  pointwise [k0_pay10]
  rw [c_1024, c_eps]
  rfl

/-- The normalised rows. -/
theorem pay11_apply (r k : Fin 1024) : k0_pay11 (F := Ideal) x1 (ix2 r k) = x1 (ix2 r k) * rstd (rowOf x1 r) := by
  pointwise [k0_pay11]
  rw [pay10_apply]

/-- The sum of the incoming gradient over the rows. -/
theorem pay12_apply (k : Fin 1024) : k0_pay12 (F := Ideal) x0 a (ix2 0 k) = a (ix2 0 k) + ∑ r, x0 (ix2 r k) := by
  pointwise [k0_pay12, k0_pay8]

/-- The gradient of the modulation's scale, summed. -/
theorem pay13_apply (k : Fin 1024) : k0_pay13 (F := Ideal) x0 x1 x2 a (ix2 0 k)
    = a (ix2 0 k) + ∑ r, colSc (rowOf x1 r) (rowOf x2 0) (rowOf x0 r) k := by
  pointwise [k0_pay13, k0_pay8, k0_pay9]
  simp only [pay11_apply]
  rfl

/-- The gradient of the norm. -/
theorem pay14_apply (r k : Fin 1024) : k0_pay14 (F := Ideal) (k0_pay8 x0) x3 (ix2 r k) = dn (rowOf x3 0) (rowOf x0 r) k := by
  pointwise [k0_pay14, k0_pay8]
  rfl

/-- The gradient of the norm's gain, summed. -/
theorem pay15_apply (k : Fin 1024) : k0_pay15 (F := Ideal) (k0_pay8 x0) (k0_pay11 x1) x3 a (ix2 0 k)
    = a (ix2 0 k) + ∑ r, colG (rowOf x1 r) (rowOf x3 0) (rowOf x0 r) k := by
  pointwise [k0_pay15]
  simp only [pay11_apply, pay14_apply]
  rfl

/-- The gradient of the rows. -/
abbrev dxV : Vec Ideal S1024x1024 .f32 := k0_pay16 (k0_pay8 x0) (k0_pay9 x2) (k0_pay10 x1) (k0_pay11 x1) x3 x5

theorem dxV_apply (r k : Fin 1024) : dxV x0 x1 x2 x3 x5 (ix2 r k) = dx (rowOf x1 r) (rowOf x2 0) (rowOf x3 0) (rowOf x0 r) (rowOf x5 r) k := by
  pointwise [dxV, k0_pay16, k0_pay9]
  simp only [pay10_apply, pay11_apply, pay14_apply, c_1024]
  rfl

/-- The gradient of the layer's result: the rows' gradient times the gate. -/
abbrev dyV : Vec Ideal S1024x1024 .bf16 := k0_pay18 (k0_pay8 x0) (k0_pay9 x2) (k0_pay10 x1) (k0_pay11 x1) x3 x5 x7

theorem dyV_apply (r k : Fin 1024) : dyV x0 x1 x2 x3 x5 x7 (ix2 r k) = dxV x0 x1 x2 x3 x5 (ix2 r k) * x7 (ix2 0 k) := by
  pointwise [dyV, k0_pay18, k0_pay17]

/-- The gradient of the gate, summed. -/
theorem pay1_apply (k : Fin 1024) :
    k0_pay1 (F := Ideal) (k0_pay19 a) (k0_pay20 (k0_pay8 x0) (k0_pay9 x2) (k0_pay10 x1) (k0_pay11 x1) x3 x5 x6) (ix2 0 k)
      = a (ix2 0 k) + ∑ r, dxV x0 x1 x2 x3 x5 (ix2 r k) * x6 (ix2 r k) := by
  pointwise [k0_pay1, k0_pay19, k0_pay20]

/-- The gradient of the layer's last bias, summed. -/
theorem pay2_apply (k : Fin 1024) :
    k0_pay2 (F := Ideal) (k0_pay17 (k0_pay8 x0) (k0_pay9 x2) (k0_pay10 x1) (k0_pay11 x1) x3 x5 x7) a (ix2 0 k)
      = a (ix2 0 k) + ∑ r, dxV x0 x1 x2 x3 x5 (ix2 r k) * x7 (ix2 0 k) := by
  pointwise [k0_pay2, k0_pay17]

end

/-- The first point finds zeros. -/
theorem zero_apply (k : Fin 1024) : k0_pay3 (F := Ideal) (ix2 0 k) = 0 := by
  pointwise [k0_pay3]

end Cert.Norm

end
-- ==== Proof.Norm.BwdOut.lean ====
/-
What each point of the norm's backward pass leaves: its rows' gradients, and the sums over the rows so far.
-/
module

public import proofs.«01_k».proof.Proof.Norm.BwdBlock
public import proofs.«01_k».proof.Proof.Products.Blocks
public import proofs.«01_k».proof.Proof.Gen.NormBwdIdeal.Value

@[expose] public section

set_option maxRecDepth 16384

noncomputable section

namespace Cert.Norm.Bwd

open Cert.NormBwdIdeal Cert.NormBwdIdeal.Gen Cert.NormBwdIdeal.Value Cert.Products Idealize.ShloMosaic Idealize.ShloMosaic.TcCoe Idealize.SL.Sem

variable (m : (ℓ : Loc nD τ sig) → Buf (Elt Ideal) ℓ) (c : Dev nD)

/-- What the body makes of the blocks and of the sums so far. -/
abbrev step (x0 : Vec Ideal S1024x1024 .bf16) (x1 : Vec Ideal S1024x1024 .f32) (x2 x3 : Vec Ideal S1x1024 .f32)
    (x5 : Vec Ideal S1024x1024 .f32) (x6 : Vec Ideal S1024x1024 .bf16) (x7 a9 a10 a11 a13 a14 : Vec Ideal S1x1024 .f32) :
    Vec Ideal S1024x1024 .f32 × Vec Ideal S1x1024 .f32 × Vec Ideal S1x1024 .f32 × Vec Ideal S1x1024 .f32 × Vec Ideal S1024x1024 .bf16 × Vec Ideal S1x1024 .f32 × Vec Ideal S1x1024 .f32 :=
  (dxV x0 x1 x2 x3 x5,
    k0_pay15 (k0_pay8 x0) (k0_pay11 x1) x3 a9,
    k0_pay13 x0 x1 x2 a10,
    k0_pay12 x0 a11,
    dyV x0 x1 x2 x3 x5 x7,
    k0_pay1 (k0_pay19 a13) (k0_pay20 (k0_pay8 x0) (k0_pay9 x2) (k0_pay10 x1) (k0_pay11 x1) x3 x5 x6),
    k0_pay2 (k0_pay17 (k0_pay8 x0) (k0_pay9 x2) (k0_pay10 x1) (k0_pay11 x1) x3 x5 x7) a14)

theorem outs_A (t : Fin cfg0.N) (h : t.val % 8 = 0) : outsAt0 m c t.val t.isLt
    = step (iblk m c 0 t) (iblk m c 1 t) (iblk m c 2 t) (iblk m c 3 t) (iblk m c 5 t) (iblk m c 6 t) (iblk m c 7 t) (k0_pay3 (F := Ideal)) (k0_pay4 (F := Ideal)) (k0_pay5 (F := Ideal)) (k0_pay6 (F := Ideal)) (k0_pay7 (F := Ideal)) := by
  rw [outsAt0_A m c t h]
  refine Prod.ext ?_ (Prod.ext ?_ (Prod.ext ?_ (Prod.ext ?_ (Prod.ext ?_ (Prod.ext ?_ ?_)))))
  all_goals dsimp only
  on_goal 1 => unfold out0_A_8; rw [View.read_writes_eq_canon _ _ _ fun y => cover0_A_8 (y := y) ..]
  on_goal 2 => unfold out0_A_9; rw [View.read_writes_eq_canon _ _ _ fun y => cover0_A_9 (y := y) ..]
  on_goal 3 => unfold out0_A_10; rw [View.read_writes_eq_canon _ _ _ fun y => cover0_A_10 (y := y) ..]
  on_goal 4 => unfold out0_A_11; rw [View.read_writes_eq_canon _ _ _ fun y => cover0_A_11 (y := y) ..]
  on_goal 5 => unfold out0_A_12; rw [View.read_writes_eq_canon _ _ _ fun y => cover0_A_12 (y := y) ..]
  on_goal 6 => unfold out0_A_13; rw [View.read_writes_eq_canon _ _ _ fun y => cover0_A_13 (y := y) ..]
  on_goal 7 => unfold out0_A_14; rw [View.read_writes_eq_canon _ _ _ fun y => cover0_A_14 (y := y) ..]
  all_goals unfold kernelRun0_A
  all_goals dsimp only
  all_goals sl_unfold_words
  all_goals simp only [View.canon_unit_zero (S := S1024x1024) hz, View.canon_unit_zero (S := S1x1024) hz, View.canon_cons_unit_zero (S := S1x1024) hz,
    View.readCov_unit_zero (S := S1x1024) _ hz, View.ld_unit_zero (S := S1024x1024) hz, View.ld_unit_zero (S := S1x1024) hz, View.readAt_eq_ld,
    (hs0_0 t).read_unread, (hs0_1 t).read_unread, (hs0_2 t).read_unread, (hs0_3 t).read_unread, (hs0_5 t).read_unread, (hs0_6 t).read_unread, (hs0_7 t).read_unread]

theorem outs_B (t : Fin cfg0.N) (h : ¬ t.val % 8 = 0) (p : t.val - 1 < cfg0.N) : outsAt0 m c t.val t.isLt
    = step (iblk m c 0 t) (iblk m c 1 t) (iblk m c 2 t) (iblk m c 3 t) (iblk m c 5 t) (iblk m c 6 t) (iblk m c 7 t)
        (outsAt0 m c (t.val - 1) p).2.1 (outsAt0 m c (t.val - 1) p).2.2.1 (outsAt0 m c (t.val - 1) p).2.2.2.1
        (outsAt0 m c (t.val - 1) p).2.2.2.2.2.1 (outsAt0 m c (t.val - 1) p).2.2.2.2.2.2 := by
  rw [outsAt0_B m c t h]
  refine Prod.ext ?_ (Prod.ext ?_ (Prod.ext ?_ (Prod.ext ?_ (Prod.ext ?_ (Prod.ext ?_ ?_)))))
  all_goals dsimp only
  on_goal 1 => unfold out0_B_8; rw [View.read_writes_eq_canon _ _ _ fun y => cover0_B_8 (y := y) ..]
  on_goal 2 => unfold out0_B_9; rw [View.read_writes_eq_canon _ _ _ fun y => cover0_B_9 (y := y) ..]
  on_goal 3 => unfold out0_B_10; rw [View.read_writes_eq_canon _ _ _ fun y => cover0_B_10 (y := y) ..]
  on_goal 4 => unfold out0_B_11; rw [View.read_writes_eq_canon _ _ _ fun y => cover0_B_11 (y := y) ..]
  on_goal 5 => unfold out0_B_12; rw [View.read_writes_eq_canon _ _ _ fun y => cover0_B_12 (y := y) ..]
  on_goal 6 => unfold out0_B_13; rw [View.read_writes_eq_canon _ _ _ fun y => cover0_B_13 (y := y) ..]
  on_goal 7 => unfold out0_B_14; rw [View.read_writes_eq_canon _ _ _ fun y => cover0_B_14 (y := y) ..]
  all_goals unfold kernelRun0_B
  all_goals dsimp only
  all_goals sl_unfold_words
  all_goals simp only [View.canon_unit_zero (S := S1024x1024) hz, View.canon_unit_zero (S := S1x1024) hz,
    View.ld_unit_zero (S := S1024x1024) hz, View.ld_unit_zero (S := S1x1024) hz, View.readAt_eq_ld,
    (hs0_0 t).read_unread, (hs0_1 t).read_unread, (hs0_2 t).read_unread, (hs0_3 t).read_unread, (hs0_5 t).read_unread, (hs0_6 t).read_unread, (hs0_7 t).read_unread,
    (hs0_9 t).read_unread, (hs0_10 t).read_unread, (hs0_11 t).read_unread, (hs0_13 t).read_unread, (hs0_14 t).read_unread]

/-- Where the blocks lie: the matrices' at row `1024 t`, the vectors' at zero. -/
theorem idx : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0)
    ∧ (win0_8.index t 0 = t.val ∧ win0_8.index t 1 = 0)
    ∧ (win0_12.index t 0 = t.val ∧ win0_12.index t 1 = 0) :=
  (by decide +kernel : ∀ t : Fin grid0.N, _)

/-- The arguments. -/
abbrev dhA : Vec Ideal S8192x1024 .bf16 := m ((c : Thread nD τ).loc main_arg0)
abbrev xA : Vec Ideal S8192x1024 .f32 := m ((c : Thread nD τ).loc main_arg1)
abbrev gA : Vec Ideal S1024 .f32 := m ((c : Thread nD τ).loc main_arg2)
abbrev scA : Vec Ideal S1x1024 .f32 := m ((c : Thread nD τ).loc main_arg3)
abbrev upA : Vec Ideal S8192x1024 .f32 := m ((c : Thread nD τ).loc main_arg5)
abbrev yA : Vec Ideal S8192x1024 .bf16 := m ((c : Thread nD τ).loc main_arg6)
abbrev gateA : Vec Ideal S1x1024 .f32 := m ((c : Thread nD τ).loc main_arg7)

/-- The point of a block of rows. -/
abbrev ptOf (t : Fin 8) : Fin cfg0.N := ⟨t.val, t.isLt.trans_eq N_0.symm⟩

section
variable (t : Fin 8) (i k : Fin 1024)

theorem blk0 : (iblk m c 0 (ptOf t) : Vec Ideal S1024x1024 .bf16) (ix2 i k) = dhA m c (ix2 (row t i) k) :=
  (View.read_apply ..).trans ((congrFun (V_main_arg0 m c) _).trans (congrArg (dhA m c) (ix2_ext (at_row (idx _).1.1) (whole (idx _).1.2))))

theorem blk1 : (iblk m c 1 (ptOf t) : Vec Ideal S1024x1024 .f32) (ix2 i k) = xA m c (ix2 (row t i) k) :=
  (View.read_apply ..).trans ((congrFun (V_main_arg1 m c) _).trans (congrArg (xA m c) (ix2_ext (at_row (idx _).2.1.1) (whole (idx _).2.1.2))))

/-- The call receives the gain laid in one row. -/
theorem gain_row : (Gen.V m c main_v0 : Vec Ideal S1x1024 .f32) (ix2 0 k) = gA m c (ix1 k) := by
  show (shapeCast S1x1024 (gA m c) shapeCasts_S1024_S1x1024) (ix2 0 k) = _
  exact ValueIdx.shapeCast_a_1a_apply ..

theorem blk2 : (iblk m c 2 (ptOf t) : Vec Ideal S1x1024 .f32) (ix2 0 k) = gA m c (ix1 k) :=
  (View.read_apply ..).trans ((congrArg (Gen.V m c main_v0) (ix2_ext (s := k) (whole (idx _).2.2.1.1) (whole (idx _).2.2.1.2))).trans (gain_row m c k))

theorem blk3 : (iblk m c 3 (ptOf t) : Vec Ideal S1x1024 .f32) (ix2 0 k) = scA m c (ix2 0 k) :=
  (View.read_apply ..).trans ((congrFun (V_main_arg3 m c) _).trans (congrArg (scA m c) (ix2_ext (whole (idx _).2.2.2.1.1) (whole (idx _).2.2.2.1.2))))

theorem blk5 : (iblk m c 5 (ptOf t) : Vec Ideal S1024x1024 .f32) (ix2 i k) = upA m c (ix2 (row t i) k) :=
  (View.read_apply ..).trans ((congrFun (V_main_arg5 m c) _).trans (congrArg (upA m c) (ix2_ext (at_row (idx _).2.2.2.2.1.1) (whole (idx _).2.2.2.2.1.2))))

theorem blk6 : (iblk m c 6 (ptOf t) : Vec Ideal S1024x1024 .bf16) (ix2 i k) = yA m c (ix2 (row t i) k) :=
  (View.read_apply ..).trans ((congrFun (V_main_arg6 m c) _).trans (congrArg (yA m c) (ix2_ext (at_row (idx _).2.2.2.2.2.1.1) (whole (idx _).2.2.2.2.2.1.2))))

theorem blk7 : (iblk m c 7 (ptOf t) : Vec Ideal S1x1024 .f32) (ix2 0 k) = gateA m c (ix2 0 k) :=
  (View.read_apply ..).trans ((congrFun (V_main_arg7 m c) _).trans (congrArg (gateA m c) (ix2_ext (whole (idx _).2.2.2.2.2.2.1.1) (whole (idx _).2.2.2.2.2.2.1.2))))

end

end Cert.Norm.Bwd

end
-- ==== Proof.Norm.BwdArrays.lean ====
/-
The result arrays of the norm's backward pass: the gradients of the rows, and the sums over all rows.
-/
module

public import proofs.«01_k».proof.Proof.Norm.BwdOut

@[expose] public section

set_option maxRecDepth 16384

noncomputable section

namespace Cert.Norm.Bwd

open Cert.NormBwdIdeal Cert.NormBwdIdeal.Gen Cert.NormBwdIdeal.Value Cert.Products Idealize.ShloMosaic Idealize.ShloMosaic.TcCoe Idealize.SL.Sem

variable (m : (ℓ : Loc nD τ sig) → Buf (Elt Ideal) ℓ) (c : Dev nD)

/-- The rows of the arguments, and the vectors. -/
abbrev dhR (r : Fin 8192) : Fin 1024 → EReal := rowOf (dhA m c) r
abbrev xR (r : Fin 8192) : Fin 1024 → EReal := rowOf (xA m c) r
abbrev upR (r : Fin 8192) : Fin 1024 → EReal := rowOf (upA m c) r
abbrev gR : Fin 1024 → EReal := fun k => gA m c (ix1 k)
abbrev scR : Fin 1024 → EReal := rowOf (scA m c) 0
/-- The gradient of row `r`. -/
abbrev dxR (r : Fin 8192) : Fin 1024 → EReal := dx (xR m c r) (gR m c) (scR m c) (dhR m c r) (upR m c r)

section
variable (t : Fin 8) (i k : Fin 1024) (a : Vec Ideal S1x1024 .f32)

theorem row0 : rowOf (iblk m c 0 (ptOf t)) i = dhR m c (row t i) := funext (blk0 m c t i)
theorem row1 : rowOf (iblk m c 1 (ptOf t)) i = xR m c (row t i) := funext (blk1 m c t i)
theorem row2 : rowOf (iblk m c 2 (ptOf t)) 0 = gR m c := funext (blk2 m c t)
theorem row3 : rowOf (iblk m c 3 (ptOf t)) 0 = scR m c := funext (blk3 m c t)
theorem row5 : rowOf (iblk m c 5 (ptOf t)) i = upR m c (row t i) := funext (blk5 m c t i)

/-- The gradient of the rows, of the blocks of point `t`. -/
theorem dx_blk : dxV (iblk m c 0 (ptOf t)) (iblk m c 1 (ptOf t)) (iblk m c 2 (ptOf t)) (iblk m c 3 (ptOf t)) (iblk m c 5 (ptOf t)) (ix2 i k) = dxR m c (row t i) k := by
  rw [dxV_apply, row0, row1, row2, row3, row5]

/-- What point `t` adds to each of the five sums. -/
theorem add9 : k0_pay15 (k0_pay8 (iblk m c 0 (ptOf t))) (k0_pay11 (iblk m c 1 (ptOf t))) (iblk m c 3 (ptOf t)) a (ix2 0 k)
    = a (ix2 0 k) + ∑ i, colG (xR m c (row t i)) (scR m c) (dhR m c (row t i)) k := by
  rw [pay15_apply]
  exact congrArg _ (Finset.sum_congr rfl fun i _ => by rw [row0, row1, row3])

theorem add10 : k0_pay13 (iblk m c 0 (ptOf t)) (iblk m c 1 (ptOf t)) (iblk m c 2 (ptOf t)) a (ix2 0 k)
    = a (ix2 0 k) + ∑ i, colSc (xR m c (row t i)) (gR m c) (dhR m c (row t i)) k := by
  rw [pay13_apply]
  exact congrArg _ (Finset.sum_congr rfl fun i _ => by rw [row0, row1, row2])

theorem add11 : k0_pay12 (iblk m c 0 (ptOf t)) a (ix2 0 k) = a (ix2 0 k) + ∑ i, dhR m c (row t i) k := by
  rw [pay12_apply]
  exact congrArg _ (Finset.sum_congr rfl fun i _ => blk0 m c t i k)

theorem add13 : k0_pay1 (k0_pay19 a) (k0_pay20 (k0_pay8 (iblk m c 0 (ptOf t))) (k0_pay9 (iblk m c 2 (ptOf t))) (k0_pay10 (iblk m c 1 (ptOf t))) (k0_pay11 (iblk m c 1 (ptOf t)))
      (iblk m c 3 (ptOf t)) (iblk m c 5 (ptOf t)) (iblk m c 6 (ptOf t))) (ix2 0 k)
    = a (ix2 0 k) + ∑ i, dxR m c (row t i) k * yA m c (ix2 (row t i) k) := by
  rw [pay1_apply]
  exact congrArg _ (Finset.sum_congr rfl fun i _ => by rw [dx_blk, blk6])

theorem add14 : k0_pay2 (k0_pay17 (k0_pay8 (iblk m c 0 (ptOf t))) (k0_pay9 (iblk m c 2 (ptOf t))) (k0_pay10 (iblk m c 1 (ptOf t))) (k0_pay11 (iblk m c 1 (ptOf t)))
      (iblk m c 3 (ptOf t)) (iblk m c 5 (ptOf t)) (iblk m c 7 (ptOf t))) a (ix2 0 k)
    = a (ix2 0 k) + ∑ i, dxR m c (row t i) k * gateA m c (ix2 0 k) := by
  rw [pay2_apply]
  exact congrArg _ (Finset.sum_congr rfl fun i _ => by rw [dx_blk, blk7])

end

/-- A point after the first is no multiple of eight. -/
theorem later {n : ℕ} (h : n + 1 < cfg0.N) : ¬ (⟨n + 1, h⟩ : Fin cfg0.N).val % 8 = 0 := by
  have := h.trans_eq N_0
  show ¬ (n + 1) % 8 = 0
  omega

/-- The gradient of the gain, summed so far. -/
theorem so_far9 (k : Fin 1024) : ∀ n h, (outsAt0 m c n h).2.1 (ix2 0 k) = upTo (fun t => ∑ i, (fun r => colG (xR m c r) (scR m c) (dhR m c r) k) (row t i)) n :=
  eq_upTo N_0 (fun h => (congrArg (fun p => p.2.1 (ix2 0 k)) (outs_A m c ⟨0, h⟩ rfl)).trans ((add9 m c 0 k _).trans ((congrArg (· + _) (zero_apply k)).trans (zero_add _))))
    fun n h => (congrArg (fun p => p.2.1 (ix2 0 k)) (outs_B m c ⟨n + 1, h⟩ (later h) (Nat.lt_of_succ_lt h))).trans (add9 m c ⟨n + 1, h.trans_eq N_0⟩ k _)

/-- The gradient of the modulation's scale, summed so far. -/
theorem so_far10 (k : Fin 1024) : ∀ n h, (outsAt0 m c n h).2.2.1 (ix2 0 k) = upTo (fun t => ∑ i, (fun r => colSc (xR m c r) (gR m c) (dhR m c r) k) (row t i)) n :=
  eq_upTo N_0 (fun h => (congrArg (fun p => p.2.2.1 (ix2 0 k)) (outs_A m c ⟨0, h⟩ rfl)).trans ((add10 m c 0 k _).trans ((congrArg (· + _) (zero_apply k)).trans (zero_add _))))
    fun n h => (congrArg (fun p => p.2.2.1 (ix2 0 k)) (outs_B m c ⟨n + 1, h⟩ (later h) (Nat.lt_of_succ_lt h))).trans (add10 m c ⟨n + 1, h.trans_eq N_0⟩ k _)

/-- The gradient of the modulation's shift, summed so far. -/
theorem so_far11 (k : Fin 1024) : ∀ n h, (outsAt0 m c n h).2.2.2.1 (ix2 0 k) = upTo (fun t => ∑ i, (fun r => dhR m c r k) (row t i)) n :=
  eq_upTo N_0 (fun h => (congrArg (fun p => p.2.2.2.1 (ix2 0 k)) (outs_A m c ⟨0, h⟩ rfl)).trans ((add11 m c 0 k _).trans ((congrArg (· + _) (zero_apply k)).trans (zero_add _))))
    fun n h => (congrArg (fun p => p.2.2.2.1 (ix2 0 k)) (outs_B m c ⟨n + 1, h⟩ (later h) (Nat.lt_of_succ_lt h))).trans (add11 m c ⟨n + 1, h.trans_eq N_0⟩ k _)

/-- The gradient of the gate, summed so far. -/
theorem so_far13 (k : Fin 1024) : ∀ n h, (outsAt0 m c n h).2.2.2.2.2.1 (ix2 0 k) = upTo (fun t => ∑ i, (fun r => dxR m c r k * yA m c (ix2 r k)) (row t i)) n :=
  eq_upTo N_0 (fun h => (congrArg (fun p => p.2.2.2.2.2.1 (ix2 0 k)) (outs_A m c ⟨0, h⟩ rfl)).trans ((add13 m c 0 k _).trans ((congrArg (· + _) (zero_apply k)).trans (zero_add _))))
    fun n h => (congrArg (fun p => p.2.2.2.2.2.1 (ix2 0 k)) (outs_B m c ⟨n + 1, h⟩ (later h) (Nat.lt_of_succ_lt h))).trans (add13 m c ⟨n + 1, h.trans_eq N_0⟩ k _)

/-- The gradient of the layer's last bias, summed so far. -/
theorem so_far14 (k : Fin 1024) : ∀ n h, (outsAt0 m c n h).2.2.2.2.2.2 (ix2 0 k) = upTo (fun t => ∑ i, (fun r => dxR m c r k * gateA m c (ix2 0 k)) (row t i)) n :=
  eq_upTo N_0 (fun h => (congrArg (fun p => p.2.2.2.2.2.2 (ix2 0 k)) (outs_A m c ⟨0, h⟩ rfl)).trans ((add14 m c 0 k _).trans ((congrArg (· + _) (zero_apply k)).trans (zero_add _))))
    fun n h => (congrArg (fun p => p.2.2.2.2.2.2 (ix2 0 k)) (outs_B m c ⟨n + 1, h⟩ (later h) (Nat.lt_of_succ_lt h))).trans (add14 m c ⟨n + 1, h.trans_eq N_0⟩ k _)

/-- The last point of the grid. -/
theorem at7 : 7 < cfg0.N := lt_of_lt_of_eq (by norm_num) N_0.symm
abbrev tLast : Fin cfg0.N := ⟨7, at7⟩

/-- Only the last point writes back. -/
theorem last_of {t : Fin cfg0.N} (h : t.val % 8 = 7) : t.val = 7 := by have := t.isLt.trans_eq N_0; omega

/-- The array of the gradient of the gain. -/
theorem org9 : ∀ b : Fin 2, win0_9.index tLast b * win0_9.size b = 0 ∧ win0_9.xsize (grid0.coords tLast) b = S1x1024.size b := by decide +kernel

theorem final9 (k : Fin 1024) : ((dats m 0 c).arrAt 9 cfg0.N : Vec Ideal S1x1024 .f32) (ix2 0 k) = ∑ r, colG (xR m c r) (scR m c) (dhR m c r) k := by
  obtain ⟨n, hn, hn'⟩ : ∃ n, n < cfg0.N ∧ n = 7 := ⟨7, at7, rfl⟩
  obtain ⟨X, hX⟩ : ∃ X, (outsAt0 m c n hn).2.1 = X := ⟨_, rfl⟩
  have hX' : ∀ l h, l = 7 → (outsAt0 m c l h).2.1 = X := fun l h e => by
    obtain rfl : l = n := e.trans hn'.symm
    exact hX
  have hv := so_far9 m c k n hn
  rw [hX, hn', upTo_last fun r => colG (xR m c r) (scR m c) (dhR m c r) k] at hv
  refine (congrFun ((dats m 0 c).arrAt_eq_of_cover 9 X (fun t hf => ?_) fun i => ⟨tLast, (flush0_9 tLast).mpr rfl, ?_⟩) _).trans hv
  · have e := last_of ((flush0_9 t).mp hf)
    rw [flushed9, hX' _ _ e]
    obtain rfl : t = tLast := Fin.ext e
    exact (Memref.read_access_unit_zero (Elt Ideal) main_v1_1 (funext fun b => (org9 b).1) (fun b => by rw [(org9 b).1]; simp) X).symm
  · show i ∈ ((View.whole main_v1_1).slice (win0_9.rect tLast)).set
    rw [View.set_slice_whole, Rect.mem_set_unit]
    exact fun b => ⟨(org9 b).1.trans_le (Nat.zero_le _), (i b).isLt.trans_eq ((congrArg₂ (· + ·) (org9 b).1 (org9 b).2).trans (zero_add _)).symm⟩

/-- The array of the gradient of the modulation's scale. -/
theorem org10 : ∀ b : Fin 2, win0_10.index tLast b * win0_10.size b = 0 ∧ win0_10.xsize (grid0.coords tLast) b = S1x1024.size b := by decide +kernel

theorem final10 (k : Fin 1024) : ((dats m 0 c).arrAt 10 cfg0.N : Vec Ideal S1x1024 .f32) (ix2 0 k) = ∑ r, colSc (xR m c r) (gR m c) (dhR m c r) k := by
  obtain ⟨n, hn, hn'⟩ : ∃ n, n < cfg0.N ∧ n = 7 := ⟨7, at7, rfl⟩
  obtain ⟨X, hX⟩ : ∃ X, (outsAt0 m c n hn).2.2.1 = X := ⟨_, rfl⟩
  have hX' : ∀ l h, l = 7 → (outsAt0 m c l h).2.2.1 = X := fun l h e => by
    obtain rfl : l = n := e.trans hn'.symm
    exact hX
  have hv := so_far10 m c k n hn
  rw [hX, hn', upTo_last fun r => colSc (xR m c r) (gR m c) (dhR m c r) k] at hv
  refine (congrFun ((dats m 0 c).arrAt_eq_of_cover 10 X (fun t hf => ?_) fun i => ⟨tLast, (flush0_10 tLast).mpr rfl, ?_⟩) _).trans hv
  · have e := last_of ((flush0_10 t).mp hf)
    rw [flushed10, hX' _ _ e]
    obtain rfl : t = tLast := Fin.ext e
    exact (Memref.read_access_unit_zero (Elt Ideal) main_v1_2 (funext fun b => (org10 b).1) (fun b => by rw [(org10 b).1]; simp) X).symm
  · show i ∈ ((View.whole main_v1_2).slice (win0_10.rect tLast)).set
    rw [View.set_slice_whole, Rect.mem_set_unit]
    exact fun b => ⟨(org10 b).1.trans_le (Nat.zero_le _), (i b).isLt.trans_eq ((congrArg₂ (· + ·) (org10 b).1 (org10 b).2).trans (zero_add _)).symm⟩

/-- The array of the gradient of the modulation's shift. -/
theorem org11 : ∀ b : Fin 2, win0_11.index tLast b * win0_11.size b = 0 ∧ win0_11.xsize (grid0.coords tLast) b = S1x1024.size b := by decide +kernel

theorem final11 (k : Fin 1024) : ((dats m 0 c).arrAt 11 cfg0.N : Vec Ideal S1x1024 .f32) (ix2 0 k) = ∑ r, dhR m c r k := by
  obtain ⟨n, hn, hn'⟩ : ∃ n, n < cfg0.N ∧ n = 7 := ⟨7, at7, rfl⟩
  obtain ⟨X, hX⟩ : ∃ X, (outsAt0 m c n hn).2.2.2.1 = X := ⟨_, rfl⟩
  have hX' : ∀ l h, l = 7 → (outsAt0 m c l h).2.2.2.1 = X := fun l h e => by
    obtain rfl : l = n := e.trans hn'.symm
    exact hX
  have hv := so_far11 m c k n hn
  rw [hX, hn', upTo_last fun r => dhR m c r k] at hv
  refine (congrFun ((dats m 0 c).arrAt_eq_of_cover 11 X (fun t hf => ?_) fun i => ⟨tLast, (flush0_11 tLast).mpr rfl, ?_⟩) _).trans hv
  · have e := last_of ((flush0_11 t).mp hf)
    rw [flushed11, hX' _ _ e]
    obtain rfl : t = tLast := Fin.ext e
    exact (Memref.read_access_unit_zero (Elt Ideal) main_v1_3 (funext fun b => (org11 b).1) (fun b => by rw [(org11 b).1]; simp) X).symm
  · show i ∈ ((View.whole main_v1_3).slice (win0_11.rect tLast)).set
    rw [View.set_slice_whole, Rect.mem_set_unit]
    exact fun b => ⟨(org11 b).1.trans_le (Nat.zero_le _), (i b).isLt.trans_eq ((congrArg₂ (· + ·) (org11 b).1 (org11 b).2).trans (zero_add _)).symm⟩

/-- The array of the gradient of the gate. -/
theorem org13 : ∀ b : Fin 2, win0_13.index tLast b * win0_13.size b = 0 ∧ win0_13.xsize (grid0.coords tLast) b = S1x1024.size b := by decide +kernel

theorem final13 (k : Fin 1024) : ((dats m 0 c).arrAt 13 cfg0.N : Vec Ideal S1x1024 .f32) (ix2 0 k) = ∑ r, dxR m c r k * yA m c (ix2 r k) := by
  obtain ⟨n, hn, hn'⟩ : ∃ n, n < cfg0.N ∧ n = 7 := ⟨7, at7, rfl⟩
  obtain ⟨X, hX⟩ : ∃ X, (outsAt0 m c n hn).2.2.2.2.2.1 = X := ⟨_, rfl⟩
  have hX' : ∀ l h, l = 7 → (outsAt0 m c l h).2.2.2.2.2.1 = X := fun l h e => by
    obtain rfl : l = n := e.trans hn'.symm
    exact hX
  have hv := so_far13 m c k n hn
  rw [hX, hn', upTo_last fun r => dxR m c r k * yA m c (ix2 r k)] at hv
  refine (congrFun ((dats m 0 c).arrAt_eq_of_cover 13 X (fun t hf => ?_) fun i => ⟨tLast, (flush0_13 tLast).mpr rfl, ?_⟩) _).trans hv
  · have e := last_of ((flush0_13 t).mp hf)
    rw [flushed13, hX' _ _ e]
    obtain rfl : t = tLast := Fin.ext e
    exact (Memref.read_access_unit_zero (Elt Ideal) main_v1_5 (funext fun b => (org13 b).1) (fun b => by rw [(org13 b).1]; simp) X).symm
  · show i ∈ ((View.whole main_v1_5).slice (win0_13.rect tLast)).set
    rw [View.set_slice_whole, Rect.mem_set_unit]
    exact fun b => ⟨(org13 b).1.trans_le (Nat.zero_le _), (i b).isLt.trans_eq ((congrArg₂ (· + ·) (org13 b).1 (org13 b).2).trans (zero_add _)).symm⟩

/-- The array of the gradient of the layer's last bias. -/
theorem org14 : ∀ b : Fin 2, win0_14.index tLast b * win0_14.size b = 0 ∧ win0_14.xsize (grid0.coords tLast) b = S1x1024.size b := by decide +kernel

theorem final14 (k : Fin 1024) : ((dats m 0 c).arrAt 14 cfg0.N : Vec Ideal S1x1024 .f32) (ix2 0 k) = ∑ r, dxR m c r k * gateA m c (ix2 0 k) := by
  obtain ⟨n, hn, hn'⟩ : ∃ n, n < cfg0.N ∧ n = 7 := ⟨7, at7, rfl⟩
  obtain ⟨X, hX⟩ : ∃ X, (outsAt0 m c n hn).2.2.2.2.2.2 = X := ⟨_, rfl⟩
  have hX' : ∀ l h, l = 7 → (outsAt0 m c l h).2.2.2.2.2.2 = X := fun l h e => by
    obtain rfl : l = n := e.trans hn'.symm
    exact hX
  have hv := so_far14 m c k n hn
  rw [hX, hn', upTo_last fun r => dxR m c r k * gateA m c (ix2 0 k)] at hv
  refine (congrFun ((dats m 0 c).arrAt_eq_of_cover 14 X (fun t hf => ?_) fun i => ⟨tLast, (flush0_14 tLast).mpr rfl, ?_⟩) _).trans hv
  · have e := last_of ((flush0_14 t).mp hf)
    rw [flushed14, hX' _ _ e]
    obtain rfl : t = tLast := Fin.ext e
    exact (Memref.read_access_unit_zero (Elt Ideal) main_v1_6 (funext fun b => (org14 b).1) (fun b => by rw [(org14 b).1]; simp) X).symm
  · show i ∈ ((View.whole main_v1_6).slice (win0_14.rect tLast)).set
    rw [View.set_slice_whole, Rect.mem_set_unit]
    exact fun b => ⟨(org14 b).1.trans_le (Nat.zero_le _), (i b).isLt.trans_eq ((congrArg₂ (· + ·) (org14 b).1 (org14 b).2).trans (zero_add _)).symm⟩

section
variable (t : Fin 8) (i k : Fin 1024)

/-- What point `t` leaves of the rows' gradients. -/
theorem outs8 (n : ℕ) (h : n < cfg0.N) (e : n = t.val) : (outsAt0 m c n h).1 (ix2 i k) = dxR m c (row t i) k
    ∧ (outsAt0 m c n h).2.2.2.2.1 (ix2 i k) = dxR m c (row t i) k * gateA m c (ix2 0 k) := by
  subst e
  by_cases h0 : t.val % 8 = 0
  · rw [outs_A m c (ptOf t) h0]
    exact ⟨dx_blk m c t i k, (dyV_apply ..).trans (by rw [dx_blk, blk7])⟩
  · rw [outs_B m c (ptOf t) h0 (Nat.lt_of_le_of_lt (Nat.sub_le _ _) h)]
    exact ⟨dx_blk m c t i k, (dyV_apply ..).trans (by rw [dx_blk, blk7])⟩

/-- The array of the rows' gradients. -/
theorem final8 : ((dats m 0 c).arrAt 8 cfg0.N : Vec Ideal S8192x1024 .f32) (ix2 (row t i) k) = dxR m c (row t i) k := by
  have hb := blocks8 m c (ptOf t) (flush0_8 _)
  rw [flushed8] at hb
  refine Eq.trans ?_ ((congrFun hb (ix2 i k)).trans (outs8 m c t i k _ _ rfl).1)
  rw [View.read_apply]
  exact (congrArg ((dats m 0 c).arrAt 8 cfg0.N) (ix2_ext (at_row (idx _).2.2.2.2.2.2.2.1.1) (whole (idx _).2.2.2.2.2.2.2.1.2))).symm

/-- The array of the gradient of the layer's result. -/
theorem final12 : ((dats m 0 c).arrAt 12 cfg0.N : Vec Ideal S8192x1024 .bf16) (ix2 (row t i) k) = dxR m c (row t i) k * gateA m c (ix2 0 k) := by
  have hb := blocks12 m c (ptOf t) (flush0_12 _)
  rw [flushed12] at hb
  refine Eq.trans ?_ ((congrFun hb (ix2 i k)).trans (outs8 m c t i k _ _ rfl).2)
  rw [View.read_apply]
  exact (congrArg ((dats m 0 c).arrAt 12 cfg0.N) (ix2_ext (at_row (idx _).2.2.2.2.2.2.2.2.1) (whole (idx _).2.2.2.2.2.2.2.2.2))).symm

end

end Cert.Norm.Bwd

end
-- ==== Proof.Norm.BwdRef.lean ====
/-
The derivative of the norm's lines, at an index.
-/
module

public import proofs.«01_k».proof.Proof.Norm.Columns
public import proofs.«01_k».proof.Proof.Gen.NormBwdRefIdeal.Read

@[expose] public section

set_option maxRecDepth 16384

noncomputable section

namespace Cert.Norm.BwdRef

open Cert.NormBwdRefIdeal Cert.NormBwdRefIdeal.Read Idealize.ShloMosaic

variable (x0 : Vec Ideal S8192x1024 .bf16) (x1 : Vec Ideal S8192x1024 .f32) (x2 : Vec Ideal S1024 .f32) (x3 : Vec Ideal S1x1024 .f32)
  (x5 : Vec Ideal S8192x1024 .f32) (x6 : Vec Ideal S8192x1024 .bf16) (x7 : Vec Ideal S1x1024 .f32) (r : Fin 8192) (k : Fin 1024)

/-- The mean square, with the small number added. -/
theorem v6 : val_main_v6 (F := Ideal) x1 (ix2 r 0) = ms (rowOf x1 r) := by
  pointwise [val_main_v6, val_main_v5, val_main_v4, val_main_v3, val_main_v2, val_main_v1, val_main_v0, val_main_cst, val_main_cst_0, val_main_cst_1]
  rw [c_1024, c_eps]
  rfl

theorem v7 : val_main_v7 (F := Ideal) x1 (ix2 r 0) = rstd (rowOf x1 r) := by
  pointwise [val_main_v7]
  rw [v6]
  rfl

theorem v10 : val_main_v10 (F := Ideal) x1 (ix2 r 0) = ((-(1 / 2) : ℝ) : EReal) * Ideal.div (rstd (rowOf x1 r)) (ms (rowOf x1 r)) := by
  pointwise [val_main_v10, val_main_v9, val_main_v8, val_main_cst_2]
  rw [c_neg_half, v6, v7]

/-- The normalised rows. -/
theorem v12 : val_main_v12 (F := Ideal) x1 (ix2 r k) = x1 (ix2 r k) * rstd (rowOf x1 r) := by
  pointwise [val_main_v12, val_main_v11]
  rw [v7]

theorem v15 : val_main_v15 (F := Ideal) x1 x2 (ix2 r k) = x1 (ix2 r k) * rstd (rowOf x1 r) * x2 (ix1 k) := by
  pointwise [val_main_v15, val_main_v14, val_main_v13]
  rw [v12]

/-- The gradients of the norm and of the normalised rows. -/
theorem v29 : val_main_v29 (F := Ideal) x0 x3 (ix2 r k) = dn (rowOf x3 0) (rowOf x0 r) k := by
  pointwise [val_main_v29, val_main_v28, val_main_v22, val_main_v17, val_main_v16, val_main_cst_3]
  rfl

theorem v34 : val_main_v34 (F := Ideal) x0 x2 x3 (ix2 r k) = dy (fun k => x2 (ix1 k)) (rowOf x3 0) (rowOf x0 r) k := by
  pointwise [val_main_v34, val_main_v33, val_main_v13]
  rw [v29]
  rfl

/-- The gradient of the mean square, over the number of columns. -/
theorem v45 : val_main_v45 (F := Ideal) x0 x1 x2 x3 (ix1 r) = dms (rowOf x1 r) (dy (fun k => x2 (ix1 k)) (rowOf x3 0) (rowOf x0 r)) := by
  pointwise [val_main_v45, val_main_v44, val_main_v43, val_main_v42, val_main_v38, val_main_v37, val_main_v36, val_main_cst_8, val_main_cst_9, val_main_cst_10]
  rw [Fin.sum_univ_one, v10, c_1024]
  simp only [v34]
  rfl

/-- The gradient of the rows. -/
theorem v50 : val_main_v50 (F := Ideal) x0 x1 x2 x3 x5 (ix2 r k) = dx (rowOf x1 r) (fun k => x2 (ix1 k)) (rowOf x3 0) (rowOf x0 r) (rowOf x5 r) k := by
  pointwise [val_main_v50, val_main_v49, val_main_v48, val_main_v47, val_main_v46, val_main_v41, val_main_v40, val_main_v39]
  rw [v45, v34, v7]
  unfold dx
  rw [dxn_eq, ← add_assoc, ← add_assoc]

/-- The gradients of the gain, of the modulation's scale and of its shift. -/
theorem v66 : val_main_v66 (F := Ideal) x0 x1 x3 (ix2 0 k) = ∑ r, colG (rowOf x1 r) (rowOf x3 0) (rowOf x0 r) k := by
  pointwise [val_main_v66, val_main_v35, val_main_v32, val_main_v31, val_main_v30, val_main_cst_6, val_main_cst_7]
  rw [Fin.sum_univ_one]
  simp only [v12, v29, mul_comm _ (dn _ _ _)]
  rfl

theorem v27 : val_main_v27 (F := Ideal) x0 x1 x2 (ix2 0 k) = ∑ r, colSc (rowOf x1 r) (fun k => x2 (ix1 k)) (rowOf x0 r) k := by
  pointwise [val_main_v27, val_main_v26, val_main_v25, val_main_v22, val_main_cst_5]
  simp only [v15, mul_comm _ (x0 _)]
  rfl

theorem v24 : val_main_v24 (F := Ideal) x0 (ix2 0 k) = ∑ r, rowOf x0 r k := by
  pointwise [val_main_v24, val_main_v23, val_main_v22, val_main_cst_4]

/-- The gradients of the layer's result, of the gate, and of the layer's last bias. -/
theorem v59 : val_main_v59 (F := Ideal) x0 x1 x2 x3 x5 x7 (ix2 r k) = val_main_v50 (F := Ideal) x0 x1 x2 x3 x5 (ix2 r k) * x7 (ix2 0 k) := by
  pointwise [val_main_v59, val_main_v58]
  exact mul_comm ..

theorem v67 : val_main_v67 (F := Ideal) x0 x1 x2 x3 x5 x7 (ix2 r k) = val_main_v50 (F := Ideal) x0 x1 x2 x3 x5 (ix2 r k) * x7 (ix2 0 k) := by
  pointwise [val_main_v67]
  rw [v59]

theorem v62 : val_main_v62 (F := Ideal) x0 x1 x2 x3 x5 x6 (ix2 0 k) = ∑ r, val_main_v50 (F := Ideal) x0 x1 x2 x3 x5 (ix2 r k) * x6 (ix2 r k) := by
  pointwise [val_main_v62, val_main_v61, val_main_v60, val_main_v55, val_main_v54, val_main_v53, val_main_v52, val_main_v51, val_main_cst_11, val_main_cst_12]

theorem v68 : val_main_v68 (F := Ideal) x0 x1 x2 x3 x5 x7 (ix2 0 k) = ∑ r, val_main_v50 (F := Ideal) x0 x1 x2 x3 x5 (ix2 r k) * x7 (ix2 0 k) := by
  pointwise [val_main_v68, val_main_v65, val_main_v64, val_main_v63, val_main_cst_13, val_main_cst_14]
  rw [Fin.sum_univ_one]
  simp only [v59]

end Cert.Norm.BwdRef

end
-- ==== Proof.Norm.Bwd.lean ====
/-
The norm's backward pass and the derivative of the norm's lines have the same results.
-/
module

public import proofs.«01_k».proof.Defs
public import proofs.«01_k».proof.Proof.Norm.BwdArrays
public import proofs.«01_k».proof.Proof.Norm.BwdRef
public import proofs.«01_k».proof.Proof.Gen.NormBwdRefIdeal.Run

@[expose] public section

set_option maxRecDepth 16384

noncomputable section

namespace Cert.Norm.Bwd

open Cert.NormBwdIdeal Cert.NormBwdIdeal.Gen Idealize.ShloMosaic Idealize.ShloMosaic.TcCoe Idealize.SL.Sem
open Cert.NormBwdRefIdeal.Read

section
variable (m : (ℓ : Loc nD τ sig) → Buf (Elt Ideal) ℓ) (c : Dev nD)

/-- The derivative's results, of the device's arguments, are the kernel's arrays. -/
theorem same :
    val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = (dats m 0 c).arrAt 8 cfg0.N
    ∧ val_main_v66 (F := Ideal) (m ((c : Thread nD τ).loc main_arg0)) (m ((c : Thread nD τ).loc main_arg1)) (m ((c : Thread nD τ).loc main_arg3)) = (dats m 0 c).arrAt 9 cfg0.N
    ∧ val_main_v27 (F := Ideal) (m ((c : Thread nD τ).loc main_arg0)) (m ((c : Thread nD τ).loc main_arg1)) (m ((c : Thread nD τ).loc main_arg2)) = (dats m 0 c).arrAt 10 cfg0.N
    ∧ val_main_v24 (F := Ideal) (m ((c : Thread nD τ).loc main_arg0)) = (dats m 0 c).arrAt 11 cfg0.N
    ∧ val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) = (dats m 0 c).arrAt 12 cfg0.N
    ∧ val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) = (dats m 0 c).arrAt 13 cfg0.N
    ∧ val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) = (dats m 0 c).arrAt 14 cfg0.N :=
  ⟨rows_ext fun t i k => (BwdRef.v50 ..).trans (final8 m c t i k).symm,
    one_ext fun k => (BwdRef.v66 ..).trans (final9 m c k).symm,
    one_ext fun k => (BwdRef.v27 ..).trans (final10 m c k).symm,
    one_ext fun k => (BwdRef.v24 ..).trans (final11 m c k).symm,
    rows_ext fun t i k => (BwdRef.v67 ..).trans ((congrArg (· * _) (BwdRef.v50 ..)).trans (final12 m c t i k).symm),
    one_ext fun k => (BwdRef.v62 ..).trans ((Finset.sum_congr rfl fun r _ => congrArg (· * _) (BwdRef.v50 ..)).trans (final13 m c k).symm),
    one_ext fun k => (BwdRef.v68 ..).trans ((Finset.sum_congr rfl fun r _ => congrArg (· * _) (BwdRef.v50 ..)).trans (final14 m c k).symm)⟩

end

/-- The two programs have the same results. -/
theorem agree : Cert.algebraic_NormBwdIdeal_NormBwdRefIdeal := by
  intro m g m' g' _ hargs
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, fun c => (dats m 0 c).arrAt 13 cfg0.N,
    fun c => (dats m 0 c).arrAt 14 cfg0.N, Cert.NormBwdIdeal.Value.run_blocks m g, ?_⟩
  refine (θ_run _ _ _).mono (fun r h c => ?_) (Cert.NormBwdRefIdeal.Value.run m' g')
  obtain ⟨h0, h1, h2, h3, h4, h5, h6, hk⟩ := h c
  obtain ⟨e0, e1, e2, e3, e4, e5, e6⟩ := same m c
  obtain ⟨q0, q1, q2, q3, -, q5, q6, q7⟩ := hargs c
  rw [← q0, ← q1, ← q2, ← q3, ← q5] at e0
  rw [← q0, ← q1, ← q3] at e1
  rw [← q0, ← q1, ← q2] at e2
  rw [← q0] at e3
  rw [← q0, ← q1, ← q2, ← q3, ← q5, ← q7] at e4 e6
  rw [← q0, ← q1, ← q2, ← q3, ← q5, ← q6] at e5
  exact ⟨h0.trans ((val_main_v50_eq m' c).trans e0), h1.trans ((val_main_v66_eq _ _ _).trans e1), h2.trans ((val_main_v27_eq _ _ _).trans e2),
    h3.trans ((val_main_v24_eq _).trans e3), h4.trans ((val_main_v67_eq m' c).trans e4), h5.trans ((val_main_v62_eq m' c).trans e5),
    h6.trans ((val_main_v68_eq m' c).trans e6), hk⟩

/-- The reference leaves its arguments as they were, and it has no counters. -/
theorem reference_frame : Cert.quiescent_NormBwdRefIdeal := fun m g _ =>
  (θ_run _ _ _).mono (fun r h => And.intro (fun c : Dev Cert.NormBwdRefIdeal.nD => (h c).2.2.2.2.2.2.2) (sem_eq_zero_of_no_sems (by decide) r.2))
    (Cert.NormBwdRefIdeal.Value.run (F := Ideal) m g)

end Cert.Norm.Bwd

end
-- ==== Proof.Norm.FirstBwdOut.lean ====
/-
What each point of the first norm's backward pass leaves.  It is the pass of the other norms without the gradients of a
layer before it, so what is known of that pass's blocks is used again.
-/
module

public import proofs.«01_k».proof.Proof.Norm.BwdBlock
public import proofs.«01_k».proof.Proof.Products.Blocks
public import proofs.«01_k».proof.Proof.Gen.FirstNormBwdIdeal.Value

@[expose] public section

set_option maxRecDepth 16384

noncomputable section

namespace Cert.Norm.FirstBwd

open Cert.FirstNormBwdIdeal Cert.FirstNormBwdIdeal.Gen Cert.FirstNormBwdIdeal.Value Cert.Products Idealize.ShloMosaic Idealize.ShloMosaic.TcCoe Idealize.SL.Sem

variable (m : (ℓ : Loc nD τ sig) → Buf (Elt Ideal) ℓ) (c : Dev nD)

/-- What the body makes of the blocks and of the sums so far. -/
abbrev step (x0 : Vec Ideal S1024x1024 .bf16) (x1 : Vec Ideal S1024x1024 .f32) (x2 x3 : Vec Ideal S1x1024 .f32)
    (x5 : Vec Ideal S1024x1024 .f32) (a7 a8 a9 : Vec Ideal S1x1024 .f32) :
    Vec Ideal S1024x1024 .f32 × Vec Ideal S1x1024 .f32 × Vec Ideal S1x1024 .f32 × Vec Ideal S1x1024 .f32 :=
  (dxV x0 x1 x2 x3 x5,
    Cert.NormBwdIdeal.Gen.k0_pay15 (Cert.NormBwdIdeal.Gen.k0_pay8 x0) (Cert.NormBwdIdeal.Gen.k0_pay11 x1) x3 a7,
    Cert.NormBwdIdeal.Gen.k0_pay13 x0 x1 x2 a8,
    Cert.NormBwdIdeal.Gen.k0_pay12 x0 a9)

theorem outs_A (t : Fin cfg0.N) (h : t.val % 8 = 0) : outsAt0 m c t.val t.isLt
    = step (iblk m c 0 t) (iblk m c 1 t) (iblk m c 2 t) (iblk m c 3 t) (iblk m c 5 t) (Cert.NormBwdIdeal.Gen.k0_pay3 (F := Ideal)) (Cert.NormBwdIdeal.Gen.k0_pay3 (F := Ideal)) (Cert.NormBwdIdeal.Gen.k0_pay3 (F := Ideal)) := by
  rw [outsAt0_A m c t h]
  refine Prod.ext ?_ (Prod.ext ?_ (Prod.ext ?_ ?_))
  all_goals dsimp only
  on_goal 1 => unfold out0_A_6; rw [View.read_writes_eq_canon _ _ _ fun y => cover0_A_6 (y := y) ..]
  on_goal 2 => unfold out0_A_7; rw [View.read_writes_eq_canon _ _ _ fun y => cover0_A_7 (y := y) ..]
  on_goal 3 => unfold out0_A_8; rw [View.read_writes_eq_canon _ _ _ fun y => cover0_A_8 (y := y) ..]
  on_goal 4 => unfold out0_A_9; rw [View.read_writes_eq_canon _ _ _ fun y => cover0_A_9 (y := y) ..]
  all_goals unfold kernelRun0_A
  all_goals dsimp only
  all_goals sl_unfold_words
  all_goals simp only [View.canon_unit_zero (S := S1024x1024) hz, View.canon_cons_unit_zero (S := S1x1024) hz,
    View.readCov_unit_zero (S := S1x1024) _ hz, View.ld_unit_zero (S := S1024x1024) hz, View.ld_unit_zero (S := S1x1024) hz, View.readAt_eq_ld,
    (hs0_0 t).read_unread, (hs0_1 t).read_unread, (hs0_2 t).read_unread, (hs0_3 t).read_unread, (hs0_5 t).read_unread]
  all_goals rfl

theorem outs_B (t : Fin cfg0.N) (h : ¬ t.val % 8 = 0) (p : t.val - 1 < cfg0.N) : outsAt0 m c t.val t.isLt
    = step (iblk m c 0 t) (iblk m c 1 t) (iblk m c 2 t) (iblk m c 3 t) (iblk m c 5 t)
        (outsAt0 m c (t.val - 1) p).2.1 (outsAt0 m c (t.val - 1) p).2.2.1 (outsAt0 m c (t.val - 1) p).2.2.2 := by
  rw [outsAt0_B m c t h]
  refine Prod.ext ?_ (Prod.ext ?_ (Prod.ext ?_ ?_))
  all_goals dsimp only
  on_goal 1 => unfold out0_B_6; rw [View.read_writes_eq_canon _ _ _ fun y => cover0_B_6 (y := y) ..]
  on_goal 2 => unfold out0_B_7; rw [View.read_writes_eq_canon _ _ _ fun y => cover0_B_7 (y := y) ..]
  on_goal 3 => unfold out0_B_8; rw [View.read_writes_eq_canon _ _ _ fun y => cover0_B_8 (y := y) ..]
  on_goal 4 => unfold out0_B_9; rw [View.read_writes_eq_canon _ _ _ fun y => cover0_B_9 (y := y) ..]
  all_goals unfold kernelRun0_B
  all_goals dsimp only
  all_goals sl_unfold_words
  all_goals simp only [View.canon_unit_zero (S := S1024x1024) hz, View.canon_unit_zero (S := S1x1024) hz,
    View.ld_unit_zero (S := S1024x1024) hz, View.ld_unit_zero (S := S1x1024) hz, View.readAt_eq_ld,
    (hs0_0 t).read_unread, (hs0_1 t).read_unread, (hs0_2 t).read_unread, (hs0_3 t).read_unread, (hs0_5 t).read_unread,
    (hs0_7 t).read_unread, (hs0_8 t).read_unread, (hs0_9 t).read_unread]
  all_goals rfl

/-- Where the blocks lie: the matrices' at row `1024 t`, the vectors' at zero. -/
theorem idx : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_5.index t 0 = t.val ∧ win0_5.index t 1 = 0)
    ∧ (win0_6.index t 0 = t.val ∧ win0_6.index t 1 = 0) :=
  (by decide +kernel : ∀ t : Fin grid0.N, _)

/-- The arguments. -/
abbrev dhA : Vec Ideal S8192x1024 .bf16 := m ((c : Thread nD τ).loc main_arg0)
abbrev xA : Vec Ideal S8192x1024 .f32 := m ((c : Thread nD τ).loc main_arg1)
abbrev gA : Vec Ideal S1024 .f32 := m ((c : Thread nD τ).loc main_arg2)
abbrev scA : Vec Ideal S1x1024 .f32 := m ((c : Thread nD τ).loc main_arg3)
abbrev upA : Vec Ideal S8192x1024 .f32 := m ((c : Thread nD τ).loc main_arg5)

/-- The point of a block of rows. -/
abbrev ptOf (t : Fin 8) : Fin cfg0.N := ⟨t.val, t.isLt.trans_eq N_0.symm⟩

section
variable (t : Fin 8) (i k : Fin 1024)

theorem blk0 : (iblk m c 0 (ptOf t) : Vec Ideal S1024x1024 .bf16) (ix2 i k) = dhA m c (ix2 (row t i) k) :=
  (View.read_apply ..).trans ((congrFun (V_main_arg0 m c) _).trans (congrArg (dhA m c) (ix2_ext (at_row (idx _).1.1) (whole (idx _).1.2))))

theorem blk1 : (iblk m c 1 (ptOf t) : Vec Ideal S1024x1024 .f32) (ix2 i k) = xA m c (ix2 (row t i) k) :=
  (View.read_apply ..).trans ((congrFun (V_main_arg1 m c) _).trans (congrArg (xA m c) (ix2_ext (at_row (idx _).2.1.1) (whole (idx _).2.1.2))))

/-- The call receives the gain laid in one row. -/
theorem gain_row : (Gen.V m c main_v0 : Vec Ideal S1x1024 .f32) (ix2 0 k) = gA m c (ix1 k) := by
  show (shapeCast S1x1024 (gA m c) shapeCasts_S1024_S1x1024) (ix2 0 k) = _
  exact ValueIdx.shapeCast_a_1a_apply ..

theorem blk2 : (iblk m c 2 (ptOf t) : Vec Ideal S1x1024 .f32) (ix2 0 k) = gA m c (ix1 k) :=
  (View.read_apply ..).trans ((congrArg (Gen.V m c main_v0) (ix2_ext (s := k) (whole (idx _).2.2.1.1) (whole (idx _).2.2.1.2))).trans (gain_row m c k))

theorem blk3 : (iblk m c 3 (ptOf t) : Vec Ideal S1x1024 .f32) (ix2 0 k) = scA m c (ix2 0 k) :=
  (View.read_apply ..).trans ((congrFun (V_main_arg3 m c) _).trans (congrArg (scA m c) (ix2_ext (whole (idx _).2.2.2.1.1) (whole (idx _).2.2.2.1.2))))

theorem blk5 : (iblk m c 5 (ptOf t) : Vec Ideal S1024x1024 .f32) (ix2 i k) = upA m c (ix2 (row t i) k) :=
  (View.read_apply ..).trans ((congrFun (V_main_arg5 m c) _).trans (congrArg (upA m c) (ix2_ext (at_row (idx _).2.2.2.2.1.1) (whole (idx _).2.2.2.2.1.2))))

end

end Cert.Norm.FirstBwd

end
-- ==== Proof.Norm.FirstBwdArrays.lean ====
/-
The result arrays of the first norm's backward pass: the gradients of the rows, and the sums over all rows.
-/
module

public import proofs.«01_k».proof.Proof.Norm.FirstBwdOut

@[expose] public section

set_option maxRecDepth 16384

noncomputable section

namespace Cert.Norm.FirstBwd

open Cert.FirstNormBwdIdeal Cert.FirstNormBwdIdeal.Gen Cert.FirstNormBwdIdeal.Value Cert.Products Idealize.ShloMosaic Idealize.ShloMosaic.TcCoe Idealize.SL.Sem

variable (m : (ℓ : Loc nD τ sig) → Buf (Elt Ideal) ℓ) (c : Dev nD)

/-- The rows of the arguments, and the vectors. -/
abbrev dhR (r : Fin 8192) : Fin 1024 → EReal := rowOf (dhA m c) r
abbrev xR (r : Fin 8192) : Fin 1024 → EReal := rowOf (xA m c) r
abbrev upR (r : Fin 8192) : Fin 1024 → EReal := rowOf (upA m c) r
abbrev gR : Fin 1024 → EReal := fun k => gA m c (ix1 k)
abbrev scR : Fin 1024 → EReal := rowOf (scA m c) 0
/-- The gradient of row `r`. -/
abbrev dxR (r : Fin 8192) : Fin 1024 → EReal := dx (xR m c r) (gR m c) (scR m c) (dhR m c r) (upR m c r)

section
variable (t : Fin 8) (i k : Fin 1024) (a : Vec Ideal S1x1024 .f32)

theorem row0 : rowOf (iblk m c 0 (ptOf t)) i = dhR m c (row t i) := funext (blk0 m c t i)
theorem row1 : rowOf (iblk m c 1 (ptOf t)) i = xR m c (row t i) := funext (blk1 m c t i)
theorem row2 : rowOf (iblk m c 2 (ptOf t)) 0 = gR m c := funext (blk2 m c t)
theorem row3 : rowOf (iblk m c 3 (ptOf t)) 0 = scR m c := funext (blk3 m c t)
theorem row5 : rowOf (iblk m c 5 (ptOf t)) i = upR m c (row t i) := funext (blk5 m c t i)

/-- The gradient of the rows, of the blocks of point `t`. -/
theorem dx_blk : dxV (iblk m c 0 (ptOf t)) (iblk m c 1 (ptOf t)) (iblk m c 2 (ptOf t)) (iblk m c 3 (ptOf t)) (iblk m c 5 (ptOf t)) (ix2 i k) = dxR m c (row t i) k := by
  rw [dxV_apply, row0, row1, row2, row3, row5]

/-- What point `t` adds to each of the three sums. -/
theorem add7 : Cert.NormBwdIdeal.Gen.k0_pay15 (Cert.NormBwdIdeal.Gen.k0_pay8 (iblk m c 0 (ptOf t))) (Cert.NormBwdIdeal.Gen.k0_pay11 (iblk m c 1 (ptOf t))) (iblk m c 3 (ptOf t)) a (ix2 0 k)
    = a (ix2 0 k) + ∑ i, colG (xR m c (row t i)) (scR m c) (dhR m c (row t i)) k := by
  rw [pay15_apply]
  exact congrArg _ (Finset.sum_congr rfl fun i _ => by rw [row0, row1, row3])

theorem add8 : Cert.NormBwdIdeal.Gen.k0_pay13 (iblk m c 0 (ptOf t)) (iblk m c 1 (ptOf t)) (iblk m c 2 (ptOf t)) a (ix2 0 k)
    = a (ix2 0 k) + ∑ i, colSc (xR m c (row t i)) (gR m c) (dhR m c (row t i)) k := by
  rw [pay13_apply]
  exact congrArg _ (Finset.sum_congr rfl fun i _ => by rw [row0, row1, row2])

theorem add9 : Cert.NormBwdIdeal.Gen.k0_pay12 (iblk m c 0 (ptOf t)) a (ix2 0 k) = a (ix2 0 k) + ∑ i, dhR m c (row t i) k := by
  rw [pay12_apply]
  exact congrArg _ (Finset.sum_congr rfl fun i _ => blk0 m c t i k)

end

/-- A point after the first is no multiple of eight. -/
theorem later {n : ℕ} (h : n + 1 < cfg0.N) : ¬ (⟨n + 1, h⟩ : Fin cfg0.N).val % 8 = 0 := by
  have := h.trans_eq N_0
  show ¬ (n + 1) % 8 = 0
  omega

/-- The gradient of the gain, summed so far. -/
theorem so_far7 (k : Fin 1024) : ∀ n h, (outsAt0 m c n h).2.1 (ix2 0 k) = upTo (fun t => ∑ i, (fun r => colG (xR m c r) (scR m c) (dhR m c r) k) (row t i)) n :=
  eq_upTo N_0 (fun h => (congrArg (fun p => p.2.1 (ix2 0 k)) (outs_A m c ⟨0, h⟩ rfl)).trans ((add7 m c 0 k _).trans ((congrArg (· + _) (zero_apply k)).trans (zero_add _))))
    fun n h => (congrArg (fun p => p.2.1 (ix2 0 k)) (outs_B m c ⟨n + 1, h⟩ (later h) (Nat.lt_of_succ_lt h))).trans (add7 m c ⟨n + 1, h.trans_eq N_0⟩ k _)

/-- The gradient of the modulation's scale, summed so far. -/
theorem so_far8 (k : Fin 1024) : ∀ n h, (outsAt0 m c n h).2.2.1 (ix2 0 k) = upTo (fun t => ∑ i, (fun r => colSc (xR m c r) (gR m c) (dhR m c r) k) (row t i)) n :=
  eq_upTo N_0 (fun h => (congrArg (fun p => p.2.2.1 (ix2 0 k)) (outs_A m c ⟨0, h⟩ rfl)).trans ((add8 m c 0 k _).trans ((congrArg (· + _) (zero_apply k)).trans (zero_add _))))
    fun n h => (congrArg (fun p => p.2.2.1 (ix2 0 k)) (outs_B m c ⟨n + 1, h⟩ (later h) (Nat.lt_of_succ_lt h))).trans (add8 m c ⟨n + 1, h.trans_eq N_0⟩ k _)

/-- The gradient of the modulation's shift, summed so far. -/
theorem so_far9 (k : Fin 1024) : ∀ n h, (outsAt0 m c n h).2.2.2 (ix2 0 k) = upTo (fun t => ∑ i, (fun r => dhR m c r k) (row t i)) n :=
  eq_upTo N_0 (fun h => (congrArg (fun p => p.2.2.2 (ix2 0 k)) (outs_A m c ⟨0, h⟩ rfl)).trans ((add9 m c 0 k _).trans ((congrArg (· + _) (zero_apply k)).trans (zero_add _))))
    fun n h => (congrArg (fun p => p.2.2.2 (ix2 0 k)) (outs_B m c ⟨n + 1, h⟩ (later h) (Nat.lt_of_succ_lt h))).trans (add9 m c ⟨n + 1, h.trans_eq N_0⟩ k _)

/-- The last point of the grid. -/
theorem at7 : 7 < cfg0.N := lt_of_lt_of_eq (by norm_num) N_0.symm
abbrev tLast : Fin cfg0.N := ⟨7, at7⟩

/-- Only the last point writes back. -/
theorem last_of {t : Fin cfg0.N} (h : t.val % 8 = 7) : t.val = 7 := by have := t.isLt.trans_eq N_0; omega

/-- The array of the gradient of the gain. -/
theorem org7 : ∀ b : Fin 2, win0_7.index tLast b * win0_7.size b = 0 ∧ win0_7.xsize (grid0.coords tLast) b = S1x1024.size b := by decide +kernel

theorem final7 (k : Fin 1024) : ((dats m 0 c).arrAt 7 cfg0.N : Vec Ideal S1x1024 .f32) (ix2 0 k) = ∑ r, colG (xR m c r) (scR m c) (dhR m c r) k := by
  obtain ⟨n, hn, hn'⟩ : ∃ n, n < cfg0.N ∧ n = 7 := ⟨7, at7, rfl⟩
  obtain ⟨X, hX⟩ : ∃ X, (outsAt0 m c n hn).2.1 = X := ⟨_, rfl⟩
  have hX' : ∀ l h, l = 7 → (outsAt0 m c l h).2.1 = X := fun l h e => by
    obtain rfl : l = n := e.trans hn'.symm
    exact hX
  have hv := so_far7 m c k n hn
  rw [hX, hn', upTo_last fun r => colG (xR m c r) (scR m c) (dhR m c r) k] at hv
  refine (congrFun ((dats m 0 c).arrAt_eq_of_cover 7 X (fun t hf => ?_) fun i => ⟨tLast, (flush0_7 tLast).mpr rfl, ?_⟩) _).trans hv
  · have e := last_of ((flush0_7 t).mp hf)
    rw [flushed7, hX' _ _ e]
    obtain rfl : t = tLast := Fin.ext e
    exact (Memref.read_access_unit_zero (Elt Ideal) main_v1_1 (funext fun b => (org7 b).1) (fun b => by rw [(org7 b).1]; simp) X).symm
  · show i ∈ ((View.whole main_v1_1).slice (win0_7.rect tLast)).set
    rw [View.set_slice_whole, Rect.mem_set_unit]
    exact fun b => ⟨(org7 b).1.trans_le (Nat.zero_le _), (i b).isLt.trans_eq ((congrArg₂ (· + ·) (org7 b).1 (org7 b).2).trans (zero_add _)).symm⟩

/-- The array of the gradient of the modulation's scale. -/
theorem org8 : ∀ b : Fin 2, win0_8.index tLast b * win0_8.size b = 0 ∧ win0_8.xsize (grid0.coords tLast) b = S1x1024.size b := by decide +kernel

theorem final8 (k : Fin 1024) : ((dats m 0 c).arrAt 8 cfg0.N : Vec Ideal S1x1024 .f32) (ix2 0 k) = ∑ r, colSc (xR m c r) (gR m c) (dhR m c r) k := by
  obtain ⟨n, hn, hn'⟩ : ∃ n, n < cfg0.N ∧ n = 7 := ⟨7, at7, rfl⟩
  obtain ⟨X, hX⟩ : ∃ X, (outsAt0 m c n hn).2.2.1 = X := ⟨_, rfl⟩
  have hX' : ∀ l h, l = 7 → (outsAt0 m c l h).2.2.1 = X := fun l h e => by
    obtain rfl : l = n := e.trans hn'.symm
    exact hX
  have hv := so_far8 m c k n hn
  rw [hX, hn', upTo_last fun r => colSc (xR m c r) (gR m c) (dhR m c r) k] at hv
  refine (congrFun ((dats m 0 c).arrAt_eq_of_cover 8 X (fun t hf => ?_) fun i => ⟨tLast, (flush0_8 tLast).mpr rfl, ?_⟩) _).trans hv
  · have e := last_of ((flush0_8 t).mp hf)
    rw [flushed8, hX' _ _ e]
    obtain rfl : t = tLast := Fin.ext e
    exact (Memref.read_access_unit_zero (Elt Ideal) main_v1_2 (funext fun b => (org8 b).1) (fun b => by rw [(org8 b).1]; simp) X).symm
  · show i ∈ ((View.whole main_v1_2).slice (win0_8.rect tLast)).set
    rw [View.set_slice_whole, Rect.mem_set_unit]
    exact fun b => ⟨(org8 b).1.trans_le (Nat.zero_le _), (i b).isLt.trans_eq ((congrArg₂ (· + ·) (org8 b).1 (org8 b).2).trans (zero_add _)).symm⟩

/-- The array of the gradient of the modulation's shift. -/
theorem org9 : ∀ b : Fin 2, win0_9.index tLast b * win0_9.size b = 0 ∧ win0_9.xsize (grid0.coords tLast) b = S1x1024.size b := by decide +kernel

theorem final9 (k : Fin 1024) : ((dats m 0 c).arrAt 9 cfg0.N : Vec Ideal S1x1024 .f32) (ix2 0 k) = ∑ r, dhR m c r k := by
  obtain ⟨n, hn, hn'⟩ : ∃ n, n < cfg0.N ∧ n = 7 := ⟨7, at7, rfl⟩
  obtain ⟨X, hX⟩ : ∃ X, (outsAt0 m c n hn).2.2.2 = X := ⟨_, rfl⟩
  have hX' : ∀ l h, l = 7 → (outsAt0 m c l h).2.2.2 = X := fun l h e => by
    obtain rfl : l = n := e.trans hn'.symm
    exact hX
  have hv := so_far9 m c k n hn
  rw [hX, hn', upTo_last fun r => dhR m c r k] at hv
  refine (congrFun ((dats m 0 c).arrAt_eq_of_cover 9 X (fun t hf => ?_) fun i => ⟨tLast, (flush0_9 tLast).mpr rfl, ?_⟩) _).trans hv
  · have e := last_of ((flush0_9 t).mp hf)
    rw [flushed9, hX' _ _ e]
    obtain rfl : t = tLast := Fin.ext e
    exact (Memref.read_access_unit_zero (Elt Ideal) main_v1_3 (funext fun b => (org9 b).1) (fun b => by rw [(org9 b).1]; simp) X).symm
  · show i ∈ ((View.whole main_v1_3).slice (win0_9.rect tLast)).set
    rw [View.set_slice_whole, Rect.mem_set_unit]
    exact fun b => ⟨(org9 b).1.trans_le (Nat.zero_le _), (i b).isLt.trans_eq ((congrArg₂ (· + ·) (org9 b).1 (org9 b).2).trans (zero_add _)).symm⟩

section
variable (t : Fin 8) (i k : Fin 1024)

/-- What point `t` leaves of the rows' gradients. -/
theorem outs6 (n : ℕ) (h : n < cfg0.N) (e : n = t.val) : (outsAt0 m c n h).1 (ix2 i k) = dxR m c (row t i) k := by
  subst e
  by_cases h0 : t.val % 8 = 0
  · rw [outs_A m c (ptOf t) h0]
    exact dx_blk m c t i k
  · rw [outs_B m c (ptOf t) h0 (Nat.lt_of_le_of_lt (Nat.sub_le _ _) h)]
    exact dx_blk m c t i k

/-- The array of the rows' gradients. -/
theorem final6 : ((dats m 0 c).arrAt 6 cfg0.N : Vec Ideal S8192x1024 .f32) (ix2 (row t i) k) = dxR m c (row t i) k := by
  have hb := blocks6 m c (ptOf t) (flush0_6 _)
  rw [flushed6] at hb
  refine Eq.trans ?_ ((congrFun hb (ix2 i k)).trans (outs6 m c t i k _ _ rfl))
  rw [View.read_apply]
  exact (congrArg ((dats m 0 c).arrAt 6 cfg0.N) (ix2_ext (at_row (idx _).2.2.2.2.2.1) (whole (idx _).2.2.2.2.2.2))).symm

end

end Cert.Norm.FirstBwd

end
-- ==== Proof.Norm.FirstBwd.lean ====
/-
The first norm's backward pass and the derivative of the norm's lines have the same results.
-/
module

public import proofs.«01_k».proof.Defs
public import proofs.«01_k».proof.Proof.Norm.FirstBwdArrays
public import proofs.«01_k».proof.Proof.Norm.BwdRef
public import proofs.«01_k».proof.Proof.Gen.FirstNormBwdRefIdeal.Run
public import proofs.«01_k».proof.Proof.Gen.FirstNormBwdRefIdeal.Read

@[expose] public section

set_option maxRecDepth 16384

noncomputable section

namespace Cert.Norm.FirstBwd

open Cert.FirstNormBwdIdeal Cert.FirstNormBwdIdeal.Gen Idealize.ShloMosaic Idealize.ShloMosaic.TcCoe Idealize.SL.Sem
open Cert.FirstNormBwdRefIdeal.Read

section
variable (m : (ℓ : Loc nD τ sig) → Buf (Elt Ideal) ℓ) (c : Dev nD)

/-- The derivative's results, of the device's arguments, are the kernel's arrays. -/
theorem same :
    val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = (dats m 0 c).arrAt 6 cfg0.N
    ∧ val_main_v51 (F := Ideal) (m ((c : Thread nD τ).loc main_arg0)) (m ((c : Thread nD τ).loc main_arg1)) (m ((c : Thread nD τ).loc main_arg3)) = (dats m 0 c).arrAt 7 cfg0.N
    ∧ val_main_v27 (F := Ideal) (m ((c : Thread nD τ).loc main_arg0)) (m ((c : Thread nD τ).loc main_arg1)) (m ((c : Thread nD τ).loc main_arg2)) = (dats m 0 c).arrAt 8 cfg0.N
    ∧ val_main_v24 (F := Ideal) (m ((c : Thread nD τ).loc main_arg0)) = (dats m 0 c).arrAt 9 cfg0.N :=
  ⟨rows_ext fun t i k => (BwdRef.v50 ..).trans (final6 m c t i k).symm,
    one_ext fun k => (BwdRef.v66 ..).trans (final7 m c k).symm,
    one_ext fun k => (BwdRef.v27 ..).trans (final8 m c k).symm,
    one_ext fun k => (BwdRef.v24 ..).trans (final9 m c k).symm⟩

end

/-- The two programs have the same results. -/
theorem agree : Cert.algebraic_FirstNormBwdIdeal_FirstNormBwdRefIdeal := by
  intro m g m' g' _ hargs
  refine ⟨fun c => (dats m 0 c).arrAt 6 cfg0.N, fun c => (dats m 0 c).arrAt 7 cfg0.N, fun c => (dats m 0 c).arrAt 8 cfg0.N,
    fun c => (dats m 0 c).arrAt 9 cfg0.N, Cert.FirstNormBwdIdeal.Value.run_blocks m g, ?_⟩
  refine (θ_run _ _ _).mono (fun r h c => ?_) (Cert.FirstNormBwdRefIdeal.Value.run m' g')
  obtain ⟨h0, h1, h2, h3, hk⟩ := h c
  obtain ⟨e0, e1, e2, e3⟩ := same m c
  obtain ⟨q0, q1, q2, q3, -, q5⟩ := hargs c
  rw [← q0, ← q1, ← q2, ← q3, ← q5] at e0
  rw [← q0, ← q1, ← q3] at e1
  rw [← q0, ← q1, ← q2] at e2
  rw [← q0] at e3
  exact ⟨h0.trans ((val_main_v50_eq m' c).trans e0), h1.trans ((val_main_v51_eq _ _ _).trans e1), h2.trans ((val_main_v27_eq _ _ _).trans e2),
    h3.trans ((val_main_v24_eq _).trans e3), hk⟩

/-- The reference leaves its arguments as they were, and it has no counters. -/
theorem reference_frame : Cert.quiescent_FirstNormBwdRefIdeal := fun m g _ =>
  (θ_run _ _ _).mono (fun r h => And.intro (fun c : Dev Cert.FirstNormBwdRefIdeal.nD => (h c).2.2.2.2) (sem_eq_zero_of_no_sems (by decide) r.2))
    (Cert.FirstNormBwdRefIdeal.Value.run (F := Ideal) m g)

end Cert.Norm.FirstBwd

end
-- ==== Proof.Norm.Fwd.lean ====
/-
The norm's forward pass: the layer's result is added to the rows, behind a gate, and the sum is normalised.
-/
module

public import proofs.«01_k».proof.Defs
public import proofs.«01_k».proof.Proof.Norm.Columns
public import proofs.«01_k».proof.Proof.Gen.NormFwdIdeal.Value
public import proofs.«01_k».proof.Proof.Gen.NormFwdRefIdeal.Run
public import proofs.«01_k».proof.Proof.Gen.NormFwdRefIdeal.Read

@[expose] public section

set_option maxRecDepth 16384

noncomputable section

namespace Cert.Norm.Fwd

open Cert.NormFwdIdeal Cert.NormFwdIdeal.Gen Cert.NormFwdIdeal.Value Cert.Products Idealize.ShloMosaic Idealize.ShloMosaic.TcCoe Idealize.SL.Sem

/-- A row with the layer's result added. -/
abbrev added (x y gate : Fin 1024 → EReal) (k : Fin 1024) : EReal := x k + gate k * y k

section
variable (x0 : Vec Ideal S1024x1024 .f32) (x1 : Vec Ideal S1024x1024 .bf16) (x2 x3 x4 x5 : Vec Ideal S1x1024 .f32) (r k : Fin 1024)

/-- What the body makes of the blocks: the new rows, and their modulated norm. -/
theorem out6_apply : out0_6 (F := Ideal) x0 x1 x2 x3 x4 x5 (ix2 r k) = added (rowOf x0 r) (rowOf x1 r) (rowOf x2 0) k := by
  unfold out0_6
  rw [View.canon_unit_zero (S := S1024x1024) hz, View.ld_unit_zero (S := S1024x1024) hz, View.ld_unit_zero (S := S1x1024) hz, View.ld_unit_zero (S := S1024x1024) hz]
  pointwise [k0_pay1]

theorem out7_apply : out0_7 (F := Ideal) x0 x1 x2 x3 x4 x5 (ix2 r k)
    = out (added (rowOf x0 r) (rowOf x1 r) (rowOf x2 0)) (rowOf x3 0) (rowOf x4 0) (rowOf x5 0) k := by
  unfold out0_7
  simp only [View.canon_unit_zero (S := S1024x1024) hz, View.ld_unit_zero (S := S1024x1024) hz, View.ld_unit_zero (S := S1x1024) hz]
  pointwise [k0_pay2, k0_pay1]
  rw [c_1024, c_eps]
  rfl

end

section
variable (x0 : Vec Ideal S8192x1024 .f32) (x1 : Vec Ideal S1024 .f32) (x2 x3 : Vec Ideal S1x1024 .f32) (x4 : Vec Ideal S8192x1024 .bf16)
  (x5 : Vec Ideal S1x1024 .f32) (r : Fin 8192) (k : Fin 1024)

open Cert.NormFwdRefIdeal.Read

/-- The reference's new rows, and their modulated norm. -/
theorem v3 : val_main_v3 (F := Ideal) x0 x4 x5 (ix2 r k) = added (rowOf x0 r) (rowOf x4 r) (rowOf x5 0) k := by
  pointwise [val_main_v3, val_main_v2, val_main_v1, val_main_v0]

theorem v11 : val_main_v11 (F := Ideal) x0 x4 x5 (ix2 r 0) = rstd (added (rowOf x0 r) (rowOf x4 r) (rowOf x5 0)) := by
  pointwise [val_main_v11, val_main_v10, val_main_v9, val_main_v8, val_main_v7, val_main_v6, val_main_v5, val_main_v4, val_main_cst, val_main_cst_0, val_main_cst_1]
  simp only [v3]
  rw [c_1024, c_eps]
  rfl

theorem v23 : val_main_v23 (F := Ideal) x0 x1 x2 x3 x4 x5 (ix2 r k)
    = out (added (rowOf x0 r) (rowOf x4 r) (rowOf x5 0)) (fun k => x1 (ix1 k)) (rowOf x2 0) (rowOf x3 0) k := by
  pointwise [val_main_v23, val_main_v22, val_main_v21, val_main_v20, val_main_v19, val_main_v18, val_main_v17, val_main_v16, val_main_v15, val_main_v14, val_main_v13, val_main_v12, val_main_cst_2]
  rw [v3, v11]
  rfl

end

variable (m : (ℓ : Loc nD τ sig) → Buf (Elt Ideal) ℓ) (c : Dev nD)

/-- Where the blocks lie. -/
theorem idx : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0) :=
  (by decide +kernel : ∀ t : Fin grid0.N, _)

/-- The arguments. -/
abbrev xA : Vec Ideal S8192x1024 .f32 := m ((c : Thread nD τ).loc main_arg0)
abbrev gA : Vec Ideal S1024 .f32 := m ((c : Thread nD τ).loc main_arg1)
abbrev scA : Vec Ideal S1x1024 .f32 := m ((c : Thread nD τ).loc main_arg2)
abbrev shA : Vec Ideal S1x1024 .f32 := m ((c : Thread nD τ).loc main_arg3)
abbrev yA : Vec Ideal S8192x1024 .bf16 := m ((c : Thread nD τ).loc main_arg4)
abbrev gateA : Vec Ideal S1x1024 .f32 := m ((c : Thread nD τ).loc main_arg5)

/-- The point of a block of rows. -/
abbrev ptOf (t : Fin 8) : Fin cfg0.N := ⟨t.val, t.isLt.trans_eq N_0.symm⟩

section
variable (t : Fin 8) (i : Fin 1024)

theorem row0 : rowOf (iblk m c 0 (ptOf t)) i = rowOf (xA m c) (row t i) := funext fun _ =>
  (View.read_apply ..).trans ((congrFun (V_main_arg0 m c) _).trans (congrArg (xA m c) (ix2_ext (at_row (idx _).1.1) (whole (idx _).1.2))))

theorem row1 : rowOf (iblk m c 1 (ptOf t)) i = rowOf (yA m c) (row t i) := funext fun _ =>
  (View.read_apply ..).trans ((congrFun (V_main_arg4 m c) _).trans (congrArg (yA m c) (ix2_ext (at_row (idx _).2.1.1) (whole (idx _).2.1.2))))

theorem row2 : rowOf (iblk m c 2 (ptOf t)) 0 = rowOf (gateA m c) 0 := funext fun _ =>
  (View.read_apply ..).trans ((congrFun (V_main_arg5 m c) _).trans (congrArg (gateA m c) (ix2_ext (whole (idx _).2.2.1.1) (whole (idx _).2.2.1.2))))

/-- The call receives the gain laid in one row. -/
theorem gain_row (k : Fin 1024) : (Gen.V m c main_v0 : Vec Ideal S1x1024 .f32) (ix2 0 k) = gA m c (ix1 k) := by
  show (shapeCast S1x1024 (gA m c) shapeCasts_S1024_S1x1024) (ix2 0 k) = _
  exact ValueIdx.shapeCast_a_1a_apply ..

theorem row3 : rowOf (iblk m c 3 (ptOf t)) 0 = fun k => gA m c (ix1 k) := funext fun k =>
  (View.read_apply ..).trans ((congrArg (Gen.V m c main_v0) (ix2_ext (s := k) (whole (idx _).2.2.2.1.1) (whole (idx _).2.2.2.1.2))).trans (gain_row m c k))

theorem row4 : rowOf (iblk m c 4 (ptOf t)) 0 = rowOf (scA m c) 0 := funext fun _ =>
  (View.read_apply ..).trans ((congrFun (V_main_arg2 m c) _).trans (congrArg (scA m c) (ix2_ext (whole (idx _).2.2.2.2.1.1) (whole (idx _).2.2.2.2.1.2))))

theorem row5 : rowOf (iblk m c 5 (ptOf t)) 0 = rowOf (shA m c) 0 := funext fun _ =>
  (View.read_apply ..).trans ((congrFun (V_main_arg3 m c) _).trans (congrArg (shA m c) (ix2_ext (whole (idx _).2.2.2.2.2.1.1) (whole (idx _).2.2.2.2.2.1.2))))

/-- The array of the new rows. -/
theorem final6 (k : Fin 1024) : ((dats m 0 c).arrAt 6 cfg0.N : Vec Ideal S8192x1024 .f32) (ix2 (row t i) k)
    = added (rowOf (xA m c) (row t i)) (rowOf (yA m c) (row t i)) (rowOf (gateA m c) 0) k := by
  have hb := blocks6 m c (ptOf t) (flush0_6 _)
  rw [flushed6] at hb
  refine Eq.trans ?_ ((congrFun hb (ix2 i k)).trans ((out6_apply ..).trans (by rw [row0, row1, row2])))
  rw [View.read_apply]
  exact (congrArg ((dats m 0 c).arrAt 6 cfg0.N) (ix2_ext (at_row (idx _).2.2.2.2.2.2.1.1) (whole (idx _).2.2.2.2.2.2.1.2))).symm

/-- The array of their modulated norm. -/
theorem final7 (k : Fin 1024) : ((dats m 0 c).arrAt 7 cfg0.N : Vec Ideal S8192x1024 .bf16) (ix2 (row t i) k)
    = out (added (rowOf (xA m c) (row t i)) (rowOf (yA m c) (row t i)) (rowOf (gateA m c) 0)) (fun k => gA m c (ix1 k)) (rowOf (scA m c) 0) (rowOf (shA m c) 0) k := by
  have hb := blocks7 m c (ptOf t) (flush0_7 _)
  rw [flushed7] at hb
  refine Eq.trans ?_ ((congrFun hb (ix2 i k)).trans ((out7_apply ..).trans (by rw [row0, row1, row2, row3, row4, row5])))
  rw [View.read_apply]
  exact (congrArg ((dats m 0 c).arrAt 7 cfg0.N) (ix2_ext (at_row (idx _).2.2.2.2.2.2.2.1) (whole (idx _).2.2.2.2.2.2.2.2))).symm

end

/-- The two programs have the same results. -/
theorem agree : Cert.algebraic_NormFwdIdeal_NormFwdRefIdeal := by
  intro m g m' g' _ hargs
  refine ⟨fun c => (dats m 0 c).arrAt 6 cfg0.N, fun c => (dats m 0 c).arrAt 7 cfg0.N, Cert.NormFwdIdeal.Value.run_blocks m g, ?_⟩
  refine (θ_run _ _ _).mono (fun r h c => ?_) (Cert.NormFwdRefIdeal.Value.run m' g')
  obtain ⟨h0, h1, hk⟩ := h c
  obtain ⟨q0, q1, q2, q3, q4, q5⟩ := hargs c
  refine ⟨h0.trans ((Cert.NormFwdRefIdeal.Read.val_main_v3_eq _ _ _).trans ?_), h1.trans ((Cert.NormFwdRefIdeal.Read.val_main_v23_eq _ _ _ _ _ _).trans ?_), hk⟩
  · rw [q0, q4, q5]
    exact rows_ext fun t i k => (v3 ..).trans (final6 m c t i k).symm
  · rw [q0, q1, q2, q3, q4, q5]
    exact rows_ext fun t i k => (v23 ..).trans (final7 m c t i k).symm

/-- The reference leaves its arguments as they were, and it has no counters. -/
theorem reference_frame : Cert.quiescent_NormFwdRefIdeal := fun m g _ =>
  (θ_run _ _ _).mono (fun r h => And.intro (fun c : Dev Cert.NormFwdRefIdeal.nD => (h c).2.2) (sem_eq_zero_of_no_sems (by decide) r.2))
    (Cert.NormFwdRefIdeal.Value.run (F := Ideal) m g)

end Cert.Norm.Fwd

end
-- ==== Proof.Norm.FirstFwd.lean ====
/-
The first norm's forward pass: the rows are normalised as they come.
-/
module

public import proofs.«01_k».proof.Defs
public import proofs.«01_k».proof.Proof.Norm.Columns
public import proofs.«01_k».proof.Proof.Gen.FirstNormFwdIdeal.Value
public import proofs.«01_k».proof.Proof.Gen.FirstNormFwdRefIdeal.Run
public import proofs.«01_k».proof.Proof.Gen.FirstNormFwdRefIdeal.Read

@[expose] public section

set_option maxRecDepth 16384

noncomputable section

namespace Cert.Norm.FirstFwd

open Cert.FirstNormFwdIdeal Cert.FirstNormFwdIdeal.Gen Cert.FirstNormFwdIdeal.Value Cert.Products Idealize.ShloMosaic Idealize.ShloMosaic.TcCoe Idealize.SL.Sem

/-- What the body makes of the blocks: the modulated norm. -/
theorem out4_apply (x0 : Vec Ideal S1024x1024 .f32) (x1 x2 x3 : Vec Ideal S1x1024 .f32) (r k : Fin 1024) :
    out0_4 (F := Ideal) x0 x1 x2 x3 (ix2 r k) = out (rowOf x0 r) (rowOf x1 0) (rowOf x2 0) (rowOf x3 0) k := by
  unfold out0_4
  simp only [View.canon_unit_zero (S := S1024x1024) hz, View.ld_unit_zero (S := S1024x1024) hz, View.ld_unit_zero (S := S1x1024) hz]
  pointwise [k0_pay1]
  rw [c_1024, c_eps]
  rfl

/-- The reference, at an index. -/
theorem reference (x0 : Vec Ideal S8192x1024 .f32) (x1 : Vec Ideal S1024 .f32) (x2 x3 : Vec Ideal S1x1024 .f32) (r : Fin 8192) (k : Fin 1024) :
    Cert.FirstNormFwdRefIdeal.Read.val_main_v19 (F := Ideal) x0 x1 x2 x3 (ix2 r k) = out (rowOf x0 r) (fun k => x1 (ix1 k)) (rowOf x2 0) (rowOf x3 0) k := by
  rw [← Cert.FirstNormFwdRefIdeal.Read.val_main_v19_eq]
  pointwise
  rw [c_1024, c_eps]
  rfl

variable (m : (ℓ : Loc nD τ sig) → Buf (Elt Ideal) ℓ) (c : Dev nD)

/-- Where the blocks lie. -/
theorem idx : ∀ t : Fin cfg0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0) :=
  (by decide +kernel : ∀ t : Fin grid0.N, _)

/-- The arguments. -/
abbrev xA : Vec Ideal S8192x1024 .f32 := m ((c : Thread nD τ).loc main_arg0)
abbrev gA : Vec Ideal S1024 .f32 := m ((c : Thread nD τ).loc main_arg1)
abbrev scA : Vec Ideal S1x1024 .f32 := m ((c : Thread nD τ).loc main_arg2)
abbrev shA : Vec Ideal S1x1024 .f32 := m ((c : Thread nD τ).loc main_arg3)

/-- The point of a block of rows. -/
abbrev ptOf (t : Fin 8) : Fin cfg0.N := ⟨t.val, t.isLt.trans_eq N_0.symm⟩

section
variable (t : Fin 8) (i : Fin 1024)

theorem row0 : rowOf (iblk m c 0 (ptOf t)) i = rowOf (xA m c) (row t i) := funext fun _ =>
  (View.read_apply ..).trans ((congrFun (V_main_arg0 m c) _).trans (congrArg (xA m c) (ix2_ext (at_row (idx _).1.1) (whole (idx _).1.2))))

/-- The call receives the gain laid in one row. -/
theorem gain_row (k : Fin 1024) : (Gen.V m c main_v0 : Vec Ideal S1x1024 .f32) (ix2 0 k) = gA m c (ix1 k) := by
  show (shapeCast S1x1024 (gA m c) shapeCasts_S1024_S1x1024) (ix2 0 k) = _
  exact ValueIdx.shapeCast_a_1a_apply ..

theorem row1 : rowOf (iblk m c 1 (ptOf t)) 0 = fun k => gA m c (ix1 k) := funext fun k =>
  (View.read_apply ..).trans ((congrArg (Gen.V m c main_v0) (ix2_ext (s := k) (whole (idx _).2.1.1) (whole (idx _).2.1.2))).trans (gain_row m c k))

theorem row2 : rowOf (iblk m c 2 (ptOf t)) 0 = rowOf (scA m c) 0 := funext fun _ =>
  (View.read_apply ..).trans ((congrFun (V_main_arg2 m c) _).trans (congrArg (scA m c) (ix2_ext (whole (idx _).2.2.1.1) (whole (idx _).2.2.1.2))))

theorem row3 : rowOf (iblk m c 3 (ptOf t)) 0 = rowOf (shA m c) 0 := funext fun _ =>
  (View.read_apply ..).trans ((congrFun (V_main_arg3 m c) _).trans (congrArg (shA m c) (ix2_ext (whole (idx _).2.2.2.1.1) (whole (idx _).2.2.2.1.2))))

/-- The result, at every index. -/
theorem final4 (k : Fin 1024) : ((dats m 0 c).arrAt 4 cfg0.N : Vec Ideal S8192x1024 .bf16) (ix2 (row t i) k)
    = out (rowOf (xA m c) (row t i)) (fun k => gA m c (ix1 k)) (rowOf (scA m c) 0) (rowOf (shA m c) 0) k := by
  have hb := blocks4 m c (ptOf t) (flush0_4 _)
  rw [flushed4] at hb
  refine Eq.trans ?_ ((congrFun hb (ix2 i k)).trans ((out4_apply ..).trans (by rw [row0, row1, row2, row3])))
  rw [View.read_apply]
  exact (congrArg ((dats m 0 c).arrAt 4 cfg0.N) (ix2_ext (at_row (idx _).2.2.2.2.1) (whole (idx _).2.2.2.2.2))).symm

end

/-- The two programs have the same result. -/
theorem agree : Cert.algebraic_FirstNormFwdIdeal_FirstNormFwdRefIdeal := by
  intro m g m' g' _ hargs
  refine ⟨fun c => (dats m 0 c).arrAt 4 cfg0.N, Cert.FirstNormFwdIdeal.Value.run_blocks m g, ?_⟩
  refine (θ_run _ _ _).mono (fun r h c => ⟨?_, (h c).2⟩) (Cert.FirstNormFwdRefIdeal.Value.run m' g')
  obtain ⟨q0, q1, q2, q3⟩ := hargs c
  refine (h c).1.trans ((Cert.FirstNormFwdRefIdeal.Read.val_main_v19_eq _ _ _ _).trans ?_)
  rw [q0, q1, q2, q3]
  exact rows_ext fun t i k => (reference ..).trans (final4 m c t i k).symm

/-- The reference leaves its arguments as they were, and it has no counters. -/
theorem reference_frame : Cert.quiescent_FirstNormFwdRefIdeal := fun m g _ =>
  (θ_run _ _ _).mono (fun r h => And.intro (fun c : Dev Cert.FirstNormFwdRefIdeal.nD => (h c).2) (sem_eq_zero_of_no_sems (by decide) r.2))
    (Cert.FirstNormFwdRefIdeal.Value.run (F := Ideal) m g)

end Cert.Norm.FirstFwd

end
-- ==== Proof.Loss.Row.lean ====
/-
The loss head on one row: the last result added behind its gate, the last norm, the mean square error, and the gradients.
-/
module

public import proofs.«01_k».proof.Proof.Norm.Row

@[expose] public section

set_option maxRecDepth 16384

noncomputable section

namespace Cert.Loss

open Cert.Norm Idealize.ShloMosaic

theorem c_half : Ideal.ofBits .f32 0x3F000000#32 = ((1 / 2 : ℝ) : EReal) := by
  simp [Ideal.ofBits, Ideal.ieee, -EReal.coe_mul]; norm_num

theorem c_two : Ideal.ofBits .f32 0x40000000#32 = ((2 : ℝ) : EReal) := by
  simp [Ideal.ofBits, Ideal.ieee, -EReal.coe_mul]; norm_num

theorem c_inv_1024 : Ideal.ofBits .f32 0x3A800000#32 = ((1 / 1024 : ℝ) : EReal) := by
  simp [Ideal.ofBits, Ideal.ieee, -EReal.coe_mul]; norm_num

section
variable (x y gate h g t : Fin 1024 → EReal)

/-- The row with the last result added behind its gate. -/
def hid (k : Fin 1024) : EReal := x k + gate k * y k

/-- The error of the normalised row. -/
def err (k : Fin 1024) : EReal := h k * rstd h * g k - t k

/-- The row's mean square error. -/
def mse : EReal := Ideal.div (∑ k, err h g t k * err h g t k) ((1024 : ℝ) : EReal)

/-- The gradient of the norm. -/
def dout (k : Fin 1024) : EReal := err h g t k * ((1 / 1024 : ℝ) : EReal)

/-- The gradient of the row. -/
def dh (k : Fin 1024) : EReal := dxn h (fun l => dout h g t l * g l) k

/-- The derivative of half the mean square: one half over the number of columns, times twice the error. -/
theorem dout_eq (e : EReal) : Ideal.div ((1 / 2 : ℝ) : EReal) ((1024 : ℝ) : EReal) * (((2 : ℝ) : EReal) * e)
    = e * ((1 / 1024 : ℝ) : EReal) := by
  rw [Ideal.div_coe (by norm_num), ← mul_assoc, ← EReal.coe_mul, ← EReal.coe_mul, mul_comm]
  norm_num

end

end Cert.Loss

end
-- ==== Proof.Loss.Block.lean ====
/-
What the body of the loss head computes of its blocks, at an index.
-/
module

public import proofs.«01_k».proof.Proof.Loss.Row
public import proofs.«01_k».proof.Proof.Norm.Columns
public import proofs.«01_k».proof.Proof.Gen.FinalLossIdeal.Skeleton

@[expose] public section

set_option maxRecDepth 16384

noncomputable section

namespace Cert.Loss

open Cert.FinalLossIdeal Cert.FinalLossIdeal.Gen Cert.Norm Idealize.ShloMosaic

section
variable (x0 : Vec Ideal S1024x1024 .f32) (x1 : Vec Ideal S1024x1024 .bf16) (x2 : Vec Ideal S1x1024 .f32)
  (x3 : Vec Ideal S1024x1024 .f32) (x4 a : Vec Ideal S1x1024 .f32) (b : Vec Ideal S1x128 .f32)

/-- Row `r` of the rows with the last result. -/
abbrev hidR (r : Fin 1024) : Fin 1024 → EReal := hid (rowOf x0 r) (rowOf x1 r) (rowOf x2 0)

theorem pay5_apply (r k : Fin 1024) : k0_pay5 (F := Ideal) x1 x2 x0 (ix2 r k) = hidR x0 x1 x2 r k := by
  pointwise [k0_pay5, k0_pay4]
  rfl

/-- One over the root mean square. -/
theorem pay7_apply (r : Fin 1024) : k0_pay7 (F := Ideal) x1 x2 x0 (ix2 r 0) = rstd (hidR x0 x1 x2 r) := by
  pointwise [k0_pay7]
  rw [c_1024, c_eps]
  simp only [pay5_apply]
  rfl

/-- The normalised rows. -/
theorem pay8_apply (r k : Fin 1024) : k0_pay8 (F := Ideal) x1 x2 x0 (ix2 r k) = hidR x0 x1 x2 r k * rstd (hidR x0 x1 x2 r) := by
  pointwise [k0_pay8]
  rw [pay7_apply, pay5_apply]

/-- The errors. -/
theorem pay9_apply (r k : Fin 1024) : k0_pay9 (F := Ideal) x1 x2 x0 x4 x3 (ix2 r k) = err (hidR x0 x1 x2 r) (rowOf x4 0) (rowOf x3 r) k := by
  pointwise [k0_pay9, k0_pay6]
  rw [pay8_apply]
  rfl

/-- The loss, summed. -/
theorem pay12_apply (j : Fin 128) : k0_pay12 (F := Ideal) (k0_pay10 b) (k0_pay11 x1 x2 x0 x4 x3) (ix2 0 j)
    = b (ix2 0 j) + ∑ r, mse (hidR x0 x1 x2 r) (rowOf x4 0) (rowOf x3 r) * ((1 / 2 : ℝ) : EReal) := by
  rw [sum_mul_real (by norm_num), mul_comm]
  pointwise [k0_pay12, k0_pay10, k0_pay11]
  rw [c_half, c_1024]
  simp only [pay9_apply]
  rfl

/-- The gradients of the norm. -/
theorem pay13_apply (r k : Fin 1024) : k0_pay13 (F := Ideal) (k0_pay9 x1 x2 x0 x4 x3) (ix2 r k) = dout (hidR x0 x1 x2 r) (rowOf x4 0) (rowOf x3 r) k := by
  pointwise [k0_pay13]
  rw [pay9_apply, c_inv_1024]
  rfl

/-- The gradient of the gain, summed. -/
theorem pay14_apply (k : Fin 1024) : k0_pay14 (F := Ideal) (k0_pay8 x1 x2 x0) (k0_pay9 x1 x2 x0 x4 x3) a (ix2 0 k)
    = a (ix2 0 k) + ∑ r, dout (hidR x0 x1 x2 r) (rowOf x4 0) (rowOf x3 r) k * (hidR x0 x1 x2 r k * rstd (hidR x0 x1 x2 r)) := by
  pointwise [k0_pay14]
  simp only [pay8_apply, pay13_apply]

/-- The gradient of the rows. -/
abbrev dhV : Vec Ideal S1024x1024 .f32 := k0_pay15 (k0_pay6 x4) (k0_pay7 x1 x2 x0) (k0_pay8 x1 x2 x0) (k0_pay9 x1 x2 x0 x4 x3)

theorem dhV_apply (r k : Fin 1024) : dhV x0 x1 x2 x3 x4 (ix2 r k) = dh (hidR x0 x1 x2 r) (rowOf x4 0) (rowOf x3 r) k := by
  pointwise [dhV, k0_pay15, k0_pay6]
  simp only [pay7_apply, pay8_apply, pay13_apply, c_1024]
  rfl

/-- The gradient of the last result. -/
abbrev dyV : Vec Ideal S1024x1024 .bf16 := k0_pay16 x2 (k0_pay6 x4) (k0_pay7 x1 x2 x0) (k0_pay8 x1 x2 x0) (k0_pay9 x1 x2 x0 x4 x3)

theorem dyV_apply (r k : Fin 1024) : dyV x0 x1 x2 x3 x4 (ix2 r k) = dhV x0 x1 x2 x3 x4 (ix2 r k) * x2 (ix2 0 k) := by
  pointwise [dyV, k0_pay16]

/-- The gradient of the gate, summed. -/
theorem pay17_apply (k : Fin 1024) :
    k0_pay17 (F := Ideal) (k0_pay4 x1) (k0_pay6 x4) (k0_pay7 x1 x2 x0) (k0_pay8 x1 x2 x0) (k0_pay9 x1 x2 x0 x4 x3) a (ix2 0 k)
      = a (ix2 0 k) + ∑ r, dhV x0 x1 x2 x3 x4 (ix2 r k) * x1 (ix2 r k) := by
  pointwise [k0_pay17, k0_pay4]

/-- The first point finds zeros. -/
theorem zero_apply (k : Fin 1024) : k0_pay1 (F := Ideal) (ix2 0 k) = 0 := by
  pointwise [k0_pay1]

theorem zero_apply' (j : Fin 128) : k0_pay2 (F := Ideal) (ix2 0 j) = 0 := by
  pointwise [k0_pay2]

theorem zero_apply'' (k : Fin 1024) : k0_pay3 (F := Ideal) (ix2 0 k) = 0 := by
  pointwise [k0_pay3]

end

end Cert.Loss

end
-- ==== Proof.Loss.Out.lean ====
/-
What each point of the loss head leaves: its rows' gradients, and the sums over the rows so far.
-/
module

public import proofs.«01_k».proof.Proof.Loss.Block
public import proofs.«01_k».proof.Proof.Products.Blocks
public import proofs.«01_k».proof.Proof.Gen.FinalLossIdeal.Value

@[expose] public section

set_option maxRecDepth 16384

noncomputable section

namespace Cert.Loss

open Cert.FinalLossIdeal Cert.FinalLossIdeal.Gen Cert.FinalLossIdeal.Value Cert.Norm Cert.Products Idealize.ShloMosaic Idealize.ShloMosaic.TcCoe Idealize.SL.Sem

variable (m : (ℓ : Loc nD τ sig) → Buf (Elt Ideal) ℓ) (c : Dev nD)

/-- What the body makes of the blocks and of the sums so far. -/
abbrev step (x0 : Vec Ideal S1024x1024 .f32) (x1 : Vec Ideal S1024x1024 .bf16) (x2 : Vec Ideal S1x1024 .f32)
    (x3 : Vec Ideal S1024x1024 .f32) (x4 a6 : Vec Ideal S1x1024 .f32) (a7 : Vec Ideal S1x128 .f32) (a9 : Vec Ideal S1x1024 .f32) :
    Vec Ideal S1024x1024 .f32 × Vec Ideal S1x1024 .f32 × Vec Ideal S1x128 .f32 × Vec Ideal S1024x1024 .bf16 × Vec Ideal S1x1024 .f32 :=
  (dhV x0 x1 x2 x3 x4,
    k0_pay14 (k0_pay8 x1 x2 x0) (k0_pay9 x1 x2 x0 x4 x3) a6,
    k0_pay12 (k0_pay10 a7) (k0_pay11 x1 x2 x0 x4 x3),
    dyV x0 x1 x2 x3 x4,
    k0_pay17 (k0_pay4 x1) (k0_pay6 x4) (k0_pay7 x1 x2 x0) (k0_pay8 x1 x2 x0) (k0_pay9 x1 x2 x0 x4 x3) a9)

theorem outs_A (t : Fin cfg0.N) (h : t.val % 8 = 0) : outsAt0 m c t.val t.isLt
    = step (iblk m c 0 t) (iblk m c 1 t) (iblk m c 2 t) (iblk m c 3 t) (iblk m c 4 t) (k0_pay1 (F := Ideal)) (k0_pay2 (F := Ideal)) (k0_pay3 (F := Ideal)) := by
  rw [outsAt0_A m c t h]
  refine Prod.ext ?_ (Prod.ext ?_ (Prod.ext ?_ (Prod.ext ?_ ?_)))
  all_goals dsimp only
  on_goal 1 => unfold out0_A_5; rw [View.read_writes_eq_canon _ _ _ fun y => cover0_A_5 (y := y) ..]
  on_goal 2 => unfold out0_A_6; rw [View.read_writes_eq_canon _ _ _ fun y => cover0_A_6 (y := y) ..]
  on_goal 3 => unfold out0_A_7; rw [View.read_writes_eq_canon _ _ _ fun y => cover0_A_7 (y := y) ..]
  on_goal 4 => unfold out0_A_8; rw [View.read_writes_eq_canon _ _ _ fun y => cover0_A_8 (y := y) ..]
  on_goal 5 => unfold out0_A_9; rw [View.read_writes_eq_canon _ _ _ fun y => cover0_A_9 (y := y) ..]
  all_goals unfold kernelRun0_A
  all_goals dsimp only
  all_goals sl_unfold_words
  all_goals simp only [View.canon_unit_zero (S := S1024x1024) hz, View.canon_unit_zero (S := S1x1024) hz, View.canon_cons_unit_zero (S := S1x1024) hz,
    View.canon_unit_zero (S := S1x128) hz, View.canon_cons_unit_zero (S := S1x128) hz, View.readCov_unit_zero (S := S1x128) _ hz, View.ld_unit_zero (S := S1x128) hz,
    View.readCov_unit_zero (S := S1x1024) _ hz, View.ld_unit_zero (S := S1024x1024) hz, View.ld_unit_zero (S := S1x1024) hz, View.readAt_eq_ld,
    (hs0_0 t).read_unread, (hs0_1 t).read_unread, (hs0_2 t).read_unread, (hs0_3 t).read_unread, (hs0_4 t).read_unread]

theorem outs_B (t : Fin cfg0.N) (h : ¬ t.val % 8 = 0) (p : t.val - 1 < cfg0.N) : outsAt0 m c t.val t.isLt
    = step (iblk m c 0 t) (iblk m c 1 t) (iblk m c 2 t) (iblk m c 3 t) (iblk m c 4 t)
        (outsAt0 m c (t.val - 1) p).2.1 (outsAt0 m c (t.val - 1) p).2.2.1 (outsAt0 m c (t.val - 1) p).2.2.2.2 := by
  rw [outsAt0_B m c t h]
  refine Prod.ext ?_ (Prod.ext ?_ (Prod.ext ?_ (Prod.ext ?_ ?_)))
  all_goals dsimp only
  on_goal 1 => unfold out0_B_5; rw [View.read_writes_eq_canon _ _ _ fun y => cover0_B_5 (y := y) ..]
  on_goal 2 => unfold out0_B_6; rw [View.read_writes_eq_canon _ _ _ fun y => cover0_B_6 (y := y) ..]
  on_goal 3 => unfold out0_B_7; rw [View.read_writes_eq_canon _ _ _ fun y => cover0_B_7 (y := y) ..]
  on_goal 4 => unfold out0_B_8; rw [View.read_writes_eq_canon _ _ _ fun y => cover0_B_8 (y := y) ..]
  on_goal 5 => unfold out0_B_9; rw [View.read_writes_eq_canon _ _ _ fun y => cover0_B_9 (y := y) ..]
  all_goals unfold kernelRun0_B
  all_goals dsimp only
  all_goals sl_unfold_words
  all_goals simp only [View.canon_unit_zero (S := S1024x1024) hz, View.canon_unit_zero (S := S1x1024) hz, View.canon_unit_zero (S := S1x128) hz,
    View.ld_unit_zero (S := S1024x1024) hz, View.ld_unit_zero (S := S1x1024) hz, View.ld_unit_zero (S := S1x128) hz, View.readAt_eq_ld,
    (hs0_0 t).read_unread, (hs0_1 t).read_unread, (hs0_2 t).read_unread, (hs0_3 t).read_unread, (hs0_4 t).read_unread,
    (hs0_6 t).read_unread, (hs0_7 t).read_unread, (hs0_9 t).read_unread]

/-- Where the blocks lie: the matrices' at row `1024 t`, the vectors' at zero. -/
theorem idx : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_8.index t 0 = t.val ∧ win0_8.index t 1 = 0) :=
  (by decide +kernel : ∀ t : Fin grid0.N, _)

/-- The arguments. -/
abbrev xA : Vec Ideal S8192x1024 .f32 := m ((c : Thread nD τ).loc main_arg0)
abbrev yA : Vec Ideal S8192x1024 .bf16 := m ((c : Thread nD τ).loc main_arg1)
abbrev gateA : Vec Ideal S1x1024 .f32 := m ((c : Thread nD τ).loc main_arg2)
abbrev tA : Vec Ideal S8192x1024 .f32 := m ((c : Thread nD τ).loc main_arg3)
abbrev gA : Vec Ideal S1024 .f32 := m ((c : Thread nD τ).loc main_arg4)

/-- The point of a block of rows. -/
abbrev ptOf (t : Fin 8) : Fin cfg0.N := ⟨t.val, t.isLt.trans_eq N_0.symm⟩

section
variable (t : Fin 8) (i : Fin 1024)

theorem blk1 (k : Fin 1024) : (iblk m c 1 (ptOf t) : Vec Ideal S1024x1024 .bf16) (ix2 i k) = yA m c (ix2 (row t i) k) :=
  (View.read_apply ..).trans ((congrFun (V_main_arg1 m c) _).trans (congrArg (yA m c) (ix2_ext (at_row (idx _).2.1.1) (whole (idx _).2.1.2))))

theorem blk2 (k : Fin 1024) : (iblk m c 2 (ptOf t) : Vec Ideal S1x1024 .f32) (ix2 0 k) = gateA m c (ix2 0 k) :=
  (View.read_apply ..).trans ((congrFun (V_main_arg2 m c) _).trans (congrArg (gateA m c) (ix2_ext (whole (idx _).2.2.1.1) (whole (idx _).2.2.1.2))))

theorem row0 : rowOf (iblk m c 0 (ptOf t)) i = rowOf (xA m c) (row t i) := funext fun _ =>
  (View.read_apply ..).trans ((congrFun (V_main_arg0 m c) _).trans (congrArg (xA m c) (ix2_ext (at_row (idx _).1.1) (whole (idx _).1.2))))

theorem row1 : rowOf (iblk m c 1 (ptOf t)) i = rowOf (yA m c) (row t i) := funext (blk1 m c t i)

theorem row2 : rowOf (iblk m c 2 (ptOf t)) 0 = rowOf (gateA m c) 0 := funext (blk2 m c t)

theorem row3 : rowOf (iblk m c 3 (ptOf t)) i = rowOf (tA m c) (row t i) := funext fun _ =>
  (View.read_apply ..).trans ((congrFun (V_main_arg3 m c) _).trans (congrArg (tA m c) (ix2_ext (at_row (idx _).2.2.2.1.1) (whole (idx _).2.2.2.1.2))))

/-- The call receives the gain laid in one row. -/
theorem gain_row (k : Fin 1024) : (Gen.V m c main_v0 : Vec Ideal S1x1024 .f32) (ix2 0 k) = gA m c (ix1 k) := by
  show (shapeCast S1x1024 (gA m c) shapeCasts_S1024_S1x1024) (ix2 0 k) = _
  exact ValueIdx.shapeCast_a_1a_apply ..

theorem row4 : rowOf (iblk m c 4 (ptOf t)) 0 = fun k => gA m c (ix1 k) := funext fun k =>
  (View.read_apply ..).trans ((congrArg (Gen.V m c main_v0) (ix2_ext (s := k) (whole (idx _).2.2.2.2.1.1) (whole (idx _).2.2.2.2.1.2))).trans (gain_row m c k))

end

end Cert.Loss

end
-- ==== Proof.Loss.Arrays.lean ====
/-
The result arrays of the loss head: the gradients of the rows and of the last result, and the sums over all rows.
-/
module

public import proofs.«01_k».proof.Proof.Loss.Out

@[expose] public section

set_option maxRecDepth 16384

noncomputable section

namespace Cert.Loss

open Cert.FinalLossIdeal Cert.FinalLossIdeal.Gen Cert.FinalLossIdeal.Value Cert.Norm Cert.Products Idealize.ShloMosaic Idealize.ShloMosaic.TcCoe Idealize.SL.Sem

variable (m : (ℓ : Loc nD τ sig) → Buf (Elt Ideal) ℓ) (c : Dev nD)

/-- The rows with the last result, the gain, and the targets' rows. -/
abbrev hA (r : Fin 8192) : Fin 1024 → EReal := hid (rowOf (xA m c) r) (rowOf (yA m c) r) (rowOf (gateA m c) 0)
abbrev gR : Fin 1024 → EReal := fun k => gA m c (ix1 k)
abbrev tR (r : Fin 8192) : Fin 1024 → EReal := rowOf (tA m c) r

/-- Each row's part of the loss and of the gradients of the gain and of the gate. -/
abbrev lossR (r : Fin 8192) : EReal := mse (hA m c r) (gR m c) (tR m c r) * ((1 / 2 : ℝ) : EReal)
abbrev gainR (k : Fin 1024) (r : Fin 8192) : EReal := dout (hA m c r) (gR m c) (tR m c r) k * (hA m c r k * rstd (hA m c r))
abbrev dhR (r : Fin 8192) : Fin 1024 → EReal := dh (hA m c r) (gR m c) (tR m c r)
abbrev gateR (k : Fin 1024) (r : Fin 8192) : EReal := dhR m c r k * yA m c (ix2 r k)

section
variable (t : Fin 8) (i k : Fin 1024) (a : Vec Ideal S1x1024 .f32) (b : Vec Ideal S1x128 .f32) (j : Fin 128)

/-- The gradient of the rows, of the blocks of point `t`. -/
theorem dh_blk : dhV (iblk m c 0 (ptOf t)) (iblk m c 1 (ptOf t)) (iblk m c 2 (ptOf t)) (iblk m c 3 (ptOf t)) (iblk m c 4 (ptOf t)) (ix2 i k) = dhR m c (row t i) k := by
  rw [dhV_apply, hidR, row0, row1, row2, row3, row4]

/-- What point `t` adds to each of the three sums. -/
theorem add6 : k0_pay14 (k0_pay8 (iblk m c 1 (ptOf t)) (iblk m c 2 (ptOf t)) (iblk m c 0 (ptOf t)))
      (k0_pay9 (iblk m c 1 (ptOf t)) (iblk m c 2 (ptOf t)) (iblk m c 0 (ptOf t)) (iblk m c 4 (ptOf t)) (iblk m c 3 (ptOf t))) a (ix2 0 k)
    = a (ix2 0 k) + ∑ i, gainR m c k (row t i) := by
  rw [pay14_apply]
  exact congrArg _ (Finset.sum_congr rfl fun i _ => by rw [hidR, row0, row1, row2, row3, row4])

theorem add7 : k0_pay12 (k0_pay10 b) (k0_pay11 (iblk m c 1 (ptOf t)) (iblk m c 2 (ptOf t)) (iblk m c 0 (ptOf t)) (iblk m c 4 (ptOf t)) (iblk m c 3 (ptOf t))) (ix2 0 j)
    = b (ix2 0 j) + ∑ i, lossR m c (row t i) := by
  rw [pay12_apply]
  exact congrArg _ (Finset.sum_congr rfl fun i _ => by rw [hidR, row0, row1, row2, row3, row4])

theorem add9 : k0_pay17 (k0_pay4 (iblk m c 1 (ptOf t))) (k0_pay6 (iblk m c 4 (ptOf t))) (k0_pay7 (iblk m c 1 (ptOf t)) (iblk m c 2 (ptOf t)) (iblk m c 0 (ptOf t)))
      (k0_pay8 (iblk m c 1 (ptOf t)) (iblk m c 2 (ptOf t)) (iblk m c 0 (ptOf t)))
      (k0_pay9 (iblk m c 1 (ptOf t)) (iblk m c 2 (ptOf t)) (iblk m c 0 (ptOf t)) (iblk m c 4 (ptOf t)) (iblk m c 3 (ptOf t))) a (ix2 0 k)
    = a (ix2 0 k) + ∑ i, gateR m c k (row t i) := by
  rw [pay17_apply]
  exact congrArg _ (Finset.sum_congr rfl fun i _ => by rw [dh_blk, blk1])

end

/-- A point after the first is no multiple of eight. -/
theorem later {n : ℕ} (h : n + 1 < cfg0.N) : ¬ (⟨n + 1, h⟩ : Fin cfg0.N).val % 8 = 0 := by
  have := h.trans_eq N_0
  show ¬ (n + 1) % 8 = 0
  omega

/-- The gradient of the gain, summed so far. -/
theorem so_far6 (k : Fin 1024) : ∀ n h, (outsAt0 m c n h).2.1 (ix2 0 k) = upTo (fun t => ∑ i, gainR m c k (row t i)) n :=
  eq_upTo N_0 (fun h => (congrArg (fun p => p.2.1 (ix2 0 k)) (outs_A m c ⟨0, h⟩ rfl)).trans ((add6 (t := 0) ..).trans ((congrArg (· + _) (zero_apply k)).trans (zero_add _))))
    fun n h => (congrArg (fun p => p.2.1 (ix2 0 k)) (outs_B m c ⟨n + 1, h⟩ (later h) (Nat.lt_of_succ_lt h))).trans (add6 (t := ⟨n + 1, h.trans_eq N_0⟩) ..)

/-- The loss, summed so far. -/
theorem so_far7 (j : Fin 128) : ∀ n h, (outsAt0 m c n h).2.2.1 (ix2 0 j) = upTo (fun t => ∑ i, lossR m c (row t i)) n :=
  eq_upTo N_0 (fun h => (congrArg (fun p => p.2.2.1 (ix2 0 j)) (outs_A m c ⟨0, h⟩ rfl)).trans ((add7 (t := 0) ..).trans ((congrArg (· + _) (zero_apply' j)).trans (zero_add _))))
    fun n h => (congrArg (fun p => p.2.2.1 (ix2 0 j)) (outs_B m c ⟨n + 1, h⟩ (later h) (Nat.lt_of_succ_lt h))).trans (add7 (t := ⟨n + 1, h.trans_eq N_0⟩) ..)

/-- The gradient of the gate, summed so far. -/
theorem so_far9 (k : Fin 1024) : ∀ n h, (outsAt0 m c n h).2.2.2.2 (ix2 0 k) = upTo (fun t => ∑ i, gateR m c k (row t i)) n :=
  eq_upTo N_0 (fun h => (congrArg (fun p => p.2.2.2.2 (ix2 0 k)) (outs_A m c ⟨0, h⟩ rfl)).trans ((add9 (t := 0) ..).trans ((congrArg (· + _) (zero_apply'' k)).trans (zero_add _))))
    fun n h => (congrArg (fun p => p.2.2.2.2 (ix2 0 k)) (outs_B m c ⟨n + 1, h⟩ (later h) (Nat.lt_of_succ_lt h))).trans (add9 (t := ⟨n + 1, h.trans_eq N_0⟩) ..)

/-- The last point of the grid. -/
theorem at7 : 7 < cfg0.N := lt_of_lt_of_eq (by norm_num) N_0.symm
abbrev tLast : Fin cfg0.N := ⟨7, at7⟩

/-- Only the last point writes the sums back. -/
theorem last_of {t : Fin cfg0.N} (h : t.val % 8 = 7) : t.val = 7 := by have := t.isLt.trans_eq N_0; omega

/-- The array of the gradient of the gain. -/
theorem org6 : ∀ b : Fin 2, win0_6.index tLast b * win0_6.size b = 0 ∧ win0_6.xsize (grid0.coords tLast) b = S1x1024.size b := by decide +kernel

theorem final6 (k : Fin 1024) : ((dats m 0 c).arrAt 6 cfg0.N : Vec Ideal S1x1024 .f32) (ix2 0 k) = ∑ r, gainR m c k r := by
  obtain ⟨n, hn, hn'⟩ : ∃ n, n < cfg0.N ∧ n = 7 := ⟨7, at7, rfl⟩
  obtain ⟨X, hX⟩ : ∃ X, (outsAt0 m c n hn).2.1 = X := ⟨_, rfl⟩
  have hX' : ∀ l h, l = 7 → (outsAt0 m c l h).2.1 = X := fun l h e => by
    obtain rfl : l = n := e.trans hn'.symm
    exact hX
  have hv := so_far6 m c k n hn
  rw [hX, hn', upTo_last (gainR m c k)] at hv
  refine (congrFun ((dats m 0 c).arrAt_eq_of_cover 6 X (fun t hf => ?_) fun i => ⟨tLast, (flush0_6 tLast).mpr rfl, ?_⟩) _).trans hv
  · have e := last_of ((flush0_6 t).mp hf)
    rw [flushed6, hX' _ _ e]
    obtain rfl : t = tLast := Fin.ext e
    exact (Memref.read_access_unit_zero (Elt Ideal) main_v1_1 (funext fun b => (org6 b).1) (fun b => by rw [(org6 b).1]; simp) X).symm
  · show i ∈ ((View.whole main_v1_1).slice (win0_6.rect tLast)).set
    rw [View.set_slice_whole, Rect.mem_set_unit]
    exact fun b => ⟨(org6 b).1.trans_le (Nat.zero_le _), (i b).isLt.trans_eq ((congrArg₂ (· + ·) (org6 b).1 (org6 b).2).trans (zero_add _)).symm⟩

/-- The array of the loss. -/
theorem org7 : ∀ b : Fin 2, win0_7.index tLast b * win0_7.size b = 0 ∧ win0_7.xsize (grid0.coords tLast) b = S1x128.size b := by decide +kernel

theorem final7 (j : Fin 128) : ((dats m 0 c).arrAt 7 cfg0.N : Vec Ideal S1x128 .f32) (ix2 0 j) = ∑ r, lossR m c r := by
  obtain ⟨n, hn, hn'⟩ : ∃ n, n < cfg0.N ∧ n = 7 := ⟨7, at7, rfl⟩
  obtain ⟨X, hX⟩ : ∃ X, (outsAt0 m c n hn).2.2.1 = X := ⟨_, rfl⟩
  have hX' : ∀ l h, l = 7 → (outsAt0 m c l h).2.2.1 = X := fun l h e => by
    obtain rfl : l = n := e.trans hn'.symm
    exact hX
  have hv := so_far7 m c j n hn
  rw [hX, hn', upTo_last (lossR m c)] at hv
  refine (congrFun ((dats m 0 c).arrAt_eq_of_cover 7 X (fun t hf => ?_) fun i => ⟨tLast, (flush0_7 tLast).mpr rfl, ?_⟩) _).trans hv
  · have e := last_of ((flush0_7 t).mp hf)
    rw [flushed7, hX' _ _ e]
    obtain rfl : t = tLast := Fin.ext e
    exact (Memref.read_access_unit_zero (Elt Ideal) main_v1_2 (funext fun b => (org7 b).1) (fun b => by rw [(org7 b).1]; simp) X).symm
  · show i ∈ ((View.whole main_v1_2).slice (win0_7.rect tLast)).set
    rw [View.set_slice_whole, Rect.mem_set_unit]
    exact fun b => ⟨(org7 b).1.trans_le (Nat.zero_le _), (i b).isLt.trans_eq ((congrArg₂ (· + ·) (org7 b).1 (org7 b).2).trans (zero_add _)).symm⟩

/-- The array of the gradient of the gate. -/
theorem org9 : ∀ b : Fin 2, win0_9.index tLast b * win0_9.size b = 0 ∧ win0_9.xsize (grid0.coords tLast) b = S1x1024.size b := by decide +kernel

theorem final9 (k : Fin 1024) : ((dats m 0 c).arrAt 9 cfg0.N : Vec Ideal S1x1024 .f32) (ix2 0 k) = ∑ r, gateR m c k r := by
  obtain ⟨n, hn, hn'⟩ : ∃ n, n < cfg0.N ∧ n = 7 := ⟨7, at7, rfl⟩
  obtain ⟨X, hX⟩ : ∃ X, (outsAt0 m c n hn).2.2.2.2 = X := ⟨_, rfl⟩
  have hX' : ∀ l h, l = 7 → (outsAt0 m c l h).2.2.2.2 = X := fun l h e => by
    obtain rfl : l = n := e.trans hn'.symm
    exact hX
  have hv := so_far9 m c k n hn
  rw [hX, hn', upTo_last (gateR m c k)] at hv
  refine (congrFun ((dats m 0 c).arrAt_eq_of_cover 9 X (fun t hf => ?_) fun i => ⟨tLast, (flush0_9 tLast).mpr rfl, ?_⟩) _).trans hv
  · have e := last_of ((flush0_9 t).mp hf)
    rw [flushed9, hX' _ _ e]
    obtain rfl : t = tLast := Fin.ext e
    exact (Memref.read_access_unit_zero (Elt Ideal) main_v1_4 (funext fun b => (org9 b).1) (fun b => by rw [(org9 b).1]; simp) X).symm
  · show i ∈ ((View.whole main_v1_4).slice (win0_9.rect tLast)).set
    rw [View.set_slice_whole, Rect.mem_set_unit]
    exact fun b => ⟨(org9 b).1.trans_le (Nat.zero_le _), (i b).isLt.trans_eq ((congrArg₂ (· + ·) (org9 b).1 (org9 b).2).trans (zero_add _)).symm⟩

section
variable (t : Fin 8) (i k : Fin 1024)

/-- What point `t` leaves of the rows' gradients. -/
theorem outs5 (n : ℕ) (h : n < cfg0.N) (e : n = t.val) : (outsAt0 m c n h).1 (ix2 i k) = dhR m c (row t i) k
    ∧ (outsAt0 m c n h).2.2.2.1 (ix2 i k) = dhR m c (row t i) k * gateA m c (ix2 0 k) := by
  subst e
  by_cases h0 : t.val % 8 = 0
  · rw [outs_A m c (ptOf t) h0]
    exact ⟨dh_blk m c t i k, (dyV_apply ..).trans (by rw [dh_blk, blk2])⟩
  · rw [outs_B m c (ptOf t) h0 (Nat.lt_of_le_of_lt (Nat.sub_le _ _) h)]
    exact ⟨dh_blk m c t i k, (dyV_apply ..).trans (by rw [dh_blk, blk2])⟩

/-- The array of the rows' gradients. -/
theorem final5 : ((dats m 0 c).arrAt 5 cfg0.N : Vec Ideal S8192x1024 .f32) (ix2 (row t i) k) = dhR m c (row t i) k := by
  have hb := blocks5 m c (ptOf t) (flush0_5 _)
  rw [flushed5] at hb
  refine Eq.trans ?_ ((congrFun hb (ix2 i k)).trans (outs5 m c t i k _ _ rfl).1)
  rw [View.read_apply]
  exact (congrArg ((dats m 0 c).arrAt 5 cfg0.N) (ix2_ext (at_row (idx _).2.2.2.2.2.1.1) (whole (idx _).2.2.2.2.2.1.2))).symm

/-- The array of the gradient of the last result. -/
theorem final8 : ((dats m 0 c).arrAt 8 cfg0.N : Vec Ideal S8192x1024 .bf16) (ix2 (row t i) k) = dhR m c (row t i) k * gateA m c (ix2 0 k) := by
  have hb := blocks8 m c (ptOf t) (flush0_8 _)
  rw [flushed8] at hb
  refine Eq.trans ?_ ((congrFun hb (ix2 i k)).trans (outs5 m c t i k _ _ rfl).2)
  rw [View.read_apply]
  exact (congrArg ((dats m 0 c).arrAt 8 cfg0.N) (ix2_ext (at_row (idx _).2.2.2.2.2.2.1) (whole (idx _).2.2.2.2.2.2.2))).symm

end

end Cert.Loss

end
-- ==== Proof.Loss.Ref.lean ====
/-
The derivative of the loss head's lines, at an index.
-/
module

public import proofs.«01_k».proof.Proof.Loss.Row
public import proofs.«01_k».proof.Proof.Norm.Columns
public import proofs.«01_k».proof.Proof.Gen.FinalLossRefIdeal.Read

@[expose] public section

set_option maxRecDepth 16384

noncomputable section

namespace Cert.Loss.Ref

open Cert.FinalLossRefIdeal Cert.FinalLossRefIdeal.Read Cert.Norm Idealize.ShloMosaic

variable (x0 : Vec Ideal S8192x1024 .f32) (x1 : Vec Ideal S8192x1024 .bf16) (x2 : Vec Ideal S1x1024 .f32)
  (x3 : Vec Ideal S8192x1024 .f32) (x4 : Vec Ideal S1024 .f32) (r : Fin 8192) (k : Fin 1024)

/-- Row `r` of the rows with the last result, and the gain. -/
abbrev hR : Fin 1024 → EReal := hid (rowOf x0 r) (rowOf x1 r) (rowOf x2 0)
abbrev gR : Fin 1024 → EReal := fun k => x4 (ix1 k)

theorem v3 : val_main_v3 (F := Ideal) x0 x1 x2 (ix2 r k) = hR x0 x1 x2 r k := by
  pointwise [val_main_v3, val_main_v2, val_main_v1, val_main_v0]
  rfl

/-- The mean square, with the small number added. -/
theorem v10 : val_main_v10 (F := Ideal) x0 x1 x2 (ix2 r 0) = ms (hR x0 x1 x2 r) := by
  pointwise [val_main_v10, val_main_v9, val_main_v8, val_main_v7, val_main_v6, val_main_v5, val_main_v4, val_main_cst, val_main_cst_0, val_main_cst_1]
  rw [c_1024, c_eps]
  simp only [v3]
  rfl

theorem v11 : val_main_v11 (F := Ideal) x0 x1 x2 (ix2 r 0) = rstd (hR x0 x1 x2 r) := by
  pointwise [val_main_v11]
  rw [v10]
  rfl

theorem v14 : val_main_v14 (F := Ideal) x0 x1 x2 (ix2 r 0) = ((-(1 / 2) : ℝ) : EReal) * Ideal.div (rstd (hR x0 x1 x2 r)) (ms (hR x0 x1 x2 r)) := by
  pointwise [val_main_v14, val_main_v13, val_main_v12, val_main_cst_2]
  rw [c_neg_half, v10, v11]

/-- The normalised rows. -/
theorem v16 : val_main_v16 (F := Ideal) x0 x1 x2 (ix2 r k) = hR x0 x1 x2 r k * rstd (hR x0 x1 x2 r) := by
  pointwise [val_main_v16, val_main_v15]
  rw [v3, v11]

/-- The errors. -/
theorem v20 : val_main_v20 (F := Ideal) x0 x1 x2 x3 x4 (ix2 r k) = err (hR x0 x1 x2 r) (gR x4) (rowOf x3 r) k := by
  pointwise [val_main_v20, val_main_v19, val_main_v18, val_main_v17]
  rw [v16]
  rfl

/-- The rows' mean square errors. -/
theorem v26 : val_main_v26 (F := Ideal) x0 x1 x2 x3 x4 (ix1 r) = mse (hR x0 x1 x2 r) (gR x4) (rowOf x3 r) := by
  pointwise [val_main_v26, val_main_v25, val_main_v24, val_main_v21, val_main_cst_4, val_main_cst_5]
  rw [c_1024]
  simp only [v20]
  rfl

/-- The loss. -/
theorem v61 (j : Fin 128) : val_main_v61 (F := Ideal) x0 x1 x2 x3 x4 (ix2 0 j) = ∑ r, mse (hR x0 x1 x2 r) (gR x4) (rowOf x3 r) * ((1 / 2 : ℝ) : EReal) := by
  rw [sum_mul_real (by norm_num), mul_comm]
  pointwise [val_main_v61, val_main_v28, val_main_v27, val_main_cst_6, val_main_cst_7]
  rw [c_half]
  simp only [v26]

/-- The gradients of the norm. -/
theorem v34 : val_main_v34 (F := Ideal) x0 x1 x2 x3 x4 (ix2 r k) = dout (hR x0 x1 x2 r) (gR x4) (rowOf x3 r) k := by
  pointwise [val_main_v34, val_main_v33, val_main_v32, val_main_v31, val_main_v30, val_main_v29, val_main_v23, val_main_v22, val_main_cst_3, val_main_cst_8, val_main_cst_9, val_main_cst_10]
  rw [c_half, c_1024, c_two, v20, dout_eq]
  rfl

theorem v39 : val_main_v39 (F := Ideal) x0 x1 x2 x3 x4 (ix2 r k) = dout (hR x0 x1 x2 r) (gR x4) (rowOf x3 r) k * gR x4 k := by
  pointwise [val_main_v39, val_main_v38, val_main_v17]
  rw [v34]

/-- The gradient of the gain. -/
theorem v60 : val_main_v60 (F := Ideal) x0 x1 x2 x3 x4 (ix2 0 k)
    = ∑ r, dout (hR x0 x1 x2 r) (gR x4) (rowOf x3 r) k * (hR x0 x1 x2 r k * rstd (hR x0 x1 x2 r)) := by
  pointwise [val_main_v60, val_main_v40, val_main_v37, val_main_v36, val_main_v35, val_main_cst_11, val_main_cst_12]
  rw [Fin.sum_univ_one]
  simp only [v16, v34, mul_comm _ (dout _ _ _ _)]

/-- The gradient of the mean square, over the number of columns. -/
theorem v49 : val_main_v49 (F := Ideal) x0 x1 x2 x3 x4 (ix1 r) = dms (hR x0 x1 x2 r) (fun k => dout (hR x0 x1 x2 r) (gR x4) (rowOf x3 r) k * gR x4 k) := by
  pointwise [val_main_v49, val_main_v48, val_main_v47, val_main_v46, val_main_v43, val_main_v42, val_main_v41, val_main_cst_13, val_main_cst_14, val_main_cst_15]
  rw [Fin.sum_univ_one, v14, c_1024]
  simp only [v3, v39]
  rfl

/-- The gradient of the rows. -/
theorem v54 : val_main_v54 (F := Ideal) x0 x1 x2 x3 x4 (ix2 r k) = dh (hR x0 x1 x2 r) (gR x4) (rowOf x3 r) k := by
  pointwise [val_main_v54, val_main_v53, val_main_v52, val_main_v51, val_main_v50, val_main_v45, val_main_v44]
  rw [v49, v39, v11, v3]
  unfold dh
  rw [dxn_eq, ← add_assoc]

/-- The gradients of the last result and of the gate. -/
theorem v62 : val_main_v62 (F := Ideal) x0 x1 x2 x3 x4 (ix2 r k) = dh (hR x0 x1 x2 r) (gR x4) (rowOf x3 r) k * x2 (ix2 0 k) := by
  pointwise [val_main_v62, val_main_v56, val_main_v55]
  rw [v54, mul_comm]

theorem v59 : val_main_v59 (F := Ideal) x0 x1 x2 x3 x4 (ix2 0 k) = ∑ r, dh (hR x0 x1 x2 r) (gR x4) (rowOf x3 r) k * x1 (ix2 r k) := by
  pointwise [val_main_v59, val_main_v58, val_main_v57, val_main_v0, val_main_cst_16]
  simp only [v54]

end Cert.Loss.Ref

end
-- ==== Proof.Loss.Agree.lean ====
/-
The loss head computes the loss and its derivative.
-/
module

public import proofs.«01_k».proof.Defs
public import proofs.«01_k».proof.Proof.Loss.Arrays
public import proofs.«01_k».proof.Proof.Loss.Ref

@[expose] public section

set_option maxRecDepth 16384

noncomputable section

namespace Cert.Loss

open Cert.FinalLossIdeal Cert.FinalLossIdeal.Gen Cert.FinalLossIdeal.Value Cert.FinalLossRefIdeal.Read Cert.Norm Idealize.ShloMosaic Idealize.ShloMosaic.TcCoe Idealize.SL.Sem

section
variable (m : (ℓ : Loc nD τ sig) → Buf (Elt Ideal) ℓ) (c : Dev nD)

/-- The loss and its derivatives, of the device's arguments, are the kernel's arrays. -/
theorem same :
    val_main_v54 (F := Ideal) (xA m c) (yA m c) (gateA m c) (tA m c) (gA m c) = (dats m 0 c).arrAt 5 cfg0.N
    ∧ val_main_v60 (F := Ideal) (xA m c) (yA m c) (gateA m c) (tA m c) (gA m c) = (dats m 0 c).arrAt 6 cfg0.N
    ∧ val_main_v61 (F := Ideal) (xA m c) (yA m c) (gateA m c) (tA m c) (gA m c) = (dats m 0 c).arrAt 7 cfg0.N
    ∧ val_main_v62 (F := Ideal) (xA m c) (yA m c) (gateA m c) (tA m c) (gA m c) = (dats m 0 c).arrAt 8 cfg0.N
    ∧ val_main_v59 (F := Ideal) (xA m c) (yA m c) (gateA m c) (tA m c) (gA m c) = (dats m 0 c).arrAt 9 cfg0.N :=
  ⟨rows_ext fun t i k => (Ref.v54 ..).trans (final5 m c t i k).symm,
    one_ext fun k => (Ref.v60 ..).trans (final6 m c k).symm,
    one_ext fun j => (Ref.v61 ..).trans (final7 m c j).symm,
    rows_ext fun t i k => (Ref.v62 ..).trans (final8 m c t i k).symm,
    one_ext fun k => (Ref.v59 ..).trans (final9 m c k).symm⟩

end

/-- The two programs have the same results. -/
theorem agree : Cert.algebraic_FinalLossIdeal_FinalLossRefIdeal := by
  intro m g m' g' _ hargs
  refine ⟨fun c => (dats m 0 c).arrAt 5 cfg0.N, fun c => (dats m 0 c).arrAt 6 cfg0.N, fun c => (dats m 0 c).arrAt 7 cfg0.N,
    fun c => (dats m 0 c).arrAt 8 cfg0.N, fun c => (dats m 0 c).arrAt 9 cfg0.N, Cert.FinalLossIdeal.Value.run_blocks m g, ?_⟩
  refine (θ_run _ _ _).mono (fun r h c => ?_) (Cert.FinalLossRefIdeal.Value.run m' g')
  obtain ⟨h0, h1, h2, h3, h4, hk⟩ := h c
  obtain ⟨e0, e1, e2, e3, e4⟩ := same m c
  obtain ⟨q0, q1, q2, q3, q4⟩ := hargs c
  unfold xA yA gateA tA gA at e0 e1 e2 e3 e4
  rw [← q0, ← q1, ← q2, ← q3, ← q4] at e0 e1 e2 e3 e4
  exact ⟨h0.trans ((val_main_v54_eq m' c).trans e0), h1.trans ((val_main_v60_eq ..).trans e1), h2.trans ((val_main_v61_eq ..).trans e2),
    h3.trans ((val_main_v62_eq m' c).trans e3), h4.trans ((val_main_v59_eq m' c).trans e4), hk⟩

/-- The reference leaves its arguments as they were, and it has no counters. -/
theorem reference_frame : Cert.quiescent_FinalLossRefIdeal := fun m g _ =>
  (θ_run _ _ _).mono (fun r h => And.intro (fun c : Dev Cert.FinalLossRefIdeal.nD => (h c).2.2.2.2.2) (sem_eq_zero_of_no_sems (by decide) r.2))
    (Cert.FinalLossRefIdeal.Value.run (F := Ideal) m g)

end Cert.Loss

end
-- ==== Proof.Adam.Steps.lean ====
/-
The optimiser's step, for each layout of weights the version gives it: what the body makes of a weight, its gradient and
its two moments, element by element, is what the reference makes of them.
-/
module

public import proofs.«01_k».proof.Defs
public import proofs.«01_k».proof.Proof.Gen.AdamAdaIdeal.Value
public import proofs.«01_k».proof.Proof.Gen.AdamAdaRefIdeal.Run
public import proofs.«01_k».proof.Proof.Gen.AdamQkvIdeal.Value
public import proofs.«01_k».proof.Proof.Gen.AdamQkvRefIdeal.Run
public import proofs.«01_k».proof.Proof.Gen.AdamOutIdeal.Value
public import proofs.«01_k».proof.Proof.Gen.AdamOutRefIdeal.Run
public import proofs.«01_k».proof.Proof.Gen.AdamConvInIdeal.Value
public import proofs.«01_k».proof.Proof.Gen.AdamConvInRefIdeal.Run
public import proofs.«01_k».proof.Proof.Gen.AdamConvOutIdeal.Value
public import proofs.«01_k».proof.Proof.Gen.AdamConvOutRefIdeal.Run
public import proofs.«01_k».proof.Proof.Gen.AdamSguInIdeal.Value
public import proofs.«01_k».proof.Proof.Gen.AdamSguInRefIdeal.Run
public import proofs.«01_k».proof.Proof.Gen.AdamFfnInIdeal.Value
public import proofs.«01_k».proof.Proof.Gen.AdamFfnInRefIdeal.Run
public import proofs.«01_k».proof.Proof.Gen.AdamFfnOutIdeal.Value
public import proofs.«01_k».proof.Proof.Gen.AdamFfnOutRefIdeal.Run
public import proofs.«01_k».proof.Proof.Gen.AdamSmallIdeal.Value
public import proofs.«01_k».proof.Proof.Gen.AdamSmallRefIdeal.Run

@[expose] public section

set_option maxRecDepth 16384

noncomputable section

namespace Cert.Adam

open Idealize.ShloMosaic Idealize.ShloMosaic.TcCoe Idealize.SL.Sem

/-! ## The adaptive modulation's weights -/

theorem Ada.agree : Cert.algebraic_AdamAdaIdeal_AdamAdaRefIdeal := by
  intro m g m' g' _ hargs
  refine ⟨_, _, _, Cert.AdamAdaIdeal.Value.run m g, (θ_run _ _ _).mono (fun r h c => ?_) (Cert.AdamAdaRefIdeal.Value.run m' g')⟩
  obtain ⟨q0, q1, q2, q3⟩ := hargs c
  refine ⟨(h c).1.trans ?_, (h c).2.1.trans ?_, (h c).2.2.1.trans ?_, (h c).2.2.2⟩ <;> simp only [q0, q1, q2, q3] <;> rfl

theorem Ada.reference_frame : Cert.quiescent_AdamAdaRefIdeal := fun m g _ =>
  (θ_run _ _ _).mono (fun r h => And.intro (fun c => (h c).2.2.2) (sem_eq_zero_of_no_sems (by decide) r.2)) (Cert.AdamAdaRefIdeal.Value.run (F := Ideal) m g)

/-! ## The attention's three projections -/

theorem Qkv.agree : Cert.algebraic_AdamQkvIdeal_AdamQkvRefIdeal := by
  intro m g m' g' _ hargs
  refine ⟨_, _, _, Cert.AdamQkvIdeal.Value.run m g, (θ_run _ _ _).mono (fun r h c => ?_) (Cert.AdamQkvRefIdeal.Value.run m' g')⟩
  obtain ⟨q0, q1, q2, q3⟩ := hargs c
  refine ⟨(h c).1.trans ?_, (h c).2.1.trans ?_, (h c).2.2.1.trans ?_, (h c).2.2.2⟩ <;> simp only [q0, q1, q2, q3] <;> rfl

theorem Qkv.reference_frame : Cert.quiescent_AdamQkvRefIdeal := fun m g _ =>
  (θ_run _ _ _).mono (fun r h => And.intro (fun c => (h c).2.2.2) (sem_eq_zero_of_no_sems (by decide) r.2)) (Cert.AdamQkvRefIdeal.Value.run (F := Ideal) m g)

/-! ## The output projections of the attention and of the gating unit -/

theorem Out.agree : Cert.algebraic_AdamOutIdeal_AdamOutRefIdeal := by
  intro m g m' g' _ hargs
  refine ⟨_, _, _, Cert.AdamOutIdeal.Value.run m g, (θ_run _ _ _).mono (fun r h c => ?_) (Cert.AdamOutRefIdeal.Value.run m' g')⟩
  obtain ⟨q0, q1, q2, q3⟩ := hargs c
  refine ⟨(h c).1.trans ?_, (h c).2.1.trans ?_, (h c).2.2.1.trans ?_, (h c).2.2.2⟩ <;> simp only [q0, q1, q2, q3] <;> rfl

theorem Out.reference_frame : Cert.quiescent_AdamOutRefIdeal := fun m g _ =>
  (θ_run _ _ _).mono (fun r h => And.intro (fun c => (h c).2.2.2) (sem_eq_zero_of_no_sems (by decide) r.2)) (Cert.AdamOutRefIdeal.Value.run (F := Ideal) m g)

/-! ## The convolution's input projection -/

theorem ConvIn.agree : Cert.algebraic_AdamConvInIdeal_AdamConvInRefIdeal := by
  intro m g m' g' _ hargs
  refine ⟨_, _, _, Cert.AdamConvInIdeal.Value.run m g, (θ_run _ _ _).mono (fun r h c => ?_) (Cert.AdamConvInRefIdeal.Value.run m' g')⟩
  obtain ⟨q0, q1, q2, q3⟩ := hargs c
  refine ⟨(h c).1.trans ?_, (h c).2.1.trans ?_, (h c).2.2.1.trans ?_, (h c).2.2.2⟩ <;> simp only [q0, q1, q2, q3] <;> rfl

theorem ConvIn.reference_frame : Cert.quiescent_AdamConvInRefIdeal := fun m g _ =>
  (θ_run _ _ _).mono (fun r h => And.intro (fun c => (h c).2.2.2) (sem_eq_zero_of_no_sems (by decide) r.2)) (Cert.AdamConvInRefIdeal.Value.run (F := Ideal) m g)

/-! ## The convolution's output projection -/

theorem ConvOut.agree : Cert.algebraic_AdamConvOutIdeal_AdamConvOutRefIdeal := by
  intro m g m' g' _ hargs
  refine ⟨_, _, _, Cert.AdamConvOutIdeal.Value.run m g, (θ_run _ _ _).mono (fun r h c => ?_) (Cert.AdamConvOutRefIdeal.Value.run m' g')⟩
  obtain ⟨q0, q1, q2, q3⟩ := hargs c
  refine ⟨(h c).1.trans ?_, (h c).2.1.trans ?_, (h c).2.2.1.trans ?_, (h c).2.2.2⟩ <;> simp only [q0, q1, q2, q3] <;> rfl

theorem ConvOut.reference_frame : Cert.quiescent_AdamConvOutRefIdeal := fun m g _ =>
  (θ_run _ _ _).mono (fun r h => And.intro (fun c => (h c).2.2.2) (sem_eq_zero_of_no_sems (by decide) r.2)) (Cert.AdamConvOutRefIdeal.Value.run (F := Ideal) m g)

/-! ## The gating unit's input projection -/

theorem SguIn.agree : Cert.algebraic_AdamSguInIdeal_AdamSguInRefIdeal := by
  intro m g m' g' _ hargs
  refine ⟨_, _, _, Cert.AdamSguInIdeal.Value.run m g, (θ_run _ _ _).mono (fun r h c => ?_) (Cert.AdamSguInRefIdeal.Value.run m' g')⟩
  obtain ⟨q0, q1, q2, q3⟩ := hargs c
  refine ⟨(h c).1.trans ?_, (h c).2.1.trans ?_, (h c).2.2.1.trans ?_, (h c).2.2.2⟩ <;> simp only [q0, q1, q2, q3] <;> rfl

theorem SguIn.reference_frame : Cert.quiescent_AdamSguInRefIdeal := fun m g _ =>
  (θ_run _ _ _).mono (fun r h => And.intro (fun c => (h c).2.2.2) (sem_eq_zero_of_no_sems (by decide) r.2)) (Cert.AdamSguInRefIdeal.Value.run (F := Ideal) m g)

/-! ## The feed-forward layer's input projection -/

theorem FfnIn.agree : Cert.algebraic_AdamFfnInIdeal_AdamFfnInRefIdeal := by
  intro m g m' g' _ hargs
  refine ⟨_, _, _, Cert.AdamFfnInIdeal.Value.run m g, (θ_run _ _ _).mono (fun r h c => ?_) (Cert.AdamFfnInRefIdeal.Value.run m' g')⟩
  obtain ⟨q0, q1, q2, q3⟩ := hargs c
  refine ⟨(h c).1.trans ?_, (h c).2.1.trans ?_, (h c).2.2.1.trans ?_, (h c).2.2.2⟩ <;> simp only [q0, q1, q2, q3] <;> rfl

theorem FfnIn.reference_frame : Cert.quiescent_AdamFfnInRefIdeal := fun m g _ =>
  (θ_run _ _ _).mono (fun r h => And.intro (fun c => (h c).2.2.2) (sem_eq_zero_of_no_sems (by decide) r.2)) (Cert.AdamFfnInRefIdeal.Value.run (F := Ideal) m g)

/-! ## The feed-forward layer's output projection -/

theorem FfnOut.agree : Cert.algebraic_AdamFfnOutIdeal_AdamFfnOutRefIdeal := by
  intro m g m' g' _ hargs
  refine ⟨_, _, _, Cert.AdamFfnOutIdeal.Value.run m g, (θ_run _ _ _).mono (fun r h c => ?_) (Cert.AdamFfnOutRefIdeal.Value.run m' g')⟩
  obtain ⟨q0, q1, q2, q3⟩ := hargs c
  refine ⟨(h c).1.trans ?_, (h c).2.1.trans ?_, (h c).2.2.1.trans ?_, (h c).2.2.2⟩ <;> simp only [q0, q1, q2, q3] <;> rfl

theorem FfnOut.reference_frame : Cert.quiescent_AdamFfnOutRefIdeal := fun m g _ =>
  (θ_run _ _ _).mono (fun r h => And.intro (fun c => (h c).2.2.2) (sem_eq_zero_of_no_sems (by decide) r.2)) (Cert.AdamFfnOutRefIdeal.Value.run (F := Ideal) m g)

/-! ## The small parameters, packed -/

theorem Small.agree : Cert.algebraic_AdamSmallIdeal_AdamSmallRefIdeal := by
  intro m g m' g' _ hargs
  refine ⟨_, _, _, Cert.AdamSmallIdeal.Value.run m g, (θ_run _ _ _).mono (fun r h c => ?_) (Cert.AdamSmallRefIdeal.Value.run m' g')⟩
  obtain ⟨q0, q1, q2, q3⟩ := hargs c
  refine ⟨(h c).1.trans ?_, (h c).2.1.trans ?_, (h c).2.2.1.trans ?_, (h c).2.2.2⟩ <;> simp only [q0, q1, q2, q3] <;> rfl

theorem Small.reference_frame : Cert.quiescent_AdamSmallRefIdeal := fun m g _ =>
  (θ_run _ _ _).mono (fun r h => And.intro (fun c => (h c).2.2.2) (sem_eq_zero_of_no_sems (by decide) r.2)) (Cert.AdamSmallRefIdeal.Value.run (F := Ideal) m g)

end Cert.Adam

end
-- ==== Proof.SguFwd.Row.lean ====
/-
The gating unit's forward pass over the extended reals: the activation, the layer norm and the mixing of one chunk of 128
rows, for all values.
-/
module

public import proofs.«01_k».proof.Proof.Sgu.RefOps
public import proofs.«01_k».proof.Proof.Products.Blocks

@[expose] public section

noncomputable section

namespace Cert.Sgu.Fwd

open Idealize.ShloMosaic

/-- The activation. -/
def act (x : EReal) : EReal := ((1 / 2 : ℝ) : EReal) * x * (1 + Ideal.erf (x * (((Real.sqrt 2)⁻¹ : ℝ) : EReal)))

section
variable (p : Fin 4096 → EReal) (lg lb : Fin 2048 → EReal)

/-- The mean of a row's second half, activated. -/
def mean : EReal := Ideal.div (∑ k, act (p (hi k))) ((2048 : ℝ) : EReal)

/-- The second half less its mean. -/
def cen (k : Fin 2048) : EReal := act (p (hi k)) - mean p

/-- One over its standard deviation. -/
def scl : EReal := Ideal.rsqrt (Ideal.div (∑ k, cen p k * cen p k) ((2048 : ℝ) : EReal) + ((eps : ℝ) : EReal))

/-- The layer norm of the second half. -/
def nrm (k : Fin 2048) : EReal := cen p k * scl p * lg k + lb k

end

/-- A row of the result: the first half, activated, times the mixed rows of the chunk. -/
def mix (P : Fin 128 → Fin 4096 → EReal) (lg lb : Fin 2048 → EReal) (w : Fin 8 → Fin 128 → Fin 128 → EReal) (b : Fin 128 → Fin 8 → EReal)
    (t : Fin 128) (k : Fin 2048) : EReal :=
  act (P t (lo k)) * (∑ s, (if s ≤ t then w (grp k) t s else 0) * nrm (P s) lg lb k + b t (grp k))

/-- Two arrays are equal if they are so at every row of every chunk. -/
theorem chunks_ext {n : ℕ} {α : Type} {f g : (⟨2, ![8192, n]⟩ : Shape).Idx → α} (h : ∀ c t k, f (ix2 (row c t) k) = g (ix2 (row c t) k)) : f = g :=
  Cert.Products.arr2_ext fun r k => by
    have e : row ⟨r.val / 128, by omega⟩ ⟨r.val % 128, by omega⟩ = r := Fin.ext (Nat.div_add_mod _ _)
    rw [← e]
    exact h _ _ k

end Cert.Sgu.Fwd

end
-- ==== Proof.SguFwd.Block.lean ====
/-
What the body makes of a block: two chunks of 128 rows, one after the other.
-/
module

public import proofs.«01_k».proof.Proof.SguFwd.Row
public import proofs.«01_k».proof.Proof.Gen.SguFwdIdeal.Value

@[expose] public section

set_option maxRecDepth 16384

noncomputable section

namespace Cert.Sgu.Fwd

open Cert.SguFwdIdeal Cert.SguFwdIdeal.Gen Cert.Products Idealize.ShloMosaic

theorem c_inv_sqrt2 : Named.named (F := Ideal) (φ := .f32) κ "inv_sqrt2" 0x3F3504F3#32 = (((Real.sqrt 2)⁻¹ : ℝ) : EReal) :=
  IdealRules.named_const.ideal_named_scalar _ _ _ _ rfl

/-! ## One chunk -/

section
variable (x0 : Vec Ideal S128x4096 .bf16) (x1 x2 : Vec Ideal S1x2048 .f32) (x4 : Vec Ideal S128x8 .f32)

/-- The rows of the pre-activation. -/
abbrev rows (r : Fin 128) : Fin 4096 → EReal := fun k => x0 (ix2 r k)

theorem act_apply (r : Fin 128) (k : Fin 4096) : k0_pay6 (F := Ideal) x0 (ix2 r k) = act (x0 (ix2 r k)) := by
  pointwise [k0_pay6]
  rw [c_inv_sqrt2, c_half]
  rfl

/-- The first half, activated. -/
theorem u_apply (r : Fin 128) (k : Fin 2048) : k0_pay7 (F := Ideal) x0 (ix2 r k) = act (x0 (ix2 r (lo k))) := by
  pointwise [k0_pay7]
  exact act_apply x0 r (lo k)

/-- The layer norm of the second half. -/
theorem v_apply (r : Fin 128) (k : Fin 2048) : k0_pay8 (F := Ideal) x1 x2 x0 (ix2 r k)
    = nrm (rows x0 r) (fun k => x1 (ix2 0 k)) (fun k => x2 (ix2 0 k)) k := by
  pointwise [k0_pay8, k0_pay3, k0_pay4]
  simp only [act_apply, c_2048, c_eps]
  rfl

/-- What the body computes in a group of 256 lanes, at its first lane `o` and its number `n`. -/
def grpV (o n : Nat) (ho : S128x2048.Slices ![0, o] S128x256) (hn : S128x8.Slices ![0, n] S128x1)
    (l : Vec Ideal S1x128x128 .f32) : FVec Ideal S128x256 .f32 :=
  mulf (extractStridedSlice S128x256 ![0, o] (k0_pay7 x0) ho)
    (addf (matmul dot_S128x128_S128x256_S128x256_1_0_0_1_n_n none (truncf .bf16 (select k0_pay2 (shapeCast S128x128 l shapeCasts_S1x128x128_S128x128)
          (broadcast S128x128 (Scalar.ofBits .f32 0x00000000#32))) bitsLt_bf16_f32)
        (extractStridedSlice S128x256 ![0, o] (k0_pay8 x1 x2 x0) ho) (constant S128x256 .f32 0x00000000#32))
      (broadcastTo S128x256 (extractStridedSlice S128x1 ![0, n] (k0_pay5 x4) hn) broadcasts_S128x1_S128x256))

/-- The mask of the lower triangle at an index. -/
theorem mask_apply (t s : Fin 128) : k0_pay2 (ix2 t s) = BitVec.ofBool (decide (s ≤ t)) :=
  Cert.Sgu.pay9_apply t s

theorem grpV_apply {o n : Nat} {ho : S128x2048.Slices ![0, o] S128x256} {hn : S128x8.Slices ![0, n] S128x1} {l : Vec Ideal S1x128x128 .f32}
    (w : Fin 8 → Fin 128 → Fin 128 → EReal) (g : Fin 8) (hl : ∀ t s, l (ix3 0 t s) = w g t s) (e : o = 256 * g.val) (e' : n = g.val) (t : Fin 128) (d : Fin 256) :
    grpV x0 x1 x2 x4 o n ho hn l (ix2 t d)
      = mix (rows x0) (fun k => x1 (ix2 0 k)) (fun k => x2 (ix2 0 k)) w (fun t g => x4 (ix2 t g)) t (lane g d) := by
  subst e e'
  pointwise [grpV, mask_apply, k0_pay5]
  unfold mix
  rw [grp_lane]
  simp only [hl]
  refine congrArg₂ (· * ·) (u_apply x0 t (lane g d)) (congrArg (· + _) (Finset.sum_congr rfl fun s _ => ?_))
  refine congrArg₂ (· * ·) ?_ (v_apply x0 x1 x2 s (lane g d))
  by_cases h : s ≤ t <;> simp [h]

end

/-! ## The groups side by side -/

/-- Eight groups of lanes side by side. -/
def catV (v : Fin 8 → FVec Ideal S128x256 .f32) : FVec Ideal S128x2048 .bf16 :=
  truncf .bf16 (concatenate S128x2048 1 [⟨S128x256, v 0⟩, ⟨S128x256, v 1⟩, ⟨S128x256, v 2⟩, ⟨S128x256, v 3⟩, ⟨S128x256, v 4⟩, ⟨S128x256, v 5⟩,
    ⟨S128x256, v 6⟩, ⟨S128x256, v 7⟩] concatenates_S128x256_S128x256_S128x256_S128x256_S128x256_S128x256_S128x256_S128x256_S128x2048_d1) bitsLt_bf16_f32

theorem catV_apply (v : Fin 8 → FVec Ideal S128x256 .f32) (f : Fin 128 → Fin 2048 → EReal)
    (h : ∀ g t d, v g (ix2 t d) = f t (lane g d)) (t : Fin 128) (k : Fin 2048) : catV v (ix2 t k) = f t k := by
  obtain ⟨g, d, rfl⟩ : ∃ g d, k = lane g d := ⟨grp k, _, (lane_grp k).symm⟩
  rw [← h]
  pointwise [catV]
  have hd := d.isLt
  fin_vals g with hg
  all_goals
    have hl : (lane g d).val = 256 * g.val + d.val := rfl
    simp only [hl, hg]
    repeat (first | rw [dif_pos (by omega)] | rw [dif_neg (by omega)])
    congr 1
    · apply Fin.ext; rw [hg]; rfl
    · congr 1; apply Fin.ext; simp only []; omega

/-- One of eight matrices, as the body loads it. -/
theorem ld_apply (x : Vec Ideal S8x128x128 .f32) (g : Fin 8)
    (inb : ∀ a, (![g.val, 0, 0] : Fin 3 → Nat) a + S1x128x128.size a ≤ S8x128x128.size a) (t s : Fin 128) :
    (View.ld x (Rect.unit ![g.val, 0, 0] ![1, 128, 128] inb) : Vec Ideal S1x128x128 .f32) (ix3 0 t s) = x (ix3 g t s) := by
  pointwise []

section
variable (x0 : Vec Ideal S128x4096 .bf16) (x1 x2 : Vec Ideal S1x2048 .f32) (x3 : Vec Ideal S8x128x128 .f32) (x4 : Vec Ideal S128x8 .f32)

/-- What the body makes of a chunk. -/
def chunkV : FVec Ideal S128x2048 .bf16 := catV ![
  grpV x0 x1 x2 x4 0 0 slices_S128x2048_o0_0_S128x256 slices_S128x8_o0_0_S128x1 (View.ld x3 r0_3),
  grpV x0 x1 x2 x4 256 1 slices_S128x2048_o0_256_S128x256 slices_S128x8_o0_1_S128x1 (View.ld x3 r0_4),
  grpV x0 x1 x2 x4 512 2 slices_S128x2048_o0_512_S128x256 slices_S128x8_o0_2_S128x1 (View.ld x3 r0_5),
  grpV x0 x1 x2 x4 768 3 slices_S128x2048_o0_768_S128x256 slices_S128x8_o0_3_S128x1 (View.ld x3 r0_6),
  grpV x0 x1 x2 x4 1024 4 slices_S128x2048_o0_1024_S128x256 slices_S128x8_o0_4_S128x1 (View.ld x3 r0_7),
  grpV x0 x1 x2 x4 1280 5 slices_S128x2048_o0_1280_S128x256 slices_S128x8_o0_5_S128x1 (View.ld x3 r0_8),
  grpV x0 x1 x2 x4 1536 6 slices_S128x2048_o0_1536_S128x256 slices_S128x8_o0_6_S128x1 (View.ld x3 r0_9),
  grpV x0 x1 x2 x4 1792 7 slices_S128x2048_o0_1792_S128x256 slices_S128x8_o0_7_S128x1 (View.ld x3 r0_10)]

theorem chunkV_apply (t : Fin 128) (k : Fin 2048) : chunkV x0 x1 x2 x3 x4 (ix2 t k)
    = mix (rows x0) (fun k => x1 (ix2 0 k)) (fun k => x2 (ix2 0 k)) (fun g t s => x3 (ix3 g t s)) (fun t g => x4 (ix2 t g)) t k := by
  refine catV_apply _ _ (fun g => ?_) t k
  fin_cases g <;> intro t d
  · exact grpV_apply x0 x1 x2 x4 _ 0 (ld_apply x3 0 _) rfl rfl t d
  · exact grpV_apply x0 x1 x2 x4 _ 1 (ld_apply x3 1 _) rfl rfl t d
  · exact grpV_apply x0 x1 x2 x4 _ 2 (ld_apply x3 2 _) rfl rfl t d
  · exact grpV_apply x0 x1 x2 x4 _ 3 (ld_apply x3 3 _) rfl rfl t d
  · exact grpV_apply x0 x1 x2 x4 _ 4 (ld_apply x3 4 _) rfl rfl t d
  · exact grpV_apply x0 x1 x2 x4 _ 5 (ld_apply x3 5 _) rfl rfl t d
  · exact grpV_apply x0 x1 x2 x4 _ 6 (ld_apply x3 6 _) rfl rfl t d
  · exact grpV_apply x0 x1 x2 x4 _ 7 (ld_apply x3 7 _) rfl rfl t d

end

/-! ## The block's two chunks -/

section
variable (x0 : Vec Ideal S256x4096 .bf16) (x1 x2 : Vec Ideal S1x2048 .f32) (x3 : Vec Ideal S8x128x128 .f32) (x4 : Vec Ideal S128x8 .f32)

/-- The stores, the second chunk's first. -/
theorem out5_eq : out0_5 (F := Ideal) x0 x1 x2 x3 x4
    = View.canon [⟨r0_13, chunkV (View.ld x0 r0_12) x1 x2 x3 x4⟩, ⟨r0_11, chunkV (View.ld x0 r0_2) x1 x2 x3 x4⟩] := by
  unfold_out out0_5
  simp only [View.ld_unit_zero (S := S1x2048) hz, View.ld_unit_zero (S := S128x8) hz]
  rfl

/-- Row `t` of chunk `i` of the block. -/
def place (i : Fin 2) (t : Fin 128) : Fin 256 := ⟨128 * i.val + t.val, by omega⟩

/-- What the body leaves in the block, at an index. -/
theorem out5_apply (i : Fin 2) (t : Fin 128) (k : Fin 2048) : out0_5 (F := Ideal) x0 x1 x2 x3 x4 (ix2 (place i t) k)
    = mix (fun s k => x0 (ix2 (place i s) k)) (fun k => x1 (ix2 0 k)) (fun k => x2 (ix2 0 k)) (fun g t s => x3 (ix3 g t s)) (fun t g => x4 (ix2 t g)) t k := by
  rw [out5_eq]
  fin_vals i with hi
  · rw [View.canon_cons_of_not_mem]
    · have h : r0_11.emb (ix2 t k) = ix2 (place i t) k := ix2_ext (by show 0 + 1 * t.val = 128 * i.val + t.val; omega) (by show 0 + 1 * k.val = k.val; omega)
      rw [← h]
      refine (View.canon_cons_emb r0_11 _ _ _).trans ((chunkV_apply ..).trans ?_)
      have e : ∀ s k, View.ld x0 r0_2 (ix2 s k) = x0 (ix2 (place i s) k) := fun s k =>
        congrArg x0 (ix2_ext (by show 0 + 1 * s.val = 128 * i.val + s.val; omega) (by show 0 + 1 * k.val = k.val; omega))
      unfold rows
      simp only [e]
    · intro hm
      have h0 : 128 ≤ 128 * i.val + t.val := (Rect.mem_set_unit.mp
        (show _ ∈ (Rect.unit (s := S256x2048) ![128, 0] S128x2048.size inb_S256x2048_S128x2048_128_0).set from hm) 0).1
      omega
  · have h : r0_13.emb (ix2 t k) = ix2 (place i t) k := ix2_ext (by show 128 + 1 * t.val = 128 * i.val + t.val; omega) (by show 0 + 1 * k.val = k.val; omega)
    rw [← h]
    refine (View.canon_cons_emb r0_13 _ _ _).trans ((chunkV_apply ..).trans ?_)
    have e : ∀ s k, View.ld x0 r0_12 (ix2 s k) = x0 (ix2 (place i s) k) := fun s k =>
      congrArg x0 (ix2_ext (by show 128 + 1 * s.val = 128 * i.val + s.val; omega) (by show 0 + 1 * k.val = k.val; omega))
    unfold rows
    simp only [e]

end

end Cert.Sgu.Fwd

end
-- ==== Proof.SguFwd.Ref.lean ====
/-
The reference of the gating unit's forward pass, operation by operation, over the extended reals: row `t` of chunk `c` is
row `128 c + t`.
-/
module

public import proofs.«01_k».proof.Proof.SguFwd.Row
public import proofs.«01_k».proof.Proof.Gen.SguFwdRefIdeal.Read

@[expose] public section

set_option maxRecDepth 16384

noncomputable section

namespace Cert.Sgu.Fwd

open Cert.SguFwdRefIdeal Cert.SguFwdRefIdeal.Read Cert.SguFwdRefIdeal.Gen Idealize.ShloMosaic

/-! ## The host's operations -/

section
variable {φ : FTy} {a b : Ideal φ} {x y : EReal}

theorem mulE (ha : a = x) (hb : b = y) : FloatOps.mulf (F := Ideal) a b = x * y := by subst ha hb; rfl

theorem addE (ha : a = x) (hb : b = y) : FloatOps.addf (F := Ideal) a b = x + y := by subst ha hb; rfl

theorem subE (ha : a = x) (hb : b = y) : FloatOps.subf (F := Ideal) a b = x - y := by subst ha hb; rfl

theorem divE (ha : a = x) (hb : b = y) : FloatOps.hostDivf (F := Ideal) a b = Ideal.div x y := by subst ha hb; rfl

theorem erfE (ha : a = x) : FloatOps.hostUnary (F := Ideal) .erf a = Ideal.erf x := by subst ha; rfl

theorem rsqrtE (ha : a = x) : FloatOps.hostUnary (F := Ideal) .rsqrt a = Ideal.rsqrt x := by subst ha; rfl

/-- A sum started at zero. -/
theorem sumE {ι : Type} [Fintype ι] {z : EReal} {f g : ι → EReal} (hz : z = ((0 : ℝ) : EReal)) (h : ∀ k, f k = g k) :
    z + ∑ k, f k = ∑ k, g k := by
  rw [hz, EReal.coe_zero, zero_add]
  exact Finset.sum_congr rfl fun k _ => h k

end

variable (x0 : Vec Ideal S8192x4096 .bf16) (x1 x2 : Vec Ideal S2048 .f32) (x3 : Vec Ideal S8x128x128 .f32) (x4 : Vec Ideal S8x128 .f32)

/-- The rows of the pre-activation. -/
abbrev rowR (r : Fin 8192) : Fin 4096 → EReal := fun k => x0 (ix2 r k)

/-! ## The activation -/

theorem y3 (j : S8192x4096.Idx) : val_main_v3 (F := Ideal) j = ((0 : ℝ) : EReal) :=
  (val_main_v3_apply j).trans ((val_main_v2_apply _).trans ((val_main_v0_apply _).trans k_zero))

theorem y4 (j : S8192x4096.Idx) : val_main_v4 (F := Ideal) x0 j = x0 j :=
  (addE rfl (y3 j)).trans (by rw [EReal.coe_zero, add_zero]; rfl)

theorem y8 (j : S_.Idx) : val_main_v8 (F := Ideal) j = ((Real.sqrt 2 : ℝ) : EReal) :=
  toT (sqrtT (toT (mulT k_two k_one) (mul_one 2)) (by norm_num)) rfl

theorem y10 (j : S8192x4096.Idx) : val_main_v10 (F := Ideal) x0 j = x0 j * (((Real.sqrt 2)⁻¹ : ℝ) : EReal) :=
  (divE (y4 x0 j) ((val_main_v9_apply j).trans (y8 _))).trans (by
    rw [Ideal.div_coe (by positivity), one_div])

theorem y14 (j : S8192x4096.Idx) : val_main_v14 (F := Ideal) x0 j = act (x0 j) :=
  mulE (mulE ((val_main_v5_apply j).trans c_half) (y4 x0 j))
    (addE ((val_main_v12_apply j).trans (k_one.trans EReal.coe_one)) (erfE (y10 x0 j)))

theorem y15 (j : S8192x2048.Idx) (r : Fin 8192) (k : Fin 2048) (h0 : (j 0).val = r.val) (h1 : (j 1).val = k.val) :
    val_main_v15 (F := Ideal) x0 j = act (rowR x0 r (lo k)) :=
  (val_main_v15_apply x0 j).trans ((y14 x0 _).trans (congrArg (fun i => act (x0 i)) (at2 _ r (lo k) h0 h1)))

theorem y16 (j : S8192x2048.Idx) (r : Fin 8192) (k : Fin 2048) (h0 : (j 0).val = r.val) (h1 : (j 1).val = k.val) :
    val_main_v16 (F := Ideal) x0 j = act (rowR x0 r (hi k)) :=
  (val_main_v16_apply x0 j).trans ((y14 x0 _).trans (congrArg (fun i => act (x0 i)) (at2 _ r (hi k) h0 (congrArg (2048 + ·) h1))))

/-! ## The layer norm -/

theorem y20 (j : S8192x1.Idx) (r : Fin 8192) (h0 : (j 0).val = r.val) : val_main_v20 (F := Ideal) x0 j = mean (rowR x0 r) :=
  divE ((val_main_v18_apply x0 j).trans ((val_main_v17_apply x0 _).trans (sumE k_zero fun k => y16 x0 _ r k h0 rfl)))
    ((val_main_v19_apply j).trans c_2048)

theorem y22 (j : S8192x2048.Idx) (r : Fin 8192) (k : Fin 2048) (h0 : (j 0).val = r.val) (h1 : (j 1).val = k.val) :
    val_main_v22 (F := Ideal) x0 j = cen (rowR x0 r) k :=
  subE (y16 x0 j r k h0 h1) ((val_main_v21_apply x0 j).trans (y20 x0 _ r h0))

theorem y30 (j : S8192x1.Idx) (r : Fin 8192) (h0 : (j 0).val = r.val) : val_main_v30 (F := Ideal) x0 j = scl (rowR x0 r) :=
  rsqrtE (addE (divE ((val_main_v25_apply x0 j).trans ((val_main_v24_apply x0 _).trans (sumE k_zero fun k =>
      mulE (y22 x0 _ r k h0 rfl) (y22 x0 _ r k h0 rfl)))) ((val_main_v26_apply j).trans c_2048))
    ((val_main_v28_apply j).trans c_eps))

theorem y38 (j : S8192x2048.Idx) (r : Fin 8192) (k : Fin 2048) (h0 : (j 0).val = r.val) (h1 : (j 1).val = k.val) :
    val_main_v38 (F := Ideal) x0 x1 x2 j = nrm (rowR x0 r) (fun k => x1 (ix1 k)) (fun k => x2 (ix1 k)) k :=
  addE (mulE (mulE (y22 x0 j r k h0 h1) ((val_main_v31_apply x0 j).trans (y30 x0 _ r h0)))
      ((val_main_v34_apply x1 j).trans ((val_main_v33_apply x1 _).trans (congrArg x1 (at1 _ k h1)))))
    ((val_main_v37_apply x2 j).trans ((val_main_v36_apply x2 _).trans (congrArg x2 (at1 _ k h1))))

/-! ## The mixing -/

theorem y39 (j : S64x128x8x256.Idx) (c : Fin 64) (t : Fin 128) (g : Fin 8) (d : Fin 256) (h0 : (j 0).val = c.val) (h1 : (j 1).val = t.val)
    (h2 : (j 2).val = g.val) (h3 : (j 3).val = d.val) :
    val_main_v39 (F := Ideal) x0 x1 x2 j = nrm (rowR x0 (row c t)) (fun k => x1 (ix1 k)) (fun k => x2 (ix1 k)) (lane g d) :=
  (val_main_v39_apply x0 x1 x2 j).trans (y38 x0 x1 x2 _ (row c t) (lane g d)
    (by show ((((j 0).val * 128 + (j 1).val) * 8 + (j 2).val) * 256 + (j 3).val) / 2048 = 128 * c.val + t.val; rw [h0, h1, h2, h3]; omega)
    (by show ((((j 0).val * 128 + (j 1).val) * 8 + (j 2).val) * 256 + (j 3).val) % 2048 = 256 * g.val + d.val; rw [h0, h1, h2, h3]; omega))

theorem y44 (j : S8x128x128.Idx) (g : Fin 8) (t s : Fin 128) (h0 : (j 0).val = g.val) (h1 : (j 1).val = t.val) (h2 : (j 2).val = s.val) :
    val_main_v44 (F := Ideal) x3 j = if s ≤ t then x3 (ix3 g t s) else 0 := by
  rw [at3 j g t s h0 h1 h2]
  pointwise [val_main_v44, val_main_v43, val_main_v42, val_main_v41, val_main_v40, val_main_c, val_main_call0_v0, val_main_call0_v1, val_main_call0_v2, val_main_call0_v3, val_main_call0_v4, val_main_call0_v5, val_main_call0_c, val_main_call0_c_0, val_main_call1_v0, val_main_cst_9]
  rw [tril_bit]
  split <;> simp [Scalar.select]

/-- The mixed rows. -/
theorem y45 (j : S8x64x256x128.Idx) (c : Fin 64) (t : Fin 128) (g : Fin 8) (d : Fin 256) (h0 : (j 0).val = g.val) (h1 : (j 1).val = c.val)
    (h2 : (j 2).val = d.val) (h3 : (j 3).val = t.val) :
    val_main_v45 (F := Ideal) x0 x1 x2 x3 j
      = ∑ s, (if s ≤ t then x3 (ix3 g t s) else 0) * nrm (rowR x0 (row c s)) (fun k => x1 (ix1 k)) (fun k => x2 (ix1 k)) (lane g d) := by
  rw [val_main_v45_apply]
  refine Finset.sum_congr rfl fun s _ => ?_
  rw [y39 x0 x1 x2 (lidx_main_v45 j s) c s g d h1 rfl h0 h2, y44 x3 (ridx_main_v45 j s) g t s h0 h3 rfl]
  exact mul_comm _ _

/-- The bias of their row. -/
theorem y49 (j : S64x128x8x256.Idx) (t : Fin 128) (g : Fin 8) (h1 : (j 1).val = t.val) (h2 : (j 2).val = g.val) :
    val_main_v49 (F := Ideal) x4 j = x4 (ix2 g t) := by
  rw [val_main_v49_apply, val_main_v48_apply, val_main_v47_apply]
  exact congrArg x4 (at2 _ g t h2 h1)

/-- The two together. -/
theorem y50 (j : S64x128x8x256.Idx) (c : Fin 64) (t : Fin 128) (g : Fin 8) (d : Fin 256) (h0 : (j 0).val = c.val) (h1 : (j 1).val = t.val)
    (h2 : (j 2).val = g.val) (h3 : (j 3).val = d.val) :
    val_main_v50 (F := Ideal) x0 x1 x2 x3 x4 j
      = ∑ s, (if s ≤ t then x3 (ix3 g t s) else 0) * nrm (rowR x0 (row c s)) (fun k => x1 (ix1 k)) (fun k => x2 (ix1 k)) (lane g d) + x4 (ix2 g t) := by
  rw [val_main_v50_apply]
  refine addE ?_ (y49 x4 j t g h1 h2)
  rw [val_main_v46_apply]
  exact y45 x0 x1 x2 x3 _ c t g d h2 h0 h3 h1

/-- The reference, at an index. -/
theorem reference (c : Fin 64) (t : Fin 128) (k : Fin 2048) : val_main_v53 (F := Ideal) x0 x1 x2 x3 x4 (ix2 (row c t) k)
    = mix (fun s => rowR x0 (row c s)) (fun k => x1 (ix1 k)) (fun k => x2 (ix1 k)) (fun g t s => x3 (ix3 g t s)) (fun t g => x4 (ix2 g t)) t k :=
  (mulE (y15 x0 (ix2 (row c t) k) (row c t) k rfl rfl)
    ((val_main_v51_apply x0 x1 x2 x3 x4 _).trans (y50 x0 x1 x2 x3 x4 _ c t (grp k) ⟨k.val % 256, by omega⟩
      (by show ((128 * c.val + t.val) * 2048 + k.val) / _ = _; omega)
      (by show ((128 * c.val + t.val) * 2048 + k.val) / _ % _ = _; omega)
      (by show ((128 * c.val + t.val) * 2048 + k.val) / _ % _ = k.val / 256; omega)
      (by show ((128 * c.val + t.val) * 2048 + k.val) % _ = k.val % 256; omega)))).trans (by
    unfold mix
    rw [lane_grp])

end Cert.Sgu.Fwd

end
-- ==== Proof.SguFwd.Agree.lean ====
/-
The gating unit's forward pass: the call and its reference have the same result.
-/
module

public import proofs.«01_k».proof.Defs
public import proofs.«01_k».proof.Proof.SguFwd.Block
public import proofs.«01_k».proof.Proof.SguFwd.Ref
public import proofs.«01_k».proof.Proof.Gen.SguFwdRefIdeal.Run

@[expose] public section

set_option maxRecDepth 16384

noncomputable section

namespace Cert.Sgu.Fwd

open Cert.SguFwdIdeal Cert.SguFwdIdeal.Gen Cert.SguFwdIdeal.Value Cert.Products Idealize.ShloMosaic Idealize.ShloMosaic.TcCoe Idealize.SL.Sem

variable (m : (ℓ : Loc nD τ sig) → Buf (Elt Ideal) ℓ) (c : Dev nD)

/-- Where the blocks lie. -/
theorem idx : ∀ t : Fin cfg0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0 ∧ win0_3.index t 2 = 0)
    ∧ (win0_4.index t 0 = 0 ∧ win0_4.index t 1 = 0)
    ∧ (win0_5.index t 0 = t.val ∧ win0_5.index t 1 = 0) :=
  (by decide +kernel : ∀ t : Fin grid0.N, _)

/-- The arguments. -/
abbrev pA : Vec Ideal S8192x4096 .bf16 := m ((c : Thread nD τ).loc main_arg0)
abbrev gA : Vec Ideal S2048 .f32 := m ((c : Thread nD τ).loc main_arg1)
abbrev bA : Vec Ideal S2048 .f32 := m ((c : Thread nD τ).loc main_arg2)
abbrev wA : Vec Ideal S8x128x128 .f32 := m ((c : Thread nD τ).loc main_arg3)
abbrev sA : Vec Ideal S8x128 .f32 := m ((c : Thread nD τ).loc main_arg4)

/-- The point of a block of two chunks. -/
abbrev ptOf (t : Fin 32) : Fin cfg0.N := ⟨t.val, t.isLt.trans_eq N_0.symm⟩

/-- A chunk, at its block and its place there. -/
def chunk (t : Fin 32) (i : Fin 2) : Fin 64 := ⟨2 * t.val + i.val, by omega⟩

/-- The rows of a chunk in its block. -/
theorem at_place {t : Fin 32} {i : Fin 2} {s : Fin 128} {n : ℕ} (h : n = t.val) : n * 256 + 1 * (place i s).val = (row (chunk t i) s).val := by
  subst h
  show t.val * 256 + 1 * (128 * i.val + s.val) = 128 * (2 * t.val + i.val) + s.val
  omega

section
variable (t : Fin 32) (i : Fin 2)

theorem blk0 (s : Fin 128) (k : Fin 4096) : (iblk m c 0 (ptOf t) : Vec Ideal S256x4096 .bf16) (ix2 (place i s) k) = pA m c (ix2 (row (chunk t i) s) k) :=
  (View.read_apply ..).trans ((congrFun (V_main_arg0 m c) _).trans (congrArg (pA m c) (ix2_ext (at_place (idx _).1.1) (whole (idx _).1.2))))

/-- The call receives the layer norm's gain laid in one row. -/
theorem v0_apply (k : Fin 2048) : (Gen.V m c main_v0 : Vec Ideal S1x2048 .f32) (ix2 0 k) = gA m c (ix1 k) := by
  show (shapeCast S1x2048 (gA m c) shapeCasts_S2048_S1x2048) (ix2 0 k) = _
  exact ValueIdx.shapeCast_a_1a_apply ..

/-- And its bias. -/
theorem v1_apply (k : Fin 2048) : (Gen.V m c main_v1 : Vec Ideal S1x2048 .f32) (ix2 0 k) = bA m c (ix1 k) := by
  show (shapeCast S1x2048 (bA m c) shapeCasts_S2048_S1x2048) (ix2 0 k) = _
  exact ValueIdx.shapeCast_a_1a_apply ..

/-- And the bias of the mixing with its axes exchanged. -/
theorem v2_apply (s : Fin 128) (g : Fin 8) : (Gen.V m c main_v2 : Vec Ideal S128x8 .f32) (ix2 s g) = sA m c (ix2 g s) := by
  show (transpose S128x8 [1, 0] (sA m c) transposes_S8x128_S128x8_1_0) (ix2 s g) = _
  pointwise

theorem blk1 (k : Fin 2048) : (iblk m c 1 (ptOf t) : Vec Ideal S1x2048 .f32) (ix2 0 k) = gA m c (ix1 k) :=
  (View.read_apply ..).trans ((congrArg (Gen.V m c main_v0) (ix2_ext (s := k) (whole (idx _).2.1.1) (whole (idx _).2.1.2))).trans (v0_apply m c k))

theorem blk2 (k : Fin 2048) : (iblk m c 2 (ptOf t) : Vec Ideal S1x2048 .f32) (ix2 0 k) = bA m c (ix1 k) :=
  (View.read_apply ..).trans ((congrArg (Gen.V m c main_v1) (ix2_ext (s := k) (whole (idx _).2.2.1.1) (whole (idx _).2.2.1.2))).trans (v1_apply m c k))

theorem blk3 (g : Fin 8) (r s : Fin 128) : (iblk m c 3 (ptOf t) : Vec Ideal S8x128x128 .f32) (ix3 g r s) = wA m c (ix3 g r s) :=
  (View.read_apply ..).trans ((congrFun (V_main_arg3 m c) _).trans (congrArg (wA m c)
    (at3 _ g r s (whole (idx _).2.2.2.1.1) (whole (idx _).2.2.2.1.2.1) (whole (idx _).2.2.2.1.2.2))))

theorem blk4 (s : Fin 128) (g : Fin 8) : (iblk m c 4 (ptOf t) : Vec Ideal S128x8 .f32) (ix2 s g) = sA m c (ix2 g s) :=
  (View.read_apply ..).trans ((congrArg (Gen.V m c main_v2) (ix2_ext (r := s) (s := g) (whole (idx _).2.2.2.2.1.1) (whole (idx _).2.2.2.2.1.2))).trans (v2_apply m c s g))

/-- The result, at every index. -/
theorem final5 (r : Fin 128) (k : Fin 2048) : ((dats m 0 c).arrAt 5 cfg0.N : Vec Ideal S8192x2048 .bf16) (ix2 (row (chunk t i) r) k)
    = mix (fun s k => pA m c (ix2 (row (chunk t i) s) k)) (fun k => gA m c (ix1 k)) (fun k => bA m c (ix1 k)) (fun g r s => wA m c (ix3 g r s))
      (fun s g => sA m c (ix2 g s)) r k := by
  have hb := blocks5 m c (ptOf t) (flush0_5 _)
  rw [flushed5] at hb
  refine Eq.trans ?_ ((congrFun hb (ix2 (place i r) k)).trans ((out5_apply ..).trans (by simp only [blk0, blk1, blk2, blk3, blk4])))
  rw [View.read_apply]
  exact (congrArg ((dats m 0 c).arrAt 5 cfg0.N) (ix2_ext (at_place (idx _).2.2.2.2.2.1) (whole (idx _).2.2.2.2.2.2))).symm

end

/-- The result, at every row of every chunk. -/
theorem final (n : Fin 64) (r : Fin 128) (k : Fin 2048) : ((dats m 0 c).arrAt 5 cfg0.N : Vec Ideal S8192x2048 .bf16) (ix2 (row n r) k)
    = mix (fun s k => pA m c (ix2 (row n s) k)) (fun k => gA m c (ix1 k)) (fun k => bA m c (ix1 k)) (fun g r s => wA m c (ix3 g r s))
      (fun s g => sA m c (ix2 g s)) r k := by
  have e : chunk ⟨n.val / 2, by omega⟩ ⟨n.val % 2, by omega⟩ = n := Fin.ext (Nat.div_add_mod _ _)
  rw [← e]
  exact final5 m c _ _ r k

/-- The two programs have the same result. -/
theorem agree : Cert.algebraic_SguFwdIdeal_SguFwdRefIdeal := by
  intro m g m' g' _ hargs
  refine ⟨fun c => (dats m 0 c).arrAt 5 cfg0.N, Cert.SguFwdIdeal.Value.run_blocks m g, ?_⟩
  refine (θ_run _ _ _).mono (fun r h c => ⟨?_, (h c).2⟩) (Cert.SguFwdRefIdeal.Value.run m' g')
  obtain ⟨q0, q1, q2, q3, q4⟩ := hargs c
  refine (h c).1.trans ((Cert.SguFwdRefIdeal.Read.val_main_v53_eq _ _).trans ?_)
  rw [q0, q1, q2, q3, q4]
  exact chunks_ext fun n t k => (reference ..).trans (final m c n t k).symm

/-- The reference leaves its arguments as they were, and it has no counters. -/
theorem reference_frame : Cert.quiescent_SguFwdRefIdeal := fun m g _ =>
  (θ_run _ _ _).mono (fun r h => And.intro (fun c : Dev Cert.SguFwdRefIdeal.nD => (h c).2) (sem_eq_zero_of_no_sems (by decide) r.2))
    (Cert.SguFwdRefIdeal.Value.run (F := Ideal) m g)

end Cert.Sgu.Fwd

end
-- ==== Proof.Sum.Total.lean ====
/-
The sum of eight shares.
-/
module

public import proofs.«01_k».proof.Proof.Products.Blocks
public import proofs.«01_k».proof.Proof.Sgu.RefOps

@[expose] public section

noncomputable section

namespace Cert.Sum

open Idealize.ShloMosaic

/-- The sum of the eight shares of an element. -/
def total {n : ℕ} (x : (⟨3, ![8, n, 1024]⟩ : Shape).Idx → EReal) (r : Fin n) (k : Fin 1024) : EReal := ∑ d, x (ix3 d r k)

/-- One share after the other. -/
theorem one_by_one {n : ℕ} (x : (⟨3, ![8, n, 1024]⟩ : Shape).Idx → EReal) (r : Fin n) (k : Fin 1024) :
    x (ix3 0 r k) + x (ix3 1 r k) + x (ix3 2 r k) + x (ix3 3 r k) + x (ix3 4 r k) + x (ix3 5 r k) + x (ix3 6 r k) + x (ix3 7 r k) = total x r k :=
  (Fin.sum_univ_eight fun d => x (ix3 d r k)).symm

/-- All shares at once, from zero. -/
theorem from_zero {n : ℕ} {x : (⟨3, ![8, n, 1024]⟩ : Shape).Idx → EReal} {r : Fin n} {k : Fin 1024} {z : EReal} (hz : z = ((0 : ℝ) : EReal))
    (j : Fin 8 → (⟨3, ![8, n, 1024]⟩ : Shape).Idx) (h : ∀ d, (j d 0).val = d.val ∧ (j d 1).val = r.val ∧ (j d 2).val = k.val) :
    z + ∑ d, x (j d) = total x r k := by
  rw [hz, EReal.coe_zero, zero_add]
  exact Finset.sum_congr rfl fun d _ => congrArg x (Cert.Sgu.at3 _ d r k (h d).1 (h d).2.1 (h d).2.2)

end Cert.Sum

end
-- ==== Proof.Sum.Qkv.lean ====
/-
The shares of the gradient of the attention's input weight.
-/
module

public import proofs.«01_k».proof.Defs
public import proofs.«01_k».proof.Proof.Sum.Total
public import proofs.«01_k».proof.Proof.Gen.SumQkvIdeal.Value
public import proofs.«01_k».proof.Proof.Gen.SumQkvRefIdeal.Run
public import proofs.«01_k».proof.Proof.Gen.SumQkvRefIdeal.Read

@[expose] public section

set_option maxRecDepth 16384

noncomputable section

namespace Cert.Sum.Qkv

open Cert.SumQkvIdeal Cert.SumQkvIdeal.Gen Cert.SumQkvIdeal.Value Cert.Products Idealize.ShloMosaic Idealize.ShloMosaic.TcCoe Idealize.SL.Sem

/-- The result, at every index. -/
theorem result (x : Vec Ideal S8x192x1024 .bf16) (r : Fin 192) (k : Fin 1024) : G1 (F := Ideal) x (ix2 r k) = total x r k := by
  pointwise [G1, k0_pay1]
  exact one_by_one x r k

/-- The reference's result is the kernel's. -/
theorem same (x : Vec Ideal S8x192x1024 .bf16) : Cert.SumQkvRefIdeal.Read.val_main_v1 (F := Ideal) x = G1 x :=
  arr2_ext fun r k => (Cert.SumQkvRefIdeal.Read.val_main_v1_apply x _).trans
    ((from_zero Cert.Sgu.k_zero _ fun _ => ⟨rfl, rfl, rfl⟩).trans (result x r k).symm)

/-- The reference leaves its argument as it was, and it has no counters. -/
theorem reference_frame : Cert.quiescent_SumQkvRefIdeal := fun m g _ =>
  (θ_run _ _ _).mono (fun r h => And.intro (fun c : Dev Cert.SumQkvRefIdeal.nD => (h c).2) (sem_eq_zero_of_no_sems (by decide) r.2))
    (Cert.SumQkvRefIdeal.Value.run (F := Ideal) m g)

/-- The two programs have the same result. -/
theorem agree : Cert.algebraic_SumQkvIdeal_SumQkvRefIdeal := fun m g m' g' _ hargs =>
  ⟨fun c => G1 (m ((c : Thread nD τ).loc main_arg0)), run m g, (θ_run _ _ _).mono (fun _ h c =>
    ⟨(h c).1.trans ((Cert.SumQkvRefIdeal.Read.val_main_v1_eq _).trans (by rw [hargs c]; exact same _)), (h c).2⟩) (Cert.SumQkvRefIdeal.Value.run m' g')⟩

end Cert.Sum.Qkv

end
-- ==== Proof.Sum.Weights.lean ====
/-
The shares of the gradients of the other weights whose block is the whole array: the attention's output, the gating
unit's input and output, the feed-forward output.
-/
module

public import proofs.«01_k».proof.Defs
public import proofs.«01_k».proof.Proof.Sum.Total
public import proofs.«01_k».proof.Proof.Gen.SumOutIdeal.Value
public import proofs.«01_k».proof.Proof.Gen.SumOutRefIdeal.Run
public import proofs.«01_k».proof.Proof.Gen.SumOutRefIdeal.Read
public import proofs.«01_k».proof.Proof.Gen.SumSguOutIdeal.Value
public import proofs.«01_k».proof.Proof.Gen.SumSguOutRefIdeal.Run
public import proofs.«01_k».proof.Proof.Gen.SumSguOutRefIdeal.Read
public import proofs.«01_k».proof.Proof.Gen.SumSguInIdeal.Value
public import proofs.«01_k».proof.Proof.Gen.SumSguInRefIdeal.Run
public import proofs.«01_k».proof.Proof.Gen.SumSguInRefIdeal.Read
public import proofs.«01_k».proof.Proof.Gen.SumFfnOutIdeal.Value
public import proofs.«01_k».proof.Proof.Gen.SumFfnOutRefIdeal.Run
public import proofs.«01_k».proof.Proof.Gen.SumFfnOutRefIdeal.Read

@[expose] public section

set_option maxRecDepth 16384

noncomputable section

open Cert.Products Idealize.ShloMosaic Idealize.ShloMosaic.TcCoe Idealize.SL.Sem

namespace Cert.Sum.Out

open Cert.SumOutIdeal Cert.SumOutIdeal.Gen Cert.SumOutIdeal.Value Cert.SumOutRefIdeal.Read

theorem result (x : Vec Ideal S8x128x1024 .bf16) (r : Fin 128) (k : Fin 1024) : G1 (F := Ideal) x (ix2 r k) = total x r k := by
  pointwise [G1, k0_pay1]
  exact one_by_one x r k

theorem same (x : Vec Ideal S8x128x1024 .bf16) : val_main_v1 (F := Ideal) x = G1 x :=
  arr2_ext fun r k => (val_main_v1_apply x _).trans ((from_zero Cert.Sgu.k_zero _ fun _ => ⟨rfl, rfl, rfl⟩).trans (result x r k).symm)

theorem reference_frame : Cert.quiescent_SumOutRefIdeal := fun m g _ =>
  (θ_run _ _ _).mono (fun r h => And.intro (fun c : Dev Cert.SumOutRefIdeal.nD => (h c).2) (sem_eq_zero_of_no_sems (by decide) r.2))
    (Cert.SumOutRefIdeal.Value.run (F := Ideal) m g)

theorem agree : Cert.algebraic_SumOutIdeal_SumOutRefIdeal := fun m g m' g' _ hargs =>
  ⟨fun c => G1 (m ((c : Thread nD τ).loc main_arg0)), run m g, (θ_run _ _ _).mono (fun _ h c =>
    ⟨(h c).1.trans ((val_main_v1_eq _).trans (by rw [hargs c]; exact same _)), (h c).2⟩) (Cert.SumOutRefIdeal.Value.run m' g')⟩

end Cert.Sum.Out

namespace Cert.Sum.SguOut

open Cert.SumSguOutIdeal Cert.SumSguOutIdeal.Gen Cert.SumSguOutIdeal.Value Cert.SumSguOutRefIdeal.Read

theorem result (x : Vec Ideal S8x256x1024 .bf16) (r : Fin 256) (k : Fin 1024) : G1 (F := Ideal) x (ix2 r k) = total x r k := by
  pointwise [G1, k0_pay1]
  exact one_by_one x r k

theorem same (x : Vec Ideal S8x256x1024 .bf16) : val_main_v1 (F := Ideal) x = G1 x :=
  arr2_ext fun r k => (val_main_v1_apply x _).trans ((from_zero Cert.Sgu.k_zero _ fun _ => ⟨rfl, rfl, rfl⟩).trans (result x r k).symm)

theorem reference_frame : Cert.quiescent_SumSguOutRefIdeal := fun m g _ =>
  (θ_run _ _ _).mono (fun r h => And.intro (fun c : Dev Cert.SumSguOutRefIdeal.nD => (h c).2) (sem_eq_zero_of_no_sems (by decide) r.2))
    (Cert.SumSguOutRefIdeal.Value.run (F := Ideal) m g)

theorem agree : Cert.algebraic_SumSguOutIdeal_SumSguOutRefIdeal := fun m g m' g' _ hargs =>
  ⟨fun c => G1 (m ((c : Thread nD τ).loc main_arg0)), run m g, (θ_run _ _ _).mono (fun _ h c =>
    ⟨(h c).1.trans ((val_main_v1_eq _).trans (by rw [hargs c]; exact same _)), (h c).2⟩) (Cert.SumSguOutRefIdeal.Value.run m' g')⟩

end Cert.Sum.SguOut

namespace Cert.Sum.SguIn

open Cert.SumSguInIdeal Cert.SumSguInIdeal.Gen Cert.SumSguInIdeal.Value Cert.SumSguInRefIdeal.Read

theorem result (x : Vec Ideal S8x512x1024 .bf16) (r : Fin 512) (k : Fin 1024) : G1 (F := Ideal) x (ix2 r k) = total x r k := by
  pointwise [G1, k0_pay1]
  exact one_by_one x r k

theorem same (x : Vec Ideal S8x512x1024 .bf16) : val_main_v1 (F := Ideal) x = G1 x :=
  arr2_ext fun r k => (val_main_v1_apply x _).trans ((from_zero Cert.Sgu.k_zero _ fun _ => ⟨rfl, rfl, rfl⟩).trans (result x r k).symm)

theorem reference_frame : Cert.quiescent_SumSguInRefIdeal := fun m g _ =>
  (θ_run _ _ _).mono (fun r h => And.intro (fun c : Dev Cert.SumSguInRefIdeal.nD => (h c).2) (sem_eq_zero_of_no_sems (by decide) r.2))
    (Cert.SumSguInRefIdeal.Value.run (F := Ideal) m g)

theorem agree : Cert.algebraic_SumSguInIdeal_SumSguInRefIdeal := fun m g m' g' _ hargs =>
  ⟨fun c => G1 (m ((c : Thread nD τ).loc main_arg0)), run m g, (θ_run _ _ _).mono (fun _ h c =>
    ⟨(h c).1.trans ((val_main_v1_eq _).trans (by rw [hargs c]; exact same _)), (h c).2⟩) (Cert.SumSguInRefIdeal.Value.run m' g')⟩

end Cert.Sum.SguIn

namespace Cert.Sum.FfnOut

open Cert.SumFfnOutIdeal Cert.SumFfnOutIdeal.Gen Cert.SumFfnOutIdeal.Value Cert.SumFfnOutRefIdeal.Read

theorem result (x : Vec Ideal S8x352x1024 .bf16) (r : Fin 352) (k : Fin 1024) : G1 (F := Ideal) x (ix2 r k) = total x r k := by
  pointwise [G1, k0_pay1]
  exact one_by_one x r k

theorem same (x : Vec Ideal S8x352x1024 .bf16) : val_main_v1 (F := Ideal) x = G1 x :=
  arr2_ext fun r k => (val_main_v1_apply x _).trans ((from_zero Cert.Sgu.k_zero _ fun _ => ⟨rfl, rfl, rfl⟩).trans (result x r k).symm)

theorem reference_frame : Cert.quiescent_SumFfnOutRefIdeal := fun m g _ =>
  (θ_run _ _ _).mono (fun r h => And.intro (fun c : Dev Cert.SumFfnOutRefIdeal.nD => (h c).2) (sem_eq_zero_of_no_sems (by decide) r.2))
    (Cert.SumFfnOutRefIdeal.Value.run (F := Ideal) m g)

theorem agree : Cert.algebraic_SumFfnOutIdeal_SumFfnOutRefIdeal := fun m g m' g' _ hargs =>
  ⟨fun c => G1 (m ((c : Thread nD τ).loc main_arg0)), run m g, (θ_run _ _ _).mono (fun _ h c =>
    ⟨(h c).1.trans ((val_main_v1_eq _).trans (by rw [hargs c]; exact same _)), (h c).2⟩) (Cert.SumFfnOutRefIdeal.Value.run m' g')⟩

end Cert.Sum.FfnOut

end
-- ==== Proof.Sum.FfnIn.lean ====
/-
The shares of the gradient of the feed-forward input's weight.
-/
module

public import proofs.«01_k».proof.Defs
public import proofs.«01_k».proof.Proof.Sum.Total
public import proofs.«01_k».proof.Proof.Gen.SumFfnInIdeal.Value
public import proofs.«01_k».proof.Proof.Gen.SumFfnInRefIdeal.Run
public import proofs.«01_k».proof.Proof.Gen.SumFfnInRefIdeal.Read

@[expose] public section

set_option maxRecDepth 16384

noncomputable section

namespace Cert.Sum.FfnIn

open Cert.SumFfnInIdeal Cert.SumFfnInIdeal.Gen Cert.SumFfnInIdeal.Value Cert.Products Idealize.ShloMosaic Idealize.ShloMosaic.TcCoe Idealize.SL.Sem

/-- What the body makes of a block. -/
theorem out1_apply (x : Vec Ideal S8x352x1024 .bf16) (r : Fin 352) (k : Fin 1024) : out0_1 (F := Ideal) x (ix2 r k) = total x r k := by
  unfold out0_1
  simp only [View.canon_unit_zero (S := S352x1024) hz]
  pointwise [k0_pay1]
  exact one_by_one x r k

variable (m : (ℓ : Loc nD τ sig) → Buf (Elt Ideal) ℓ) (c : Dev nD)

/-- Where the blocks lie. -/
theorem idx : ∀ t : Fin cfg0.N, (win0_0.index t 0 = 0 ∧ win0_0.index t 1 = t.val ∧ win0_0.index t 2 = 0)
    ∧ (win0_1.index t 0 = t.val ∧ win0_1.index t 1 = 0) :=
  (by decide +kernel : ∀ t : Fin grid0.N, _)

/-- The shares. -/
abbrev shares : Vec Ideal S8x704x1024 .bf16 := m ((c : Thread nD τ).loc main_arg0)

/-- The point that writes row `r`, and the row's place in its block. -/
abbrev ptOf (r : Fin 704) : Fin cfg0.N := ⟨r.val / 352, (show r.val / 352 < 2 by omega).trans_eq N_0.symm⟩
abbrev inRow (r : Fin 704) : Fin 352 := ⟨r.val % 352, by omega⟩

theorem blk0 (r : Fin 704) (d : Fin 8) (k : Fin 1024) : (iblk m c 0 (ptOf r) : Vec Ideal S8x352x1024 .bf16) (ix3 d (inRow r) k) = shares m c (ix3 d r k) :=
  (View.read_apply ..).trans ((congrFun (V_main_arg0 m c) _).trans (congrArg (shares m c)
    (Cert.Sgu.at3 _ d r k (whole (idx _).1.1) (place (idx _).1.2.1) (whole (idx _).1.2.2))))

/-- The result, at every index. -/
theorem final (r : Fin 704) (k : Fin 1024) : ((dats m 0 c).arrAt 1 cfg0.N : Vec Ideal S704x1024 .f32) (ix2 r k) = total (shares m c) r k := by
  have hb := blocks1 m c (ptOf r) (flush0_1 _)
  rw [flushed1] at hb
  refine Eq.trans ?_ ((congrFun hb (ix2 (inRow r) k)).trans ((out1_apply ..).trans (Finset.sum_congr rfl fun d _ => blk0 m c r d k)))
  rw [View.read_apply]
  exact (congrArg ((dats m 0 c).arrAt 1 cfg0.N) (ix2_ext (place (idx _).2.1) (whole (idx _).2.2))).symm

/-- The reference, at every index. -/
theorem reference (x : Vec Ideal S8x704x1024 .bf16) (r : Fin 704) (k : Fin 1024) :
    Cert.SumFfnInRefIdeal.Read.val_main_v1 (F := Ideal) x (ix2 r k) = total x r k :=
  (Cert.SumFfnInRefIdeal.Read.val_main_v1_apply x _).trans (from_zero Cert.Sgu.k_zero _ fun _ => ⟨rfl, rfl, rfl⟩)

/-- The reference leaves its argument as it was, and it has no counters. -/
theorem reference_frame : Cert.quiescent_SumFfnInRefIdeal := fun m g _ =>
  (θ_run _ _ _).mono (fun r h => And.intro (fun c : Dev Cert.SumFfnInRefIdeal.nD => (h c).2) (sem_eq_zero_of_no_sems (by decide) r.2))
    (Cert.SumFfnInRefIdeal.Value.run (F := Ideal) m g)

/-- The two programs have the same result. -/
theorem agree : Cert.algebraic_SumFfnInIdeal_SumFfnInRefIdeal := by
  intro m g m' g' _ hargs
  refine ⟨fun c => (dats m 0 c).arrAt 1 cfg0.N, run_blocks m g, (θ_run _ _ _).mono (fun r h c => ⟨?_, (h c).2⟩) (Cert.SumFfnInRefIdeal.Value.run m' g')⟩
  refine (h c).1.trans ((Cert.SumFfnInRefIdeal.Read.val_main_v1_eq _).trans ?_)
  rw [hargs c]
  exact arr2_ext fun r k => (reference _ r k).trans (final m c r k).symm

end Cert.Sum.FfnIn

end
-- ==== Proof.Ada.Pad.lean ====
/-
Eight rows with eight more appended.
-/
module

public import proofs.«01_k».proof.Proof.Products.Blocks
public import Idealize.ShloMosaic.Lib.KernelVsHost
public import Idealize.ShloMosaic.PureOps.Ideal.Laws

@[expose] public section

noncomputable section

namespace Cert.Ada

open Idealize.ShloMosaic

variable {α : Type} {n : ℕ} {u : Shape} (x : (⟨2, ![8, n]⟩ : Shape).Idx → α) (v : u.Idx → α)
  (h : (⟨2, ![8, n]⟩ : Shape).Pads ![0, 0] ![8, 0] ![0, 0] ⟨2, ![16, n]⟩) (hu : 0 < u.numel) (r : Fin 8) (k : Fin n)

/-- The first eight rows are as they were. -/
theorem pad_first : pad ⟨2, ![16, n]⟩ ![0, 0] ![8, 0] ![0, 0] x v h hu (ix2 (Fin.castAdd 8 r) k) = x (ix2 r k) :=
  pad_apply_of_inside _ _ _ x v h hu _ _ fun a => match a with
    | ⟨0, _⟩ => show r.val = 0 + r.val * 1 by omega
    | ⟨1, _⟩ => show k.val = 0 + k.val * 1 by omega

/-- The others hold the value appended. -/
theorem pad_last : pad ⟨2, ![16, n]⟩ ![0, 0] ![8, 0] ![0, 0] x v h hu (ix2 (Fin.natAdd 8 r) k) = v (Shape.Idx.first hu) :=
  pad_apply_of_not_inside _ _ _ x v h hu _ ⟨0, Nat.zero_lt_two⟩ fun ha =>
    absurd (show (8 + r.val - 0) / (0 + 1) < 8 from ha.2.2) (by omega)

/-- The value appended is the integer zero. -/
theorem zero_word {s : Shape} {φ : FTy} (i : s.Idx) : sitofp (F := Ideal) φ (constantI s 32 0#32) i = (0 : EReal) := by
  show ((((0#32 : BitVec 32).toInt : ℤ) : ℝ) : EReal) = 0
  simp

/-- A sum over both halves of which the second is zero. -/
theorem sum_first (f : Fin (8 + 8) → EReal) (g : Fin 8 → EReal) (hf : ∀ d, f (Fin.castAdd 8 d) = g d) (hz : ∀ d, f (Fin.natAdd 8 d) = 0) :
    ∑ d, f d = ∑ d, g d := by
  rw [Fin.sum_univ_add, Finset.sum_congr rfl fun d _ => hf d, Finset.sum_congr rfl fun d _ => hz d, Finset.sum_const_zero, add_zero]

end Cert.Ada

end
-- ==== Proof.Ada.Mod.lean ====
/-
The conditioning's product: one layer's modulation of the eight devices' sequences, on one device's columns.
-/
module

public import proofs.«01_k».proof.Defs
public import proofs.«01_k».proof.Proof.Ada.Pad
public import proofs.«01_k».proof.Proof.Gen.AdaModIdeal.Value
public import proofs.«01_k».proof.Proof.Gen.AdaModRefIdeal.Run
public import proofs.«01_k».proof.Proof.Gen.AdaModRefIdeal.Read

@[expose] public section

set_option maxRecDepth 16384

noncomputable section

namespace Cert.Ada.Mod

open Cert.AdaModIdeal Cert.AdaModIdeal.Gen Cert.AdaModIdeal.Value Cert.Products Idealize.ShloMosaic Idealize.ShloMosaic.TcCoe Idealize.SL.Sem

/-- What the body makes of its blocks, at an index. -/
theorem pay_apply (x0 : Vec Ideal S16x1024 .bf16) (x1 : Vec Ideal S1024x768 .bf16) (x2 : Vec Ideal S1x768 .f32) (i : Fin 16) (j : Fin 768) :
    k0_pay1 x0 x1 x2 (ix2 i j) = (∑ k, x0 (ix2 i k) * x1 (ix2 k j)) + x2 (ix2 0 j) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) (iblk m c 2 t) := by
  unfold outsAt0 out0_A_3
  rw [View.read_writes_eq_canon _ _ _ fun y => cover0_A_3 (y := y) ..]
  unfold kernelRun0_A
  dsimp only
  sl_unfold_words
  simp only [View.canon_unit_zero (S := S16x768) hz, View.ld_unit_zero (S := S16x1024) hz, View.ld_unit_zero (S := S1024x768) hz, View.ld_unit_zero (S := S1x768) hz, View.readAt_eq_ld, (hs0_0 t).read_unread, (hs0_1 t).read_unread, (hs0_2 t).read_unread]

/-- Where the blocks lie. -/
theorem idx : ∀ t : Fin cfg0.N, (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0) :=
  (by decide +kernel : ∀ t : Fin grid0.N, _)

/-- The conditioning, the weight and the bias. -/
abbrev cond : Vec Ideal S8x1024 .f32 := m ((c : Thread nD τ).loc main_arg0)
abbrev weight : Vec Ideal S1024x768 .f32 := m ((c : Thread nD τ).loc main_arg1)
abbrev bias : Vec Ideal S1x768 .f32 := m ((c : Thread nD τ).loc main_arg2)

/-- The activation of the conditioning. -/
abbrev act (x : Vec Ideal S8x1024 .f32) : FVec Ideal S8x1024 .f32 := Cert.AdaModRefIdeal.Read.val_main_v0 (F := Ideal) x

/-- The call's left factor. -/
abbrev lhs : S16x1024.Idx → EReal := Gen.V m c main_v8

/-- It is the activation with eight rows of zeros appended. -/
theorem left : lhs m c
    = (pad S16x1024 ![0, 0] ![8, 0] ![0, 0] (act (cond m c)) (sitofp (F := Ideal) .f32 (constantI S_ 32 0#32)) pads_S8x1024_S16x1024_080_000 h_S_ : S16x1024.Idx → EReal) := by
  unfold lhs Gen.V
  simp only [List.flatten_cons, List.flatten_nil, List.append_nil, List.cons_append, List.nil_append]
  after_results
  rfl

theorem left_first (r : Fin 8) (k : Fin 1024) : lhs m c (ix2 (Fin.castAdd 8 r) k) = act (cond m c) (ix2 r k) :=
  (congrFun (left m c) _).trans (pad_first ..)

theorem left_last (r : Fin 8) (k : Fin 1024) : lhs m c (ix2 (Fin.natAdd 8 r) k) = (0 : EReal) :=
  (congrFun (left m c) _).trans ((pad_last ..).trans (zero_word _))

theorem right (k : Fin 1024) (j : Fin 768) : (Gen.V m c main_v9 : Vec Ideal S1024x768 .bf16) (ix2 k j) = weight m c (ix2 k j) := by
  unfold Gen.V
  simp only [List.flatten_cons, List.flatten_nil, List.append_nil, List.cons_append, List.nil_append]
  after_results
  rfl

/-- The only point. -/
abbrev pt : Fin cfg0.N := ⟨0, Nat.zero_lt_one.trans_eq N_0.symm⟩

theorem blk0 (r : Fin 16) (k : Fin 1024) : (iblk m c 0 pt : Vec Ideal S16x1024 .bf16) (ix2 r k) = lhs m c (ix2 r k) :=
  (View.read_apply ..).trans (congrArg (lhs m c) (ix2_ext (r := r) (s := k) (whole (idx _).1.1) (whole (idx _).1.2)))

theorem blk1 (k : Fin 1024) (j : Fin 768) : (iblk m c 1 pt : Vec Ideal S1024x768 .bf16) (ix2 k j) = weight m c (ix2 k j) :=
  (View.read_apply ..).trans ((congrArg (Gen.V m c main_v9) (ix2_ext (r := k) (s := j) (whole (idx _).2.1.1) (whole (idx _).2.1.2))).trans (right m c k j))

theorem blk2 (j : Fin 768) : (iblk m c 2 pt : Vec Ideal S1x768 .f32) (ix2 0 j) = bias m c (ix2 0 j) :=
  (View.read_apply ..).trans ((congrFun (V_main_arg2 m c) _).trans (congrArg (bias m c) (ix2_ext (whole (r := 0) (idx _).2.2.1.1) (whole (idx _).2.2.1.2))))

/-- The result, at every index. -/
theorem final (r : Fin 16) (j : Fin 768) : ((dats m 0 c).arrAt 3 cfg0.N : Vec Ideal S16x768 .f32) (ix2 r j)
    = (∑ k, lhs m c (ix2 r k) * weight m c (ix2 k j)) + bias m c (ix2 0 j) := by
  have hb := blocks3 m c pt (flush0_3 _)
  rw [flushed3, out_eq] at hb
  refine Eq.trans ?_ ((congrFun hb (ix2 r j)).trans ((pay_apply ..).trans
    (congrArg₂ (· + ·) (Finset.sum_congr rfl fun k _ => by rw [blk0, blk1]) (blk2 m c j))))
  rw [View.read_apply]
  exact (congrArg ((dats m 0 c).arrAt 3 cfg0.N) (ix2_ext (whole (idx _).2.2.2.1) (whole (idx _).2.2.2.2))).symm

section Reference

open Cert.AdaModRefIdeal.Read

variable (x0 : Vec Ideal S8x1024 .f32) (x1 : Vec Ideal S1024x768 .f32) (x2 : Vec Ideal S1x768 .f32) (r : Fin 8) (j : Fin 768)

/-- The reference's product, with the bias. -/
theorem product : val_main_v3 (F := Ideal) x0 x1 x2 (ix2 r j) = (∑ k, act x0 (ix2 r k) * x1 (ix2 k j)) + x2 (ix2 0 j) :=
  (val_main_v3_apply x0 x1 x2 _).trans (congrArg₂ (fun a b : EReal => a + b)
    ((val_main_v1_apply x0 x1 _).trans (Finset.sum_congr rfl fun k _ =>
      congrArg₂ (fun a b : EReal => a * b) (congrArg (act x0) (ix2_ext rfl rfl)) (congrArg x1 (ix2_ext rfl rfl))))
    ((val_main_v2_apply x2 _).trans (congrArg x2 (ix2_ext (r := 0) rfl rfl))))

/-- Its first eight rows. -/
theorem reference_first : val_main_v5 (F := Ideal) x0 x1 x2 (ix2 (Fin.castAdd 8 r) j) = (∑ k, act x0 (ix2 r k) * x1 (ix2 k j)) + x2 (ix2 0 j) :=
  (concatenate_pair_apply_left (s₁ := Cert.AdaModRefIdeal.S8x768) (s₂ := Cert.AdaModRefIdeal.S8x768) (t := S16x768) (0 : Fin 2) _ _ _ (ix2 (Fin.castAdd 8 r) j) rfl (ix2 r j) fun b =>
    match b with | ⟨0, _⟩ => rfl | ⟨1, _⟩ => rfl).trans (product x0 x1 x2 r j)

/-- Its last eight. -/
theorem reference_last : val_main_v5 (F := Ideal) x0 x1 x2 (ix2 (Fin.natAdd 8 r) j) = x2 (ix2 0 j) :=
  (concatenate_pair_apply_right (s₁ := Cert.AdaModRefIdeal.S8x768) (s₂ := Cert.AdaModRefIdeal.S8x768) (t := S16x768) (0 : Fin 2) _ _ _ (ix2 (Fin.natAdd 8 r) j) rfl rfl (ix2 r j) (fun b hb =>
    match b with | ⟨0, _⟩ => absurd rfl hb | ⟨1, _⟩ => rfl) (Nat.add_comm _ _)).trans
    ((val_main_v4_apply x2 _).trans (congrArg x2 (ix2_ext (r := 0) rfl rfl)))

end Reference

/-- The two results, in both halves. -/
theorem same (r : Fin (8 + 8)) (j : Fin 768) :
    Cert.AdaModRefIdeal.Read.val_main_v5 (F := Ideal) (cond m c) (weight m c) (bias m c) (ix2 r j) = ((dats m 0 c).arrAt 3 cfg0.N : Vec Ideal S16x768 .f32) (ix2 r j) := by
  rw [final]
  refine Fin.addCases (fun r => ?_) (fun r => ?_) r
  · rw [reference_first]
    exact congrArg (· + _) (Finset.sum_congr rfl fun k _ => by rw [left_first])
  · rw [reference_last, Finset.sum_congr rfl fun k _ => by rw [left_last, zero_mul], Finset.sum_const_zero, zero_add]

/-- The reference leaves its arguments as they were, and it has no counters. -/
theorem reference_frame : Cert.quiescent_AdaModRefIdeal := fun m g _ =>
  (θ_run _ _ _).mono (fun r h => And.intro (fun c : Dev Cert.AdaModRefIdeal.nD => (h c).2) (sem_eq_zero_of_no_sems (by decide) r.2))
    (Cert.AdaModRefIdeal.Value.run (F := Ideal) m g)

/-- The two programs have the same results. -/
theorem agree : Cert.algebraic_AdaModIdeal_AdaModRefIdeal := by
  intro m g m' g' _ hargs
  refine ⟨fun c => (dats m 0 c).arrAt 3 cfg0.N, run_blocks m g, (θ_run _ _ _).mono (fun r h c => ⟨?_, (h c).2⟩) (Cert.AdaModRefIdeal.Value.run m' g')⟩
  obtain ⟨q0, q1, q2⟩ := hargs c
  refine (h c).1.trans ((Cert.AdaModRefIdeal.Read.val_main_v5_eq _ _ _).trans ?_)
  rw [q0, q1, q2]
  exact arr2_ext fun r j => same m c r j

end Cert.Ada.Mod

end
-- ==== Proof.Ada.Dw.lean ====
/-
The conditioning's weight gradient: one layer's, on one device's columns, over the eight devices' sequences.
-/
module

public import proofs.«01_k».proof.Defs
public import proofs.«01_k».proof.Proof.Ada.Pad
public import proofs.«01_k».proof.Proof.Gen.AdaDwIdeal.Value
public import proofs.«01_k».proof.Proof.Gen.AdaDwRefIdeal.Run
public import proofs.«01_k».proof.Proof.Gen.AdaDwRefIdeal.Read

@[expose] public section

set_option maxRecDepth 16384

noncomputable section

namespace Cert.Ada.Dw

open Cert.AdaDwIdeal Cert.AdaDwIdeal.Gen Cert.AdaDwIdeal.Value Cert.Products Idealize.ShloMosaic Idealize.ShloMosaic.TcCoe Idealize.SL.Sem

/-- What the body makes of its blocks, at an index. -/
theorem pay_apply (x0 : Vec Ideal S16x256 .bf16) (x1 : Vec Ideal S16x768 .bf16) (i : Fin 256) (j : Fin 768) :
    k0_pay1 x0 x1 (ix2 i j) = ∑ k, x0 (ix2 k i) * x1 (ix2 k j) := by
  unfold k0_pay1
  pointwise

variable (m : (ℓ : Loc nD τ sig) → Buf (Elt Ideal) ℓ) (c : Dev nD)

theorem out_eq (t : Fin cfg0.N) : outsAt0 m c t = k0_pay1 (iblk m c 0 t) (iblk m c 1 t) := by
  unfold outsAt0 out0_A_2
  rw [View.read_writes_eq_canon _ _ _ fun y => cover0_A_2 (y := y) ..]
  unfold kernelRun0_A
  dsimp only
  sl_unfold_words
  simp only [View.canon_unit_zero (S := S256x768) hz, View.ld_unit_zero (S := S16x256) hz, View.ld_unit_zero (S := S16x768) hz, View.readAt_eq_ld, (hs0_0 t).read_unread, (hs0_1 t).read_unread]

/-- Where the blocks lie. -/
theorem idx : ∀ t : Fin cfg0.N, (win0_0.index t 0 = 0 ∧ win0_0.index t 1 = t.val)
    ∧ (win0_1.index t 0 = 0 ∧ win0_1.index t 1 = 0)
    ∧ (win0_2.index t 0 = t.val ∧ win0_2.index t 1 = 0) :=
  (by decide +kernel : ∀ t : Fin grid0.N, _)

/-- The point that writes row `r`. -/
abbrev ptOf (r : Fin 1024) : Fin cfg0.N := ⟨r.val / 256, (show r.val / 256 < 4 by omega).trans_eq N_0.symm⟩
abbrev inRow (r : Fin 1024) : Fin 256 := ⟨r.val % 256, by omega⟩

/-- The conditioning, and the gradient of its modulation. -/
abbrev cond : Vec Ideal S8x1024 .f32 := m ((c : Thread nD τ).loc main_arg0)
abbrev dmod : FVec Ideal S8x768 .bf16 := m ((c : Thread nD τ).loc main_arg1)

/-- The activation of the conditioning. -/
abbrev act (x : Vec Ideal S8x1024 .f32) : FVec Ideal S8x1024 .f32 := Cert.AdaDwRefIdeal.Read.val_main_v1 (F := Ideal) x

/-- The call's factors. -/
abbrev lhs : S16x1024.Idx → EReal := Gen.V m c main_v8
abbrev rhs : S16x768.Idx → EReal := Gen.V m c main_v9

/-- The activation with eight rows of zeros appended. -/
theorem left : lhs m c
    = (pad S16x1024 ![0, 0] ![8, 0] ![0, 0] (act (cond m c)) (sitofp (F := Ideal) .f32 (constantI S_ 32 0#32)) pads_S8x1024_S16x1024_080_000 h_S_ : S16x1024.Idx → EReal) := by
  unfold lhs Gen.V
  simp only [List.flatten_cons, List.flatten_nil, List.append_nil, List.cons_append, List.nil_append]
  after_results
  rfl

/-- The gradient with eight rows of zeros appended. -/
theorem right : rhs m c
    = (pad S16x768 ![0, 0] ![8, 0] ![0, 0] (dmod m c) (sitofp (F := Ideal) .bf16 (constantI S_ 32 0#32)) pads_S8x768_S16x768_080_000 h_S_ : S16x768.Idx → EReal) := by
  unfold rhs Gen.V
  simp only [List.flatten_cons, List.flatten_nil, List.append_nil, List.cons_append, List.nil_append]
  after_results
  rfl

theorem blk0 (r : Fin 1024) (k : Fin 16) : (iblk m c 0 (ptOf r) : Vec Ideal S16x256 .bf16) (ix2 k (inRow r)) = lhs m c (ix2 k r) :=
  (View.read_apply ..).trans (congrArg (lhs m c) (ix2_ext (whole (idx _).1.1) (place (idx _).1.2)))

theorem blk1 (r : Fin 1024) (j : Fin 768) (k : Fin 16) : (iblk m c 1 (ptOf r) : Vec Ideal S16x768 .bf16) (ix2 k j) = rhs m c (ix2 k j) :=
  (View.read_apply ..).trans (congrArg (rhs m c) (ix2_ext (whole (idx _).2.1.1) (whole (idx _).2.1.2)))

/-- The result, at every index. -/
theorem final (r : Fin 1024) (j : Fin 768) : ((dats m 0 c).arrAt 2 cfg0.N : Vec Ideal S1024x768 .f32) (ix2 r j)
    = ∑ k, lhs m c (ix2 k r) * rhs m c (ix2 k j) := by
  have hb := blocks2 m c (ptOf r) (flush0_2 _)
  rw [flushed2, out_eq] at hb
  refine Eq.trans ?_ ((congrFun hb (ix2 (inRow r) j)).trans ((pay_apply ..).trans (Finset.sum_congr rfl fun k _ => by rw [blk0, blk1])))
  rw [View.read_apply]
  exact (congrArg ((dats m 0 c).arrAt 2 cfg0.N) (ix2_ext (place (idx _).2.2.1) (whole (idx _).2.2.2))).symm

/-- The rows appended add nothing. -/
theorem total (r : Fin 1024) (j : Fin 768) :
    ∑ k, lhs m c (ix2 k r) * rhs m c (ix2 k j) = ∑ k, act (cond m c) (ix2 k r) * dmod m c (ix2 k j) :=
  sum_first (fun k => lhs m c (ix2 k r) * rhs m c (ix2 k j)) _
    (fun k => congrArg₂ (fun a b : EReal => a * b) ((congrFun (left m c) _).trans (pad_first ..)) ((congrFun (right m c) _).trans (pad_first ..)))
    (fun k => (congrArg₂ (fun a b : EReal => a * b) ((congrFun (left m c) _).trans ((pad_last ..).trans (zero_word _))) rfl).trans (zero_mul _))

/-- The reference, at every index. -/
theorem reference (x0 : Vec Ideal S8x1024 .f32) (x1 : FVec Ideal S8x768 .bf16) (r : Fin 1024) (j : Fin 768) :
    Cert.AdaDwRefIdeal.Read.val_main_v5 (F := Ideal) x0 x1 (ix2 r j) = ∑ k, act x0 (ix2 k r) * x1 (ix2 k j) :=
  (Cert.AdaDwRefIdeal.Read.val_main_v5_apply x0 x1 _).trans ((Cert.AdaDwRefIdeal.Read.val_main_v4_apply x0 x1 _).trans
    (Finset.sum_congr rfl fun k _ => (mul_comm _ _).trans
      (congrArg₂ (fun a b : EReal => a * b) (congrArg (act x0) (ix2_ext rfl rfl)) (congrArg x1 (ix2_ext rfl rfl)))))

/-- The reference leaves its arguments as they were, and it has no counters. -/
theorem reference_frame : Cert.quiescent_AdaDwRefIdeal := fun m g _ =>
  (θ_run _ _ _).mono (fun r h => And.intro (fun c : Dev Cert.AdaDwRefIdeal.nD => (h c).2) (sem_eq_zero_of_no_sems (by decide) r.2))
    (Cert.AdaDwRefIdeal.Value.run (F := Ideal) m g)

/-- The two programs have the same results. -/
theorem agree : Cert.algebraic_AdaDwIdeal_AdaDwRefIdeal := by
  intro m g m' g' _ hargs
  refine ⟨fun c => (dats m 0 c).arrAt 2 cfg0.N, run_blocks m g, (θ_run _ _ _).mono (fun r h c => ⟨?_, (h c).2⟩) (Cert.AdaDwRefIdeal.Value.run m' g')⟩
  obtain ⟨q0, q1⟩ := hargs c
  refine (h c).1.trans ((Cert.AdaDwRefIdeal.Read.val_main_v5_eq _ _).trans ?_)
  rw [q0, q1]
  exact arr2_ext fun r j => (reference _ _ r j).trans ((final m c r j).trans (total m c r j)).symm

end Cert.Ada.Dw

end
-- ==== Proof.Sum.Small.lean ====
/-
The shares of the gradients of the small parameters, packed into an array: those sent as they are, and those sent
rounded.
-/
module

public import proofs.«01_k».proof.Defs
public import proofs.«01_k».proof.Proof.Sum.Total
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.Gen.SumSmallHalfIdeal.Value
public import proofs.«01_k».proof.Proof.Gen.SumSmallHalfRefIdeal.Run
public import proofs.«01_k».proof.Proof.Gen.SumSmallHalfRefIdeal.Read

@[expose] public section

set_option maxRecDepth 16384

noncomputable section

open Cert.Products Idealize.ShloMosaic Idealize.ShloMosaic.TcCoe Idealize.SL.Sem

namespace Cert.Sum.Small

open Cert.SumSmallIdeal Cert.SumSmallIdeal.Gen Cert.SumSmallIdeal.Value Cert.SumSmallRefIdeal.Read

theorem result (x : Vec Ideal S8x32x1024 .f32) (r : Fin 32) (k : Fin 1024) : G1 (F := Ideal) x (ix2 r k) = total x r k := by
  pointwise [G1, k0_pay1]
  exact one_by_one x r k

theorem same (x : Vec Ideal S8x32x1024 .f32) : val_main_v0 (F := Ideal) x = G1 x :=
  arr2_ext fun r k => (val_main_v0_apply x _).trans ((from_zero Cert.Sgu.k_zero _ fun _ => ⟨rfl, rfl, rfl⟩).trans (result x r k).symm)

theorem reference_frame : Cert.quiescent_SumSmallRefIdeal := fun m g _ =>
  (θ_run _ _ _).mono (fun r h => And.intro (fun c : Dev Cert.SumSmallRefIdeal.nD => (h c).2) (sem_eq_zero_of_no_sems (by decide) r.2))
    (Cert.SumSmallRefIdeal.Value.run (F := Ideal) m g)

theorem agree : Cert.algebraic_SumSmallIdeal_SumSmallRefIdeal := fun m g m' g' _ hargs =>
  ⟨fun c => G1 (m ((c : Thread nD τ).loc main_arg0)), run m g, (θ_run _ _ _).mono (fun _ h c =>
    ⟨(h c).1.trans ((val_main_v0_eq _).trans (by rw [hargs c]; exact same _)), (h c).2⟩) (Cert.SumSmallRefIdeal.Value.run m' g')⟩

end Cert.Sum.Small

namespace Cert.Sum.SmallHalf

open Cert.SumSmallHalfIdeal Cert.SumSmallHalfIdeal.Gen Cert.SumSmallHalfIdeal.Value Cert.SumSmallHalfRefIdeal.Read

theorem result (x : Vec Ideal S8x272x1024 .bf16) (r : Fin 272) (k : Fin 1024) : G1 (F := Ideal) x (ix2 r k) = total x r k := by
  pointwise [G1, k0_pay1]
  exact one_by_one x r k

theorem same (x : Vec Ideal S8x272x1024 .bf16) : val_main_v1 (F := Ideal) x = G1 x :=
  arr2_ext fun r k => (val_main_v1_apply x _).trans ((from_zero Cert.Sgu.k_zero _ fun _ => ⟨rfl, rfl, rfl⟩).trans (result x r k).symm)

theorem reference_frame : Cert.quiescent_SumSmallHalfRefIdeal := fun m g _ =>
  (θ_run _ _ _).mono (fun r h => And.intro (fun c : Dev Cert.SumSmallHalfRefIdeal.nD => (h c).2) (sem_eq_zero_of_no_sems (by decide) r.2))
    (Cert.SumSmallHalfRefIdeal.Value.run (F := Ideal) m g)

theorem agree : Cert.algebraic_SumSmallHalfIdeal_SumSmallHalfRefIdeal := fun m g m' g' _ hargs =>
  ⟨fun c => G1 (m ((c : Thread nD τ).loc main_arg0)), run m g, (θ_run _ _ _).mono (fun _ h c =>
    ⟨(h c).1.trans ((val_main_v1_eq _).trans (by rw [hargs c]; exact same _)), (h c).2⟩) (Cert.SumSmallHalfRefIdeal.Value.run m' g')⟩

end Cert.Sum.SmallHalf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.FfnInDw
public import proofs.«01_k».proof.Proof.Gen.FfnInDw.Skeleton
public import proofs.«01_k».proof.Proof.Gen.FfnInDw.Launch
public import proofs.«01_k».proof.Proof.Gen.FfnInDw.Points
public import proofs.«01_k».proof.Proof.Gen.FfnInDw.Frame
public import proofs.«01_k».proof.Proof.Gen.FfnInDwIdeal
public import proofs.«01_k».proof.Proof.Gen.FfnInDwIdeal.Skeleton
public import proofs.«01_k».proof.Proof.Gen.FfnInDwIdeal.Launch
public import proofs.«01_k».proof.Proof.Gen.FfnInDwIdeal.Points
public import proofs.«01_k».proof.Proof.Gen.FfnInDwIdeal.Frame
public import proofs.«01_k».proof.Proof.Gen.FfnInDwIdeal.Value
public import proofs.«01_k».proof.Proof.Gen.FfnInDwRefIdeal
public import proofs.«01_k».proof.Proof.Gen.FfnInDwRefIdeal.Run
public import proofs.«01_k».proof.Proof.Gen.FfnInDwRefIdeal.Read
public import proofs.«01_k».proof.Proof.Gen.FfnOutDw
public import proofs.«01_k».proof.Proof.Gen.FfnOutDw.Skeleton
public import proofs.«01_k».proof.Proof.Gen.FfnOutDw.Launch
public import proofs.«01_k».proof.Proof.Gen.FfnOutDw.Points
public import proofs.«01_k».proof.Proof.Gen.FfnOutDw.Frame
public import proofs.«01_k».proof.Proof.Gen.FfnOutDwIdeal
public import proofs.«01_k».proof.Proof.Gen.FfnOutDwIdeal.Skeleton
public import proofs.«01_k».proof.Proof.Gen.FfnOutDwIdeal.Launch
public import proofs.«01_k».proof.Proof.Gen.FfnOutDwIdeal.Points
public import proofs.«01_k».proof.Proof.Gen.FfnOutDwIdeal.Frame
public import proofs.«01_k».proof.Proof.Gen.FfnOutDwIdeal.Value
public import proofs.«01_k».proof.Proof.Gen.FfnOutDwRefIdeal
public import proofs.«01_k».proof.Proof.Gen.FfnOutDwRefIdeal.Run
public import proofs.«01_k».proof.Proof.Gen.FfnOutDwRefIdeal.Read
public import proofs.«01_k».proof.Proof.Gen.FfnOutDx
public import proofs.«01_k».proof.Proof.Gen.FfnOutDx.Skeleton
public import proofs.«01_k».proof.Proof.Gen.FfnOutDx.Launch
public import proofs.«01_k».proof.Proof.Gen.FfnOutDx.Points
public import proofs.«01_k».proof.Proof.Gen.FfnOutDx.Frame
public import proofs.«01_k».proof.Proof.Gen.FfnOutDxIdeal
public import proofs.«01_k».proof.Proof.Gen.FfnOutDxIdeal.Skeleton
public import proofs.«01_k».proof.Proof.Gen.FfnOutDxIdeal.Launch
public import proofs.«01_k».proof.Proof.Gen.FfnOutDxIdeal.Points
public import proofs.«01_k».proof.Proof.Gen.FfnOutDxIdeal.Frame
public import proofs.«01_k».proof.Proof.Gen.FfnOutDxIdeal.Value
public import proofs.«01_k».proof.Proof.Gen.FfnOutDxRefIdeal
public import proofs.«01_k».proof.Proof.Gen.FfnOutDxRefIdeal.Run
public import proofs.«01_k».proof.Proof.Gen.FfnOutDxRefIdeal.Read
public import proofs.«01_k».proof.Proof.Gen.SguInDw
public import proofs.«01_k».proof.Proof.Gen.SguInDw.Skeleton
public import proofs.«01_k».proof.Proof.Gen.SguInDw.Launch
public import proofs.«01_k».proof.Proof.Gen.SguInDw.Points
public import proofs.«01_k».proof.Proof.Gen.SguInDw.Frame
public import proofs.«01_k».proof.Proof.Gen.SguInDwIdeal
public import proofs.«01_k».proof.Proof.Gen.SguInDwIdeal.Skeleton
public import proofs.«01_k».proof.Proof.Gen.SguInDwIdeal.Launch
public import proofs.«01_k».proof.Proof.Gen.SguInDwIdeal.Points
public import proofs.«01_k».proof.Proof.Gen.SguInDwIdeal.Frame
public import proofs.«01_k».proof.Proof.Gen.SguInDwIdeal.Value
public import proofs.«01_k».proof.Proof.Gen.SguInDwRefIdeal
public import proofs.«01_k».proof.Proof.Gen.SguInDwRefIdeal.Run
public import proofs.«01_k».proof.Proof.Gen.SguInDwRefIdeal.Read
public import proofs.«01_k».proof.Proof.Gen.SguInDx
public import proofs.«01_k».proof.Proof.Gen.SguInDx.Skeleton
public import proofs.«01_k».proof.Proof.Gen.SguInDx.Launch
public import proofs.«01_k».proof.Proof.Gen.SguInDx.Points
public import proofs.«01_k».proof.Proof.Gen.SguInDx.Frame
public import proofs.«01_k».proof.Proof.Gen.SguInDxIdeal
public import proofs.«01_k».proof.Proof.Gen.SguInDxIdeal.Skeleton
public import proofs.«01_k».proof.Proof.Gen.SguInDxIdeal.Launch
public import proofs.«01_k».proof.Proof.Gen.SguInDxIdeal.Points
public import proofs.«01_k».proof.Proof.Gen.SguInDxIdeal.Frame
public import proofs.«01_k».proof.Proof.Gen.SguInDxIdeal.Value
public import proofs.«01_k».proof.Proof.Gen.SguInDxRefIdeal
public import proofs.«01_k».proof.Proof.Gen.SguInDxRefIdeal.Run
public import proofs.«01_k».proof.Proof.Gen.SguInDxRefIdeal.Read
public import proofs.«01_k».proof.Proof.Gen.SguOutDw
public import proofs.«01_k».proof.Proof.Gen.SguOutDw.Skeleton
public import proofs.«01_k».proof.Proof.Gen.SguOutDw.Launch
public import proofs.«01_k».proof.Proof.Gen.SguOutDw.Points
public import proofs.«01_k».proof.Proof.Gen.SguOutDw.Frame
public import proofs.«01_k».proof.Proof.Gen.SguOutDwIdeal
public import proofs.«01_k».proof.Proof.Gen.SguOutDwIdeal.Skeleton
public import proofs.«01_k».proof.Proof.Gen.SguOutDwIdeal.Launch
public import proofs.«01_k».proof.Proof.Gen.SguOutDwIdeal.Points
public import proofs.«01_k».proof.Proof.Gen.SguOutDwIdeal.Frame
public import proofs.«01_k».proof.Proof.Gen.SguOutDwIdeal.Value
public import proofs.«01_k».proof.Proof.Gen.SguOutDwRefIdeal
public import proofs.«01_k».proof.Proof.Gen.SguOutDwRefIdeal.Run
public import proofs.«01_k».proof.Proof.Gen.SguOutDwRefIdeal.Read
public import proofs.«01_k».proof.Proof.Gen.SguOutDx
public import proofs.«01_k».proof.Proof.Gen.SguOutDx.Skeleton
public import proofs.«01_k».proof.Proof.Gen.SguOutDx.Launch
public import proofs.«01_k».proof.Proof.Gen.SguOutDx.Points
public import proofs.«01_k».proof.Proof.Gen.SguOutDx.Frame
public import proofs.«01_k».proof.Proof.Gen.SguOutDxIdeal
public import proofs.«01_k».proof.Proof.Gen.SguOutDxIdeal.Skeleton
public import proofs.«01_k».proof.Proof.Gen.SguOutDxIdeal.Launch
public import proofs.«01_k».proof.Proof.Gen.SguOutDxIdeal.Points
public import proofs.«01_k».proof.Proof.Gen.SguOutDxIdeal.Frame
public import proofs.«01_k».proof.Proof.Gen.SguOutDxIdeal.Value
public import proofs.«01_k».proof.Proof.Gen.SguOutDxRefIdeal
public import proofs.«01_k».proof.Proof.Gen.SguOutDxRefIdeal.Run
public import proofs.«01_k».proof.Proof.Gen.SguOutDxRefIdeal.Read
public import proofs.«01_k».proof.Proof.Gen.ConvInDx
public import proofs.«01_k».proof.Proof.Gen.ConvInDx.Skeleton
public import proofs.«01_k».proof.Proof.Gen.ConvInDx.Launch
public import proofs.«01_k».proof.Proof.Gen.ConvInDx.Points
public import proofs.«01_k».proof.Proof.Gen.ConvInDx.Frame
public import proofs.«01_k».proof.Proof.Gen.ConvInDxIdeal
public import proofs.«01_k».proof.Proof.Gen.ConvInDxIdeal.Skeleton
public import proofs.«01_k».proof.Proof.Gen.ConvInDxIdeal.Launch
public import proofs.«01_k».proof.Proof.Gen.ConvInDxIdeal.Points
public import proofs.«01_k».proof.Proof.Gen.ConvInDxIdeal.Frame
public import proofs.«01_k».proof.Proof.Gen.ConvInDxIdeal.Value
public import proofs.«01_k».proof.Proof.Gen.ConvInDxRefIdeal
public import proofs.«01_k».proof.Proof.Gen.ConvInDxRefIdeal.Run
public import proofs.«01_k».proof.Proof.Gen.ConvInDxRefIdeal.Read
public import proofs.«01_k».proof.Proof.Gen.MixOutDw
public import proofs.«01_k».proof.Proof.Gen.MixOutDw.Skeleton
public import proofs.«01_k».proof.Proof.Gen.MixOutDw.Launch
public import proofs.«01_k».proof.Proof.Gen.MixOutDw.Points
public import proofs.«01_k».proof.Proof.Gen.MixOutDw.Frame
public import proofs.«01_k».proof.Proof.Gen.MixOutDwIdeal
public import proofs.«01_k».proof.Proof.Gen.MixOutDwIdeal.Skeleton
public import proofs.«01_k».proof.Proof.Gen.MixOutDwIdeal.Launch
public import proofs.«01_k».proof.Proof.Gen.MixOutDwIdeal.Points
public import proofs.«01_k».proof.Proof.Gen.MixOutDwIdeal.Frame
public import proofs.«01_k».proof.Proof.Gen.MixOutDwIdeal.Value
public import proofs.«01_k».proof.Proof.Gen.MixOutDwRefIdeal
public import proofs.«01_k».proof.Proof.Gen.MixOutDwRefIdeal.Run
public import proofs.«01_k».proof.Proof.Gen.MixOutDwRefIdeal.Read
public import proofs.«01_k».proof.Proof.Gen.MixOutDx
public import proofs.«01_k».proof.Proof.Gen.MixOutDx.Skeleton
public import proofs.«01_k».proof.Proof.Gen.MixOutDx.Launch
public import proofs.«01_k».proof.Proof.Gen.MixOutDx.Points
public import proofs.«01_k».proof.Proof.Gen.MixOutDx.Frame
public import proofs.«01_k».proof.Proof.Gen.MixOutDxIdeal
public import proofs.«01_k».proof.Proof.Gen.MixOutDxIdeal.Skeleton
public import proofs.«01_k».proof.Proof.Gen.MixOutDxIdeal.Launch
public import proofs.«01_k».proof.Proof.Gen.MixOutDxIdeal.Points
public import proofs.«01_k».proof.Proof.Gen.MixOutDxIdeal.Frame
public import proofs.«01_k».proof.Proof.Gen.MixOutDxIdeal.Value
public import proofs.«01_k».proof.Proof.Gen.MixOutDxRefIdeal
public import proofs.«01_k».proof.Proof.Gen.MixOutDxRefIdeal.Run
public import proofs.«01_k».proof.Proof.Gen.MixOutDxRefIdeal.Read
public import proofs.«01_k».proof.Proof.Gen.QkvDw
public import proofs.«01_k».proof.Proof.Gen.QkvDw.Skeleton
public import proofs.«01_k».proof.Proof.Gen.QkvDw.Launch
public import proofs.«01_k».proof.Proof.Gen.QkvDw.Points
public import proofs.«01_k».proof.Proof.Gen.QkvDw.Frame
public import proofs.«01_k».proof.Proof.Gen.QkvDwIdeal
public import proofs.«01_k».proof.Proof.Gen.QkvDwIdeal.Skeleton
public import proofs.«01_k».proof.Proof.Gen.QkvDwIdeal.Launch
public import proofs.«01_k».proof.Proof.Gen.QkvDwIdeal.Points
public import proofs.«01_k».proof.Proof.Gen.QkvDwIdeal.Frame
public import proofs.«01_k».proof.Proof.Gen.QkvDwIdeal.Value
public import proofs.«01_k».proof.Proof.Gen.QkvDwRefIdeal
public import proofs.«01_k».proof.Proof.Gen.QkvDwRefIdeal.Run
public import proofs.«01_k».proof.Proof.Gen.QkvDwRefIdeal.Read
public import proofs.«01_k».proof.Proof.Gen.QkvDx
public import proofs.«01_k».proof.Proof.Gen.QkvDx.Skeleton
public import proofs.«01_k».proof.Proof.Gen.QkvDx.Launch
public import proofs.«01_k».proof.Proof.Gen.QkvDx.Points
public import proofs.«01_k».proof.Proof.Gen.QkvDx.Frame
public import proofs.«01_k».proof.Proof.Gen.QkvDxIdeal
public import proofs.«01_k».proof.Proof.Gen.QkvDxIdeal.Skeleton
public import proofs.«01_k».proof.Proof.Gen.QkvDxIdeal.Launch
public import proofs.«01_k».proof.Proof.Gen.QkvDxIdeal.Points
public import proofs.«01_k».proof.Proof.Gen.QkvDxIdeal.Frame
public import proofs.«01_k».proof.Proof.Gen.QkvDxIdeal.Value
public import proofs.«01_k».proof.Proof.Gen.QkvDxRefIdeal
public import proofs.«01_k».proof.Proof.Gen.QkvDxRefIdeal.Run
public import proofs.«01_k».proof.Proof.Gen.QkvDxRefIdeal.Read
public import proofs.«01_k».proof.Proof.Gen.SguIn
public import proofs.«01_k».proof.Proof.Gen.SguIn.Skeleton
public import proofs.«01_k».proof.Proof.Gen.SguIn.Launch
public import proofs.«01_k».proof.Proof.Gen.SguIn.Points
public import proofs.«01_k».proof.Proof.Gen.SguIn.Frame
public import proofs.«01_k».proof.Proof.Gen.SguInIdeal
public import proofs.«01_k».proof.Proof.Gen.SguInIdeal.Skeleton
public import proofs.«01_k».proof.Proof.Gen.SguInIdeal.Launch
public import proofs.«01_k».proof.Proof.Gen.SguInIdeal.Points
public import proofs.«01_k».proof.Proof.Gen.SguInIdeal.Frame
public import proofs.«01_k».proof.Proof.Gen.SguInIdeal.Value
public import proofs.«01_k».proof.Proof.Gen.SguInRefIdeal
public import proofs.«01_k».proof.Proof.Gen.SguInRefIdeal.Run
public import proofs.«01_k».proof.Proof.Gen.SguInRefIdeal.Read
public import proofs.«01_k».proof.Proof.Gen.ConvIn
public import proofs.«01_k».proof.Proof.Gen.ConvIn.Skeleton
public import proofs.«01_k».proof.Proof.Gen.ConvIn.Launch
public import proofs.«01_k».proof.Proof.Gen.ConvIn.Points
public import proofs.«01_k».proof.Proof.Gen.ConvIn.Frame
public import proofs.«01_k».proof.Proof.Gen.ConvInIdeal
public import proofs.«01_k».proof.Proof.Gen.ConvInIdeal.Skeleton
public import proofs.«01_k».proof.Proof.Gen.ConvInIdeal.Launch
public import proofs.«01_k».proof.Proof.Gen.ConvInIdeal.Points
public import proofs.«01_k».proof.Proof.Gen.ConvInIdeal.Frame
public import proofs.«01_k».proof.Proof.Gen.ConvInIdeal.Value
public import proofs.«01_k».proof.Proof.Gen.ConvInRefIdeal
public import proofs.«01_k».proof.Proof.Gen.ConvInRefIdeal.Run
public import proofs.«01_k».proof.Proof.Gen.ConvInRefIdeal.Read
public import proofs.«01_k».proof.Proof.Gen.QkvIn
public import proofs.«01_k».proof.Proof.Gen.QkvIn.Skeleton
public import proofs.«01_k».proof.Proof.Gen.QkvIn.Launch
public import proofs.«01_k».proof.Proof.Gen.QkvIn.Points
public import proofs.«01_k».proof.Proof.Gen.QkvIn.Frame
public import proofs.«01_k».proof.Proof.Gen.QkvInIdeal
public import proofs.«01_k».proof.Proof.Gen.QkvInIdeal.Skeleton
public import proofs.«01_k».proof.Proof.Gen.QkvInIdeal.Launch
public import proofs.«01_k».proof.Proof.Gen.QkvInIdeal.Points
public import proofs.«01_k».proof.Proof.Gen.QkvInIdeal.Frame
public import proofs.«01_k».proof.Proof.Gen.QkvInIdeal.Value
public import proofs.«01_k».proof.Proof.Gen.QkvInRefIdeal
public import proofs.«01_k».proof.Proof.Gen.QkvInRefIdeal.Run
public import proofs.«01_k».proof.Proof.Gen.QkvInRefIdeal.Read
public import proofs.«01_k».proof.Proof.Gen.SguOut
public import proofs.«01_k».proof.Proof.Gen.SguOut.Skeleton
public import proofs.«01_k».proof.Proof.Gen.SguOut.Launch
public import proofs.«01_k».proof.Proof.Gen.SguOut.Points
public import proofs.«01_k».proof.Proof.Gen.SguOut.Frame
public import proofs.«01_k».proof.Proof.Gen.SguOutIdeal
public import proofs.«01_k».proof.Proof.Gen.SguOutIdeal.Skeleton
public import proofs.«01_k».proof.Proof.Gen.SguOutIdeal.Launch
public import proofs.«01_k».proof.Proof.Gen.SguOutIdeal.Points
public import proofs.«01_k».proof.Proof.Gen.SguOutIdeal.Frame
public import proofs.«01_k».proof.Proof.Gen.SguOutIdeal.Value
public import proofs.«01_k».proof.Proof.Gen.SguOutRefIdeal
public import proofs.«01_k».proof.Proof.Gen.SguOutRefIdeal.Run
public import proofs.«01_k».proof.Proof.Gen.SguOutRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.FfnOutRefIdeal.Read
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.Gen.FirstNormBwd
public import proofs.«01_k».proof.Proof.Gen.FirstNormBwd.Skeleton
public import proofs.«01_k».proof.Proof.Gen.FirstNormBwd.Launch
public import proofs.«01_k».proof.Proof.Gen.FirstNormBwd.Points
public import proofs.«01_k».proof.Proof.Gen.FirstNormBwd.Frame
public import proofs.«01_k».proof.Proof.Gen.FirstNormBwdIdeal
public import proofs.«01_k».proof.Proof.Gen.FirstNormBwdIdeal.Skeleton
public import proofs.«01_k».proof.Proof.Gen.FirstNormBwdIdeal.Launch
public import proofs.«01_k».proof.Proof.Gen.FirstNormBwdIdeal.Points
public import proofs.«01_k».proof.Proof.Gen.FirstNormBwdIdeal.Frame
public import proofs.«01_k».proof.Proof.Gen.FirstNormBwdIdeal.Value
public import proofs.«01_k».proof.Proof.Gen.FirstNormBwdRefIdeal
public import proofs.«01_k».proof.Proof.Gen.FirstNormBwdRefIdeal.Run
public import proofs.«01_k».proof.Proof.Gen.FirstNormBwdRefIdeal.Read
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.FirstNormFwd
public import proofs.«01_k».proof.Proof.Gen.FirstNormFwd.Skeleton
public import proofs.«01_k».proof.Proof.Gen.FirstNormFwd.Launch
public import proofs.«01_k».proof.Proof.Gen.FirstNormFwd.Points
public import proofs.«01_k».proof.Proof.Gen.FirstNormFwd.Frame
public import proofs.«01_k».proof.Proof.Gen.FirstNormFwdIdeal
public import proofs.«01_k».proof.Proof.Gen.FirstNormFwdIdeal.Skeleton
public import proofs.«01_k».proof.Proof.Gen.FirstNormFwdIdeal.Launch
public import proofs.«01_k».proof.Proof.Gen.FirstNormFwdIdeal.Points
public import proofs.«01_k».proof.Proof.Gen.FirstNormFwdIdeal.Frame
public import proofs.«01_k».proof.Proof.Gen.FirstNormFwdIdeal.Value
public import proofs.«01_k».proof.Proof.Gen.FirstNormFwdRefIdeal
public import proofs.«01_k».proof.Proof.Gen.FirstNormFwdRefIdeal.Run
public import proofs.«01_k».proof.Proof.Gen.FirstNormFwdRefIdeal.Read
public import proofs.«01_k».proof.Proof.Sgu.Agree
public import proofs.«01_k».proof.Proof.Products.FfnInDw
public import proofs.«01_k».proof.Proof.Products.FfnOutDw
public import proofs.«01_k».proof.Proof.Products.FfnOutDx
public import proofs.«01_k».proof.Proof.Products.SguInDw
public import proofs.«01_k».proof.Proof.Products.SguInDx
public import proofs.«01_k».proof.Proof.Products.SguOutDw
public import proofs.«01_k».proof.Proof.Products.SguOutDx
public import proofs.«01_k».proof.Proof.Products.ConvInDx
public import proofs.«01_k».proof.Proof.Products.MixOutDw
public import proofs.«01_k».proof.Proof.Products.MixOutDx
public import proofs.«01_k».proof.Proof.Products.QkvDw
public import proofs.«01_k».proof.Proof.Products.QkvDx
public import proofs.«01_k».proof.Proof.Products.SguIn
public import proofs.«01_k».proof.Proof.Products.ConvIn
public import proofs.«01_k».proof.Proof.Products.QkvIn
public import proofs.«01_k».proof.Proof.Products.SguOut
public import proofs.«01_k».proof.Proof.Products.MixOut
public import proofs.«01_k».proof.Proof.Products.FfnIn
public import proofs.«01_k».proof.Proof.Products.FfnOut
public import proofs.«01_k».proof.Proof.Norm.Bwd
public import proofs.«01_k».proof.Proof.Norm.FirstBwd
public import proofs.«01_k».proof.Proof.Norm.Fwd
public import proofs.«01_k».proof.Proof.Norm.FirstFwd
public import Idealize.ShloMosaic.Adequacy
public import Idealize.ShloMosaic.Init
public import proofs.«01_k».proof.Proof.Gen.FinalLossIdeal.Value
public import proofs.«01_k».proof.Proof.Gen.FinalLossRefIdeal.Run
public import proofs.«01_k».proof.Proof.Gen.FinalLossRefIdeal.Read
public import proofs.«01_k».proof.Proof.Gen.SguFwdIdeal.Value
public import proofs.«01_k».proof.Proof.Gen.SguFwdRefIdeal.Run
public import proofs.«01_k».proof.Proof.Gen.SguFwdRefIdeal.Read
public import proofs.«01_k».proof.Proof.Gen.AdamAdaIdeal.Value
public import proofs.«01_k».proof.Proof.Gen.AdamAdaRefIdeal.Run
public import proofs.«01_k».proof.Proof.Gen.AdamAdaRefIdeal.Read
public import proofs.«01_k».proof.Proof.Gen.AdamQkvIdeal.Value
public import proofs.«01_k».proof.Proof.Gen.AdamQkvRefIdeal.Run
public import proofs.«01_k».proof.Proof.Gen.AdamQkvRefIdeal.Read
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamConvInIdeal.Value
public import proofs.«01_k».proof.Proof.Gen.AdamConvInRefIdeal.Run
public import proofs.«01_k».proof.Proof.Gen.AdamConvInRefIdeal.Read
public import proofs.«01_k».proof.Proof.Gen.AdamConvOutIdeal.Value
public import proofs.«01_k».proof.Proof.Gen.AdamConvOutRefIdeal.Run
public import proofs.«01_k».proof.Proof.Gen.AdamConvOutRefIdeal.Read
public import proofs.«01_k».proof.Proof.Gen.AdamSguInIdeal.Value
public import proofs.«01_k».proof.Proof.Gen.AdamSguInRefIdeal.Run
public import proofs.«01_k».proof.Proof.Gen.AdamSguInRefIdeal.Read
public import proofs.«01_k».proof.Proof.Gen.AdamFfnInIdeal.Value
public import proofs.«01_k».proof.Proof.Gen.AdamFfnInRefIdeal.Run
public import proofs.«01_k».proof.Proof.Gen.AdamFfnInRefIdeal.Read
public import proofs.«01_k».proof.Proof.Gen.AdamFfnOutIdeal.Value
public import proofs.«01_k».proof.Proof.Gen.AdamFfnOutRefIdeal.Run
public import proofs.«01_k».proof.Proof.Gen.AdamFfnOutRefIdeal.Read
public import proofs.«01_k».proof.Proof.Gen.AdamSmallIdeal.Value
public import proofs.«01_k».proof.Proof.Gen.AdamSmallRefIdeal
public import proofs.«01_k».proof.Proof.Gen.AdaModIdeal.Value
public import proofs.«01_k».proof.Proof.Gen.AdaModRefIdeal.Run
public import proofs.«01_k».proof.Proof.Gen.AdaModRefIdeal.Read
public import proofs.«01_k».proof.Proof.Gen.AdaMod
public import proofs.«01_k».proof.Proof.Gen.AdaModIdeal
public import proofs.«01_k».proof.Proof.Gen.AdaMod.Skeleton
public import proofs.«01_k».proof.Proof.Gen.AdaModIdeal.Skeleton
public import proofs.«01_k».proof.Proof.Gen.AdaMod.Launch
public import proofs.«01_k».proof.Proof.Gen.AdaModIdeal.Launch
public import proofs.«01_k».proof.Proof.Gen.AdaMod.Points
public import proofs.«01_k».proof.Proof.Gen.AdaModIdeal.Points
public import proofs.«01_k».proof.Proof.Gen.AdaMod.Frame
public import proofs.«01_k».proof.Proof.Gen.AdaModIdeal.Frame
public import proofs.«01_k».proof.Proof.Gen.AdaModRefIdeal
public import proofs.«01_k».proof.Proof.Gen.AdaDwIdeal.Value
public import proofs.«01_k».proof.Proof.Gen.AdaDwRefIdeal.Run
public import proofs.«01_k».proof.Proof.Gen.AdaDwRefIdeal.Read
public import proofs.«01_k».proof.Proof.Gen.AdaDw
public import proofs.«01_k».proof.Proof.Gen.AdaDwIdeal
public import proofs.«01_k».proof.Proof.Gen.AdaDw.Skeleton
public import proofs.«01_k».proof.Proof.Gen.AdaDwIdeal.Skeleton
public import proofs.«01_k».proof.Proof.Gen.AdaDw.Launch
public import proofs.«01_k».proof.Proof.Gen.AdaDwIdeal.Launch
public import proofs.«01_k».proof.Proof.Gen.AdaDw.Points
public import proofs.«01_k».proof.Proof.Gen.AdaDwIdeal.Points
public import proofs.«01_k».proof.Proof.Gen.AdaDw.Frame
public import proofs.«01_k».proof.Proof.Gen.AdaDwIdeal.Frame
public import proofs.«01_k».proof.Proof.Gen.AdaDwRefIdeal
public import proofs.«01_k».proof.Proof.Gen.SumQkvIdeal.Value
public import proofs.«01_k».proof.Proof.Gen.SumQkvRefIdeal.Run
public import proofs.«01_k».proof.Proof.Gen.SumQkvRefIdeal.Read
public import proofs.«01_k».proof.Proof.Gen.SumQkv
public import proofs.«01_k».proof.Proof.Gen.SumQkvIdeal
public import proofs.«01_k».proof.Proof.Gen.SumQkv.Skeleton
public import proofs.«01_k».proof.Proof.Gen.SumQkvIdeal.Skeleton
public import proofs.«01_k».proof.Proof.Gen.SumQkv.Launch
public import proofs.«01_k».proof.Proof.Gen.SumQkvIdeal.Launch
public import proofs.«01_k».proof.Proof.Gen.SumQkv.Points
public import proofs.«01_k».proof.Proof.Gen.SumQkvIdeal.Points
public import proofs.«01_k».proof.Proof.Gen.SumQkv.Frame
public import proofs.«01_k».proof.Proof.Gen.SumQkvIdeal.Frame
public import proofs.«01_k».proof.Proof.Gen.SumQkvRefIdeal
public import proofs.«01_k».proof.Proof.Gen.SumOutIdeal.Value
public import proofs.«01_k».proof.Proof.Gen.SumOutRefIdeal.Run
public import proofs.«01_k».proof.Proof.Gen.SumOutRefIdeal.Read
public import proofs.«01_k».proof.Proof.Gen.SumOut
public import proofs.«01_k».proof.Proof.Gen.SumOutIdeal
public import proofs.«01_k».proof.Proof.Gen.SumOut.Skeleton
public import proofs.«01_k».proof.Proof.Gen.SumOutIdeal.Skeleton
public import proofs.«01_k».proof.Proof.Gen.SumOut.Launch
public import proofs.«01_k».proof.Proof.Gen.SumOutIdeal.Launch
public import proofs.«01_k».proof.Proof.Gen.SumOut.Points
public import proofs.«01_k».proof.Proof.Gen.SumOutIdeal.Points
public import proofs.«01_k».proof.Proof.Gen.SumOut.Frame
public import proofs.«01_k».proof.Proof.Gen.SumOutIdeal.Frame
public import proofs.«01_k».proof.Proof.Gen.SumOutRefIdeal
public import proofs.«01_k».proof.Proof.Gen.SumSguOutIdeal.Value
public import proofs.«01_k».proof.Proof.Gen.SumSguOutRefIdeal.Run
public import proofs.«01_k».proof.Proof.Gen.SumSguOutRefIdeal.Read
public import proofs.«01_k».proof.Proof.Gen.SumSguOut
public import proofs.«01_k».proof.Proof.Gen.SumSguOutIdeal
public import proofs.«01_k».proof.Proof.Gen.SumSguOut.Skeleton
public import proofs.«01_k».proof.Proof.Gen.SumSguOutIdeal.Skeleton
public import proofs.«01_k».proof.Proof.Gen.SumSguOut.Launch
public import proofs.«01_k».proof.Proof.Gen.SumSguOutIdeal.Launch
public import proofs.«01_k».proof.Proof.Gen.SumSguOut.Points
public import proofs.«01_k».proof.Proof.Gen.SumSguOutIdeal.Points
public import proofs.«01_k».proof.Proof.Gen.SumSguOut.Frame
public import proofs.«01_k».proof.Proof.Gen.SumSguOutIdeal.Frame
public import proofs.«01_k».proof.Proof.Gen.SumSguOutRefIdeal
public import proofs.«01_k».proof.Proof.Gen.SumSguInIdeal.Value
public import proofs.«01_k».proof.Proof.Gen.SumSguInRefIdeal.Run
public import proofs.«01_k».proof.Proof.Gen.SumSguInRefIdeal.Read
public import proofs.«01_k».proof.Proof.Gen.SumSguIn
public import proofs.«01_k».proof.Proof.Gen.SumSguInIdeal
public import proofs.«01_k».proof.Proof.Gen.SumSguIn.Skeleton
public import proofs.«01_k».proof.Proof.Gen.SumSguInIdeal.Skeleton
public import proofs.«01_k».proof.Proof.Gen.SumSguIn.Launch
public import proofs.«01_k».proof.Proof.Gen.SumSguInIdeal.Launch
public import proofs.«01_k».proof.Proof.Gen.SumSguIn.Points
public import proofs.«01_k».proof.Proof.Gen.SumSguInIdeal.Points
public import proofs.«01_k».proof.Proof.Gen.SumSguIn.Frame
public import proofs.«01_k».proof.Proof.Gen.SumSguInIdeal.Frame
public import proofs.«01_k».proof.Proof.Gen.SumSguInRefIdeal
public import proofs.«01_k».proof.Proof.Gen.SumFfnInIdeal.Value
public import proofs.«01_k».proof.Proof.Gen.SumFfnInRefIdeal.Run
public import proofs.«01_k».proof.Proof.Gen.SumFfnInRefIdeal.Read
public import proofs.«01_k».proof.Proof.Gen.SumFfnIn
public import proofs.«01_k».proof.Proof.Gen.SumFfnInIdeal
public import proofs.«01_k».proof.Proof.Gen.SumFfnIn.Skeleton
public import proofs.«01_k».proof.Proof.Gen.SumFfnInIdeal.Skeleton
public import proofs.«01_k».proof.Proof.Gen.SumFfnIn.Launch
public import proofs.«01_k».proof.Proof.Gen.SumFfnInIdeal.Launch
public import proofs.«01_k».proof.Proof.Gen.SumFfnIn.Points
public import proofs.«01_k».proof.Proof.Gen.SumFfnInIdeal.Points
public import proofs.«01_k».proof.Proof.Gen.SumFfnIn.Frame
public import proofs.«01_k».proof.Proof.Gen.SumFfnInIdeal.Frame
public import proofs.«01_k».proof.Proof.Gen.SumFfnInRefIdeal
public import proofs.«01_k».proof.Proof.Gen.SumFfnOutIdeal.Value
public import proofs.«01_k».proof.Proof.Gen.SumFfnOutRefIdeal.Run
public import proofs.«01_k».proof.Proof.Gen.SumFfnOutRefIdeal.Read
public import proofs.«01_k».proof.Proof.Gen.SumFfnOut
public import proofs.«01_k».proof.Proof.Gen.SumFfnOutIdeal
public import proofs.«01_k».proof.Proof.Gen.SumFfnOut.Skeleton
public import proofs.«01_k».proof.Proof.Gen.SumFfnOutIdeal.Skeleton
public import proofs.«01_k».proof.Proof.Gen.SumFfnOut.Launch
public import proofs.«01_k».proof.Proof.Gen.SumFfnOutIdeal.Launch
public import proofs.«01_k».proof.Proof.Gen.SumFfnOut.Points
public import proofs.«01_k».proof.Proof.Gen.SumFfnOutIdeal.Points
public import proofs.«01_k».proof.Proof.Gen.SumFfnOut.Frame
public import proofs.«01_k».proof.Proof.Gen.SumFfnOutIdeal.Frame
public import proofs.«01_k».proof.Proof.Gen.SumFfnOutRefIdeal
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.Gen.SumSmall
public import proofs.«01_k».proof.Proof.Gen.SumSmallIdeal
public import proofs.«01_k».proof.Proof.Gen.SumSmall.Skeleton
public import proofs.«01_k».proof.Proof.Gen.SumSmallIdeal.Skeleton
public import proofs.«01_k».proof.Proof.Gen.SumSmall.Launch
public import proofs.«01_k».proof.Proof.Gen.SumSmallIdeal.Launch
public import proofs.«01_k».proof.Proof.Gen.SumSmall.Points
public import proofs.«01_k».proof.Proof.Gen.SumSmallIdeal.Points
public import proofs.«01_k».proof.Proof.Gen.SumSmall.Frame
public import proofs.«01_k».proof.Proof.Gen.SumSmallIdeal.Frame
public import proofs.«01_k».proof.Proof.Gen.SumSmallRefIdeal
public import proofs.«01_k».proof.Proof.Gen.SumSmallHalfIdeal.Value
public import proofs.«01_k».proof.Proof.Gen.SumSmallHalfRefIdeal.Run
public import proofs.«01_k».proof.Proof.Gen.SumSmallHalfRefIdeal.Read
public import proofs.«01_k».proof.Proof.Gen.SumSmallHalf
public import proofs.«01_k».proof.Proof.Gen.SumSmallHalfIdeal
public import proofs.«01_k».proof.Proof.Gen.SumSmallHalf.Skeleton
public import proofs.«01_k».proof.Proof.Gen.SumSmallHalfIdeal.Skeleton
public import proofs.«01_k».proof.Proof.Gen.SumSmallHalf.Launch
public import proofs.«01_k».proof.Proof.Gen.SumSmallHalfIdeal.Launch
public import proofs.«01_k».proof.Proof.Gen.SumSmallHalf.Points
public import proofs.«01_k».proof.Proof.Gen.SumSmallHalfIdeal.Points
public import proofs.«01_k».proof.Proof.Gen.SumSmallHalf.Frame
public import proofs.«01_k».proof.Proof.Gen.SumSmallHalfIdeal.Frame
public import proofs.«01_k».proof.Proof.Gen.SumSmallHalfRefIdeal.Run
public import proofs.«01_k».proof.Proof.Gen.AdamSmallRefIdeal.Read
public import proofs.«01_k».proof.Proof.Gen.FinalLoss
public import proofs.«01_k».proof.Proof.Gen.FinalLossIdeal
public import proofs.«01_k».proof.Proof.Gen.FinalLoss.Skeleton
public import proofs.«01_k».proof.Proof.Gen.FinalLossIdeal.Skeleton
public import proofs.«01_k».proof.Proof.Gen.FinalLoss.Launch
public import proofs.«01_k».proof.Proof.Gen.FinalLossIdeal.Launch
public import proofs.«01_k».proof.Proof.Gen.FinalLoss.Points
public import proofs.«01_k».proof.Proof.Gen.FinalLossIdeal.Points
public import proofs.«01_k».proof.Proof.Gen.FinalLoss.Frame
public import proofs.«01_k».proof.Proof.Gen.FinalLossIdeal.Frame
public import proofs.«01_k».proof.Proof.Gen.FinalLossRefIdeal
public import proofs.«01_k».proof.Proof.Gen.SguFwd
public import proofs.«01_k».proof.Proof.Gen.SguFwdIdeal
public import proofs.«01_k».proof.Proof.Gen.SguFwd.Skeleton
public import proofs.«01_k».proof.Proof.Gen.SguFwdIdeal.Skeleton
public import proofs.«01_k».proof.Proof.Gen.SguFwd.Launch
public import proofs.«01_k».proof.Proof.Gen.SguFwdIdeal.Launch
public import proofs.«01_k».proof.Proof.Gen.SguFwd.Points
public import proofs.«01_k».proof.Proof.Gen.SguFwdIdeal.Points
public import proofs.«01_k».proof.Proof.Gen.SguFwd.Frame
public import proofs.«01_k».proof.Proof.Gen.SguFwdIdeal.Frame
public import proofs.«01_k».proof.Proof.Gen.SguFwdRefIdeal
public import proofs.«01_k».proof.Proof.Gen.AdamAda
public import proofs.«01_k».proof.Proof.Gen.AdamAdaIdeal
public import proofs.«01_k».proof.Proof.Gen.AdamAda.Skeleton
public import proofs.«01_k».proof.Proof.Gen.AdamAdaIdeal.Skeleton
public import proofs.«01_k».proof.Proof.Gen.AdamAda.Launch
public import proofs.«01_k».proof.Proof.Gen.AdamAdaIdeal.Launch
public import proofs.«01_k».proof.Proof.Gen.AdamAda.Points
public import proofs.«01_k».proof.Proof.Gen.AdamAdaIdeal.Points
public import proofs.«01_k».proof.Proof.Gen.AdamAda.Frame
public import proofs.«01_k».proof.Proof.Gen.AdamAdaIdeal.Frame
public import proofs.«01_k».proof.Proof.Gen.AdamAdaRefIdeal
public import proofs.«01_k».proof.Proof.Gen.AdamQkv
public import proofs.«01_k».proof.Proof.Gen.AdamQkvIdeal
public import proofs.«01_k».proof.Proof.Gen.AdamQkv.Skeleton
public import proofs.«01_k».proof.Proof.Gen.AdamQkvIdeal.Skeleton
public import proofs.«01_k».proof.Proof.Gen.AdamQkv.Launch
public import proofs.«01_k».proof.Proof.Gen.AdamQkvIdeal.Launch
public import proofs.«01_k».proof.Proof.Gen.AdamQkv.Points
public import proofs.«01_k».proof.Proof.Gen.AdamQkvIdeal.Points
public import proofs.«01_k».proof.Proof.Gen.AdamQkv.Frame
public import proofs.«01_k».proof.Proof.Gen.AdamQkvIdeal.Frame
public import proofs.«01_k».proof.Proof.Gen.AdamQkvRefIdeal
public import proofs.«01_k».proof.Proof.Gen.AdamOut
public import proofs.«01_k».proof.Proof.Gen.AdamOutIdeal
public import proofs.«01_k».proof.Proof.Gen.AdamOut.Skeleton
public import proofs.«01_k».proof.Proof.Gen.AdamOutIdeal.Skeleton
public import proofs.«01_k».proof.Proof.Gen.AdamOut.Launch
public import proofs.«01_k».proof.Proof.Gen.AdamOutIdeal.Launch
public import proofs.«01_k».proof.Proof.Gen.AdamOut.Points
public import proofs.«01_k».proof.Proof.Gen.AdamOutIdeal.Points
public import proofs.«01_k».proof.Proof.Gen.AdamOut.Frame
public import proofs.«01_k».proof.Proof.Gen.AdamOutIdeal.Frame
public import proofs.«01_k».proof.Proof.Gen.AdamOutRefIdeal
public import proofs.«01_k».proof.Proof.Gen.AdamConvIn
public import proofs.«01_k».proof.Proof.Gen.AdamConvInIdeal
public import proofs.«01_k».proof.Proof.Gen.AdamConvIn.Skeleton
public import proofs.«01_k».proof.Proof.Gen.AdamConvInIdeal.Skeleton
public import proofs.«01_k».proof.Proof.Gen.AdamConvIn.Launch
public import proofs.«01_k».proof.Proof.Gen.AdamConvInIdeal.Launch
public import proofs.«01_k».proof.Proof.Gen.AdamConvIn.Points
public import proofs.«01_k».proof.Proof.Gen.AdamConvInIdeal.Points
public import proofs.«01_k».proof.Proof.Gen.AdamConvIn.Frame
public import proofs.«01_k».proof.Proof.Gen.AdamConvInIdeal.Frame
public import proofs.«01_k».proof.Proof.Gen.AdamConvInRefIdeal
public import proofs.«01_k».proof.Proof.Gen.AdamConvOut
public import proofs.«01_k».proof.Proof.Gen.AdamConvOutIdeal
public import proofs.«01_k».proof.Proof.Gen.AdamConvOut.Skeleton
public import proofs.«01_k».proof.Proof.Gen.AdamConvOutIdeal.Skeleton
public import proofs.«01_k».proof.Proof.Gen.AdamConvOut.Launch
public import proofs.«01_k».proof.Proof.Gen.AdamConvOutIdeal.Launch
public import proofs.«01_k».proof.Proof.Gen.AdamConvOut.Points
public import proofs.«01_k».proof.Proof.Gen.AdamConvOutIdeal.Points
public import proofs.«01_k».proof.Proof.Gen.AdamConvOut.Frame
public import proofs.«01_k».proof.Proof.Gen.AdamConvOutIdeal.Frame
public import proofs.«01_k».proof.Proof.Gen.AdamConvOutRefIdeal
public import proofs.«01_k».proof.Proof.Gen.AdamSguIn
public import proofs.«01_k».proof.Proof.Gen.AdamSguInIdeal
public import proofs.«01_k».proof.Proof.Gen.AdamSguIn.Skeleton
public import proofs.«01_k».proof.Proof.Gen.AdamSguInIdeal.Skeleton
public import proofs.«01_k».proof.Proof.Gen.AdamSguIn.Launch
public import proofs.«01_k».proof.Proof.Gen.AdamSguInIdeal.Launch
public import proofs.«01_k».proof.Proof.Gen.AdamSguIn.Points
public import proofs.«01_k».proof.Proof.Gen.AdamSguInIdeal.Points
public import proofs.«01_k».proof.Proof.Gen.AdamSguIn.Frame
public import proofs.«01_k».proof.Proof.Gen.AdamSguInIdeal.Frame
public import proofs.«01_k».proof.Proof.Gen.AdamSguInRefIdeal
public import proofs.«01_k».proof.Proof.Gen.AdamFfnIn
public import proofs.«01_k».proof.Proof.Gen.AdamFfnInIdeal
public import proofs.«01_k».proof.Proof.Gen.AdamFfnIn.Skeleton
public import proofs.«01_k».proof.Proof.Gen.AdamFfnInIdeal.Skeleton
public import proofs.«01_k».proof.Proof.Gen.AdamFfnIn.Launch
public import proofs.«01_k».proof.Proof.Gen.AdamFfnInIdeal.Launch
public import proofs.«01_k».proof.Proof.Gen.AdamFfnIn.Points
public import proofs.«01_k».proof.Proof.Gen.AdamFfnInIdeal.Points
public import proofs.«01_k».proof.Proof.Gen.AdamFfnIn.Frame
public import proofs.«01_k».proof.Proof.Gen.AdamFfnInIdeal.Frame
public import proofs.«01_k».proof.Proof.Gen.AdamFfnInRefIdeal
public import proofs.«01_k».proof.Proof.Gen.AdamFfnOut
public import proofs.«01_k».proof.Proof.Gen.AdamFfnOutIdeal
public import proofs.«01_k».proof.Proof.Gen.AdamFfnOut.Skeleton
public import proofs.«01_k».proof.Proof.Gen.AdamFfnOutIdeal.Skeleton
public import proofs.«01_k».proof.Proof.Gen.AdamFfnOut.Launch
public import proofs.«01_k».proof.Proof.Gen.AdamFfnOutIdeal.Launch
public import proofs.«01_k».proof.Proof.Gen.AdamFfnOut.Points
public import proofs.«01_k».proof.Proof.Gen.AdamFfnOutIdeal.Points
public import proofs.«01_k».proof.Proof.Gen.AdamFfnOut.Frame
public import proofs.«01_k».proof.Proof.Gen.AdamFfnOutIdeal.Frame
public import proofs.«01_k».proof.Proof.Gen.AdamFfnOutRefIdeal
public import proofs.«01_k».proof.Proof.Gen.AdamSmall
public import proofs.«01_k».proof.Proof.Gen.AdamSmallIdeal
public import proofs.«01_k».proof.Proof.Gen.AdamSmall.Skeleton
public import proofs.«01_k».proof.Proof.Gen.AdamSmallIdeal.Skeleton
public import proofs.«01_k».proof.Proof.Gen.AdamSmall.Launch
public import proofs.«01_k».proof.Proof.Gen.AdamSmallIdeal.Launch
public import proofs.«01_k».proof.Proof.Gen.AdamSmall.Points
public import proofs.«01_k».proof.Proof.Gen.AdamSmallIdeal.Points
public import proofs.«01_k».proof.Proof.Gen.AdamSmall.Frame
public import proofs.«01_k».proof.Proof.Gen.AdamSmallIdeal.Frame
public import proofs.«01_k».proof.Proof.Gen.AdamSmallRefIdeal
public import proofs.«01_k».proof.Proof.Loss.Agree
public import proofs.«01_k».proof.Proof.Adam.Steps
public import proofs.«01_k».proof.Proof.SguFwd.Agree
public import proofs.«01_k».proof.Proof.Sum.Qkv
public import proofs.«01_k».proof.Proof.Sum.Weights
public import proofs.«01_k».proof.Proof.Sum.FfnIn
public import proofs.«01_k».proof.Proof.Ada.Mod
public import proofs.«01_k».proof.Proof.Ada.Dw
public import proofs.«01_k».proof.Proof.Sum.Small

@[expose] public section

set_option maxRecDepth 16384

noncomputable section

namespace Cert.Proof

open Idealize.ShloMosaic Idealize.SL.Sem Cert.Kernel

/-- The two programs' results agree at arguments that are real numbers. -/
theorem gate_backward : Cert.algebraic_KernelIdeal_ReferenceIdeal_pre_finite := by
  intro m g m' g' hpre hargs
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, fun c => (Cert.KernelIdeal.Gen.dats m 0 c).arrAt 11 Cert.KernelIdeal.cfg0.N,
    Cert.KernelIdeal.Value.run_blocks m g, ?_⟩
  refine (θ_run _ _ _).mono (fun r h c => ?_) (Cert.ReferenceIdeal.Value.run m' g')
  obtain ⟨h0, h1, h2, h3, h4, h5, hk⟩ := h c
  obtain ⟨a, P, D, H⟩ := Cert.Sgu.holds_of_finite _ _ _ _ _ _ (hpre c)
  obtain ⟨e0, e1, e2, e3, e4, e5⟩ := Cert.Sgu.agree m c H
  obtain ⟨q0, q1, q2, q3, q4, q5⟩ := hargs c
  rw [← q0, ← q1, ← q2, ← q3, ← q4, ← q5] at e0 e1
  rw [← q0, ← q1, ← q4] at e2 e3
  rw [← q0, ← q1, ← q2, ← q3] at e4
  rw [← q0, ← q1] at e5
  exact ⟨h0.trans ((Cert.ReferenceIdeal.Read.val_main_v122_eq (StableHlo.launchContents m' c)).trans e0),
    h1.trans ((Cert.ReferenceIdeal.Read.val_main_v123_eq (StableHlo.launchContents m' c)).trans e1),
    h2.trans ((Cert.ReferenceIdeal.Read.val_main_v124_eq (StableHlo.launchContents m' c)).trans e2),
    h3.trans ((Cert.ReferenceIdeal.Read.val_main_v125_eq (StableHlo.launchContents m' c)).trans e3),
    h4.trans ((Cert.ReferenceIdeal.Read.val_main_v77_eq (StableHlo.launchContents m' c)).trans e4),
    h5.trans ((Cert.ReferenceIdeal.Read.val_main_v126_eq (StableHlo.launchContents m' c)).trans e5), hk⟩

/-- The reference leaves its arguments as they were, and it has no counters. -/
theorem reference_frame : Cert.quiescent_ReferenceIdeal := fun m g _ =>
  (θ_run _ _ _).mono (fun r h => And.intro (fun c : Dev Cert.ReferenceIdeal.nD => (h c).2.2.2.2.2.2) (sem_eq_zero_of_no_sems (by decide) r.2))
    (Cert.ReferenceIdeal.Value.run (F := Ideal) m g)

/-- The backward pass of the gating unit, its forward pass, each product of the backward and of the forward pass, the norms' two passes, the loss head, the optimiser, the sums of the devices' shares, and the conditioning. -/
theorem claim : Cert.Claim := ⟨Cert.Kernel.Gen.facts, Cert.KernelIdeal.Gen.facts, Cert.ReferenceIdeal.Gen.facts,
  Cert.FfnInDw.Gen.facts, Cert.FfnInDwIdeal.Gen.facts, Cert.FfnInDwRefIdeal.Gen.facts,
  Cert.FfnOutDw.Gen.facts, Cert.FfnOutDwIdeal.Gen.facts, Cert.FfnOutDwRefIdeal.Gen.facts,
  Cert.FfnOutDx.Gen.facts, Cert.FfnOutDxIdeal.Gen.facts, Cert.FfnOutDxRefIdeal.Gen.facts,
  Cert.SguInDw.Gen.facts, Cert.SguInDwIdeal.Gen.facts, Cert.SguInDwRefIdeal.Gen.facts,
  Cert.SguInDx.Gen.facts, Cert.SguInDxIdeal.Gen.facts, Cert.SguInDxRefIdeal.Gen.facts,
  Cert.SguOutDw.Gen.facts, Cert.SguOutDwIdeal.Gen.facts, Cert.SguOutDwRefIdeal.Gen.facts,
  Cert.SguOutDx.Gen.facts, Cert.SguOutDxIdeal.Gen.facts, Cert.SguOutDxRefIdeal.Gen.facts,
  Cert.ConvInDx.Gen.facts, Cert.ConvInDxIdeal.Gen.facts, Cert.ConvInDxRefIdeal.Gen.facts,
  Cert.MixOutDw.Gen.facts, Cert.MixOutDwIdeal.Gen.facts, Cert.MixOutDwRefIdeal.Gen.facts,
  Cert.MixOutDx.Gen.facts, Cert.MixOutDxIdeal.Gen.facts, Cert.MixOutDxRefIdeal.Gen.facts,
  Cert.QkvDw.Gen.facts, Cert.QkvDwIdeal.Gen.facts, Cert.QkvDwRefIdeal.Gen.facts,
  Cert.QkvDx.Gen.facts, Cert.QkvDxIdeal.Gen.facts, Cert.QkvDxRefIdeal.Gen.facts,
  Cert.SguIn.Gen.facts, Cert.SguInIdeal.Gen.facts, Cert.SguInRefIdeal.Gen.facts,
  Cert.ConvIn.Gen.facts, Cert.ConvInIdeal.Gen.facts, Cert.ConvInRefIdeal.Gen.facts,
  Cert.QkvIn.Gen.facts, Cert.QkvInIdeal.Gen.facts, Cert.QkvInRefIdeal.Gen.facts,
  Cert.SguOut.Gen.facts, Cert.SguOutIdeal.Gen.facts, Cert.SguOutRefIdeal.Gen.facts,
  Cert.MixOut.Gen.facts, Cert.MixOutIdeal.Gen.facts, Cert.MixOutRefIdeal.Gen.facts,
  Cert.FfnIn.Gen.facts, Cert.FfnInIdeal.Gen.facts, Cert.FfnInRefIdeal.Gen.facts,
  Cert.FfnOut.Gen.facts, Cert.FfnOutIdeal.Gen.facts, Cert.FfnOutRefIdeal.Gen.facts,
  Cert.NormBwd.Gen.facts, Cert.NormBwdIdeal.Gen.facts, Cert.NormBwdRefIdeal.Gen.facts,
  Cert.FirstNormBwd.Gen.facts, Cert.FirstNormBwdIdeal.Gen.facts, Cert.FirstNormBwdRefIdeal.Gen.facts,
  Cert.NormFwd.Gen.facts, Cert.NormFwdIdeal.Gen.facts, Cert.NormFwdRefIdeal.Gen.facts,
  Cert.FirstNormFwd.Gen.facts, Cert.FirstNormFwdIdeal.Gen.facts, Cert.FirstNormFwdRefIdeal.Gen.facts,
  Cert.FinalLoss.Gen.facts, Cert.FinalLossIdeal.Gen.facts, Cert.FinalLossRefIdeal.Gen.facts,
  Cert.SguFwd.Gen.facts, Cert.SguFwdIdeal.Gen.facts, Cert.SguFwdRefIdeal.Gen.facts,
  Cert.AdamAda.Gen.facts, Cert.AdamAdaIdeal.Gen.facts, Cert.AdamAdaRefIdeal.Gen.facts,
  Cert.AdamQkv.Gen.facts, Cert.AdamQkvIdeal.Gen.facts, Cert.AdamQkvRefIdeal.Gen.facts,
  Cert.AdamOut.Gen.facts, Cert.AdamOutIdeal.Gen.facts, Cert.AdamOutRefIdeal.Gen.facts,
  Cert.AdamConvIn.Gen.facts, Cert.AdamConvInIdeal.Gen.facts, Cert.AdamConvInRefIdeal.Gen.facts,
  Cert.AdamConvOut.Gen.facts, Cert.AdamConvOutIdeal.Gen.facts, Cert.AdamConvOutRefIdeal.Gen.facts,
  Cert.AdamSguIn.Gen.facts, Cert.AdamSguInIdeal.Gen.facts, Cert.AdamSguInRefIdeal.Gen.facts,
  Cert.AdamFfnIn.Gen.facts, Cert.AdamFfnInIdeal.Gen.facts, Cert.AdamFfnInRefIdeal.Gen.facts,
  Cert.AdamFfnOut.Gen.facts, Cert.AdamFfnOutIdeal.Gen.facts, Cert.AdamFfnOutRefIdeal.Gen.facts,
  Cert.AdamSmall.Gen.facts, Cert.AdamSmallIdeal.Gen.facts, Cert.AdamSmallRefIdeal.Gen.facts,
  Cert.SumQkv.Gen.facts, Cert.SumQkvIdeal.Gen.facts, Cert.SumQkvRefIdeal.Gen.facts,
  Cert.SumOut.Gen.facts, Cert.SumOutIdeal.Gen.facts, Cert.SumOutRefIdeal.Gen.facts,
  Cert.SumSguOut.Gen.facts, Cert.SumSguOutIdeal.Gen.facts, Cert.SumSguOutRefIdeal.Gen.facts,
  Cert.SumSguIn.Gen.facts, Cert.SumSguInIdeal.Gen.facts, Cert.SumSguInRefIdeal.Gen.facts,
  Cert.SumFfnIn.Gen.facts, Cert.SumFfnInIdeal.Gen.facts, Cert.SumFfnInRefIdeal.Gen.facts,
  Cert.SumFfnOut.Gen.facts, Cert.SumFfnOutIdeal.Gen.facts, Cert.SumFfnOutRefIdeal.Gen.facts,
  Cert.SumSmall.Gen.facts, Cert.SumSmallIdeal.Gen.facts, Cert.SumSmallRefIdeal.Gen.facts,
  Cert.SumSmallHalf.Gen.facts, Cert.SumSmallHalfIdeal.Gen.facts, Cert.SumSmallHalfRefIdeal.Gen.facts,
  Cert.AdaMod.Gen.facts, Cert.AdaModIdeal.Gen.facts, Cert.AdaModRefIdeal.Gen.facts,
  Cert.AdaDw.Gen.facts, Cert.AdaDwIdeal.Gen.facts, Cert.AdaDwRefIdeal.Gen.facts,
  Cert.Pre_finite.Gen.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.FfnInDw.Gen.frame m g, fun m g _ => Cert.FfnInDwIdeal.Gen.frame m g, Cert.Products.FfnInDw.reference_frame,
  fun m g _ => Cert.FfnOutDw.Gen.frame m g, fun m g _ => Cert.FfnOutDwIdeal.Gen.frame m g, Cert.Products.FfnOutDw.reference_frame,
  fun m g _ => Cert.FfnOutDx.Gen.frame m g, fun m g _ => Cert.FfnOutDxIdeal.Gen.frame m g, Cert.Products.FfnOutDx.reference_frame,
  fun m g _ => Cert.SguInDw.Gen.frame m g, fun m g _ => Cert.SguInDwIdeal.Gen.frame m g, Cert.Products.SguInDw.reference_frame,
  fun m g _ => Cert.SguInDx.Gen.frame m g, fun m g _ => Cert.SguInDxIdeal.Gen.frame m g, Cert.Products.SguInDx.reference_frame,
  fun m g _ => Cert.SguOutDw.Gen.frame m g, fun m g _ => Cert.SguOutDwIdeal.Gen.frame m g, Cert.Products.SguOutDw.reference_frame,
  fun m g _ => Cert.SguOutDx.Gen.frame m g, fun m g _ => Cert.SguOutDxIdeal.Gen.frame m g, Cert.Products.SguOutDx.reference_frame,
  fun m g _ => Cert.ConvInDx.Gen.frame m g, fun m g _ => Cert.ConvInDxIdeal.Gen.frame m g, Cert.Products.ConvInDx.reference_frame,
  fun m g _ => Cert.MixOutDw.Gen.frame m g, fun m g _ => Cert.MixOutDwIdeal.Gen.frame m g, Cert.Products.MixOutDw.reference_frame,
  fun m g _ => Cert.MixOutDx.Gen.frame m g, fun m g _ => Cert.MixOutDxIdeal.Gen.frame m g, Cert.Products.MixOutDx.reference_frame,
  fun m g _ => Cert.QkvDw.Gen.frame m g, fun m g _ => Cert.QkvDwIdeal.Gen.frame m g, Cert.Products.QkvDw.reference_frame,
  fun m g _ => Cert.QkvDx.Gen.frame m g, fun m g _ => Cert.QkvDxIdeal.Gen.frame m g, Cert.Products.QkvDx.reference_frame,
  fun m g _ => Cert.SguIn.Gen.frame m g, fun m g _ => Cert.SguInIdeal.Gen.frame m g, Cert.Products.SguIn.reference_frame,
  fun m g _ => Cert.ConvIn.Gen.frame m g, fun m g _ => Cert.ConvInIdeal.Gen.frame m g, Cert.Products.ConvIn.reference_frame,
  fun m g _ => Cert.QkvIn.Gen.frame m g, fun m g _ => Cert.QkvInIdeal.Gen.frame m g, Cert.Products.QkvIn.reference_frame,
  fun m g _ => Cert.SguOut.Gen.frame m g, fun m g _ => Cert.SguOutIdeal.Gen.frame m g, Cert.Products.SguOut.reference_frame,
  fun m g _ => Cert.MixOut.Gen.frame m g, fun m g _ => Cert.MixOutIdeal.Gen.frame m g, Cert.Products.MixOut.reference_frame,
  fun m g _ => Cert.FfnIn.Gen.frame m g, fun m g _ => Cert.FfnInIdeal.Gen.frame m g, Cert.Products.FfnIn.reference_frame,
  fun m g _ => Cert.FfnOut.Gen.frame m g, fun m g _ => Cert.FfnOutIdeal.Gen.frame m g, Cert.Products.FfnOut.reference_frame,
  fun m g _ => Cert.NormBwd.Gen.frame m g, fun m g _ => Cert.NormBwdIdeal.Gen.frame m g, Cert.Norm.Bwd.reference_frame,
  fun m g _ => Cert.FirstNormBwd.Gen.frame m g, fun m g _ => Cert.FirstNormBwdIdeal.Gen.frame m g, Cert.Norm.FirstBwd.reference_frame,
  fun m g _ => Cert.NormFwd.Gen.frame m g, fun m g _ => Cert.NormFwdIdeal.Gen.frame m g, Cert.Norm.Fwd.reference_frame,
  fun m g _ => Cert.FirstNormFwd.Gen.frame m g, fun m g _ => Cert.FirstNormFwdIdeal.Gen.frame m g, Cert.Norm.FirstFwd.reference_frame,
  fun m g _ => Cert.FinalLoss.Gen.frame m g, fun m g _ => Cert.FinalLossIdeal.Gen.frame m g, Cert.Loss.reference_frame,
  fun m g _ => Cert.SguFwd.Gen.frame m g, fun m g _ => Cert.SguFwdIdeal.Gen.frame m g, Cert.Sgu.Fwd.reference_frame,
  fun m g _ => Cert.AdamAda.Gen.frame m g, fun m g _ => Cert.AdamAdaIdeal.Gen.frame m g, Cert.Adam.Ada.reference_frame,
  fun m g _ => Cert.AdamQkv.Gen.frame m g, fun m g _ => Cert.AdamQkvIdeal.Gen.frame m g, Cert.Adam.Qkv.reference_frame,
  fun m g _ => Cert.AdamOut.Gen.frame m g, fun m g _ => Cert.AdamOutIdeal.Gen.frame m g, Cert.Adam.Out.reference_frame,
  fun m g _ => Cert.AdamConvIn.Gen.frame m g, fun m g _ => Cert.AdamConvInIdeal.Gen.frame m g, Cert.Adam.ConvIn.reference_frame,
  fun m g _ => Cert.AdamConvOut.Gen.frame m g, fun m g _ => Cert.AdamConvOutIdeal.Gen.frame m g, Cert.Adam.ConvOut.reference_frame,
  fun m g _ => Cert.AdamSguIn.Gen.frame m g, fun m g _ => Cert.AdamSguInIdeal.Gen.frame m g, Cert.Adam.SguIn.reference_frame,
  fun m g _ => Cert.AdamFfnIn.Gen.frame m g, fun m g _ => Cert.AdamFfnInIdeal.Gen.frame m g, Cert.Adam.FfnIn.reference_frame,
  fun m g _ => Cert.AdamFfnOut.Gen.frame m g, fun m g _ => Cert.AdamFfnOutIdeal.Gen.frame m g, Cert.Adam.FfnOut.reference_frame,
  fun m g _ => Cert.AdamSmall.Gen.frame m g, fun m g _ => Cert.AdamSmallIdeal.Gen.frame m g, Cert.Adam.Small.reference_frame,
  fun m g _ => Cert.SumQkv.Gen.frame m g, fun m g _ => Cert.SumQkvIdeal.Gen.frame m g, Cert.Sum.Qkv.reference_frame,
  fun m g _ => Cert.SumOut.Gen.frame m g, fun m g _ => Cert.SumOutIdeal.Gen.frame m g, Cert.Sum.Out.reference_frame,
  fun m g _ => Cert.SumSguOut.Gen.frame m g, fun m g _ => Cert.SumSguOutIdeal.Gen.frame m g, Cert.Sum.SguOut.reference_frame,
  fun m g _ => Cert.SumSguIn.Gen.frame m g, fun m g _ => Cert.SumSguInIdeal.Gen.frame m g, Cert.Sum.SguIn.reference_frame,
  fun m g _ => Cert.SumFfnIn.Gen.frame m g, fun m g _ => Cert.SumFfnInIdeal.Gen.frame m g, Cert.Sum.FfnIn.reference_frame,
  fun m g _ => Cert.SumFfnOut.Gen.frame m g, fun m g _ => Cert.SumFfnOutIdeal.Gen.frame m g, Cert.Sum.FfnOut.reference_frame,
  fun m g _ => Cert.SumSmall.Gen.frame m g, fun m g _ => Cert.SumSmallIdeal.Gen.frame m g, Cert.Sum.Small.reference_frame,
  fun m g _ => Cert.SumSmallHalf.Gen.frame m g, fun m g _ => Cert.SumSmallHalfIdeal.Gen.frame m g, Cert.Sum.SmallHalf.reference_frame,
  fun m g _ => Cert.AdaMod.Gen.frame m g, fun m g _ => Cert.AdaModIdeal.Gen.frame m g, Cert.Ada.Mod.reference_frame,
  fun m g _ => Cert.AdaDw.Gen.frame m g, fun m g _ => Cert.AdaDwIdeal.Gen.frame m g, Cert.Ada.Dw.reference_frame,
  ⟨IdealRules.named_const.statement Cert.KernelIdeal.κ "inv_sqrt2" .f32 0x3F3504F3#32 _ rfl,
    IdealRules.named_const.statement Cert.KernelIdeal.κ "inv_sqrt2pi" .f32 0x3ECC422A#32 _ rfl⟩,
  gate_backward,
  trivial, Cert.Products.FfnInDw.agree,
  trivial, Cert.Products.FfnOutDw.agree,
  trivial, Cert.Products.FfnOutDx.agree,
  trivial, Cert.Products.SguInDw.agree,
  trivial, Cert.Products.SguInDx.agree,
  trivial, Cert.Products.SguOutDw.agree,
  trivial, Cert.Products.SguOutDx.agree,
  trivial, Cert.Products.ConvInDx.agree,
  trivial, Cert.Products.MixOutDw.agree,
  trivial, Cert.Products.MixOutDx.agree,
  trivial, Cert.Products.QkvDw.agree,
  trivial, Cert.Products.QkvDx.agree,
  trivial, Cert.Products.SguIn.agree,
  trivial, Cert.Products.ConvIn.agree,
  trivial, Cert.Products.QkvIn.agree,
  trivial, Cert.Products.SguOut.agree,
  trivial, Cert.Products.MixOut.agree,
  trivial, Cert.Products.FfnIn.agree,
  trivial, Cert.Products.FfnOut.agree,
  trivial, Cert.Norm.Bwd.agree,
  trivial, Cert.Norm.FirstBwd.agree,
  trivial, Cert.Norm.Fwd.agree,
  trivial, Cert.Norm.FirstFwd.agree,
  trivial, Cert.Loss.agree,
  IdealRules.named_const.statement Cert.SguFwdIdeal.κ "inv_sqrt2" .f32 0x3F3504F3#32 _ rfl, Cert.Sgu.Fwd.agree,
  trivial, Cert.Adam.Ada.agree,
  trivial, Cert.Adam.Qkv.agree,
  trivial, Cert.Adam.Out.agree,
  trivial, Cert.Adam.ConvIn.agree,
  trivial, Cert.Adam.ConvOut.agree,
  trivial, Cert.Adam.SguIn.agree,
  trivial, Cert.Adam.FfnIn.agree,
  trivial, Cert.Adam.FfnOut.agree,
  trivial, Cert.Adam.Small.agree,
  trivial, Cert.Sum.Qkv.agree,
  trivial, Cert.Sum.Out.agree,
  trivial, Cert.Sum.SguOut.agree,
  trivial, Cert.Sum.SguIn.agree,
  trivial, Cert.Sum.FfnIn.agree,
  trivial, Cert.Sum.FfnOut.agree,
  trivial, Cert.Sum.Small.agree,
  trivial, Cert.Sum.SmallHalf.agree,
  trivial, Cert.Ada.Mod.agree,
  trivial, Cert.Ada.Dw.agree⟩

end Cert.Proof

end
